-- ==== Defs.lean ====
def Pre_Moe (m : (ℓ : Loc Cert.Moe.nD Cert.Moe.τ Cert.Moe.sig) → Buf (Elt Bits) ℓ) : Prop :=
  True

def Pre_MoeIdeal (m : (ℓ : Loc Cert.MoeIdeal.nD Cert.MoeIdeal.τ Cert.MoeIdeal.sig) → Buf (Elt Ideal) ℓ) : Prop :=
  True

def Pre_MoeIdeal_finite_router [hPre_finite_router : Cert.Pre_finite_router.Facts] (m : (ℓ : Loc Cert.MoeIdeal.nD Cert.MoeIdeal.τ Cert.MoeIdeal.sig) → Buf (Elt Ideal) ℓ) : Prop :=
  ∀ c : Dev Cert.MoeIdeal.nD,
    (Cert.Pre_finite_router.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6)) (m ((c.tc : Thread Cert.MoeIdeal.nD Cert.MoeIdeal.τ).loc Cert.MoeIdeal.main_arg7))) = (fun _ => 1#1)

def Pre_MoeRefIdeal (m : (ℓ : Loc Cert.MoeRefIdeal.nD Cert.MoeRefIdeal.τ Cert.MoeRefIdeal.sig) → Buf (Elt Ideal) ℓ) : Prop :=
  True

def Pre_MoeRefIdeal_finite_router [hPre_finite_router : Cert.Pre_finite_router.Facts] (m : (ℓ : Loc Cert.MoeRefIdeal.nD Cert.MoeRefIdeal.τ Cert.MoeRefIdeal.sig) → Buf (Elt Ideal) ℓ) : Prop :=
  ∀ c : Dev Cert.MoeRefIdeal.nD,
    (Cert.Pre_finite_router.fn (F := Ideal) (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3)) (m ((c.tc : Thread Cert.MoeRefIdeal.nD Cert.MoeRefIdeal.τ).loc Cert.MoeRefIdeal.main_arg4)) (m ((c.tc : Thread Cert.MoeRefIdeal.nD Cert.MoeRefIdeal.τ).loc Cert.MoeRefIdeal.main_arg5)) (m ((c.tc : Thread Cert.MoeRefIdeal.nD Cert.MoeRefIdeal.τ).loc Cert.MoeRefIdeal.main_arg6)) (m ((c.tc : Thread Cert.MoeRefIdeal.nD Cert.MoeRefIdeal.τ).loc Cert.MoeRefIdeal.main_arg7))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_InProjSample (m : (ℓ : Loc Cert.InProjSample.nD Cert.InProjSample.τ Cert.InProjSample.sig) → Buf (Elt Bits) ℓ) : Prop :=
  True

def Pre_InProjSampleIdeal (m : (ℓ : Loc Cert.InProjSampleIdeal.nD Cert.InProjSampleIdeal.τ Cert.InProjSampleIdeal.sig) → Buf (Elt Ideal) ℓ) : Prop :=
  True

def Pre_InProjSampleRefIdeal (m : (ℓ : Loc Cert.InProjSampleRefIdeal.nD Cert.InProjSampleRefIdeal.τ Cert.InProjSampleRefIdeal.sig) → Buf (Elt Ideal) ℓ) : Prop :=
  True

def Pre_MoeSample (m : (ℓ : Loc Cert.MoeSample.nD Cert.MoeSample.τ Cert.MoeSample.sig) → Buf (Elt Bits) ℓ) : Prop :=
  True

def Pre_MoeSampleIdeal (m : (ℓ : Loc Cert.MoeSampleIdeal.nD Cert.MoeSampleIdeal.τ Cert.MoeSampleIdeal.sig) → Buf (Elt Ideal) ℓ) : Prop :=
  True

def Pre_MoeSampleIdeal_finite_router_sample [hPre_finite_router_sample : Cert.Pre_finite_router_sample.Facts] (m : (ℓ : Loc Cert.MoeSampleIdeal.nD Cert.MoeSampleIdeal.τ Cert.MoeSampleIdeal.sig) → Buf (Elt Ideal) ℓ) : Prop :=
  ∀ c : Dev Cert.MoeSampleIdeal.nD,
    (Cert.Pre_finite_router_sample.fn (F := Ideal) (m ((c.tc : Thread Cert.MoeSampleIdeal.nD Cert.MoeSampleIdeal.τ).loc Cert.MoeSampleIdeal.main_arg0)) (m ((c.tc : Thread Cert.MoeSampleIdeal.nD Cert.MoeSampleIdeal.τ).loc Cert.MoeSampleIdeal.main_arg1)) (m ((c.tc : Thread Cert.MoeSampleIdeal.nD Cert.MoeSampleIdeal.τ).loc Cert.MoeSampleIdeal.main_arg2)) (m ((c.tc : Thread Cert.MoeSampleIdeal.nD Cert.MoeSampleIdeal.τ).loc Cert.MoeSampleIdeal.main_arg3)) (m ((c.tc : Thread Cert.MoeSampleIdeal.nD Cert.MoeSampleIdeal.τ).loc Cert.MoeSampleIdeal.main_arg4)) (m ((c.tc : Thread Cert.MoeSampleIdeal.nD Cert.MoeSampleIdeal.τ).loc Cert.MoeSampleIdeal.main_arg5)) (m ((c.tc : Thread Cert.MoeSampleIdeal.nD Cert.MoeSampleIdeal.τ).loc Cert.MoeSampleIdeal.main_arg6)) (m ((c.tc : Thread Cert.MoeSampleIdeal.nD Cert.MoeSampleIdeal.τ).loc Cert.MoeSampleIdeal.main_arg7))) = (fun _ => 1#1)

def Pre_MoeSampleRefIdeal (m : (ℓ : Loc Cert.MoeSampleRefIdeal.nD Cert.MoeSampleRefIdeal.τ Cert.MoeSampleRefIdeal.sig) → Buf (Elt Ideal) ℓ) : Prop :=
  True

def Pre_MoeSampleRefIdeal_finite_router_sample [hPre_finite_router_sample : Cert.Pre_finite_router_sample.Facts] (m : (ℓ : Loc Cert.MoeSampleRefIdeal.nD Cert.MoeSampleRefIdeal.τ Cert.MoeSampleRefIdeal.sig) → Buf (Elt Ideal) ℓ) : Prop :=
  ∀ c : Dev Cert.MoeSampleRefIdeal.nD,
    (Cert.Pre_finite_router_sample.fn (F := Ideal) (m ((c.tc : Thread Cert.MoeSampleRefIdeal.nD Cert.MoeSampleRefIdeal.τ).loc Cert.MoeSampleRefIdeal.main_arg0)) (m ((c.tc : Thread Cert.MoeSampleRefIdeal.nD Cert.MoeSampleRefIdeal.τ).loc Cert.MoeSampleRefIdeal.main_arg1)) (m ((c.tc : Thread Cert.MoeSampleRefIdeal.nD Cert.MoeSampleRefIdeal.τ).loc Cert.MoeSampleRefIdeal.main_arg2)) (m ((c.tc : Thread Cert.MoeSampleRefIdeal.nD Cert.MoeSampleRefIdeal.τ).loc Cert.MoeSampleRefIdeal.main_arg3)) (m ((c.tc : Thread Cert.MoeSampleRefIdeal.nD Cert.MoeSampleRefIdeal.τ).loc Cert.MoeSampleRefIdeal.main_arg4)) (m ((c.tc : Thread Cert.MoeSampleRefIdeal.nD Cert.MoeSampleRefIdeal.τ).loc Cert.MoeSampleRefIdeal.main_arg5)) (m ((c.tc : Thread Cert.MoeSampleRefIdeal.nD Cert.MoeSampleRefIdeal.τ).loc Cert.MoeSampleRefIdeal.main_arg6)) (m ((c.tc : Thread Cert.MoeSampleRefIdeal.nD Cert.MoeSampleRefIdeal.τ).loc Cert.MoeSampleRefIdeal.main_arg7))) = (fun _ => 1#1)

def quiescent_Moe [hMoe : Cert.Moe.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5)
      ∧ r.2.mem ((c.tc : Thread Cert.Moe.nD Cert.Moe.τ).loc Cert.Moe.main_arg6) = m ((c.tc : Thread Cert.Moe.nD Cert.Moe.τ).loc Cert.Moe.main_arg6)
      ∧ r.2.mem ((c.tc : Thread Cert.Moe.nD Cert.Moe.τ).loc Cert.Moe.main_arg7) = m ((c.tc : Thread Cert.Moe.nD Cert.Moe.τ).loc Cert.Moe.main_arg7))
      ∧ r.2.sem = fun _ => 0)

def quiescent_MoeIdeal [hMoeIdeal : Cert.MoeIdeal.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6)
      ∧ r.2.mem ((c.tc : Thread Cert.MoeIdeal.nD Cert.MoeIdeal.τ).loc Cert.MoeIdeal.main_arg7) = m ((c.tc : Thread Cert.MoeIdeal.nD Cert.MoeIdeal.τ).loc Cert.MoeIdeal.main_arg7))
      ∧ r.2.sem = fun _ => 0)

def quiescent_MoeIdeal_pre_finite_router [hMoeIdeal : Cert.MoeIdeal.Facts] [hPre_finite_router : Cert.Pre_finite_router.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal_finite_router m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6)
      ∧ r.2.mem ((c.tc : Thread Cert.MoeIdeal.nD Cert.MoeIdeal.τ).loc Cert.MoeIdeal.main_arg7) = m ((c.tc : Thread Cert.MoeIdeal.nD Cert.MoeIdeal.τ).loc Cert.MoeIdeal.main_arg7))
      ∧ r.2.sem = fun _ => 0)

def quiescent_MoeRefIdeal [hMoeRefIdeal : Cert.MoeRefIdeal.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5)
      ∧ r.2.mem ((c.tc : Thread Cert.MoeRefIdeal.nD Cert.MoeRefIdeal.τ).loc Cert.MoeRefIdeal.main_arg6) = m ((c.tc : Thread Cert.MoeRefIdeal.nD Cert.MoeRefIdeal.τ).loc Cert.MoeRefIdeal.main_arg6)
      ∧ r.2.mem ((c.tc : Thread Cert.MoeRefIdeal.nD Cert.MoeRefIdeal.τ).loc Cert.MoeRefIdeal.main_arg7) = m ((c.tc : Thread Cert.MoeRefIdeal.nD Cert.MoeRefIdeal.τ).loc Cert.MoeRefIdeal.main_arg7))
      ∧ r.2.sem = fun _ => 0)

def quiescent_MoeRefIdeal_pre_finite_router [hMoeRefIdeal : Cert.MoeRefIdeal.Facts] [hPre_finite_router : Cert.Pre_finite_router.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal_finite_router m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5)
      ∧ r.2.mem ((c.tc : Thread Cert.MoeRefIdeal.nD Cert.MoeRefIdeal.τ).loc Cert.MoeRefIdeal.main_arg6) = m ((c.tc : Thread Cert.MoeRefIdeal.nD Cert.MoeRefIdeal.τ).loc Cert.MoeRefIdeal.main_arg6)
      ∧ r.2.mem ((c.tc : Thread Cert.MoeRefIdeal.nD Cert.MoeRefIdeal.τ).loc Cert.MoeRefIdeal.main_arg7) = m ((c.tc : Thread Cert.MoeRefIdeal.nD Cert.MoeRefIdeal.τ).loc Cert.MoeRefIdeal.main_arg7))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3))
      ∧ r.2.sem = fun _ => 0)

def quiescent_InProjSample [hInProjSample : Cert.InProjSample.Facts] : Prop :=
  ∀ (m : (ℓ : Loc Cert.InProjSample.nD Cert.InProjSample.τ Cert.InProjSample.sig) → Buf (Elt Bits) ℓ) (g : Dev Cert.InProjSample.nD → PrngReg), Pre_InProjSample m →
    θ_run (Cert.InProjSample.defs (F := Bits)) (onTc (τ := Cert.InProjSample.τ) (Cert.InProjSample.main (F := Bits))) ⟨m, fun _ => 0, g⟩ (fun r => (∀ c : Dev Cert.InProjSample.nD,
      r.2.mem ((c.tc : Thread Cert.InProjSample.nD Cert.InProjSample.τ).loc Cert.InProjSample.main_arg0) = m ((c.tc : Thread Cert.InProjSample.nD Cert.InProjSample.τ).loc Cert.InProjSample.main_arg0)
      ∧ r.2.mem ((c.tc : Thread Cert.InProjSample.nD Cert.InProjSample.τ).loc Cert.InProjSample.main_arg1) = m ((c.tc : Thread Cert.InProjSample.nD Cert.InProjSample.τ).loc Cert.InProjSample.main_arg1)
      ∧ r.2.mem ((c.tc : Thread Cert.InProjSample.nD Cert.InProjSample.τ).loc Cert.InProjSample.main_arg2) = m ((c.tc : Thread Cert.InProjSample.nD Cert.InProjSample.τ).loc Cert.InProjSample.main_arg2)
      ∧ r.2.mem ((c.tc : Thread Cert.InProjSample.nD Cert.InProjSample.τ).loc Cert.InProjSample.main_arg3) = m ((c.tc : Thread Cert.InProjSample.nD Cert.InProjSample.τ).loc Cert.InProjSample.main_arg3))
      ∧ r.2.sem = fun _ => 0)

def quiescent_InProjSampleIdeal [hInProjSampleIdeal : Cert.InProjSampleIdeal.Facts] : Prop :=
  ∀ (m : (ℓ : Loc Cert.InProjSampleIdeal.nD Cert.InProjSampleIdeal.τ Cert.InProjSampleIdeal.sig) → Buf (Elt Ideal) ℓ) (g : Dev Cert.InProjSampleIdeal.nD → PrngReg), Pre_InProjSampleIdeal m →
    θ_run (Cert.InProjSampleIdeal.defs (F := Ideal)) (onTc (τ := Cert.InProjSampleIdeal.τ) (Cert.InProjSampleIdeal.main (F := Ideal))) ⟨m, fun _ => 0, g⟩ (fun r => (∀ c : Dev Cert.InProjSampleIdeal.nD,
      r.2.mem ((c.tc : Thread Cert.InProjSampleIdeal.nD Cert.InProjSampleIdeal.τ).loc Cert.InProjSampleIdeal.main_arg0) = m ((c.tc : Thread Cert.InProjSampleIdeal.nD Cert.InProjSampleIdeal.τ).loc Cert.InProjSampleIdeal.main_arg0)
      ∧ r.2.mem ((c.tc : Thread Cert.InProjSampleIdeal.nD Cert.InProjSampleIdeal.τ).loc Cert.InProjSampleIdeal.main_arg1) = m ((c.tc : Thread Cert.InProjSampleIdeal.nD Cert.InProjSampleIdeal.τ).loc Cert.InProjSampleIdeal.main_arg1)
      ∧ r.2.mem ((c.tc : Thread Cert.InProjSampleIdeal.nD Cert.InProjSampleIdeal.τ).loc Cert.InProjSampleIdeal.main_arg2) = m ((c.tc : Thread Cert.InProjSampleIdeal.nD Cert.InProjSampleIdeal.τ).loc Cert.InProjSampleIdeal.main_arg2)
      ∧ r.2.mem ((c.tc : Thread Cert.InProjSampleIdeal.nD Cert.InProjSampleIdeal.τ).loc Cert.InProjSampleIdeal.main_arg3) = m ((c.tc : Thread Cert.InProjSampleIdeal.nD Cert.InProjSampleIdeal.τ).loc Cert.InProjSampleIdeal.main_arg3))
      ∧ r.2.sem = fun _ => 0)

def quiescent_InProjSampleRefIdeal [hInProjSampleRefIdeal : Cert.InProjSampleRefIdeal.Facts] : Prop :=
  ∀ (m : (ℓ : Loc Cert.InProjSampleRefIdeal.nD Cert.InProjSampleRefIdeal.τ Cert.InProjSampleRefIdeal.sig) → Buf (Elt Ideal) ℓ) (g : Dev Cert.InProjSampleRefIdeal.nD → PrngReg), Pre_InProjSampleRefIdeal m →
    θ_run (Cert.InProjSampleRefIdeal.defs (F := Ideal)) (onTc (τ := Cert.InProjSampleRefIdeal.τ) (Cert.InProjSampleRefIdeal.main (F := Ideal))) ⟨m, fun _ => 0, g⟩ (fun r => (∀ c : Dev Cert.InProjSampleRefIdeal.nD,
      r.2.mem ((c.tc : Thread Cert.InProjSampleRefIdeal.nD Cert.InProjSampleRefIdeal.τ).loc Cert.InProjSampleRefIdeal.main_arg0) = m ((c.tc : Thread Cert.InProjSampleRefIdeal.nD Cert.InProjSampleRefIdeal.τ).loc Cert.InProjSampleRefIdeal.main_arg0)
      ∧ r.2.mem ((c.tc : Thread Cert.InProjSampleRefIdeal.nD Cert.InProjSampleRefIdeal.τ).loc Cert.InProjSampleRefIdeal.main_arg1) = m ((c.tc : Thread Cert.InProjSampleRefIdeal.nD Cert.InProjSampleRefIdeal.τ).loc Cert.InProjSampleRefIdeal.main_arg1)
      ∧ r.2.mem ((c.tc : Thread Cert.InProjSampleRefIdeal.nD Cert.InProjSampleRefIdeal.τ).loc Cert.InProjSampleRefIdeal.main_arg2) = m ((c.tc : Thread Cert.InProjSampleRefIdeal.nD Cert.InProjSampleRefIdeal.τ).loc Cert.InProjSampleRefIdeal.main_arg2)
      ∧ r.2.mem ((c.tc : Thread Cert.InProjSampleRefIdeal.nD Cert.InProjSampleRefIdeal.τ).loc Cert.InProjSampleRefIdeal.main_arg3) = m ((c.tc : Thread Cert.InProjSampleRefIdeal.nD Cert.InProjSampleRefIdeal.τ).loc Cert.InProjSampleRefIdeal.main_arg3))
      ∧ r.2.sem = fun _ => 0)

def quiescent_MoeSample [hMoeSample : Cert.MoeSample.Facts] : Prop :=
  ∀ (m : (ℓ : Loc Cert.MoeSample.nD Cert.MoeSample.τ Cert.MoeSample.sig) → Buf (Elt Bits) ℓ) (g : Dev Cert.MoeSample.nD → PrngReg), Pre_MoeSample m →
    θ_run (Cert.MoeSample.defs (F := Bits)) (onTc (τ := Cert.MoeSample.τ) (Cert.MoeSample.main (F := Bits))) ⟨m, fun _ => 0, g⟩ (fun r => (∀ c : Dev Cert.MoeSample.nD,
      r.2.mem ((c.tc : Thread Cert.MoeSample.nD Cert.MoeSample.τ).loc Cert.MoeSample.main_arg0) = m ((c.tc : Thread Cert.MoeSample.nD Cert.MoeSample.τ).loc Cert.MoeSample.main_arg0)
      ∧ r.2.mem ((c.tc : Thread Cert.MoeSample.nD Cert.MoeSample.τ).loc Cert.MoeSample.main_arg1) = m ((c.tc : Thread Cert.MoeSample.nD Cert.MoeSample.τ).loc Cert.MoeSample.main_arg1)
      ∧ r.2.mem ((c.tc : Thread Cert.MoeSample.nD Cert.MoeSample.τ).loc Cert.MoeSample.main_arg2) = m ((c.tc : Thread Cert.MoeSample.nD Cert.MoeSample.τ).loc Cert.MoeSample.main_arg2)
      ∧ r.2.mem ((c.tc : Thread Cert.MoeSample.nD Cert.MoeSample.τ).loc Cert.MoeSample.main_arg3) = m ((c.tc : Thread Cert.MoeSample.nD Cert.MoeSample.τ).loc Cert.MoeSample.main_arg3)
      ∧ r.2.mem ((c.tc : Thread Cert.MoeSample.nD Cert.MoeSample.τ).loc Cert.MoeSample.main_arg4) = m ((c.tc : Thread Cert.MoeSample.nD Cert.MoeSample.τ).loc Cert.MoeSample.main_arg4)
      ∧ r.2.mem ((c.tc : Thread Cert.MoeSample.nD Cert.MoeSample.τ).loc Cert.MoeSample.main_arg5) = m ((c.tc : Thread Cert.MoeSample.nD Cert.MoeSample.τ).loc Cert.MoeSample.main_arg5)
      ∧ r.2.mem ((c.tc : Thread Cert.MoeSample.nD Cert.MoeSample.τ).loc Cert.MoeSample.main_arg6) = m ((c.tc : Thread Cert.MoeSample.nD Cert.MoeSample.τ).loc Cert.MoeSample.main_arg6)
      ∧ r.2.mem ((c.tc : Thread Cert.MoeSample.nD Cert.MoeSample.τ).loc Cert.MoeSample.main_arg7) = m ((c.tc : Thread Cert.MoeSample.nD Cert.MoeSample.τ).loc Cert.MoeSample.main_arg7))
      ∧ r.2.sem = fun _ => 0)

def quiescent_MoeSampleIdeal [hMoeSampleIdeal : Cert.MoeSampleIdeal.Facts] : Prop :=
  ∀ (m : (ℓ : Loc Cert.MoeSampleIdeal.nD Cert.MoeSampleIdeal.τ Cert.MoeSampleIdeal.sig) → Buf (Elt Ideal) ℓ) (g : Dev Cert.MoeSampleIdeal.nD → PrngReg), Pre_MoeSampleIdeal m →
    θ_run (Cert.MoeSampleIdeal.defs (F := Ideal)) (onTc (τ := Cert.MoeSampleIdeal.τ) (Cert.MoeSampleIdeal.main (F := Ideal))) ⟨m, fun _ => 0, g⟩ (fun r => (∀ c : Dev Cert.MoeSampleIdeal.nD,
      r.2.mem ((c.tc : Thread Cert.MoeSampleIdeal.nD Cert.MoeSampleIdeal.τ).loc Cert.MoeSampleIdeal.main_arg0) = m ((c.tc : Thread Cert.MoeSampleIdeal.nD Cert.MoeSampleIdeal.τ).loc Cert.MoeSampleIdeal.main_arg0)
      ∧ r.2.mem ((c.tc : Thread Cert.MoeSampleIdeal.nD Cert.MoeSampleIdeal.τ).loc Cert.MoeSampleIdeal.main_arg1) = m ((c.tc : Thread Cert.MoeSampleIdeal.nD Cert.MoeSampleIdeal.τ).loc Cert.MoeSampleIdeal.main_arg1)
      ∧ r.2.mem ((c.tc : Thread Cert.MoeSampleIdeal.nD Cert.MoeSampleIdeal.τ).loc Cert.MoeSampleIdeal.main_arg2) = m ((c.tc : Thread Cert.MoeSampleIdeal.nD Cert.MoeSampleIdeal.τ).loc Cert.MoeSampleIdeal.main_arg2)
      ∧ r.2.mem ((c.tc : Thread Cert.MoeSampleIdeal.nD Cert.MoeSampleIdeal.τ).loc Cert.MoeSampleIdeal.main_arg3) = m ((c.tc : Thread Cert.MoeSampleIdeal.nD Cert.MoeSampleIdeal.τ).loc Cert.MoeSampleIdeal.main_arg3)
      ∧ r.2.mem ((c.tc : Thread Cert.MoeSampleIdeal.nD Cert.MoeSampleIdeal.τ).loc Cert.MoeSampleIdeal.main_arg4) = m ((c.tc : Thread Cert.MoeSampleIdeal.nD Cert.MoeSampleIdeal.τ).loc Cert.MoeSampleIdeal.main_arg4)
      ∧ r.2.mem ((c.tc : Thread Cert.MoeSampleIdeal.nD Cert.MoeSampleIdeal.τ).loc Cert.MoeSampleIdeal.main_arg5) = m ((c.tc : Thread Cert.MoeSampleIdeal.nD Cert.MoeSampleIdeal.τ).loc Cert.MoeSampleIdeal.main_arg5)
      ∧ r.2.mem ((c.tc : Thread Cert.MoeSampleIdeal.nD Cert.MoeSampleIdeal.τ).loc Cert.MoeSampleIdeal.main_arg6) = m ((c.tc : Thread Cert.MoeSampleIdeal.nD Cert.MoeSampleIdeal.τ).loc Cert.MoeSampleIdeal.main_arg6)
      ∧ r.2.mem ((c.tc : Thread Cert.MoeSampleIdeal.nD Cert.MoeSampleIdeal.τ).loc Cert.MoeSampleIdeal.main_arg7) = m ((c.tc : Thread Cert.MoeSampleIdeal.nD Cert.MoeSampleIdeal.τ).loc Cert.MoeSampleIdeal.main_arg7))
      ∧ r.2.sem = fun _ => 0)

def quiescent_MoeSampleIdeal_pre_finite_router_sample [hMoeSampleIdeal : Cert.MoeSampleIdeal.Facts] [hPre_finite_router_sample : Cert.Pre_finite_router_sample.Facts] : Prop :=
  ∀ (m : (ℓ : Loc Cert.MoeSampleIdeal.nD Cert.MoeSampleIdeal.τ Cert.MoeSampleIdeal.sig) → Buf (Elt Ideal) ℓ) (g : Dev Cert.MoeSampleIdeal.nD → PrngReg), Pre_MoeSampleIdeal_finite_router_sample m →
    θ_run (Cert.MoeSampleIdeal.defs (F := Ideal)) (onTc (τ := Cert.MoeSampleIdeal.τ) (Cert.MoeSampleIdeal.main (F := Ideal))) ⟨m, fun _ => 0, g⟩ (fun r => (∀ c : Dev Cert.MoeSampleIdeal.nD,
      r.2.mem ((c.tc : Thread Cert.MoeSampleIdeal.nD Cert.MoeSampleIdeal.τ).loc Cert.MoeSampleIdeal.main_arg0) = m ((c.tc : Thread Cert.MoeSampleIdeal.nD Cert.MoeSampleIdeal.τ).loc Cert.MoeSampleIdeal.main_arg0)
      ∧ r.2.mem ((c.tc : Thread Cert.MoeSampleIdeal.nD Cert.MoeSampleIdeal.τ).loc Cert.MoeSampleIdeal.main_arg1) = m ((c.tc : Thread Cert.MoeSampleIdeal.nD Cert.MoeSampleIdeal.τ).loc Cert.MoeSampleIdeal.main_arg1)
      ∧ r.2.mem ((c.tc : Thread Cert.MoeSampleIdeal.nD Cert.MoeSampleIdeal.τ).loc Cert.MoeSampleIdeal.main_arg2) = m ((c.tc : Thread Cert.MoeSampleIdeal.nD Cert.MoeSampleIdeal.τ).loc Cert.MoeSampleIdeal.main_arg2)
      ∧ r.2.mem ((c.tc : Thread Cert.MoeSampleIdeal.nD Cert.MoeSampleIdeal.τ).loc Cert.MoeSampleIdeal.main_arg3) = m ((c.tc : Thread Cert.MoeSampleIdeal.nD Cert.MoeSampleIdeal.τ).loc Cert.MoeSampleIdeal.main_arg3)
      ∧ r.2.mem ((c.tc : Thread Cert.MoeSampleIdeal.nD Cert.MoeSampleIdeal.τ).loc Cert.MoeSampleIdeal.main_arg4) = m ((c.tc : Thread Cert.MoeSampleIdeal.nD Cert.MoeSampleIdeal.τ).loc Cert.MoeSampleIdeal.main_arg4)
      ∧ r.2.mem ((c.tc : Thread Cert.MoeSampleIdeal.nD Cert.MoeSampleIdeal.τ).loc Cert.MoeSampleIdeal.main_arg5) = m ((c.tc : Thread Cert.MoeSampleIdeal.nD Cert.MoeSampleIdeal.τ).loc Cert.MoeSampleIdeal.main_arg5)
      ∧ r.2.mem ((c.tc : Thread Cert.MoeSampleIdeal.nD Cert.MoeSampleIdeal.τ).loc Cert.MoeSampleIdeal.main_arg6) = m ((c.tc : Thread Cert.MoeSampleIdeal.nD Cert.MoeSampleIdeal.τ).loc Cert.MoeSampleIdeal.main_arg6)
      ∧ r.2.mem ((c.tc : Thread Cert.MoeSampleIdeal.nD Cert.MoeSampleIdeal.τ).loc Cert.MoeSampleIdeal.main_arg7) = m ((c.tc : Thread Cert.MoeSampleIdeal.nD Cert.MoeSampleIdeal.τ).loc Cert.MoeSampleIdeal.main_arg7))
      ∧ r.2.sem = fun _ => 0)

def quiescent_MoeSampleRefIdeal [hMoeSampleRefIdeal : Cert.MoeSampleRefIdeal.Facts] : Prop :=
  ∀ (m : (ℓ : Loc Cert.MoeSampleRefIdeal.nD Cert.MoeSampleRefIdeal.τ Cert.MoeSampleRefIdeal.sig) → Buf (Elt Ideal) ℓ) (g : Dev Cert.MoeSampleRefIdeal.nD → PrngReg), Pre_MoeSampleRefIdeal m →
    θ_run (Cert.MoeSampleRefIdeal.defs (F := Ideal)) (onTc (τ := Cert.MoeSampleRefIdeal.τ) (Cert.MoeSampleRefIdeal.main (F := Ideal))) ⟨m, fun _ => 0, g⟩ (fun r => (∀ c : Dev Cert.MoeSampleRefIdeal.nD,
      r.2.mem ((c.tc : Thread Cert.MoeSampleRefIdeal.nD Cert.MoeSampleRefIdeal.τ).loc Cert.MoeSampleRefIdeal.main_arg0) = m ((c.tc : Thread Cert.MoeSampleRefIdeal.nD Cert.MoeSampleRefIdeal.τ).loc Cert.MoeSampleRefIdeal.main_arg0)
      ∧ r.2.mem ((c.tc : Thread Cert.MoeSampleRefIdeal.nD Cert.MoeSampleRefIdeal.τ).loc Cert.MoeSampleRefIdeal.main_arg1) = m ((c.tc : Thread Cert.MoeSampleRefIdeal.nD Cert.MoeSampleRefIdeal.τ).loc Cert.MoeSampleRefIdeal.main_arg1)
      ∧ r.2.mem ((c.tc : Thread Cert.MoeSampleRefIdeal.nD Cert.MoeSampleRefIdeal.τ).loc Cert.MoeSampleRefIdeal.main_arg2) = m ((c.tc : Thread Cert.MoeSampleRefIdeal.nD Cert.MoeSampleRefIdeal.τ).loc Cert.MoeSampleRefIdeal.main_arg2)
      ∧ r.2.mem ((c.tc : Thread Cert.MoeSampleRefIdeal.nD Cert.MoeSampleRefIdeal.τ).loc Cert.MoeSampleRefIdeal.main_arg3) = m ((c.tc : Thread Cert.MoeSampleRefIdeal.nD Cert.MoeSampleRefIdeal.τ).loc Cert.MoeSampleRefIdeal.main_arg3)
      ∧ r.2.mem ((c.tc : Thread Cert.MoeSampleRefIdeal.nD Cert.MoeSampleRefIdeal.τ).loc Cert.MoeSampleRefIdeal.main_arg4) = m ((c.tc : Thread Cert.MoeSampleRefIdeal.nD Cert.MoeSampleRefIdeal.τ).loc Cert.MoeSampleRefIdeal.main_arg4)
      ∧ r.2.mem ((c.tc : Thread Cert.MoeSampleRefIdeal.nD Cert.MoeSampleRefIdeal.τ).loc Cert.MoeSampleRefIdeal.main_arg5) = m ((c.tc : Thread Cert.MoeSampleRefIdeal.nD Cert.MoeSampleRefIdeal.τ).loc Cert.MoeSampleRefIdeal.main_arg5)
      ∧ r.2.mem ((c.tc : Thread Cert.MoeSampleRefIdeal.nD Cert.MoeSampleRefIdeal.τ).loc Cert.MoeSampleRefIdeal.main_arg6) = m ((c.tc : Thread Cert.MoeSampleRefIdeal.nD Cert.MoeSampleRefIdeal.τ).loc Cert.MoeSampleRefIdeal.main_arg6)
      ∧ r.2.mem ((c.tc : Thread Cert.MoeSampleRefIdeal.nD Cert.MoeSampleRefIdeal.τ).loc Cert.MoeSampleRefIdeal.main_arg7) = m ((c.tc : Thread Cert.MoeSampleRefIdeal.nD Cert.MoeSampleRefIdeal.τ).loc Cert.MoeSampleRefIdeal.main_arg7))
      ∧ r.2.sem = fun _ => 0)

def quiescent_MoeSampleRefIdeal_pre_finite_router_sample [hMoeSampleRefIdeal : Cert.MoeSampleRefIdeal.Facts] [hPre_finite_router_sample : Cert.Pre_finite_router_sample.Facts] : Prop :=
  ∀ (m : (ℓ : Loc Cert.MoeSampleRefIdeal.nD Cert.MoeSampleRefIdeal.τ Cert.MoeSampleRefIdeal.sig) → Buf (Elt Ideal) ℓ) (g : Dev Cert.MoeSampleRefIdeal.nD → PrngReg), Pre_MoeSampleRefIdeal_finite_router_sample m →
    θ_run (Cert.MoeSampleRefIdeal.defs (F := Ideal)) (onTc (τ := Cert.MoeSampleRefIdeal.τ) (Cert.MoeSampleRefIdeal.main (F := Ideal))) ⟨m, fun _ => 0, g⟩ (fun r => (∀ c : Dev Cert.MoeSampleRefIdeal.nD,
      r.2.mem ((c.tc : Thread Cert.MoeSampleRefIdeal.nD Cert.MoeSampleRefIdeal.τ).loc Cert.MoeSampleRefIdeal.main_arg0) = m ((c.tc : Thread Cert.MoeSampleRefIdeal.nD Cert.MoeSampleRefIdeal.τ).loc Cert.MoeSampleRefIdeal.main_arg0)
      ∧ r.2.mem ((c.tc : Thread Cert.MoeSampleRefIdeal.nD Cert.MoeSampleRefIdeal.τ).loc Cert.MoeSampleRefIdeal.main_arg1) = m ((c.tc : Thread Cert.MoeSampleRefIdeal.nD Cert.MoeSampleRefIdeal.τ).loc Cert.MoeSampleRefIdeal.main_arg1)
      ∧ r.2.mem ((c.tc : Thread Cert.MoeSampleRefIdeal.nD Cert.MoeSampleRefIdeal.τ).loc Cert.MoeSampleRefIdeal.main_arg2) = m ((c.tc : Thread Cert.MoeSampleRefIdeal.nD Cert.MoeSampleRefIdeal.τ).loc Cert.MoeSampleRefIdeal.main_arg2)
      ∧ r.2.mem ((c.tc : Thread Cert.MoeSampleRefIdeal.nD Cert.MoeSampleRefIdeal.τ).loc Cert.MoeSampleRefIdeal.main_arg3) = m ((c.tc : Thread Cert.MoeSampleRefIdeal.nD Cert.MoeSampleRefIdeal.τ).loc Cert.MoeSampleRefIdeal.main_arg3)
      ∧ r.2.mem ((c.tc : Thread Cert.MoeSampleRefIdeal.nD Cert.MoeSampleRefIdeal.τ).loc Cert.MoeSampleRefIdeal.main_arg4) = m ((c.tc : Thread Cert.MoeSampleRefIdeal.nD Cert.MoeSampleRefIdeal.τ).loc Cert.MoeSampleRefIdeal.main_arg4)
      ∧ r.2.mem ((c.tc : Thread Cert.MoeSampleRefIdeal.nD Cert.MoeSampleRefIdeal.τ).loc Cert.MoeSampleRefIdeal.main_arg5) = m ((c.tc : Thread Cert.MoeSampleRefIdeal.nD Cert.MoeSampleRefIdeal.τ).loc Cert.MoeSampleRefIdeal.main_arg5)
      ∧ r.2.mem ((c.tc : Thread Cert.MoeSampleRefIdeal.nD Cert.MoeSampleRefIdeal.τ).loc Cert.MoeSampleRefIdeal.main_arg6) = m ((c.tc : Thread Cert.MoeSampleRefIdeal.nD Cert.MoeSampleRefIdeal.τ).loc Cert.MoeSampleRefIdeal.main_arg6)
      ∧ r.2.mem ((c.tc : Thread Cert.MoeSampleRefIdeal.nD Cert.MoeSampleRefIdeal.τ).loc Cert.MoeSampleRefIdeal.main_arg7) = m ((c.tc : Thread Cert.MoeSampleRefIdeal.nD Cert.MoeSampleRefIdeal.τ).loc Cert.MoeSampleRefIdeal.main_arg7))
      ∧ r.2.sem = fun _ => 0)

def preserves_Moe_MoeIdeal : Prop :=
  True

def algebraic_MoeIdeal_MoeRefIdeal_pre_finite_router [hMoeIdeal : Cert.MoeIdeal.Facts] [hMoeRefIdeal : Cert.MoeRefIdeal.Facts] [hPre_finite_router : Cert.Pre_finite_router.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeRefIdeal.nD Cert.MoeRefIdeal.τ Cert.MoeRefIdeal.sig) → Buf (Elt Ideal) ℓ) (g' : Dev Cert.MoeRefIdeal.nD → PrngReg), Pre_MoeIdeal_finite_router m →
    (∀ c : Dev Cert.MoeIdeal.nD,
      m' ((c.tc : Thread Cert.MoeRefIdeal.nD Cert.MoeRefIdeal.τ).loc Cert.MoeRefIdeal.main_arg0) = m ((c.tc : Thread Cert.MoeIdeal.nD Cert.MoeIdeal.τ).loc Cert.MoeIdeal.main_arg0)
      ∧ m' ((c.tc : Thread Cert.MoeRefIdeal.nD Cert.MoeRefIdeal.τ).loc Cert.MoeRefIdeal.main_arg1) = m ((c.tc : Thread Cert.MoeIdeal.nD Cert.MoeIdeal.τ).loc Cert.MoeIdeal.main_arg1)
      ∧ m' ((c.tc : Thread Cert.MoeRefIdeal.nD Cert.MoeRefIdeal.τ).loc Cert.MoeRefIdeal.main_arg2) = m ((c.tc : Thread Cert.MoeIdeal.nD Cert.MoeIdeal.τ).loc Cert.MoeIdeal.main_arg2)
      ∧ m' ((c.tc : Thread Cert.MoeRefIdeal.nD Cert.MoeRefIdeal.τ).loc Cert.MoeRefIdeal.main_arg3) = m ((c.tc : Thread Cert.MoeIdeal.nD Cert.MoeIdeal.τ).loc Cert.MoeIdeal.main_arg3)
      ∧ m' ((c.tc : Thread Cert.MoeRefIdeal.nD Cert.MoeRefIdeal.τ).loc Cert.MoeRefIdeal.main_arg4) = m ((c.tc : Thread Cert.MoeIdeal.nD Cert.MoeIdeal.τ).loc Cert.MoeIdeal.main_arg4)
      ∧ m' ((c.tc : Thread Cert.MoeRefIdeal.nD Cert.MoeRefIdeal.τ).loc Cert.MoeRefIdeal.main_arg5) = m ((c.tc : Thread Cert.MoeIdeal.nD Cert.MoeIdeal.τ).loc Cert.MoeIdeal.main_arg5)
      ∧ m' ((c.tc : Thread Cert.MoeRefIdeal.nD Cert.MoeRefIdeal.τ).loc Cert.MoeRefIdeal.main_arg6) = m ((c.tc : Thread Cert.MoeIdeal.nD Cert.MoeIdeal.τ).loc Cert.MoeIdeal.main_arg6)
      ∧ m' ((c.tc : Thread Cert.MoeRefIdeal.nD Cert.MoeRefIdeal.τ).loc Cert.MoeRefIdeal.main_arg7) = m ((c.tc : Thread Cert.MoeIdeal.nD Cert.MoeIdeal.τ).loc Cert.MoeIdeal.main_arg7)) →
    ∃ (v0 : (c : Dev Cert.MoeIdeal.nD) → Buf (Elt Ideal) ((c.tc : Thread Cert.MoeIdeal.nD Cert.MoeIdeal.τ).loc Cert.MoeIdeal.main_v17)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v17) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
          ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6)
          ∧ r.2.mem ((c.tc : Thread Cert.MoeIdeal.nD Cert.MoeIdeal.τ).loc Cert.MoeIdeal.main_arg7) = m ((c.tc : Thread Cert.MoeIdeal.nD Cert.MoeIdeal.τ).loc Cert.MoeIdeal.main_arg7))
      ∧ θ_run (Cert.MoeRefIdeal.defs (F := Ideal)) (onTc (τ := Cert.MoeRefIdeal.τ) (Cert.MoeRefIdeal.main (F := Ideal))) ⟨m', fun _ => 0, g'⟩ (fun r => ∀ c : Dev Cert.MoeRefIdeal.nD,
          r.2.mem ((c.tc : Thread Cert.MoeRefIdeal.nD Cert.MoeRefIdeal.τ).loc Cert.MoeRefIdeal.main_v176) = v0 c
          ∧ r.2.mem ((c.tc : Thread Cert.MoeRefIdeal.nD Cert.MoeRefIdeal.τ).loc Cert.MoeRefIdeal.main_arg0) = m' ((c.tc : Thread Cert.MoeRefIdeal.nD Cert.MoeRefIdeal.τ).loc Cert.MoeRefIdeal.main_arg0)
          ∧ r.2.mem ((c.tc : Thread Cert.MoeRefIdeal.nD Cert.MoeRefIdeal.τ).loc Cert.MoeRefIdeal.main_arg1) = m' ((c.tc : Thread Cert.MoeRefIdeal.nD Cert.MoeRefIdeal.τ).loc Cert.MoeRefIdeal.main_arg1)
          ∧ r.2.mem ((c.tc : Thread Cert.MoeRefIdeal.nD Cert.MoeRefIdeal.τ).loc Cert.MoeRefIdeal.main_arg2) = m' ((c.tc : Thread Cert.MoeRefIdeal.nD Cert.MoeRefIdeal.τ).loc Cert.MoeRefIdeal.main_arg2)
          ∧ r.2.mem ((c.tc : Thread Cert.MoeRefIdeal.nD Cert.MoeRefIdeal.τ).loc Cert.MoeRefIdeal.main_arg3) = m' ((c.tc : Thread Cert.MoeRefIdeal.nD Cert.MoeRefIdeal.τ).loc Cert.MoeRefIdeal.main_arg3)
          ∧ r.2.mem ((c.tc : Thread Cert.MoeRefIdeal.nD Cert.MoeRefIdeal.τ).loc Cert.MoeRefIdeal.main_arg4) = m' ((c.tc : Thread Cert.MoeRefIdeal.nD Cert.MoeRefIdeal.τ).loc Cert.MoeRefIdeal.main_arg4)
          ∧ r.2.mem ((c.tc : Thread Cert.MoeRefIdeal.nD Cert.MoeRefIdeal.τ).loc Cert.MoeRefIdeal.main_arg5) = m' ((c.tc : Thread Cert.MoeRefIdeal.nD Cert.MoeRefIdeal.τ).loc Cert.MoeRefIdeal.main_arg5)
          ∧ r.2.mem ((c.tc : Thread Cert.MoeRefIdeal.nD Cert.MoeRefIdeal.τ).loc Cert.MoeRefIdeal.main_arg6) = m' ((c.tc : Thread Cert.MoeRefIdeal.nD Cert.MoeRefIdeal.τ).loc Cert.MoeRefIdeal.main_arg6)
          ∧ r.2.mem ((c.tc : Thread Cert.MoeRefIdeal.nD Cert.MoeRefIdeal.τ).loc Cert.MoeRefIdeal.main_arg7) = m' ((c.tc : Thread Cert.MoeRefIdeal.nD Cert.MoeRefIdeal.τ).loc Cert.MoeRefIdeal.main_arg7))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v12)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v12) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v38) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)) →
    ∃ (v0 : (c : Dev Cert.OutProjIdeal.nD) → Buf (Elt Ideal) ((c.tc : Thread Cert.OutProjIdeal.nD Cert.OutProjIdeal.τ).loc Cert.OutProjIdeal.main_v9)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v9) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v34) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)) →
    ∃ (v0 : (c : Dev Cert.InProjIdeal.nD) → Buf (Elt Ideal) ((c.tc : Thread Cert.InProjIdeal.nD Cert.InProjIdeal.τ).loc Cert.InProjIdeal.main_v33_0)) (v1 : (c : Dev Cert.InProjIdeal.nD) → Buf (Elt Ideal) ((c.tc : Thread Cert.InProjIdeal.nD Cert.InProjIdeal.τ).loc Cert.InProjIdeal.main_v33_1)) (v2 : (c : Dev Cert.InProjIdeal.nD) → Buf (Elt Ideal) ((c.tc : Thread Cert.InProjIdeal.nD Cert.InProjIdeal.τ).loc Cert.InProjIdeal.main_v33_2)) (v3 : (c : Dev Cert.InProjIdeal.nD) → Buf (Elt Ideal) ((c.tc : Thread Cert.InProjIdeal.nD Cert.InProjIdeal.τ).loc Cert.InProjIdeal.main_v33_3)) (v4 : (c : Dev Cert.InProjIdeal.nD) → Buf (Elt Ideal) ((c.tc : Thread Cert.InProjIdeal.nD Cert.InProjIdeal.τ).loc Cert.InProjIdeal.main_v33_4)) (v5 : (c : Dev Cert.InProjIdeal.nD) → Buf (Elt Ideal) ((c.tc : Thread Cert.InProjIdeal.nD Cert.InProjIdeal.τ).loc Cert.InProjIdeal.main_v33_5)) (v6 : (c : Dev Cert.InProjIdeal.nD) → Buf (Elt Ideal) ((c.tc : Thread Cert.InProjIdeal.nD Cert.InProjIdeal.τ).loc Cert.InProjIdeal.main_v33_6)) (v7 : (c : Dev Cert.InProjIdeal.nD) → Buf (Elt Ideal) ((c.tc : Thread Cert.InProjIdeal.nD Cert.InProjIdeal.τ).loc Cert.InProjIdeal.main_v33_7)) (v8 : (c : Dev Cert.InProjIdeal.nD) → Buf (Elt Ideal) ((c.tc : Thread Cert.InProjIdeal.nD Cert.InProjIdeal.τ).loc Cert.InProjIdeal.main_v33_8)) (v9 : (c : Dev Cert.InProjIdeal.nD) → Buf (Elt Ideal) ((c.tc : Thread Cert.InProjIdeal.nD Cert.InProjIdeal.τ).loc Cert.InProjIdeal.main_v33_9)) (v10 : (c : Dev Cert.InProjIdeal.nD) → Buf (Elt Ideal) ((c.tc : Thread Cert.InProjIdeal.nD Cert.InProjIdeal.τ).loc Cert.InProjIdeal.main_v33_10)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v33_0) = v0 c
          ∧ r.2.mem ((c.tc : Thread Cert.InProjIdeal.nD Cert.InProjIdeal.τ).loc Cert.InProjIdeal.main_v33_1) = v1 c
          ∧ r.2.mem ((c.tc : Thread Cert.InProjIdeal.nD Cert.InProjIdeal.τ).loc Cert.InProjIdeal.main_v33_2) = v2 c
          ∧ r.2.mem ((c.tc : Thread Cert.InProjIdeal.nD Cert.InProjIdeal.τ).loc Cert.InProjIdeal.main_v33_3) = v3 c
          ∧ r.2.mem ((c.tc : Thread Cert.InProjIdeal.nD Cert.InProjIdeal.τ).loc Cert.InProjIdeal.main_v33_4) = v4 c
          ∧ r.2.mem ((c.tc : Thread Cert.InProjIdeal.nD Cert.InProjIdeal.τ).loc Cert.InProjIdeal.main_v33_5) = v5 c
          ∧ r.2.mem ((c.tc : Thread Cert.InProjIdeal.nD Cert.InProjIdeal.τ).loc Cert.InProjIdeal.main_v33_6) = v6 c
          ∧ r.2.mem ((c.tc : Thread Cert.InProjIdeal.nD Cert.InProjIdeal.τ).loc Cert.InProjIdeal.main_v33_7) = v7 c
          ∧ r.2.mem ((c.tc : Thread Cert.InProjIdeal.nD Cert.InProjIdeal.τ).loc Cert.InProjIdeal.main_v33_8) = v8 c
          ∧ r.2.mem ((c.tc : Thread Cert.InProjIdeal.nD Cert.InProjIdeal.τ).loc Cert.InProjIdeal.main_v33_9) = v9 c
          ∧ r.2.mem ((c.tc : Thread Cert.InProjIdeal.nD Cert.InProjIdeal.τ).loc Cert.InProjIdeal.main_v33_10) = v10 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v43) = v0 c
          ∧ r.2.mem ((c.tc : Thread Cert.InProjRefIdeal.nD Cert.InProjRefIdeal.τ).loc Cert.InProjRefIdeal.main_v55) = v1 c
          ∧ r.2.mem ((c.tc : Thread Cert.InProjRefIdeal.nD Cert.InProjRefIdeal.τ).loc Cert.InProjRefIdeal.main_v61) = v2 c
          ∧ r.2.mem ((c.tc : Thread Cert.InProjRefIdeal.nD Cert.InProjRefIdeal.τ).loc Cert.InProjRefIdeal.main_v47) = v3 c
          ∧ r.2.mem ((c.tc : Thread Cert.InProjRefIdeal.nD Cert.InProjRefIdeal.τ).loc Cert.InProjRefIdeal.main_v62) = v4 c
          ∧ r.2.mem ((c.tc : Thread Cert.InProjRefIdeal.nD Cert.InProjRefIdeal.τ).loc Cert.InProjRefIdeal.main_v49) = v5 c
          ∧ r.2.mem ((c.tc : Thread Cert.InProjRefIdeal.nD Cert.InProjRefIdeal.τ).loc Cert.InProjRefIdeal.main_v63) = v6 c
          ∧ r.2.mem ((c.tc : Thread Cert.InProjRefIdeal.nD Cert.InProjRefIdeal.τ).loc Cert.InProjRefIdeal.main_v64) = v7 c
          ∧ r.2.mem ((c.tc : Thread Cert.InProjRefIdeal.nD Cert.InProjRefIdeal.τ).loc Cert.InProjRefIdeal.main_v65) = v8 c
          ∧ r.2.mem ((c.tc : Thread Cert.InProjRefIdeal.nD Cert.InProjRefIdeal.τ).loc Cert.InProjRefIdeal.main_v52) = v9 c
          ∧ r.2.mem ((c.tc : Thread Cert.InProjRefIdeal.nD Cert.InProjRefIdeal.τ).loc Cert.InProjRefIdeal.main_v66) = v10 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3))

def preserves_InProjSample_InProjSampleIdeal : Prop :=
  True

def algebraic_InProjSampleIdeal_InProjSampleRefIdeal [hInProjSampleIdeal : Cert.InProjSampleIdeal.Facts] [hInProjSampleRefIdeal : Cert.InProjSampleRefIdeal.Facts] : Prop :=
  ∀ (m : (ℓ : Loc Cert.InProjSampleIdeal.nD Cert.InProjSampleIdeal.τ Cert.InProjSampleIdeal.sig) → Buf (Elt Ideal) ℓ) (g : Dev Cert.InProjSampleIdeal.nD → PrngReg)
    (m' : (ℓ : Loc Cert.InProjSampleRefIdeal.nD Cert.InProjSampleRefIdeal.τ Cert.InProjSampleRefIdeal.sig) → Buf (Elt Ideal) ℓ) (g' : Dev Cert.InProjSampleRefIdeal.nD → PrngReg), Pre_InProjSampleIdeal m →
    (∀ c : Dev Cert.InProjSampleIdeal.nD,
      m' ((c.tc : Thread Cert.InProjSampleRefIdeal.nD Cert.InProjSampleRefIdeal.τ).loc Cert.InProjSampleRefIdeal.main_arg0) = m ((c.tc : Thread Cert.InProjSampleIdeal.nD Cert.InProjSampleIdeal.τ).loc Cert.InProjSampleIdeal.main_arg0)
      ∧ m' ((c.tc : Thread Cert.InProjSampleRefIdeal.nD Cert.InProjSampleRefIdeal.τ).loc Cert.InProjSampleRefIdeal.main_arg1) = m ((c.tc : Thread Cert.InProjSampleIdeal.nD Cert.InProjSampleIdeal.τ).loc Cert.InProjSampleIdeal.main_arg1)
      ∧ m' ((c.tc : Thread Cert.InProjSampleRefIdeal.nD Cert.InProjSampleRefIdeal.τ).loc Cert.InProjSampleRefIdeal.main_arg2) = m ((c.tc : Thread Cert.InProjSampleIdeal.nD Cert.InProjSampleIdeal.τ).loc Cert.InProjSampleIdeal.main_arg2)
      ∧ m' ((c.tc : Thread Cert.InProjSampleRefIdeal.nD Cert.InProjSampleRefIdeal.τ).loc Cert.InProjSampleRefIdeal.main_arg3) = m ((c.tc : Thread Cert.InProjSampleIdeal.nD Cert.InProjSampleIdeal.τ).loc Cert.InProjSampleIdeal.main_arg3)) →
    ∃ (v0 : (c : Dev Cert.InProjSampleIdeal.nD) → Buf (Elt Ideal) ((c.tc : Thread Cert.InProjSampleIdeal.nD Cert.InProjSampleIdeal.τ).loc Cert.InProjSampleIdeal.main_v33_0)) (v1 : (c : Dev Cert.InProjSampleIdeal.nD) → Buf (Elt Ideal) ((c.tc : Thread Cert.InProjSampleIdeal.nD Cert.InProjSampleIdeal.τ).loc Cert.InProjSampleIdeal.main_v33_1)) (v2 : (c : Dev Cert.InProjSampleIdeal.nD) → Buf (Elt Ideal) ((c.tc : Thread Cert.InProjSampleIdeal.nD Cert.InProjSampleIdeal.τ).loc Cert.InProjSampleIdeal.main_v33_2)) (v3 : (c : Dev Cert.InProjSampleIdeal.nD) → Buf (Elt Ideal) ((c.tc : Thread Cert.InProjSampleIdeal.nD Cert.InProjSampleIdeal.τ).loc Cert.InProjSampleIdeal.main_v33_3)) (v4 : (c : Dev Cert.InProjSampleIdeal.nD) → Buf (Elt Ideal) ((c.tc : Thread Cert.InProjSampleIdeal.nD Cert.InProjSampleIdeal.τ).loc Cert.InProjSampleIdeal.main_v33_4)) (v5 : (c : Dev Cert.InProjSampleIdeal.nD) → Buf (Elt Ideal) ((c.tc : Thread Cert.InProjSampleIdeal.nD Cert.InProjSampleIdeal.τ).loc Cert.InProjSampleIdeal.main_v33_5)) (v6 : (c : Dev Cert.InProjSampleIdeal.nD) → Buf (Elt Ideal) ((c.tc : Thread Cert.InProjSampleIdeal.nD Cert.InProjSampleIdeal.τ).loc Cert.InProjSampleIdeal.main_v33_6)) (v7 : (c : Dev Cert.InProjSampleIdeal.nD) → Buf (Elt Ideal) ((c.tc : Thread Cert.InProjSampleIdeal.nD Cert.InProjSampleIdeal.τ).loc Cert.InProjSampleIdeal.main_v33_7)) (v8 : (c : Dev Cert.InProjSampleIdeal.nD) → Buf (Elt Ideal) ((c.tc : Thread Cert.InProjSampleIdeal.nD Cert.InProjSampleIdeal.τ).loc Cert.InProjSampleIdeal.main_v33_8)) (v9 : (c : Dev Cert.InProjSampleIdeal.nD) → Buf (Elt Ideal) ((c.tc : Thread Cert.InProjSampleIdeal.nD Cert.InProjSampleIdeal.τ).loc Cert.InProjSampleIdeal.main_v33_9)) (v10 : (c : Dev Cert.InProjSampleIdeal.nD) → Buf (Elt Ideal) ((c.tc : Thread Cert.InProjSampleIdeal.nD Cert.InProjSampleIdeal.τ).loc Cert.InProjSampleIdeal.main_v33_10)),
      θ_run (Cert.InProjSampleIdeal.defs (F := Ideal)) (onTc (τ := Cert.InProjSampleIdeal.τ) (Cert.InProjSampleIdeal.main (F := Ideal))) ⟨m, fun _ => 0, g⟩ (fun r => ∀ c : Dev Cert.InProjSampleIdeal.nD,
          r.2.mem ((c.tc : Thread Cert.InProjSampleIdeal.nD Cert.InProjSampleIdeal.τ).loc Cert.InProjSampleIdeal.main_v33_0) = v0 c
          ∧ r.2.mem ((c.tc : Thread Cert.InProjSampleIdeal.nD Cert.InProjSampleIdeal.τ).loc Cert.InProjSampleIdeal.main_v33_1) = v1 c
          ∧ r.2.mem ((c.tc : Thread Cert.InProjSampleIdeal.nD Cert.InProjSampleIdeal.τ).loc Cert.InProjSampleIdeal.main_v33_2) = v2 c
          ∧ r.2.mem ((c.tc : Thread Cert.InProjSampleIdeal.nD Cert.InProjSampleIdeal.τ).loc Cert.InProjSampleIdeal.main_v33_3) = v3 c
          ∧ r.2.mem ((c.tc : Thread Cert.InProjSampleIdeal.nD Cert.InProjSampleIdeal.τ).loc Cert.InProjSampleIdeal.main_v33_4) = v4 c
          ∧ r.2.mem ((c.tc : Thread Cert.InProjSampleIdeal.nD Cert.InProjSampleIdeal.τ).loc Cert.InProjSampleIdeal.main_v33_5) = v5 c
          ∧ r.2.mem ((c.tc : Thread Cert.InProjSampleIdeal.nD Cert.InProjSampleIdeal.τ).loc Cert.InProjSampleIdeal.main_v33_6) = v6 c
          ∧ r.2.mem ((c.tc : Thread Cert.InProjSampleIdeal.nD Cert.InProjSampleIdeal.τ).loc Cert.InProjSampleIdeal.main_v33_7) = v7 c
          ∧ r.2.mem ((c.tc : Thread Cert.InProjSampleIdeal.nD Cert.InProjSampleIdeal.τ).loc Cert.InProjSampleIdeal.main_v33_8) = v8 c
          ∧ r.2.mem ((c.tc : Thread Cert.InProjSampleIdeal.nD Cert.InProjSampleIdeal.τ).loc Cert.InProjSampleIdeal.main_v33_9) = v9 c
          ∧ r.2.mem ((c.tc : Thread Cert.InProjSampleIdeal.nD Cert.InProjSampleIdeal.τ).loc Cert.InProjSampleIdeal.main_v33_10) = v10 c
          ∧ r.2.mem ((c.tc : Thread Cert.InProjSampleIdeal.nD Cert.InProjSampleIdeal.τ).loc Cert.InProjSampleIdeal.main_arg0) = m ((c.tc : Thread Cert.InProjSampleIdeal.nD Cert.InProjSampleIdeal.τ).loc Cert.InProjSampleIdeal.main_arg0)
          ∧ r.2.mem ((c.tc : Thread Cert.InProjSampleIdeal.nD Cert.InProjSampleIdeal.τ).loc Cert.InProjSampleIdeal.main_arg1) = m ((c.tc : Thread Cert.InProjSampleIdeal.nD Cert.InProjSampleIdeal.τ).loc Cert.InProjSampleIdeal.main_arg1)
          ∧ r.2.mem ((c.tc : Thread Cert.InProjSampleIdeal.nD Cert.InProjSampleIdeal.τ).loc Cert.InProjSampleIdeal.main_arg2) = m ((c.tc : Thread Cert.InProjSampleIdeal.nD Cert.InProjSampleIdeal.τ).loc Cert.InProjSampleIdeal.main_arg2)
          ∧ r.2.mem ((c.tc : Thread Cert.InProjSampleIdeal.nD Cert.InProjSampleIdeal.τ).loc Cert.InProjSampleIdeal.main_arg3) = m ((c.tc : Thread Cert.InProjSampleIdeal.nD Cert.InProjSampleIdeal.τ).loc Cert.InProjSampleIdeal.main_arg3))
      ∧ θ_run (Cert.InProjSampleRefIdeal.defs (F := Ideal)) (onTc (τ := Cert.InProjSampleRefIdeal.τ) (Cert.InProjSampleRefIdeal.main (F := Ideal))) ⟨m', fun _ => 0, g'⟩ (fun r => ∀ c : Dev Cert.InProjSampleRefIdeal.nD,
          r.2.mem ((c.tc : Thread Cert.InProjSampleRefIdeal.nD Cert.InProjSampleRefIdeal.τ).loc Cert.InProjSampleRefIdeal.main_v43) = v0 c
          ∧ r.2.mem ((c.tc : Thread Cert.InProjSampleRefIdeal.nD Cert.InProjSampleRefIdeal.τ).loc Cert.InProjSampleRefIdeal.main_v55) = v1 c
          ∧ r.2.mem ((c.tc : Thread Cert.InProjSampleRefIdeal.nD Cert.InProjSampleRefIdeal.τ).loc Cert.InProjSampleRefIdeal.main_v61) = v2 c
          ∧ r.2.mem ((c.tc : Thread Cert.InProjSampleRefIdeal.nD Cert.InProjSampleRefIdeal.τ).loc Cert.InProjSampleRefIdeal.main_v47) = v3 c
          ∧ r.2.mem ((c.tc : Thread Cert.InProjSampleRefIdeal.nD Cert.InProjSampleRefIdeal.τ).loc Cert.InProjSampleRefIdeal.main_v62) = v4 c
          ∧ r.2.mem ((c.tc : Thread Cert.InProjSampleRefIdeal.nD Cert.InProjSampleRefIdeal.τ).loc Cert.InProjSampleRefIdeal.main_v49) = v5 c
          ∧ r.2.mem ((c.tc : Thread Cert.InProjSampleRefIdeal.nD Cert.InProjSampleRefIdeal.τ).loc Cert.InProjSampleRefIdeal.main_v63) = v6 c
          ∧ r.2.mem ((c.tc : Thread Cert.InProjSampleRefIdeal.nD Cert.InProjSampleRefIdeal.τ).loc Cert.InProjSampleRefIdeal.main_v64) = v7 c
          ∧ r.2.mem ((c.tc : Thread Cert.InProjSampleRefIdeal.nD Cert.InProjSampleRefIdeal.τ).loc Cert.InProjSampleRefIdeal.main_v65) = v8 c
          ∧ r.2.mem ((c.tc : Thread Cert.InProjSampleRefIdeal.nD Cert.InProjSampleRefIdeal.τ).loc Cert.InProjSampleRefIdeal.main_v52) = v9 c
          ∧ r.2.mem ((c.tc : Thread Cert.InProjSampleRefIdeal.nD Cert.InProjSampleRefIdeal.τ).loc Cert.InProjSampleRefIdeal.main_v66) = v10 c
          ∧ r.2.mem ((c.tc : Thread Cert.InProjSampleRefIdeal.nD Cert.InProjSampleRefIdeal.τ).loc Cert.InProjSampleRefIdeal.main_arg0) = m' ((c.tc : Thread Cert.InProjSampleRefIdeal.nD Cert.InProjSampleRefIdeal.τ).loc Cert.InProjSampleRefIdeal.main_arg0)
          ∧ r.2.mem ((c.tc : Thread Cert.InProjSampleRefIdeal.nD Cert.InProjSampleRefIdeal.τ).loc Cert.InProjSampleRefIdeal.main_arg1) = m' ((c.tc : Thread Cert.InProjSampleRefIdeal.nD Cert.InProjSampleRefIdeal.τ).loc Cert.InProjSampleRefIdeal.main_arg1)
          ∧ r.2.mem ((c.tc : Thread Cert.InProjSampleRefIdeal.nD Cert.InProjSampleRefIdeal.τ).loc Cert.InProjSampleRefIdeal.main_arg2) = m' ((c.tc : Thread Cert.InProjSampleRefIdeal.nD Cert.InProjSampleRefIdeal.τ).loc Cert.InProjSampleRefIdeal.main_arg2)
          ∧ r.2.mem ((c.tc : Thread Cert.InProjSampleRefIdeal.nD Cert.InProjSampleRefIdeal.τ).loc Cert.InProjSampleRefIdeal.main_arg3) = m' ((c.tc : Thread Cert.InProjSampleRefIdeal.nD Cert.InProjSampleRefIdeal.τ).loc Cert.InProjSampleRefIdeal.main_arg3))

def preserves_MoeSample_MoeSampleIdeal : Prop :=
  True

def algebraic_MoeSampleIdeal_MoeSampleRefIdeal_pre_finite_router_sample [hMoeSampleIdeal : Cert.MoeSampleIdeal.Facts] [hMoeSampleRefIdeal : Cert.MoeSampleRefIdeal.Facts] [hPre_finite_router_sample : Cert.Pre_finite_router_sample.Facts] : Prop :=
  ∀ (m : (ℓ : Loc Cert.MoeSampleIdeal.nD Cert.MoeSampleIdeal.τ Cert.MoeSampleIdeal.sig) → Buf (Elt Ideal) ℓ) (g : Dev Cert.MoeSampleIdeal.nD → PrngReg)
    (m' : (ℓ : Loc Cert.MoeSampleRefIdeal.nD Cert.MoeSampleRefIdeal.τ Cert.MoeSampleRefIdeal.sig) → Buf (Elt Ideal) ℓ) (g' : Dev Cert.MoeSampleRefIdeal.nD → PrngReg), Pre_MoeSampleIdeal_finite_router_sample m →
    (∀ c : Dev Cert.MoeSampleIdeal.nD,
      m' ((c.tc : Thread Cert.MoeSampleRefIdeal.nD Cert.MoeSampleRefIdeal.τ).loc Cert.MoeSampleRefIdeal.main_arg0) = m ((c.tc : Thread Cert.MoeSampleIdeal.nD Cert.MoeSampleIdeal.τ).loc Cert.MoeSampleIdeal.main_arg0)
      ∧ m' ((c.tc : Thread Cert.MoeSampleRefIdeal.nD Cert.MoeSampleRefIdeal.τ).loc Cert.MoeSampleRefIdeal.main_arg1) = m ((c.tc : Thread Cert.MoeSampleIdeal.nD Cert.MoeSampleIdeal.τ).loc Cert.MoeSampleIdeal.main_arg1)
      ∧ m' ((c.tc : Thread Cert.MoeSampleRefIdeal.nD Cert.MoeSampleRefIdeal.τ).loc Cert.MoeSampleRefIdeal.main_arg2) = m ((c.tc : Thread Cert.MoeSampleIdeal.nD Cert.MoeSampleIdeal.τ).loc Cert.MoeSampleIdeal.main_arg2)
      ∧ m' ((c.tc : Thread Cert.MoeSampleRefIdeal.nD Cert.MoeSampleRefIdeal.τ).loc Cert.MoeSampleRefIdeal.main_arg3) = m ((c.tc : Thread Cert.MoeSampleIdeal.nD Cert.MoeSampleIdeal.τ).loc Cert.MoeSampleIdeal.main_arg3)
      ∧ m' ((c.tc : Thread Cert.MoeSampleRefIdeal.nD Cert.MoeSampleRefIdeal.τ).loc Cert.MoeSampleRefIdeal.main_arg4) = m ((c.tc : Thread Cert.MoeSampleIdeal.nD Cert.MoeSampleIdeal.τ).loc Cert.MoeSampleIdeal.main_arg4)
      ∧ m' ((c.tc : Thread Cert.MoeSampleRefIdeal.nD Cert.MoeSampleRefIdeal.τ).loc Cert.MoeSampleRefIdeal.main_arg5) = m ((c.tc : Thread Cert.MoeSampleIdeal.nD Cert.MoeSampleIdeal.τ).loc Cert.MoeSampleIdeal.main_arg5)
      ∧ m' ((c.tc : Thread Cert.MoeSampleRefIdeal.nD Cert.MoeSampleRefIdeal.τ).loc Cert.MoeSampleRefIdeal.main_arg6) = m ((c.tc : Thread Cert.MoeSampleIdeal.nD Cert.MoeSampleIdeal.τ).loc Cert.MoeSampleIdeal.main_arg6)
      ∧ m' ((c.tc : Thread Cert.MoeSampleRefIdeal.nD Cert.MoeSampleRefIdeal.τ).loc Cert.MoeSampleRefIdeal.main_arg7) = m ((c.tc : Thread Cert.MoeSampleIdeal.nD Cert.MoeSampleIdeal.τ).loc Cert.MoeSampleIdeal.main_arg7)) →
    ∃ (v0 : (c : Dev Cert.MoeSampleIdeal.nD) → Buf (Elt Ideal) ((c.tc : Thread Cert.MoeSampleIdeal.nD Cert.MoeSampleIdeal.τ).loc Cert.MoeSampleIdeal.main_v17)),
      θ_run (Cert.MoeSampleIdeal.defs (F := Ideal)) (onTc (τ := Cert.MoeSampleIdeal.τ) (Cert.MoeSampleIdeal.main (F := Ideal))) ⟨m, fun _ => 0, g⟩ (fun r => ∀ c : Dev Cert.MoeSampleIdeal.nD,
          r.2.mem ((c.tc : Thread Cert.MoeSampleIdeal.nD Cert.MoeSampleIdeal.τ).loc Cert.MoeSampleIdeal.main_v17) = v0 c
          ∧ r.2.mem ((c.tc : Thread Cert.MoeSampleIdeal.nD Cert.MoeSampleIdeal.τ).loc Cert.MoeSampleIdeal.main_arg0) = m ((c.tc : Thread Cert.MoeSampleIdeal.nD Cert.MoeSampleIdeal.τ).loc Cert.MoeSampleIdeal.main_arg0)
          ∧ r.2.mem ((c.tc : Thread Cert.MoeSampleIdeal.nD Cert.MoeSampleIdeal.τ).loc Cert.MoeSampleIdeal.main_arg1) = m ((c.tc : Thread Cert.MoeSampleIdeal.nD Cert.MoeSampleIdeal.τ).loc Cert.MoeSampleIdeal.main_arg1)
          ∧ r.2.mem ((c.tc : Thread Cert.MoeSampleIdeal.nD Cert.MoeSampleIdeal.τ).loc Cert.MoeSampleIdeal.main_arg2) = m ((c.tc : Thread Cert.MoeSampleIdeal.nD Cert.MoeSampleIdeal.τ).loc Cert.MoeSampleIdeal.main_arg2)
          ∧ r.2.mem ((c.tc : Thread Cert.MoeSampleIdeal.nD Cert.MoeSampleIdeal.τ).loc Cert.MoeSampleIdeal.main_arg3) = m ((c.tc : Thread Cert.MoeSampleIdeal.nD Cert.MoeSampleIdeal.τ).loc Cert.MoeSampleIdeal.main_arg3)
          ∧ r.2.mem ((c.tc : Thread Cert.MoeSampleIdeal.nD Cert.MoeSampleIdeal.τ).loc Cert.MoeSampleIdeal.main_arg4) = m ((c.tc : Thread Cert.MoeSampleIdeal.nD Cert.MoeSampleIdeal.τ).loc Cert.MoeSampleIdeal.main_arg4)
          ∧ r.2.mem ((c.tc : Thread Cert.MoeSampleIdeal.nD Cert.MoeSampleIdeal.τ).loc Cert.MoeSampleIdeal.main_arg5) = m ((c.tc : Thread Cert.MoeSampleIdeal.nD Cert.MoeSampleIdeal.τ).loc Cert.MoeSampleIdeal.main_arg5)
          ∧ r.2.mem ((c.tc : Thread Cert.MoeSampleIdeal.nD Cert.MoeSampleIdeal.τ).loc Cert.MoeSampleIdeal.main_arg6) = m ((c.tc : Thread Cert.MoeSampleIdeal.nD Cert.MoeSampleIdeal.τ).loc Cert.MoeSampleIdeal.main_arg6)
          ∧ r.2.mem ((c.tc : Thread Cert.MoeSampleIdeal.nD Cert.MoeSampleIdeal.τ).loc Cert.MoeSampleIdeal.main_arg7) = m ((c.tc : Thread Cert.MoeSampleIdeal.nD Cert.MoeSampleIdeal.τ).loc Cert.MoeSampleIdeal.main_arg7))
      ∧ θ_run (Cert.MoeSampleRefIdeal.defs (F := Ideal)) (onTc (τ := Cert.MoeSampleRefIdeal.τ) (Cert.MoeSampleRefIdeal.main (F := Ideal))) ⟨m', fun _ => 0, g'⟩ (fun r => ∀ c : Dev Cert.MoeSampleRefIdeal.nD,
          r.2.mem ((c.tc : Thread Cert.MoeSampleRefIdeal.nD Cert.MoeSampleRefIdeal.τ).loc Cert.MoeSampleRefIdeal.main_v176) = v0 c
          ∧ r.2.mem ((c.tc : Thread Cert.MoeSampleRefIdeal.nD Cert.MoeSampleRefIdeal.τ).loc Cert.MoeSampleRefIdeal.main_arg0) = m' ((c.tc : Thread Cert.MoeSampleRefIdeal.nD Cert.MoeSampleRefIdeal.τ).loc Cert.MoeSampleRefIdeal.main_arg0)
          ∧ r.2.mem ((c.tc : Thread Cert.MoeSampleRefIdeal.nD Cert.MoeSampleRefIdeal.τ).loc Cert.MoeSampleRefIdeal.main_arg1) = m' ((c.tc : Thread Cert.MoeSampleRefIdeal.nD Cert.MoeSampleRefIdeal.τ).loc Cert.MoeSampleRefIdeal.main_arg1)
          ∧ r.2.mem ((c.tc : Thread Cert.MoeSampleRefIdeal.nD Cert.MoeSampleRefIdeal.τ).loc Cert.MoeSampleRefIdeal.main_arg2) = m' ((c.tc : Thread Cert.MoeSampleRefIdeal.nD Cert.MoeSampleRefIdeal.τ).loc Cert.MoeSampleRefIdeal.main_arg2)
          ∧ r.2.mem ((c.tc : Thread Cert.MoeSampleRefIdeal.nD Cert.MoeSampleRefIdeal.τ).loc Cert.MoeSampleRefIdeal.main_arg3) = m' ((c.tc : Thread Cert.MoeSampleRefIdeal.nD Cert.MoeSampleRefIdeal.τ).loc Cert.MoeSampleRefIdeal.main_arg3)
          ∧ r.2.mem ((c.tc : Thread Cert.MoeSampleRefIdeal.nD Cert.MoeSampleRefIdeal.τ).loc Cert.MoeSampleRefIdeal.main_arg4) = m' ((c.tc : Thread Cert.MoeSampleRefIdeal.nD Cert.MoeSampleRefIdeal.τ).loc Cert.MoeSampleRefIdeal.main_arg4)
          ∧ r.2.mem ((c.tc : Thread Cert.MoeSampleRefIdeal.nD Cert.MoeSampleRefIdeal.τ).loc Cert.MoeSampleRefIdeal.main_arg5) = m' ((c.tc : Thread Cert.MoeSampleRefIdeal.nD Cert.MoeSampleRefIdeal.τ).loc Cert.MoeSampleRefIdeal.main_arg5)
          ∧ r.2.mem ((c.tc : Thread Cert.MoeSampleRefIdeal.nD Cert.MoeSampleRefIdeal.τ).loc Cert.MoeSampleRefIdeal.main_arg6) = m' ((c.tc : Thread Cert.MoeSampleRefIdeal.nD Cert.MoeSampleRefIdeal.τ).loc Cert.MoeSampleRefIdeal.main_arg6)
          ∧ r.2.mem ((c.tc : Thread Cert.MoeSampleRefIdeal.nD Cert.MoeSampleRefIdeal.τ).loc Cert.MoeSampleRefIdeal.main_arg7) = m' ((c.tc : Thread Cert.MoeSampleRefIdeal.nD Cert.MoeSampleRefIdeal.τ).loc Cert.MoeSampleRefIdeal.main_arg7))

def Claim : Prop :=
  ∃ (hMoe : Cert.Moe.Facts) (hMoeIdeal : Cert.MoeIdeal.Facts) (hMoeRefIdeal : Cert.MoeRefIdeal.Facts) (hFfn : Cert.Ffn.Facts) (hFfnIdeal : Cert.FfnIdeal.Facts) (hFfnRefIdeal : Cert.FfnRefIdeal.Facts) (hOutProj : Cert.OutProj.Facts) (hOutProjIdeal : Cert.OutProjIdeal.Facts) (hOutProjRefIdeal : Cert.OutProjRefIdeal.Facts) (hInProj : Cert.InProj.Facts) (hInProjIdeal : Cert.InProjIdeal.Facts) (hInProjRefIdeal : Cert.InProjRefIdeal.Facts) (hInProjSample : Cert.InProjSample.Facts) (hInProjSampleIdeal : Cert.InProjSampleIdeal.Facts) (hInProjSampleRefIdeal : Cert.InProjSampleRefIdeal.Facts) (hMoeSample : Cert.MoeSample.Facts) (hMoeSampleIdeal : Cert.MoeSampleIdeal.Facts) (hMoeSampleRefIdeal : Cert.MoeSampleRefIdeal.Facts) (hPre_finite_router : Cert.Pre_finite_router.Facts) (hPre_finite_router_sample : Cert.Pre_finite_router_sample.Facts),
    quiescent_Moe (hMoe := hMoe)
    ∧ quiescent_MoeIdeal (hMoeIdeal := hMoeIdeal)
    ∧ quiescent_MoeIdeal_pre_finite_router (hMoeIdeal := hMoeIdeal) (hPre_finite_router := hPre_finite_router)
    ∧ quiescent_MoeRefIdeal (hMoeRefIdeal := hMoeRefIdeal)
    ∧ quiescent_MoeRefIdeal_pre_finite_router (hMoeRefIdeal := hMoeRefIdeal) (hPre_finite_router := hPre_finite_router)
    ∧ quiescent_Ffn (hFfn := hFfn)
    ∧ quiescent_FfnIdeal (hFfnIdeal := hFfnIdeal)
    ∧ quiescent_FfnRefIdeal (hFfnRefIdeal := hFfnRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_InProj (hInProj := hInProj)
    ∧ quiescent_InProjIdeal (hInProjIdeal := hInProjIdeal)
    ∧ quiescent_InProjRefIdeal (hInProjRefIdeal := hInProjRefIdeal)
    ∧ quiescent_InProjSample (hInProjSample := hInProjSample)
    ∧ quiescent_InProjSampleIdeal (hInProjSampleIdeal := hInProjSampleIdeal)
    ∧ quiescent_InProjSampleRefIdeal (hInProjSampleRefIdeal := hInProjSampleRefIdeal)
    ∧ quiescent_MoeSample (hMoeSample := hMoeSample)
    ∧ quiescent_MoeSampleIdeal (hMoeSampleIdeal := hMoeSampleIdeal)
    ∧ quiescent_MoeSampleIdeal_pre_finite_router_sample (hMoeSampleIdeal := hMoeSampleIdeal) (hPre_finite_router_sample := hPre_finite_router_sample)
    ∧ quiescent_MoeSampleRefIdeal (hMoeSampleRefIdeal := hMoeSampleRefIdeal)
    ∧ quiescent_MoeSampleRefIdeal_pre_finite_router_sample (hMoeSampleRefIdeal := hMoeSampleRefIdeal) (hPre_finite_router_sample := hPre_finite_router_sample)
    ∧ preserves_Moe_MoeIdeal
    ∧ algebraic_MoeIdeal_MoeRefIdeal_pre_finite_router (hMoeIdeal := hMoeIdeal) (hMoeRefIdeal := hMoeRefIdeal) (hPre_finite_router := hPre_finite_router)
    ∧ preserves_Ffn_FfnIdeal
    ∧ algebraic_FfnIdeal_FfnRefIdeal (hFfnIdeal := hFfnIdeal) (hFfnRefIdeal := hFfnRefIdeal)
    ∧ preserves_OutProj_OutProjIdeal
    ∧ algebraic_OutProjIdeal_OutProjRefIdeal (hOutProjIdeal := hOutProjIdeal) (hOutProjRefIdeal := hOutProjRefIdeal)
    ∧ preserves_InProj_InProjIdeal
    ∧ algebraic_InProjIdeal_InProjRefIdeal (hInProjIdeal := hInProjIdeal) (hInProjRefIdeal := hInProjRefIdeal)
    ∧ preserves_InProjSample_InProjSampleIdeal
    ∧ algebraic_InProjSampleIdeal_InProjSampleRefIdeal (hInProjSampleIdeal := hInProjSampleIdeal) (hInProjSampleRefIdeal := hInProjSampleRefIdeal)
    ∧ preserves_MoeSample_MoeSampleIdeal
    ∧ algebraic_MoeSampleIdeal_MoeSampleRefIdeal_pre_finite_router_sample (hMoeSampleIdeal := hMoeSampleIdeal) (hMoeSampleRefIdeal := hMoeSampleRefIdeal) (hPre_finite_router_sample := hPre_finite_router_sample)
-- ==== Pre_finite_router.lean ====
abbrev S65536x1024 : Shape := ⟨2, ![65536, 1024]⟩
abbrev S1x1024x8 : Shape := ⟨3, ![1, 1024, 8]⟩
abbrev S1x8 : Shape := ⟨2, ![1, 8]⟩
abbrev S1x8x1024x1408 : Shape := ⟨4, ![1, 8, 1024, 1408]⟩
abbrev S1x8x1408x1024 : Shape := ⟨4, ![1, 8, 1408, 1024]⟩
abbrev S2x1024 : Shape := ⟨2, ![2, 1024]⟩
abbrev S_ : Shape := ⟨0, ![]⟩

class Facts : Prop where
  bcast_S_S65536x1024 : S_.BroadcastsInDim S65536x1024 (![] : Fin 0 → Fin S65536x1024.rank)
  reducesTo_S65536x1024_S_d0_1 : S65536x1024.ReducesTo [0, 1] S_
  h_S_ : 0 < S_.numel
  bcast_S_S1x1024x8 : S_.BroadcastsInDim S1x1024x8 (![] : Fin 0 → Fin S1x1024x8.rank)
  reducesTo_S1x1024x8_S_d0_1_2 : S1x1024x8.ReducesTo [0, 1, 2] S_
  bcast_S_S1x8 : S_.BroadcastsInDim S1x8 (![] : Fin 0 → Fin S1x8.rank)
  reducesTo_S1x8_S_d0_1 : S1x8.ReducesTo [0, 1] S_

variable [Facts]

def fn {F : FTy → Type} [FloatOps F] (main_arg0 : FVec F S65536x1024 .f32) (main_arg1 : FVec F S1x1024x8 .f32) (main_arg2 : FVec F S1x8 .f32) (main_arg3 : FVec F S1x8x1024x1408 .f32) (main_arg4 : FVec F S1x8x1024x1408 .f32) (main_arg5 : FVec F S1x8x1408x1024 .f32) (main_arg6 : FVec F S2x1024 .f32) (main_arg7 : FVec F S2x1024 .f32) : IVec S_ 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_c : IVec S_ 1 := constantI S_ 1 1#1
  let main_v3 : IVec S_ 1 := (fun x v => Host.reduce IntOp.andi x v reducesTo_S65536x1024_S_d0_1 h_S_) main_v2 main_c
  let main_v4 : FVec F S1x1024x8 .f32 := Host.absf main_arg1
  let main_cst_0 : FVec F S_ .f32 := constant S_ .f32 0x7F800000#32
  let main_v5 : FVec F S1x1024x8 .f32 := broadcastInDim S1x1024x8 ![] bcast_S_S1x1024x8 main_cst_0
  let main_v6 : IVec S1x1024x8 1 := cmpf .olt main_v4 main_v5
  let main_c_1 : IVec S_ 1 := constantI S_ 1 1#1
  let main_v7 : IVec S_ 1 := (fun x v => Host.reduce IntOp.andi x v reducesTo_S1x1024x8_S_d0_1_2 h_S_) main_v6 main_c_1
  let main_v8 : IVec S_ 1 := andi main_v3 main_v7
  let main_v9 : FVec F S1x8 .f32 := Host.absf main_arg2
  let main_cst_2 : FVec F S_ .f32 := constant S_ .f32 0x7F800000#32
  let main_v10 : FVec F S1x8 .f32 := broadcastInDim S1x8 ![] bcast_S_S1x8 main_cst_2
  let main_v11 : IVec S1x8 1 := cmpf .olt main_v9 main_v10
  let main_c_3 : IVec S_ 1 := constantI S_ 1 1#1
  let main_v12 : IVec S_ 1 := (fun x v => Host.reduce IntOp.andi x v reducesTo_S1x8_S_d0_1 h_S_) main_v11 main_c_3
  let main_v13 : IVec S_ 1 := andi main_v8 main_v12
  main_v13
-- ==== Pre_finite_router_sample.lean ====
abbrev S256x1024 : Shape := ⟨2, ![256, 1024]⟩
abbrev S1x1024x8 : Shape := ⟨3, ![1, 1024, 8]⟩
abbrev S1x8 : Shape := ⟨2, ![1, 8]⟩
abbrev S1x8x1024x1408 : Shape := ⟨4, ![1, 8, 1024, 1408]⟩
abbrev S1x8x1408x1024 : Shape := ⟨4, ![1, 8, 1408, 1024]⟩
abbrev S2x1024 : Shape := ⟨2, ![2, 1024]⟩
abbrev S_ : Shape := ⟨0, ![]⟩

class Facts : Prop where
  bcast_S_S256x1024 : S_.BroadcastsInDim S256x1024 (![] : Fin 0 → Fin S256x1024.rank)
  reducesTo_S256x1024_S_d0_1 : S256x1024.ReducesTo [0, 1] S_
  h_S_ : 0 < S_.numel
  bcast_S_S1x1024x8 : S_.BroadcastsInDim S1x1024x8 (![] : Fin 0 → Fin S1x1024x8.rank)
  reducesTo_S1x1024x8_S_d0_1_2 : S1x1024x8.ReducesTo [0, 1, 2] S_
  bcast_S_S1x8 : S_.BroadcastsInDim S1x8 (![] : Fin 0 → Fin S1x8.rank)
  reducesTo_S1x8_S_d0_1 : S1x8.ReducesTo [0, 1] S_

variable [Facts]

def fn {F : FTy → Type} [FloatOps F] (main_arg0 : FVec F S256x1024 .f32) (main_arg1 : FVec F S1x1024x8 .f32) (main_arg2 : FVec F S1x8 .f32) (main_arg3 : FVec F S1x8x1024x1408 .f32) (main_arg4 : FVec F S1x8x1024x1408 .f32) (main_arg5 : FVec F S1x8x1408x1024 .f32) (main_arg6 : FVec F S2x1024 .f32) (main_arg7 : FVec F S2x1024 .f32) : IVec S_ 1 :=
  let main_v0 : FVec F S256x1024 .f32 := Host.absf main_arg0
  let main_cst : FVec F S_ .f32 := constant S_ .f32 0x7F800000#32
  let main_v1 : FVec F S256x1024 .f32 := broadcastInDim S256x1024 ![] bcast_S_S256x1024 main_cst
  let main_v2 : IVec S256x1024 1 := cmpf .olt main_v0 main_v1
  let main_c : IVec S_ 1 := constantI S_ 1 1#1
  let main_v3 : IVec S_ 1 := (fun x v => Host.reduce IntOp.andi x v reducesTo_S256x1024_S_d0_1 h_S_) main_v2 main_c
  let main_v4 : FVec F S1x1024x8 .f32 := Host.absf main_arg1
  let main_cst_0 : FVec F S_ .f32 := constant S_ .f32 0x7F800000#32
  let main_v5 : FVec F S1x1024x8 .f32 := broadcastInDim S1x1024x8 ![] bcast_S_S1x1024x8 main_cst_0
  let main_v6 : IVec S1x1024x8 1 := cmpf .olt main_v4 main_v5
  let main_c_1 : IVec S_ 1 := constantI S_ 1 1#1
  let main_v7 : IVec S_ 1 := (fun x v => Host.reduce IntOp.andi x v reducesTo_S1x1024x8_S_d0_1_2 h_S_) main_v6 main_c_1
  let main_v8 : IVec S_ 1 := andi main_v3 main_v7
  let main_v9 : FVec F S1x8 .f32 := Host.absf main_arg2
  let main_cst_2 : FVec F S_ .f32 := constant S_ .f32 0x7F800000#32
  let main_v10 : FVec F S1x8 .f32 := broadcastInDim S1x8 ![] bcast_S_S1x8 main_cst_2
  let main_v11 : IVec S1x8 1 := cmpf .olt main_v9 main_v10
  let main_c_3 : IVec S_ 1 := constantI S_ 1 1#1
  let main_v12 : IVec S_ 1 := (fun x v => Host.reduce IntOp.andi x v reducesTo_S1x8_S_d0_1 h_S_) main_v11 main_c_3
  let main_v13 : IVec S_ 1 := andi main_v8 main_v12
  main_v13
-- ==== Moe.lean ====
abbrev S65536x1024 : Shape := ⟨2, ![65536, 1024]⟩
abbrev S1x1024x8 : Shape := ⟨3, ![1, 1024, 8]⟩
abbrev S1x8 : Shape := ⟨2, ![1, 8]⟩
abbrev S1x8x1024x1408 : Shape := ⟨4, ![1, 8, 1024, 1408]⟩
abbrev S1x8x1408x1024 : Shape := ⟨4, ![1, 8, 1408, 1024]⟩
abbrev S2x1024 : Shape := ⟨2, ![2, 1024]⟩
abbrev S1024x8 : Shape := ⟨2, ![1024, 8]⟩
abbrev S_ : Shape := ⟨0, ![]⟩
abbrev S1024x128 : Shape := ⟨2, ![1024, 128]⟩
abbrev S8 : Shape := ⟨1, ![8]⟩
abbrev S128 : Shape := ⟨1, ![128]⟩
abbrev S1x128 : Shape := ⟨2, ![1, 128]⟩
abbrev S8x1024x1408 : Shape := ⟨3, ![8, 1024, 1408]⟩
abbrev S8x1408x1024 : Shape := ⟨3, ![8, 1408, 1024]⟩
abbrev S1x1024 : Shape := ⟨2, ![1, 1024]⟩
abbrev S1024 : Shape := ⟨1, ![1024]⟩
abbrev S512x1024 : Shape := ⟨2, ![512, 1024]⟩
abbrev S1x1024x1408 : Shape := ⟨3, ![1, 1024, 1408]⟩
abbrev S1x1408x1024 : Shape := ⟨3, ![1, 1408, 1024]⟩
abbrev S512x128 : Shape := ⟨2, ![512, 128]⟩
abbrev S512 : Shape := ⟨1, ![512]⟩
abbrev S512x1 : Shape := ⟨2, ![512, 1]⟩
abbrev S1024x1408 : Shape := ⟨2, ![1024, 1408]⟩
abbrev S512x1408 : Shape := ⟨2, ![512, 1408]⟩
abbrev S1408x1024 : Shape := ⟨2, ![1408, 1024]⟩

abbrev nBuf : Space → Nat
  | .hbm => 30
  | .vmem => 16
  | .smem => 0
  | _ => 0

abbrev bufTy : (tb : Table) → Fin (tcTables nBuf tb) → BufTy
  | .hbm, ⟨0, _⟩ => ⟨S65536x1024, .f32⟩
  | .hbm, ⟨1, _⟩ => ⟨S1x1024x8, .f32⟩
  | .hbm, ⟨2, _⟩ => ⟨S1x8, .f32⟩
  | .hbm, ⟨3, _⟩ => ⟨S1x8x1024x1408, .f32⟩
  | .hbm, ⟨4, _⟩ => ⟨S1x8x1024x1408, .f32⟩
  | .hbm, ⟨5, _⟩ => ⟨S1x8x1408x1024, .f32⟩
  | .hbm, ⟨6, _⟩ => ⟨S2x1024, .f32⟩
  | .hbm, ⟨7, _⟩ => ⟨S2x1024, .f32⟩
  | .hbm, ⟨8, _⟩ => ⟨S1024x8, .f32⟩
  | .hbm, ⟨9, _⟩ => ⟨S_, .i32⟩
  | .hbm, ⟨10, _⟩ => ⟨S_, .f32⟩
  | .hbm, ⟨11, _⟩ => ⟨S1024x128, .f32⟩
  | .hbm, ⟨12, _⟩ => ⟨S8, .f32⟩
  | .hbm, ⟨13, _⟩ => ⟨S_, .i32⟩
  | .hbm, ⟨14, _⟩ => ⟨S_, .f32⟩
  | .hbm, ⟨15, _⟩ => ⟨S128, .f32⟩
  | .hbm, ⟨16, _⟩ => ⟨S1x128, .f32⟩
  | .hbm, ⟨17, _⟩ => ⟨S8x1024x1408, .f32⟩
  | .hbm, ⟨18, _⟩ => ⟨S8x1024x1408, .bf16⟩
  | .hbm, ⟨19, _⟩ => ⟨S8x1024x1408, .f32⟩
  | .hbm, ⟨20, _⟩ => ⟨S8x1024x1408, .bf16⟩
  | .hbm, ⟨21, _⟩ => ⟨S8x1408x1024, .f32⟩
  | .hbm, ⟨22, _⟩ => ⟨S8x1408x1024, .bf16⟩
  | .hbm, ⟨23, _⟩ => ⟨S1x1024, .f32⟩
  | .hbm, ⟨24, _⟩ => ⟨S1024, .f32⟩
  | .hbm, ⟨25, _⟩ => ⟨S1x1024, .f32⟩
  | .hbm, ⟨26, _⟩ => ⟨S1x1024, .f32⟩
  | .hbm, ⟨27, _⟩ => ⟨S1024, .f32⟩
  | .hbm, ⟨28, _⟩ => ⟨S1x1024, .f32⟩
  | .hbm, ⟨29, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S1024x128, .f32⟩
  | .local _ .vmem, ⟨3, _⟩ => ⟨S1x128, .f32⟩
  | .local _ .vmem, ⟨4, _⟩ => ⟨S1x1024x1408, .bf16⟩
  | .local _ .vmem, ⟨5, _⟩ => ⟨S1x1024x1408, .bf16⟩
  | .local _ .vmem, ⟨6, _⟩ => ⟨S1x1024x1408, .bf16⟩
  | .local _ .vmem, ⟨7, _⟩ => ⟨S1x1024x1408, .bf16⟩
  | .local _ .vmem, ⟨8, _⟩ => ⟨S1x1408x1024, .bf16⟩
  | .local _ .vmem, ⟨9, _⟩ => ⟨S1x1408x1024, .bf16⟩
  | .local _ .vmem, ⟨10, _⟩ => ⟨S1x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x128, .f32⟩
  | .local _ .vmem, ⟨15, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_call1_v0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![128, 8], ![false, false]⟩

def k0_cond2 (i : grid0.Coords) : BitVec 1 :=
  let arg1 : BitVec 32 := BitVec.ofNat 32 (i 1).val
  let c7_i32 : BitVec 32 := 7#32
  let v33 : BitVec 1 := Scalar.cmpi .eq arg1 c7_i32
  let v34 : BitVec 32 := Scalar.extui v33
  let c0_i32_21 : BitVec 32 := 0#32
  let v35 : BitVec 1 := Scalar.cmpi .ne v34 c0_i32_21
  v35

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1408x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== MoeIdeal.lean ====
abbrev S65536x1024 : Shape := ⟨2, ![65536, 1024]⟩
abbrev S1x1024x8 : Shape := ⟨3, ![1, 1024, 8]⟩
abbrev S1x8 : Shape := ⟨2, ![1, 8]⟩
abbrev S1x8x1024x1408 : Shape := ⟨4, ![1, 8, 1024, 1408]⟩
abbrev S1x8x1408x1024 : Shape := ⟨4, ![1, 8, 1408, 1024]⟩
abbrev S2x1024 : Shape := ⟨2, ![2, 1024]⟩
abbrev S1024x8 : Shape := ⟨2, ![1024, 8]⟩
abbrev S_ : Shape := ⟨0, ![]⟩
abbrev S1024x128 : Shape := ⟨2, ![1024, 128]⟩
abbrev S8 : Shape := ⟨1, ![8]⟩
abbrev S128 : Shape := ⟨1, ![128]⟩
abbrev S1x128 : Shape := ⟨2, ![1, 128]⟩
abbrev S8x1024x1408 : Shape := ⟨3, ![8, 1024, 1408]⟩
abbrev S8x1408x1024 : Shape := ⟨3, ![8, 1408, 1024]⟩
abbrev S1x1024 : Shape := ⟨2, ![1, 1024]⟩
abbrev S1024 : Shape := ⟨1, ![1024]⟩
abbrev S512x1024 : Shape := ⟨2, ![512, 1024]⟩
abbrev S1x1024x1408 : Shape := ⟨3, ![1, 1024, 1408]⟩
abbrev S1x1408x1024 : Shape := ⟨3, ![1, 1408, 1024]⟩
abbrev S512x128 : Shape := ⟨2, ![512, 128]⟩
abbrev S512 : Shape := ⟨1, ![512]⟩
abbrev S512x1 : Shape := ⟨2, ![512, 1]⟩
abbrev S1024x1408 : Shape := ⟨2, ![1024, 1408]⟩
abbrev S512x1408 : Shape := ⟨2, ![512, 1408]⟩
abbrev S1408x1024 : Shape := ⟨2, ![1408, 1024]⟩

abbrev nBuf : Space → Nat
  | .hbm => 30
  | .vmem => 16
  | .smem => 0
  | _ => 0

abbrev bufTy : (tb : Table) → Fin (tcTables nBuf tb) → BufTy
  | .hbm, ⟨0, _⟩ => ⟨S65536x1024, .f32⟩
  | .hbm, ⟨1, _⟩ => ⟨S1x1024x8, .f32⟩
  | .hbm, ⟨2, _⟩ => ⟨S1x8, .f32⟩
  | .hbm, ⟨3, _⟩ => ⟨S1x8x1024x1408, .f32⟩
  | .hbm, ⟨4, _⟩ => ⟨S1x8x1024x1408, .f32⟩
  | .hbm, ⟨5, _⟩ => ⟨S1x8x1408x1024, .f32⟩
  | .hbm, ⟨6, _⟩ => ⟨S2x1024, .f32⟩
  | .hbm, ⟨7, _⟩ => ⟨S2x1024, .f32⟩
  | .hbm, ⟨8, _⟩ => ⟨S1024x8, .f32⟩
  | .hbm, ⟨9, _⟩ => ⟨S_, .i32⟩
  | .hbm, ⟨10, _⟩ => ⟨S_, .f32⟩
  | .hbm, ⟨11, _⟩ => ⟨S1024x128, .f32⟩
  | .hbm, ⟨12, _⟩ => ⟨S8, .f32⟩
  | .hbm, ⟨13, _⟩ => ⟨S_, .i32⟩
  | .hbm, ⟨14, _⟩ => ⟨S_, .f32⟩
  | .hbm, ⟨15, _⟩ => ⟨S128, .f32⟩
  | .hbm, ⟨16, _⟩ => ⟨S1x128, .f32⟩
  | .hbm, ⟨17, _⟩ => ⟨S8x1024x1408, .f32⟩
  | .hbm, ⟨18, _⟩ => ⟨S8x1024x1408, .bf16⟩
  | .hbm, ⟨19, _⟩ => ⟨S8x1024x1408, .f32⟩
  | .hbm, ⟨20, _⟩ => ⟨S8x1024x1408, .bf16⟩
  | .hbm, ⟨21, _⟩ => ⟨S8x1408x1024, .f32⟩
  | .hbm, ⟨22, _⟩ => ⟨S8x1408x1024, .bf16⟩
  | .hbm, ⟨23, _⟩ => ⟨S1x1024, .f32⟩
  | .hbm, ⟨24, _⟩ => ⟨S1024, .f32⟩
  | .hbm, ⟨25, _⟩ => ⟨S1x1024, .f32⟩
  | .hbm, ⟨26, _⟩ => ⟨S1x1024, .f32⟩
  | .hbm, ⟨27, _⟩ => ⟨S1024, .f32⟩
  | .hbm, ⟨28, _⟩ => ⟨S1x1024, .f32⟩
  | .hbm, ⟨29, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S1024x128, .f32⟩
  | .local _ .vmem, ⟨3, _⟩ => ⟨S1x128, .f32⟩
  | .local _ .vmem, ⟨4, _⟩ => ⟨S1x1024x1408, .bf16⟩
  | .local _ .vmem, ⟨5, _⟩ => ⟨S1x1024x1408, .bf16⟩
  | .local _ .vmem, ⟨6, _⟩ => ⟨S1x1024x1408, .bf16⟩
  | .local _ .vmem, ⟨7, _⟩ => ⟨S1x1024x1408, .bf16⟩
  | .local _ .vmem, ⟨8, _⟩ => ⟨S1x1408x1024, .bf16⟩
  | .local _ .vmem, ⟨9, _⟩ => ⟨S1x1408x1024, .bf16⟩
  | .local _ .vmem, ⟨10, _⟩ => ⟨S1x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x128, .f32⟩
  | .local _ .vmem, ⟨15, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_call1_v0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![128, 8], ![false, false]⟩

def k0_cond2 (i : grid0.Coords) : BitVec 1 :=
  let arg1 : BitVec 32 := BitVec.ofNat 32 (i 1).val
  let c7_i32 : BitVec 32 := 7#32
  let v33 : BitVec 1 := Scalar.cmpi .eq arg1 c7_i32
  let v34 : BitVec 32 := Scalar.extui v33
  let c0_i32_21 : BitVec 32 := 0#32
  let v35 : BitVec 1 := Scalar.cmpi .ne v34 c0_i32_21
  v35

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1408x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== MoeRefIdeal.lean ====
abbrev S65536x1024 : Shape := ⟨2, ![65536, 1024]⟩
abbrev S1x1024x8 : Shape := ⟨3, ![1, 1024, 8]⟩
abbrev S1x8 : Shape := ⟨2, ![1, 8]⟩
abbrev S1x8x1024x1408 : Shape := ⟨4, ![1, 8, 1024, 1408]⟩
abbrev S1x8x1408x1024 : Shape := ⟨4, ![1, 8, 1408, 1024]⟩
abbrev S2x1024 : Shape := ⟨2, ![2, 1024]⟩
abbrev S1024x8 : Shape := ⟨2, ![1024, 8]⟩
abbrev S8 : Shape := ⟨1, ![8]⟩
abbrev S8x1024x1408 : Shape := ⟨3, ![8, 1024, 1408]⟩
abbrev S8x1408x1024 : Shape := ⟨3, ![8, 1408, 1024]⟩
abbrev S65536x8 : Shape := ⟨2, ![65536, 8]⟩
abbrev S65536x2 : Shape := ⟨2, ![65536, 2]⟩
abbrev S_ : Shape := ⟨0, ![]⟩
abbrev S65536 : Shape := ⟨1, ![65536]⟩
abbrev S65536x1 : Shape := ⟨2, ![65536, 1]⟩
abbrev S65536x2x1 : Shape := ⟨3, ![65536, 2, 1]⟩
abbrev S1x1x8 : Shape := ⟨3, ![1, 1, 8]⟩
abbrev S65536x2x8 : Shape := ⟨3, ![65536, 2, 8]⟩
abbrev S1x1024x1408 : Shape := ⟨3, ![1, 1024, 1408]⟩
abbrev S1024x1408 : Shape := ⟨2, ![1024, 1408]⟩
abbrev S1x1408x1024 : Shape := ⟨3, ![1, 1408, 1024]⟩
abbrev S1408x1024 : Shape := ⟨2, ![1408, 1024]⟩
abbrev S65536x1408 : Shape := ⟨2, ![65536, 1408]⟩
abbrev S1x1024 : Shape := ⟨2, ![1, 1024]⟩
abbrev S1024 : Shape := ⟨1, ![1024]⟩

abbrev nBuf : Space → Nat
  | .hbm => 267
  | .vmem => 0
  | .smem => 0
  | _ => 0

abbrev hbmTy0_0 (i : Nat) : BufTy := match i % 128 with
  | 0 => ⟨S65536x1024, .f32⟩
  | 1 => ⟨S1x1024x8, .f32⟩
  | 2 => ⟨S1x8, .f32⟩
  | 3 => ⟨S1x8x1024x1408, .f32⟩
  | 4 => ⟨S1x8x1024x1408, .f32⟩
  | 5 => ⟨S1x8x1408x1024, .f32⟩
  | 6 => ⟨S2x1024, .f32⟩
  | 7 => ⟨S2x1024, .f32⟩
  | 8 => ⟨S1024x8, .f32⟩
  | 9 => ⟨S8, .f32⟩
  | 10 => ⟨S8x1024x1408, .f32⟩
  | 11 => ⟨S8x1024x1408, .f32⟩
  | 12 => ⟨S8x1408x1024, .f32⟩
  | 13 => ⟨S65536x8, .f32⟩
  | 14 => ⟨S1x8, .f32⟩
  | 15 => ⟨S65536x8, .f32⟩
  | 16 => ⟨S65536x8, .f32⟩
  | 17 => ⟨S65536x2, .f32⟩
  | 18 => ⟨S65536x2, .i32⟩
  | 19 => ⟨S_, .f32⟩
  | 20 => ⟨S65536, .f32⟩
  | 21 => ⟨S_, .f32⟩
  | 22 => ⟨S65536, .f32⟩
  | 23 => ⟨S65536, .f32⟩
  | 24 => ⟨S65536x1, .f32⟩
  | 25 => ⟨S65536x2, .f32⟩
  | 26 => ⟨S65536x2, .f32⟩
  | 27 => ⟨S65536x2, .f32⟩
  | 28 => ⟨S_, .f32⟩
  | 29 => ⟨S65536, .f32⟩
  | 30 => ⟨S65536x1, .f32⟩
  | 31 => ⟨S65536x2, .f32⟩
  | 32 => ⟨S65536x2, .f32⟩
  | 33 => ⟨S65536x2x1, .i32⟩
  | 34 => ⟨S1x1x8, .i32⟩
  | 35 => ⟨S65536x2x8, .i32⟩
  | 36 => ⟨S65536x2x8, .i32⟩
  | 37 => ⟨S65536x2x8, .i1⟩
  | 38 => ⟨S65536x2x8, .f32⟩
  | 39 => ⟨S65536x2x1, .f32⟩
  | 40 => ⟨S65536x2x8, .f32⟩
  | 41 => ⟨S65536x2x8, .f32⟩
  | 42 => ⟨S_, .f32⟩
  | 43 => ⟨S65536x8, .f32⟩
  | 44 => ⟨S_, .f32⟩
  | 45 => ⟨S65536x1024, .f32⟩
  | 46 => ⟨S65536x1, .f32⟩
  | 47 => ⟨S1x1024x1408, .f32⟩
  | 48 => ⟨S1024x1408, .f32⟩
  | 49 => ⟨S1x1024x1408, .f32⟩
  | 50 => ⟨S1024x1408, .f32⟩
  | 51 => ⟨S1x1408x1024, .f32⟩
  | 52 => ⟨S1408x1024, .f32⟩
  | 53 => ⟨S65536x1408, .f32⟩
  | 54 => ⟨S65536x1408, .f32⟩
  | 55 => ⟨S65536x1408, .f32⟩
  | 56 => ⟨S_, .f32⟩
  | 57 => ⟨S65536x1408, .f32⟩
  | 58 => ⟨S65536x1408, .f32⟩
  | 59 => ⟨S_, .f32⟩
  | 60 => ⟨S65536x1408, .f32⟩
  | 61 => ⟨S65536x1408, .f32⟩
  | 62 => ⟨S65536x1408, .f32⟩
  | 63 => ⟨S65536x1408, .f32⟩
  | 64 => ⟨S65536x1408, .f32⟩
  | 65 => ⟨S65536x1024, .f32⟩
  | 66 => ⟨S65536x1024, .f32⟩
  | 67 => ⟨S65536x1024, .f32⟩
  | 68 => ⟨S65536x1024, .f32⟩
  | 69 => ⟨S65536x1, .f32⟩
  | 70 => ⟨S1x1024x1408, .f32⟩
  | 71 => ⟨S1024x1408, .f32⟩
  | 72 => ⟨S1x1024x1408, .f32⟩
  | 73 => ⟨S1024x1408, .f32⟩
  | 74 => ⟨S1x1408x1024, .f32⟩
  | 75 => ⟨S1408x1024, .f32⟩
  | 76 => ⟨S65536x1408, .f32⟩
  | 77 => ⟨S65536x1408, .f32⟩
  | 78 => ⟨S65536x1408, .f32⟩
  | 79 => ⟨S_, .f32⟩
  | 80 => ⟨S65536x1408, .f32⟩
  | 81 => ⟨S65536x1408, .f32⟩
  | 82 => ⟨S_, .f32⟩
  | 83 => ⟨S65536x1408, .f32⟩
  | 84 => ⟨S65536x1408, .f32⟩
  | 85 => ⟨S65536x1408, .f32⟩
  | 86 => ⟨S65536x1408, .f32⟩
  | 87 => ⟨S65536x1408, .f32⟩
  | 88 => ⟨S65536x1024, .f32⟩
  | 89 => ⟨S65536x1024, .f32⟩
  | 90 => ⟨S65536x1024, .f32⟩
  | 91 => ⟨S65536x1024, .f32⟩
  | 92 => ⟨S65536x1, .f32⟩
  | 93 => ⟨S1x1024x1408, .f32⟩
  | 94 => ⟨S1024x1408, .f32⟩
  | 95 => ⟨S1x1024x1408, .f32⟩
  | 96 => ⟨S1024x1408, .f32⟩
  | 97 => ⟨S1x1408x1024, .f32⟩
  | 98 => ⟨S1408x1024, .f32⟩
  | 99 => ⟨S65536x1408, .f32⟩
  | 100 => ⟨S65536x1408, .f32⟩
  | 101 => ⟨S65536x1408, .f32⟩
  | 102 => ⟨S_, .f32⟩
  | 103 => ⟨S65536x1408, .f32⟩
  | 104 => ⟨S65536x1408, .f32⟩
  | 105 => ⟨S_, .f32⟩
  | 106 => ⟨S65536x1408, .f32⟩
  | 107 => ⟨S65536x1408, .f32⟩
  | 108 => ⟨S65536x1408, .f32⟩
  | 109 => ⟨S65536x1408, .f32⟩
  | 110 => ⟨S65536x1408, .f32⟩
  | 111 => ⟨S65536x1024, .f32⟩
  | 112 => ⟨S65536x1024, .f32⟩
  | 113 => ⟨S65536x1024, .f32⟩
  | 114 => ⟨S65536x1024, .f32⟩
  | 115 => ⟨S65536x1, .f32⟩
  | 116 => ⟨S1x1024x1408, .f32⟩
  | 117 => ⟨S1024x1408, .f32⟩
  | 118 => ⟨S1x1024x1408, .f32⟩
  | 119 => ⟨S1024x1408, .f32⟩
  | 120 => ⟨S1x1408x1024, .f32⟩
  | 121 => ⟨S1408x1024, .f32⟩
  | 122 => ⟨S65536x1408, .f32⟩
  | 123 => ⟨S65536x1408, .f32⟩
  | 124 => ⟨S65536x1408, .f32⟩
  | 125 => ⟨S_, .f32⟩
  | 126 => ⟨S65536x1408, .f32⟩
  | 127 => ⟨S65536x1408, .f32⟩
  | _ => ⟨S65536x1024, .f32⟩

abbrev hbmTy0_1 (i : Nat) : BufTy := match i % 128 with
  | 0 => ⟨S_, .f32⟩
  | 1 => ⟨S65536x1408, .f32⟩
  | 2 => ⟨S65536x1408, .f32⟩
  | 3 => ⟨S65536x1408, .f32⟩
  | 4 => ⟨S65536x1408, .f32⟩
  | 5 => ⟨S65536x1408, .f32⟩
  | 6 => ⟨S65536x1024, .f32⟩
  | 7 => ⟨S65536x1024, .f32⟩
  | 8 => ⟨S65536x1024, .f32⟩
  | 9 => ⟨S65536x1024, .f32⟩
  | 10 => ⟨S65536x1, .f32⟩
  | 11 => ⟨S1x1024x1408, .f32⟩
  | 12 => ⟨S1024x1408, .f32⟩
  | 13 => ⟨S1x1024x1408, .f32⟩
  | 14 => ⟨S1024x1408, .f32⟩
  | 15 => ⟨S1x1408x1024, .f32⟩
  | 16 => ⟨S1408x1024, .f32⟩
  | 17 => ⟨S65536x1408, .f32⟩
  | 18 => ⟨S65536x1408, .f32⟩
  | 19 => ⟨S65536x1408, .f32⟩
  | 20 => ⟨S_, .f32⟩
  | 21 => ⟨S65536x1408, .f32⟩
  | 22 => ⟨S65536x1408, .f32⟩
  | 23 => ⟨S_, .f32⟩
  | 24 => ⟨S65536x1408, .f32⟩
  | 25 => ⟨S65536x1408, .f32⟩
  | 26 => ⟨S65536x1408, .f32⟩
  | 27 => ⟨S65536x1408, .f32⟩
  | 28 => ⟨S65536x1408, .f32⟩
  | 29 => ⟨S65536x1024, .f32⟩
  | 30 => ⟨S65536x1024, .f32⟩
  | 31 => ⟨S65536x1024, .f32⟩
  | 32 => ⟨S65536x1024, .f32⟩
  | 33 => ⟨S65536x1, .f32⟩
  | 34 => ⟨S1x1024x1408, .f32⟩
  | 35 => ⟨S1024x1408, .f32⟩
  | 36 => ⟨S1x1024x1408, .f32⟩
  | 37 => ⟨S1024x1408, .f32⟩
  | 38 => ⟨S1x1408x1024, .f32⟩
  | 39 => ⟨S1408x1024, .f32⟩
  | 40 => ⟨S65536x1408, .f32⟩
  | 41 => ⟨S65536x1408, .f32⟩
  | 42 => ⟨S65536x1408, .f32⟩
  | 43 => ⟨S_, .f32⟩
  | 44 => ⟨S65536x1408, .f32⟩
  | 45 => ⟨S65536x1408, .f32⟩
  | 46 => ⟨S_, .f32⟩
  | 47 => ⟨S65536x1408, .f32⟩
  | 48 => ⟨S65536x1408, .f32⟩
  | 49 => ⟨S65536x1408, .f32⟩
  | 50 => ⟨S65536x1408, .f32⟩
  | 51 => ⟨S65536x1408, .f32⟩
  | 52 => ⟨S65536x1024, .f32⟩
  | 53 => ⟨S65536x1024, .f32⟩
  | 54 => ⟨S65536x1024, .f32⟩
  | 55 => ⟨S65536x1024, .f32⟩
  | 56 => ⟨S65536x1, .f32⟩
  | 57 => ⟨S1x1024x1408, .f32⟩
  | 58 => ⟨S1024x1408, .f32⟩
  | 59 => ⟨S1x1024x1408, .f32⟩
  | 60 => ⟨S1024x1408, .f32⟩
  | 61 => ⟨S1x1408x1024, .f32⟩
  | 62 => ⟨S1408x1024, .f32⟩
  | 63 => ⟨S65536x1408, .f32⟩
  | 64 => ⟨S65536x1408, .f32⟩
  | 65 => ⟨S65536x1408, .f32⟩
  | 66 => ⟨S_, .f32⟩
  | 67 => ⟨S65536x1408, .f32⟩
  | 68 => ⟨S65536x1408, .f32⟩
  | 69 => ⟨S_, .f32⟩
  | 70 => ⟨S65536x1408, .f32⟩
  | 71 => ⟨S65536x1408, .f32⟩
  | 72 => ⟨S65536x1408, .f32⟩
  | 73 => ⟨S65536x1408, .f32⟩
  | 74 => ⟨S65536x1408, .f32⟩
  | 75 => ⟨S65536x1024, .f32⟩
  | 76 => ⟨S65536x1024, .f32⟩
  | 77 => ⟨S65536x1024, .f32⟩
  | 78 => ⟨S65536x1024, .f32⟩
  | 79 => ⟨S65536x1, .f32⟩
  | 80 => ⟨S1x1024x1408, .f32⟩
  | 81 => ⟨S1024x1408, .f32⟩
  | 82 => ⟨S1x1024x1408, .f32⟩
  | 83 => ⟨S1024x1408, .f32⟩
  | 84 => ⟨S1x1408x1024, .f32⟩
  | 85 => ⟨S1408x1024, .f32⟩
  | 86 => ⟨S65536x1408, .f32⟩
  | 87 => ⟨S65536x1408, .f32⟩
  | 88 => ⟨S65536x1408, .f32⟩
  | 89 => ⟨S_, .f32⟩
  | 90 => ⟨S65536x1408, .f32⟩
  | 91 => ⟨S65536x1408, .f32⟩
  | 92 => ⟨S_, .f32⟩
  | 93 => ⟨S65536x1408, .f32⟩
  | 94 => ⟨S65536x1408, .f32⟩
  | 95 => ⟨S65536x1408, .f32⟩
  | 96 => ⟨S65536x1408, .f32⟩
  | 97 => ⟨S65536x1408, .f32⟩
  | 98 => ⟨S65536x1024, .f32⟩
  | 99 => ⟨S65536x1024, .f32⟩
  | 100 => ⟨S65536x1024, .f32⟩
  | 101 => ⟨S65536x1024, .f32⟩
  | 102 => ⟨S_, .f32⟩
  | 103 => ⟨S65536x1024, .f32⟩
  | 104 => ⟨S65536x1024, .f32⟩
  | 105 => ⟨S65536x1024, .f32⟩
  | 106 => ⟨S1x1024, .f32⟩
  | 107 => ⟨S1024, .f32⟩
  | 108 => ⟨S1x1024, .f32⟩
  | 109 => ⟨S1024, .f32⟩
  | 110 => ⟨S_, .f32⟩
  | 111 => ⟨S65536, .f32⟩
  | 112 => ⟨S65536x1, .f32⟩
  | 113 => ⟨S_, .f32⟩
  | 114 => ⟨S65536x1, .f32⟩
  | 115 => ⟨S65536x1, .f32⟩
  | 116 => ⟨S65536x1024, .f32⟩
  | 117 => ⟨S65536x1024, .f32⟩
  | 118 => ⟨S65536x1024, .f32⟩
  | 119 => ⟨S_, .f32⟩
  | 120 => ⟨S65536, .f32⟩
  | 121 => ⟨S65536x1, .f32⟩
  | 122 => ⟨S_, .f32⟩
  | 123 => ⟨S65536x1, .f32⟩
  | 124 => ⟨S65536x1, .f32⟩
  | 125 => ⟨S65536x1024, .f32⟩
  | 126 => ⟨S65536x1024, .f32⟩
  | 127 => ⟨S_, .f32⟩
  | _ => ⟨S65536x1024, .f32⟩

abbrev hbmTy0_2 (i : Nat) : BufTy := match i % 128 with
  | 0 => ⟨S65536x1, .f32⟩
  | 1 => ⟨S65536x1, .f32⟩
  | 2 => ⟨S65536x1, .f32⟩
  | 3 => ⟨S65536x1024, .f32⟩
  | 4 => ⟨S65536x1024, .f32⟩
  | 5 => ⟨S1x1024, .f32⟩
  | 6 => ⟨S65536x1024, .f32⟩
  | 7 => ⟨S65536x1024, .f32⟩
  | 8 => ⟨S1x1024, .f32⟩
  | 9 => ⟨S65536x1024, .f32⟩
  | 10 => ⟨S65536x1024, .f32⟩
  | _ => ⟨S65536x1024, .f32⟩

abbrev hbmTy (i : Nat) : BufTy := match i / 128 with
  | 0 => hbmTy0_0 i
  | 1 => hbmTy0_1 i
  | 2 => hbmTy0_2 i
  | _ => ⟨S65536x1024, .f32⟩

abbrev bufTy : (tb : Table) → Fin (tcTables nBuf tb) → BufTy
  | .hbm, ⟨i, _⟩ => hbmTy i
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_values : Ref sig .tc := ⟨.hbm, 17, rfl⟩
abbrev main_indices : Ref sig .tc := ⟨.hbm, 18, rfl⟩
abbrev main_cst : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_2 : Ref sig .tc := ⟨.hbm, 42, rfl⟩
abbrev main_v24 : Ref sig .tc := ⟨.hbm, 43, rfl⟩
abbrev main_cst_3 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_call1_v0 : Ref sig .tc := ⟨.hbm, 54, rfl⟩
abbrev main_call1_v1 : Ref sig .tc := ⟨.hbm, 55, rfl⟩
abbrev main_call1_cst : Ref sig .tc := ⟨.hbm, 56, rfl⟩
abbrev main_call1_v2 : Ref sig .tc := ⟨.hbm, 57, rfl⟩
abbrev main_call1_v3 : Ref sig .tc := ⟨.hbm, 58, rfl⟩
abbrev main_call1_cst_0 : Ref sig .tc := ⟨.hbm, 59, rfl⟩
abbrev main_call1_v4 : Ref sig .tc := ⟨.hbm, 60, rfl⟩
abbrev main_call1_v5 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_call2_v0 : Ref sig .tc := ⟨.hbm, 77, rfl⟩
abbrev main_call2_v1 : Ref sig .tc := ⟨.hbm, 78, rfl⟩
abbrev main_call2_cst : Ref sig .tc := ⟨.hbm, 79, rfl⟩
abbrev main_call2_v2 : Ref sig .tc := ⟨.hbm, 80, rfl⟩
abbrev main_call2_v3 : Ref sig .tc := ⟨.hbm, 81, rfl⟩
abbrev main_call2_cst_0 : Ref sig .tc := ⟨.hbm, 82, rfl⟩
abbrev main_call2_v4 : Ref sig .tc := ⟨.hbm, 83, rfl⟩
abbrev main_call2_v5 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_call3_v0 : Ref sig .tc := ⟨.hbm, 100, rfl⟩
abbrev main_call3_v1 : Ref sig .tc := ⟨.hbm, 101, rfl⟩
abbrev main_call3_cst : Ref sig .tc := ⟨.hbm, 102, rfl⟩
abbrev main_call3_v2 : Ref sig .tc := ⟨.hbm, 103, rfl⟩
abbrev main_call3_v3 : Ref sig .tc := ⟨.hbm, 104, rfl⟩
abbrev main_call3_cst_0 : Ref sig .tc := ⟨.hbm, 105, rfl⟩
abbrev main_call3_v4 : Ref sig .tc := ⟨.hbm, 106, rfl⟩
abbrev main_call3_v5 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_call4_v0 : Ref sig .tc := ⟨.hbm, 123, rfl⟩
abbrev main_call4_v1 : Ref sig .tc := ⟨.hbm, 124, rfl⟩
abbrev main_call4_cst : Ref sig .tc := ⟨.hbm, 125, rfl⟩
abbrev main_call4_v2 : Ref sig .tc := ⟨.hbm, 126, rfl⟩
abbrev main_call4_v3 : Ref sig .tc := ⟨.hbm, 127, rfl⟩
abbrev main_call4_cst_0 : Ref sig .tc := ⟨.hbm, 128, rfl⟩
abbrev main_call4_v4 : Ref sig .tc := ⟨.hbm, 129, rfl⟩
abbrev main_call4_v5 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_call5_v0 : Ref sig .tc := ⟨.hbm, 146, rfl⟩
abbrev main_call5_v1 : Ref sig .tc := ⟨.hbm, 147, rfl⟩
abbrev main_call5_cst : Ref sig .tc := ⟨.hbm, 148, rfl⟩
abbrev main_call5_v2 : Ref sig .tc := ⟨.hbm, 149, rfl⟩
abbrev main_call5_v3 : Ref sig .tc := ⟨.hbm, 150, rfl⟩
abbrev main_call5_cst_0 : Ref sig .tc := ⟨.hbm, 151, rfl⟩
abbrev main_call5_v4 : Ref sig .tc := ⟨.hbm, 152, rfl⟩
abbrev main_call5_v5 : Ref sig .tc := ⟨.hbm, 153, rfl⟩
abbrev main_v94 : Ref sig .tc := ⟨.hbm, 154, rfl⟩
abbrev main_v95 : Ref sig .tc := ⟨.hbm, 155, rfl⟩
abbrev main_v96 : Ref sig .tc := ⟨.hbm, 156, rfl⟩
abbrev main_v97 : Ref sig .tc := ⟨.hbm, 157, rfl⟩
abbrev main_v98 : Ref sig .tc := ⟨.hbm, 158, rfl⟩
abbrev main_v99 : Ref sig .tc := ⟨.hbm, 159, rfl⟩
abbrev main_v100 : Ref sig .tc := ⟨.hbm, 160, rfl⟩
abbrev main_v101 : Ref sig .tc := ⟨.hbm, 161, rfl⟩
abbrev main_v102 : Ref sig .tc := ⟨.hbm, 162, rfl⟩
abbrev main_v103 : Ref sig .tc := ⟨.hbm, 163, rfl⟩
abbrev main_v104 : Ref sig .tc := ⟨.hbm, 164, rfl⟩
abbrev main_v105 : Ref sig .tc := ⟨.hbm, 165, rfl⟩
abbrev main_v106 : Ref sig .tc := ⟨.hbm, 166, rfl⟩
abbrev main_v107 : Ref sig .tc := ⟨.hbm, 167, rfl⟩
abbrev main_v108 : Ref sig .tc := ⟨.hbm, 168, rfl⟩
abbrev main_call6_v0 : Ref sig .tc := ⟨.hbm, 169, rfl⟩
abbrev main_call6_v1 : Ref sig .tc := ⟨.hbm, 170, rfl⟩
abbrev main_call6_cst : Ref sig .tc := ⟨.hbm, 171, rfl⟩
abbrev main_call6_v2 : Ref sig .tc := ⟨.hbm, 172, rfl⟩
abbrev main_call6_v3 : Ref sig .tc := ⟨.hbm, 173, rfl⟩
abbrev main_call6_cst_0 : Ref sig .tc := ⟨.hbm, 174, rfl⟩
abbrev main_call6_v4 : Ref sig .tc := ⟨.hbm, 175, rfl⟩
abbrev main_call6_v5 : Ref sig .tc := ⟨.hbm, 176, rfl⟩
abbrev main_v109 : Ref sig .tc := ⟨.hbm, 177, rfl⟩
abbrev main_v110 : Ref sig .tc := ⟨.hbm, 178, rfl⟩
abbrev main_v111 : Ref sig .tc := ⟨.hbm, 179, rfl⟩
abbrev main_v112 : Ref sig .tc := ⟨.hbm, 180, rfl⟩
abbrev main_v113 : Ref sig .tc := ⟨.hbm, 181, rfl⟩
abbrev main_v114 : Ref sig .tc := ⟨.hbm, 182, rfl⟩
abbrev main_v115 : Ref sig .tc := ⟨.hbm, 183, rfl⟩
abbrev main_v116 : Ref sig .tc := ⟨.hbm, 184, rfl⟩
abbrev main_v117 : Ref sig .tc := ⟨.hbm, 185, rfl⟩
abbrev main_v118 : Ref sig .tc := ⟨.hbm, 186, rfl⟩
abbrev main_v119 : Ref sig .tc := ⟨.hbm, 187, rfl⟩
abbrev main_v120 : Ref sig .tc := ⟨.hbm, 188, rfl⟩
abbrev main_v121 : Ref sig .tc := ⟨.hbm, 189, rfl⟩
abbrev main_v122 : Ref sig .tc := ⟨.hbm, 190, rfl⟩
abbrev main_v123 : Ref sig .tc := ⟨.hbm, 191, rfl⟩
abbrev main_call7_v0 : Ref sig .tc := ⟨.hbm, 192, rfl⟩
abbrev main_call7_v1 : Ref sig .tc := ⟨.hbm, 193, rfl⟩
abbrev main_call7_cst : Ref sig .tc := ⟨.hbm, 194, rfl⟩
abbrev main_call7_v2 : Ref sig .tc := ⟨.hbm, 195, rfl⟩
abbrev main_call7_v3 : Ref sig .tc := ⟨.hbm, 196, rfl⟩
abbrev main_call7_cst_0 : Ref sig .tc := ⟨.hbm, 197, rfl⟩
abbrev main_call7_v4 : Ref sig .tc := ⟨.hbm, 198, rfl⟩
abbrev main_call7_v5 : Ref sig .tc := ⟨.hbm, 199, rfl⟩
abbrev main_v124 : Ref sig .tc := ⟨.hbm, 200, rfl⟩
abbrev main_v125 : Ref sig .tc := ⟨.hbm, 201, rfl⟩
abbrev main_v126 : Ref sig .tc := ⟨.hbm, 202, rfl⟩
abbrev main_v127 : Ref sig .tc := ⟨.hbm, 203, rfl⟩
abbrev main_v128 : Ref sig .tc := ⟨.hbm, 204, rfl⟩
abbrev main_v129 : Ref sig .tc := ⟨.hbm, 205, rfl⟩
abbrev main_v130 : Ref sig .tc := ⟨.hbm, 206, rfl⟩
abbrev main_v131 : Ref sig .tc := ⟨.hbm, 207, rfl⟩
abbrev main_v132 : Ref sig .tc := ⟨.hbm, 208, rfl⟩
abbrev main_v133 : Ref sig .tc := ⟨.hbm, 209, rfl⟩
abbrev main_v134 : Ref sig .tc := ⟨.hbm, 210, rfl⟩
abbrev main_v135 : Ref sig .tc := ⟨.hbm, 211, rfl⟩
abbrev main_v136 : Ref sig .tc := ⟨.hbm, 212, rfl⟩
abbrev main_v137 : Ref sig .tc := ⟨.hbm, 213, rfl⟩
abbrev main_v138 : Ref sig .tc := ⟨.hbm, 214, rfl⟩
abbrev main_call8_v0 : Ref sig .tc := ⟨.hbm, 215, rfl⟩
abbrev main_call8_v1 : Ref sig .tc := ⟨.hbm, 216, rfl⟩
abbrev main_call8_cst : Ref sig .tc := ⟨.hbm, 217, rfl⟩
abbrev main_call8_v2 : Ref sig .tc := ⟨.hbm, 218, rfl⟩
abbrev main_call8_v3 : Ref sig .tc := ⟨.hbm, 219, rfl⟩
abbrev main_call8_cst_0 : Ref sig .tc := ⟨.hbm, 220, rfl⟩
abbrev main_call8_v4 : Ref sig .tc := ⟨.hbm, 221, rfl⟩
abbrev main_call8_v5 : Ref sig .tc := ⟨.hbm, 222, rfl⟩
abbrev main_v139 : Ref sig .tc := ⟨.hbm, 223, rfl⟩
abbrev main_v140 : Ref sig .tc := ⟨.hbm, 224, rfl⟩
abbrev main_v141 : Ref sig .tc := ⟨.hbm, 225, rfl⟩
abbrev main_v142 : Ref sig .tc := ⟨.hbm, 226, rfl⟩
abbrev main_v143 : Ref sig .tc := ⟨.hbm, 227, rfl⟩
abbrev main_v144 : Ref sig .tc := ⟨.hbm, 228, rfl⟩
abbrev main_v145 : Ref sig .tc := ⟨.hbm, 229, rfl⟩
abbrev main_cst_4 : Ref sig .tc := ⟨.hbm, 230, rfl⟩
abbrev main_v146 : Ref sig .tc := ⟨.hbm, 231, rfl⟩
abbrev main_v147 : Ref sig .tc := ⟨.hbm, 232, rfl⟩
abbrev main_v148 : Ref sig .tc := ⟨.hbm, 233, rfl⟩
abbrev main_v149 : Ref sig .tc := ⟨.hbm, 234, rfl⟩
abbrev main_v150 : Ref sig .tc := ⟨.hbm, 235, rfl⟩
abbrev main_v151 : Ref sig .tc := ⟨.hbm, 236, rfl⟩
abbrev main_v152 : Ref sig .tc := ⟨.hbm, 237, rfl⟩
abbrev main_cst_5 : Ref sig .tc := ⟨.hbm, 238, rfl⟩
abbrev main_v153 : Ref sig .tc := ⟨.hbm, 239, rfl⟩
abbrev main_v154 : Ref sig .tc := ⟨.hbm, 240, rfl⟩
abbrev main_cst_6 : Ref sig .tc := ⟨.hbm, 241, rfl⟩
abbrev main_v155 : Ref sig .tc := ⟨.hbm, 242, rfl⟩
abbrev main_v156 : Ref sig .tc := ⟨.hbm, 243, rfl⟩
abbrev main_v157 : Ref sig .tc := ⟨.hbm, 244, rfl⟩
abbrev main_v158 : Ref sig .tc := ⟨.hbm, 245, rfl⟩
abbrev main_v159 : Ref sig .tc := ⟨.hbm, 246, rfl⟩
abbrev main_cst_7 : Ref sig .tc := ⟨.hbm, 247, rfl⟩
abbrev main_v160 : Ref sig .tc := ⟨.hbm, 248, rfl⟩
abbrev main_v161 : Ref sig .tc := ⟨.hbm, 249, rfl⟩
abbrev main_cst_8 : Ref sig .tc := ⟨.hbm, 250, rfl⟩
abbrev main_v162 : Ref sig .tc := ⟨.hbm, 251, rfl⟩
abbrev main_v163 : Ref sig .tc := ⟨.hbm, 252, rfl⟩
abbrev main_v164 : Ref sig .tc := ⟨.hbm, 253, rfl⟩
abbrev main_v165 : Ref sig .tc := ⟨.hbm, 254, rfl⟩
abbrev main_cst_9 : Ref sig .tc := ⟨.hbm, 255, rfl⟩
abbrev main_v166 : Ref sig .tc := ⟨.hbm, 256, rfl⟩
abbrev main_v167 : Ref sig .tc := ⟨.hbm, 257, rfl⟩
abbrev main_v168 : Ref sig .tc := ⟨.hbm, 258, rfl⟩
abbrev main_v169 : Ref sig .tc := ⟨.hbm, 259, rfl⟩
abbrev main_v170 : Ref sig .tc := ⟨.hbm, 260, rfl⟩
abbrev main_v171 : Ref sig .tc := ⟨.hbm, 261, rfl⟩
abbrev main_v172 : Ref sig .tc := ⟨.hbm, 262, rfl⟩
abbrev main_v173 : Ref sig .tc := ⟨.hbm, 263, rfl⟩
abbrev main_v174 : Ref sig .tc := ⟨.hbm, 264, rfl⟩
abbrev main_v175 : Ref sig .tc := ⟨.hbm, 265, rfl⟩
abbrev main_v176 : Ref sig .tc := ⟨.hbm, 266, rfl⟩

abbrev nD : Nat := 1
abbrev τ : Topo := Topo.v7x

variable {F : FTy → Type} [FloatOps F]
-- ==== Ffn.lean ====
abbrev S65536x1024 : Shape := ⟨2, ![65536, 1024]⟩
abbrev S1x1024x2816 : Shape := ⟨3, ![1, 1024, 2816]⟩
abbrev S1x2816x1024 : Shape := ⟨3, ![1, 2816, 1024]⟩
abbrev S2x1024 : Shape := ⟨2, ![2, 1024]⟩
abbrev S1024x2816 : Shape := ⟨2, ![1024, 2816]⟩
abbrev S2816x1024 : Shape := ⟨2, ![2816, 1024]⟩
abbrev S1x1024 : Shape := ⟨2, ![1, 1024]⟩
abbrev S1024 : Shape := ⟨1, ![1024]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩

abbrev nBuf : Space → Nat
  | .hbm => 19
  | .vmem => 9
  | .smem => 0
  | _ => 0

abbrev bufTy : (tb : Table) → Fin (tcTables nBuf tb) → BufTy
  | .hbm, ⟨0, _⟩ => ⟨S65536x1024, .f32⟩
  | .hbm, ⟨1, _⟩ => ⟨S1x1024x2816, .f32⟩
  | .hbm, ⟨2, _⟩ => ⟨S1x1024x2816, .f32⟩
  | .hbm, ⟨3, _⟩ => ⟨S1x2816x1024, .f32⟩
  | .hbm, ⟨4, _⟩ => ⟨S2x1024, .f32⟩
  | .hbm, ⟨5, _⟩ => ⟨S2x1024, .f32⟩
  | .hbm, ⟨6, _⟩ => ⟨S1024x2816, .f32⟩
  | .hbm, ⟨7, _⟩ => ⟨S1024x2816, .bf16⟩
  | .hbm, ⟨8, _⟩ => ⟨S1024x2816, .f32⟩
  | .hbm, ⟨9, _⟩ => ⟨S1024x2816, .bf16⟩
  | .hbm, ⟨10, _⟩ => ⟨S2816x1024, .f32⟩
  | .hbm, ⟨11, _⟩ => ⟨S2816x1024, .bf16⟩
  | .hbm, ⟨12, _⟩ => ⟨S1x1024, .f32⟩
  | .hbm, ⟨13, _⟩ => ⟨S1024, .f32⟩
  | .hbm, ⟨14, _⟩ => ⟨S1x1024, .f32⟩
  | .hbm, ⟨15, _⟩ => ⟨S1x1024, .f32⟩
  | .hbm, ⟨16, _⟩ => ⟨S1024, .f32⟩
  | .hbm, ⟨17, _⟩ => ⟨S1x1024, .f32⟩
  | .hbm, ⟨18, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S1024x2816, .bf16⟩
  | .local _ .vmem, ⟨3, _⟩ => ⟨S1024x2816, .bf16⟩
  | .local _ .vmem, ⟨4, _⟩ => ⟨S2816x1024, .bf16⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfnRefIdeal.lean ====
abbrev S65536x1024 : Shape := ⟨2, ![65536, 1024]⟩
abbrev S1x1024x2816 : Shape := ⟨3, ![1, 1024, 2816]⟩
abbrev S1x2816x1024 : Shape := ⟨3, ![1, 2816, 1024]⟩
abbrev S2x1024 : Shape := ⟨2, ![2, 1024]⟩
abbrev S1024x2816 : Shape := ⟨2, ![1024, 2816]⟩
abbrev S2816x1024 : Shape := ⟨2, ![2816, 1024]⟩
abbrev S65536x2816 : Shape := ⟨2, ![65536, 2816]⟩
abbrev S_ : Shape := ⟨0, ![]⟩
abbrev S1x1024 : Shape := ⟨2, ![1, 1024]⟩
abbrev S1024 : Shape := ⟨1, ![1024]⟩
abbrev S65536 : Shape := ⟨1, ![65536]⟩
abbrev S65536x1 : Shape := ⟨2, ![65536, 1]⟩

abbrev nBuf : Space → Nat
  | .hbm => 59
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1x1024x2816, .f32⟩
  | .hbm, ⟨2, _⟩ => ⟨S1x1024x2816, .f32⟩
  | .hbm, ⟨3, _⟩ => ⟨S1x2816x1024, .f32⟩
  | .hbm, ⟨4, _⟩ => ⟨S2x1024, .f32⟩
  | .hbm, ⟨5, _⟩ => ⟨S2x1024, .f32⟩
  | .hbm, ⟨6, _⟩ => ⟨S1024x2816, .f32⟩
  | .hbm, ⟨7, _⟩ => ⟨S1024x2816, .f32⟩
  | .hbm, ⟨8, _⟩ => ⟨S2816x1024, .f32⟩
  | .hbm, ⟨9, _⟩ => ⟨S65536x2816, .f32⟩
  | .hbm, ⟨10, _⟩ => ⟨S65536x2816, .f32⟩
  | .hbm, ⟨11, _⟩ => ⟨S65536x2816, .f32⟩
  | .hbm, ⟨12, _⟩ => ⟨S_, .f32⟩
  | .hbm, ⟨13, _⟩ => ⟨S65536x2816, .f32⟩
  | .hbm, ⟨14, _⟩ => ⟨S65536x2816, .f32⟩
  | .hbm, ⟨15, _⟩ => ⟨S_, .f32⟩
  | .hbm, ⟨16, _⟩ => ⟨S65536x2816, .f32⟩
  | .hbm, ⟨17, _⟩ => ⟨S65536x2816, .f32⟩
  | .hbm, ⟨18, _⟩ => ⟨S65536x2816, .f32⟩
  | .hbm, ⟨19, _⟩ => ⟨S65536x2816, .f32⟩
  | .hbm, ⟨20, _⟩ => ⟨S65536x2816, .f32⟩
  | .hbm, ⟨21, _⟩ => ⟨S65536x1024, .f32⟩
  | .hbm, ⟨22, _⟩ => ⟨S_, .f32⟩
  | .hbm, ⟨23, _⟩ => ⟨S65536x1024, .f32⟩
  | .hbm, ⟨24, _⟩ => ⟨S65536x1024, .f32⟩
  | .hbm, ⟨25, _⟩ => ⟨S65536x1024, .f32⟩
  | .hbm, ⟨26, _⟩ => ⟨S1x1024, .f32⟩
  | .hbm, ⟨27, _⟩ => ⟨S1024, .f32⟩
  | .hbm, ⟨28, _⟩ => ⟨S1x1024, .f32⟩
  | .hbm, ⟨29, _⟩ => ⟨S1024, .f32⟩
  | .hbm, ⟨30, _⟩ => ⟨S_, .f32⟩
  | .hbm, ⟨31, _⟩ => ⟨S65536, .f32⟩
  | .hbm, ⟨32, _⟩ => ⟨S65536x1, .f32⟩
  | .hbm, ⟨33, _⟩ => ⟨S_, .f32⟩
  | .hbm, ⟨34, _⟩ => ⟨S65536x1, .f32⟩
  | .hbm, ⟨35, _⟩ => ⟨S65536x1, .f32⟩
  | .hbm, ⟨36, _⟩ => ⟨S65536x1024, .f32⟩
  | .hbm, ⟨37, _⟩ => ⟨S65536x1024, .f32⟩
  | .hbm, ⟨38, _⟩ => ⟨S65536x1024, .f32⟩
  | .hbm, ⟨39, _⟩ => ⟨S_, .f32⟩
  | .hbm, ⟨40, _⟩ => ⟨S65536, .f32⟩
  | .hbm, ⟨41, _⟩ => ⟨S65536x1, .f32⟩
  | .hbm, ⟨42, _⟩ => ⟨S_, .f32⟩
  | .hbm, ⟨43, _⟩ => ⟨S65536x1, .f32⟩
  | .hbm, ⟨44, _⟩ => ⟨S65536x1, .f32⟩
  | .hbm, ⟨45, _⟩ => ⟨S65536x1024, .f32⟩
  | .hbm, ⟨46, _⟩ => ⟨S65536x1024, .f32⟩
  | .hbm, ⟨47, _⟩ => ⟨S_, .f32⟩
  | .hbm, ⟨48, _⟩ => ⟨S65536x1, .f32⟩
  | .hbm, ⟨49, _⟩ => ⟨S65536x1, .f32⟩
  | .hbm, ⟨50, _⟩ => ⟨S65536x1, .f32⟩
  | .hbm, ⟨51, _⟩ => ⟨S65536x1024, .f32⟩
  | .hbm, ⟨52, _⟩ => ⟨S65536x1024, .f32⟩
  | .hbm, ⟨53, _⟩ => ⟨S1x1024, .f32⟩
  | .hbm, ⟨54, _⟩ => ⟨S65536x1024, .f32⟩
  | .hbm, ⟨55, _⟩ => ⟨S65536x1024, .f32⟩
  | .hbm, ⟨56, _⟩ => ⟨S1x1024, .f32⟩
  | .hbm, ⟨57, _⟩ => ⟨S65536x1024, .f32⟩
  | .hbm, ⟨58, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_0 : Ref sig .tc := ⟨.hbm, 30, rfl⟩
abbrev main_v15 : Ref sig .tc := ⟨.hbm, 31, rfl⟩
abbrev main_v16 : Ref sig .tc := ⟨.hbm, 32, rfl⟩
abbrev main_cst_1 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_2 : Ref sig .tc := ⟨.hbm, 39, rfl⟩
abbrev main_v22 : Ref sig .tc := ⟨.hbm, 40, rfl⟩
abbrev main_v23 : Ref sig .tc := ⟨.hbm, 41, rfl⟩
abbrev main_cst_3 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_4 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩

abbrev nD : Nat := 1
abbrev τ : Topo := Topo.v7x

variable {F : FTy → Type} [FloatOps F]
-- ==== OutProj.lean ====
abbrev S65536x1024 : Shape := ⟨2, ![65536, 1024]⟩
abbrev S2x1024x1024 : Shape := ⟨3, ![2, 1024, 1024]⟩
abbrev S2x1024 : Shape := ⟨2, ![2, 1024]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S512x1024 : Shape := ⟨2, ![512, 1024]⟩
abbrev S512 : Shape := ⟨1, ![512]⟩
abbrev S512x1 : Shape := ⟨2, ![512, 1]⟩

abbrev nBuf : Space → Nat
  | .hbm => 15
  | .vmem => 9
  | .smem => 0
  | _ => 0

abbrev bufTy : (tb : Table) → Fin (tcTables nBuf tb) → BufTy
  | .hbm, ⟨0, _⟩ => ⟨S65536x1024, .bf16⟩
  | .hbm, ⟨1, _⟩ => ⟨S65536x1024, .f32⟩
  | .hbm, ⟨2, _⟩ => ⟨S2x1024x1024, .f32⟩
  | .hbm, ⟨3, _⟩ => ⟨S2x1024, .f32⟩
  | .hbm, ⟨4, _⟩ => ⟨S2x1024, .f32⟩
  | .hbm, ⟨5, _⟩ => ⟨S1x1024x1024, .f32⟩
  | .hbm, ⟨6, _⟩ => ⟨S1024x1024, .f32⟩
  | .hbm, ⟨7, _⟩ => ⟨S1024x1024, .bf16⟩
  | .hbm, ⟨8, _⟩ => ⟨S1x1024, .f32⟩
  | .hbm, ⟨9, _⟩ => ⟨S1024, .f32⟩
  | .hbm, ⟨10, _⟩ => ⟨S1x1024, .f32⟩
  | .hbm, ⟨11, _⟩ => ⟨S1x1024, .f32⟩
  | .hbm, ⟨12, _⟩ => ⟨S1024, .f32⟩
  | .hbm, ⟨13, _⟩ => ⟨S1x1024, .f32⟩
  | .hbm, ⟨14, _⟩ => ⟨S65536x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S65536x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutProjRefIdeal.lean ====
abbrev S65536x1024 : Shape := ⟨2, ![65536, 1024]⟩
abbrev S2x1024x1024 : Shape := ⟨3, ![2, 1024, 1024]⟩
abbrev S2x1024 : Shape := ⟨2, ![2, 1024]⟩
abbrev S1x1024x1024 : Shape := ⟨3, ![1, 1024, 1024]⟩
abbrev S1024x1024 : Shape := ⟨2, ![1024, 1024]⟩
abbrev S_ : Shape := ⟨0, ![]⟩
abbrev S1x1024 : Shape := ⟨2, ![1, 1024]⟩
abbrev S1024 : Shape := ⟨1, ![1024]⟩
abbrev S65536 : Shape := ⟨1, ![65536]⟩
abbrev S65536x1 : Shape := ⟨2, ![65536, 1]⟩

abbrev nBuf : Space → Nat
  | .hbm => 46
  | .vmem => 0
  | .smem => 0
  | _ => 0

abbrev bufTy : (tb : Table) → Fin (tcTables nBuf tb) → BufTy
  | .hbm, ⟨0, _⟩ => ⟨S65536x1024, .bf16⟩
  | .hbm, ⟨1, _⟩ => ⟨S65536x1024, .f32⟩
  | .hbm, ⟨2, _⟩ => ⟨S2x1024x1024, .f32⟩
  | .hbm, ⟨3, _⟩ => ⟨S2x1024, .f32⟩
  | .hbm, ⟨4, _⟩ => ⟨S2x1024, .f32⟩
  | .hbm, ⟨5, _⟩ => ⟨S65536x1024, .f32⟩
  | .hbm, ⟨6, _⟩ => ⟨S1x1024x1024, .f32⟩
  | .hbm, ⟨7, _⟩ => ⟨S1024x1024, .f32⟩
  | .hbm, ⟨8, _⟩ => ⟨S65536x1024, .f32⟩
  | .hbm, ⟨9, _⟩ => ⟨S_, .f32⟩
  | .hbm, ⟨10, _⟩ => ⟨S65536x1024, .f32⟩
  | .hbm, ⟨11, _⟩ => ⟨S65536x1024, .f32⟩
  | .hbm, ⟨12, _⟩ => ⟨S65536x1024, .f32⟩
  | .hbm, ⟨13, _⟩ => ⟨S1x1024, .f32⟩
  | .hbm, ⟨14, _⟩ => ⟨S1024, .f32⟩
  | .hbm, ⟨15, _⟩ => ⟨S1x1024, .f32⟩
  | .hbm, ⟨16, _⟩ => ⟨S1024, .f32⟩
  | .hbm, ⟨17, _⟩ => ⟨S_, .f32⟩
  | .hbm, ⟨18, _⟩ => ⟨S65536, .f32⟩
  | .hbm, ⟨19, _⟩ => ⟨S65536x1, .f32⟩
  | .hbm, ⟨20, _⟩ => ⟨S_, .f32⟩
  | .hbm, ⟨21, _⟩ => ⟨S65536x1, .f32⟩
  | .hbm, ⟨22, _⟩ => ⟨S65536x1, .f32⟩
  | .hbm, ⟨23, _⟩ => ⟨S65536x1024, .f32⟩
  | .hbm, ⟨24, _⟩ => ⟨S65536x1024, .f32⟩
  | .hbm, ⟨25, _⟩ => ⟨S65536x1024, .f32⟩
  | .hbm, ⟨26, _⟩ => ⟨S_, .f32⟩
  | .hbm, ⟨27, _⟩ => ⟨S65536, .f32⟩
  | .hbm, ⟨28, _⟩ => ⟨S65536x1, .f32⟩
  | .hbm, ⟨29, _⟩ => ⟨S_, .f32⟩
  | .hbm, ⟨30, _⟩ => ⟨S65536x1, .f32⟩
  | .hbm, ⟨31, _⟩ => ⟨S65536x1, .f32⟩
  | .hbm, ⟨32, _⟩ => ⟨S65536x1024, .f32⟩
  | .hbm, ⟨33, _⟩ => ⟨S65536x1024, .f32⟩
  | .hbm, ⟨34, _⟩ => ⟨S_, .f32⟩
  | .hbm, ⟨35, _⟩ => ⟨S65536x1, .f32⟩
  | .hbm, ⟨36, _⟩ => ⟨S65536x1, .f32⟩
  | .hbm, ⟨37, _⟩ => ⟨S65536x1, .f32⟩
  | .hbm, ⟨38, _⟩ => ⟨S65536x1024, .f32⟩
  | .hbm, ⟨39, _⟩ => ⟨S65536x1024, .f32⟩
  | .hbm, ⟨40, _⟩ => ⟨S1x1024, .f32⟩
  | .hbm, ⟨41, _⟩ => ⟨S65536x1024, .f32⟩
  | .hbm, ⟨42, _⟩ => ⟨S65536x1024, .f32⟩
  | .hbm, ⟨43, _⟩ => ⟨S1x1024, .f32⟩
  | .hbm, ⟨44, _⟩ => ⟨S65536x1024, .f32⟩
  | .hbm, ⟨45, _⟩ => ⟨S65536x1024, .f32⟩
  | _, _ => ⟨S65536x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== InProj.lean ====
abbrev S16x4096x1024 : Shape := ⟨3, ![16, 4096, 1024]⟩
abbrev S16x2x1024 : Shape := ⟨3, ![16, 2, 1024]⟩
abbrev S2x1024x7240 : Shape := ⟨3, ![2, 1024, 7240]⟩
abbrev S2x3x1024 : Shape := ⟨3, ![2, 3, 1024]⟩
abbrev S_ : Shape := ⟨0, ![]⟩
abbrev S16x8x1024 : Shape := ⟨3, ![16, 8, 1024]⟩
abbrev S1x1024x7240 : Shape := ⟨3, ![1, 1024, 7240]⟩
abbrev S1024x7240 : Shape := ⟨2, ![1024, 7240]⟩
abbrev S1024x1024 : Shape := ⟨2, ![1024, 1024]⟩
abbrev S1024x256 : Shape := ⟨2, ![1024, 256]⟩
abbrev S1024x512 : Shape := ⟨2, ![1024, 512]⟩
abbrev S1024x64 : Shape := ⟨2, ![1024, 64]⟩
abbrev S1024x8 : Shape := ⟨2, ![1024, 8]⟩
abbrev S1024x56 : Shape := ⟨2, ![1024, 56]⟩
abbrev S1024x128 : Shape := ⟨2, ![1024, 128]⟩
abbrev S1024x4096 : Shape := ⟨2, ![1024, 4096]⟩
abbrev S1024x4x64 : Shape := ⟨3, ![1024, 4, 64]⟩
abbrev S1024x4x128 : Shape := ⟨3, ![1024, 4, 128]⟩
abbrev S1x3x1024 : Shape := ⟨3, ![1, 3, 1024]⟩
abbrev S3x1024 : Shape := ⟨2, ![3, 1024]⟩
abbrev S16x4096x512 : Shape := ⟨3, ![16, 4096, 512]⟩
abbrev S16x4096x128 : Shape := ⟨3, ![16, 4096, 128]⟩
abbrev S1x512x1024 : Shape := ⟨3, ![1, 512, 1024]⟩
abbrev S1x8x1024 : Shape := ⟨3, ![1, 8, 1024]⟩
abbrev S1x512x512 : Shape := ⟨3, ![1, 512, 512]⟩
abbrev S1x512x128 : Shape := ⟨3, ![1, 512, 128]⟩
abbrev S520x1024 : Shape := ⟨2, ![520, 1024]⟩
abbrev S8x1024 : Shape := ⟨2, ![8, 1024]⟩
abbrev S512x1024 : Shape := ⟨2, ![512, 1024]⟩
abbrev S512x256 : Shape := ⟨2, ![512, 256]⟩
abbrev S1x256 : Shape := ⟨2, ![1, 256]⟩
abbrev S1x512x256 : Shape := ⟨3, ![1, 512, 256]⟩
abbrev S512x512 : Shape := ⟨2, ![512, 512]⟩
abbrev S512x128 : Shape := ⟨2, ![512, 128]⟩

abbrev nBuf : Space → Nat
  | .hbm => 51
  | .vmem => 35
  | .smem => 0
  | _ => 0

abbrev bufTy : (tb : Table) → Fin (tcTables nBuf tb) → BufTy
  | .hbm, ⟨0, _⟩ => ⟨S16x4096x1024, .f32⟩
  | .hbm, ⟨1, _⟩ => ⟨S16x2x1024, .f32⟩
  | .hbm, ⟨2, _⟩ => ⟨S2x1024x7240, .f32⟩
  | .hbm, ⟨3, _⟩ => ⟨S2x3x1024, .f32⟩
  | .hbm, ⟨4, _⟩ => ⟨S_, .i32⟩
  | .hbm, ⟨5, _⟩ => ⟨S_, .f32⟩
  | .hbm, ⟨6, _⟩ => ⟨S16x8x1024, .f32⟩
  | .hbm, ⟨7, _⟩ => ⟨S1x1024x7240, .f32⟩
  | .hbm, ⟨8, _⟩ => ⟨S1024x7240, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S1024x256, .f32⟩
  | .hbm, ⟨14, _⟩ => ⟨S1024x256, .f32⟩
  | .hbm, ⟨15, _⟩ => ⟨S1024x512, .f32⟩
  | .hbm, ⟨16, _⟩ => ⟨S1024x64, .f32⟩
  | .hbm, ⟨17, _⟩ => ⟨S1024x8, .f32⟩
  | .hbm, ⟨18, _⟩ => ⟨S1024x1024, .f32⟩
  | .hbm, ⟨19, _⟩ => ⟨S1024x1024, .f32⟩
  | .hbm, ⟨20, _⟩ => ⟨S_, .f32⟩
  | .hbm, ⟨21, _⟩ => ⟨S1024x56, .f32⟩
  | .hbm, ⟨22, _⟩ => ⟨S1024x128, .f32⟩
  | .hbm, ⟨23, _⟩ => ⟨S1024x4096, .f32⟩
  | .hbm, ⟨24, _⟩ => ⟨S1024x4096, .bf16⟩
  | .hbm, ⟨25, _⟩ => ⟨S1024x1024, .bf16⟩
  | .hbm, ⟨26, _⟩ => ⟨S1024x1024, .bf16⟩
  | .hbm, ⟨27, _⟩ => ⟨S1024x4x64, .f32⟩
  | .hbm, ⟨28, _⟩ => ⟨S1024x4x128, .f32⟩
  | .hbm, ⟨29, _⟩ => ⟨S1024x512, .f32⟩
  | .hbm, ⟨30, _⟩ => ⟨S1024x512, .bf16⟩
  | .hbm, ⟨31, _⟩ => ⟨S1024x4x64, .f32⟩
  | .hbm, ⟨32, _⟩ => ⟨S1024x4x128, .f32⟩
  | .hbm, ⟨33, _⟩ => ⟨S1024x512, .f32⟩
  | .hbm, ⟨34, _⟩ => ⟨S1024x512, .bf16⟩
  | .hbm, ⟨35, _⟩ => ⟨S1024x512, .bf16⟩
  | .hbm, ⟨36, _⟩ => ⟨S1024x256, .f32⟩
  | .hbm, ⟨37, _⟩ => ⟨S1024x256, .bf16⟩
  | .hbm, ⟨38, _⟩ => ⟨S1x3x1024, .f32⟩
  | .hbm, ⟨39, _⟩ => ⟨S3x1024, .f32⟩
  | .hbm, ⟨40, _⟩ => ⟨S16x4096x1024, .f32⟩
  | .hbm, ⟨41, _⟩ => ⟨S16x4096x1024, .bf16⟩
  | .hbm, ⟨42, _⟩ => ⟨S16x4096x1024, .f32⟩
  | .hbm, ⟨43, _⟩ => ⟨S16x4096x512, .f32⟩
  | .hbm, ⟨44, _⟩ => ⟨S16x4096x512, .bf16⟩
  | .hbm, ⟨45, _⟩ => ⟨S16x4096x512, .f32⟩
  | .hbm, ⟨46, _⟩ => ⟨S16x4096x512, .bf16⟩
  | .hbm, ⟨47, _⟩ => ⟨S16x4096x512, .bf16⟩
  | .hbm, ⟨48, _⟩ => ⟨S16x4096x128, .bf16⟩
  | .hbm, ⟨49, _⟩ => ⟨S16x4096x128, .f32⟩
  | .hbm, ⟨50, _⟩ => ⟨S16x8x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x8x1024, .f32⟩
  | .local _ .vmem, ⟨3, _⟩ => ⟨S1x8x1024, .f32⟩
  | .local _ .vmem, ⟨4, _⟩ => ⟨S1024x4096, .bf16⟩
  | .local _ .vmem, ⟨5, _⟩ => ⟨S1024x1024, .bf16⟩
  | .local _ .vmem, ⟨6, _⟩ => ⟨S1024x1024, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x256, .bf16⟩
  | .local _ .vmem, ⟨11, _⟩ => ⟨S3x1024, .f32⟩
  | .local _ .vmem, ⟨12, _⟩ => ⟨S1x512x1024, .f32⟩
  | .local _ .vmem, ⟨13, _⟩ => ⟨S1x512x1024, .f32⟩
  | .local _ .vmem, ⟨14, _⟩ => ⟨S1x512x1024, .bf16⟩
  | .local _ .vmem, ⟨15, _⟩ => ⟨S1x512x1024, .bf16⟩
  | .local _ .vmem, ⟨16, _⟩ => ⟨S1x512x1024, .f32⟩
  | .local _ .vmem, ⟨17, _⟩ => ⟨S1x512x1024, .f32⟩
  | .local _ .vmem, ⟨18, _⟩ => ⟨S1x512x512, .f32⟩
  | .local _ .vmem, ⟨19, _⟩ => ⟨S1x512x512, .f32⟩
  | .local _ .vmem, ⟨20, _⟩ => ⟨S1x512x512, .bf16⟩
  | .local _ .vmem, ⟨21, _⟩ => ⟨S1x512x512, .bf16⟩
  | .local _ .vmem, ⟨22, _⟩ => ⟨S1x512x512, .f32⟩
  | .local _ .vmem, ⟨23, _⟩ => ⟨S1x512x512, .f32⟩
  | .local _ .vmem, ⟨24, _⟩ => ⟨S1x512x512, .bf16⟩
  | .local _ .vmem, ⟨25, _⟩ => ⟨S1x512x512, .bf16⟩
  | .local _ .vmem, ⟨26, _⟩ => ⟨S1x512x512, .bf16⟩
  | .local _ .vmem, ⟨27, _⟩ => ⟨S1x512x512, .bf16⟩
  | .local _ .vmem, ⟨28, _⟩ => ⟨S1x512x128, .bf16⟩
  | .local _ .vmem, ⟨29, _⟩ => ⟨S1x512x128, .bf16⟩
  | .local _ .vmem, ⟨30, _⟩ => ⟨S1x512x128, .f32⟩
  | .local _ .vmem, ⟨31, _⟩ => ⟨S1x512x128, .f32⟩
  | .local _ .vmem, ⟨32, _⟩ => ⟨S1x8x1024, .f32⟩
  | .local _ .vmem, ⟨33, _⟩ => ⟨S1x8x1024, .f32⟩
  | .local _ .vmem, ⟨34, _⟩ => ⟨S520x1024, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33_0 : Ref sig .tc := ⟨.hbm, 40, rfl⟩
abbrev main_v33_1 : Ref sig .tc := ⟨.hbm, 41, rfl⟩
abbrev main_v33_2 : Ref sig .tc := ⟨.hbm, 42, rfl⟩
abbrev main_v33_3 : Ref sig .tc := ⟨.hbm, 43, rfl⟩
abbrev main_v33_4 : Ref sig .tc := ⟨.hbm, 44, rfl⟩
abbrev main_v33_5 : Ref sig .tc := ⟨.hbm, 45, rfl⟩
abbrev main_v33_6 : Ref sig .tc := ⟨.hbm, 46, rfl⟩
abbrev main_v33_7 : Ref sig .tc := ⟨.hbm, 47, rfl⟩
abbrev main_v33_8 : Ref sig .tc := ⟨.hbm, 48, rfl⟩
abbrev main_v33_9 : Ref sig .tc := ⟨.hbm, 49, rfl⟩
abbrev main_v33_10 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_stg19_0 : Ref sig .tc := ⟨.vmem, 30, rfl⟩
abbrev cc0_stg19_1 : Ref sig .tc := ⟨.vmem, 31, rfl⟩
abbrev cc0_stg20_0 : Ref sig .tc := ⟨.vmem, 32, rfl⟩
abbrev cc0_stg20_1 : Ref sig .tc := ⟨.vmem, 33, rfl⟩
abbrev cc0_scratch0 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29
abbrev cc0_sem19_0 : DmaSem sig := 30
abbrev cc0_sem19_1 : DmaSem sig := 31
abbrev cc0_sem20_0 : DmaSem sig := 32
abbrev cc0_sem20_1 : DmaSem sig := 33

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S3x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x512x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x512x128 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x512x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x8x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, false]
-- ==== InProjIdeal.lean ====
abbrev S16x4096x1024 : Shape := ⟨3, ![16, 4096, 1024]⟩
abbrev S16x2x1024 : Shape := ⟨3, ![16, 2, 1024]⟩
abbrev S2x1024x7240 : Shape := ⟨3, ![2, 1024, 7240]⟩
abbrev S2x3x1024 : Shape := ⟨3, ![2, 3, 1024]⟩
abbrev S_ : Shape := ⟨0, ![]⟩
abbrev S16x8x1024 : Shape := ⟨3, ![16, 8, 1024]⟩
abbrev S1x1024x7240 : Shape := ⟨3, ![1, 1024, 7240]⟩
abbrev S1024x7240 : Shape := ⟨2, ![1024, 7240]⟩
abbrev S1024x1024 : Shape := ⟨2, ![1024, 1024]⟩
abbrev S1024x256 : Shape := ⟨2, ![1024, 256]⟩
abbrev S1024x512 : Shape := ⟨2, ![1024, 512]⟩
abbrev S1024x64 : Shape := ⟨2, ![1024, 64]⟩
abbrev S1024x8 : Shape := ⟨2, ![1024, 8]⟩
abbrev S1024x56 : Shape := ⟨2, ![1024, 56]⟩
abbrev S1024x128 : Shape := ⟨2, ![1024, 128]⟩
abbrev S1024x4096 : Shape := ⟨2, ![1024, 4096]⟩
abbrev S1024x4x64 : Shape := ⟨3, ![1024, 4, 64]⟩
abbrev S1024x4x128 : Shape := ⟨3, ![1024, 4, 128]⟩
abbrev S1x3x1024 : Shape := ⟨3, ![1, 3, 1024]⟩
abbrev S3x1024 : Shape := ⟨2, ![3, 1024]⟩
abbrev S16x4096x512 : Shape := ⟨3, ![16, 4096, 512]⟩
abbrev S16x4096x128 : Shape := ⟨3, ![16, 4096, 128]⟩
abbrev S1x512x1024 : Shape := ⟨3, ![1, 512, 1024]⟩
abbrev S1x8x1024 : Shape := ⟨3, ![1, 8, 1024]⟩
abbrev S1x512x512 : Shape := ⟨3, ![1, 512, 512]⟩
abbrev S1x512x128 : Shape := ⟨3, ![1, 512, 128]⟩
abbrev S520x1024 : Shape := ⟨2, ![520, 1024]⟩
abbrev S8x1024 : Shape := ⟨2, ![8, 1024]⟩
abbrev S512x1024 : Shape := ⟨2, ![512, 1024]⟩
abbrev S512x256 : Shape := ⟨2, ![512, 256]⟩
abbrev S1x256 : Shape := ⟨2, ![1, 256]⟩
abbrev S1x512x256 : Shape := ⟨3, ![1, 512, 256]⟩
abbrev S512x512 : Shape := ⟨2, ![512, 512]⟩
abbrev S512x128 : Shape := ⟨2, ![512, 128]⟩

abbrev nBuf : Space → Nat
  | .hbm => 51
  | .vmem => 35
  | .smem => 0
  | _ => 0

abbrev bufTy : (tb : Table) → Fin (tcTables nBuf tb) → BufTy
  | .hbm, ⟨0, _⟩ => ⟨S16x4096x1024, .f32⟩
  | .hbm, ⟨1, _⟩ => ⟨S16x2x1024, .f32⟩
  | .hbm, ⟨2, _⟩ => ⟨S2x1024x7240, .f32⟩
  | .hbm, ⟨3, _⟩ => ⟨S2x3x1024, .f32⟩
  | .hbm, ⟨4, _⟩ => ⟨S_, .i32⟩
  | .hbm, ⟨5, _⟩ => ⟨S_, .f32⟩
  | .hbm, ⟨6, _⟩ => ⟨S16x8x1024, .f32⟩
  | .hbm, ⟨7, _⟩ => ⟨S1x1024x7240, .f32⟩
  | .hbm, ⟨8, _⟩ => ⟨S1024x7240, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S1024x256, .f32⟩
  | .hbm, ⟨14, _⟩ => ⟨S1024x256, .f32⟩
  | .hbm, ⟨15, _⟩ => ⟨S1024x512, .f32⟩
  | .hbm, ⟨16, _⟩ => ⟨S1024x64, .f32⟩
  | .hbm, ⟨17, _⟩ => ⟨S1024x8, .f32⟩
  | .hbm, ⟨18, _⟩ => ⟨S1024x1024, .f32⟩
  | .hbm, ⟨19, _⟩ => ⟨S1024x1024, .f32⟩
  | .hbm, ⟨20, _⟩ => ⟨S_, .f32⟩
  | .hbm, ⟨21, _⟩ => ⟨S1024x56, .f32⟩
  | .hbm, ⟨22, _⟩ => ⟨S1024x128, .f32⟩
  | .hbm, ⟨23, _⟩ => ⟨S1024x4096, .f32⟩
  | .hbm, ⟨24, _⟩ => ⟨S1024x4096, .bf16⟩
  | .hbm, ⟨25, _⟩ => ⟨S1024x1024, .bf16⟩
  | .hbm, ⟨26, _⟩ => ⟨S1024x1024, .bf16⟩
  | .hbm, ⟨27, _⟩ => ⟨S1024x4x64, .f32⟩
  | .hbm, ⟨28, _⟩ => ⟨S1024x4x128, .f32⟩
  | .hbm, ⟨29, _⟩ => ⟨S1024x512, .f32⟩
  | .hbm, ⟨30, _⟩ => ⟨S1024x512, .bf16⟩
  | .hbm, ⟨31, _⟩ => ⟨S1024x4x64, .f32⟩
  | .hbm, ⟨32, _⟩ => ⟨S1024x4x128, .f32⟩
  | .hbm, ⟨33, _⟩ => ⟨S1024x512, .f32⟩
  | .hbm, ⟨34, _⟩ => ⟨S1024x512, .bf16⟩
  | .hbm, ⟨35, _⟩ => ⟨S1024x512, .bf16⟩
  | .hbm, ⟨36, _⟩ => ⟨S1024x256, .f32⟩
  | .hbm, ⟨37, _⟩ => ⟨S1024x256, .bf16⟩
  | .hbm, ⟨38, _⟩ => ⟨S1x3x1024, .f32⟩
  | .hbm, ⟨39, _⟩ => ⟨S3x1024, .f32⟩
  | .hbm, ⟨40, _⟩ => ⟨S16x4096x1024, .f32⟩
  | .hbm, ⟨41, _⟩ => ⟨S16x4096x1024, .bf16⟩
  | .hbm, ⟨42, _⟩ => ⟨S16x4096x1024, .f32⟩
  | .hbm, ⟨43, _⟩ => ⟨S16x4096x512, .f32⟩
  | .hbm, ⟨44, _⟩ => ⟨S16x4096x512, .bf16⟩
  | .hbm, ⟨45, _⟩ => ⟨S16x4096x512, .f32⟩
  | .hbm, ⟨46, _⟩ => ⟨S16x4096x512, .bf16⟩
  | .hbm, ⟨47, _⟩ => ⟨S16x4096x512, .bf16⟩
  | .hbm, ⟨48, _⟩ => ⟨S16x4096x128, .bf16⟩
  | .hbm, ⟨49, _⟩ => ⟨S16x4096x128, .f32⟩
  | .hbm, ⟨50, _⟩ => ⟨S16x8x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x8x1024, .f32⟩
  | .local _ .vmem, ⟨3, _⟩ => ⟨S1x8x1024, .f32⟩
  | .local _ .vmem, ⟨4, _⟩ => ⟨S1024x4096, .bf16⟩
  | .local _ .vmem, ⟨5, _⟩ => ⟨S1024x1024, .bf16⟩
  | .local _ .vmem, ⟨6, _⟩ => ⟨S1024x1024, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x256, .bf16⟩
  | .local _ .vmem, ⟨11, _⟩ => ⟨S3x1024, .f32⟩
  | .local _ .vmem, ⟨12, _⟩ => ⟨S1x512x1024, .f32⟩
  | .local _ .vmem, ⟨13, _⟩ => ⟨S1x512x1024, .f32⟩
  | .local _ .vmem, ⟨14, _⟩ => ⟨S1x512x1024, .bf16⟩
  | .local _ .vmem, ⟨15, _⟩ => ⟨S1x512x1024, .bf16⟩
  | .local _ .vmem, ⟨16, _⟩ => ⟨S1x512x1024, .f32⟩
  | .local _ .vmem, ⟨17, _⟩ => ⟨S1x512x1024, .f32⟩
  | .local _ .vmem, ⟨18, _⟩ => ⟨S1x512x512, .f32⟩
  | .local _ .vmem, ⟨19, _⟩ => ⟨S1x512x512, .f32⟩
  | .local _ .vmem, ⟨20, _⟩ => ⟨S1x512x512, .bf16⟩
  | .local _ .vmem, ⟨21, _⟩ => ⟨S1x512x512, .bf16⟩
  | .local _ .vmem, ⟨22, _⟩ => ⟨S1x512x512, .f32⟩
  | .local _ .vmem, ⟨23, _⟩ => ⟨S1x512x512, .f32⟩
  | .local _ .vmem, ⟨24, _⟩ => ⟨S1x512x512, .bf16⟩
  | .local _ .vmem, ⟨25, _⟩ => ⟨S1x512x512, .bf16⟩
  | .local _ .vmem, ⟨26, _⟩ => ⟨S1x512x512, .bf16⟩
  | .local _ .vmem, ⟨27, _⟩ => ⟨S1x512x512, .bf16⟩
  | .local _ .vmem, ⟨28, _⟩ => ⟨S1x512x128, .bf16⟩
  | .local _ .vmem, ⟨29, _⟩ => ⟨S1x512x128, .bf16⟩
  | .local _ .vmem, ⟨30, _⟩ => ⟨S1x512x128, .f32⟩
  | .local _ .vmem, ⟨31, _⟩ => ⟨S1x512x128, .f32⟩
  | .local _ .vmem, ⟨32, _⟩ => ⟨S1x8x1024, .f32⟩
  | .local _ .vmem, ⟨33, _⟩ => ⟨S1x8x1024, .f32⟩
  | .local _ .vmem, ⟨34, _⟩ => ⟨S520x1024, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33_0 : Ref sig .tc := ⟨.hbm, 40, rfl⟩
abbrev main_v33_1 : Ref sig .tc := ⟨.hbm, 41, rfl⟩
abbrev main_v33_2 : Ref sig .tc := ⟨.hbm, 42, rfl⟩
abbrev main_v33_3 : Ref sig .tc := ⟨.hbm, 43, rfl⟩
abbrev main_v33_4 : Ref sig .tc := ⟨.hbm, 44, rfl⟩
abbrev main_v33_5 : Ref sig .tc := ⟨.hbm, 45, rfl⟩
abbrev main_v33_6 : Ref sig .tc := ⟨.hbm, 46, rfl⟩
abbrev main_v33_7 : Ref sig .tc := ⟨.hbm, 47, rfl⟩
abbrev main_v33_8 : Ref sig .tc := ⟨.hbm, 48, rfl⟩
abbrev main_v33_9 : Ref sig .tc := ⟨.hbm, 49, rfl⟩
abbrev main_v33_10 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_stg19_0 : Ref sig .tc := ⟨.vmem, 30, rfl⟩
abbrev cc0_stg19_1 : Ref sig .tc := ⟨.vmem, 31, rfl⟩
abbrev cc0_stg20_0 : Ref sig .tc := ⟨.vmem, 32, rfl⟩
abbrev cc0_stg20_1 : Ref sig .tc := ⟨.vmem, 33, rfl⟩
abbrev cc0_scratch0 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29
abbrev cc0_sem19_0 : DmaSem sig := 30
abbrev cc0_sem19_1 : DmaSem sig := 31
abbrev cc0_sem20_0 : DmaSem sig := 32
abbrev cc0_sem20_1 : DmaSem sig := 33

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S3x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x512x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x512x128 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x512x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x8x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, false]
-- ==== InProjRefIdeal.lean ====
abbrev S16x4096x1024 : Shape := ⟨3, ![16, 4096, 1024]⟩
abbrev S16x2x1024 : Shape := ⟨3, ![16, 2, 1024]⟩
abbrev S2x1024x7240 : Shape := ⟨3, ![2, 1024, 7240]⟩
abbrev S2x3x1024 : Shape := ⟨3, ![2, 3, 1024]⟩
abbrev S1x1024x7240 : Shape := ⟨3, ![1, 1024, 7240]⟩
abbrev S1024x7240 : Shape := ⟨2, ![1024, 7240]⟩
abbrev S16x4096x7240 : Shape := ⟨3, ![16, 4096, 7240]⟩
abbrev S16x4096x256 : Shape := ⟨3, ![16, 4096, 256]⟩
abbrev S16x4096x512 : Shape := ⟨3, ![16, 4096, 512]⟩
abbrev S16x4096x64 : Shape := ⟨3, ![16, 4096, 64]⟩
abbrev S16x4096x8 : Shape := ⟨3, ![16, 4096, 8]⟩
abbrev S16x4098x1024 : Shape := ⟨3, ![16, 4098, 1024]⟩
abbrev S1x1x1024 : Shape := ⟨3, ![1, 1, 1024]⟩
abbrev S1024 : Shape := ⟨1, ![1024]⟩
abbrev S_ : Shape := ⟨0, ![]⟩
abbrev S16x4096x4x1x64 : Shape := ⟨5, ![16, 4096, 4, 1, 64]⟩
abbrev S16x4096x4x2x64 : Shape := ⟨5, ![16, 4096, 4, 2, 64]⟩
abbrev S16x4096x128 : Shape := ⟨3, ![16, 4096, 128]⟩
abbrev S16x4096x56 : Shape := ⟨3, ![16, 4096, 56]⟩
abbrev S16x8x1024 : Shape := ⟨3, ![16, 8, 1024]⟩

abbrev nBuf : Space → Nat
  | .hbm => 77
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S16x2x1024, .f32⟩
  | .hbm, ⟨2, _⟩ => ⟨S2x1024x7240, .f32⟩
  | .hbm, ⟨3, _⟩ => ⟨S2x3x1024, .f32⟩
  | .hbm, ⟨4, _⟩ => ⟨S1x1024x7240, .f32⟩
  | .hbm, ⟨5, _⟩ => ⟨S1024x7240, .f32⟩
  | .hbm, ⟨6, _⟩ => ⟨S16x4096x7240, .f32⟩
  | .hbm, ⟨7, _⟩ => ⟨S16x4096x1024, .f32⟩
  | .hbm, ⟨8, _⟩ => ⟨S16x4096x1024, .f32⟩
  | .hbm, ⟨9, _⟩ => ⟨S16x4096x1024, .f32⟩
  | .hbm, ⟨10, _⟩ => ⟨S16x4096x1024, .f32⟩
  | .hbm, ⟨11, _⟩ => ⟨S16x4096x256, .f32⟩
  | .hbm, ⟨12, _⟩ => ⟨S16x4096x256, .f32⟩
  | .hbm, ⟨13, _⟩ => ⟨S16x4096x512, .f32⟩
  | .hbm, ⟨14, _⟩ => ⟨S16x4096x64, .f32⟩
  | .hbm, ⟨15, _⟩ => ⟨S16x4096x8, .f32⟩
  | .hbm, ⟨16, _⟩ => ⟨S16x4096x1024, .f32⟩
  | .hbm, ⟨17, _⟩ => ⟨S16x4096x1024, .f32⟩
  | .hbm, ⟨18, _⟩ => ⟨S16x4096x1024, .f32⟩
  | .hbm, ⟨19, _⟩ => ⟨S16x4098x1024, .f32⟩
  | .hbm, ⟨20, _⟩ => ⟨S16x4096x1024, .f32⟩
  | .hbm, ⟨21, _⟩ => ⟨S1x1x1024, .f32⟩
  | .hbm, ⟨22, _⟩ => ⟨S1024, .f32⟩
  | .hbm, ⟨23, _⟩ => ⟨S1x1x1024, .f32⟩
  | .hbm, ⟨24, _⟩ => ⟨S16x4096x1024, .f32⟩
  | .hbm, ⟨25, _⟩ => ⟨S16x4096x1024, .f32⟩
  | .hbm, ⟨26, _⟩ => ⟨S16x4096x1024, .f32⟩
  | .hbm, ⟨27, _⟩ => ⟨S1x1x1024, .f32⟩
  | .hbm, ⟨28, _⟩ => ⟨S1024, .f32⟩
  | .hbm, ⟨29, _⟩ => ⟨S1x1x1024, .f32⟩
  | .hbm, ⟨30, _⟩ => ⟨S16x4096x1024, .f32⟩
  | .hbm, ⟨31, _⟩ => ⟨S16x4096x1024, .f32⟩
  | .hbm, ⟨32, _⟩ => ⟨S16x4096x1024, .f32⟩
  | .hbm, ⟨33, _⟩ => ⟨S16x4096x1024, .f32⟩
  | .hbm, ⟨34, _⟩ => ⟨S1x1x1024, .f32⟩
  | .hbm, ⟨35, _⟩ => ⟨S1024, .f32⟩
  | .hbm, ⟨36, _⟩ => ⟨S1x1x1024, .f32⟩
  | .hbm, ⟨37, _⟩ => ⟨S16x4096x1024, .f32⟩
  | .hbm, ⟨38, _⟩ => ⟨S16x4096x1024, .f32⟩
  | .hbm, ⟨39, _⟩ => ⟨S16x4096x1024, .f32⟩
  | .hbm, ⟨40, _⟩ => ⟨S16x4096x1024, .f32⟩
  | .hbm, ⟨41, _⟩ => ⟨S16x4096x1024, .f32⟩
  | .hbm, ⟨42, _⟩ => ⟨S_, .f32⟩
  | .hbm, ⟨43, _⟩ => ⟨S16x4096x1024, .f32⟩
  | .hbm, ⟨44, _⟩ => ⟨S16x4096x1024, .f32⟩
  | .hbm, ⟨45, _⟩ => ⟨S_, .f32⟩
  | .hbm, ⟨46, _⟩ => ⟨S16x4096x1024, .f32⟩
  | .hbm, ⟨47, _⟩ => ⟨S16x4096x1024, .f32⟩
  | .hbm, ⟨48, _⟩ => ⟨S16x4096x1024, .f32⟩
  | .hbm, ⟨49, _⟩ => ⟨S16x4096x1024, .f32⟩
  | .hbm, ⟨50, _⟩ => ⟨S16x4096x4x1x64, .f32⟩
  | .hbm, ⟨51, _⟩ => ⟨S16x4096x4x1x64, .f32⟩
  | .hbm, ⟨52, _⟩ => ⟨S16x4096x4x2x64, .f32⟩
  | .hbm, ⟨53, _⟩ => ⟨S16x4096x512, .f32⟩
  | .hbm, ⟨54, _⟩ => ⟨S16x4096x4x2x64, .f32⟩
  | .hbm, ⟨55, _⟩ => ⟨S16x4096x512, .f32⟩
  | .hbm, ⟨56, _⟩ => ⟨S16x4096x128, .f32⟩
  | .hbm, ⟨57, _⟩ => ⟨S_, .f32⟩
  | .hbm, ⟨58, _⟩ => ⟨S16x4096x56, .f32⟩
  | .hbm, ⟨59, _⟩ => ⟨S16x4096x128, .f32⟩
  | .hbm, ⟨60, _⟩ => ⟨S_, .f32⟩
  | .hbm, ⟨61, _⟩ => ⟨S16x4096x1024, .f32⟩
  | .hbm, ⟨62, _⟩ => ⟨S16x4096x1024, .f32⟩
  | .hbm, ⟨63, _⟩ => ⟨S16x4096x1024, .bf16⟩
  | .hbm, ⟨64, _⟩ => ⟨S16x4096x1024, .f32⟩
  | .hbm, ⟨65, _⟩ => ⟨S16x4096x1024, .f32⟩
  | .hbm, ⟨66, _⟩ => ⟨S_, .f32⟩
  | .hbm, ⟨67, _⟩ => ⟨S16x4096x1024, .f32⟩
  | .hbm, ⟨68, _⟩ => ⟨S16x4096x1024, .f32⟩
  | .hbm, ⟨69, _⟩ => ⟨S_, .f32⟩
  | .hbm, ⟨70, _⟩ => ⟨S16x4096x1024, .f32⟩
  | .hbm, ⟨71, _⟩ => ⟨S16x4096x1024, .f32⟩
  | .hbm, ⟨72, _⟩ => ⟨S16x4096x512, .bf16⟩
  | .hbm, ⟨73, _⟩ => ⟨S16x4096x512, .bf16⟩
  | .hbm, ⟨74, _⟩ => ⟨S16x4096x512, .bf16⟩
  | .hbm, ⟨75, _⟩ => ⟨S16x4096x128, .bf16⟩
  | .hbm, ⟨76, _⟩ => ⟨S16x8x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_cst : Ref sig .tc := ⟨.hbm, 42, rfl⟩
abbrev main_v38 : Ref sig .tc := ⟨.hbm, 43, rfl⟩
abbrev main_v39 : Ref sig .tc := ⟨.hbm, 44, rfl⟩
abbrev main_cst_0 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_cst_1 : Ref sig .tc := ⟨.hbm, 57, rfl⟩
abbrev main_v51 : Ref sig .tc := ⟨.hbm, 58, rfl⟩
abbrev main_v52 : Ref sig .tc := ⟨.hbm, 59, rfl⟩
abbrev main_cst_2 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_cst_3 : Ref sig .tc := ⟨.hbm, 66, rfl⟩
abbrev main_v58 : Ref sig .tc := ⟨.hbm, 67, rfl⟩
abbrev main_v59 : Ref sig .tc := ⟨.hbm, 68, rfl⟩
abbrev main_cst_4 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩

abbrev nD : Nat := 1
abbrev τ : Topo := Topo.v7x

variable {F : FTy → Type} [FloatOps F]
-- ==== InProjSample.lean ====
abbrev S16x16x1024 : Shape := ⟨3, ![16, 16, 1024]⟩
abbrev S16x2x1024 : Shape := ⟨3, ![16, 2, 1024]⟩
abbrev S2x1024x7240 : Shape := ⟨3, ![2, 1024, 7240]⟩
abbrev S2x3x1024 : Shape := ⟨3, ![2, 3, 1024]⟩
abbrev S_ : Shape := ⟨0, ![]⟩
abbrev S16x8x1024 : Shape := ⟨3, ![16, 8, 1024]⟩
abbrev S1x1024x7240 : Shape := ⟨3, ![1, 1024, 7240]⟩
abbrev S1024x7240 : Shape := ⟨2, ![1024, 7240]⟩
abbrev S1024x1024 : Shape := ⟨2, ![1024, 1024]⟩
abbrev S1024x256 : Shape := ⟨2, ![1024, 256]⟩
abbrev S1024x512 : Shape := ⟨2, ![1024, 512]⟩
abbrev S1024x64 : Shape := ⟨2, ![1024, 64]⟩
abbrev S1024x8 : Shape := ⟨2, ![1024, 8]⟩
abbrev S1024x56 : Shape := ⟨2, ![1024, 56]⟩
abbrev S1024x128 : Shape := ⟨2, ![1024, 128]⟩
abbrev S1024x4096 : Shape := ⟨2, ![1024, 4096]⟩
abbrev S1024x4x64 : Shape := ⟨3, ![1024, 4, 64]⟩
abbrev S1024x4x128 : Shape := ⟨3, ![1024, 4, 128]⟩
abbrev S1x3x1024 : Shape := ⟨3, ![1, 3, 1024]⟩
abbrev S3x1024 : Shape := ⟨2, ![3, 1024]⟩
abbrev S16x16x512 : Shape := ⟨3, ![16, 16, 512]⟩
abbrev S16x16x128 : Shape := ⟨3, ![16, 16, 128]⟩
abbrev S1x16x1024 : Shape := ⟨3, ![1, 16, 1024]⟩
abbrev S1x8x1024 : Shape := ⟨3, ![1, 8, 1024]⟩
abbrev S1x16x512 : Shape := ⟨3, ![1, 16, 512]⟩
abbrev S1x16x128 : Shape := ⟨3, ![1, 16, 128]⟩
abbrev S24x1024 : Shape := ⟨2, ![24, 1024]⟩
abbrev S8x1024 : Shape := ⟨2, ![8, 1024]⟩
abbrev S16x1024 : Shape := ⟨2, ![16, 1024]⟩
abbrev S16x256 : Shape := ⟨2, ![16, 256]⟩
abbrev S1x256 : Shape := ⟨2, ![1, 256]⟩
abbrev S1x16x256 : Shape := ⟨3, ![1, 16, 256]⟩
abbrev S16x512 : Shape := ⟨2, ![16, 512]⟩
abbrev S16x128 : Shape := ⟨2, ![16, 128]⟩

abbrev nBuf : Space → Nat
  | .hbm => 51
  | .vmem => 35
  | .smem => 0
  | _ => 0

abbrev bufTy : (tb : Table) → Fin (tcTables nBuf tb) → BufTy
  | .hbm, ⟨0, _⟩ => ⟨S16x16x1024, .f32⟩
  | .hbm, ⟨1, _⟩ => ⟨S16x2x1024, .f32⟩
  | .hbm, ⟨2, _⟩ => ⟨S2x1024x7240, .f32⟩
  | .hbm, ⟨3, _⟩ => ⟨S2x3x1024, .f32⟩
  | .hbm, ⟨4, _⟩ => ⟨S_, .i32⟩
  | .hbm, ⟨5, _⟩ => ⟨S_, .f32⟩
  | .hbm, ⟨6, _⟩ => ⟨S16x8x1024, .f32⟩
  | .hbm, ⟨7, _⟩ => ⟨S1x1024x7240, .f32⟩
  | .hbm, ⟨8, _⟩ => ⟨S1024x7240, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S1024x256, .f32⟩
  | .hbm, ⟨14, _⟩ => ⟨S1024x256, .f32⟩
  | .hbm, ⟨15, _⟩ => ⟨S1024x512, .f32⟩
  | .hbm, ⟨16, _⟩ => ⟨S1024x64, .f32⟩
  | .hbm, ⟨17, _⟩ => ⟨S1024x8, .f32⟩
  | .hbm, ⟨18, _⟩ => ⟨S1024x1024, .f32⟩
  | .hbm, ⟨19, _⟩ => ⟨S1024x1024, .f32⟩
  | .hbm, ⟨20, _⟩ => ⟨S_, .f32⟩
  | .hbm, ⟨21, _⟩ => ⟨S1024x56, .f32⟩
  | .hbm, ⟨22, _⟩ => ⟨S1024x128, .f32⟩
  | .hbm, ⟨23, _⟩ => ⟨S1024x4096, .f32⟩
  | .hbm, ⟨24, _⟩ => ⟨S1024x4096, .bf16⟩
  | .hbm, ⟨25, _⟩ => ⟨S1024x1024, .bf16⟩
  | .hbm, ⟨26, _⟩ => ⟨S1024x1024, .bf16⟩
  | .hbm, ⟨27, _⟩ => ⟨S1024x4x64, .f32⟩
  | .hbm, ⟨28, _⟩ => ⟨S1024x4x128, .f32⟩
  | .hbm, ⟨29, _⟩ => ⟨S1024x512, .f32⟩
  | .hbm, ⟨30, _⟩ => ⟨S1024x512, .bf16⟩
  | .hbm, ⟨31, _⟩ => ⟨S1024x4x64, .f32⟩
  | .hbm, ⟨32, _⟩ => ⟨S1024x4x128, .f32⟩
  | .hbm, ⟨33, _⟩ => ⟨S1024x512, .f32⟩
  | .hbm, ⟨34, _⟩ => ⟨S1024x512, .bf16⟩
  | .hbm, ⟨35, _⟩ => ⟨S1024x512, .bf16⟩
  | .hbm, ⟨36, _⟩ => ⟨S1024x256, .f32⟩
  | .hbm, ⟨37, _⟩ => ⟨S1024x256, .bf16⟩
  | .hbm, ⟨38, _⟩ => ⟨S1x3x1024, .f32⟩
  | .hbm, ⟨39, _⟩ => ⟨S3x1024, .f32⟩
  | .hbm, ⟨40, _⟩ => ⟨S16x16x1024, .f32⟩
  | .hbm, ⟨41, _⟩ => ⟨S16x16x1024, .bf16⟩
  | .hbm, ⟨42, _⟩ => ⟨S16x16x1024, .f32⟩
  | .hbm, ⟨43, _⟩ => ⟨S16x16x512, .f32⟩
  | .hbm, ⟨44, _⟩ => ⟨S16x16x512, .bf16⟩
  | .hbm, ⟨45, _⟩ => ⟨S16x16x512, .f32⟩
  | .hbm, ⟨46, _⟩ => ⟨S16x16x512, .bf16⟩
  | .hbm, ⟨47, _⟩ => ⟨S16x16x512, .bf16⟩
  | .hbm, ⟨48, _⟩ => ⟨S16x16x128, .bf16⟩
  | .hbm, ⟨49, _⟩ => ⟨S16x16x128, .f32⟩
  | .hbm, ⟨50, _⟩ => ⟨S16x8x1024, .f32⟩
  | .local _ .vmem, ⟨0, _⟩ => ⟨S1x16x1024, .f32⟩
  | .local _ .vmem, ⟨1, _⟩ => ⟨S1x16x1024, .f32⟩
  | .local _ .vmem, ⟨2, _⟩ => ⟨S1x8x1024, .f32⟩
  | .local _ .vmem, ⟨3, _⟩ => ⟨S1x8x1024, .f32⟩
  | .local _ .vmem, ⟨4, _⟩ => ⟨S1024x4096, .bf16⟩
  | .local _ .vmem, ⟨5, _⟩ => ⟨S1024x1024, .bf16⟩
  | .local _ .vmem, ⟨6, _⟩ => ⟨S1024x1024, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x256, .bf16⟩
  | .local _ .vmem, ⟨11, _⟩ => ⟨S3x1024, .f32⟩
  | .local _ .vmem, ⟨12, _⟩ => ⟨S1x16x1024, .f32⟩
  | .local _ .vmem, ⟨13, _⟩ => ⟨S1x16x1024, .f32⟩
  | .local _ .vmem, ⟨14, _⟩ => ⟨S1x16x1024, .bf16⟩
  | .local _ .vmem, ⟨15, _⟩ => ⟨S1x16x1024, .bf16⟩
  | .local _ .vmem, ⟨16, _⟩ => ⟨S1x16x1024, .f32⟩
  | .local _ .vmem, ⟨17, _⟩ => ⟨S1x16x1024, .f32⟩
  | .local _ .vmem, ⟨18, _⟩ => ⟨S1x16x512, .f32⟩
  | .local _ .vmem, ⟨19, _⟩ => ⟨S1x16x512, .f32⟩
  | .local _ .vmem, ⟨20, _⟩ => ⟨S1x16x512, .bf16⟩
  | .local _ .vmem, ⟨21, _⟩ => ⟨S1x16x512, .bf16⟩
  | .local _ .vmem, ⟨22, _⟩ => ⟨S1x16x512, .f32⟩
  | .local _ .vmem, ⟨23, _⟩ => ⟨S1x16x512, .f32⟩
  | .local _ .vmem, ⟨24, _⟩ => ⟨S1x16x512, .bf16⟩
  | .local _ .vmem, ⟨25, _⟩ => ⟨S1x16x512, .bf16⟩
  | .local _ .vmem, ⟨26, _⟩ => ⟨S1x16x512, .bf16⟩
  | .local _ .vmem, ⟨27, _⟩ => ⟨S1x16x512, .bf16⟩
  | .local _ .vmem, ⟨28, _⟩ => ⟨S1x16x128, .bf16⟩
  | .local _ .vmem, ⟨29, _⟩ => ⟨S1x16x128, .bf16⟩
  | .local _ .vmem, ⟨30, _⟩ => ⟨S1x16x128, .f32⟩
  | .local _ .vmem, ⟨31, _⟩ => ⟨S1x16x128, .f32⟩
  | .local _ .vmem, ⟨32, _⟩ => ⟨S1x8x1024, .f32⟩
  | .local _ .vmem, ⟨33, _⟩ => ⟨S1x8x1024, .f32⟩
  | .local _ .vmem, ⟨34, _⟩ => ⟨S24x1024, .f32⟩
  | _, _ => ⟨S16x16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33_0 : Ref sig .tc := ⟨.hbm, 40, rfl⟩
abbrev main_v33_1 : Ref sig .tc := ⟨.hbm, 41, rfl⟩
abbrev main_v33_2 : Ref sig .tc := ⟨.hbm, 42, rfl⟩
abbrev main_v33_3 : Ref sig .tc := ⟨.hbm, 43, rfl⟩
abbrev main_v33_4 : Ref sig .tc := ⟨.hbm, 44, rfl⟩
abbrev main_v33_5 : Ref sig .tc := ⟨.hbm, 45, rfl⟩
abbrev main_v33_6 : Ref sig .tc := ⟨.hbm, 46, rfl⟩
abbrev main_v33_7 : Ref sig .tc := ⟨.hbm, 47, rfl⟩
abbrev main_v33_8 : Ref sig .tc := ⟨.hbm, 48, rfl⟩
abbrev main_v33_9 : Ref sig .tc := ⟨.hbm, 49, rfl⟩
abbrev main_v33_10 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_stg19_0 : Ref sig .tc := ⟨.vmem, 30, rfl⟩
abbrev cc0_stg19_1 : Ref sig .tc := ⟨.vmem, 31, rfl⟩
abbrev cc0_stg20_0 : Ref sig .tc := ⟨.vmem, 32, rfl⟩
abbrev cc0_stg20_1 : Ref sig .tc := ⟨.vmem, 33, rfl⟩
abbrev cc0_scratch0 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29
abbrev cc0_sem19_0 : DmaSem sig := 30
abbrev cc0_sem19_1 : DmaSem sig := 31
abbrev cc0_sem20_0 : DmaSem sig := 32
abbrev cc0_sem20_1 : DmaSem sig := 33

abbrev nD : Nat := 1
abbrev τ : Topo := Topo.v7x

variable {F : FTy → Type} [FloatOps F]

abbrev grid0 : Pipeline.Grid := ⟨2, ![16, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S3x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x16x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x16x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x16x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x16x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x16x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x16x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x16x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x16x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x16x128 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x16x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x8x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, false]
-- ==== InProjSampleRefIdeal.lean ====
abbrev S16x16x1024 : Shape := ⟨3, ![16, 16, 1024]⟩
abbrev S16x2x1024 : Shape := ⟨3, ![16, 2, 1024]⟩
abbrev S2x1024x7240 : Shape := ⟨3, ![2, 1024, 7240]⟩
abbrev S2x3x1024 : Shape := ⟨3, ![2, 3, 1024]⟩
abbrev S1x1024x7240 : Shape := ⟨3, ![1, 1024, 7240]⟩
abbrev S1024x7240 : Shape := ⟨2, ![1024, 7240]⟩
abbrev S16x16x7240 : Shape := ⟨3, ![16, 16, 7240]⟩
abbrev S16x16x256 : Shape := ⟨3, ![16, 16, 256]⟩
abbrev S16x16x512 : Shape := ⟨3, ![16, 16, 512]⟩
abbrev S16x16x64 : Shape := ⟨3, ![16, 16, 64]⟩
abbrev S16x16x8 : Shape := ⟨3, ![16, 16, 8]⟩
abbrev S16x18x1024 : Shape := ⟨3, ![16, 18, 1024]⟩
abbrev S1x1x1024 : Shape := ⟨3, ![1, 1, 1024]⟩
abbrev S1024 : Shape := ⟨1, ![1024]⟩
abbrev S_ : Shape := ⟨0, ![]⟩
abbrev S16x16x4x1x64 : Shape := ⟨5, ![16, 16, 4, 1, 64]⟩
abbrev S16x16x4x2x64 : Shape := ⟨5, ![16, 16, 4, 2, 64]⟩
abbrev S16x16x128 : Shape := ⟨3, ![16, 16, 128]⟩
abbrev S16x16x56 : Shape := ⟨3, ![16, 16, 56]⟩
abbrev S16x8x1024 : Shape := ⟨3, ![16, 8, 1024]⟩

abbrev nBuf : Space → Nat
  | .hbm => 77
  | .vmem => 0
  | .smem => 0
  | _ => 0

abbrev bufTy : (tb : Table) → Fin (tcTables nBuf tb) → BufTy
  | .hbm, ⟨0, _⟩ => ⟨S16x16x1024, .f32⟩
  | .hbm, ⟨1, _⟩ => ⟨S16x2x1024, .f32⟩
  | .hbm, ⟨2, _⟩ => ⟨S2x1024x7240, .f32⟩
  | .hbm, ⟨3, _⟩ => ⟨S2x3x1024, .f32⟩
  | .hbm, ⟨4, _⟩ => ⟨S1x1024x7240, .f32⟩
  | .hbm, ⟨5, _⟩ => ⟨S1024x7240, .f32⟩
  | .hbm, ⟨6, _⟩ => ⟨S16x16x7240, .f32⟩
  | .hbm, ⟨7, _⟩ => ⟨S16x16x1024, .f32⟩
  | .hbm, ⟨8, _⟩ => ⟨S16x16x1024, .f32⟩
  | .hbm, ⟨9, _⟩ => ⟨S16x16x1024, .f32⟩
  | .hbm, ⟨10, _⟩ => ⟨S16x16x1024, .f32⟩
  | .hbm, ⟨11, _⟩ => ⟨S16x16x256, .f32⟩
  | .hbm, ⟨12, _⟩ => ⟨S16x16x256, .f32⟩
  | .hbm, ⟨13, _⟩ => ⟨S16x16x512, .f32⟩
  | .hbm, ⟨14, _⟩ => ⟨S16x16x64, .f32⟩
  | .hbm, ⟨15, _⟩ => ⟨S16x16x8, .f32⟩
  | .hbm, ⟨16, _⟩ => ⟨S16x16x1024, .f32⟩
  | .hbm, ⟨17, _⟩ => ⟨S16x16x1024, .f32⟩
  | .hbm, ⟨18, _⟩ => ⟨S16x16x1024, .f32⟩
  | .hbm, ⟨19, _⟩ => ⟨S16x18x1024, .f32⟩
  | .hbm, ⟨20, _⟩ => ⟨S16x16x1024, .f32⟩
  | .hbm, ⟨21, _⟩ => ⟨S1x1x1024, .f32⟩
  | .hbm, ⟨22, _⟩ => ⟨S1024, .f32⟩
  | .hbm, ⟨23, _⟩ => ⟨S1x1x1024, .f32⟩
  | .hbm, ⟨24, _⟩ => ⟨S16x16x1024, .f32⟩
  | .hbm, ⟨25, _⟩ => ⟨S16x16x1024, .f32⟩
  | .hbm, ⟨26, _⟩ => ⟨S16x16x1024, .f32⟩
  | .hbm, ⟨27, _⟩ => ⟨S1x1x1024, .f32⟩
  | .hbm, ⟨28, _⟩ => ⟨S1024, .f32⟩
  | .hbm, ⟨29, _⟩ => ⟨S1x1x1024, .f32⟩
  | .hbm, ⟨30, _⟩ => ⟨S16x16x1024, .f32⟩
  | .hbm, ⟨31, _⟩ => ⟨S16x16x1024, .f32⟩
  | .hbm, ⟨32, _⟩ => ⟨S16x16x1024, .f32⟩
  | .hbm, ⟨33, _⟩ => ⟨S16x16x1024, .f32⟩
  | .hbm, ⟨34, _⟩ => ⟨S1x1x1024, .f32⟩
  | .hbm, ⟨35, _⟩ => ⟨S1024, .f32⟩
  | .hbm, ⟨36, _⟩ => ⟨S1x1x1024, .f32⟩
  | .hbm, ⟨37, _⟩ => ⟨S16x16x1024, .f32⟩
  | .hbm, ⟨38, _⟩ => ⟨S16x16x1024, .f32⟩
  | .hbm, ⟨39, _⟩ => ⟨S16x16x1024, .f32⟩
  | .hbm, ⟨40, _⟩ => ⟨S16x16x1024, .f32⟩
  | .hbm, ⟨41, _⟩ => ⟨S16x16x1024, .f32⟩
  | .hbm, ⟨42, _⟩ => ⟨S_, .f32⟩
  | .hbm, ⟨43, _⟩ => ⟨S16x16x1024, .f32⟩
  | .hbm, ⟨44, _⟩ => ⟨S16x16x1024, .f32⟩
  | .hbm, ⟨45, _⟩ => ⟨S_, .f32⟩
  | .hbm, ⟨46, _⟩ => ⟨S16x16x1024, .f32⟩
  | .hbm, ⟨47, _⟩ => ⟨S16x16x1024, .f32⟩
  | .hbm, ⟨48, _⟩ => ⟨S16x16x1024, .f32⟩
  | .hbm, ⟨49, _⟩ => ⟨S16x16x1024, .f32⟩
  | .hbm, ⟨50, _⟩ => ⟨S16x16x4x1x64, .f32⟩
  | .hbm, ⟨51, _⟩ => ⟨S16x16x4x1x64, .f32⟩
  | .hbm, ⟨52, _⟩ => ⟨S16x16x4x2x64, .f32⟩
  | .hbm, ⟨53, _⟩ => ⟨S16x16x512, .f32⟩
  | .hbm, ⟨54, _⟩ => ⟨S16x16x4x2x64, .f32⟩
  | .hbm, ⟨55, _⟩ => ⟨S16x16x512, .f32⟩
  | .hbm, ⟨56, _⟩ => ⟨S16x16x128, .f32⟩
  | .hbm, ⟨57, _⟩ => ⟨S_, .f32⟩
  | .hbm, ⟨58, _⟩ => ⟨S16x16x56, .f32⟩
  | .hbm, ⟨59, _⟩ => ⟨S16x16x128, .f32⟩
  | .hbm, ⟨60, _⟩ => ⟨S_, .f32⟩
  | .hbm, ⟨61, _⟩ => ⟨S16x16x1024, .f32⟩
  | .hbm, ⟨62, _⟩ => ⟨S16x16x1024, .f32⟩
  | .hbm, ⟨63, _⟩ => ⟨S16x16x1024, .bf16⟩
  | .hbm, ⟨64, _⟩ => ⟨S16x16x1024, .f32⟩
  | .hbm, ⟨65, _⟩ => ⟨S16x16x1024, .f32⟩
  | .hbm, ⟨66, _⟩ => ⟨S_, .f32⟩
  | .hbm, ⟨67, _⟩ => ⟨S16x16x1024, .f32⟩
  | .hbm, ⟨68, _⟩ => ⟨S16x16x1024, .f32⟩
  | .hbm, ⟨69, _⟩ => ⟨S_, .f32⟩
  | .hbm, ⟨70, _⟩ => ⟨S16x16x1024, .f32⟩
  | .hbm, ⟨71, _⟩ => ⟨S16x16x1024, .f32⟩
  | .hbm, ⟨72, _⟩ => ⟨S16x16x512, .bf16⟩
  | .hbm, ⟨73, _⟩ => ⟨S16x16x512, .bf16⟩
  | .hbm, ⟨74, _⟩ => ⟨S16x16x512, .bf16⟩
  | .hbm, ⟨75, _⟩ => ⟨S16x16x128, .bf16⟩
  | .hbm, ⟨76, _⟩ => ⟨S16x8x1024, .f32⟩
  | _, _ => ⟨S16x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_cst : Ref sig .tc := ⟨.hbm, 42, rfl⟩
abbrev main_v38 : Ref sig .tc := ⟨.hbm, 43, rfl⟩
abbrev main_v39 : Ref sig .tc := ⟨.hbm, 44, rfl⟩
abbrev main_cst_0 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_cst_1 : Ref sig .tc := ⟨.hbm, 57, rfl⟩
abbrev main_v51 : Ref sig .tc := ⟨.hbm, 58, rfl⟩
abbrev main_v52 : Ref sig .tc := ⟨.hbm, 59, rfl⟩
abbrev main_cst_2 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_cst_3 : Ref sig .tc := ⟨.hbm, 66, rfl⟩
abbrev main_v58 : Ref sig .tc := ⟨.hbm, 67, rfl⟩
abbrev main_v59 : Ref sig .tc := ⟨.hbm, 68, rfl⟩
abbrev main_cst_4 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩

abbrev nD : Nat := 1
abbrev τ : Topo := Topo.v7x

variable {F : FTy → Type} [FloatOps F]
-- ==== MoeSample.lean ====
abbrev S256x1024 : Shape := ⟨2, ![256, 1024]⟩
abbrev S1x1024x8 : Shape := ⟨3, ![1, 1024, 8]⟩
abbrev S1x8 : Shape := ⟨2, ![1, 8]⟩
abbrev S1x8x1024x1408 : Shape := ⟨4, ![1, 8, 1024, 1408]⟩
abbrev S1x8x1408x1024 : Shape := ⟨4, ![1, 8, 1408, 1024]⟩
abbrev S2x1024 : Shape := ⟨2, ![2, 1024]⟩
abbrev S1024x8 : Shape := ⟨2, ![1024, 8]⟩
abbrev S_ : Shape := ⟨0, ![]⟩
abbrev S1024x128 : Shape := ⟨2, ![1024, 128]⟩
abbrev S8 : Shape := ⟨1, ![8]⟩
abbrev S128 : Shape := ⟨1, ![128]⟩
abbrev S1x128 : Shape := ⟨2, ![1, 128]⟩
abbrev S8x1024x1408 : Shape := ⟨3, ![8, 1024, 1408]⟩
abbrev S8x1408x1024 : Shape := ⟨3, ![8, 1408, 1024]⟩
abbrev S1x1024 : Shape := ⟨2, ![1, 1024]⟩
abbrev S1024 : Shape := ⟨1, ![1024]⟩
abbrev S1x1024x1408 : Shape := ⟨3, ![1, 1024, 1408]⟩
abbrev S1x1408x1024 : Shape := ⟨3, ![1, 1408, 1024]⟩
abbrev S256x128 : Shape := ⟨2, ![256, 128]⟩
abbrev S256 : Shape := ⟨1, ![256]⟩
abbrev S256x1 : Shape := ⟨2, ![256, 1]⟩
abbrev S1024x1408 : Shape := ⟨2, ![1024, 1408]⟩
abbrev S256x1408 : Shape := ⟨2, ![256, 1408]⟩
abbrev S1408x1024 : Shape := ⟨2, ![1408, 1024]⟩

abbrev nBuf : Space → Nat
  | .hbm => 30
  | .vmem => 14
  | .smem => 0
  | _ => 0

abbrev bufTy : (tb : Table) → Fin (tcTables nBuf tb) → BufTy
  | .hbm, ⟨0, _⟩ => ⟨S256x1024, .f32⟩
  | .hbm, ⟨1, _⟩ => ⟨S1x1024x8, .f32⟩
  | .hbm, ⟨2, _⟩ => ⟨S1x8, .f32⟩
  | .hbm, ⟨3, _⟩ => ⟨S1x8x1024x1408, .f32⟩
  | .hbm, ⟨4, _⟩ => ⟨S1x8x1024x1408, .f32⟩
  | .hbm, ⟨5, _⟩ => ⟨S1x8x1408x1024, .f32⟩
  | .hbm, ⟨6, _⟩ => ⟨S2x1024, .f32⟩
  | .hbm, ⟨7, _⟩ => ⟨S2x1024, .f32⟩
  | .hbm, ⟨8, _⟩ => ⟨S1024x8, .f32⟩
  | .hbm, ⟨9, _⟩ => ⟨S_, .i32⟩
  | .hbm, ⟨10, _⟩ => ⟨S_, .f32⟩
  | .hbm, ⟨11, _⟩ => ⟨S1024x128, .f32⟩
  | .hbm, ⟨12, _⟩ => ⟨S8, .f32⟩
  | .hbm, ⟨13, _⟩ => ⟨S_, .i32⟩
  | .hbm, ⟨14, _⟩ => ⟨S_, .f32⟩
  | .hbm, ⟨15, _⟩ => ⟨S128, .f32⟩
  | .hbm, ⟨16, _⟩ => ⟨S1x128, .f32⟩
  | .hbm, ⟨17, _⟩ => ⟨S8x1024x1408, .f32⟩
  | .hbm, ⟨18, _⟩ => ⟨S8x1024x1408, .bf16⟩
  | .hbm, ⟨19, _⟩ => ⟨S8x1024x1408, .f32⟩
  | .hbm, ⟨20, _⟩ => ⟨S8x1024x1408, .bf16⟩
  | .hbm, ⟨21, _⟩ => ⟨S8x1408x1024, .f32⟩
  | .hbm, ⟨22, _⟩ => ⟨S8x1408x1024, .bf16⟩
  | .hbm, ⟨23, _⟩ => ⟨S1x1024, .f32⟩
  | .hbm, ⟨24, _⟩ => ⟨S1024, .f32⟩
  | .hbm, ⟨25, _⟩ => ⟨S1x1024, .f32⟩
  | .hbm, ⟨26, _⟩ => ⟨S1x1024, .f32⟩
  | .hbm, ⟨27, _⟩ => ⟨S1024, .f32⟩
  | .hbm, ⟨28, _⟩ => ⟨S1x1024, .f32⟩
  | .hbm, ⟨29, _⟩ => ⟨S256x1024, .f32⟩
  | .local _ .vmem, ⟨0, _⟩ => ⟨S256x1024, .f32⟩
  | .local _ .vmem, ⟨1, _⟩ => ⟨S1024x128, .f32⟩
  | .local _ .vmem, ⟨2, _⟩ => ⟨S1x128, .f32⟩
  | .local _ .vmem, ⟨3, _⟩ => ⟨S1x1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1x1024x1408, .bf16⟩
  | .local _ .vmem, ⟨7, _⟩ => ⟨S1x1408x1024, .bf16⟩
  | .local _ .vmem, ⟨8, _⟩ => ⟨S1x1408x1024, .bf16⟩
  | .local _ .vmem, ⟨9, _⟩ => ⟨S1x1024, .f32⟩
  | .local _ .vmem, ⟨10, _⟩ => ⟨S1x1024, .f32⟩
  | .local _ .vmem, ⟨11, _⟩ => ⟨S256x1024, .f32⟩
  | .local _ .vmem, ⟨12, _⟩ => ⟨S256x128, .f32⟩
  | .local _ .vmem, ⟨13, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_call1_v0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11

abbrev nD : Nat := 1
abbrev τ : Topo := Topo.v7x

variable {F : FTy → Type} [FloatOps F]

abbrev grid0 : Pipeline.Grid := ⟨2, ![1, 8], ![false, false]⟩

def k0_cond2 (i : grid0.Coords) : BitVec 1 :=
  let arg1 : BitVec 32 := BitVec.ofNat 32 (i 1).val
  let c7_i32 : BitVec 32 := 7#32
  let v33 : BitVec 1 := Scalar.cmpi .eq arg1 c7_i32
  let v34 : BitVec 32 := Scalar.extui v33
  let c0_i32_21 : BitVec 32 := 0#32
  let v35 : BitVec 1 := Scalar.cmpi .ne v34 c0_i32_21
  v35

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1408x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]
-- ==== MoeSampleRefIdeal.lean ====
abbrev S256x1024 : Shape := ⟨2, ![256, 1024]⟩
abbrev S1x1024x8 : Shape := ⟨3, ![1, 1024, 8]⟩
abbrev S1x8 : Shape := ⟨2, ![1, 8]⟩
abbrev S1x8x1024x1408 : Shape := ⟨4, ![1, 8, 1024, 1408]⟩
abbrev S1x8x1408x1024 : Shape := ⟨4, ![1, 8, 1408, 1024]⟩
abbrev S2x1024 : Shape := ⟨2, ![2, 1024]⟩
abbrev S1024x8 : Shape := ⟨2, ![1024, 8]⟩
abbrev S8 : Shape := ⟨1, ![8]⟩
abbrev S8x1024x1408 : Shape := ⟨3, ![8, 1024, 1408]⟩
abbrev S8x1408x1024 : Shape := ⟨3, ![8, 1408, 1024]⟩
abbrev S256x8 : Shape := ⟨2, ![256, 8]⟩
abbrev S256x2 : Shape := ⟨2, ![256, 2]⟩
abbrev S_ : Shape := ⟨0, ![]⟩
abbrev S256 : Shape := ⟨1, ![256]⟩
abbrev S256x1 : Shape := ⟨2, ![256, 1]⟩
abbrev S256x2x1 : Shape := ⟨3, ![256, 2, 1]⟩
abbrev S1x1x8 : Shape := ⟨3, ![1, 1, 8]⟩
abbrev S256x2x8 : Shape := ⟨3, ![256, 2, 8]⟩
abbrev S1x1024x1408 : Shape := ⟨3, ![1, 1024, 1408]⟩
abbrev S1024x1408 : Shape := ⟨2, ![1024, 1408]⟩
abbrev S1x1408x1024 : Shape := ⟨3, ![1, 1408, 1024]⟩
abbrev S1408x1024 : Shape := ⟨2, ![1408, 1024]⟩
abbrev S256x1408 : Shape := ⟨2, ![256, 1408]⟩
abbrev S1x1024 : Shape := ⟨2, ![1, 1024]⟩
abbrev S1024 : Shape := ⟨1, ![1024]⟩

abbrev nBuf : Space → Nat
  | .hbm => 267
  | .vmem => 0
  | .smem => 0
  | _ => 0

abbrev hbmTy0_0 (i : Nat) : BufTy := match i % 128 with
  | 0 => ⟨S256x1024, .f32⟩
  | 1 => ⟨S1x1024x8, .f32⟩
  | 2 => ⟨S1x8, .f32⟩
  | 3 => ⟨S1x8x1024x1408, .f32⟩
  | 4 => ⟨S1x8x1024x1408, .f32⟩
  | 5 => ⟨S1x8x1408x1024, .f32⟩
  | 6 => ⟨S2x1024, .f32⟩
  | 7 => ⟨S2x1024, .f32⟩
  | 8 => ⟨S1024x8, .f32⟩
  | 9 => ⟨S8, .f32⟩
  | 10 => ⟨S8x1024x1408, .f32⟩
  | 11 => ⟨S8x1024x1408, .f32⟩
  | 12 => ⟨S8x1408x1024, .f32⟩
  | 13 => ⟨S256x8, .f32⟩
  | 14 => ⟨S1x8, .f32⟩
  | 15 => ⟨S256x8, .f32⟩
  | 16 => ⟨S256x8, .f32⟩
  | 17 => ⟨S256x2, .f32⟩
  | 18 => ⟨S256x2, .i32⟩
  | 19 => ⟨S_, .f32⟩
  | 20 => ⟨S256, .f32⟩
  | 21 => ⟨S_, .f32⟩
  | 22 => ⟨S256, .f32⟩
  | 23 => ⟨S256, .f32⟩
  | 24 => ⟨S256x1, .f32⟩
  | 25 => ⟨S256x2, .f32⟩
  | 26 => ⟨S256x2, .f32⟩
  | 27 => ⟨S256x2, .f32⟩
  | 28 => ⟨S_, .f32⟩
  | 29 => ⟨S256, .f32⟩
  | 30 => ⟨S256x1, .f32⟩
  | 31 => ⟨S256x2, .f32⟩
  | 32 => ⟨S256x2, .f32⟩
  | 33 => ⟨S256x2x1, .i32⟩
  | 34 => ⟨S1x1x8, .i32⟩
  | 35 => ⟨S256x2x8, .i32⟩
  | 36 => ⟨S256x2x8, .i32⟩
  | 37 => ⟨S256x2x8, .i1⟩
  | 38 => ⟨S256x2x8, .f32⟩
  | 39 => ⟨S256x2x1, .f32⟩
  | 40 => ⟨S256x2x8, .f32⟩
  | 41 => ⟨S256x2x8, .f32⟩
  | 42 => ⟨S_, .f32⟩
  | 43 => ⟨S256x8, .f32⟩
  | 44 => ⟨S_, .f32⟩
  | 45 => ⟨S256x1024, .f32⟩
  | 46 => ⟨S256x1, .f32⟩
  | 47 => ⟨S1x1024x1408, .f32⟩
  | 48 => ⟨S1024x1408, .f32⟩
  | 49 => ⟨S1x1024x1408, .f32⟩
  | 50 => ⟨S1024x1408, .f32⟩
  | 51 => ⟨S1x1408x1024, .f32⟩
  | 52 => ⟨S1408x1024, .f32⟩
  | 53 => ⟨S256x1408, .f32⟩
  | 54 => ⟨S256x1408, .f32⟩
  | 55 => ⟨S256x1408, .f32⟩
  | 56 => ⟨S_, .f32⟩
  | 57 => ⟨S256x1408, .f32⟩
  | 58 => ⟨S256x1408, .f32⟩
  | 59 => ⟨S_, .f32⟩
  | 60 => ⟨S256x1408, .f32⟩
  | 61 => ⟨S256x1408, .f32⟩
  | 62 => ⟨S256x1408, .f32⟩
  | 63 => ⟨S256x1408, .f32⟩
  | 64 => ⟨S256x1408, .f32⟩
  | 65 => ⟨S256x1024, .f32⟩
  | 66 => ⟨S256x1024, .f32⟩
  | 67 => ⟨S256x1024, .f32⟩
  | 68 => ⟨S256x1024, .f32⟩
  | 69 => ⟨S256x1, .f32⟩
  | 70 => ⟨S1x1024x1408, .f32⟩
  | 71 => ⟨S1024x1408, .f32⟩
  | 72 => ⟨S1x1024x1408, .f32⟩
  | 73 => ⟨S1024x1408, .f32⟩
  | 74 => ⟨S1x1408x1024, .f32⟩
  | 75 => ⟨S1408x1024, .f32⟩
  | 76 => ⟨S256x1408, .f32⟩
  | 77 => ⟨S256x1408, .f32⟩
  | 78 => ⟨S256x1408, .f32⟩
  | 79 => ⟨S_, .f32⟩
  | 80 => ⟨S256x1408, .f32⟩
  | 81 => ⟨S256x1408, .f32⟩
  | 82 => ⟨S_, .f32⟩
  | 83 => ⟨S256x1408, .f32⟩
  | 84 => ⟨S256x1408, .f32⟩
  | 85 => ⟨S256x1408, .f32⟩
  | 86 => ⟨S256x1408, .f32⟩
  | 87 => ⟨S256x1408, .f32⟩
  | 88 => ⟨S256x1024, .f32⟩
  | 89 => ⟨S256x1024, .f32⟩
  | 90 => ⟨S256x1024, .f32⟩
  | 91 => ⟨S256x1024, .f32⟩
  | 92 => ⟨S256x1, .f32⟩
  | 93 => ⟨S1x1024x1408, .f32⟩
  | 94 => ⟨S1024x1408, .f32⟩
  | 95 => ⟨S1x1024x1408, .f32⟩
  | 96 => ⟨S1024x1408, .f32⟩
  | 97 => ⟨S1x1408x1024, .f32⟩
  | 98 => ⟨S1408x1024, .f32⟩
  | 99 => ⟨S256x1408, .f32⟩
  | 100 => ⟨S256x1408, .f32⟩
  | 101 => ⟨S256x1408, .f32⟩
  | 102 => ⟨S_, .f32⟩
  | 103 => ⟨S256x1408, .f32⟩
  | 104 => ⟨S256x1408, .f32⟩
  | 105 => ⟨S_, .f32⟩
  | 106 => ⟨S256x1408, .f32⟩
  | 107 => ⟨S256x1408, .f32⟩
  | 108 => ⟨S256x1408, .f32⟩
  | 109 => ⟨S256x1408, .f32⟩
  | 110 => ⟨S256x1408, .f32⟩
  | 111 => ⟨S256x1024, .f32⟩
  | 112 => ⟨S256x1024, .f32⟩
  | 113 => ⟨S256x1024, .f32⟩
  | 114 => ⟨S256x1024, .f32⟩
  | 115 => ⟨S256x1, .f32⟩
  | 116 => ⟨S1x1024x1408, .f32⟩
  | 117 => ⟨S1024x1408, .f32⟩
  | 118 => ⟨S1x1024x1408, .f32⟩
  | 119 => ⟨S1024x1408, .f32⟩
  | 120 => ⟨S1x1408x1024, .f32⟩
  | 121 => ⟨S1408x1024, .f32⟩
  | 122 => ⟨S256x1408, .f32⟩
  | 123 => ⟨S256x1408, .f32⟩
  | 124 => ⟨S256x1408, .f32⟩
  | 125 => ⟨S_, .f32⟩
  | 126 => ⟨S256x1408, .f32⟩
  | 127 => ⟨S256x1408, .f32⟩
  | _ => ⟨S256x1024, .f32⟩

abbrev hbmTy0_1 (i : Nat) : BufTy := match i % 128 with
  | 0 => ⟨S_, .f32⟩
  | 1 => ⟨S256x1408, .f32⟩
  | 2 => ⟨S256x1408, .f32⟩
  | 3 => ⟨S256x1408, .f32⟩
  | 4 => ⟨S256x1408, .f32⟩
  | 5 => ⟨S256x1408, .f32⟩
  | 6 => ⟨S256x1024, .f32⟩
  | 7 => ⟨S256x1024, .f32⟩
  | 8 => ⟨S256x1024, .f32⟩
  | 9 => ⟨S256x1024, .f32⟩
  | 10 => ⟨S256x1, .f32⟩
  | 11 => ⟨S1x1024x1408, .f32⟩
  | 12 => ⟨S1024x1408, .f32⟩
  | 13 => ⟨S1x1024x1408, .f32⟩
  | 14 => ⟨S1024x1408, .f32⟩
  | 15 => ⟨S1x1408x1024, .f32⟩
  | 16 => ⟨S1408x1024, .f32⟩
  | 17 => ⟨S256x1408, .f32⟩
  | 18 => ⟨S256x1408, .f32⟩
  | 19 => ⟨S256x1408, .f32⟩
  | 20 => ⟨S_, .f32⟩
  | 21 => ⟨S256x1408, .f32⟩
  | 22 => ⟨S256x1408, .f32⟩
  | 23 => ⟨S_, .f32⟩
  | 24 => ⟨S256x1408, .f32⟩
  | 25 => ⟨S256x1408, .f32⟩
  | 26 => ⟨S256x1408, .f32⟩
  | 27 => ⟨S256x1408, .f32⟩
  | 28 => ⟨S256x1408, .f32⟩
  | 29 => ⟨S256x1024, .f32⟩
  | 30 => ⟨S256x1024, .f32⟩
  | 31 => ⟨S256x1024, .f32⟩
  | 32 => ⟨S256x1024, .f32⟩
  | 33 => ⟨S256x1, .f32⟩
  | 34 => ⟨S1x1024x1408, .f32⟩
  | 35 => ⟨S1024x1408, .f32⟩
  | 36 => ⟨S1x1024x1408, .f32⟩
  | 37 => ⟨S1024x1408, .f32⟩
  | 38 => ⟨S1x1408x1024, .f32⟩
  | 39 => ⟨S1408x1024, .f32⟩
  | 40 => ⟨S256x1408, .f32⟩
  | 41 => ⟨S256x1408, .f32⟩
  | 42 => ⟨S256x1408, .f32⟩
  | 43 => ⟨S_, .f32⟩
  | 44 => ⟨S256x1408, .f32⟩
  | 45 => ⟨S256x1408, .f32⟩
  | 46 => ⟨S_, .f32⟩
  | 47 => ⟨S256x1408, .f32⟩
  | 48 => ⟨S256x1408, .f32⟩
  | 49 => ⟨S256x1408, .f32⟩
  | 50 => ⟨S256x1408, .f32⟩
  | 51 => ⟨S256x1408, .f32⟩
  | 52 => ⟨S256x1024, .f32⟩
  | 53 => ⟨S256x1024, .f32⟩
  | 54 => ⟨S256x1024, .f32⟩
  | 55 => ⟨S256x1024, .f32⟩
  | 56 => ⟨S256x1, .f32⟩
  | 57 => ⟨S1x1024x1408, .f32⟩
  | 58 => ⟨S1024x1408, .f32⟩
  | 59 => ⟨S1x1024x1408, .f32⟩
  | 60 => ⟨S1024x1408, .f32⟩
  | 61 => ⟨S1x1408x1024, .f32⟩
  | 62 => ⟨S1408x1024, .f32⟩
  | 63 => ⟨S256x1408, .f32⟩
  | 64 => ⟨S256x1408, .f32⟩
  | 65 => ⟨S256x1408, .f32⟩
  | 66 => ⟨S_, .f32⟩
  | 67 => ⟨S256x1408, .f32⟩
  | 68 => ⟨S256x1408, .f32⟩
  | 69 => ⟨S_, .f32⟩
  | 70 => ⟨S256x1408, .f32⟩
  | 71 => ⟨S256x1408, .f32⟩
  | 72 => ⟨S256x1408, .f32⟩
  | 73 => ⟨S256x1408, .f32⟩
  | 74 => ⟨S256x1408, .f32⟩
  | 75 => ⟨S256x1024, .f32⟩
  | 76 => ⟨S256x1024, .f32⟩
  | 77 => ⟨S256x1024, .f32⟩
  | 78 => ⟨S256x1024, .f32⟩
  | 79 => ⟨S256x1, .f32⟩
  | 80 => ⟨S1x1024x1408, .f32⟩
  | 81 => ⟨S1024x1408, .f32⟩
  | 82 => ⟨S1x1024x1408, .f32⟩
  | 83 => ⟨S1024x1408, .f32⟩
  | 84 => ⟨S1x1408x1024, .f32⟩
  | 85 => ⟨S1408x1024, .f32⟩
  | 86 => ⟨S256x1408, .f32⟩
  | 87 => ⟨S256x1408, .f32⟩
  | 88 => ⟨S256x1408, .f32⟩
  | 89 => ⟨S_, .f32⟩
  | 90 => ⟨S256x1408, .f32⟩
  | 91 => ⟨S256x1408, .f32⟩
  | 92 => ⟨S_, .f32⟩
  | 93 => ⟨S256x1408, .f32⟩
  | 94 => ⟨S256x1408, .f32⟩
  | 95 => ⟨S256x1408, .f32⟩
  | 96 => ⟨S256x1408, .f32⟩
  | 97 => ⟨S256x1408, .f32⟩
  | 98 => ⟨S256x1024, .f32⟩
  | 99 => ⟨S256x1024, .f32⟩
  | 100 => ⟨S256x1024, .f32⟩
  | 101 => ⟨S256x1024, .f32⟩
  | 102 => ⟨S_, .f32⟩
  | 103 => ⟨S256x1024, .f32⟩
  | 104 => ⟨S256x1024, .f32⟩
  | 105 => ⟨S256x1024, .f32⟩
  | 106 => ⟨S1x1024, .f32⟩
  | 107 => ⟨S1024, .f32⟩
  | 108 => ⟨S1x1024, .f32⟩
  | 109 => ⟨S1024, .f32⟩
  | 110 => ⟨S_, .f32⟩
  | 111 => ⟨S256, .f32⟩
  | 112 => ⟨S256x1, .f32⟩
  | 113 => ⟨S_, .f32⟩
  | 114 => ⟨S256x1, .f32⟩
  | 115 => ⟨S256x1, .f32⟩
  | 116 => ⟨S256x1024, .f32⟩
  | 117 => ⟨S256x1024, .f32⟩
  | 118 => ⟨S256x1024, .f32⟩
  | 119 => ⟨S_, .f32⟩
  | 120 => ⟨S256, .f32⟩
  | 121 => ⟨S256x1, .f32⟩
  | 122 => ⟨S_, .f32⟩
  | 123 => ⟨S256x1, .f32⟩
  | 124 => ⟨S256x1, .f32⟩
  | 125 => ⟨S256x1024, .f32⟩
  | 126 => ⟨S256x1024, .f32⟩
  | 127 => ⟨S_, .f32⟩
  | _ => ⟨S256x1024, .f32⟩

abbrev hbmTy0_2 (i : Nat) : BufTy := match i % 128 with
  | 0 => ⟨S256x1, .f32⟩
  | 1 => ⟨S256x1, .f32⟩
  | 2 => ⟨S256x1, .f32⟩
  | 3 => ⟨S256x1024, .f32⟩
  | 4 => ⟨S256x1024, .f32⟩
  | 5 => ⟨S1x1024, .f32⟩
  | 6 => ⟨S256x1024, .f32⟩
  | 7 => ⟨S256x1024, .f32⟩
  | 8 => ⟨S1x1024, .f32⟩
  | 9 => ⟨S256x1024, .f32⟩
  | 10 => ⟨S256x1024, .f32⟩
  | _ => ⟨S256x1024, .f32⟩

abbrev hbmTy (i : Nat) : BufTy := match i / 128 with
  | 0 => hbmTy0_0 i
  | 1 => hbmTy0_1 i
  | 2 => hbmTy0_2 i
  | _ => ⟨S256x1024, .f32⟩

abbrev bufTy : (tb : Table) → Fin (tcTables nBuf tb) → BufTy
  | .hbm, ⟨i, _⟩ => hbmTy i
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_values : Ref sig .tc := ⟨.hbm, 17, rfl⟩
abbrev main_indices : Ref sig .tc := ⟨.hbm, 18, rfl⟩
abbrev main_cst : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_2 : Ref sig .tc := ⟨.hbm, 42, rfl⟩
abbrev main_v24 : Ref sig .tc := ⟨.hbm, 43, rfl⟩
abbrev main_cst_3 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_call1_v0 : Ref sig .tc := ⟨.hbm, 54, rfl⟩
abbrev main_call1_v1 : Ref sig .tc := ⟨.hbm, 55, rfl⟩
abbrev main_call1_cst : Ref sig .tc := ⟨.hbm, 56, rfl⟩
abbrev main_call1_v2 : Ref sig .tc := ⟨.hbm, 57, rfl⟩
abbrev main_call1_v3 : Ref sig .tc := ⟨.hbm, 58, rfl⟩
abbrev main_call1_cst_0 : Ref sig .tc := ⟨.hbm, 59, rfl⟩
abbrev main_call1_v4 : Ref sig .tc := ⟨.hbm, 60, rfl⟩
abbrev main_call1_v5 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_call2_v0 : Ref sig .tc := ⟨.hbm, 77, rfl⟩
abbrev main_call2_v1 : Ref sig .tc := ⟨.hbm, 78, rfl⟩
abbrev main_call2_cst : Ref sig .tc := ⟨.hbm, 79, rfl⟩
abbrev main_call2_v2 : Ref sig .tc := ⟨.hbm, 80, rfl⟩
abbrev main_call2_v3 : Ref sig .tc := ⟨.hbm, 81, rfl⟩
abbrev main_call2_cst_0 : Ref sig .tc := ⟨.hbm, 82, rfl⟩
abbrev main_call2_v4 : Ref sig .tc := ⟨.hbm, 83, rfl⟩
abbrev main_call2_v5 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_call3_v0 : Ref sig .tc := ⟨.hbm, 100, rfl⟩
abbrev main_call3_v1 : Ref sig .tc := ⟨.hbm, 101, rfl⟩
abbrev main_call3_cst : Ref sig .tc := ⟨.hbm, 102, rfl⟩
abbrev main_call3_v2 : Ref sig .tc := ⟨.hbm, 103, rfl⟩
abbrev main_call3_v3 : Ref sig .tc := ⟨.hbm, 104, rfl⟩
abbrev main_call3_cst_0 : Ref sig .tc := ⟨.hbm, 105, rfl⟩
abbrev main_call3_v4 : Ref sig .tc := ⟨.hbm, 106, rfl⟩
abbrev main_call3_v5 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_call4_v0 : Ref sig .tc := ⟨.hbm, 123, rfl⟩
abbrev main_call4_v1 : Ref sig .tc := ⟨.hbm, 124, rfl⟩
abbrev main_call4_cst : Ref sig .tc := ⟨.hbm, 125, rfl⟩
abbrev main_call4_v2 : Ref sig .tc := ⟨.hbm, 126, rfl⟩
abbrev main_call4_v3 : Ref sig .tc := ⟨.hbm, 127, rfl⟩
abbrev main_call4_cst_0 : Ref sig .tc := ⟨.hbm, 128, rfl⟩
abbrev main_call4_v4 : Ref sig .tc := ⟨.hbm, 129, rfl⟩
abbrev main_call4_v5 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_call5_v0 : Ref sig .tc := ⟨.hbm, 146, rfl⟩
abbrev main_call5_v1 : Ref sig .tc := ⟨.hbm, 147, rfl⟩
abbrev main_call5_cst : Ref sig .tc := ⟨.hbm, 148, rfl⟩
abbrev main_call5_v2 : Ref sig .tc := ⟨.hbm, 149, rfl⟩
abbrev main_call5_v3 : Ref sig .tc := ⟨.hbm, 150, rfl⟩
abbrev main_call5_cst_0 : Ref sig .tc := ⟨.hbm, 151, rfl⟩
abbrev main_call5_v4 : Ref sig .tc := ⟨.hbm, 152, rfl⟩
abbrev main_call5_v5 : Ref sig .tc := ⟨.hbm, 153, rfl⟩
abbrev main_v94 : Ref sig .tc := ⟨.hbm, 154, rfl⟩
abbrev main_v95 : Ref sig .tc := ⟨.hbm, 155, rfl⟩
abbrev main_v96 : Ref sig .tc := ⟨.hbm, 156, rfl⟩
abbrev main_v97 : Ref sig .tc := ⟨.hbm, 157, rfl⟩
abbrev main_v98 : Ref sig .tc := ⟨.hbm, 158, rfl⟩
abbrev main_v99 : Ref sig .tc := ⟨.hbm, 159, rfl⟩
abbrev main_v100 : Ref sig .tc := ⟨.hbm, 160, rfl⟩
abbrev main_v101 : Ref sig .tc := ⟨.hbm, 161, rfl⟩
abbrev main_v102 : Ref sig .tc := ⟨.hbm, 162, rfl⟩
abbrev main_v103 : Ref sig .tc := ⟨.hbm, 163, rfl⟩
abbrev main_v104 : Ref sig .tc := ⟨.hbm, 164, rfl⟩
abbrev main_v105 : Ref sig .tc := ⟨.hbm, 165, rfl⟩
abbrev main_v106 : Ref sig .tc := ⟨.hbm, 166, rfl⟩
abbrev main_v107 : Ref sig .tc := ⟨.hbm, 167, rfl⟩
abbrev main_v108 : Ref sig .tc := ⟨.hbm, 168, rfl⟩
abbrev main_call6_v0 : Ref sig .tc := ⟨.hbm, 169, rfl⟩
abbrev main_call6_v1 : Ref sig .tc := ⟨.hbm, 170, rfl⟩
abbrev main_call6_cst : Ref sig .tc := ⟨.hbm, 171, rfl⟩
abbrev main_call6_v2 : Ref sig .tc := ⟨.hbm, 172, rfl⟩
abbrev main_call6_v3 : Ref sig .tc := ⟨.hbm, 173, rfl⟩
abbrev main_call6_cst_0 : Ref sig .tc := ⟨.hbm, 174, rfl⟩
abbrev main_call6_v4 : Ref sig .tc := ⟨.hbm, 175, rfl⟩
abbrev main_call6_v5 : Ref sig .tc := ⟨.hbm, 176, rfl⟩
abbrev main_v109 : Ref sig .tc := ⟨.hbm, 177, rfl⟩
abbrev main_v110 : Ref sig .tc := ⟨.hbm, 178, rfl⟩
abbrev main_v111 : Ref sig .tc := ⟨.hbm, 179, rfl⟩
abbrev main_v112 : Ref sig .tc := ⟨.hbm, 180, rfl⟩
abbrev main_v113 : Ref sig .tc := ⟨.hbm, 181, rfl⟩
abbrev main_v114 : Ref sig .tc := ⟨.hbm, 182, rfl⟩
abbrev main_v115 : Ref sig .tc := ⟨.hbm, 183, rfl⟩
abbrev main_v116 : Ref sig .tc := ⟨.hbm, 184, rfl⟩
abbrev main_v117 : Ref sig .tc := ⟨.hbm, 185, rfl⟩
abbrev main_v118 : Ref sig .tc := ⟨.hbm, 186, rfl⟩
abbrev main_v119 : Ref sig .tc := ⟨.hbm, 187, rfl⟩
abbrev main_v120 : Ref sig .tc := ⟨.hbm, 188, rfl⟩
abbrev main_v121 : Ref sig .tc := ⟨.hbm, 189, rfl⟩
abbrev main_v122 : Ref sig .tc := ⟨.hbm, 190, rfl⟩
abbrev main_v123 : Ref sig .tc := ⟨.hbm, 191, rfl⟩
abbrev main_call7_v0 : Ref sig .tc := ⟨.hbm, 192, rfl⟩
abbrev main_call7_v1 : Ref sig .tc := ⟨.hbm, 193, rfl⟩
abbrev main_call7_cst : Ref sig .tc := ⟨.hbm, 194, rfl⟩
abbrev main_call7_v2 : Ref sig .tc := ⟨.hbm, 195, rfl⟩
abbrev main_call7_v3 : Ref sig .tc := ⟨.hbm, 196, rfl⟩
abbrev main_call7_cst_0 : Ref sig .tc := ⟨.hbm, 197, rfl⟩
abbrev main_call7_v4 : Ref sig .tc := ⟨.hbm, 198, rfl⟩
abbrev main_call7_v5 : Ref sig .tc := ⟨.hbm, 199, rfl⟩
abbrev main_v124 : Ref sig .tc := ⟨.hbm, 200, rfl⟩
abbrev main_v125 : Ref sig .tc := ⟨.hbm, 201, rfl⟩
abbrev main_v126 : Ref sig .tc := ⟨.hbm, 202, rfl⟩
abbrev main_v127 : Ref sig .tc := ⟨.hbm, 203, rfl⟩
abbrev main_v128 : Ref sig .tc := ⟨.hbm, 204, rfl⟩
abbrev main_v129 : Ref sig .tc := ⟨.hbm, 205, rfl⟩
abbrev main_v130 : Ref sig .tc := ⟨.hbm, 206, rfl⟩
abbrev main_v131 : Ref sig .tc := ⟨.hbm, 207, rfl⟩
abbrev main_v132 : Ref sig .tc := ⟨.hbm, 208, rfl⟩
abbrev main_v133 : Ref sig .tc := ⟨.hbm, 209, rfl⟩
abbrev main_v134 : Ref sig .tc := ⟨.hbm, 210, rfl⟩
abbrev main_v135 : Ref sig .tc := ⟨.hbm, 211, rfl⟩
abbrev main_v136 : Ref sig .tc := ⟨.hbm, 212, rfl⟩
abbrev main_v137 : Ref sig .tc := ⟨.hbm, 213, rfl⟩
abbrev main_v138 : Ref sig .tc := ⟨.hbm, 214, rfl⟩
abbrev main_call8_v0 : Ref sig .tc := ⟨.hbm, 215, rfl⟩
abbrev main_call8_v1 : Ref sig .tc := ⟨.hbm, 216, rfl⟩
abbrev main_call8_cst : Ref sig .tc := ⟨.hbm, 217, rfl⟩
abbrev main_call8_v2 : Ref sig .tc := ⟨.hbm, 218, rfl⟩
abbrev main_call8_v3 : Ref sig .tc := ⟨.hbm, 219, rfl⟩
abbrev main_call8_cst_0 : Ref sig .tc := ⟨.hbm, 220, rfl⟩
abbrev main_call8_v4 : Ref sig .tc := ⟨.hbm, 221, rfl⟩
abbrev main_call8_v5 : Ref sig .tc := ⟨.hbm, 222, rfl⟩
abbrev main_v139 : Ref sig .tc := ⟨.hbm, 223, rfl⟩
abbrev main_v140 : Ref sig .tc := ⟨.hbm, 224, rfl⟩
abbrev main_v141 : Ref sig .tc := ⟨.hbm, 225, rfl⟩
abbrev main_v142 : Ref sig .tc := ⟨.hbm, 226, rfl⟩
abbrev main_v143 : Ref sig .tc := ⟨.hbm, 227, rfl⟩
abbrev main_v144 : Ref sig .tc := ⟨.hbm, 228, rfl⟩
abbrev main_v145 : Ref sig .tc := ⟨.hbm, 229, rfl⟩
abbrev main_cst_4 : Ref sig .tc := ⟨.hbm, 230, rfl⟩
abbrev main_v146 : Ref sig .tc := ⟨.hbm, 231, rfl⟩
abbrev main_v147 : Ref sig .tc := ⟨.hbm, 232, rfl⟩
abbrev main_v148 : Ref sig .tc := ⟨.hbm, 233, rfl⟩
abbrev main_v149 : Ref sig .tc := ⟨.hbm, 234, rfl⟩
abbrev main_v150 : Ref sig .tc := ⟨.hbm, 235, rfl⟩
abbrev main_v151 : Ref sig .tc := ⟨.hbm, 236, rfl⟩
abbrev main_v152 : Ref sig .tc := ⟨.hbm, 237, rfl⟩
abbrev main_cst_5 : Ref sig .tc := ⟨.hbm, 238, rfl⟩
abbrev main_v153 : Ref sig .tc := ⟨.hbm, 239, rfl⟩
abbrev main_v154 : Ref sig .tc := ⟨.hbm, 240, rfl⟩
abbrev main_cst_6 : Ref sig .tc := ⟨.hbm, 241, rfl⟩
abbrev main_v155 : Ref sig .tc := ⟨.hbm, 242, rfl⟩
abbrev main_v156 : Ref sig .tc := ⟨.hbm, 243, rfl⟩
abbrev main_v157 : Ref sig .tc := ⟨.hbm, 244, rfl⟩
abbrev main_v158 : Ref sig .tc := ⟨.hbm, 245, rfl⟩
abbrev main_v159 : Ref sig .tc := ⟨.hbm, 246, rfl⟩
abbrev main_cst_7 : Ref sig .tc := ⟨.hbm, 247, rfl⟩
abbrev main_v160 : Ref sig .tc := ⟨.hbm, 248, rfl⟩
abbrev main_v161 : Ref sig .tc := ⟨.hbm, 249, rfl⟩
abbrev main_cst_8 : Ref sig .tc := ⟨.hbm, 250, rfl⟩
abbrev main_v162 : Ref sig .tc := ⟨.hbm, 251, rfl⟩
abbrev main_v163 : Ref sig .tc := ⟨.hbm, 252, rfl⟩
abbrev main_v164 : Ref sig .tc := ⟨.hbm, 253, rfl⟩
abbrev main_v165 : Ref sig .tc := ⟨.hbm, 254, rfl⟩
abbrev main_cst_9 : Ref sig .tc := ⟨.hbm, 255, rfl⟩
abbrev main_v166 : Ref sig .tc := ⟨.hbm, 256, rfl⟩
abbrev main_v167 : Ref sig .tc := ⟨.hbm, 257, rfl⟩
abbrev main_v168 : Ref sig .tc := ⟨.hbm, 258, rfl⟩
abbrev main_v169 : Ref sig .tc := ⟨.hbm, 259, rfl⟩
abbrev main_v170 : Ref sig .tc := ⟨.hbm, 260, rfl⟩
abbrev main_v171 : Ref sig .tc := ⟨.hbm, 261, rfl⟩
abbrev main_v172 : Ref sig .tc := ⟨.hbm, 262, rfl⟩
abbrev main_v173 : Ref sig .tc := ⟨.hbm, 263, rfl⟩
abbrev main_v174 : Ref sig .tc := ⟨.hbm, 264, rfl⟩
abbrev main_v175 : Ref sig .tc := ⟨.hbm, 265, rfl⟩
abbrev main_v176 : Ref sig .tc := ⟨.hbm, 266, rfl⟩

abbrev nD : Nat := 1
abbrev τ : Topo := Topo.v7x

variable {F : FTy → Type} [FloatOps F]
-- ==== Proof.Rows.lean ====
module

public import Idealize.ShloMosaic.Lib.MatmulPlain
public import Idealize.ShloMosaic.Lib.ValueIdx
public import Idealize.ShloMosaic.Lib.Pipeline.Value
public import Idealize.ShloMosaic.PureOps.Ideal.Laws

/-! The rows of the layer over the extended reals: layer normalization of a row, the gated two-matrix product of a feed
    forward block, and the same things read out of the vector operations of a kernel block of `M` rows. -/

@[expose] public section

set_option maxRecDepth 16384

noncomputable section

namespace Cert.Rows

open Idealize.ShloMosaic Idealize.ShloMosaic.ValueIdx
open scoped BigOperators

/-- The residual factor of the layer (the value of the 32-bit word of 4^(1/4)). -/
def alpha : EReal := Ideal.ofBits .f32 0x3FB504F3#32
/-- The width of the model, 1024, as the programs write it. -/
def width : EReal := Ideal.ofBits .f32 0x44800000#32
/-- The variance offset of the layer normalization. -/
def eps : EReal := Ideal.ofBits .f32 0x3727C5AC#32

/-- The mean of a row. -/
def mean (y : Fin 1024 → EReal) : EReal := Ideal.div (∑ k, y k) width

/-- Layer normalization of the row `y` at column `j`, with gain `g` and offset `b` there. -/
def lnRow (y : Fin 1024 → EReal) (g b : EReal) (j : Fin 1024) : EReal :=
  (y j - mean y) * Ideal.rsqrt (mean (fun k => (y k - mean y) * (y k - mean y)) + eps) * g + b

/-- The product of a row with a matrix, at column `j`. -/
def rowDot {n p : ℕ} (x : Fin n → EReal) (w : Fin n → Fin p → EReal) (j : Fin p) : EReal := ∑ k, x k * w k j

/-- The gated hidden row: `silu (x · wg) * (x · wu)` at hidden column `k`. -/
def hidden {n p : ℕ} (x : Fin n → EReal) (wg wu : Fin n → Fin p → EReal) (k : Fin p) : EReal :=
  rowDot x wg k * Ideal.logistic (rowDot x wg k) * rowDot x wu k

/-- The feed forward block of a row: the gated hidden row times the down matrix. -/
def swiglu {n p q : ℕ} (x : Fin n → EReal) (wg wu : Fin n → Fin p → EReal) (wd : Fin p → Fin q → EReal) (j : Fin q) : EReal :=
  rowDot (hidden x wg wu) wd j

/-- A column read back as the vector it came from. -/
theorem column_apply {M : ℕ} {α : Type} (v : (⟨1, ![M]⟩ : Shape).Idx → α) (h : (⟨1, ![M]⟩ : Shape).ShapeCasts ⟨2, ![M, 1]⟩) (r : Fin M) (z : Fin 1) :
    shapeCast ⟨2, ![M, 1]⟩ v h (ix2 r z) = v (ix1 r) := by
  refine shapeCast_apply v h _ _ ?_
  rw [Shape.rowMajor_val_one, Shape.rowMajor_val_two]
  show r.val = r.val * 1 + z.val
  omega

/-- The dense feed forward layer on all rows: the layer normalization of `alpha * x + swiglu(x)`, with row 0 of the gains and offsets. -/
def ffnOut (X : (⟨2, ![65536, 1024]⟩ : Shape).Idx → EReal) (wg wu : (⟨3, ![1, 1024, 2816]⟩ : Shape).Idx → EReal) (wd : (⟨3, ![1, 2816, 1024]⟩ : Shape).Idx → EReal)
    (lg lb : (⟨2, ![2, 1024]⟩ : Shape).Idx → EReal) : (⟨2, ![65536, 1024]⟩ : Shape).Idx → EReal := fun i =>
  lnRow (fun k => alpha * X (ix2 (i 0) k) + swiglu (fun k => X (ix2 (i 0) k)) (fun k j => wg (ix3 0 k j)) (fun k j => wu (ix3 0 k j)) (fun k j => wd (ix3 0 k j)) k)
    (lg (ix2 0 (i 1))) (lb (ix2 0 (i 1))) (i 1)

/-- The output projection of layer 1 on all rows: the layer normalization of `alpha * x + a · w`, with row 1 of the gains and offsets. -/
def projOut (A X : (⟨2, ![65536, 1024]⟩ : Shape).Idx → EReal) (w : (⟨3, ![2, 1024, 1024]⟩ : Shape).Idx → EReal)
    (lg lb : (⟨2, ![2, 1024]⟩ : Shape).Idx → EReal) : (⟨2, ![65536, 1024]⟩ : Shape).Idx → EReal := fun i =>
  lnRow (fun k => alpha * X (ix2 (i 0) k) + rowDot (fun k => A (ix2 (i 0) k)) (fun k j => w (ix3 1 k j)) k) (lg (ix2 1 (i 1))) (lb (ix2 1 (i 1))) (i 1)

/-- A matrix under a unit axis, reshaped to the matrix. -/
theorem squeeze_apply {a b : ℕ} {α : Type} (v : (⟨3, ![1, a, b]⟩ : Shape).Idx → α) (h : (⟨3, ![1, a, b]⟩ : Shape).ShapeCasts ⟨2, ![a, b]⟩) (k : Fin a) (j : Fin b) :
    shapeCast ⟨2, ![a, b]⟩ v h (ix2 k j) = v (ix3 0 k j) := by
  refine shapeCast_apply v h _ _ ?_
  rw [Shape.rowMajor_val_three, Shape.rowMajor_val_two]
  show (0 * a + k.val) * b + j.val = k.val * b + j.val
  rw [Nat.zero_mul, Nat.zero_add]

/-- Row `l` of a table of two rows, cut out, flattened and made a row again. -/
theorem tableRow_apply {α : Type} (l : Fin 2) (v : (⟨2, ![2, 1024]⟩ : Shape).Idx → α) (hs : (⟨2, ![2, 1024]⟩ : Shape).Slices ![l.val, 0] ⟨2, ![1, 1024]⟩)
    (h1 : (⟨2, ![1, 1024]⟩ : Shape).ShapeCasts ⟨1, ![1024]⟩) (h2 : (⟨1, ![1024]⟩ : Shape).ShapeCasts ⟨2, ![1, 1024]⟩) (j : Fin 1024) :
    shapeCast ⟨2, ![1, 1024]⟩ (shapeCast ⟨1, ![1024]⟩ (extractStridedSlice ⟨2, ![1, 1024]⟩ ![l.val, 0] v hs) h1) h2 (ix2 0 j) = v (ix2 l j) := by
  refine (shapeCast_apply _ h2 _ (ix1 j) ?_).trans ((shapeCast_apply _ h1 _ (ix2 0 j) ?_).trans ?_)
  · rw [Shape.rowMajor_val_one, Shape.rowMajor_val_two]; show j.val = 0 * 1024 + j.val; omega
  · rw [Shape.rowMajor_val_one, Shape.rowMajor_val_two]; show 0 * 1024 + j.val = j.val; omega
  · refine extractStridedSlice_apply _ v hs _ _ fun a => ?_
    match a with
    | ⟨0, _⟩ => show l.val = l.val + 0; omega
    | ⟨1, _⟩ => show j.val = 0 + j.val; omega

/-- A column spread over the lanes. -/
theorem spread_apply {M N : ℕ} {α : Type} (v : (⟨2, ![M, 1]⟩ : Shape).Idx → α) (h : (⟨2, ![M, 1]⟩ : Shape).Broadcasts ⟨2, ![M, N]⟩) (r : Fin M) (j : Fin N) :
    broadcastTo ⟨2, ![M, N]⟩ v h (ix2 r j) = v (ix2 r 0) := by
  refine broadcastTo_apply v h _ _ fun a => ?_
  match a with
  | ⟨0, _⟩ =>
    show r.val = if M = 1 then 0 else r.val
    split
    · have := r.isLt; omega
    · rfl
  | ⟨1, _⟩ => rfl

/-- One row spread over the rows. -/
theorem rows_apply {M N : ℕ} {α : Type} (v : (⟨2, ![1, N]⟩ : Shape).Idx → α) (h : (⟨2, ![1, N]⟩ : Shape).Broadcasts ⟨2, ![M, N]⟩) (r : Fin M) (j : Fin N) :
    broadcastTo ⟨2, ![M, N]⟩ v h (ix2 r j) = v (ix2 0 j) := by
  refine broadcastTo_apply v h _ _ fun a => ?_
  match a with
  | ⟨0, _⟩ => rfl
  | ⟨1, _⟩ =>
    show j.val = if N = 1 then 0 else j.val
    split
    · have := j.isLt; omega
    · rfl

/-- A sum over the lanes, at a row. -/
theorem laneSum_apply {M N : ℕ} (v : FVec Ideal ⟨2, ![M, N]⟩ .f32) (h : (⟨2, ![M, N]⟩ : Shape).Reduces [1] ⟨1, ![M]⟩)
    (hφ : FKind.Formats .f32) (hacc : (0x00000000#32 : BitVec 32) = FKind.add.neutral .f32 hφ) (r : Fin M) :
    multiReduction .add [1] ⟨1, ![M]⟩ v 0x00000000#32 h hφ hacc (ix1 r) = ∑ k : Fin N, v (ix2 r k) := by
  rw [Ideal.multiReduction_add_single v 0x00000000#32 h hφ hacc (ix1 r)]
  refine Finset.sum_congr rfl fun k _ => congrArg v ?_
  funext a
  match a with
  | ⟨0, _⟩ => rfl
  | ⟨1, _⟩ => rfl

/-- The mean of each row of a block, in the kernels' vector operations. -/
def meanBlock {M : ℕ} (v : FVec Ideal ⟨2, ![M, 1024]⟩ .f32) (hr : (⟨2, ![M, 1024]⟩ : Shape).Reduces [1] ⟨1, ![M]⟩) (hφ : FKind.Formats .f32)
    (hacc : (0x00000000#32 : BitVec 32) = FKind.add.neutral .f32 hφ) (hc : (⟨1, ![M]⟩ : Shape).ShapeCasts ⟨2, ![M, 1]⟩) :
    FVec Ideal ⟨2, ![M, 1]⟩ .f32 :=
  divf (shapeCast ⟨2, ![M, 1]⟩ (multiReduction .add [1] ⟨1, ![M]⟩ v 0x00000000#32 hr hφ hacc) hc) (broadcast ⟨2, ![M, 1]⟩ (Scalar.ofBits .f32 0x44800000#32))

/-- The mean of a block's row is the row's mean. -/
theorem meanBlock_apply {M : ℕ} (v : FVec Ideal ⟨2, ![M, 1024]⟩ .f32) (hr : (⟨2, ![M, 1024]⟩ : Shape).Reduces [1] ⟨1, ![M]⟩) (hφ : FKind.Formats .f32)
    (hacc : (0x00000000#32 : BitVec 32) = FKind.add.neutral .f32 hφ) (hc : (⟨1, ![M]⟩ : Shape).ShapeCasts ⟨2, ![M, 1]⟩) (r : Fin M) (z : Fin 1) :
    meanBlock v hr hφ hacc hc (ix2 r z) = mean (fun k => v (ix2 r k)) := by
  show Ideal.div (shapeCast ⟨2, ![M, 1]⟩ (multiReduction .add [1] ⟨1, ![M]⟩ v 0x00000000#32 hr hφ hacc) hc (ix2 r z)) width = _
  rw [column_apply, laneSum_apply]; rfl

/-- A block minus the mean of each row, in the kernels' vector operations. -/
def centred {M : ℕ} (v : FVec Ideal ⟨2, ![M, 1024]⟩ .f32) (hr : (⟨2, ![M, 1024]⟩ : Shape).Reduces [1] ⟨1, ![M]⟩) (hφ : FKind.Formats .f32)
    (hacc : (0x00000000#32 : BitVec 32) = FKind.add.neutral .f32 hφ) (hc : (⟨1, ![M]⟩ : Shape).ShapeCasts ⟨2, ![M, 1]⟩)
    (hs : (⟨2, ![M, 1]⟩ : Shape).Broadcasts ⟨2, ![M, 1024]⟩) : FVec Ideal ⟨2, ![M, 1024]⟩ .f32 :=
  subf v (broadcastTo ⟨2, ![M, 1024]⟩ (meanBlock v hr hφ hacc hc) hs)

/-- A centred block at an element. -/
theorem centred_apply {M : ℕ} (v : FVec Ideal ⟨2, ![M, 1024]⟩ .f32) (hr : (⟨2, ![M, 1024]⟩ : Shape).Reduces [1] ⟨1, ![M]⟩) (hφ : FKind.Formats .f32)
    (hacc : (0x00000000#32 : BitVec 32) = FKind.add.neutral .f32 hφ) (hc : (⟨1, ![M]⟩ : Shape).ShapeCasts ⟨2, ![M, 1]⟩)
    (hs : (⟨2, ![M, 1]⟩ : Shape).Broadcasts ⟨2, ![M, 1024]⟩) (r : Fin M) (k : Fin 1024) :
    centred v hr hφ hacc hc hs (ix2 r k) = v (ix2 r k) - mean (fun k => v (ix2 r k)) := by
  show v (ix2 r k) - broadcastTo ⟨2, ![M, 1024]⟩ (meanBlock v hr hφ hacc hc) hs (ix2 r k) = _
  rw [spread_apply, meanBlock_apply]

/-- The layer normalization of a block of `M` rows, in the kernels' vector operations. -/
def lnBlock {M : ℕ} (v : FVec Ideal ⟨2, ![M, 1024]⟩ .f32) (g b : FVec Ideal ⟨2, ![1, 1024]⟩ .f32)
    (hr : (⟨2, ![M, 1024]⟩ : Shape).Reduces [1] ⟨1, ![M]⟩) (hφ : FKind.Formats .f32)
    (hacc : (0x00000000#32 : BitVec 32) = FKind.add.neutral .f32 hφ) (hc : (⟨1, ![M]⟩ : Shape).ShapeCasts ⟨2, ![M, 1]⟩)
    (hs : (⟨2, ![M, 1]⟩ : Shape).Broadcasts ⟨2, ![M, 1024]⟩) (hb : (⟨2, ![1, 1024]⟩ : Shape).Broadcasts ⟨2, ![M, 1024]⟩) :
    FVec Ideal ⟨2, ![M, 1024]⟩ .f32 :=
  addf (mulf (mulf (centred v hr hφ hacc hc hs) (broadcastTo ⟨2, ![M, 1024]⟩ (rsqrt (addf
      (meanBlock (mulf (centred v hr hφ hacc hc hs) (centred v hr hφ hacc hc hs)) hr hφ hacc hc) (broadcast ⟨2, ![M, 1]⟩ (Scalar.ofBits .f32 0x3727C5AC#32)))) hs))
    (broadcastTo ⟨2, ![M, 1024]⟩ g hb)) (broadcastTo ⟨2, ![M, 1024]⟩ b hb)

/-- The layer normalization of a block is `lnRow` of each of its rows. -/
theorem lnBlock_apply {M : ℕ} (v : FVec Ideal ⟨2, ![M, 1024]⟩ .f32) (g b : FVec Ideal ⟨2, ![1, 1024]⟩ .f32)
    (hr : (⟨2, ![M, 1024]⟩ : Shape).Reduces [1] ⟨1, ![M]⟩) (hφ : FKind.Formats .f32)
    (hacc : (0x00000000#32 : BitVec 32) = FKind.add.neutral .f32 hφ) (hc : (⟨1, ![M]⟩ : Shape).ShapeCasts ⟨2, ![M, 1]⟩)
    (hs : (⟨2, ![M, 1]⟩ : Shape).Broadcasts ⟨2, ![M, 1024]⟩) (hb : (⟨2, ![1, 1024]⟩ : Shape).Broadcasts ⟨2, ![M, 1024]⟩) (r : Fin M) (j : Fin 1024) :
    lnBlock v g b hr hφ hacc hc hs hb (ix2 r j) = lnRow (fun k => v (ix2 r k)) (g (ix2 0 j)) (b (ix2 0 j)) j := by
  have hva : meanBlock (mulf (centred v hr hφ hacc hc hs) (centred v hr hφ hacc hc hs)) hr hφ hacc hc (ix2 r 0)
      = mean (fun k => (v (ix2 r k) - mean (fun k => v (ix2 r k))) * (v (ix2 r k) - mean (fun k => v (ix2 r k)))) := by
    rw [meanBlock_apply]
    refine congrArg mean (funext fun k => ?_)
    show centred v hr hφ hacc hc hs (ix2 r k) * centred v hr hφ hacc hc hs (ix2 r k) = _
    rw [centred_apply]
  show centred v hr hφ hacc hc hs (ix2 r j) * broadcastTo ⟨2, ![M, 1024]⟩ _ hs (ix2 r j)
      * broadcastTo ⟨2, ![M, 1024]⟩ g hb (ix2 r j) + broadcastTo ⟨2, ![M, 1024]⟩ b hb (ix2 r j) = _
  rw [spread_apply, rows_apply, rows_apply, centred_apply]
  show _ * Ideal.rsqrt (meanBlock _ hr hφ hacc hc (ix2 r 0) + eps) * _ + _ = _
  rw [hva]; rfl

/-- A kernel product into zeros, at row `r` and column `j`. -/
theorem dotBlock_apply {M K N : ℕ} {φ₁ φ₂ : FTy} (prec : Option ContractPrecision) (x : FVec Ideal ⟨2, ![M, K]⟩ φ₁) (w : FVec Ideal ⟨2, ![K, N]⟩ φ₂)
    (r : Fin M) (j : Fin N) :
    matmul (DotDims.plain M K N) prec x w (constant ⟨2, ![M, N]⟩ .f32 0x00000000#32) (ix2 r j)
      = rowDot (fun k => x (ix2 r k)) (fun k j => w (ix2 k j)) j := by
  refine (Ideal.matmul_plain_apply prec x w _ r j).trans ?_
  show Ideal.ofBits .f32 0x00000000#32 + _ = _
  rw [Ideal.ofBits_zero_f32, zero_add]; rfl

/-- The gated product of a block from its gate product `a` and its up product `u`, in the kernels' vector operations. -/
def gatedBlock {M N : ℕ} (a u : FVec Ideal ⟨2, ![M, N]⟩ .f32) : FVec Ideal ⟨2, ![M, N]⟩ .f32 := mulf (mulf a (logistic a)) u

/-- The feed forward block of `M` rows, in the kernels' vector operations. -/
def swigluBlock {M K N P : ℕ} {φ₁ φ₂ φ₃ φ₄ φ₅ : FTy} (x : FVec Ideal ⟨2, ![M, K]⟩ φ₁) (wg : FVec Ideal ⟨2, ![K, N]⟩ φ₂) (wu : FVec Ideal ⟨2, ![K, N]⟩ φ₃)
    (wd : FVec Ideal ⟨2, ![N, P]⟩ φ₄) (cv : FVec Ideal ⟨2, ![M, N]⟩ .f32 → FVec Ideal ⟨2, ![M, N]⟩ φ₅) : FVec Ideal ⟨2, ![M, P]⟩ .f32 :=
  matmul (DotDims.plain M N P) none (cv (gatedBlock (matmul (DotDims.plain M K N) none x wg (constant ⟨2, ![M, N]⟩ .f32 0x00000000#32))
    (matmul (DotDims.plain M K N) none x wu (constant ⟨2, ![M, N]⟩ .f32 0x00000000#32)))) wd (constant ⟨2, ![M, P]⟩ .f32 0x00000000#32)

/-- The feed forward block is `swiglu` of each row; `cv` is the conversion of the hidden block to the product's format, the
    identity over the extended reals. -/
theorem swigluBlock_apply {M K N P : ℕ} {φ₁ φ₂ φ₃ φ₄ φ₅ : FTy} (x : FVec Ideal ⟨2, ![M, K]⟩ φ₁) (wg : FVec Ideal ⟨2, ![K, N]⟩ φ₂) (wu : FVec Ideal ⟨2, ![K, N]⟩ φ₃)
    (wd : FVec Ideal ⟨2, ![N, P]⟩ φ₄) (cv : FVec Ideal ⟨2, ![M, N]⟩ .f32 → FVec Ideal ⟨2, ![M, N]⟩ φ₅) (hto : ∀ v i, cv v i = v i) (r : Fin M) (j : Fin P) :
    swigluBlock x wg wu wd cv (ix2 r j)
      = swiglu (fun k => x (ix2 r k)) (fun k j => wg (ix2 k j)) (fun k j => wu (ix2 k j)) (fun k j => wd (ix2 k j)) j := by
  refine (dotBlock_apply none _ wd r j).trans (congrArg (fun h => rowDot h (fun k j => wd (ix2 k j)) j) (funext fun k => ?_))
  refine (hto _ _).trans ?_
  show matmul (DotDims.plain M K N) none x wg (constant ⟨2, ![M, N]⟩ .f32 0x00000000#32) (ix2 r k)
    * Ideal.logistic (matmul (DotDims.plain M K N) none x wg (constant ⟨2, ![M, N]⟩ .f32 0x00000000#32) (ix2 r k))
    * matmul (DotDims.plain M K N) none x wu (constant ⟨2, ![M, N]⟩ .f32 0x00000000#32) (ix2 r k) = _
  rw [dotBlock_apply none x wu, dotBlock_apply none x wg]; rfl

end Cert.Rows

end
-- ==== Proof.MoeCases.lean ====
module

public import proofs.«01_k».proof.Proof.Gen.MoeIdeal.Value
public import proofs.«01_k».proof.Proof.Rows

/-! The expert call, one grid point at a time: what a point leaves in the routing weights, in the running sum and in the output block. -/

@[expose] public section

set_option maxRecDepth 16384

noncomputable section

namespace Cert.MoeIdeal.Rows

open Cert.MoeIdeal Cert.MoeIdeal.Gen Idealize.ShloMosaic Idealize.ShloMosaic.TcCoe Idealize.SL.Sem
open Idealize.ShloMosaic.Pipeline (Dat)

/-- The offset vector written out as zeros is the constant zero vector. -/
theorem hz : (![0, 0] : Fin 2 → Nat) = fun _ => 0 := funext fun a => by fin_cases a <;> rfl
/-- The same for three dimensions. -/
theorem hz3 : (![0, 0, 0] : Fin 3 → Nat) = fun _ => 0 := funext fun a => by fin_cases a <;> rfl

/-- The lane numbers of a block. -/
abbrev lanes : IVec S512x128 32 := iota .tc S512x128 32 [1] iota_S512x128_d1_w32

/-- The routing weights of a block of rows, as the kernel's vector operations compute them. -/
def combBlock (x : Vec Ideal S512x1024 .f32) (rw : Vec Ideal S1024x128 .f32) (rb : Vec Ideal S1x128 .f32) : FVec Ideal S512x128 .f32 :=
  k0_pay13 (F := Ideal) (k0_pay4 lanes) (k0_pay8 lanes x rw rb) (k0_pay9 lanes x rw rb) (k0_pay10 lanes x rw rb) (k0_pay11 lanes x rw rb) (k0_pay12 lanes x rw rb)
    (Scalar.ofBits .f32 0x00000000#32)

section Points

variable (c : Dev nD) (i : grid0.Coords) (arg2 : Memref sig .tc .vmem S512x1024 .f32) (h2 : arg2.IsWhole) (arg3 : Memref sig .tc .vmem S1024x128 .f32) (h3 : arg3.IsWhole)
  (arg4 : Memref sig .tc .vmem S1x128 .f32) (h4 : arg4.IsWhole) (arg5 : Memref sig .tc .vmem S1x1024x1408 .bf16) (h5 : arg5.IsWhole)
  (arg6 : Memref sig .tc .vmem S1x1024x1408 .bf16) (h6 : arg6.IsWhole) (arg7 : Memref sig .tc .vmem S1x1408x1024 .bf16) (h7 : arg7.IsWhole)
  (arg8 : Memref sig .tc .vmem S1x1024 .f32) (h8 : arg8.IsWhole) (arg9 : Memref sig .tc .vmem S1x1024 .f32) (h9 : arg9.IsWhole)
  (arg10 : Memref sig .tc .vmem S512x1024 .f32) (h10 : arg10.IsWhole) (arg11 : Memref sig .tc .vmem S512x128 .f32) (h11 : arg11.IsWhole)
  (arg12 : Memref sig .tc .vmem S512x1024 .f32) (h12 : arg12.IsWhole)
  (x0 : Vec Ideal S512x1024 .f32) (x1 : Vec Ideal S1024x128 .f32) (x2 : Vec Ideal S1x128 .f32) (x3 x4 : Vec Ideal S1x1024x1408 .bf16) (x5 : Vec Ideal S1x1408x1024 .bf16)
  (x6 x7 : Vec Ideal S1x1024 .f32) (xs0 : Vec Ideal S512x128 .f32) (xs1 : Vec Ideal S512x1024 .f32)

/-- The first expert's point leaves the routing weights of its rows. -/
theorem weights_A (hc0 : cond0_0 i) (hc1 : ¬cond0_1 i) :
    sout0_A_0 (F := Ideal) c i arg2 h2 arg3 h3 arg4 h4 arg5 h5 arg6 h6 arg7 h7 arg8 h8 arg9 h9 arg10 h10 arg11 h11 arg12 h12 hc0 hc1 x0 x1 x2 x3 x4 x5 x6 x7
      = combBlock x0 x1 x2 := by
  unfold sout0_A_0
  rw [View.read_writes_eq_canon _ _ _ (scover0_A_0 c i arg2 h2 arg3 h3 arg4 h4 arg5 h5 arg6 h6 arg7 h7 arg8 h8 arg9 h9 arg10 h10 arg11 h11 arg12 h12 hc0 hc1 x0 x1 x2 x3 x4 x5 x6 x7)]
  unfold kernelRun0_A
  dsimp only
  sl_unfold_words
  rw [View.canon_unit_zero (S := S512x128) hz]
  unfold combBlock
  simp only [View.readAt_eq_ld, h2.read_unread, h3.read_unread, h4.read_unread, View.ld_unit_zero (S := S512x1024) hz, View.ld_unit_zero (S := S1024x128) hz,
    View.ld_unit_zero (S := S1x128) hz]

/-- The first expert's point leaves its own share, added to zeros. -/
theorem sum_A (hc0 : cond0_0 i) (hc1 : ¬cond0_1 i) :
    sout0_A_1 (F := Ideal) c i arg2 h2 arg3 h3 arg4 h4 arg5 h5 arg6 h6 arg7 h7 arg8 h8 arg9 h9 arg10 h10 arg11 h11 arg12 h12 hc0 hc1 x0 x1 x2 x3 x4 x5 x6 x7
      = k0_pay15 i x0 x3 x4 x5 (combBlock x0 x1 x2) (k0_pay14 (F := Ideal)) := by
  unfold sout0_A_1
  rw [View.read_writes_eq_canon _ _ _ (scover0_A_1 c i arg2 h2 arg3 h3 arg4 h4 arg5 h5 arg6 h6 arg7 h7 arg8 h8 arg9 h9 arg10 h10 arg11 h11 arg12 h12 hc0 hc1 x0 x1 x2 x3 x4 x5 x6 x7)]
  unfold kernelRun0_A
  dsimp only
  sl_unfold_words
  rw [View.canon_cons_unit_zero (S := S512x1024) hz, View.readCov_unit_zero (S := S512x128) _ hz, View.readCov_unit_zero (S := S512x1024) _ hz]
  unfold combBlock
  simp only [View.readAt_eq_ld, h2.read_unread, h3.read_unread, h4.read_unread, h5.read_unread, h6.read_unread, h7.read_unread, View.ld_unit_zero (S := S512x1024) hz,
    View.ld_unit_zero (S := S1024x128) hz, View.ld_unit_zero (S := S1x128) hz, View.ld_unit_zero (S := S1x1024x1408) hz3, View.ld_unit_zero (S := S1x1408x1024) hz3]

/-- A middle expert's point adds its share to the running sum. -/
theorem sum_B (hc0 : ¬cond0_0 i) (hc1 : ¬cond0_1 i) :
    sout0_B_1 (F := Ideal) c i arg2 h2 arg3 h3 arg4 h4 arg5 h5 arg6 h6 arg7 h7 arg8 h8 arg9 h9 arg10 h10 arg11 h11 arg12 h12 hc0 hc1 x0 x1 x2 x3 x4 x5 x6 x7 xs0 xs1
      = k0_pay15 i x0 x3 x4 x5 xs0 xs1 := by
  unfold sout0_B_1
  rw [View.read_writes_eq_canon _ _ _ (scover0_B_1 c i arg2 h2 arg3 h3 arg4 h4 arg5 h5 arg6 h6 arg7 h7 arg8 h8 arg9 h9 arg10 h10 arg11 h11 arg12 h12 hc0 hc1 x0 x1 x2 x3 x4 x5 x6 x7 xs0 xs1)]
  unfold kernelRun0_B
  dsimp only
  sl_unfold_words
  rw [View.canon_unit_zero (S := S512x1024) hz]
  simp only [View.readAt_eq_ld, h2.read_unread, h5.read_unread, h6.read_unread, h7.read_unread, h11.read_unread, h12.read_unread, View.ld_unit_zero (S := S512x1024) hz,
    View.ld_unit_zero (S := S512x128) hz, View.ld_unit_zero (S := S1x1024x1408) hz3, View.ld_unit_zero (S := S1x1408x1024) hz3]

/-- The last expert's point adds its share to the running sum as well. -/
theorem sum_C (hc0 : ¬cond0_0 i) (hc1 : cond0_1 i) :
    sout0_C_1 (F := Ideal) c i arg2 h2 arg3 h3 arg4 h4 arg5 h5 arg6 h6 arg7 h7 arg8 h8 arg9 h9 arg10 h10 arg11 h11 arg12 h12 hc0 hc1 x0 x1 x2 x3 x4 x5 x6 x7 xs0 xs1
      = k0_pay15 i x0 x3 x4 x5 xs0 xs1 := by
  unfold sout0_C_1
  rw [View.read_writes_eq_canon _ _ _ (scover0_C_1 c i arg2 h2 arg3 h3 arg4 h4 arg5 h5 arg6 h6 arg7 h7 arg8 h8 arg9 h9 arg10 h10 arg11 h11 arg12 h12 hc0 hc1 x0 x1 x2 x3 x4 x5 x6 x7 xs0 xs1)]
  unfold kernelRun0_C
  dsimp only
  sl_unfold_words
  rw [View.canon_unit_zero (S := S512x1024) hz]
  simp only [View.readAt_eq_ld, h2.read_unread, h5.read_unread, h6.read_unread, h7.read_unread, h11.read_unread, h12.read_unread, View.ld_unit_zero (S := S512x1024) hz,
    View.ld_unit_zero (S := S512x128) hz, View.ld_unit_zero (S := S1x1024x1408) hz3, View.ld_unit_zero (S := S1x1408x1024) hz3]

/-- The last expert's point normalizes the residual plus the finished sum. -/
theorem out_C (hc0 : ¬cond0_0 i) (hc1 : cond0_1 i) :
    out0_C_8 (F := Ideal) c i arg2 h2 arg3 h3 arg4 h4 arg5 h5 arg6 h6 arg7 h7 arg8 h8 arg9 h9 arg10 h10 arg11 h11 arg12 h12 hc0 hc1 x0 x1 x2 x3 x4 x5 x6 x7 xs0 xs1
      = k0_pay1 x0 (k0_pay15 i x0 x3 x4 x5 xs0 xs1) x6 x7 := by
  unfold out0_C_8
  rw [View.read_writes_eq_canon _ _ _ (cover0_C_8 c i arg2 h2 arg3 h3 arg4 h4 arg5 h5 arg6 h6 arg7 h7 arg8 h8 arg9 h9 arg10 h10 arg11 h11 arg12 h12 hc0 hc1 x0 x1 x2 x3 x4 x5 x6 x7 xs0 xs1)]
  unfold kernelRun0_C
  dsimp only
  sl_unfold_words
  rw [View.canon_unit_zero (S := S512x1024) hz, View.readCov_unit_zero (S := S512x1024) _ hz]
  simp only [View.readAt_eq_ld, h2.read_unread, h5.read_unread, h6.read_unread, h7.read_unread, h8.read_unread, h9.read_unread, h11.read_unread, h12.read_unread,
    View.ld_unit_zero (S := S512x1024) hz, View.ld_unit_zero (S := S512x128) hz, View.ld_unit_zero (S := S1x1024) hz,
    View.ld_unit_zero (S := S1x1024x1408) hz3, View.ld_unit_zero (S := S1x1408x1024) hz3]

end Points

end Cert.MoeIdeal.Rows

end
-- ==== Proof.Routing.lean ====
module

public import proofs.«01_k».proof.Proof.Rows
public import Idealize.ShloMosaic.Lib.SortFacts
public import Idealize.ShloMosaic.Lib.IdealHost

/-! The routing of a row: the two greatest of its eight logits, the lower expert first among equals, and the softmax of the two as their weights.
    Read once as the reference's stable sort and once as the kernel's two passes of a lane maximum and a lowest matching lane. -/

@[expose] public section

set_option maxRecDepth 16384

noncomputable section

namespace Cert.Rows

open Idealize.ShloMosaic Idealize.ShloMosaic.ValueIdx
open scoped BigOperators

/-! ## The two best of a row of logits -/

/-- Position `k` of the experts ordered by descending logit, equal logits in the experts' order. -/
def ranked {n : ℕ} (L : Fin n → EReal) : Fin n → Fin n := sortedFrom fun a b => decide (L b < L a)

/-- What makes `p` the best and `q` the second best. -/
structure Best {n : ℕ} (L : Fin n → EReal) (p q : Fin n) : Prop where
  ne : q ≠ p
  le_p : ∀ k, L k ≤ L p
  lt_p : ∀ k, k < p → L k < L p
  le_q : ∀ k, k ≠ p → L k ≤ L q
  lt_q : ∀ k, k < q → k ≠ p → L k < L q

/-- Greater first, and the earlier first among equals. -/
def Before {n : ℕ} (L : Fin n → EReal) (a b : Fin n) : Prop := L b < L a ∨ (L a = L b ∧ a < b)

/-- Inserting an element that precedes every entry keeps a list ordered by `Before`. -/
theorem insert_before {n : ℕ} (L : Fin n → EReal) (a : Fin n) : ∀ l : List (Fin n), (∀ b ∈ l, a < b) → l.Pairwise (Before L) →
    (insertBefore (fun x y => decide (L y < L x)) a l).Pairwise (Before L)
  | [], _, _ => List.pairwise_singleton _ _
  | b :: l, ha, hl => by
    obtain ⟨hb, hl'⟩ := List.pairwise_cons.mp hl
    unfold insertBefore
    split
    · next h =>
      have hab : L a < L b := by simpa using h
      refine List.pairwise_cons.mpr ⟨fun x hx => ?_, insert_before L a l (fun x hx => ha x (List.mem_cons_of_mem _ hx)) hl'⟩
      rcases List.mem_cons.mp ((perm_insertBefore _ a l).mem_iff.mp hx) with rfl | hx
      · exact Or.inl hab
      · exact hb x hx
    · next h =>
      have hab : L b ≤ L a := by simpa using h
      refine List.pairwise_cons.mpr ⟨fun x hx => ?_, hl⟩
      have hax := ha x hx
      rcases List.mem_cons.mp hx with rfl | hx'
      · exact hab.lt_or_eq.imp id fun e => ⟨e.symm, hax⟩
      · rcases hb x hx' with h' | ⟨h', -⟩
        · exact Or.inl (h'.trans_le hab)
        · exact hab.lt_or_eq.imp (fun e => h' ▸ e) fun e => ⟨e.symm.trans h', hax⟩

/-- The stable sort of an increasing list is ordered by `Before`. -/
theorem sort_before {n : ℕ} (L : Fin n → EReal) : ∀ l : List (Fin n), l.Pairwise (· < ·) →
    (stableSort (fun x y => decide (L y < L x)) l).Pairwise (Before L)
  | [], _ => List.Pairwise.nil
  | a :: l, hl => by
    obtain ⟨ha, hl'⟩ := List.pairwise_cons.mp hl
    unfold stableSort
    exact insert_before L a _ (fun b hb => ha b ((perm_stableSort _ l).mem_iff.mp hb)) (sort_before L l hl')

/-- An earlier position holds an expert that comes before. -/
theorem ranked_before {n : ℕ} (L : Fin n → EReal) {i j : Fin n} (h : i < j) : Before L (ranked L i) (ranked L j) := by
  have hp := List.pairwise_iff_get.mp (sort_before L (List.finRange n) (List.pairwise_lt_finRange n))
  unfold ranked sortedFrom
  exact hp _ _ (show i.val < j.val from h)

/-- The first two positions hold the best and the second best. -/
theorem ranked_best (L : Fin 8 → EReal) : Best L (ranked L 0) (ranked L 1) := by
  have hinj : Function.Injective (ranked L) := sortedFrom_injective _
  have hsur : Function.Surjective (ranked L) := sortedFrom_surjective _
  have h0 : ∀ k, k ≠ ranked L 0 → Before L (ranked L 0) k := fun k hk => by
    obtain ⟨j, rfl⟩ := hsur k
    exact ranked_before L (Fin.pos_of_ne_zero fun e => hk (by rw [e]))
  have h1 : ∀ k, k ≠ ranked L 0 → k ≠ ranked L 1 → Before L (ranked L 1) k := fun k hk hk' => by
    obtain ⟨j, rfl⟩ := hsur k
    refine ranked_before L ?_
    have a0 : j ≠ 0 := fun e => hk (by rw [e])
    have a1 : j ≠ 1 := fun e => hk' (by rw [e])
    omega
  refine ⟨fun e => absurd (hinj e) (by decide), fun k => ?_, fun k hk => ?_, fun k hk => ?_, fun k hk hk' => ?_⟩
  · by_cases hk : k = ranked L 0
    · rw [hk]
    · rcases h0 k hk with h | ⟨h, -⟩
      · exact h.le
      · exact h.ge
  · rcases h0 k hk.ne with h | ⟨-, h⟩
    · exact h
    · exact absurd (hk.trans h) (lt_irrefl _)
  · by_cases hk' : k = ranked L 1
    · rw [hk']
    · rcases h1 k hk hk' with h | ⟨h, -⟩
      · exact h.le
      · exact h.ge
  · rcases h1 k hk' hk.ne with h | ⟨-, h⟩
    · exact h
    · exact absurd (hk.trans h) (lt_irrefl _)

/-- The weight of expert `e` when `p` is best and `q` second: the softmax of the two logits at the one `e` is, and zero elsewhere. -/
def weightOf (L : Fin 8 → EReal) (p q e : Fin 8) : EReal :=
  (if e = p then Ideal.div 1 (1 + Ideal.exp (L q - L p)) else 0) + (if e = q then Ideal.div (Ideal.exp (L q - L p)) (1 + Ideal.exp (L q - L p)) else 0)

/-- The weight of expert `e` in a row with logits `L`. -/
def weight (L : Fin 8 → EReal) (e : Fin 8) : EReal := weightOf L (ranked L 0) (ranked L 1) e

/-! ## The kernel's way: maxima over the lanes, and the lowest lane that attains them -/

/-- A lane's number as a value. -/
def laneNo {n : ℕ} (l : Fin n) : EReal := ((l.val : ℝ) : EReal)

/-- Two lanes with the same number, as an extended real, are the same lane. -/
theorem laneNo_inj {n : ℕ} (a b : Fin n) : laneNo a = laneNo b ↔ a = b := by
  unfold laneNo
  rw [EReal.coe_eq_coe_iff, Nat.cast_inj, Fin.ext_iff]

/-- Lane numbers, as extended reals, are ordered like the lanes. -/
theorem laneNo_le {n : ℕ} (a b : Fin n) : laneNo a ≤ laneNo b ↔ a ≤ b := by
  unfold laneNo
  rw [EReal.coe_le_coe_iff, Nat.cast_le, Fin.le_def]

/-- The greatest of the lanes. -/
def laneMax {n : ℕ} (y : Fin n → EReal) : EReal := Finset.univ.fold max ⊥ y

/-- The lowest lane holding `v`, and at most `d`. -/
def laneFirst {n : ℕ} (d : EReal) (y : Fin n → EReal) (v : EReal) : EReal := Finset.univ.fold min ⊤ fun l => if y l = v then laneNo l else d

/-- A maximum over the lanes is the value at a lane that no other lane exceeds. -/
theorem laneMax_eq {n : ℕ} (y : Fin n → EReal) (p : Fin n) (h : ∀ l, y l ≤ y p) : laneMax y = y p := by
  refine le_antisymm ?_ ?_
  · exact (Finset.fold_max_le (y p)).mpr ⟨bot_le, fun l _ => h l⟩
  · exact (Finset.le_fold_max (y p)).mpr (Or.inr ⟨p, Finset.mem_univ _, le_rfl⟩)

/-- The least lane number among the lanes that hold a value is the first lane that holds it. -/
theorem laneFirst_eq {n : ℕ} (d : EReal) (y : Fin n → EReal) (v : EReal) (p : Fin n) (hp : y p = v) (h : ∀ l, l < p → y l ≠ v) (hd : laneNo p ≤ d) :
    laneFirst d y v = laneNo p := by
  refine le_antisymm ?_ ?_
  · exact (Finset.fold_min_le (laneNo p)).mpr (Or.inr ⟨p, Finset.mem_univ _, by simp only [hp, if_true]; exact le_rfl⟩)
  · refine (Finset.le_fold_min (laneNo p)).mpr ⟨le_top, fun l _ => ?_⟩
    split
    · next e => exact (laneNo_le p l).mpr (not_lt.mp fun hl => h l hl e)
    · exact hd

/-- The lane of an expert. -/
def lane (e : Fin 8) : Fin 128 := ⟨e.val, by omega⟩

/-- Different experts have different lanes. -/
theorem lane_inj (a b : Fin 8) : lane a = lane b ↔ a = b := by simp only [lane, Fin.mk.injEq, Fin.ext_iff]

/-- The logits on the lanes: those past the experts are least. -/
def onLanes (L : Fin 8 → EReal) (l : Fin 128) : EReal := if h : l.val < 8 then L ⟨l.val, h⟩ else ⊥

/-- The padded row of logits has the logit of an expert on the lane of the expert. -/
theorem onLanes_lane (L : Fin 8 → EReal) (e : Fin 8) : onLanes L (lane e) = L e := by
  unfold onLanes; rw [dif_pos (show (lane e).val < 8 from e.isLt)]; rfl

/-- A lane is the lane of an expert or lies past the eight experts. -/
theorem lane_cases (l : Fin 128) : (∃ e, l = lane e) ∨ 8 ≤ l.val := by
  by_cases h : l.val < 8
  · exact Or.inl ⟨⟨l.val, h⟩, rfl⟩
  · exact Or.inr (not_lt.mp h)

/-- Past the experts the padded row of logits is minus infinity. -/
theorem onLanes_past (L : Fin 8 → EReal) (l : Fin 128) (h : 8 ≤ l.val) : onLanes L l = ⊥ := by
  unfold onLanes; rw [dif_neg (by omega)]

/-- The first maximum. -/
def topOne (y : Fin 128 → EReal) : EReal := laneMax y
/-- The lane of the first maximum. -/
def topLane (d : EReal) (y : Fin 128 → EReal) : EReal := laneFirst d y (topOne y)
/-- The lanes with the first maximum's taken out. -/
def without (d : EReal) (y : Fin 128 → EReal) (l : Fin 128) : EReal := if laneNo l = topLane d y then ⊥ else y l

/-- The weights on the lanes, as the kernel forms them. -/
def laneWeight (d : EReal) (y : Fin 128 → EReal) (l : Fin 128) : EReal :=
  (if laneNo l = topLane d y then Ideal.div 1 (1 + Ideal.exp (topOne (without d y) - topOne y)) else 0)
    + (if laneNo l = topLane d (without d y) then Ideal.div (Ideal.exp (topOne (without d y) - topOne y)) (1 + Ideal.exp (topOne (without d y) - topOne y)) else 0)

/-- With every logit above the least value, the kernel's weight on an expert's lane is the expert's weight. -/
theorem laneWeight_eq (d : EReal) (L : Fin 8 → EReal) (hL : ∀ e, L e ≠ ⊥) (hd : ∀ e, laneNo (lane e) ≤ d) (e : Fin 8) :
    laneWeight d (onLanes L) (lane e) = weight L e := by
  have hb := ranked_best L
  unfold weight
  generalize ranked L 0 = p at hb ⊢
  generalize ranked L 1 = q at hb ⊢
  have v1 : topOne (onLanes L) = L p := by
    refine (laneMax_eq _ (lane p) fun l => ?_).trans (onLanes_lane L p)
    rw [onLanes_lane]
    rcases lane_cases l with ⟨k, rfl⟩ | h
    · rw [onLanes_lane]; exact hb.le_p k
    · rw [onLanes_past L l h]; exact bot_le
  have i1 : topLane d (onLanes L) = laneNo (lane p) := by
    refine laneFirst_eq d _ _ _ ((onLanes_lane L p).trans v1.symm) (fun l hl => ?_) (hd p)
    have hl8 : l.val < 8 := lt_trans (Fin.lt_def.mp hl) p.isLt
    obtain ⟨k, rfl⟩ : ∃ k, l = lane k := ⟨⟨l.val, hl8⟩, rfl⟩
    rw [onLanes_lane, v1]
    exact (hb.lt_p k hl).ne
  have wp : without d (onLanes L) (lane p) = ⊥ := by unfold without; rw [i1, if_pos rfl]
  have wo : ∀ l, l ≠ lane p → without d (onLanes L) l = onLanes L l := fun l hl => by
    unfold without; rw [i1, if_neg (fun h => hl ((laneNo_inj _ _).mp h))]
  have wq : without d (onLanes L) (lane q) = L q := (wo _ fun h => hb.ne ((lane_inj _ _).mp h)).trans (onLanes_lane L q)
  have v2 : topOne (without d (onLanes L)) = L q := by
    refine (laneMax_eq _ (lane q) fun l => ?_).trans wq
    rw [wq]
    by_cases hp : l = lane p
    · rw [hp, wp]; exact bot_le
    · rw [wo l hp]
      rcases lane_cases l with ⟨k, rfl⟩ | h
      · rw [onLanes_lane]; exact hb.le_q k fun h => hp (by rw [h])
      · rw [onLanes_past L l h]; exact bot_le
  have i2 : topLane d (without d (onLanes L)) = laneNo (lane q) := by
    refine laneFirst_eq d _ _ _ (wq.trans v2.symm) (fun l hl => ?_) (hd q)
    rw [v2]
    by_cases hp : l = lane p
    · rw [hp, wp]; exact (hL q).symm
    · have hl8 : l.val < 8 := lt_trans (Fin.lt_def.mp hl) q.isLt
      obtain ⟨k, rfl⟩ : ∃ k, l = lane k := ⟨⟨l.val, hl8⟩, rfl⟩
      rw [wo _ hp, onLanes_lane]
      exact (hb.lt_q k hl fun h => hp (by rw [h])).ne
  unfold laneWeight weightOf
  simp only [v1, v2, i1, i2, laneNo_inj, lane_inj]

/-- One lane picked out of a row of lanes by a sum. -/
theorem pick_lane (y : Fin 128 → EReal) (e : Fin 8) : ∑ l : Fin 128, (if l = lane e then y l else 0) = y (lane e) := by
  rw [Finset.sum_ite_eq' Finset.univ (lane e) y, if_pos (Finset.mem_univ _)]

/-! ## The reference's way: a softmax over the two best logits, spread by a one-hot product -/

/-- The reference's weights from the two best logits, when those are numbers, are the weights. -/
theorem softmax_weight (L : Fin 8 → EReal) (hb : ∀ e, L e ≠ ⊥) (ht : ∀ e, L e ≠ ⊤) (e : Fin 8) :
    ∑ k : Fin 2, (if ranked L (Fin.castLE (by omega) k) = e then (1 : EReal) else 0)
        * Ideal.div (Ideal.exp (L (ranked L (Fin.castLE (by omega) k)) - L (ranked L 0)))
            (∑ k : Fin 2, Ideal.exp (L (ranked L (Fin.castLE (by omega) k)) - L (ranked L 0)))
      = weight L e := by
  have e0 : (Fin.castLE (by omega : 2 ≤ 8) (0 : Fin 2)) = (0 : Fin 8) := rfl
  have e1 : (Fin.castLE (by omega : 2 ≤ 8) (1 : Fin 2)) = (1 : Fin 8) := rfl
  have hz : L (ranked L 0) - L (ranked L 0) = 0 := by
    rw [EReal.sub_self (ht _) (hb _)]
  have hx : Ideal.exp (L (ranked L 0) - L (ranked L 0)) = 1 := by
    rw [hz]
    show ((Real.exp 0 : ℝ) : EReal) = 1
    rw [Real.exp_zero]; rfl
  simp only [Fin.sum_univ_two, e0, e1, hx]
  unfold weight weightOf
  congr 1
  · by_cases h : ranked L 0 = e
    · rw [if_pos h, if_pos h.symm, one_mul]
    · rw [if_neg h, if_neg (fun h' => h h'.symm), zero_mul]
  · by_cases h : ranked L 1 = e
    · rw [if_pos h, if_pos h.symm, one_mul]
    · rw [if_neg h, if_neg (fun h' => h h'.symm), zero_mul]

end Cert.Rows

end
-- ==== Proof.MoeTile.lean ====
module

public import proofs.«01_k».proof.Proof.Routing

/-! The block operations of the expert call, for any number of rows a block, read row by row over the extended reals: the routing weights of a
    block, one expert's share, and the closing normalization. -/

@[expose] public section

set_option maxRecDepth 16384

noncomputable section

namespace Cert.Rows

open Idealize.ShloMosaic Idealize.ShloMosaic.ValueIdx
open scoped BigOperators

/-- A choice by a comparison's bit. -/
theorem select_ofBool {α : Type} (p : Prop) [Decidable p] (a b : α) : Scalar.select (BitVec.ofBool (decide p)) a b = if p then a else b := by
  by_cases h : p
  · rw [if_pos h, decide_eq_true h]; rfl
  · rw [if_neg h, decide_eq_false h]; rfl

/-- A choice where two blocks hold equal values, at an element. -/
theorem select_oeq_apply {s : Shape} (a b x y : FVec Ideal s .f32) (i : s.Idx) : select (cmpf .oeq a b) x y i = if a i = b i then x i else y i :=
  select_ofBool _ _ _
/-- The exponential of a block, at an element. -/
theorem exp_apply {s : Shape} (a : FVec Ideal s .f32) (i : s.Idx) : exp a i = Ideal.exp (a i) := rfl
/-- The difference of two blocks, at an element. -/
theorem subf_apply {s : Shape} (a b : FVec Ideal s .f32) (i : s.Idx) : subf a b i = a i - b i := rfl
/-- The sum of two blocks, at an element. -/
theorem addf_apply {s : Shape} (a b : FVec Ideal s .f32) (i : s.Idx) : addf a b i = a i + b i := rfl
/-- The quotient of two blocks, at an element. -/
theorem divf_apply {s : Shape} (a b : FVec Ideal s .f32) (i : s.Idx) : divf a b i = Ideal.div (a i) (b i) := rfl
/-- A constant block, at an element. -/
theorem fillBlock_apply {s : Shape} (w : BitVec 32) (i : s.Idx) : broadcast s (Scalar.ofBits (F := Ideal) .f32 w) i = Ideal.ofBits .f32 w := rfl

/-- The word the programs write for minus infinity. -/
theorem ofBits_least : Ideal.ofBits .f32 0xFF800000#32 = ⊥ := by simp [Ideal.ofBits, Ideal.ieee]
/-- The word the programs write for plus infinity. -/
theorem ofBits_greatest : Ideal.ofBits .f32 0x7F800000#32 = ⊤ := by simp [Ideal.ofBits, Ideal.ieee]
/-- The number the kernel writes at lanes that do not match. -/
def past : EReal := Ideal.ofBits .f32 0x43000000#32
/-- The constant that stands for no lane is the number 128. -/
theorem past_eq : past = ((128 : ℝ) : EReal) := by
  unfold past
  simp [Ideal.ofBits, Ideal.ieee, -EReal.coe_mul]; norm_num
/-- The number of an expert's lane does not exceed that constant. -/
theorem laneNo_le_past (e : Fin 8) : laneNo (lane e) ≤ past := by
  rw [past_eq]
  unfold laneNo
  rw [EReal.coe_le_coe_iff]
  have h : (lane e).val ≤ 128 := (lane e).isLt.le
  exact_mod_cast h

/-- The side conditions of the block operations at `M` rows. -/
structure TileSides (M : ℕ) : Prop where
  iota : (⟨2, ![M, 128]⟩ : Shape).Iotas .tc 32 [1]
  keepW : (⟨2, ![1024, 128]⟩ : Shape).ShapeCasts ⟨2, ![1024, 128]⟩
  keepB : (⟨2, ![1, 128]⟩ : Shape).ShapeCasts ⟨2, ![1, 128]⟩
  keepC : (⟨2, ![M, 1]⟩ : Shape).ShapeCasts ⟨2, ![M, 1]⟩
  keepL : (⟨2, ![M, 128]⟩ : Shape).ShapeCasts ⟨2, ![M, 128]⟩
  keepX : (⟨2, ![M, 1024]⟩ : Shape).ShapeCasts ⟨2, ![M, 1024]⟩
  keepG : (⟨2, ![1, 1024]⟩ : Shape).ShapeCasts ⟨2, ![1, 1024]⟩
  squeezeW : (⟨3, ![1, 1024, 1408]⟩ : Shape).ShapeCasts ⟨2, ![1024, 1408]⟩
  squeezeD : (⟨3, ![1, 1408, 1024]⟩ : Shape).ShapeCasts ⟨2, ![1408, 1024]⟩
  col : (⟨1, ![M]⟩ : Shape).ShapeCasts ⟨2, ![M, 1]⟩
  redL : (⟨2, ![M, 128]⟩ : Shape).Reduces [1] ⟨1, ![M]⟩
  redX : (⟨2, ![M, 1024]⟩ : Shape).Reduces [1] ⟨1, ![M]⟩
  rowsL : (⟨2, ![1, 128]⟩ : Shape).Broadcasts ⟨2, ![M, 128]⟩
  rowsX : (⟨2, ![1, 1024]⟩ : Shape).Broadcasts ⟨2, ![M, 1024]⟩
  spreadL : (⟨2, ![M, 1]⟩ : Shape).Broadcasts ⟨2, ![M, 128]⟩
  spreadX : (⟨2, ![M, 1]⟩ : Shape).Broadcasts ⟨2, ![M, 1024]⟩
  bits : FTy.bits .bf16 < FTy.bits .f32

variable {M : ℕ} (s : TileSides M)

/-- The lane numbers of a block, as words. -/
def laneWords : IVec ⟨2, ![M, 128]⟩ 32 := iota .tc ⟨2, ![M, 128]⟩ 32 [1] s.iota
/-- The lane numbers of a block, as values. -/
def laneValues : FVec Ideal ⟨2, ![M, 128]⟩ .f32 := sitofp .f32 (laneWords s)
/-- The logits of a block on the experts' lanes, and minus infinity on the others. -/
def maskedTile (x : FVec Ideal ⟨2, ![M, 1024]⟩ .f32) (rw : FVec Ideal ⟨2, ![1024, 128]⟩ .f32) (rb : FVec Ideal ⟨2, ![1, 128]⟩ .f32) : FVec Ideal ⟨2, ![M, 128]⟩ .f32 :=
  select (cmpi .slt (laneWords s) (broadcast _ 8#32))
    (addf (matmul (φ₁ := .f32) (φ₂ := .f32) (DotDims.plain M 1024 128) (some .fp32) x (shapeCast _ rw s.keepW) (constant _ .f32 0x00000000#32))
      (broadcastTo _ (shapeCast _ rb s.keepB) s.rowsL)) (broadcast _ (Scalar.ofBits .f32 0xFF800000#32))
/-- The greatest value of each row. -/
def topTile (y : FVec Ideal ⟨2, ![M, 128]⟩ .f32) : FVec Ideal ⟨2, ![M, 1]⟩ .f32 :=
  shapeCast _ (multiReduction .maximumf [1] ⟨1, ![M]⟩ y 0xFF800000#32 s.redL (.inl rfl) rfl) s.col
/-- The lowest lane of each row that holds the row's value in `v`. -/
def firstTile (y : FVec Ideal ⟨2, ![M, 128]⟩ .f32) (v : FVec Ideal ⟨2, ![M, 1]⟩ .f32) : FVec Ideal ⟨2, ![M, 1]⟩ .f32 :=
  shapeCast _ (multiReduction .minimumf [1] ⟨1, ![M]⟩
    (select (cmpf .oeq y (broadcastTo _ v s.spreadL)) (laneValues s) (broadcast _ (Scalar.ofBits .f32 0x43000000#32)) : FVec Ideal ⟨2, ![M, 128]⟩ .f32)
    0x7F800000#32 s.redL (.inl rfl) rfl) s.col
/-- A block with minus infinity at each row's lane in `p`. -/
def dropTile (y : FVec Ideal ⟨2, ![M, 128]⟩ .f32) (p : FVec Ideal ⟨2, ![M, 1]⟩ .f32) : FVec Ideal ⟨2, ![M, 128]⟩ .f32 :=
  select (cmpf .oeq (laneValues s) (broadcastTo _ p s.spreadL)) (broadcast _ (Scalar.ofBits .f32 0xFF800000#32)) y
/-- Each row's value in `q` at its lane in `p`, and zero elsewhere. -/
def placeTile (p q : FVec Ideal ⟨2, ![M, 1]⟩ .f32) : FVec Ideal ⟨2, ![M, 128]⟩ .f32 :=
  select (cmpf .oeq (laneValues s) (broadcastTo _ p s.spreadL)) (broadcastTo _ (shapeCast _ q s.keepC) s.spreadL) (broadcast _ (Scalar.ofBits .f32 0x00000000#32))
/-- The exponential of the second greatest value minus the greatest. -/
def ratioTile (y : FVec Ideal ⟨2, ![M, 128]⟩ .f32) : FVec Ideal ⟨2, ![M, 1]⟩ .f32 :=
  exp (subf (topTile s (dropTile s y (firstTile s y (topTile s y)))) (topTile s y))
/-- One plus that exponential. -/
def totalTile (y : FVec Ideal ⟨2, ![M, 128]⟩ .f32) : FVec Ideal ⟨2, ![M, 1]⟩ .f32 :=
  addf (broadcast _ (Scalar.ofBits .f32 0x3F800000#32)) (ratioTile s y)
/-- The two chosen lanes of each row with their weights, and zero elsewhere. -/
def weighTile (y : FVec Ideal ⟨2, ![M, 128]⟩ .f32) : FVec Ideal ⟨2, ![M, 128]⟩ .f32 :=
  shapeCast _ (addf (placeTile s (firstTile s y (topTile s y)) (divf (broadcast _ (Scalar.ofBits .f32 0x3F800000#32)) (totalTile s y)))
    (placeTile s (firstTile s (dropTile s y (firstTile s y (topTile s y))) (topTile s (dropTile s y (firstTile s y (topTile s y))))) (divf (ratioTile s y) (totalTile s y)))) s.keepL
/-- The routing weights of a block. -/
def combTile (x : FVec Ideal ⟨2, ![M, 1024]⟩ .f32) (rw : FVec Ideal ⟨2, ![1024, 128]⟩ .f32) (rb : FVec Ideal ⟨2, ![1, 128]⟩ .f32) : FVec Ideal ⟨2, ![M, 128]⟩ .f32 :=
  weighTile s (maskedTile s x rw rb)

/-- The lane words, at an element. -/
theorem laneWords_apply (r : Fin M) (l : Fin 128) : laneWords s (ix2 r l) = BitVec.ofNat 32 l.val := by
  show BitVec.ofNat 32 (0 * 128 + l.val) = _
  rw [Nat.zero_mul, Nat.zero_add]

/-- The lane values, at an element. -/
theorem laneValues_apply (r : Fin M) (l : Fin 128) : laneValues s (ix2 r l) = laneNo l := by
  show (((laneWords s (ix2 r l)).toInt : ℝ) : EReal) = _
  rw [laneWords_apply]
  have h : ∀ l : Fin 128, (BitVec.ofNat 32 l.val).toInt = (l.val : Int) := by decide +kernel
  rw [h l]
  rfl

/-- A row's greatest value, from a lane maximum. -/
theorem topTile_apply (v : FVec Ideal ⟨2, ![M, 128]⟩ .f32) (r : Fin M) (z : Fin 1) : topTile s v (ix2 r z) = topOne fun l => v (ix2 r l) := by
  refine (column_apply _ _ r z).trans ((Ideal.multiReduction_maximumf_single v _ s.redL (.inl rfl) rfl (ix1 r)).trans ?_)
  unfold topOne laneMax
  refine congrArg₂ (fun b f => Finset.fold max b f Finset.univ) ofBits_least (funext fun k => congrArg v (funext fun a => ?_))
  match a with
  | ⟨0, _⟩ => rfl
  | ⟨1, _⟩ => rfl

/-- A row's least value, from a lane minimum. -/
theorem minRow_apply (v : FVec Ideal ⟨2, ![M, 128]⟩ .f32) (r : Fin M) (z : Fin 1) :
    shapeCast ⟨2, ![M, 1]⟩ (multiReduction .minimumf [1] ⟨1, ![M]⟩ v 0x7F800000#32 s.redL (.inl rfl) rfl) s.col (ix2 r z) = Finset.univ.fold min ⊤ fun l : Fin 128 => v (ix2 r l) := by
  refine (column_apply _ _ r z).trans ((multiReduction_minimumf_eq_fold v _ s.redL (.inl rfl) rfl (ix1 r)).trans ((s.redL.fold_filter_drop_single _ _ v (ix1 r)).trans ?_))
  refine congrArg₂ (fun b f => Finset.fold min b f Finset.univ) ofBits_greatest (funext fun k => congrArg v (funext fun a => ?_))
  match a with
  | ⟨0, _⟩ => rfl
  | ⟨1, _⟩ => rfl

/-- The first lane at which a row has the given value. -/
theorem firstTile_apply (y : FVec Ideal ⟨2, ![M, 128]⟩ .f32) (v : FVec Ideal ⟨2, ![M, 1]⟩ .f32) (r : Fin M) (z : Fin 1) :
    firstTile s y v (ix2 r z) = laneFirst past (fun l => y (ix2 r l)) (v (ix2 r 0)) := by
  refine (minRow_apply s _ r z).trans ?_
  unfold laneFirst
  refine congrArg (fun f => Finset.fold min ⊤ f Finset.univ) (funext fun l => ?_)
  refine (select_oeq_apply _ _ _ _ _).trans ?_
  rw [spread_apply, laneValues_apply]
  rfl

/-- The lane of a row's greatest value. -/
theorem topLane_apply (y : FVec Ideal ⟨2, ![M, 128]⟩ .f32) (r : Fin M) (z : Fin 1) : firstTile s y (topTile s y) (ix2 r z) = topLane past fun l => y (ix2 r l) := by
  rw [firstTile_apply, topTile_apply]
  rfl

/-- A row without its greatest value. -/
theorem dropTile_apply (y : FVec Ideal ⟨2, ![M, 128]⟩ .f32) (r : Fin M) (l : Fin 128) :
    dropTile s y (firstTile s y (topTile s y)) (ix2 r l) = without past (fun l => y (ix2 r l)) l := by
  refine (select_oeq_apply _ _ _ _ _).trans ?_
  rw [spread_apply, laneValues_apply, topLane_apply, fillBlock_apply, ofBits_least]
  rfl

/-- A row's value at its lane. -/
theorem placeTile_apply (p q : FVec Ideal ⟨2, ![M, 1]⟩ .f32) (r : Fin M) (l : Fin 128) : placeTile s p q (ix2 r l) = if laneNo l = p (ix2 r 0) then q (ix2 r 0) else 0 := by
  refine (select_oeq_apply _ _ _ _ _).trans ?_
  rw [spread_apply, spread_apply, laneValues_apply, shapeCast_self, fillBlock_apply, Ideal.ofBits_zero_f32]

/-- The exponential of the second logit minus the first. -/
theorem ratioTile_apply (y : FVec Ideal ⟨2, ![M, 128]⟩ .f32) (r : Fin M) (z : Fin 1) :
    ratioTile s y (ix2 r z) = Ideal.exp (topOne (without past fun l => y (ix2 r l)) - topOne fun l => y (ix2 r l)) := by
  refine (exp_apply _ _).trans ?_
  rw [subf_apply, topTile_apply, topTile_apply, funext (dropTile_apply s y r)]

/-- The sum of the two exponentials. -/
theorem totalTile_apply (y : FVec Ideal ⟨2, ![M, 128]⟩ .f32) (r : Fin M) (z : Fin 1) :
    totalTile s y (ix2 r z) = 1 + Ideal.exp (topOne (without past fun l => y (ix2 r l)) - topOne fun l => y (ix2 r l)) := by
  refine (addf_apply _ _ _).trans ?_
  rw [fillBlock_apply, Ideal.ofBits_one_f32, ratioTile_apply]

/-- The weights of a row, lane by lane. -/
theorem weighTile_apply (y : FVec Ideal ⟨2, ![M, 128]⟩ .f32) (r : Fin M) (l : Fin 128) : weighTile s y (ix2 r l) = laneWeight past (fun l => y (ix2 r l)) l := by
  unfold weighTile
  rw [shapeCast_self]
  refine (addf_apply _ _ _).trans ?_
  rw [placeTile_apply, placeTile_apply, topLane_apply, topLane_apply, divf_apply, divf_apply, totalTile_apply, ratioTile_apply, fillBlock_apply, Ideal.ofBits_one_f32,
    funext (dropTile_apply s y r)]
  rfl

/-- The logits of a row on the experts' lanes. -/
def blockLogits (x : FVec Ideal ⟨2, ![M, 1024]⟩ .f32) (rw : FVec Ideal ⟨2, ![1024, 128]⟩ .f32) (rb : FVec Ideal ⟨2, ![1, 128]⟩ .f32) (r : Fin M) (e : Fin 8) : EReal :=
  rowDot (fun k => x (ix2 r k)) (fun k l => rw (ix2 k l)) (lane e) + rb (ix2 0 (lane e))

/-- The masked logits of a row. -/
theorem maskedTile_apply (x : FVec Ideal ⟨2, ![M, 1024]⟩ .f32) (rw : FVec Ideal ⟨2, ![1024, 128]⟩ .f32) (rb : FVec Ideal ⟨2, ![1, 128]⟩ .f32) (r : Fin M) (l : Fin 128) :
    maskedTile s x rw rb (ix2 r l) = onLanes (blockLogits x rw rb r) l := by
  have h : ∀ l : Fin 128, IntOp.cmpi .slt (BitVec.ofNat 32 l.val) 8#32 = BitVec.ofBool (decide (l.val < 8)) := by decide +kernel
  show Scalar.select (IntOp.cmpi .slt (laneWords s (ix2 r l)) 8#32)
    (matmul (F := Ideal) (φ₁ := .f32) (φ₂ := .f32) (DotDims.plain M 1024 128) (some .fp32) x (shapeCast _ rw s.keepW) (constant _ .f32 0x00000000#32) (ix2 r l)
      + broadcastTo ⟨2, ![M, 128]⟩ (shapeCast _ rb s.keepB) s.rowsL (ix2 r l)) (Ideal.ofBits .f32 0xFF800000#32) = _
  rw [laneWords_apply, h, select_ofBool, shapeCast_self, shapeCast_self, dotBlock_apply, rows_apply, ofBits_least]
  unfold onLanes
  split
  · rfl
  · rfl

/-- On an expert's lane the routing weight is the expert's weight, when every logit of the row is above minus infinity. -/
theorem combTile_apply (x : FVec Ideal ⟨2, ![M, 1024]⟩ .f32) (rw : FVec Ideal ⟨2, ![1024, 128]⟩ .f32) (rb : FVec Ideal ⟨2, ![1, 128]⟩ .f32) (r : Fin M)
    (hL : ∀ e, blockLogits x rw rb r e ≠ ⊥) (e : Fin 8) : combTile s x rw rb (ix2 r (lane e)) = weight (blockLogits x rw rb r) e := by
  refine (weighTile_apply s _ r (lane e)).trans ?_
  rw [funext (maskedTile_apply s x rw rb r)]
  exact laneWeight_eq past _ hL laneNo_le_past e

/-- A running sum with the weighted feed forward of the expert whose number is the word `n` added. -/
def shareTile (n : BitVec 32) (x : FVec Ideal ⟨2, ![M, 1024]⟩ .f32) (wg wu : FVec Ideal ⟨3, ![1, 1024, 1408]⟩ .bf16) (wd : FVec Ideal ⟨3, ![1, 1408, 1024]⟩ .bf16)
    (comb : FVec Ideal ⟨2, ![M, 128]⟩ .f32) (acc : FVec Ideal ⟨2, ![M, 1024]⟩ .f32) : FVec Ideal ⟨2, ![M, 1024]⟩ .f32 :=
  shapeCast _ (addf acc (mulf (broadcastTo _ (shapeCast _ (multiReduction .add [1] ⟨1, ![M]⟩
      (select (cmpi .eq (laneWords s) (broadcast _ n)) comb (broadcast _ (Scalar.ofBits .f32 0x00000000#32)) : FVec Ideal ⟨2, ![M, 128]⟩ .f32)
        0x00000000#32 s.redL (.inl rfl) rfl) s.col) s.spreadX)
    (swigluBlock (φ₁ := .bf16) (truncf .bf16 x s.bits) (shapeCast _ wg s.squeezeW) (shapeCast _ wu s.squeezeW) (shapeCast _ wd s.squeezeD)
      (φ₅ := .bf16) (fun v => truncf .bf16 v s.bits)))) s.keepX

/-- The expert's weighted feed forward is added to the running sum of each row. -/
theorem shareTile_apply (n : BitVec 32) (e : Fin 8) (he : n = BitVec.ofNat 32 e.val) (x : FVec Ideal ⟨2, ![M, 1024]⟩ .f32) (wg wu : FVec Ideal ⟨3, ![1, 1024, 1408]⟩ .bf16)
    (wd : FVec Ideal ⟨3, ![1, 1408, 1024]⟩ .bf16) (comb : FVec Ideal ⟨2, ![M, 128]⟩ .f32) (acc : FVec Ideal ⟨2, ![M, 1024]⟩ .f32) (r : Fin M) (j : Fin 1024) :
    shareTile s n x wg wu wd comb acc (ix2 r j)
      = acc (ix2 r j) + comb (ix2 r (lane e))
          * swiglu (fun k => x (ix2 r k)) (fun k j => wg (ix3 0 k j)) (fun k j => wu (ix3 0 k j)) (fun k j => wd (ix3 0 k j)) j := by
  unfold shareTile
  rw [shapeCast_self]
  show acc (ix2 r j) + broadcastTo ⟨2, ![M, 1024]⟩ _ s.spreadX (ix2 r j) * swigluBlock _ _ _ _ _ (ix2 r j) = _
  refine congrArg₂ (fun a b => acc (ix2 r j) + a * b) ?_ ?_
  · refine (spread_apply _ _ r j).trans ((column_apply _ _ r 0).trans ((laneSum_apply _ _ _ _ r).trans ?_))
    refine Eq.trans (Finset.sum_congr rfl fun l _ => ?_) (pick_lane (fun l => comb (ix2 r l)) e)
    show Scalar.select (IntOp.cmpi .eq (laneWords s (ix2 r l)) n) (comb (ix2 r l)) (Ideal.ofBits .f32 0x00000000#32) = _
    have h : ∀ (l : Fin 128) (e : Fin 8), IntOp.cmpi .eq (BitVec.ofNat 32 l.val) (BitVec.ofNat 32 e.val) = BitVec.ofBool (decide (l = lane e)) := by decide +kernel
    rw [laneWords_apply, he, h, select_ofBool, Ideal.ofBits_zero_f32]
  · refine (swigluBlock_apply (φ₄ := .bf16) (φ₅ := .bf16) (truncf .bf16 x s.bits : FVec Ideal ⟨2, ![M, 1024]⟩ .bf16) _ _ _
      (fun v => truncf .bf16 v s.bits) (fun _ _ => rfl) r j).trans ?_
    simp only [squeeze_apply]
    rfl

/-- A block of zeros. -/
def zeroTile : FVec Ideal ⟨2, ![M, 1024]⟩ .f32 := shapeCast _ (broadcast ⟨2, ![M, 1024]⟩ (Scalar.ofBits (F := Ideal) .f32 0x00000000#32)) s.keepX

/-- The block of zeros, at an element. -/
theorem zeroTile_apply (r : Fin M) (j : Fin 1024) : zeroTile s (ix2 r j) = 0 := by
  unfold zeroTile
  rw [shapeCast_self]
  exact Ideal.ofBits_zero_f32

/-- The layer normalization of the residual plus the finished sum. -/
def closeTile (x acc : FVec Ideal ⟨2, ![M, 1024]⟩ .f32) (g b : FVec Ideal ⟨2, ![1, 1024]⟩ .f32) : FVec Ideal ⟨2, ![M, 1024]⟩ .f32 :=
  lnBlock (addf (mulf (broadcast _ (Scalar.ofBits .f32 0x3FB504F3#32)) x) acc) (shapeCast _ g s.keepG) (shapeCast _ b s.keepG) s.redX (.inl rfl) rfl s.col s.spreadX s.rowsX

/-- The closing normalization, row by row. -/
theorem closeTile_apply (x acc : FVec Ideal ⟨2, ![M, 1024]⟩ .f32) (g b : FVec Ideal ⟨2, ![1, 1024]⟩ .f32) (r : Fin M) (j : Fin 1024) :
    closeTile s x acc g b (ix2 r j) = lnRow (fun k => alpha * x (ix2 r k) + acc (ix2 r k)) (g (ix2 0 j)) (b (ix2 0 j)) j := by
  refine (lnBlock_apply _ _ _ _ _ _ _ _ _ r j).trans ?_
  simp only [shapeCast_self]
  rfl

end Cert.Rows

end
-- ==== Proof.MoePay.lean ====
module

public import proofs.«01_k».proof.Proof.MoeCases
public import proofs.«01_k».proof.Proof.MoeTile

/-! The expert call's block operations, at blocks of 512 rows. -/

@[expose] public section

set_option maxRecDepth 16384

noncomputable section

namespace Cert.MoeIdeal.Rows

open Cert.MoeIdeal Cert.MoeIdeal.Gen Cert.Rows Idealize.ShloMosaic Idealize.ShloMosaic.ValueIdx

/-- The side conditions of the block operations at the call's block. -/
theorem tile : TileSides 512 :=
  ⟨iota_S512x128_d1_w32, shapeCasts_S1024x128_S1024x128, shapeCasts_S1x128_S1x128, shapeCasts_S512x1_S512x1, shapeCasts_S512x128_S512x128, shapeCasts_S512x1024_S512x1024,
    shapeCasts_S1x1024_S1x1024, shapeCasts_S1x1024x1408_S1024x1408, shapeCasts_S1x1408x1024_S1408x1024, shapeCasts_S512_S512x1, reduces_S512x128_S512, reduces_S512x1024_S512,
    broadcasts_S1x128_S512x128, broadcasts_S1x1024_S512x1024, broadcasts_S512x1_S512x128, broadcasts_S512x1_S512x1024, bitsLt_bf16_f32⟩

/-- The call's routing weights are the block's. -/
theorem combBlock_eq (x : Vec Ideal S512x1024 .f32) (rw : Vec Ideal S1024x128 .f32) (rb : Vec Ideal S1x128 .f32) : combBlock x rw rb = combTile tile x rw rb := rfl

/-- On an expert's lane the call's routing weight is the expert's weight, when every logit of the row is above minus infinity. -/
theorem combBlock_apply (x : Vec Ideal S512x1024 .f32) (rw : Vec Ideal S1024x128 .f32) (rb : Vec Ideal S1x128 .f32) (r : Fin 512) (hL : ∀ e, blockLogits x rw rb r e ≠ ⊥) (e : Fin 8) :
    combBlock x rw rb (ix2 r (lane e)) = weight (blockLogits x rw rb r) e :=
  (congrFun (combBlock_eq x rw rb) _).trans (combTile_apply tile x rw rb r hL e)

/-- A point's new running sum is the block's. -/
theorem share_eq (i : grid0.Coords) (x : Vec Ideal S512x1024 .f32) (wg wu : Vec Ideal S1x1024x1408 .bf16) (wd : Vec Ideal S1x1408x1024 .bf16) (comb : Vec Ideal S512x128 .f32)
    (acc : Vec Ideal S512x1024 .f32) : k0_pay15 (F := Ideal) i x wg wu wd comb acc = shareTile tile (BitVec.ofNat 32 (i 1).val) x wg wu wd comb acc := rfl

/-- An expert's point adds the expert's weighted feed forward to the running sum of each row. -/
theorem share_apply (i : grid0.Coords) (e : Fin 8) (he : (i 1).val = e.val) (x : Vec Ideal S512x1024 .f32) (wg wu : Vec Ideal S1x1024x1408 .bf16)
    (wd : Vec Ideal S1x1408x1024 .bf16) (comb : Vec Ideal S512x128 .f32) (acc : Vec Ideal S512x1024 .f32) (r : Fin 512) (j : Fin 1024) :
    k0_pay15 (F := Ideal) i x wg wu wd comb acc (ix2 r j)
      = acc (ix2 r j) + comb (ix2 r (lane e))
          * swiglu (fun k => x (ix2 r k)) (fun k j => wg (ix3 0 k j)) (fun k j => wu (ix3 0 k j)) (fun k j => wd (ix3 0 k j)) j :=
  (congrFun (share_eq i x wg wu wd comb acc) _).trans (shareTile_apply tile _ e (congrArg (BitVec.ofNat 32) he) x wg wu wd comb acc r j)

/-- The running sum starts at zero. -/
theorem zeros_apply (r : Fin 512) (j : Fin 1024) : k0_pay14 (F := Ideal) (ix2 r j) = 0 := zeroTile_apply tile r j

/-- The last point's result is the block's. -/
theorem close_eq (x acc : Vec Ideal S512x1024 .f32) (g b : Vec Ideal S1x1024 .f32) : k0_pay1 (F := Ideal) x acc g b = closeTile tile x acc g b := rfl

/-- The last point normalizes the residual plus the sum, row by row. -/
theorem close_apply (x acc : Vec Ideal S512x1024 .f32) (g b : Vec Ideal S1x1024 .f32) (r : Fin 512) (j : Fin 1024) :
    k0_pay1 (F := Ideal) x acc g b (ix2 r j) = lnRow (fun k => alpha * x (ix2 r k) + acc (ix2 r k)) (g (ix2 0 j)) (b (ix2 0 j)) j :=
  (congrFun (close_eq x acc g b) _).trans (closeTile_apply tile x acc g b r j)

end Cert.MoeIdeal.Rows

end
-- ==== Proof.MoeRows.lean ====
module

public import proofs.«01_k».proof.Proof.Routing

/-! The mixture of experts layer on all rows, at the extended reals, and the running sum over its experts. -/

@[expose] public section

noncomputable section

namespace Cert.Rows

open Idealize.ShloMosaic Idealize.ShloMosaic.ValueIdx
open scoped BigOperators

/-- The routing logits of row `r`. -/
def logits {N : ℕ} (X : (⟨2, ![N, 1024]⟩ : Shape).Idx → EReal) (rw : (⟨3, ![1, 1024, 8]⟩ : Shape).Idx → EReal) (rb : (⟨2, ![1, 8]⟩ : Shape).Idx → EReal)
    (r : Fin N) (e : Fin 8) : EReal :=
  rowDot (fun k => X (ix2 r k)) (fun k e => rw (ix3 0 k e)) e + rb (ix2 0 e)

/-- The feed forward of expert `e` on row `r`. -/
def expert {N : ℕ} (X : (⟨2, ![N, 1024]⟩ : Shape).Idx → EReal) (wg wu : (⟨4, ![1, 8, 1024, 1408]⟩ : Shape).Idx → EReal)
    (wd : (⟨4, ![1, 8, 1408, 1024]⟩ : Shape).Idx → EReal) (r : Fin N) (e : Fin 8) (j : Fin 1024) : EReal :=
  swiglu (fun k => X (ix2 r k)) (fun k j => wg (ix4 0 e k j)) (fun k j => wu (ix4 0 e k j)) (fun k j => wd (ix4 0 e k j)) j

/-- The mixture of experts layer on all rows: the layer normalization of `alpha * x + ∑ e, weight e * expert e (x)`, with row 1 of the gains and offsets. -/
def moeOut {N : ℕ} (X : (⟨2, ![N, 1024]⟩ : Shape).Idx → EReal) (rw : (⟨3, ![1, 1024, 8]⟩ : Shape).Idx → EReal) (rb : (⟨2, ![1, 8]⟩ : Shape).Idx → EReal)
    (wg wu : (⟨4, ![1, 8, 1024, 1408]⟩ : Shape).Idx → EReal) (wd : (⟨4, ![1, 8, 1408, 1024]⟩ : Shape).Idx → EReal)
    (lg lb : (⟨2, ![2, 1024]⟩ : Shape).Idx → EReal) : (⟨2, ![N, 1024]⟩ : Shape).Idx → EReal := fun i =>
  lnRow (fun k => alpha * X (ix2 (i 0) k) + ∑ e : Fin 8, weight (logits X rw rb (i 0)) e * expert X wg wu wd (i 0) e k)
    (lg (ix2 1 (i 1))) (lb (ix2 1 (i 1))) (i 1)

/-- A stack of matrices under a unit axis, reshaped to the stack. -/
theorem unstack_apply {E a b : ℕ} {α : Type} (v : (⟨4, ![1, E, a, b]⟩ : Shape).Idx → α) (h : (⟨4, ![1, E, a, b]⟩ : Shape).ShapeCasts ⟨3, ![E, a, b]⟩)
    (e : Fin E) (k : Fin a) (j : Fin b) : shapeCast ⟨3, ![E, a, b]⟩ v h (ix3 e k j) = v (ix4 0 e k j) := by
  refine shapeCast_apply v h _ _ ?_
  rw [Shape.rowMajor_val_four, Shape.rowMajor_val_three]
  show ((0 * E + e.val) * a + k.val) * b + j.val = (e.val * a + k.val) * b + j.val
  rw [Nat.zero_mul, Nat.zero_add]

/-- A row reshaped to a vector. -/
theorem flat_apply {b : ℕ} {α : Type} (v : (⟨2, ![1, b]⟩ : Shape).Idx → α) (h : (⟨2, ![1, b]⟩ : Shape).ShapeCasts ⟨1, ![b]⟩) (j : Fin b) :
    shapeCast ⟨1, ![b]⟩ v h (ix1 j) = v (ix2 0 j) := by
  refine shapeCast_apply v h _ _ ?_
  rw [Shape.rowMajor_val_two, Shape.rowMajor_val_one]
  show 0 * b + j.val = j.val
  omega

/-- A vector reshaped to a row. -/
theorem unflat_apply {b : ℕ} {α : Type} (v : (⟨1, ![b]⟩ : Shape).Idx → α) (h : (⟨1, ![b]⟩ : Shape).ShapeCasts ⟨2, ![1, b]⟩) (j : Fin b) :
    shapeCast ⟨2, ![1, b]⟩ v h (ix2 0 j) = v (ix1 j) := by
  refine shapeCast_apply v h _ _ ?_
  rw [Shape.rowMajor_val_one, Shape.rowMajor_val_two]
  show j.val = 0 * b + j.val
  omega

/-- The sum over the first `n` experts. -/
def partSum (a : Fin 8 → EReal) (n : ℕ) : EReal := ∑ f ∈ Finset.range n, if h : f < 8 then a ⟨f, h⟩ else 0

/-- One more expert adds its term. -/
theorem partSum_succ (a : Fin 8 → EReal) (e : Fin 8) : partSum a (e.val + 1) = partSum a e.val + a e := by
  unfold partSum
  rw [Finset.sum_range_succ, dif_pos e.isLt]

/-- No expert sums to zero. -/
theorem partSum_zero (a : Fin 8 → EReal) : partSum a 0 = 0 := Finset.sum_range_zero _

/-- All eight are the sum over the experts. -/
theorem partSum_all (a : Fin 8 → EReal) : partSum a 8 = ∑ e, a e := by
  unfold partSum
  rw [Finset.sum_range]
  exact Finset.sum_congr rfl fun e _ => dif_pos e.isLt

end Cert.Rows

end
-- ==== Proof.MoeBlocks.lean ====
module

public import proofs.«01_k».proof.Proof.MoePay
public import proofs.«01_k».proof.Proof.MoeRows
public import Idealize.ShloMosaic.Lib.KernelVsHost

/-! The mixture of experts call: the blocks its grid points read, as elements of the call's arguments. -/

@[expose] public section

set_option maxRecDepth 16384

noncomputable section

namespace Cert.MoeIdeal.Rows

open Cert.MoeIdeal Cert.MoeIdeal.Gen Cert.Rows Idealize.ShloMosaic Idealize.ShloMosaic.ValueIdx Idealize.ShloMosaic.TcCoe Idealize.SL.Sem
open Idealize.ShloMosaic.Pipeline (Dat)
open scoped BigOperators

variable (m : (ℓ : Loc nD τ sig) → Buf (Elt Ideal) ℓ) (ρ : Dev nD → PrngReg)

/-- The activations. -/
abbrev argX (c : Dev nD) : S65536x1024.Idx → EReal := m ((c : Thread nD τ).loc main_arg0)
/-- The router's matrix. -/
abbrev argRw (c : Dev nD) : S1x1024x8.Idx → EReal := m ((c : Thread nD τ).loc main_arg1)
/-- The router's offsets. -/
abbrev argRb (c : Dev nD) : S1x8.Idx → EReal := m ((c : Thread nD τ).loc main_arg2)
/-- The experts' gate weights. -/
abbrev argG (c : Dev nD) : S1x8x1024x1408.Idx → EReal := m ((c : Thread nD τ).loc main_arg3)
/-- The experts' up weights. -/
abbrev argU (c : Dev nD) : S1x8x1024x1408.Idx → EReal := m ((c : Thread nD τ).loc main_arg4)
/-- The experts' down weights. -/
abbrev argD (c : Dev nD) : S1x8x1408x1024.Idx → EReal := m ((c : Thread nD τ).loc main_arg5)
/-- The gains of the layer normalization. -/
abbrev argLg (c : Dev nD) : S2x1024.Idx → EReal := m ((c : Thread nD τ).loc main_arg6)
/-- The offsets of the layer normalization. -/
abbrev argLb (c : Dev nD) : S2x1024.Idx → EReal := m ((c : Thread nD τ).loc main_arg7)

/-- The router operand holds the router weights, padded with zeros to 128 lanes. -/
theorem V_rw (c : Dev nD) : (V m c main_v1 : S1024x128.Idx → EReal)
    = pad S1024x128 ![0, 0] ![0, 120] ![0, 0] (shapeCast S1024x8 (argRw m c) shapeCasts_S1x1024x8_S1024x8) (sitofp (F := Ideal) .f32 (constantI S_ 32 0#32))
        pads_S1024x8_S1024x128_000_01200 h_S_ := by
  unfold V; simp only [hostOps0, hostOps0_1, hostOps0_2, hostOps0_3, hostOps0_4, List.flatten_cons, List.flatten_nil, List.append_nil, List.cons_append, List.nil_append]
  after_results_simp <;> rfl
/-- The bias operand holds the router bias, padded with zeros to 128 lanes. -/
theorem V_rb (c : Dev nD) : (V m c main_v4 : S1x128.Idx → EReal)
    = shapeCast S1x128 (pad S128 ![0] ![120] ![0] (shapeCast S8 (argRb m c) shapeCasts_S1x8_S8) (sitofp (F := Ideal) .f32 (constantI S_ 32 0#32))
        pads_S8_S128_01200 h_S_) shapeCasts_S128_S1x128 := by
  unfold V; simp only [hostOps0, hostOps0_1, hostOps0_2, hostOps0_3, hostOps0_4, List.flatten_cons, List.flatten_nil, List.append_nil, List.cons_append, List.nil_append]
  after_results_simp <;> rfl
/-- The gate operand holds the gate weights without the leading unit dimension. -/
theorem V_g (c : Dev nD) : (V m c main_v6 : S8x1024x1408.Idx → EReal) = shapeCast S8x1024x1408 (argG m c) shapeCasts_S1x8x1024x1408_S8x1024x1408 := by
  unfold V; simp only [hostOps0, hostOps0_1, hostOps0_2, hostOps0_3, hostOps0_4, List.flatten_cons, List.flatten_nil, List.append_nil, List.cons_append, List.nil_append]
  after_results_simp <;> rfl
/-- The up operand holds the up weights without the leading unit dimension. -/
theorem V_u (c : Dev nD) : (V m c main_v8 : S8x1024x1408.Idx → EReal) = shapeCast S8x1024x1408 (argU m c) shapeCasts_S1x8x1024x1408_S8x1024x1408 := by
  unfold V; simp only [hostOps0, hostOps0_1, hostOps0_2, hostOps0_3, hostOps0_4, List.flatten_cons, List.flatten_nil, List.append_nil, List.cons_append, List.nil_append]
  after_results_simp <;> rfl
/-- The down operand holds the down weights without the leading unit dimension. -/
theorem V_d (c : Dev nD) : (V m c main_v10 : S8x1408x1024.Idx → EReal) = shapeCast S8x1408x1024 (argD m c) shapeCasts_S1x8x1408x1024_S8x1408x1024 := by
  unfold V; simp only [hostOps0, hostOps0_1, hostOps0_2, hostOps0_3, hostOps0_4, List.flatten_cons, List.flatten_nil, List.append_nil, List.cons_append, List.nil_append]
  after_results_simp <;> rfl
/-- The scale operand holds the row of the normalization scales that belongs to this layer. -/
theorem V_lg (c : Dev nD) : (V m c main_v13 : S1x1024.Idx → EReal)
    = shapeCast S1x1024 (shapeCast S1024 (extractStridedSlice S1x1024 ![1, 0] (argLg m c) slices_S2x1024_S1x1024_1_0) shapeCasts_S1x1024_S1024) shapeCasts_S1024_S1x1024 := by
  unfold V; simp only [hostOps0, hostOps0_1, hostOps0_2, hostOps0_3, hostOps0_4, List.flatten_cons, List.flatten_nil, List.append_nil, List.cons_append, List.nil_append]
  after_results_simp <;> rfl
/-- The shift operand holds the row of the normalization shifts that belongs to this layer. -/
theorem V_lb (c : Dev nD) : (V m c main_v16 : S1x1024.Idx → EReal)
    = shapeCast S1x1024 (shapeCast S1024 (extractStridedSlice S1x1024 ![1, 0] (argLb m c) slices_S2x1024_S1x1024_1_0) shapeCasts_S1x1024_S1024) shapeCasts_S1024_S1x1024 := by
  unfold V; simp only [hostOps0, hostOps0_1, hostOps0_2, hostOps0_3, hostOps0_4, List.flatten_cons, List.flatten_nil, List.append_nil, List.cons_append, List.nil_append]
  after_results_simp <;> rfl

/-- The expert of a grid point. -/
def expertAt (t : Fin cfg0.N) : Fin 8 := ⟨t.val % 8, Nat.mod_lt _ (by decide)⟩

/-- The row of the whole array that row `r` of point `t`'s block is. -/
def rowAt (t : Fin cfg0.N) (r : Fin 512) : Fin 65536 := ⟨t.val / 8 * 512 + r.val, by have h : t.val < 1024 := t.isLt.trans_eq N_0; omega⟩

/-- The second grid coordinate of a point is its number modulo eight. -/
theorem coord_expert : ∀ t : Fin cfg0.N, ((grid0.coords t) 1).val = t.val % 8 :=
  (by decide +kernel : ∀ t : Fin grid0.N, ((grid0.coords t) 1).val = t.val % 8)
/-- Which block of activation rows a grid point reads. -/
theorem idx_x : ∀ t : Fin cfg0.N, win0_0.index t 0 = t.val / 8 ∧ win0_0.index t 1 = 0 :=
  (by decide +kernel : ∀ t : Fin grid0.N, win0_0.index t 0 = t.val / 8 ∧ win0_0.index t 1 = 0)
/-- Which block of result rows a grid point writes. -/
theorem idx_o : ∀ t : Fin cfg0.N, win0_8.index t 0 = t.val / 8 ∧ win0_8.index t 1 = 0 :=
  (by decide +kernel : ∀ t : Fin grid0.N, win0_8.index t 0 = t.val / 8 ∧ win0_8.index t 1 = 0)
/-- The operands that every grid point reads whole stay at block zero. -/
theorem idx_whole : ∀ t : Fin cfg0.N, (win0_1.index t 0 = 0 ∧ win0_1.index t 1 = 0) ∧ (win0_2.index t 0 = 0 ∧ win0_2.index t 1 = 0)
    ∧ (win0_6.index t 0 = 0 ∧ win0_6.index t 1 = 0) ∧ (win0_7.index t 0 = 0 ∧ win0_7.index t 1 = 0) :=
  (by decide +kernel : ∀ t : Fin grid0.N, (win0_1.index t 0 = 0 ∧ win0_1.index t 1 = 0) ∧ (win0_2.index t 0 = 0 ∧ win0_2.index t 1 = 0)
    ∧ (win0_6.index t 0 = 0 ∧ win0_6.index t 1 = 0) ∧ (win0_7.index t 0 = 0 ∧ win0_7.index t 1 = 0))
/-- The expert weights at a grid point are those of the point's expert. -/
theorem idx_member : ∀ t : Fin cfg0.N, (win0_3.index t 0 = t.val % 8 ∧ win0_3.index t 1 = 0 ∧ win0_3.index t 2 = 0)
    ∧ (win0_4.index t 0 = t.val % 8 ∧ win0_4.index t 1 = 0 ∧ win0_4.index t 2 = 0) ∧ (win0_5.index t 0 = t.val % 8 ∧ win0_5.index t 1 = 0 ∧ win0_5.index t 2 = 0) :=
  (by decide +kernel : ∀ t : Fin grid0.N, (win0_3.index t 0 = t.val % 8 ∧ win0_3.index t 1 = 0 ∧ win0_3.index t 2 = 0)
    ∧ (win0_4.index t 0 = t.val % 8 ∧ win0_4.index t 1 = 0 ∧ win0_4.index t 2 = 0) ∧ (win0_5.index t 0 = t.val % 8 ∧ win0_5.index t 1 = 0 ∧ win0_5.index t 2 = 0))

/-- A grid point's activations. -/
theorem blk_x (c : Dev nD) (t : Fin cfg0.N) (r : Fin 512) (k : Fin 1024) : iblk m c 0 t (ix2 r k) = argX m c (ix2 (rowAt t r) k) := by
  refine Eq.trans ?_ (congrFun (V_main_arg0 m c) _)
  refine congrArg (V m c main_arg0) (funext fun a => Fin.ext ?_)
  match a with
  | ⟨0, _⟩ => show win0_0.index t 0 * 512 + 1 * r.val = t.val / 8 * 512 + r.val; rw [(idx_x t).1]; omega
  | ⟨1, _⟩ => show win0_0.index t 1 * 1024 + 1 * k.val = k.val; rw [(idx_x t).2]; omega

/-- Every grid point has the router's matrix, on the experts' lanes. -/
theorem blk_rw (c : Dev nD) (t : Fin cfg0.N) (k : Fin 1024) (e : Fin 8) : iblk m c 1 t (ix2 k (lane e)) = argRw m c (ix3 0 k e) := by
  refine Eq.trans ?_ ((congrFun (V_rw m c) (ix2 k (lane e))).trans ((pad_apply_of_inside _ _ _ _ _ _ _ _ (ix2 k e) fun a => ?_).trans (squeeze_apply (argRw m c) _ k e)))
  · refine congrArg (V m c main_v1) (funext fun a => Fin.ext ?_)
    match a with
    | ⟨0, _⟩ => show win0_1.index t 0 * 1024 + 1 * (k : Fin 1024).val = (k : Fin 1024).val; rw [(idx_whole t).1.1]; omega
    | ⟨1, _⟩ => show win0_1.index t 1 * 128 + 1 * (lane e).val = (lane e).val; rw [(idx_whole t).1.2]; omega
  · match a with
    | ⟨0, _⟩ => show k.val = 0 + k.val * (0 + 1); omega
    | ⟨1, _⟩ => show e.val = 0 + e.val * (0 + 1); omega

/-- Every grid point has the router's offsets, on the experts' lanes. -/
theorem blk_rb (c : Dev nD) (t : Fin cfg0.N) (e : Fin 8) : iblk m c 2 t (ix2 0 (lane e)) = argRb m c (ix2 0 e) := by
  refine Eq.trans ?_ ((congrFun (V_rb m c) (ix2 0 (lane e))).trans ((unflat_apply _ _ (lane e)).trans
    ((pad_apply_of_inside _ _ _ _ _ _ _ _ (ix1 e) fun a => ?_).trans (flat_apply (argRb m c) _ e))))
  · refine congrArg (V m c main_v4) (funext fun a => Fin.ext ?_)
    match a with
    | ⟨0, _⟩ => show win0_2.index t 0 * 1 + 1 * (0 : Fin 1).val = (0 : Fin 1).val; rw [(idx_whole t).2.1.1]; omega
    | ⟨1, _⟩ => show win0_2.index t 1 * 128 + 1 * (lane e).val = (lane e).val; rw [(idx_whole t).2.1.2]; omega
  · match a with
    | ⟨0, _⟩ => show e.val = 0 + e.val * (0 + 1); omega

/-- A grid point has its expert's gate matrix. -/
theorem blk_g (c : Dev nD) (t : Fin cfg0.N) (k : Fin 1024) (j : Fin 1408) : iblk m c 3 t (ix3 0 k j) = argG m c (ix4 0 (expertAt t) k j) := by
  refine Eq.trans ?_ ((congrFun (V_g m c) (ix3 (expertAt t) k j)).trans (unstack_apply (argG m c) _ (expertAt t) k j))
  refine congrArg (V m c main_v6) (funext fun a => Fin.ext ?_)
  match a with
  | ⟨0, _⟩ => show win0_3.index t 0 * 1 + 1 * (0 : Fin 1).val = t.val % 8; rw [(idx_member t).1.1]; show t.val % 8 * 1 + 1 * 0 = t.val % 8; omega
  | ⟨1, _⟩ => show win0_3.index t 1 * 1024 + 1 * (k : Fin 1024).val = (k : Fin 1024).val; rw [(idx_member t).1.2.1]; omega
  | ⟨2, _⟩ => show win0_3.index t 2 * 1408 + 1 * j.val = j.val; rw [(idx_member t).1.2.2]; omega

/-- A grid point has its expert's up matrix. -/
theorem blk_u (c : Dev nD) (t : Fin cfg0.N) (k : Fin 1024) (j : Fin 1408) : iblk m c 4 t (ix3 0 k j) = argU m c (ix4 0 (expertAt t) k j) := by
  refine Eq.trans ?_ ((congrFun (V_u m c) (ix3 (expertAt t) k j)).trans (unstack_apply (argU m c) _ (expertAt t) k j))
  refine congrArg (V m c main_v8) (funext fun a => Fin.ext ?_)
  match a with
  | ⟨0, _⟩ => show win0_4.index t 0 * 1 + 1 * (0 : Fin 1).val = t.val % 8; rw [(idx_member t).2.1.1]; show t.val % 8 * 1 + 1 * 0 = t.val % 8; omega
  | ⟨1, _⟩ => show win0_4.index t 1 * 1024 + 1 * (k : Fin 1024).val = (k : Fin 1024).val; rw [(idx_member t).2.1.2.1]; omega
  | ⟨2, _⟩ => show win0_4.index t 2 * 1408 + 1 * j.val = j.val; rw [(idx_member t).2.1.2.2]; omega

/-- A grid point has its expert's down matrix. -/
theorem blk_d (c : Dev nD) (t : Fin cfg0.N) (k : Fin 1408) (j : Fin 1024) : iblk m c 5 t (ix3 0 k j) = argD m c (ix4 0 (expertAt t) k j) := by
  refine Eq.trans ?_ ((congrFun (V_d m c) (ix3 (expertAt t) k j)).trans (unstack_apply (argD m c) _ (expertAt t) k j))
  refine congrArg (V m c main_v10) (funext fun a => Fin.ext ?_)
  match a with
  | ⟨0, _⟩ => show win0_5.index t 0 * 1 + 1 * (0 : Fin 1).val = t.val % 8; rw [(idx_member t).2.2.1]; show t.val % 8 * 1 + 1 * 0 = t.val % 8; omega
  | ⟨1, _⟩ => show win0_5.index t 1 * 1408 + 1 * (k : Fin 1408).val = (k : Fin 1408).val; rw [(idx_member t).2.2.2.1]; omega
  | ⟨2, _⟩ => show win0_5.index t 2 * 1024 + 1 * j.val = j.val; rw [(idx_member t).2.2.2.2]; omega

/-- Every grid point has the gains of the layer. -/
theorem blk_lg (c : Dev nD) (t : Fin cfg0.N) (j : Fin 1024) : iblk m c 6 t (ix2 0 j) = argLg m c (ix2 1 j) := by
  refine Eq.trans ?_ ((congrFun (V_lg m c) (ix2 0 j)).trans (tableRow_apply 1 (argLg m c) _ _ _ j))
  refine congrArg (V m c main_v13) (funext fun a => Fin.ext ?_)
  match a with
  | ⟨0, _⟩ => show win0_6.index t 0 * 1 + 1 * (0 : Fin 1).val = (0 : Fin 1).val; rw [(idx_whole t).2.2.1.1]; omega
  | ⟨1, _⟩ => show win0_6.index t 1 * 1024 + 1 * j.val = j.val; rw [(idx_whole t).2.2.1.2]; omega

/-- Every grid point has the offsets of the layer. -/
theorem blk_lb (c : Dev nD) (t : Fin cfg0.N) (j : Fin 1024) : iblk m c 7 t (ix2 0 j) = argLb m c (ix2 1 j) := by
  refine Eq.trans ?_ ((congrFun (V_lb m c) (ix2 0 j)).trans (tableRow_apply 1 (argLb m c) _ _ _ j))
  refine congrArg (V m c main_v16) (funext fun a => Fin.ext ?_)
  match a with
  | ⟨0, _⟩ => show win0_7.index t 0 * 1 + 1 * (0 : Fin 1).val = (0 : Fin 1).val; rw [(idx_whole t).2.2.2.1]; omega
  | ⟨1, _⟩ => show win0_7.index t 1 * 1024 + 1 * j.val = j.val; rw [(idx_whole t).2.2.2.2]; omega

/-- A grid point's logits are its rows' logits. -/
theorem blk_logits (c : Dev nD) (t : Fin cfg0.N) (r : Fin 512) :
    blockLogits (iblk m c 0 t) (iblk m c 1 t) (iblk m c 2 t) r = logits (argX m c) (argRw m c) (argRb m c) (rowAt t r) := by
  funext e
  unfold blockLogits logits rowDot
  rw [blk_rb]
  exact congrArg (· + _) (Finset.sum_congr rfl fun k _ => congrArg₂ (· * ·) (blk_x m c t r k) (blk_rw m c t k e))

/-- A grid point's feed forward is its expert's on its rows. -/
theorem blk_expert (c : Dev nD) (t : Fin cfg0.N) (r : Fin 512) (j : Fin 1024) :
    swiglu (fun k => iblk m c 0 t (ix2 r k)) (fun k j => iblk m c 3 t (ix3 0 k j)) (fun k j => iblk m c 4 t (ix3 0 k j)) (fun k j => iblk m c 5 t (ix3 0 k j)) j
      = expert (argX m c) (argG m c) (argU m c) (argD m c) (rowAt t r) (expertAt t) j := by
  simp only [blk_x, blk_g, blk_u, blk_d]
  rfl

end Cert.MoeIdeal.Rows

end
-- ==== Proof.MoeValue.lean ====
module

public import proofs.«01_k».proof.Proof.MoeBlocks

/-! The mixture of experts call, read at the extended reals: its result array, row by row, is the layer normalization of
    `alpha * x + ∑ e, weight e * expert e (x)`. The routing weights and the running sum are carried through a row block's eight points. -/

@[expose] public section

set_option maxRecDepth 16384

noncomputable section

namespace Cert.MoeIdeal.Rows

open Cert.MoeIdeal Cert.MoeIdeal.Gen Cert.Rows Idealize.ShloMosaic Idealize.ShloMosaic.ValueIdx Idealize.ShloMosaic.TcCoe Idealize.SL.Sem
open Idealize.ShloMosaic.Pipeline (Dat)
open scoped BigOperators

variable (m : (ℓ : Loc nD τ sig) → Buf (Elt Ideal) ℓ) (ρ : Dev nD → PrngReg)

/-- Expert `f`'s weighted share of row `r` at column `j`. -/
def share (c : Dev nD) (r : Fin 65536) (j : Fin 1024) (f : Fin 8) : EReal :=
  weight (logits (argX m c) (argRw m c) (argRb m c) r) f * expert (argX m c) (argG m c) (argU m c) (argD m c) r f j

/-- What the carried arrays hold after point `t`: the routing weights of its rows, and the shares of the experts so far. -/
def Carried (c : Dev nD) (t : Fin cfg0.N) : Prop :=
  (∀ r f, (outsAt0 m c t.val t.isLt).2.1 (ix2 r (lane f)) = weight (logits (argX m c) (argRw m c) (argRb m c) (rowAt t r)) f)
    ∧ ∀ r j, (outsAt0 m c t.val t.isLt).2.2 (ix2 r j) = partSum (share m c (rowAt t r) j) ((expertAt t).val + 1)

/-- A point's new running sum, from the carried arrays it starts with. -/
theorem add_share (c : Dev nD) (t : Fin cfg0.N) (comb : Vec Ideal S512x128 .f32) (acc : Vec Ideal S512x1024 .f32) (r : Fin 512) (j : Fin 1024)
    (hw : comb (ix2 r (lane (expertAt t))) = weight (logits (argX m c) (argRw m c) (argRb m c) (rowAt t r)) (expertAt t))
    (ha : acc (ix2 r j) = partSum (share m c (rowAt t r) j) (expertAt t).val) :
    k0_pay15 (F := Ideal) (grid0.coords t) (iblk m c 0 t) (iblk m c 3 t) (iblk m c 4 t) (iblk m c 5 t) comb acc (ix2 r j)
      = partSum (share m c (rowAt t r) j) ((expertAt t).val + 1) := by
  refine (share_apply _ (expertAt t) (coord_expert t) _ _ _ _ _ _ r j).trans ?_
  rw [partSum_succ, hw, ha, blk_expert]
  rfl

/-- After the first point of a row block. -/
theorem carried_first (c : Dev nD) (hL : ∀ r e, logits (argX m c) (argRw m c) (argRb m c) r e ≠ ⊥) (t : Fin cfg0.N) (h0 : t.val % 8 = 0) : Carried m c t := by
  have h1 : ¬t.val % 8 = 7 := by omega
  have hw : ∀ r f, combBlock (iblk m c 0 t) (iblk m c 1 t) (iblk m c 2 t) (ix2 r (lane f)) = weight (logits (argX m c) (argRw m c) (argRb m c) (rowAt t r)) f := fun r f => by
    refine (combBlock_apply _ _ _ r (fun e => ?_) f).trans ?_
    · rw [blk_logits]; exact hL _ e
    · rw [blk_logits]
  unfold Carried
  rw [outsAt0_A m c t h0 h1]
  dsimp only
  refine ⟨fun r f => ?_, fun r j => ?_⟩
  · rw [weights_A]; exact hw r f
  · rw [sum_A]
    refine add_share m c t _ _ r j (hw r _) ((zeros_apply r j).trans ?_)
    rw [show (expertAt t).val = 0 from h0, partSum_zero]

/-- The point before. -/
def pred (t : Fin cfg0.N) : Fin cfg0.N := ⟨t.val - 1, Nat.lt_of_le_of_lt (Nat.sub_le _ _) t.isLt⟩

/-- Within one block of rows, the point before reads the same rows. -/
theorem rowAt_pred (t : Fin cfg0.N) (h0 : ¬t.val % 8 = 0) (r : Fin 512) : rowAt (pred t) r = rowAt t r := by
  refine Fin.ext ?_
  show (t.val - 1) / 8 * 512 + r.val = t.val / 8 * 512 + r.val
  have : (t.val - 1) / 8 = t.val / 8 := by omega
  rw [this]

/-- Within one block of rows, the point before works on the expert before. -/
theorem expertAt_pred (t : Fin cfg0.N) (h0 : ¬t.val % 8 = 0) : (expertAt (pred t)).val + 1 = (expertAt t).val := by
  show (t.val - 1) % 8 + 1 = t.val % 8
  omega

/-- A later point's new running sum. -/
theorem sum_later (c : Dev nD) (t : Fin cfg0.N) (h0 : ¬t.val % 8 = 0) (ih : Carried m c (pred t)) (r : Fin 512) (j : Fin 1024) :
    k0_pay15 (F := Ideal) (grid0.coords t) (iblk m c 0 t) (iblk m c 3 t) (iblk m c 4 t) (iblk m c 5 t)
        (outsAt0 m c (pred t).val (pred t).isLt).2.1 (outsAt0 m c (pred t).val (pred t).isLt).2.2 (ix2 r j)
      = partSum (share m c (rowAt t r) j) ((expertAt t).val + 1) := by
  refine add_share m c t _ _ r j ((ih.1 r _).trans ?_) ((ih.2 r j).trans ?_)
  · rw [rowAt_pred t h0]
  · rw [rowAt_pred t h0, expertAt_pred t h0]

/-- After a later point of a row block. -/
theorem carried_later (c : Dev nD) (t : Fin cfg0.N) (h0 : ¬t.val % 8 = 0) (ih : Carried m c (pred t)) : Carried m c t := by
  have hw : ∀ r f, (outsAt0 m c (pred t).val (pred t).isLt).2.1 (ix2 r (lane f)) = weight (logits (argX m c) (argRw m c) (argRb m c) (rowAt t r)) f := fun r f => by
    rw [ih.1 r f, rowAt_pred t h0]
  by_cases h1 : t.val % 8 = 7
  · unfold Carried
    rw [outsAt0_C m c t h0 h1]
    dsimp only
    refine ⟨hw, fun r j => ?_⟩
    rw [sum_C]
    exact sum_later m c t h0 ih r j
  · unfold Carried
    rw [outsAt0_B m c t h0 h1]
    dsimp only
    refine ⟨hw, fun r j => ?_⟩
    rw [sum_B]
    exact sum_later m c t h0 ih r j

/-- The carried arrays after every point. -/
theorem carried (c : Dev nD) (hL : ∀ r e, logits (argX m c) (argRw m c) (argRb m c) r e ≠ ⊥) : ∀ (n : ℕ) (hn : n < cfg0.N), Carried m c ⟨n, hn⟩
  | 0, hn => carried_first m c hL ⟨0, hn⟩ rfl
  | n + 1, hn => by
    by_cases h0 : (n + 1) % 8 = 0
    · exact carried_first m c hL ⟨n + 1, hn⟩ h0
    · exact carried_later m c ⟨n + 1, hn⟩ h0 (carried c hL n (Nat.lt_of_succ_lt hn))

/-- What the call computes on device `c`. -/
abbrev G (c : Dev nD) : S65536x1024.Idx → EReal := moeOut (argX m c) (argRw m c) (argRb m c) (argG m c) (argU m c) (argD m c) (argLg m c) (argLb m c)

/-- What the last point of a row block leaves in the result block. -/
theorem closed (c : Dev nD) (hL : ∀ r e, logits (argX m c) (argRw m c) (argRb m c) r e ≠ ⊥) (t : Fin cfg0.N) (h1 : t.val % 8 = 7) (r : Fin 512) (j : Fin 1024) :
    (outsAt0 m c t.val t.isLt).1 (ix2 r j) = G m c (ix2 (rowAt t r) j) := by
  have h0 : ¬t.val % 8 = 0 := by omega
  have ih : Carried m c (pred t) := carried m c hL _ _
  rw [outsAt0_C m c t h0 h1]
  dsimp only
  rw [out_C]
  refine (close_apply _ _ _ _ r j).trans ?_
  rw [blk_lg, blk_lb]
  refine congrArg (fun y => lnRow y (argLg m c (ix2 1 j)) (argLb m c (ix2 1 j)) j) (funext fun k => ?_)
  refine congrArg₂ (fun a b => alpha * a + b) (blk_x m c t r k) ((sum_later m c t h0 ih r k).trans ?_)
  rw [show (expertAt t).val + 1 = 8 from congrArg (· + 1) h1, partSum_all]
  rfl

/-- What a row block's last point writes back is its block of `G`. -/
theorem flushed_eq (c : Dev nD) (hL : ∀ r e, logits (argX m c) (argRw m c) (argRb m c) r e ≠ ⊥) (t : Fin cfg0.N) (hf : (cfg0.win 8).flush t = true) :
    (dats m 0 c).flushed 8 t = ((cfg0.win 8).blk t).view.read (Elt Ideal) (G m c) := by
  have h1 : t.val % 8 = 7 := (flush0_8 t).mp hf
  rw [Value.flushed8]
  funext y
  obtain ⟨r, j, rfl⟩ : ∃ (r : Fin 512) (j : Fin 1024), y = ix2 r j := ⟨y 0, y 1, eq_ix2 y⟩
  have e : ((cfg0.win 8).blk t).view.read (Elt Ideal) (G m c) (ix2 r j) = G m c (ix2 (rowAt t r) j) := by
    refine congrArg (G m c) (funext fun a => Fin.ext ?_)
    match a with
    | ⟨0, _⟩ => show win0_8.index t 0 * 512 + 1 * r.val = t.val / 8 * 512 + r.val; rw [(idx_o t).1]; omega
    | ⟨1, _⟩ => show win0_8.index t 1 * 1024 + 1 * j.val = j.val; rw [(idx_o t).2]; omega
  refine Eq.trans ?_ e.symm
  exact closed m c hL t h1 r j

/-- An index of the result array is in point `t`'s block iff its row is. -/
theorem mem_blk (t : Fin cfg0.N) (i : S65536x1024.Idx) :
    i ∈ ((cfg0.win 8).blk t).view.set ↔ t.val / 8 * 512 ≤ (i 0 : Nat) ∧ (i 0 : Nat) < t.val / 8 * 512 + 512 := by
  show i ∈ ((View.whole main_v17).slice (win0_8.rect t)).set ↔ _
  rw [View.set_slice_whole, Rect.mem_set_unit]
  have h1 : (i 1 : Nat) < 1024 := (i 1).isLt
  refine ⟨fun h => ?_, fun h a => ?_⟩
  · have : win0_8.index t 0 * 512 ≤ (i 0 : Nat) ∧ (i 0 : Nat) < win0_8.index t 0 * 512 + 512 := h 0
    rw [(idx_o t).1] at this; exact this
  · match a with
    | ⟨0, _⟩ => show win0_8.index t 0 * 512 ≤ (i 0 : Nat) ∧ (i 0 : Nat) < win0_8.index t 0 * 512 + 512
                rw [(idx_o t).1]; exact h
    | ⟨1, _⟩ => show win0_8.index t 1 * 1024 ≤ (i 1 : Nat) ∧ (i 1 : Nat) < win0_8.index t 1 * 1024 + 1024
                rw [(idx_o t).2]; exact ⟨(Nat.zero_mul 1024).le.trans (Nat.zero_le _), h1.trans_eq (by rfl)⟩

/-- The blocks that are written back tile the result array. -/
theorem cover (i : S65536x1024.Idx) : ∃ t : Fin cfg0.N, (cfg0.win 8).flush t = true ∧ i ∈ ((cfg0.win 8).blk t).view.set := by
  have h0 : (i 0 : Nat) < 65536 := (i 0).isLt
  have hN : cfg0.N = 1024 := N_0
  refine ⟨⟨8 * ((i 0 : Nat) / 512) + 7, by omega⟩, (flush0_8 _).mpr (by dsimp only; omega), ?_⟩
  rw [mem_blk]
  dsimp only
  omega

/-- The result array ends holding `G`. -/
theorem final (c : Dev nD) (hL : ∀ r e, logits (argX m c) (argRw m c) (argRb m c) r e ≠ ⊥) : (dats m 0 c).arrAt 8 cfg0.N = G m c :=
  (dats m 0 c).arrAt_eq_of_cover 8 (G m c) (fun t hf => flushed_eq m c hL t hf) cover

end Cert.MoeIdeal.Rows

end
-- ==== Proof.HostRows.lean ====
module

public import proofs.«01_k».proof.Proof.Rows
public import Idealize.ShloMosaic.Lib.StackMember
public import Idealize.ShloMosaic.Lib.IdealHost

/-!
The references' layers, in the host's operations, read one row at a time. Each block of operations the references share
(the layer normalization, the gated product, a matrix under unit axes) is written down once, with its sizes variable, and
read at an index as the plain formula of `Rows.lean`.
-/

@[expose] public section

noncomputable section

namespace Cert.Rows

open Idealize Idealize.ShloMosaic Idealize.ShloMosaic.ValueIdx Idealize.ShloMosaic.StackMember

/-- The empty shape, of a scalar. -/
abbrev S0 : Shape := ⟨0, ![]⟩

/-- A scalar constant spread over a shape is that constant everywhere. -/
theorem fill_apply {t : Shape} (bits : BitVec 32) (h : S0.BroadcastsInDim t (![] : Fin 0 → Fin t.rank)) (i : t.Idx) :
    broadcastInDim t ![] h (constant (F := Ideal) S0 .f32 bits) i = Ideal.ofBits .f32 bits :=
  broadcastInDim_apply _ h _ i (fun a => a.elim0) (fun a => a.elim0)

/-- A vector written as a column. -/
theorem hostColumn_apply {M : ℕ} {α : Type} (v : (⟨1, ![M]⟩ : Shape).Idx → α) (h : (⟨1, ![M]⟩ : Shape).BroadcastsInDim ⟨2, ![M, 1]⟩ ![0]) (r : Fin M) (z : Fin 1) :
    broadcastInDim ⟨2, ![M, 1]⟩ ![0] h v (ix2 r z) = v (ix1 r) :=
  broadcastInDim_apply _ h v _ _ fun a => by
    match a with
    | ⟨0, _⟩ =>
      show r.val = if M = 1 then 0 else r.val
      split
      · have := r.isLt; omega
      · rfl

/-- A column spread along its rows. -/
theorem hostSpread_apply {M N : ℕ} {α : Type} (v : (⟨2, ![M, 1]⟩ : Shape).Idx → α) (h : (⟨2, ![M, 1]⟩ : Shape).BroadcastsInDim ⟨2, ![M, N]⟩ ![0, 1]) (r : Fin M) (j : Fin N) :
    broadcastInDim ⟨2, ![M, N]⟩ ![0, 1] h v (ix2 r j) = v (ix2 r 0) :=
  broadcastInDim_apply _ h v _ _ fun a => by
    match a with
    | ⟨0, _⟩ =>
      show r.val = if M = 1 then 0 else r.val
      split
      · have := r.isLt; omega
      · rfl
    | ⟨1, _⟩ => show (0 : Nat) = if 1 = 1 then 0 else j.val; rfl

/-- A vector repeated on every row. -/
theorem hostRows_apply {M N : ℕ} {α : Type} (v : (⟨1, ![N]⟩ : Shape).Idx → α) (h1 : (⟨1, ![N]⟩ : Shape).BroadcastsInDim ⟨2, ![1, N]⟩ ![1])
    (h2 : (⟨2, ![1, N]⟩ : Shape).BroadcastsInDim ⟨2, ![M, N]⟩ ![0, 1]) (r : Fin M) (j : Fin N) :
    broadcastInDim ⟨2, ![M, N]⟩ ![0, 1] h2 (broadcastInDim ⟨2, ![1, N]⟩ ![1] h1 v) (ix2 r j) = v (ix1 j) := by
  refine (broadcastInDim_apply _ h2 _ _ (ix2 0 j) fun a => ?_).trans (broadcastInDim_apply _ h1 v _ _ fun a => ?_)
  · match a with
    | ⟨0, _⟩ => show (0 : Nat) = if 1 = 1 then 0 else r.val; rfl
    | ⟨1, _⟩ =>
      show j.val = if N = 1 then 0 else j.val
      split
      · have := j.isLt; omega
      · rfl
  · match a with
    | ⟨0, _⟩ =>
      show j.val = if N = 1 then 0 else j.val
      split
      · have := j.isLt; omega
      · rfl

/-- The host's sum along the lanes. -/
theorem hostLaneSum_apply {M N : ℕ} (v : FVec Ideal ⟨2, ![M, N]⟩ .f32) (h : (⟨2, ![M, N]⟩ : Shape).ReducesTo [1] ⟨1, ![M]⟩) (hu : 0 < S0.numel)
    (hr : (⟨2, ![M, N]⟩ : Shape).Reduces [1] ⟨1, ![M]⟩) (r : Fin M) :
    Host.reduceAdd v (constant (F := Ideal) S0 .f32 0x00000000#32) h hu (ix1 r) = ∑ k : Fin N, v (ix2 r k) := by
  simp only [Host.reduceAdd, Ideal.hostReduceAdd_def]
  rw [Ideal.hostReduceAdd_single h hr]
  refine (congrArg (· + _) Ideal.ofBits_zero_f32).trans ((zero_add _).trans (Finset.sum_congr rfl fun k _ => congrArg v ?_))
  funext a
  match a with
  | ⟨0, _⟩ => rfl
  | ⟨1, _⟩ => rfl

/-- The side conditions of the layer normalization's host operations on `M` rows. -/
structure LnSides (M : ℕ) : Prop where
  red : (⟨2, ![M, 1024]⟩ : Shape).ReducesTo [1] ⟨1, ![M]⟩
  red' : (⟨2, ![M, 1024]⟩ : Shape).Reduces [1] ⟨1, ![M]⟩
  pos : 0 < S0.numel
  col : (⟨1, ![M]⟩ : Shape).BroadcastsInDim ⟨2, ![M, 1]⟩ ![0]
  fill : S0.BroadcastsInDim ⟨2, ![M, 1]⟩ (![] : Fin 0 → Fin 2)
  spread : (⟨2, ![M, 1]⟩ : Shape).BroadcastsInDim ⟨2, ![M, 1024]⟩ ![0, 1]
  row : (⟨1, ![1024]⟩ : Shape).BroadcastsInDim ⟨2, ![1, 1024]⟩ ![1]
  rows : (⟨2, ![1, 1024]⟩ : Shape).BroadcastsInDim ⟨2, ![M, 1024]⟩ ![0, 1]

/-- The row means, in the host's operations. -/
def hostMean {M : ℕ} (s : LnSides M) (v : FVec Ideal ⟨2, ![M, 1024]⟩ .f32) : FVec Ideal ⟨2, ![M, 1]⟩ .f32 :=
  Host.divf (broadcastInDim ⟨2, ![M, 1]⟩ ![0] s.col (Host.reduceAdd v (constant (F := Ideal) S0 .f32 0x00000000#32) s.red s.pos))
    (broadcastInDim ⟨2, ![M, 1]⟩ ![] s.fill (constant (F := Ideal) S0 .f32 0x44800000#32))

/-- The host's row means are the rows' means. -/
theorem hostMean_apply {M : ℕ} (s : LnSides M) (v : FVec Ideal ⟨2, ![M, 1024]⟩ .f32) (r : Fin M) (z : Fin 1) :
    hostMean s v (ix2 r z) = mean (fun k => v (ix2 r k)) :=
  congrArg₂ Ideal.div ((hostColumn_apply _ _ r z).trans (hostLaneSum_apply v s.red s.pos s.red' r)) (fill_apply _ _ _)

/-- The rows less their means, in the host's operations. -/
def hostCentred {M : ℕ} (s : LnSides M) (v : FVec Ideal ⟨2, ![M, 1024]⟩ .f32) : FVec Ideal ⟨2, ![M, 1024]⟩ .f32 :=
  subf v (broadcastInDim ⟨2, ![M, 1024]⟩ ![0, 1] s.spread (hostMean s v))

/-- The centred rows at an index. -/
theorem hostCentred_apply {M : ℕ} (s : LnSides M) (v : FVec Ideal ⟨2, ![M, 1024]⟩ .f32) (r : Fin M) (k : Fin 1024) :
    hostCentred s v (ix2 r k) = v (ix2 r k) - mean (fun k => v (ix2 r k)) :=
  congrArg (v (ix2 r k) - ·) ((hostSpread_apply _ _ r k).trans (hostMean_apply s v r 0))

/-- The layer normalization, in the host's operations. -/
def hostLn {M : ℕ} (s : LnSides M) (v : FVec Ideal ⟨2, ![M, 1024]⟩ .f32) (g b : FVec Ideal ⟨1, ![1024]⟩ .f32) : FVec Ideal ⟨2, ![M, 1024]⟩ .f32 :=
  addf (mulf (mulf (hostCentred s v) (broadcastInDim ⟨2, ![M, 1024]⟩ ![0, 1] s.spread
      (Host.rsqrt (addf (hostMean s (mulf (hostCentred s v) (hostCentred s v)))
        (broadcastInDim ⟨2, ![M, 1]⟩ ![] s.fill (constant (F := Ideal) S0 .f32 0x3727C5AC#32))))))
    (broadcastInDim ⟨2, ![M, 1024]⟩ ![0, 1] s.rows (broadcastInDim ⟨2, ![1, 1024]⟩ ![1] s.row g)))
    (broadcastInDim ⟨2, ![M, 1024]⟩ ![0, 1] s.rows (broadcastInDim ⟨2, ![1, 1024]⟩ ![1] s.row b))

/-- The host's layer normalization is the row formula. -/
theorem hostLn_apply {M : ℕ} (s : LnSides M) (v : FVec Ideal ⟨2, ![M, 1024]⟩ .f32) (g b : FVec Ideal ⟨1, ![1024]⟩ .f32) (r : Fin M) (j : Fin 1024) :
    hostLn s v g b (ix2 r j) = lnRow (fun k => v (ix2 r k)) (g (ix1 j)) (b (ix1 j)) j := by
  have hv : hostMean s (mulf (hostCentred s v) (hostCentred s v)) (ix2 r 0)
      = mean (fun k => (v (ix2 r k) - mean (fun k => v (ix2 r k))) * (v (ix2 r k) - mean (fun k => v (ix2 r k)))) := by
    refine (hostMean_apply s _ r 0).trans (congrArg mean (funext fun k => ?_))
    exact congrArg₂ (· * ·) (hostCentred_apply s v r k) (hostCentred_apply s v r k)
  refine congrArg₂ (· + ·) (congrArg₂ (· * ·) (congrArg₂ (· * ·) (hostCentred_apply s v r j) ?_) (hostRows_apply g _ _ r j)) (hostRows_apply b _ _ r j)
  refine (hostSpread_apply _ _ r j).trans ?_
  exact congrArg Ideal.rsqrt (congrArg₂ (· + ·) hv (fill_apply _ _ _))

/-- The gated product `silu a * u`, in the host's operations. -/
def hostGated {s : Shape} (a u : FVec Ideal s .f32) (h : S0.BroadcastsInDim s (![] : Fin 0 → Fin s.rank)) : FVec Ideal s .f32 :=
  mulf (mulf a (Host.divf (broadcastInDim s ![] h (constant (F := Ideal) S0 .f32 0x3F800000#32))
    (addf (broadcastInDim s ![] h (constant (F := Ideal) S0 .f32 0x3F800000#32)) (Host.exp (Host.negf a))))) u

/-- The host's gated product at an index. -/
theorem hostGated_apply {s : Shape} (a u : FVec Ideal s .f32) (h : S0.BroadcastsInDim s (![] : Fin 0 → Fin s.rank)) (i : s.Idx) :
    hostGated a u h i = a i * Ideal.logistic (a i) * u i := by
  have e : broadcastInDim s ![] h (constant (F := Ideal) S0 .f32 0x3F800000#32) i = (1 : EReal) := (fill_apply _ _ _).trans Ideal.ofBits_one_f32
  refine congrArg (· * u i) (congrArg (a i * ·) ?_)
  exact congrArg₂ Ideal.div e (congrArg (· + _) e)

/-- The feed forward block of `M` rows, in the host's operations. -/
def hostSwiglu {M K N P : ℕ} (x : FVec Ideal ⟨2, ![M, K]⟩ .f32) (wg wu : FVec Ideal ⟨2, ![K, N]⟩ .f32) (wd : FVec Ideal ⟨2, ![N, P]⟩ .f32)
    (h : S0.BroadcastsInDim ⟨2, ![M, N]⟩ (![] : Fin 0 → Fin 2)) : FVec Ideal ⟨2, ![M, P]⟩ .f32 :=
  Host.dotGeneral (DotDims.plain M N P) none (hostGated (Host.dotGeneral (DotDims.plain M K N) none x wg) (Host.dotGeneral (DotDims.plain M K N) none x wu) h) wd

/-- The host's feed forward block is the row formula. -/
theorem hostSwiglu_apply {M K N P : ℕ} (x : FVec Ideal ⟨2, ![M, K]⟩ .f32) (wg wu : FVec Ideal ⟨2, ![K, N]⟩ .f32) (wd : FVec Ideal ⟨2, ![N, P]⟩ .f32)
    (h : S0.BroadcastsInDim ⟨2, ![M, N]⟩ (![] : Fin 0 → Fin 2)) (r : Fin M) (j : Fin P) :
    hostSwiglu x wg wu wd h (ix2 r j)
      = swiglu (fun k => x (ix2 r k)) (fun k j => wg (ix2 k j)) (fun k j => wu (ix2 k j)) (fun k j => wd (ix2 k j)) j := by
  refine (dotGeneral_plain_apply none _ wd r j).trans (Finset.sum_congr rfl fun c _ => congrArg (· * _) ?_)
  rw [hostGated_apply, dotGeneral_plain_apply, dotGeneral_plain_apply]
  rfl

/-- Row `l` of a table of two rows, as a vector. -/
theorem hostTableRow_apply {α : Type} (l : Fin 2) (v : (⟨2, ![2, 1024]⟩ : Shape).Idx → α) (hs : (⟨2, ![2, 1024]⟩ : Shape).Slices ![l.val, 0] ⟨2, ![1, 1024]⟩)
    (h1 : (⟨2, ![1, 1024]⟩ : Shape).ShapeCasts ⟨1, ![1024]⟩) (j : Fin 1024) :
    shapeCast ⟨1, ![1024]⟩ (extractStridedSlice ⟨2, ![1, 1024]⟩ ![l.val, 0] v hs) h1 (ix1 j) = v (ix2 l j) := by
  refine (shapeCast_apply _ h1 _ (ix2 0 j) ?_).trans (extractStridedSlice_apply _ v hs _ _ fun a => ?_)
  · rw [Shape.rowMajor_val_two, Shape.rowMajor_val_one]
    show 0 * 1024 + j.val = j.val
    omega
  · match a with
    | ⟨0, _⟩ => show l.val = l.val + 0; omega
    | ⟨1, _⟩ => show j.val = 0 + j.val; omega

/-- Member `e` of a stack of matrices. -/
theorem member_apply {E A B : ℕ} {α : Type} (e : Fin E) (v : (⟨3, ![E, A, B]⟩ : Shape).Idx → α) (hs : (⟨3, ![E, A, B]⟩ : Shape).Slices ![e.val, 0, 0] ⟨3, ![1, A, B]⟩)
    (h1 : (⟨3, ![1, A, B]⟩ : Shape).ShapeCasts ⟨2, ![A, B]⟩) (k : Fin A) (j : Fin B) :
    shapeCast ⟨2, ![A, B]⟩ (extractStridedSlice ⟨3, ![1, A, B]⟩ ![e.val, 0, 0] v hs) h1 (ix2 k j) = v (ix3 e k j) := by
  refine (squeeze_apply _ h1 k j).trans (extractStridedSlice_apply _ v hs _ _ fun a => ?_)
  match a with
  | ⟨0, _⟩ => show e.val = e.val + 0; omega
  | ⟨1, _⟩ => show k.val = 0 + k.val; omega
  | ⟨2, _⟩ => show j.val = 0 + j.val; omega

/-- Column `e` of a matrix. -/
theorem col_apply {M N : ℕ} {α : Type} (e : Fin N) (v : (⟨2, ![M, N]⟩ : Shape).Idx → α) (hs : (⟨2, ![M, N]⟩ : Shape).Slices ![0, e.val] ⟨2, ![M, 1]⟩) (r : Fin M) (z : Fin 1) :
    extractStridedSlice ⟨2, ![M, 1]⟩ ![0, e.val] v hs (ix2 r z) = v (ix2 r e) := by
  refine extractStridedSlice_apply _ v hs _ _ fun a => ?_
  match a with
  | ⟨0, _⟩ => show r.val = 0 + r.val; omega
  | ⟨1, _⟩ => show e.val = e.val + z.val; omega

end Cert.Rows

end
-- ==== Proof.HostRouting.lean ====
module

public import proofs.«01_k».proof.Proof.HostRows
public import proofs.«01_k».proof.Proof.MoeRows
public import Idealize.ShloMosaic.Lib.KernelVsHost

/-!
The references' routing, in the host's operations, read one row at a time: the two greatest logits by a stable sort, the
softmax of the two, and their weights scattered to the experts through one-hot rows.
-/

@[expose] public section

noncomputable section

namespace Cert.Rows

open Idealize Idealize.ShloMosaic Idealize.ShloMosaic.ValueIdx Idealize.ShloMosaic.StackMember
open scoped BigOperators

/-- The expert at place `k` of the two best of a row of logits. -/
def chosen (L : Fin 8 → EReal) (k : Fin 2) : Fin 8 := ranked L (Fin.castLE (by omega) k)

/-- The order of a row's logits that the host's sort follows. -/
theorem order_eq {M : ℕ} (v : FVec Ideal ⟨2, ![M, 8]⟩ .f32) (r : Fin M) (z : Fin 8) :
    (sortedFrom fun k k' : Fin 8 => (FloatOps.cmpfTotal (F := Ideal) (φ := .f32) .gt (v ((ix2 r z : (⟨2, ![M, 8]⟩ : Shape).Idx).along 1 k))
      (v ((ix2 r z : (⟨2, ![M, 8]⟩ : Shape).Idx).along 1 k')) == 1#1)) = ranked fun e => v (ix2 r e) := by
  have e : ∀ k : Fin 8, (ix2 r z : (⟨2, ![M, 8]⟩ : Shape).Idx).along 1 k = ix2 r k := fun k => funext fun a => by
    match a with
    | ⟨0, _⟩ => rfl
    | ⟨1, _⟩ => rfl
  unfold ranked
  refine congrArg sortedFrom (funext fun k => funext fun k' => ?_)
  refine (congrArg₂ (fun a b => FloatOps.cmpfTotal (F := Ideal) (φ := .f32) .gt (v a) (v b) == 1#1) (e k) (e k')).trans ?_
  show (BitVec.ofBool (decide (v (ix2 r k') < v (ix2 r k))) == 1#1) = decide (v (ix2 r k') < v (ix2 r k))
  cases decide (v (ix2 r k') < v (ix2 r k)) <;> rfl

/-- The place of the sorted row that place `k` of the slice is. -/
theorem slot_eq {M : ℕ} {α : Type} (w : (⟨2, ![M, 8]⟩ : Shape).Idx → α) (h : (⟨2, ![M, 8]⟩ : Shape).Slices (fun _ => 0) ⟨2, ![M, 2]⟩) (r : Fin M) (k : Fin 2) :
    extractStridedSlice ⟨2, ![M, 2]⟩ (fun _ => 0) w h (ix2 r k) = w (ix2 r (Fin.castLE (by omega) k)) := by
  refine extractStridedSlice_apply _ w h _ _ fun a => ?_
  match a with
  | ⟨0, _⟩ => show r.val = 0 + r.val; omega
  | ⟨1, _⟩ => show k.val = 0 + k.val; omega

/-- The host's greatest two values of a row. -/
theorem topValues_apply {M : ℕ} (v : FVec Ideal ⟨2, ![M, 8]⟩ .f32) (h : (⟨2, ![M, 8]⟩ : Shape).Slices (fun _ => 0) ⟨2, ![M, 2]⟩) (r : Fin M) (k : Fin 2) :
    (Host.topK ⟨2, ![M, 2]⟩ 1 (FloatOps.cmpfTotal (F := Ideal) (φ := .f32) .gt) v h).1 (ix2 r k) = v (ix2 r (chosen (fun e => v (ix2 r e)) k)) := by
  unfold Host.topK
  dsimp only
  refine (slot_eq _ h r k).trans ?_
  unfold Host.sort2
  rw [dif_pos (by decide : 1 < 2)]
  dsimp only
  have hp := congrFun (order_eq v r (Fin.castLE (by omega) k)) (Fin.castLE (by omega) k)
  refine congrArg v ?_
  funext a
  match a with
  | ⟨0, _⟩ => rfl
  | ⟨1, _⟩ => exact hp

/-- The host's places of the greatest two values of a row. -/
theorem topPlaces_apply {M : ℕ} (v : FVec Ideal ⟨2, ![M, 8]⟩ .f32) (h : (⟨2, ![M, 8]⟩ : Shape).Slices (fun _ => 0) ⟨2, ![M, 2]⟩) (r : Fin M) (k : Fin 2) :
    (Host.topK ⟨2, ![M, 2]⟩ 1 (FloatOps.cmpfTotal (F := Ideal) (φ := .f32) .gt) v h).2 (ix2 r k) = BitVec.ofNat 32 (chosen (fun e => v (ix2 r e)) k).val := by
  unfold Host.topK
  dsimp only
  refine (slot_eq _ h r k).trans ?_
  unfold Host.sort2
  rw [dif_pos (by decide : 1 < 2)]
  dsimp only
  have hp := congrFun (order_eq v r (Fin.castLE (by omega) k)) (Fin.castLE (by omega) k)
  exact congrArg (fun e : Fin 8 => BitVec.ofNat 32 e.val) hp

/-- The word the references write for minus infinity. -/
theorem floor_word : Ideal.ofBits .f32 0xFF800000#32 = ⊥ := by simp [Ideal.ofBits, Ideal.ieee]

/-- The elementwise maximum at an index. -/
theorem larger_apply {s : Shape} (a b : FVec Ideal s .f32) (i : s.Idx) : maximumf a b i = max (a i) (b i) := rfl

/-- The host's elementwise quotient at an index. -/
theorem quotient_apply {s : Shape} (a b : FVec Ideal s .f32) (i : s.Idx) : Host.divf a b i = Ideal.div (a i) (b i) := rfl

/-- The host's maximum along the lanes. -/
theorem hostLaneMax_apply {M N : ℕ} (v : FVec Ideal ⟨2, ![M, N]⟩ .f32) (h : (⟨2, ![M, N]⟩ : Shape).ReducesTo [1] ⟨1, ![M]⟩) (hu : 0 < S0.numel)
    (hr : (⟨2, ![M, N]⟩ : Shape).Reduces [1] ⟨1, ![M]⟩) (r : Fin M) :
    Host.reduce FloatOps.maximumf v (constant (F := Ideal) S0 .f32 0xFF800000#32) h hu (ix1 r) = laneMax fun k => v (ix2 r k) := by
  refine (congrFun (hostReduce_maximumf_eq_multiReduction v _ h hu hr (.inl rfl) rfl) (ix1 r)).trans ?_
  refine (Ideal.multiReduction_maximumf_single v _ hr (.inl rfl) rfl (ix1 r)).trans ?_
  unfold laneMax
  refine congrArg₂ (fun b f => Finset.fold max b f Finset.univ) floor_word (funext fun k => congrArg v (funext fun a => ?_))
  match a with
  | ⟨0, _⟩ => rfl
  | ⟨1, _⟩ => rfl

/-- A matrix under a trailing unit axis. -/
theorem deep_apply {M N : ℕ} {α : Type} (v : (⟨2, ![M, N]⟩ : Shape).Idx → α) (h : (⟨2, ![M, N]⟩ : Shape).BroadcastsInDim ⟨3, ![M, N, 1]⟩ ![0, 1]) (r : Fin M) (k : Fin N)
    (z : Fin 1) : broadcastInDim ⟨3, ![M, N, 1]⟩ ![0, 1] h v (ix3 r k z) = v (ix2 r k) :=
  broadcastInDim_apply _ h v _ _ fun a => by
    match a with
    | ⟨0, _⟩ =>
      show r.val = if M = 1 then 0 else r.val
      split
      · have := r.isLt; omega
      · rfl
    | ⟨1, _⟩ =>
      show k.val = if N = 1 then 0 else k.val
      split
      · have := k.isLt; omega
      · rfl

/-- The trailing unit axis spread. -/
theorem deepSpread_apply {M N P : ℕ} {α : Type} (v : (⟨3, ![M, N, 1]⟩ : Shape).Idx → α)
    (h : (⟨3, ![M, N, 1]⟩ : Shape).BroadcastsInDim ⟨3, ![M, N, P]⟩ ![0, 1, 2]) (r : Fin M) (k : Fin N) (e : Fin P) :
    broadcastInDim ⟨3, ![M, N, P]⟩ ![0, 1, 2] h v (ix3 r k e) = v (ix3 r k 0) :=
  broadcastInDim_apply _ h v _ _ fun a => by
    match a with
    | ⟨0, _⟩ =>
      show r.val = if M = 1 then 0 else r.val
      split
      · have := r.isLt; omega
      · rfl
    | ⟨1, _⟩ =>
      show k.val = if N = 1 then 0 else k.val
      split
      · have := k.isLt; omega
      · rfl
    | ⟨2, _⟩ => rfl

/-- A lane vector under two unit axes, spread over both. -/
theorem deepRows_apply {M N P : ℕ} {α : Type} (v : (⟨3, ![1, 1, P]⟩ : Shape).Idx → α)
    (h : (⟨3, ![1, 1, P]⟩ : Shape).BroadcastsInDim ⟨3, ![M, N, P]⟩ ![0, 1, 2]) (r : Fin M) (k : Fin N) (e : Fin P) :
    broadcastInDim ⟨3, ![M, N, P]⟩ ![0, 1, 2] h v (ix3 r k e) = v (ix3 0 0 e) :=
  broadcastInDim_apply _ h v _ _ fun a => by
    match a with
    | ⟨0, _⟩ => rfl
    | ⟨1, _⟩ => rfl
    | ⟨2, _⟩ =>
      show e.val = if P = 1 then 0 else e.val
      split
      · have := e.isLt; omega
      · rfl

/-- The host's sum over the middle axis. -/
theorem hostMidSum_apply {M N P : ℕ} (v : FVec Ideal ⟨3, ![M, N, P]⟩ .f32) (h : (⟨3, ![M, N, P]⟩ : Shape).ReducesTo [1] ⟨2, ![M, P]⟩) (hu : 0 < S0.numel)
    (hr : (⟨3, ![M, N, P]⟩ : Shape).Reduces [1] ⟨2, ![M, P]⟩) (r : Fin M) (e : Fin P) :
    Host.reduceAdd v (constant (F := Ideal) S0 .f32 0x00000000#32) h hu (ix2 r e) = ∑ k : Fin N, v (ix3 r k e) := by
  simp only [Host.reduceAdd, Ideal.hostReduceAdd_def]
  rw [Ideal.hostReduceAdd_single h hr]
  refine (congrArg (· + _) Ideal.ofBits_zero_f32).trans ((zero_add _).trans (Finset.sum_congr rfl fun k _ => congrArg v ?_))
  funext a
  match a with
  | ⟨0, _⟩ => rfl
  | ⟨1, _⟩ => rfl
  | ⟨2, _⟩ => rfl

/-- A one-hot entry. -/
theorem hot_eq (a e : Fin 8) : (((IntOp.cmpi .eq (BitVec.ofNat 32 a.val) (BitVec.ofNat 32 e.val)).toNat : ℝ) : EReal) = if a = e then 1 else 0 := by
  have h : ∀ a e : Fin 8, (IntOp.cmpi .eq (BitVec.ofNat 32 a.val) (BitVec.ofNat 32 e.val)).toNat = if a = e then 1 else 0 := by decide
  rw [h]
  split <;> simp

/-- The greatest of the two chosen logits is the first. -/
theorem chosenMax (L : Fin 8 → EReal) : max ⊥ (laneMax fun k => L (chosen L k)) = L (ranked L 0) := by
  have h : laneMax (fun k => L (chosen L k)) = L (chosen L 0) := laneMax_eq (fun k => L (chosen L k)) 0 fun l => (ranked_best L).le_p _
  rw [h]
  exact max_eq_right bot_le

/-- The greater logit of the first two is the softmax's shift: the chosen logits' softmax, scattered to expert `e`. -/
theorem chosen_weight (L : Fin 8 → EReal) (hb : ∀ e, L e ≠ ⊥) (ht : ∀ e, L e ≠ ⊤) (e : Fin 8) :
    ∑ k : Fin 2, (if chosen L k = e then (1 : EReal) else 0)
        * Ideal.div (Ideal.exp (L (chosen L k) - L (ranked L 0))) (∑ k : Fin 2, Ideal.exp (L (chosen L k) - L (ranked L 0))) = weight L e :=
  softmax_weight L hb ht e

end Cert.Rows

end
-- ==== Proof.MoeHost.lean ====
module

public import proofs.«01_k».proof.Proof.HostRouting

/-!
The mixture of experts layer in the host's operations, on any number of rows, computes `moeOut`, when every routing logit is
finite.
-/

@[expose] public section

set_option maxRecDepth 16384

noncomputable section

namespace Cert.Rows

open Idealize Idealize.ShloMosaic Idealize.ShloMosaic.ValueIdx Idealize.ShloMosaic.StackMember
open scoped BigOperators

/-- The side conditions of the layer's host operations on `M` rows. -/
structure RefSides (M : ℕ) : Prop where
  ln : LnSides M
  flatW : (⟨3, ![1, 1024, 8]⟩ : Shape).ShapeCasts ⟨2, ![1024, 8]⟩
  flatB : (⟨2, ![1, 8]⟩ : Shape).ShapeCasts ⟨1, ![8]⟩
  rowB : (⟨1, ![8]⟩ : Shape).BroadcastsInDim ⟨2, ![1, 8]⟩ ![1]
  rowsB : (⟨2, ![1, 8]⟩ : Shape).BroadcastsInDim ⟨2, ![M, 8]⟩ ![0, 1]
  top : (⟨2, ![M, 8]⟩ : Shape).Slices (fun _ => 0) ⟨2, ![M, 2]⟩
  red : (⟨2, ![M, 2]⟩ : Shape).ReducesTo [1] ⟨1, ![M]⟩
  red' : (⟨2, ![M, 2]⟩ : Shape).Reduces [1] ⟨1, ![M]⟩
  fill : S0.BroadcastsInDim ⟨1, ![M]⟩ (![] : Fin 0 → Fin 1)
  spread : (⟨2, ![M, 1]⟩ : Shape).BroadcastsInDim ⟨2, ![M, 2]⟩ ![0, 1]
  deep : (⟨2, ![M, 2]⟩ : Shape).BroadcastsInDim ⟨3, ![M, 2, 1]⟩ ![0, 1]
  deepSpread : (⟨3, ![M, 2, 1]⟩ : Shape).BroadcastsInDim ⟨3, ![M, 2, 8]⟩ ![0, 1, 2]
  deepRows : (⟨3, ![1, 1, 8]⟩ : Shape).BroadcastsInDim ⟨3, ![M, 2, 8]⟩ ![0, 1, 2]
  mid : (⟨3, ![M, 2, 8]⟩ : Shape).ReducesTo [1] ⟨2, ![M, 8]⟩
  mid' : (⟨3, ![M, 2, 8]⟩ : Shape).Reduces [1] ⟨2, ![M, 8]⟩
  fillX : S0.BroadcastsInDim ⟨2, ![M, 1024]⟩ (![] : Fin 0 → Fin 2)
  fillH : S0.BroadcastsInDim ⟨2, ![M, 1408]⟩ (![] : Fin 0 → Fin 2)
  col : ∀ e : Fin 8, (⟨2, ![M, 8]⟩ : Shape).Slices ![0, e.val] ⟨2, ![M, 1]⟩
  up : ∀ e : Fin 8, (⟨3, ![8, 1024, 1408]⟩ : Shape).Slices ![e.val, 0, 0] ⟨3, ![1, 1024, 1408]⟩
  down : ∀ e : Fin 8, (⟨3, ![8, 1408, 1024]⟩ : Shape).Slices ![e.val, 0, 0] ⟨3, ![1, 1408, 1024]⟩
  sqUp : (⟨3, ![1, 1024, 1408]⟩ : Shape).ShapeCasts ⟨2, ![1024, 1408]⟩
  sqDown : (⟨3, ![1, 1408, 1024]⟩ : Shape).ShapeCasts ⟨2, ![1408, 1024]⟩
  stackUp : (⟨4, ![1, 8, 1024, 1408]⟩ : Shape).ShapeCasts ⟨3, ![8, 1024, 1408]⟩
  stackDown : (⟨4, ![1, 8, 1408, 1024]⟩ : Shape).ShapeCasts ⟨3, ![8, 1408, 1024]⟩
  tableRow : (⟨2, ![2, 1024]⟩ : Shape).Slices ![1, 0] ⟨2, ![1, 1024]⟩
  tableFlat : (⟨2, ![1, 1024]⟩ : Shape).ShapeCasts ⟨1, ![1024]⟩

variable {M : ℕ} (s : RefSides M)

/-! ## The routing -/

/-- The logits, in the host's operations. -/
def hostLogits (x0 : FVec Ideal ⟨2, ![M, 1024]⟩ .f32) (x1 : FVec Ideal ⟨3, ![1, 1024, 8]⟩ .f32) (x2 : FVec Ideal ⟨2, ![1, 8]⟩ .f32) : FVec Ideal ⟨2, ![M, 8]⟩ .f32 :=
  addf (Host.dotGeneral (DotDims.plain M 1024 8) none x0 (shapeCast ⟨2, ![1024, 8]⟩ x1 s.flatW))
    (broadcastInDim ⟨2, ![M, 8]⟩ ![0, 1] s.rowsB (broadcastInDim ⟨2, ![1, 8]⟩ ![1] s.rowB (shapeCast ⟨1, ![8]⟩ x2 s.flatB)))

/-- The host's logits are the rows' logits. -/
theorem hostLogits_apply (x0 : FVec Ideal ⟨2, ![M, 1024]⟩ .f32) (x1 : FVec Ideal ⟨3, ![1, 1024, 8]⟩ .f32) (x2 : FVec Ideal ⟨2, ![1, 8]⟩ .f32) (r : Fin M) (e : Fin 8) :
    hostLogits s x0 x1 x2 (ix2 r e) = logits x0 x1 x2 r e := by
  refine congrArg₂ (· + ·) ((dotGeneral_plain_apply none x0 _ r e).trans (Finset.sum_congr rfl fun k _ => ?_)) ?_
  · exact congrArg (x0 (ix2 r k) * ·) (squeeze_apply x1 _ k e)
  · exact (hostRows_apply _ _ _ r e).trans (flat_apply x2 _ e)

/-- A row of a block of logits. -/
def rowOf (v : FVec Ideal ⟨2, ![M, 8]⟩ .f32) (r : Fin M) (e : Fin 8) : EReal := v (ix2 r e)

variable (v : FVec Ideal ⟨2, ![M, 8]⟩ .f32)

/-- The two greatest logits of every row, in the host's operations. -/
def hostTop : FVec Ideal ⟨2, ![M, 2]⟩ .f32 := (Host.topK ⟨2, ![M, 2]⟩ 1 (FloatOps.cmpfTotal (F := Ideal) (φ := .f32) .gt) v s.top).1

/-- The experts of the two greatest logits of every row, in the host's operations. -/
def hostPlaces : IVec ⟨2, ![M, 2]⟩ 32 := (Host.topK ⟨2, ![M, 2]⟩ 1 (FloatOps.cmpfTotal (F := Ideal) (φ := .f32) .gt) v s.top).2

/-- The two greatest logits of a row. -/
theorem hostTop_apply (r : Fin M) (k : Fin 2) : hostTop s v (ix2 r k) = rowOf v r (chosen (rowOf v r) k) := topValues_apply _ _ r k

/-- The experts of the two greatest logits of a row. -/
theorem hostPlaces_apply (r : Fin M) (k : Fin 2) : hostPlaces s v (ix2 r k) = BitVec.ofNat 32 (chosen (rowOf v r) k).val := topPlaces_apply _ _ r k

/-- The exponentials of the chosen logits less the row's greatest, in the host's operations. -/
def hostExps : FVec Ideal ⟨2, ![M, 2]⟩ .f32 :=
  Host.exp (subf (hostTop s v) (broadcastInDim ⟨2, ![M, 2]⟩ ![0, 1] s.spread (broadcastInDim ⟨2, ![M, 1]⟩ ![0] s.ln.col
    (maximumf (broadcastInDim ⟨1, ![M]⟩ ![] s.fill (constant (F := Ideal) S0 .f32 0xFF800000#32))
      (Host.reduce FloatOps.maximumf (hostTop s v) (constant (F := Ideal) S0 .f32 0xFF800000#32) s.red s.ln.pos)))))

/-- The exponentials of the chosen logits of a row. -/
theorem hostExps_apply (r : Fin M) (k : Fin 2) : hostExps s v (ix2 r k) = Ideal.exp (rowOf v r (chosen (rowOf v r) k) - rowOf v r (ranked (rowOf v r) 0)) := by
  refine congrArg Ideal.exp (congrArg₂ (· - ·) (hostTop_apply s v r k) ?_)
  refine (hostSpread_apply _ _ r k).trans ((hostColumn_apply _ _ r 0).trans (Eq.trans ?_ (chosenMax (rowOf v r))))
  refine (larger_apply _ _ _).trans (congrArg₂ max ?_ ?_)
  · exact (fill_apply _ _ _).trans floor_word
  · exact (hostLaneMax_apply _ s.red s.ln.pos s.red' r).trans (congrArg laneMax (funext fun k => hostTop_apply s v r k))

/-- The softmax of the chosen logits, in the host's operations. -/
def hostSoft : FVec Ideal ⟨2, ![M, 2]⟩ .f32 :=
  Host.divf (hostExps s v) (broadcastInDim ⟨2, ![M, 2]⟩ ![0, 1] s.spread (broadcastInDim ⟨2, ![M, 1]⟩ ![0] s.ln.col
    (Host.reduceAdd (hostExps s v) (constant (F := Ideal) S0 .f32 0x00000000#32) s.red s.ln.pos)))

/-- The softmax of the chosen logits of a row. -/
theorem hostSoft_apply (r : Fin M) (k : Fin 2) : hostSoft s v (ix2 r k)
    = Ideal.div (Ideal.exp (rowOf v r (chosen (rowOf v r) k) - rowOf v r (ranked (rowOf v r) 0)))
        (∑ k : Fin 2, Ideal.exp (rowOf v r (chosen (rowOf v r) k) - rowOf v r (ranked (rowOf v r) 0))) := by
  refine (quotient_apply _ _ _).trans (congrArg₂ Ideal.div (hostExps_apply s v r k) ?_)
  refine (hostSpread_apply _ _ r k).trans ((hostColumn_apply _ _ r 0).trans ((hostLaneSum_apply _ s.red s.ln.pos s.red' r).trans ?_))
  exact Finset.sum_congr rfl fun k _ => hostExps_apply s v r k

/-- The one-hot rows of the chosen experts, in the host's operations. -/
def hostHot : FVec Ideal ⟨3, ![M, 2, 8]⟩ .f32 :=
  uitofp .f32 (cmpi .eq (broadcastInDim ⟨3, ![M, 2, 8]⟩ ![0, 1, 2] s.deepSpread (broadcastInDim ⟨3, ![M, 2, 1]⟩ ![0, 1] s.deep (hostPlaces s v)))
    (broadcastInDim ⟨3, ![M, 2, 8]⟩ ![0, 1, 2] s.deepRows (iotaInDim ⟨3, ![1, 1, 8]⟩ 32 2)))

/-- The one-hot rows of the chosen experts of a row. -/
theorem hostHot_apply (r : Fin M) (k : Fin 2) (e : Fin 8) : hostHot s v (ix3 r k e) = if chosen (rowOf v r) k = e then 1 else 0 := by
  refine Eq.trans ?_ (hot_eq _ _)
  refine congrArg (fun b : BitVec 1 => ((b.toNat : ℝ) : EReal)) (congrArg₂ (IntOp.cmpi .eq) ?_ ?_)
  · exact (deepSpread_apply _ _ r k e).trans ((deep_apply _ _ r k 0).trans (hostPlaces_apply s v r k))
  · exact deepRows_apply _ _ r k e

/-- The routing weights, in the host's operations. -/
def hostWeights : FVec Ideal ⟨2, ![M, 8]⟩ .f32 :=
  Host.reduceAdd (mulf (hostHot s v) (broadcastInDim ⟨3, ![M, 2, 8]⟩ ![0, 1, 2] s.deepSpread (broadcastInDim ⟨3, ![M, 2, 1]⟩ ![0, 1] s.deep (hostSoft s v))))
    (constant (F := Ideal) S0 .f32 0x00000000#32) s.mid s.ln.pos

/-- The routing weights of a row, when its logits are finite. -/
theorem hostWeights_apply (r : Fin M) (hb : ∀ e, rowOf v r e ≠ ⊥) (ht : ∀ e, rowOf v r e ≠ ⊤) (e : Fin 8) : hostWeights s v (ix2 r e) = weight (rowOf v r) e := by
  refine (hostMidSum_apply _ _ _ s.mid' r e).trans (Eq.trans (Finset.sum_congr rfl fun k _ => ?_) (chosen_weight (rowOf v r) hb ht e))
  refine congrArg₂ (· * ·) (hostHot_apply s v r k e) ?_
  exact (deepSpread_apply _ _ r k e).trans ((deep_apply _ _ r k 0).trans (hostSoft_apply s v r k))

/-! ## The experts -/

variable (x0 : FVec Ideal ⟨2, ![M, 1024]⟩ .f32) (x3 x4 : FVec Ideal ⟨4, ![1, 8, 1024, 1408]⟩ .f32) (x5 : FVec Ideal ⟨4, ![1, 8, 1408, 1024]⟩ .f32)

/-- An expert's weighted feed forward, in the host's operations, from the routing weights `w`. -/
def hostShare (w : FVec Ideal ⟨2, ![M, 8]⟩ .f32) (e : Fin 8) : FVec Ideal ⟨2, ![M, 1024]⟩ .f32 :=
  mulf (broadcastInDim ⟨2, ![M, 1024]⟩ ![0, 1] s.ln.spread (extractStridedSlice ⟨2, ![M, 1]⟩ ![0, e.val] w (s.col e)))
    (hostSwiglu x0 (shapeCast ⟨2, ![1024, 1408]⟩ (extractStridedSlice ⟨3, ![1, 1024, 1408]⟩ ![e.val, 0, 0] (shapeCast ⟨3, ![8, 1024, 1408]⟩ x3 s.stackUp) (s.up e)) s.sqUp)
      (shapeCast ⟨2, ![1024, 1408]⟩ (extractStridedSlice ⟨3, ![1, 1024, 1408]⟩ ![e.val, 0, 0] (shapeCast ⟨3, ![8, 1024, 1408]⟩ x4 s.stackUp) (s.up e)) s.sqUp)
      (shapeCast ⟨2, ![1408, 1024]⟩ (extractStridedSlice ⟨3, ![1, 1408, 1024]⟩ ![e.val, 0, 0] (shapeCast ⟨3, ![8, 1408, 1024]⟩ x5 s.stackDown) (s.down e)) s.sqDown) s.fillH)

/-- An expert's weighted feed forward at a row and column. -/
theorem hostShare_apply (w : FVec Ideal ⟨2, ![M, 8]⟩ .f32) (e : Fin 8) (r : Fin M) (j : Fin 1024) :
    hostShare s x0 x3 x4 x5 w e (ix2 r j) = w (ix2 r e) * expert x0 x3 x4 x5 r e j := by
  refine congrArg₂ (· * ·) ((hostSpread_apply _ _ r j).trans (col_apply e _ (s.col e) r 0)) ?_
  refine (hostSwiglu_apply _ _ _ _ _ r j).trans ?_
  simp only [member_apply e, unstack_apply]
  rfl

/-- The first `n` experts' weighted feed forwards added in turn, in the host's operations. -/
def hostSum (w : FVec Ideal ⟨2, ![M, 8]⟩ .f32) : (n : ℕ) → n ≤ 8 → FVec Ideal ⟨2, ![M, 1024]⟩ .f32
  | 0, _ => broadcastInDim ⟨2, ![M, 1024]⟩ ![] s.fillX (constant (F := Ideal) S0 .f32 0x00000000#32)
  | n + 1, h => addf (hostSum w n (Nat.le_of_succ_le h)) (hostShare s x0 x3 x4 x5 w ⟨n, h⟩)

/-- The sum of the first `n` experts at a row and column. -/
theorem hostSum_apply (w : FVec Ideal ⟨2, ![M, 8]⟩ .f32) (r : Fin M) (j : Fin 1024) : ∀ (n : ℕ) (h : n ≤ 8),
    hostSum s x0 x3 x4 x5 w n h (ix2 r j) = partSum (fun e => w (ix2 r e) * expert x0 x3 x4 x5 r e j) n
  | 0, _ => (fill_apply _ _ _).trans (Ideal.ofBits_zero_f32.trans (partSum_zero _).symm)
  | n + 1, h => (congrArg₂ (· + ·) (hostSum_apply w r j n (Nat.le_of_succ_le h)) (hostShare_apply s x0 x3 x4 x5 w ⟨n, h⟩ r j)).trans (partSum_succ _ ⟨n, h⟩).symm

/-- The whole layer, in the host's operations, from the routing weights `w`. -/
def hostMoe (w : FVec Ideal ⟨2, ![M, 8]⟩ .f32) (x6 x7 : FVec Ideal ⟨2, ![2, 1024]⟩ .f32) : FVec Ideal ⟨2, ![M, 1024]⟩ .f32 :=
  hostLn s.ln (addf (mulf (broadcastInDim ⟨2, ![M, 1024]⟩ ![] s.fillX (constant (F := Ideal) S0 .f32 0x3FB504F3#32)) x0) (hostSum s x0 x3 x4 x5 w 8 (Nat.le_refl 8)))
    (shapeCast ⟨1, ![1024]⟩ (extractStridedSlice ⟨2, ![1, 1024]⟩ ![1, 0] x6 s.tableRow) s.tableFlat)
    (shapeCast ⟨1, ![1024]⟩ (extractStridedSlice ⟨2, ![1, 1024]⟩ ![1, 0] x7 s.tableRow) s.tableFlat)

/-- The layer in the host's operations is `moeOut` of its arguments, when every routing logit is finite. -/
theorem hostMoe_eq (x1 : FVec Ideal ⟨3, ![1, 1024, 8]⟩ .f32) (x2 : FVec Ideal ⟨2, ![1, 8]⟩ .f32) (x6 x7 : FVec Ideal ⟨2, ![2, 1024]⟩ .f32)
    (hb : ∀ r e, logits x0 x1 x2 r e ≠ ⊥) (ht : ∀ r e, logits x0 x1 x2 r e ≠ ⊤) :
    hostMoe s x0 x3 x4 x5 (hostWeights s (hostLogits s x0 x1 x2)) x6 x7 = moeOut x0 x1 x2 x3 x4 x5 x6 x7 := by
  funext i
  obtain ⟨r, j, rfl⟩ : ∃ (r : Fin M) (j : Fin 1024), i = ix2 r j := ⟨i 0, i 1, eq_ix2 i⟩
  have row : rowOf (hostLogits s x0 x1 x2) r = logits x0 x1 x2 r := funext (hostLogits_apply s x0 x1 x2 r)
  have hw : ∀ e, hostWeights s (hostLogits s x0 x1 x2) (ix2 r e) = weight (logits x0 x1 x2 r) e := fun e =>
    (hostWeights_apply s _ r (fun e => row ▸ hb r e) (fun e => row ▸ ht r e) e).trans (congrArg (weight · e) row)
  have sum : ∀ k : Fin 1024, addf (F := Ideal) (φ := .f32) (mulf (broadcastInDim ⟨2, ![M, 1024]⟩ ![] s.fillX (constant (F := Ideal) S0 .f32 0x3FB504F3#32)) x0)
        (hostSum s x0 x3 x4 x5 (hostWeights s (hostLogits s x0 x1 x2)) 8 (Nat.le_refl 8)) (ix2 r k)
      = alpha * x0 (ix2 r k) + ∑ e : Fin 8, weight (logits x0 x1 x2 r) e * expert x0 x3 x4 x5 r e k := fun k =>
    congrArg₂ (· + ·) (congrArg (· * _) (fill_apply _ _ _))
      ((hostSum_apply s x0 x3 x4 x5 _ r k 8 (Nat.le_refl 8)).trans ((partSum_all _).trans (Finset.sum_congr rfl fun e _ => congrArg (· * _) (hw e))))
  refine (hostLn_apply _ _ _ _ r j).trans ?_
  simp only [sum]
  exact congrArg₂ (fun g b => lnRow _ g b j) (hostTableRow_apply 1 x6 _ _ j) (hostTableRow_apply 1 x7 _ _ j)

end Cert.Rows

end
-- ==== Proof.MoeRef.lean ====
module

public import proofs.«01_k».proof.Proof.MoeHost
public import proofs.«01_k».proof.Proof.Gen.MoeRefIdeal.Read

/-!
The mixture of experts reference computes `moeOut`, when every routing logit is finite.
-/

@[expose] public section

set_option maxRecDepth 16384

noncomputable section

namespace Cert.MoeRefIdeal.Rows

open Idealize Idealize.ShloMosaic Cert.Rows Cert.MoeRefIdeal Cert.MoeRefIdeal.Gen Cert.MoeRefIdeal.Read

/-- The side conditions of the layer normalization at the reference's size. -/
theorem lnSides : LnSides 65536 :=
  ⟨reducesTo_S65536x1024_S65536_d1, by decide, h_S_, bcast_S65536_S65536x1_0, bcast_S_S65536x1, bcast_S65536x1_S65536x1024_0_1, bcast_S1024_S1x1024_1, bcast_S1x1024_S65536x1024_0_1⟩

/-- The side conditions of the layer at the reference's size. -/
theorem sides : RefSides 65536 :=
  ⟨lnSides, shapeCasts_S1x1024x8_S1024x8, shapeCasts_S1x8_S8, bcast_S8_S1x8_1, bcast_S1x8_S65536x8_0_1, sliceFits_S65536x8_S65536x2, reducesTo_S65536x2_S65536_d1, by decide, bcast_S_S65536,
    bcast_S65536x1_S65536x2_0_1, bcast_S65536x2_S65536x2x1_0_1, bcast_S65536x2x1_S65536x2x8_0_1_2, bcast_S1x1x8_S65536x2x8_0_1_2, reducesTo_S65536x2x8_S65536x8_d1, by decide, bcast_S_S65536x1024,
    bcast_S_S65536x1408, by decide, by decide, by decide, shapeCasts_S1x1024x1408_S1024x1408, shapeCasts_S1x1408x1024_S1408x1024, shapeCasts_S1x8x1024x1408_S8x1024x1408,
    shapeCasts_S1x8x1408x1024_S8x1408x1024, slices_S2x1024_S1x1024_1_0, shapeCasts_S1x1024_S1024⟩

variable (x0 : S65536x1024.Idx → EReal) (x1 : S1x1024x8.Idx → EReal) (x2 : S1x8.Idx → EReal) (x3 x4 : S1x8x1024x1408.Idx → EReal) (x5 : S1x8x1408x1024.Idx → EReal)
  (x6 x7 : S2x1024.Idx → EReal)

/-- The reference's routing weights are the layer's. -/
theorem weights_eq : val_main_v24 (F := Ideal) x0 x1 x2 = hostWeights sides (hostLogits sides x0 x1 x2) := rfl

/-- The reference's sum over the experts is the layer's. -/
theorem sum_eq : val_main_v145 (F := Ideal) x0 x1 x2 x3 x4 x5 = hostSum sides x0 x3 x4 x5 (val_main_v24 (F := Ideal) x0 x1 x2) 8 (Nat.le_refl 8) := rfl

/-- The reference's result is the layer's. -/
theorem layer_eq : val_main_v176 (F := Ideal) x0 x1 x2 x3 x4 x5 x6 x7 = hostMoe sides x0 x3 x4 x5 (val_main_v24 (F := Ideal) x0 x1 x2) x6 x7 := by
  unfold hostMoe
  rw [← sum_eq]
  rfl

/-- The reference's result is `moeOut` of its arguments, when every routing logit is finite. -/
theorem result (hb : ∀ r e, logits x0 x1 x2 r e ≠ ⊥) (ht : ∀ r e, logits x0 x1 x2 r e ≠ ⊤) :
    val_main_v176 (F := Ideal) x0 x1 x2 x3 x4 x5 x6 x7 = moeOut x0 x1 x2 x3 x4 x5 x6 x7 := by
  rw [layer_eq, weights_eq]
  exact hostMoe_eq sides x0 x3 x4 x5 x1 x2 x6 x7 hb ht

end Cert.MoeRefIdeal.Rows

end
-- ==== Proof.MoeClaim.lean ====
module

public import proofs.«01_k».proof.Defs
public import proofs.«01_k».proof.Proof.Gen.Pre_finite_router
public import proofs.«01_k».proof.Proof.MoeValue
public import proofs.«01_k».proof.Proof.MoeRef
public import Idealize.ShloMosaic.Lib.ReduceAll

/-! The mixture of experts call agrees with its reference, when the activations and the router's parameters are finite. -/

@[expose] public section

set_option maxRecDepth 16384

noncomputable section

namespace Cert.Rows

open Idealize.ShloMosaic Idealize.ShloMosaic.ValueIdx
open scoped BigOperators

/-- Neither infinity. -/
def IsFinite (x : EReal) : Prop := x ≠ ⊥ ∧ x ≠ ⊤

/-- A sum of two finite numbers is finite. -/
theorem IsFinite.add {x y : EReal} (hx : IsFinite x) (hy : IsFinite y) : IsFinite (x + y) := by
  obtain ⟨xb, xt⟩ := hx
  obtain ⟨yb, yt⟩ := hy
  lift x to ℝ using ⟨xt, xb⟩
  lift y to ℝ using ⟨yt, yb⟩
  rw [← EReal.coe_add]
  exact ⟨EReal.coe_ne_bot _, EReal.coe_ne_top _⟩

/-- A product of two finite numbers is finite. -/
theorem IsFinite.mul {x y : EReal} (hx : IsFinite x) (hy : IsFinite y) : IsFinite (x * y) := by
  obtain ⟨xb, xt⟩ := hx
  obtain ⟨yb, yt⟩ := hy
  lift x to ℝ using ⟨xt, xb⟩
  lift y to ℝ using ⟨yt, yb⟩
  rw [← EReal.coe_mul]
  exact ⟨EReal.coe_ne_bot _, EReal.coe_ne_top _⟩

/-- A value whose absolute value is below plus infinity is finite. -/
theorem finite_of_abs {x : EReal} (h : max x (-x) < ⊤) : IsFinite x := by
  refine ⟨fun e => ?_, fun e => ?_⟩
  · rw [e, EReal.neg_bot] at h; exact absurd ((le_max_right ⊥ ⊤).trans_lt h) (lt_irrefl _)
  · rw [e] at h; exact absurd ((le_max_left ⊤ (-⊤)).trans_lt h) (lt_irrefl _)

/-- Finite activations and finite router parameters give finite logits. -/
theorem logits_finite {N : ℕ} (X : (⟨2, ![N, 1024]⟩ : Shape).Idx → EReal) (rw : (⟨3, ![1, 1024, 8]⟩ : Shape).Idx → EReal) (rb : (⟨2, ![1, 8]⟩ : Shape).Idx → EReal)
    (hX : ∀ i, IsFinite (X i)) (hw : ∀ i, IsFinite (rw i)) (hb : ∀ i, IsFinite (rb i)) (r : Fin N) (e : Fin 8) : IsFinite (logits X rw rb r e) := by
  refine IsFinite.add ?_ (hb _)
  exact Finset.sum_induction _ IsFinite (fun _ _ => IsFinite.add) ⟨EReal.zero_ne_bot, EReal.zero_ne_top⟩ fun k _ => (hX _).mul (hw _)

/-- An array whose printed test for finiteness is all ones is finite everywhere. -/
theorem finite_of_test {s t : Shape} {axes : List (Fin s.rank)} [Subsingleton t.Idx] (x : FVec Ideal s .f32) (hb : (⟨0, ![]⟩ : Shape).BroadcastsInDim s (![] : Fin 0 → Fin s.rank))
    (h : s.ReducesTo axes t) (hu : 0 < (⟨0, ![]⟩ : Shape).numel) (j : t.Idx)
    (e : Host.reduce IntOp.andi (cmpf .olt (Host.absf x) (broadcastInDim s ![] hb (constant (F := Ideal) ⟨0, ![]⟩ .f32 0x7F800000#32)))
      (constantI ⟨0, ![]⟩ 1 1#1) h hu j = 1#1) (i : s.Idx) : IsFinite (x i) := by
  have h1 := Host.reduce_andi_all _ _ h hu j e i
  have hw : broadcastInDim s ![] hb (constant (F := Ideal) ⟨0, ![]⟩ .f32 0x7F800000#32) i = ⊤ :=
    (fill_apply _ _ _).trans (by simp [Ideal.ofBits, Ideal.ieee])
  have h2 : BitVec.ofBool (decide (max (x i) (-x i) < broadcastInDim s ![] hb (constant (F := Ideal) ⟨0, ![]⟩ .f32 0x7F800000#32) i)) = 1#1 := h1
  rw [hw] at h2
  refine finite_of_abs ?_
  by_contra hn
  rw [decide_eq_false hn] at h2
  exact absurd h2 (by decide)

end Cert.Rows

namespace Cert.MoeIdeal.Rows

open Cert.Rows Idealize.ShloMosaic Idealize.ShloMosaic.TcCoe Idealize.SL.Sem

/-- A scalar has one place. -/
instance : Subsingleton Cert.Pre_finite_router.S_.Idx := ⟨fun _ _ => funext fun a => a.elim0⟩

/-- The precondition makes every routing logit finite. -/
theorem logits_of_pre (m : (ℓ : Loc Cert.MoeIdeal.nD Cert.MoeIdeal.τ Cert.MoeIdeal.sig) → Buf (Elt Ideal) ℓ) (hpre : Cert.Pre_MoeIdeal_finite_router m) (c : Dev Cert.MoeIdeal.nD)
    (r : Fin 65536) (e : Fin 8) : IsFinite (logits (argX m c) (argRw m c) (argRb m c) r e) := by
  have h := congrFun (hpre c) fun a => a.elim0
  dsimp only [Cert.Pre_finite_router.fn] at h
  obtain ⟨h01, h2⟩ := IntOp.andi_eq_one.mp h
  obtain ⟨h0, h1⟩ := IntOp.andi_eq_one.mp h01
  exact logits_finite _ _ _ (finite_of_test _ _ _ _ _ h0) (finite_of_test _ _ _ _ _ h1) (finite_of_test _ _ _ _ _ h2) r e

/-- Over the extended reals the call and its reference end with equal results, from memories that agree on the arguments, when the
    activations and the router's parameters are finite. -/
theorem algebraic : Cert.algebraic_MoeIdeal_MoeRefIdeal_pre_finite_router := by
  intro m ρ m' ρ' hpre hagree
  have hL := logits_of_pre m hpre
  refine ⟨fun c => G m c, (θ_run _ _ _).mono (fun _ h c => ⟨(h c).1.trans (final m c fun r e => (hL c r e).1), (h c).2⟩)
    (Cert.MoeIdeal.Value.run_blocks (F := Ideal) m ρ), ?_⟩
  refine (θ_run _ _ _).mono (fun _ h c => ⟨?_, (h c).2⟩) (Cert.MoeRefIdeal.Value.run (F := Ideal) m' ρ')
  obtain ⟨h0, h1, h2, h3, h4, h5, h6, h7⟩ := hagree c
  have hv := (h c).1
  rw [Cert.MoeRefIdeal.Read.val_main_v176_eq] at hv
  refine hv.trans ?_
  have e0 : StableHlo.launchContents m' c (Proc.tc.devRef Cert.MoeRefIdeal.main_arg0) = argX m c := h0
  have e1 : StableHlo.launchContents m' c (Proc.tc.devRef Cert.MoeRefIdeal.main_arg1) = argRw m c := h1
  have e2 : StableHlo.launchContents m' c (Proc.tc.devRef Cert.MoeRefIdeal.main_arg2) = argRb m c := h2
  have e3 : StableHlo.launchContents m' c (Proc.tc.devRef Cert.MoeRefIdeal.main_arg3) = argG m c := h3
  have e4 : StableHlo.launchContents m' c (Proc.tc.devRef Cert.MoeRefIdeal.main_arg4) = argU m c := h4
  have e5 : StableHlo.launchContents m' c (Proc.tc.devRef Cert.MoeRefIdeal.main_arg5) = argD m c := h5
  have e6 : StableHlo.launchContents m' c (Proc.tc.devRef Cert.MoeRefIdeal.main_arg6) = argLg m c := h6
  have e7 : StableHlo.launchContents m' c (Proc.tc.devRef Cert.MoeRefIdeal.main_arg7) = argLb m c := h7
  rw [e0, e1, e2, e3, e4, e5, e6, e7]
  exact Cert.MoeRefIdeal.Rows.result _ _ _ _ _ _ _ _ (fun r e => (hL c r e).1) fun r e => (hL c r e).2

end Cert.MoeIdeal.Rows

end
-- ==== Proof.FfnValue.lean ====
module

public import proofs.«01_k».proof.Proof.Gen.FfnIdeal.Value
public import proofs.«01_k».proof.Proof.Rows

/-! The dense feed forward call, read at the extended reals: its result array, row by row, is the layer normalization of
    `alpha * x + swiglu(x)`. -/

@[expose] public section

set_option maxRecDepth 16384

noncomputable section

namespace Cert.FfnIdeal.Rows

open Cert.FfnIdeal Cert.FfnIdeal.Gen Cert.Rows Idealize.ShloMosaic Idealize.ShloMosaic.ValueIdx Idealize.ShloMosaic.TcCoe Idealize.SL.Sem
open Idealize.ShloMosaic.Pipeline (Dat)
open scoped BigOperators

/-- The block a grid point computes, at row `r` and column `j`. -/
theorem pay_apply (x : Vec Ideal S512x1024 .f32) (wg wu : Vec Ideal S1024x2816 .bf16) (wd : Vec Ideal S2816x1024 .bf16) (g b : Vec Ideal S1x1024 .f32)
    (r : Fin 512) (j : Fin 1024) :
    k0_pay1 (F := Ideal) (k0_pay2 g) (k0_pay3 b) (k0_pay4 x wg wu wd) (ix2 r j)
      = lnRow (fun k => alpha * x (ix2 r k) + swiglu (fun k => x (ix2 r k)) (fun k j => wg (ix2 k j)) (fun k j => wu (ix2 k j)) (fun k j => wd (ix2 k j)) k)
          (g (ix2 0 j)) (b (ix2 0 j)) j := by
  have h1 : k0_pay1 (F := Ideal) (k0_pay2 g) (k0_pay3 b) (k0_pay4 x wg wu wd)
      = lnBlock (addf (mulf (broadcast S512x1024 (Scalar.ofBits .f32 0x3FB504F3#32)) x)
          (swigluBlock (φ₁ := .bf16) (truncf .bf16 x bitsLt_bf16_f32) (shapeCast S1024x2816 wg shapeCasts_S1024x2816_S1024x2816)
            (shapeCast S1024x2816 wu shapeCasts_S1024x2816_S1024x2816) (shapeCast S2816x1024 wd shapeCasts_S2816x1024_S2816x1024)
            (φ₅ := .bf16) (fun v => truncf .bf16 v bitsLt_bf16_f32)))
          (shapeCast S1x1024 g shapeCasts_S1x1024_S1x1024) (shapeCast S1x1024 b shapeCasts_S1x1024_S1x1024)
          reduces_S512x1024_S512 (.inl rfl) rfl shapeCasts_S512_S512x1 broadcasts_S512x1_S512x1024 broadcasts_S1x1024_S512x1024 := rfl
  refine (congrFun h1 (ix2 r j)).trans ((lnBlock_apply _ _ _ _ _ _ _ _ _ r j).trans ?_)
  simp only [shapeCast_self]
  refine congrArg (fun y => lnRow y (g (ix2 0 j)) (b (ix2 0 j)) j) (funext fun k => ?_)
  refine congrArg (alpha * x (ix2 r k) + ·) ?_
  exact swigluBlock_apply (φ₄ := .bf16) (φ₅ := .bf16) (truncf .bf16 x bitsLt_bf16_f32 : FVec Ideal S512x1024 .bf16) wg wu wd (fun v => truncf .bf16 v bitsLt_bf16_f32) (fun _ _ => rfl) r k

variable (m : (ℓ : Loc nD τ sig) → Buf (Elt Ideal) ℓ) (ρ : Dev nD → PrngReg)

/-! ## The arguments as the region finds them -/

/-- The activations. -/
abbrev argX (c : Dev nD) : S65536x1024.Idx → EReal := m ((c : Thread nD τ).loc main_arg0)
/-- The gate weights. -/
abbrev argG (c : Dev nD) : S1x1024x2816.Idx → EReal := m ((c : Thread nD τ).loc main_arg1)
/-- The up weights. -/
abbrev argU (c : Dev nD) : S1x1024x2816.Idx → EReal := m ((c : Thread nD τ).loc main_arg2)
/-- The down weights. -/
abbrev argD (c : Dev nD) : S1x2816x1024.Idx → EReal := m ((c : Thread nD τ).loc main_arg3)
/-- The gains of the layer normalization. -/
abbrev argLg (c : Dev nD) : S2x1024.Idx → EReal := m ((c : Thread nD τ).loc main_arg4)
/-- The offsets of the layer normalization. -/
abbrev argLb (c : Dev nD) : S2x1024.Idx → EReal := m ((c : Thread nD τ).loc main_arg5)

/-- The gate operand holds the gate weights without the leading unit dimension. -/
theorem V_g (c : Dev nD) : (V m c main_v1 : S1024x2816.Idx → EReal) = shapeCast S1024x2816 (argG m c) shapeCasts_S1x1024x2816_S1024x2816 := by
  unfold V; simp only [hostOps0]; after_results_simp <;> rfl
/-- The up operand holds the up weights without the leading unit dimension. -/
theorem V_u (c : Dev nD) : (V m c main_v3 : S1024x2816.Idx → EReal) = shapeCast S1024x2816 (argU m c) shapeCasts_S1x1024x2816_S1024x2816 := by
  unfold V; simp only [hostOps0]; after_results_simp <;> rfl
/-- The down operand holds the down weights without the leading unit dimension. -/
theorem V_d (c : Dev nD) : (V m c main_v5 : S2816x1024.Idx → EReal) = shapeCast S2816x1024 (argD m c) shapeCasts_S1x2816x1024_S2816x1024 := by
  unfold V; simp only [hostOps0]; after_results_simp <;> rfl
/-- The scale operand holds the row of the normalization scales that belongs to this layer. -/
theorem V_lg (c : Dev nD) : (V m c main_v8 : S1x1024.Idx → EReal)
    = shapeCast S1x1024 (shapeCast S1024 (extractStridedSlice S1x1024 ![0, 0] (argLg m c) slices_S2x1024_S1x1024_0_0) shapeCasts_S1x1024_S1024) shapeCasts_S1024_S1x1024 := by
  unfold V; simp only [hostOps0]; after_results_simp <;> rfl
/-- The shift operand holds the row of the normalization shifts that belongs to this layer. -/
theorem V_lb (c : Dev nD) : (V m c main_v11 : S1x1024.Idx → EReal)
    = shapeCast S1x1024 (shapeCast S1024 (extractStridedSlice S1x1024 ![0, 0] (argLb m c) slices_S2x1024_S1x1024_0_0) shapeCasts_S1x1024_S1024) shapeCasts_S1024_S1x1024 := by
  unfold V; simp only [hostOps0]; after_results_simp <;> rfl

/-! ## The blocks of a grid point -/

/-- The row of the whole array that row `r` of point `t`'s block is. -/
def rowAt (t : Fin cfg0.N) (r : Fin 512) : Fin 65536 := ⟨t.val * 512 + r.val, by have h : t.val < 128 := t.isLt.trans_eq N_0; omega⟩

/-- Which block of activation rows a grid point reads. -/
theorem idx_x : ∀ t : Fin cfg0.N, win0_0.index t 0 = t.val ∧ win0_0.index t 1 = 0 :=
  (by decide +kernel : ∀ t : Fin grid0.N, win0_0.index t 0 = t.val ∧ win0_0.index t 1 = 0)
/-- The operands that every grid point reads whole stay at block zero. -/
theorem idx_whole : ∀ t : Fin cfg0.N, (win0_1.index t 0 = 0 ∧ win0_1.index t 1 = 0) ∧ (win0_2.index t 0 = 0 ∧ win0_2.index t 1 = 0)
    ∧ (win0_3.index t 0 = 0 ∧ win0_3.index t 1 = 0) ∧ (win0_4.index t 0 = 0 ∧ win0_4.index t 1 = 0) ∧ (win0_5.index t 0 = 0 ∧ win0_5.index t 1 = 0) :=
  (by decide +kernel : ∀ t : Fin grid0.N, (win0_1.index t 0 = 0 ∧ win0_1.index t 1 = 0) ∧ (win0_2.index t 0 = 0 ∧ win0_2.index t 1 = 0)
    ∧ (win0_3.index t 0 = 0 ∧ win0_3.index t 1 = 0) ∧ (win0_4.index t 0 = 0 ∧ win0_4.index t 1 = 0) ∧ (win0_5.index t 0 = 0 ∧ win0_5.index t 1 = 0))
/-- Which block of result rows a grid point writes. -/
theorem idx_o : ∀ t : Fin cfg0.N, win0_6.index t 0 = t.val ∧ win0_6.index t 1 = 0 :=
  (by decide +kernel : ∀ t : Fin grid0.N, win0_6.index t 0 = t.val ∧ win0_6.index t 1 = 0)

/-- A grid point's activations. -/
theorem blk_x (c : Dev nD) (t : Fin cfg0.N) (r : Fin 512) (k : Fin 1024) : iblk m c 0 t (ix2 r k) = argX m c (ix2 (rowAt t r) k) := by
  refine Eq.trans ?_ (congrFun (V_main_arg0 m c) _)
  refine congrArg (V m c main_arg0) (funext fun a => Fin.ext ?_)
  match a with
  | ⟨0, _⟩ => show win0_0.index t 0 * 512 + 1 * r.val = t.val * 512 + r.val; rw [(idx_x t).1]; omega
  | ⟨1, _⟩ => show win0_0.index t 1 * 1024 + 1 * k.val = k.val; rw [(idx_x t).2]; omega

/-- Every grid point has the whole gate matrix. -/
theorem blk_g (c : Dev nD) (t : Fin cfg0.N) (k : Fin 1024) (j : Fin 2816) : iblk m c 1 t (ix2 k j) = argG m c (ix3 0 k j) := by
  refine Eq.trans ?_ ((congrFun (V_g m c) (ix2 k j)).trans (squeeze_apply (argG m c) _ k j))
  refine congrArg (V m c main_v1) (funext fun a => Fin.ext ?_)
  match a with
  | ⟨0, _⟩ => show win0_1.index t 0 * 1024 + 1 * (k : Fin 1024).val = (k : Fin 1024).val; rw [(idx_whole t).1.1]; omega
  | ⟨1, _⟩ => show win0_1.index t 1 * 2816 + 1 * j.val = j.val; rw [(idx_whole t).1.2]; omega

/-- Every grid point has the whole up matrix. -/
theorem blk_u (c : Dev nD) (t : Fin cfg0.N) (k : Fin 1024) (j : Fin 2816) : iblk m c 2 t (ix2 k j) = argU m c (ix3 0 k j) := by
  refine Eq.trans ?_ ((congrFun (V_u m c) (ix2 k j)).trans (squeeze_apply (argU m c) _ k j))
  refine congrArg (V m c main_v3) (funext fun a => Fin.ext ?_)
  match a with
  | ⟨0, _⟩ => show win0_2.index t 0 * 1024 + 1 * (k : Fin 1024).val = (k : Fin 1024).val; rw [(idx_whole t).2.1.1]; omega
  | ⟨1, _⟩ => show win0_2.index t 1 * 2816 + 1 * j.val = j.val; rw [(idx_whole t).2.1.2]; omega

/-- Every grid point has the whole down matrix. -/
theorem blk_d (c : Dev nD) (t : Fin cfg0.N) (k : Fin 2816) (j : Fin 1024) : iblk m c 3 t (ix2 k j) = argD m c (ix3 0 k j) := by
  refine Eq.trans ?_ ((congrFun (V_d m c) (ix2 k j)).trans (squeeze_apply (argD m c) _ k j))
  refine congrArg (V m c main_v5) (funext fun a => Fin.ext ?_)
  match a with
  | ⟨0, _⟩ => show win0_3.index t 0 * 2816 + 1 * (k : Fin 2816).val = (k : Fin 2816).val; rw [(idx_whole t).2.2.1.1]; omega
  | ⟨1, _⟩ => show win0_3.index t 1 * 1024 + 1 * j.val = j.val; rw [(idx_whole t).2.2.1.2]; omega

/-- Every grid point has the gains of the layer. -/
theorem blk_lg (c : Dev nD) (t : Fin cfg0.N) (j : Fin 1024) : iblk m c 4 t (ix2 0 j) = argLg m c (ix2 0 j) := by
  refine Eq.trans ?_ ((congrFun (V_lg m c) (ix2 0 j)).trans (tableRow_apply 0 (argLg m c) _ _ _ j))
  refine congrArg (V m c main_v8) (funext fun a => Fin.ext ?_)
  match a with
  | ⟨0, _⟩ => show win0_4.index t 0 * 1 + 1 * (0 : Fin 1).val = (0 : Fin 1).val; rw [(idx_whole t).2.2.2.1.1]; omega
  | ⟨1, _⟩ => show win0_4.index t 1 * 1024 + 1 * j.val = j.val; rw [(idx_whole t).2.2.2.1.2]; omega

/-- Every grid point has the offsets of the layer. -/
theorem blk_lb (c : Dev nD) (t : Fin cfg0.N) (j : Fin 1024) : iblk m c 5 t (ix2 0 j) = argLb m c (ix2 0 j) := by
  refine Eq.trans ?_ ((congrFun (V_lb m c) (ix2 0 j)).trans (tableRow_apply 0 (argLb m c) _ _ _ j))
  refine congrArg (V m c main_v11) (funext fun a => Fin.ext ?_)
  match a with
  | ⟨0, _⟩ => show win0_5.index t 0 * 1 + 1 * (0 : Fin 1).val = (0 : Fin 1).val; rw [(idx_whole t).2.2.2.2.1]; omega
  | ⟨1, _⟩ => show win0_5.index t 1 * 1024 + 1 * j.val = j.val; rw [(idx_whole t).2.2.2.2.2]; omega

/-! ## The result array -/

/-- The offset vector written out as zeros is the constant zero vector. -/
theorem hz : (![0, 0] : Fin 2 → Nat) = fun _ => 0 := funext fun a => by fin_cases a <;> rfl

/-- What the call computes on device `c`. -/
abbrev G (c : Dev nD) : S65536x1024.Idx → EReal := ffnOut (argX m c) (argG m c) (argU m c) (argD m c) (argLg m c) (argLb m c)

/-- What point `t` writes back is block `t` of `G`. -/
theorem flushed_eq (c : Dev nD) (t : Fin cfg0.N) : (dats m 0 c).flushed 6 t = ((cfg0.win 6).blk t).view.read (Elt Ideal) (G m c) := by
  rw [Value.flushed6]
  unfold out0_6
  rw [View.canon_unit_zero hz]
  rw [View.ld_unit_zero (S := S512x1024) hz, View.ld_unit_zero (S := S1024x2816) hz, View.ld_unit_zero (S := S1024x2816) hz, View.ld_unit_zero (S := S2816x1024) hz,
    View.ld_unit_zero (S := S1x1024) hz, View.ld_unit_zero (S := S1x1024) hz]
  funext y
  obtain ⟨r, j, rfl⟩ : ∃ (r : Fin 512) (j : Fin 1024), y = ix2 r j := ⟨y 0, y 1, eq_ix2 y⟩
  have e : ((cfg0.win 6).blk t).view.read (Elt Ideal) (G m c) (ix2 r j) = G m c (ix2 (rowAt t r) j) := by
    refine congrArg (G m c) (funext fun a => Fin.ext ?_)
    match a with
    | ⟨0, _⟩ => show win0_6.index t 0 * 512 + 1 * r.val = t.val * 512 + r.val; rw [(idx_o t).1]; omega
    | ⟨1, _⟩ => show win0_6.index t 1 * 1024 + 1 * j.val = j.val; rw [(idx_o t).2]; omega
  refine Eq.trans ?_ e.symm
  refine (pay_apply _ _ _ _ _ _ r j).trans ?_
  simp only [blk_x, blk_g, blk_u, blk_d, blk_lg, blk_lb]
  rfl

/-- An index of the result array is in point `t`'s block iff its row is. -/
theorem mem_blk (t : Fin cfg0.N) (i : S65536x1024.Idx) :
    i ∈ ((cfg0.win 6).blk t).view.set ↔ t.val * 512 ≤ (i 0 : Nat) ∧ (i 0 : Nat) < t.val * 512 + 512 := by
  show i ∈ ((View.whole main_v12).slice (win0_6.rect t)).set ↔ _
  rw [View.set_slice_whole, Rect.mem_set_unit]
  have h1 : (i 1 : Nat) < 1024 := (i 1).isLt
  refine ⟨fun h => ?_, fun h a => ?_⟩
  · have : win0_6.index t 0 * 512 ≤ (i 0 : Nat) ∧ (i 0 : Nat) < win0_6.index t 0 * 512 + 512 := h 0
    rw [(idx_o t).1] at this; exact this
  · match a with
    | ⟨0, _⟩ => show win0_6.index t 0 * 512 ≤ (i 0 : Nat) ∧ (i 0 : Nat) < win0_6.index t 0 * 512 + 512
                rw [(idx_o t).1]; exact h
    | ⟨1, _⟩ => show win0_6.index t 1 * 1024 ≤ (i 1 : Nat) ∧ (i 1 : Nat) < win0_6.index t 1 * 1024 + 1024
                rw [(idx_o t).2]; exact ⟨(Nat.zero_mul 1024).le.trans (Nat.zero_le _), h1.trans_eq (by rfl)⟩

/-- The blocks tile the result array. -/
theorem cover (i : S65536x1024.Idx) : ∃ t : Fin cfg0.N, (cfg0.win 6).flush t = true ∧ i ∈ ((cfg0.win 6).blk t).view.set := by
  have h0 : (i 0 : Nat) < 65536 := (i 0).isLt
  have hN : cfg0.N = 128 := N_0
  refine ⟨⟨(i 0 : Nat) / 512, by omega⟩, flush0_6 _, ?_⟩
  rw [mem_blk]
  dsimp only
  omega

/-- The result array ends holding `G`. -/
theorem final (c : Dev nD) : (dats m 0 c).arrAt 6 cfg0.N = G m c :=
  (dats m 0 c).arrAt_eq_of_cover 6 (G m c) (fun t _ => flushed_eq m c t) cover

end Cert.FfnIdeal.Rows

end
-- ==== Proof.FfnRef.lean ====
module

public import proofs.«01_k».proof.Proof.HostRows
public import proofs.«01_k».proof.Proof.Gen.FfnRefIdeal.Read

/-!
The dense feed forward reference computes `ffnOut`.
-/

@[expose] public section

noncomputable section

namespace Cert.FfnRefIdeal.Rows

open Idealize Idealize.ShloMosaic Idealize.ShloMosaic.ValueIdx Cert.Rows Cert.FfnRefIdeal Cert.FfnRefIdeal.Gen Cert.FfnRefIdeal.Read

/-- The side conditions of the layer normalization at the reference's size. -/
theorem sides : LnSides 65536 :=
  ⟨reducesTo_S65536x1024_S65536_d1, by decide, h_S_, bcast_S65536_S65536x1_0, bcast_S_S65536x1, bcast_S65536x1_S65536x1024_0_1, bcast_S1024_S1x1024_1, bcast_S1x1024_S65536x1024_0_1⟩

/-- The reference's result is `ffnOut` of its arguments. -/
theorem result (x0 : S65536x1024.Idx → EReal) (x1 x2 : S1x1024x2816.Idx → EReal) (x3 : S1x2816x1024.Idx → EReal) (x4 x5 : S2x1024.Idx → EReal) :
    val_main_v38 (F := Ideal) x0 x1 x2 x3 x4 x5 = ffnOut x0 x1 x2 x3 x4 x5 := by
  funext i
  obtain ⟨r, j, rfl⟩ : ∃ (r : Fin 65536) (j : Fin 1024), i = ix2 r j := ⟨i 0, i 1, eq_ix2 i⟩
  have e : val_main_v38 (F := Ideal) x0 x1 x2 x3 x4 x5 = hostLn sides (val_main_v10 (F := Ideal) x0 x1 x2 x3) (val_main_v12 (F := Ideal) x4) (val_main_v14 (F := Ideal) x5) := rfl
  rw [e, hostLn_apply]
  have e7 : val_main_v7 (F := Ideal) x0 x1 x2 x3 = hostSwiglu x0 (val_main_v0 (F := Ideal) x1) (val_main_v1 (F := Ideal) x2) (val_main_v2 (F := Ideal) x3) bcast_S_S65536x2816 := rfl
  have e10 : ∀ k : Fin 1024, val_main_v10 (F := Ideal) x0 x1 x2 x3 (ix2 r k)
      = alpha * x0 (ix2 r k) + swiglu (fun k => x0 (ix2 r k)) (fun k j => x1 (ix3 0 k j)) (fun k j => x2 (ix3 0 k j)) (fun k j => x3 (ix3 0 k j)) k := fun k => by
    refine congrArg₂ (· + ·) (congrArg (· * _) (fill_apply _ _ _)) ?_
    rw [e7, hostSwiglu_apply]
    simp only [val_main_v0, val_main_v1, val_main_v2, squeeze_apply]
  simp only [e10]
  exact congrArg₂ (fun g b => lnRow _ g b j) (hostTableRow_apply 0 x4 _ _ j) (hostTableRow_apply 0 x5 _ _ j)

end Cert.FfnRefIdeal.Rows

end
-- ==== Proof.FfnClaim.lean ====
module

public import proofs.«01_k».proof.Defs
public import proofs.«01_k».proof.Proof.FfnValue
public import proofs.«01_k».proof.Proof.FfnRef

/-! The dense feed forward call agrees with its reference. -/

@[expose] public section

noncomputable section

namespace Cert.FfnIdeal.Rows

open Idealize.ShloMosaic Idealize.ShloMosaic.TcCoe Idealize.SL.Sem

/-- Over the extended reals the call and its reference end with equal results, from memories that agree on the arguments. -/
theorem algebraic : Cert.algebraic_FfnIdeal_FfnRefIdeal := by
  intro m ρ m' ρ' _ hagree
  refine ⟨fun c => G m c, (θ_run _ _ _).mono (fun _ h c => ⟨(h c).1.trans (final m c), (h c).2⟩) (Cert.FfnIdeal.Value.run_blocks (F := Ideal) m ρ), ?_⟩
  refine (θ_run _ _ _).mono (fun _ h c => ⟨?_, (h c).2⟩) (Cert.FfnRefIdeal.Value.run (F := Ideal) m' ρ')
  rw [(h c).1, Cert.FfnRefIdeal.Read.val_main_v38_eq, Cert.FfnRefIdeal.Rows.result]
  obtain ⟨h0, h1, h2, h3, h4, h5⟩ := hagree c
  rw [h0, h1, h2, h3, h4, h5]

end Cert.FfnIdeal.Rows

end
-- ==== Proof.OutProjValue.lean ====
module

public import proofs.«01_k».proof.Proof.Gen.OutProjIdeal.Value
public import proofs.«01_k».proof.Proof.HostRows

/-! The output projection call, read at the extended reals: its result array, row by row, is the layer normalization of
    `alpha * x + merged · w`. -/

@[expose] public section

set_option maxRecDepth 16384

noncomputable section

namespace Cert.OutProjIdeal.Rows

open Cert.OutProjIdeal Cert.OutProjIdeal.Gen Cert.Rows Idealize.ShloMosaic Idealize.ShloMosaic.ValueIdx Idealize.ShloMosaic.TcCoe Idealize.SL.Sem
open Idealize.ShloMosaic.Pipeline (Dat)
open scoped BigOperators

/-- The block a grid point computes, at row `r` and column `j`. -/
theorem pay_apply (x : Vec Ideal S512x1024 .f32) (a : Vec Ideal S512x1024 .bf16) (w : Vec Ideal S1024x1024 .bf16) (g b : Vec Ideal S1x1024 .f32)
    (r : Fin 512) (j : Fin 1024) :
    k0_pay1 (F := Ideal) x a w g b (ix2 r j)
      = lnRow (fun k => alpha * x (ix2 r k) + rowDot (fun k => a (ix2 r k)) (fun k j => w (ix2 k j)) k) (g (ix2 0 j)) (b (ix2 0 j)) j := by
  have h1 : k0_pay1 (F := Ideal) x a w g b
      = lnBlock (addf (mulf (broadcast S512x1024 (Scalar.ofBits .f32 0x3FB504F3#32)) x)
          (matmul (φ₁ := .bf16) (φ₂ := .bf16) (DotDims.plain 512 1024 1024) none a (shapeCast S1024x1024 w shapeCasts_S1024x1024_S1024x1024) (constant S512x1024 .f32 0x00000000#32)))
          (shapeCast S1x1024 g shapeCasts_S1x1024_S1x1024) (shapeCast S1x1024 b shapeCasts_S1x1024_S1x1024)
          reduces_S512x1024_S512 (.inl rfl) rfl shapeCasts_S512_S512x1 broadcasts_S512x1_S512x1024 broadcasts_S1x1024_S512x1024 := rfl
  refine (congrFun h1 (ix2 r j)).trans ((lnBlock_apply _ _ _ _ _ _ _ _ _ r j).trans ?_)
  simp only [shapeCast_self]
  refine congrArg (fun y => lnRow y (g (ix2 0 j)) (b (ix2 0 j)) j) (funext fun k => ?_)
  exact congrArg (alpha * x (ix2 r k) + ·) (dotBlock_apply none a w r k)

variable (m : (ℓ : Loc nD τ sig) → Buf (Elt Ideal) ℓ) (ρ : Dev nD → PrngReg)

/-! ## The arguments as the region finds them -/

/-- The merged heads of the attention. -/
abbrev argA (c : Dev nD) : S65536x1024.Idx → EReal := m ((c : Thread nD τ).loc main_arg0)
/-- The activations. -/
abbrev argX (c : Dev nD) : S65536x1024.Idx → EReal := m ((c : Thread nD τ).loc main_arg1)
/-- The output projections of the two layers. -/
abbrev argW (c : Dev nD) : S2x1024x1024.Idx → EReal := m ((c : Thread nD τ).loc main_arg2)
/-- The gains of the layer normalization. -/
abbrev argLg (c : Dev nD) : S2x1024.Idx → EReal := m ((c : Thread nD τ).loc main_arg3)
/-- The offsets of the layer normalization. -/
abbrev argLb (c : Dev nD) : S2x1024.Idx → EReal := m ((c : Thread nD τ).loc main_arg4)

/-- The weight operand holds the slab of the projection weights that belongs to this layer, as a matrix. -/
theorem V_w (c : Dev nD) : (V m c main_v2 : S1024x1024.Idx → EReal)
    = shapeCast S1024x1024 (extractStridedSlice S1x1024x1024 ![1, 0, 0] (argW m c) slices_S2x1024x1024_S1x1024x1024_1_0_0) shapeCasts_S1x1024x1024_S1024x1024 := by
  unfold V; simp only [hostOps0]; after_results_simp <;> rfl
/-- The scale operand holds the row of the normalization scales that belongs to this layer. -/
theorem V_lg (c : Dev nD) : (V m c main_v5 : S1x1024.Idx → EReal)
    = shapeCast S1x1024 (shapeCast S1024 (extractStridedSlice S1x1024 ![1, 0] (argLg m c) slices_S2x1024_S1x1024_1_0) shapeCasts_S1x1024_S1024) shapeCasts_S1024_S1x1024 := by
  unfold V; simp only [hostOps0]; after_results_simp <;> rfl
/-- The shift operand holds the row of the normalization shifts that belongs to this layer. -/
theorem V_lb (c : Dev nD) : (V m c main_v8 : S1x1024.Idx → EReal)
    = shapeCast S1x1024 (shapeCast S1024 (extractStridedSlice S1x1024 ![1, 0] (argLb m c) slices_S2x1024_S1x1024_1_0) shapeCasts_S1x1024_S1024) shapeCasts_S1024_S1x1024 := by
  unfold V; simp only [hostOps0]; after_results_simp <;> rfl

/-! ## The blocks of a grid point -/

/-- The row of the whole array that row `r` of point `t`'s block is. -/
def rowAt (t : Fin cfg0.N) (r : Fin 512) : Fin 65536 := ⟨t.val * 512 + r.val, by have h : t.val < 128 := t.isLt.trans_eq N_0; omega⟩

/-- The block of merged heads at a grid point is the one with the number of the point. -/
theorem idx_a : ∀ t : Fin cfg0.N, win0_0.index t 0 = t.val ∧ win0_0.index t 1 = 0 :=
  (by decide +kernel : ∀ t : Fin grid0.N, win0_0.index t 0 = t.val ∧ win0_0.index t 1 = 0)
/-- Which block of activation rows a grid point reads. -/
theorem idx_x : ∀ t : Fin cfg0.N, win0_1.index t 0 = t.val ∧ win0_1.index t 1 = 0 :=
  (by decide +kernel : ∀ t : Fin grid0.N, win0_1.index t 0 = t.val ∧ win0_1.index t 1 = 0)
/-- Which block of result rows a grid point writes. -/
theorem idx_o : ∀ t : Fin cfg0.N, win0_5.index t 0 = t.val ∧ win0_5.index t 1 = 0 :=
  (by decide +kernel : ∀ t : Fin grid0.N, win0_5.index t 0 = t.val ∧ win0_5.index t 1 = 0)
/-- The operands that every grid point reads whole stay at block zero. -/
theorem idx_whole : ∀ t : Fin cfg0.N, (win0_2.index t 0 = 0 ∧ win0_2.index t 1 = 0) ∧ (win0_3.index t 0 = 0 ∧ win0_3.index t 1 = 0) ∧ (win0_4.index t 0 = 0 ∧ win0_4.index t 1 = 0) :=
  (by decide +kernel : ∀ t : Fin grid0.N, (win0_2.index t 0 = 0 ∧ win0_2.index t 1 = 0) ∧ (win0_3.index t 0 = 0 ∧ win0_3.index t 1 = 0) ∧ (win0_4.index t 0 = 0 ∧ win0_4.index t 1 = 0))

/-- A grid point's merged heads. -/
theorem blk_a (c : Dev nD) (t : Fin cfg0.N) (r : Fin 512) (k : Fin 1024) : iblk m c 0 t (ix2 r k) = argA m c (ix2 (rowAt t r) k) := by
  refine Eq.trans ?_ (congrFun (V_main_arg0 m c) _)
  refine congrArg (V m c main_arg0) (funext fun a => Fin.ext ?_)
  match a with
  | ⟨0, _⟩ => show win0_0.index t 0 * 512 + 1 * r.val = t.val * 512 + r.val; rw [(idx_a t).1]; omega
  | ⟨1, _⟩ => show win0_0.index t 1 * 1024 + 1 * k.val = k.val; rw [(idx_a t).2]; omega

/-- A grid point's activations. -/
theorem blk_x (c : Dev nD) (t : Fin cfg0.N) (r : Fin 512) (k : Fin 1024) : iblk m c 1 t (ix2 r k) = argX m c (ix2 (rowAt t r) k) := by
  refine Eq.trans ?_ (congrFun (V_main_arg1 m c) _)
  refine congrArg (V m c main_arg1) (funext fun a => Fin.ext ?_)
  match a with
  | ⟨0, _⟩ => show win0_1.index t 0 * 512 + 1 * r.val = t.val * 512 + r.val; rw [(idx_x t).1]; omega
  | ⟨1, _⟩ => show win0_1.index t 1 * 1024 + 1 * k.val = k.val; rw [(idx_x t).2]; omega

/-- Every grid point has the whole projection of the layer. -/
theorem blk_w (c : Dev nD) (t : Fin cfg0.N) (k : Fin 1024) (j : Fin 1024) : iblk m c 2 t (ix2 k j) = argW m c (ix3 1 k j) := by
  refine Eq.trans ?_ ((congrFun (V_w m c) (ix2 k j)).trans (member_apply 1 (argW m c) _ _ k j))
  refine congrArg (V m c main_v2) (funext fun a => Fin.ext ?_)
  match a with
  | ⟨0, _⟩ => show win0_2.index t 0 * 1024 + 1 * (k : Fin 1024).val = (k : Fin 1024).val; rw [(idx_whole t).1.1]; omega
  | ⟨1, _⟩ => show win0_2.index t 1 * 1024 + 1 * j.val = j.val; rw [(idx_whole t).1.2]; omega

/-- Every grid point has the gains of the layer. -/
theorem blk_lg (c : Dev nD) (t : Fin cfg0.N) (j : Fin 1024) : iblk m c 3 t (ix2 0 j) = argLg m c (ix2 1 j) := by
  refine Eq.trans ?_ ((congrFun (V_lg m c) (ix2 0 j)).trans (tableRow_apply 1 (argLg m c) _ _ _ j))
  refine congrArg (V m c main_v5) (funext fun a => Fin.ext ?_)
  match a with
  | ⟨0, _⟩ => show win0_3.index t 0 * 1 + 1 * (0 : Fin 1).val = (0 : Fin 1).val; rw [(idx_whole t).2.1.1]; omega
  | ⟨1, _⟩ => show win0_3.index t 1 * 1024 + 1 * j.val = j.val; rw [(idx_whole t).2.1.2]; omega

/-- Every grid point has the offsets of the layer. -/
theorem blk_lb (c : Dev nD) (t : Fin cfg0.N) (j : Fin 1024) : iblk m c 4 t (ix2 0 j) = argLb m c (ix2 1 j) := by
  refine Eq.trans ?_ ((congrFun (V_lb m c) (ix2 0 j)).trans (tableRow_apply 1 (argLb m c) _ _ _ j))
  refine congrArg (V m c main_v8) (funext fun a => Fin.ext ?_)
  match a with
  | ⟨0, _⟩ => show win0_4.index t 0 * 1 + 1 * (0 : Fin 1).val = (0 : Fin 1).val; rw [(idx_whole t).2.2.1]; omega
  | ⟨1, _⟩ => show win0_4.index t 1 * 1024 + 1 * j.val = j.val; rw [(idx_whole t).2.2.2]; omega

/-! ## The result array -/

/-- The offset vector written out as zeros is the constant zero vector. -/
theorem hz : (![0, 0] : Fin 2 → Nat) = fun _ => 0 := funext fun a => by fin_cases a <;> rfl

/-- What the call computes on device `c`. -/
abbrev G (c : Dev nD) : S65536x1024.Idx → EReal := projOut (argA m c) (argX m c) (argW m c) (argLg m c) (argLb m c)

/-- What point `t` writes back is block `t` of `G`. -/
theorem flushed_eq (c : Dev nD) (t : Fin cfg0.N) : (dats m 0 c).flushed 5 t = ((cfg0.win 5).blk t).view.read (Elt Ideal) (G m c) := by
  rw [Value.flushed5]
  unfold out0_5
  rw [View.canon_unit_zero hz]
  rw [View.ld_unit_zero (S := S512x1024) hz, View.ld_unit_zero (S := S512x1024) hz, View.ld_unit_zero (S := S1024x1024) hz,
    View.ld_unit_zero (S := S1x1024) hz, View.ld_unit_zero (S := S1x1024) hz]
  funext y
  obtain ⟨r, j, rfl⟩ : ∃ (r : Fin 512) (j : Fin 1024), y = ix2 r j := ⟨y 0, y 1, eq_ix2 y⟩
  have e : ((cfg0.win 5).blk t).view.read (Elt Ideal) (G m c) (ix2 r j) = G m c (ix2 (rowAt t r) j) := by
    refine congrArg (G m c) (funext fun a => Fin.ext ?_)
    match a with
    | ⟨0, _⟩ => show win0_5.index t 0 * 512 + 1 * r.val = t.val * 512 + r.val; rw [(idx_o t).1]; omega
    | ⟨1, _⟩ => show win0_5.index t 1 * 1024 + 1 * j.val = j.val; rw [(idx_o t).2]; omega
  refine Eq.trans ?_ e.symm
  refine (pay_apply _ _ _ _ _ r j).trans ?_
  simp only [blk_a, blk_x, blk_w, blk_lg, blk_lb]
  rfl

/-- An index of the result array is in point `t`'s block iff its row is. -/
theorem mem_blk (t : Fin cfg0.N) (i : S65536x1024.Idx) :
    i ∈ ((cfg0.win 5).blk t).view.set ↔ t.val * 512 ≤ (i 0 : Nat) ∧ (i 0 : Nat) < t.val * 512 + 512 := by
  show i ∈ ((View.whole main_v9).slice (win0_5.rect t)).set ↔ _
  rw [View.set_slice_whole, Rect.mem_set_unit]
  have h1 : (i 1 : Nat) < 1024 := (i 1).isLt
  refine ⟨fun h => ?_, fun h a => ?_⟩
  · have : win0_5.index t 0 * 512 ≤ (i 0 : Nat) ∧ (i 0 : Nat) < win0_5.index t 0 * 512 + 512 := h 0
    rw [(idx_o t).1] at this; exact this
  · match a with
    | ⟨0, _⟩ => show win0_5.index t 0 * 512 ≤ (i 0 : Nat) ∧ (i 0 : Nat) < win0_5.index t 0 * 512 + 512
                rw [(idx_o t).1]; exact h
    | ⟨1, _⟩ => show win0_5.index t 1 * 1024 ≤ (i 1 : Nat) ∧ (i 1 : Nat) < win0_5.index t 1 * 1024 + 1024
                rw [(idx_o t).2]; exact ⟨(Nat.zero_mul 1024).le.trans (Nat.zero_le _), h1.trans_eq (by rfl)⟩

/-- The blocks tile the result array. -/
theorem cover (i : S65536x1024.Idx) : ∃ t : Fin cfg0.N, (cfg0.win 5).flush t = true ∧ i ∈ ((cfg0.win 5).blk t).view.set := by
  have h0 : (i 0 : Nat) < 65536 := (i 0).isLt
  have hN : cfg0.N = 128 := N_0
  refine ⟨⟨(i 0 : Nat) / 512, by omega⟩, flush0_5 _, ?_⟩
  rw [mem_blk]
  dsimp only
  omega

/-- The result array ends holding `G`. -/
theorem final (c : Dev nD) : (dats m 0 c).arrAt 5 cfg0.N = G m c :=
  (dats m 0 c).arrAt_eq_of_cover 5 (G m c) (fun t _ => flushed_eq m c t) cover

end Cert.OutProjIdeal.Rows

end
-- ==== Proof.OutProjRef.lean ====
module

public import proofs.«01_k».proof.Proof.HostRows
public import proofs.«01_k».proof.Proof.Gen.OutProjRefIdeal.Read

/-!
The output projection reference computes `projOut`.
-/

@[expose] public section

noncomputable section

namespace Cert.OutProjRefIdeal.Rows

open Idealize Idealize.ShloMosaic Idealize.ShloMosaic.ValueIdx Idealize.ShloMosaic.StackMember Cert.Rows Cert.OutProjRefIdeal Cert.OutProjRefIdeal.Gen Cert.OutProjRefIdeal.Read

/-- The side conditions of the layer normalization at the reference's size. -/
theorem sides : LnSides 65536 :=
  ⟨reducesTo_S65536x1024_S65536_d1, by decide, h_S_, bcast_S65536_S65536x1_0, bcast_S_S65536x1, bcast_S65536x1_S65536x1024_0_1, bcast_S1024_S1x1024_1, bcast_S1x1024_S65536x1024_0_1⟩

/-- The reference's result is `projOut` of its arguments. -/
theorem result (x0 x1 : S65536x1024.Idx → EReal) (x2 : S2x1024x1024.Idx → EReal) (x3 x4 : S2x1024.Idx → EReal) :
    val_main_v34 (F := Ideal) x0 x1 x2 x3 x4 = projOut x0 x1 x2 x3 x4 := by
  funext i
  obtain ⟨r, j, rfl⟩ : ∃ (r : Fin 65536) (j : Fin 1024), i = ix2 r j := ⟨i 0, i 1, eq_ix2 i⟩
  have e : val_main_v34 (F := Ideal) x0 x1 x2 x3 x4 = hostLn sides (val_main_v6 (F := Ideal) x0 x1 x2) (val_main_v8 (F := Ideal) x3) (val_main_v10 (F := Ideal) x4) := rfl
  rw [e, hostLn_apply]
  have e6 : ∀ k : Fin 1024, val_main_v6 (F := Ideal) x0 x1 x2 (ix2 r k)
      = alpha * x1 (ix2 r k) + rowDot (fun k => x0 (ix2 r k)) (fun k j => x2 (ix3 1 k j)) k := fun k => by
    refine congrArg₂ (· + ·) (congrArg (· * _) (fill_apply _ _ _)) ?_
    refine (dotGeneral_plain_apply (φ₁ := .f32) (φ₂ := .f32) none x0 (val_main_v2 (F := Ideal) x2) r k).trans ?_
    exact Finset.sum_congr rfl fun c _ => congrArg (x0 (ix2 r c) * ·) (member_apply 1 x2 _ _ c k)
  simp only [e6]
  exact congrArg₂ (fun g b => lnRow _ g b j) (hostTableRow_apply 1 x3 _ _ j) (hostTableRow_apply 1 x4 _ _ j)

end Cert.OutProjRefIdeal.Rows

end
-- ==== Proof.OutProjClaim.lean ====
module

public import proofs.«01_k».proof.Defs
public import proofs.«01_k».proof.Proof.OutProjValue
public import proofs.«01_k».proof.Proof.OutProjRef

/-! The output projection call agrees with its reference. -/

@[expose] public section

noncomputable section

namespace Cert.OutProjIdeal.Rows

open Idealize.ShloMosaic Idealize.ShloMosaic.TcCoe Idealize.SL.Sem

/-- Over the extended reals the call and its reference end with equal results, from memories that agree on the arguments. -/
theorem algebraic : Cert.algebraic_OutProjIdeal_OutProjRefIdeal := by
  intro m ρ m' ρ' _ hagree
  refine ⟨fun c => G m c, (θ_run _ _ _).mono (fun _ h c => ⟨(h c).1.trans (final m c), (h c).2⟩) (Cert.OutProjIdeal.Value.run_blocks (F := Ideal) m ρ), ?_⟩
  refine (θ_run _ _ _).mono (fun _ h c => ⟨?_, (h c).2⟩) (Cert.OutProjRefIdeal.Value.run (F := Ideal) m' ρ')
  rw [(h c).1, Cert.OutProjRefIdeal.Read.val_main_v34_eq, Cert.OutProjRefIdeal.Rows.result]
  obtain ⟨h0, h1, h2, h3, h4⟩ := hagree c
  rw [h0, h1, h2, h3, h4]

end Cert.OutProjIdeal.Rows

end
-- ==== Proof.InProjRows.lean ====
module

public import proofs.«01_k».proof.Proof.MoeRows

/-! The input projection of layer 0 on sequences of `T` rows, at the extended reals: the columns of `x · w`, the short convolution over
    three rows, and the layouts in which the call returns them. -/

@[expose] public section

noncomputable section

namespace Cert.Rows

open Idealize.ShloMosaic Idealize.ShloMosaic.ValueIdx
open scoped BigOperators

/-- The activations of a batch of 16 sequences of `T` rows. -/
abbrev SX (T : ℕ) : Shape := ⟨3, ![16, T, 1024]⟩
/-- The two rows before each sequence. -/
abbrev SP : Shape := ⟨3, ![16, 2, 1024]⟩
/-- The projection weights of the two layers. -/
abbrev SW : Shape := ⟨3, ![2, 1024, 7240]⟩
/-- The convolution taps of the two layers. -/
abbrev SC : Shape := ⟨3, ![2, 3, 1024]⟩

variable {T : ℕ}

/-- Column `n` of the projection of row `t` of sequence `b`. -/
def proj (X : (SX T).Idx → EReal) (W : SW.Idx → EReal) (b : Fin 16) (t : Fin T) (n : Fin 7240) : EReal :=
  rowDot (fun k => X (ix3 b t k)) (fun k n => W (ix3 0 k n)) n

/-- Column `j` of the part of the projection that starts at column `o`. -/
def part (X : (SX T).Idx → EReal) (W : SW.Idx → EReal) {n : ℕ} (o : ℕ) (h : o + n ≤ 7240) (b : Fin 16) (t : Fin T) (j : Fin n) : EReal :=
  proj X W b t ⟨o + j.val, by omega⟩

/-- The row that enters the convolution: the product of two parts of the projection. -/
def convRow (X : (SX T).Idx → EReal) (W : SW.Idx → EReal) (b : Fin 16) (t : Fin T) (j : Fin 1024) : EReal :=
  part X W 1024 (n := 1024) (by omega) b t j * part X W 2048 (n := 1024) (by omega) b t j

/-- The rows that enter the convolution, with the two rows before the sequence in front. -/
def convExt (X : (SX T).Idx → EReal) (Q : SP.Idx → EReal) (W : SW.Idx → EReal) (b : Fin 16) (s : Fin (T + 2)) (j : Fin 1024) : EReal :=
  if h : s.val < 2 then Q (ix3 b ⟨s.val, h⟩ j) else convRow X W b ⟨s.val - 2, by omega⟩ j

/-- The gate and the convolution of one column: `u2` and `u1` are two rows and one row back. -/
def gateConv (bg ga u2 u1 u c0 c1 c2 : EReal) : EReal := Ideal.logistic ga * (bg * (u2 * c0 + u1 * c1 + u * c2))

/-- The gated short convolution. -/
def convOut (X : (SX T).Idx → EReal) (Q : SP.Idx → EReal) (W : SW.Idx → EReal) (C : SC.Idx → EReal) : (SX T).Idx → EReal := fun i =>
  gateConv (part X W 0 (n := 1024) (by omega) (i 0) (i 1) (i 2)) (part X W 5192 (n := 1024) (by omega) (i 0) (i 1) (i 2))
    (convExt X Q W (i 0) ⟨(i 1).val, by have : (i 1).val < T := (i 1).isLt; omega⟩ (i 2))
    (convExt X Q W (i 0) ⟨(i 1).val + 1, by have : (i 1).val < T := (i 1).isLt; omega⟩ (i 2))
    (convRow X W (i 0) (i 1) (i 2)) (C (ix3 0 0 (i 2))) (C (ix3 0 1 (i 2))) (C (ix3 0 2 (i 2)))

/-- The queries, scaled. -/
def queryOut (X : (SX T).Idx → EReal) (W : SW.Idx → EReal) : (SX T).Idx → EReal := fun i =>
  part X W 3072 (n := 1024) (by omega) (i 0) (i 1) (i 2) * Ideal.ofBits .f32 0x3E000000#32

/-- The gate of the attention. -/
def gateOut (X : (SX T).Idx → EReal) (W : SW.Idx → EReal) : (SX T).Idx → EReal := fun i =>
  Ideal.logistic (part X W 6216 (n := 1024) (by omega) (i 0) (i 1) (i 2))

/-- The column, among 256, that column `j` of four heads of 64 columns, each head written twice, repeats. -/
def twice (j : Fin 512) : Fin 256 := ⟨j.val / 128 * 64 + j.val % 64, by omega⟩

/-- The part of four heads that starts at column `o`, each head written twice. -/
def headsOut (X : (SX T).Idx → EReal) (W : SW.Idx → EReal) (o : ℕ) (h : o + 256 ≤ 7240) : (⟨3, ![16, T, 512]⟩ : Shape).Idx → EReal := fun i =>
  part X W o (n := 256) h (i 0) (i 1) (twice (i 2))

/-- The queries of the index. -/
def idxQueryOut (X : (SX T).Idx → EReal) (W : SW.Idx → EReal) : (⟨3, ![16, T, 512]⟩ : Shape).Idx → EReal := fun i =>
  part X W 4608 (n := 512) (by omega) (i 0) (i 1) (i 2)

/-- The keys of the index, written twice. -/
def idxKeyOut (X : (SX T).Idx → EReal) (W : SW.Idx → EReal) : (⟨3, ![16, T, 128]⟩ : Shape).Idx → EReal := fun i =>
  part X W 5120 (n := 64) (by omega) (i 0) (i 1) ⟨(i 2).val % 64, by omega⟩

/-- The keys of the index, then its head weights, then zeros. -/
def idxMixOut (X : (SX T).Idx → EReal) (W : SW.Idx → EReal) : (⟨3, ![16, T, 128]⟩ : Shape).Idx → EReal := fun i =>
  if h : (i 2).val < 72 then proj X W (i 0) (i 1) ⟨5120 + (i 2).val, by omega⟩ else 0

/-- The last eight rows that entered the convolution. -/
def stateOut (X : (SX T).Idx → EReal) (W : SW.Idx → EReal) (hT : 8 ≤ T := by decide) : (⟨3, ![16, 8, 1024]⟩ : Shape).Idx → EReal := fun i =>
  convRow X W (i 0) ⟨T - 8 + (i 1).val, by have : (i 1).val < 8 := (i 1).isLt; omega⟩ (i 2)

/-- An array cast to its own shape. -/
theorem same_apply {S : Shape} {α : Type} (v : S.Idx → α) (h : S.ShapeCasts S) (i : S.Idx) : shapeCast S v h i = v i :=
  shapeCast_apply v h i i rfl

/-- A matrix put under a unit axis. -/
theorem unsqueeze_apply {a b : ℕ} {α : Type} (v : (⟨2, ![a, b]⟩ : Shape).Idx → α) (h : (⟨2, ![a, b]⟩ : Shape).ShapeCasts ⟨3, ![1, a, b]⟩) (k : Fin a) (j : Fin b) :
    shapeCast ⟨3, ![1, a, b]⟩ v h (ix3 0 k j) = v (ix2 k j) := by
  refine shapeCast_apply v h _ _ ?_
  rw [Shape.rowMajor_val_three, Shape.rowMajor_val_two]
  show k.val * b + j.val = (0 * a + k.val) * b + j.val
  rw [Nat.zero_mul, Nat.zero_add]

/-- An index of three coordinates with one value of the first. -/
theorem eq_ix3_zero {a b : ℕ} (i : (⟨3, ![1, a, b]⟩ : Shape).Idx) : i = ix3 0 (i 1) (i 2) := by
  refine (eq_ix3 i).trans ?_
  have h : i 0 = (0 : Fin 1) := Subsingleton.elim (α := Fin 1) _ _
  rw [h]; rfl

end Cert.Rows

end
-- ==== Proof.InProjPay.lean ====
module

public import proofs.«01_k».proof.Proof.InProjRows
public import proofs.«01_k».proof.Proof.Gen.InProjIdeal.Skeleton

/-! The values the input projection stores, read at an element. -/

@[expose] public section

set_option maxRecDepth 16384

noncomputable section

namespace Cert.InProjIdeal.Rows

open Cert.InProjIdeal Cert.InProjIdeal.Gen Cert.Rows Idealize.ShloMosaic Idealize.ShloMosaic.TcCoe Idealize.ShloMosaic.ValueIdx

/-- The product of row `r` of a block of activations with column `j` of a matrix. -/
def dotAt (x : Vec Ideal S1x512x1024 .f32) {n : ℕ} (w : (⟨2, ![1024, n]⟩ : Shape).Idx → EReal) (r : Fin 512) (j : Fin n) : EReal :=
  rowDot (fun k => x (ix3 0 r k)) (fun k j => w (ix2 k j)) j

/-- The block of activations as the products read it. -/
theorem pay8_apply (x : Vec Ideal S1x512x1024 .f32) (r : Fin 512) (k : Fin 1024) : k0_pay8 (F := Ideal) x (ix2 r k) = x (ix3 0 r k) :=
  squeeze_apply (a := 512) (b := 1024) x _ r k

/-- A product of the block of activations with a matrix of `n` columns. -/
theorem prod_apply {n : ℕ} {φ : FTy} (x : Vec Ideal S1x512x1024 .f32) (w : FVec Ideal ⟨2, ![1024, n]⟩ φ) (h : (⟨2, ![1024, n]⟩ : Shape).ShapeCasts ⟨2, ![1024, n]⟩)
    (r : Fin 512) (j : Fin n) :
    matmul (F := Ideal) (DotDims.plain 512 1024 n) none (k0_pay8 (F := Ideal) x) (shapeCast ⟨2, ![1024, n]⟩ w h) (constant ⟨2, ![512, n]⟩ .f32 0x00000000#32) (ix2 r j)
      = dotAt x w r j := by
  refine (dotBlock_apply none _ _ r j).trans ?_
  unfold dotAt rowDot
  exact Finset.sum_congr rfl fun k _ => congrArg₂ (· * ·) (pay8_apply x r k) (same_apply w h _)

/-- The convolution chunk of a block, at an element. -/
theorem pay19_apply (bg ga u u1 u2 : FVec Ideal S512x256 .f32) (c0 c1 c2 : FVec Ideal S1x256 .f32) (r : Fin 512) (j : Fin 256) :
    k0_pay19 (F := Ideal) bg ga u u1 u2 c0 c1 c2 (ix3 0 r j)
      = gateConv (bg (ix2 r j)) (ga (ix2 r j)) (u2 (ix2 r j)) (u1 (ix2 r j)) (u (ix2 r j)) (c0 (ix2 0 j)) (c1 (ix2 0 j)) (c2 (ix2 0 j)) := by
  have tap : ∀ c : FVec Ideal S1x256 .f32, broadcastTo S512x256 (shapeCast S1x256 c shapeCasts_S1x256_S1x256) broadcasts_S1x256_S512x256 (ix2 r j) = c (ix2 0 j) := fun c =>
    (rows_apply (M := 512) (N := 256) _ _ r j).trans (same_apply c _ _)
  unfold k0_pay19
  refine (unsqueeze_apply (a := 512) (b := 256) _ _ r j).trans ?_
  unfold gateConv
  rw [← tap c0, ← tap c1, ← tap c2]
  rfl

/-- The convolution chunk at columns 0 to 255. -/
theorem pay14_apply (bg ga u u1 u2 : FVec Ideal S512x256 .f32) (c0 c1 c2 : FVec Ideal S1x256 .f32) (r : Fin 512) (j : Fin 256) :
    k0_pay14 (F := Ideal) bg ga u u1 (k0_pay13 (F := Ideal) u2 c0) c1 c2 (ix3 0 r j)
      = gateConv (bg (ix2 r j)) (ga (ix2 r j)) (u2 (ix2 r j)) (u1 (ix2 r j)) (u (ix2 r j)) (c0 (ix2 0 j)) (c1 (ix2 0 j)) (c2 (ix2 0 j)) :=
  pay19_apply bg ga u u1 u2 c0 c1 c2 r j

/-- The convolution chunk at columns 512 to 767. -/
theorem pay24_apply (bg ga u u1 u2 : FVec Ideal S512x256 .f32) (c0 c1 c2 : FVec Ideal S1x256 .f32) (r : Fin 512) (j : Fin 256) :
    k0_pay24 (F := Ideal) bg ga u u1 u2 c0 c1 c2 (ix3 0 r j)
      = gateConv (bg (ix2 r j)) (ga (ix2 r j)) (u2 (ix2 r j)) (u1 (ix2 r j)) (u (ix2 r j)) (c0 (ix2 0 j)) (c1 (ix2 0 j)) (c2 (ix2 0 j)) :=
  pay19_apply bg ga u u1 u2 c0 c1 c2 r j

/-- The convolution chunk at columns 768 to 1023. -/
theorem pay29_apply (bg ga u u1 u2 : FVec Ideal S512x256 .f32) (c0 c1 c2 : FVec Ideal S1x256 .f32) (r : Fin 512) (j : Fin 256) :
    k0_pay29 (F := Ideal) bg ga u u1 u2 c0 c1 c2 (ix3 0 r j)
      = gateConv (bg (ix2 r j)) (ga (ix2 r j)) (u2 (ix2 r j)) (u1 (ix2 r j)) (u (ix2 r j)) (c0 (ix2 0 j)) (c1 (ix2 0 j)) (c2 (ix2 0 j)) :=
  pay19_apply bg ga u u1 u2 c0 c1 c2 r j

/-- A chunk of one part of the projection. -/
theorem pay9_apply (x : Vec Ideal S1x512x1024 .f32) (w : FVec Ideal S1024x256 .bf16) (r : Fin 512) (j : Fin 256) : k0_pay9 (F := Ideal) x w (ix2 r j) = dotAt x w r j :=
  prod_apply x w _ r j

/-- A chunk of the rows that enter the convolution. -/
theorem pay11_apply (x : Vec Ideal S1x512x1024 .f32) (w w' : FVec Ideal S1024x256 .bf16) (r : Fin 512) (j : Fin 256) :
    k0_pay11 (F := Ideal) x w w' (ix2 r j) = dotAt x w r j * dotAt x w' r j :=
  congrArg₂ (· * ·) (prod_apply x w shapeCasts_S1024x256_S1024x256 r j) (prod_apply x w' shapeCasts_S1024x256_S1024x256 r j)

/-- The same chunk as the scratch holds it. -/
theorem pay12_apply (x : Vec Ideal S1x512x1024 .f32) (w w' : FVec Ideal S1024x256 .bf16) (r : Fin 512) (j : Fin 256) :
    k0_pay12 (F := Ideal) x w w' (ix2 r j) = dotAt x w r j * dotAt x w' r j := by
  unfold k0_pay12
  exact (same_apply _ _ _).trans (pay11_apply x w w' r j)

/-- The rows before the block, as the scratch holds them. -/
theorem pay7_apply (q : Vec Ideal S1x8x1024 .f32) (r : Fin 8) (j : Fin 1024) : k0_pay7 (F := Ideal) q (ix2 r j) = q (ix3 0 r j) := by
  unfold k0_pay7
  exact (same_apply _ _ _).trans (squeeze_apply (a := 8) (b := 1024) q _ r j)

/-- The last eight rows, as they are returned. -/
theorem pay30_apply (v : FVec Ideal S8x1024 .f32) (r : Fin 8) (j : Fin 1024) : k0_pay30 (F := Ideal) v (ix3 0 r j) = v (ix2 r j) :=
  unsqueeze_apply (a := 8) (b := 1024) v _ r j

/-- The last eight rows, as the scratch keeps them. -/
theorem pay31_apply (v : FVec Ideal S8x1024 .f32) (i : S8x1024.Idx) : k0_pay31 (F := Ideal) v i = v i := same_apply v _ i

/-- The scaled queries of a block. -/
theorem pay32_apply (x : Vec Ideal S1x512x1024 .f32) (w : FVec Ideal S1024x1024 .bf16) (r : Fin 512) (j : Fin 1024) :
    k0_pay32 (F := Ideal) (k0_pay8 (F := Ideal) x) w (ix3 0 r j) = dotAt x w r j * Ideal.ofBits .f32 0x3E000000#32 := by
  unfold k0_pay32
  exact (unsqueeze_apply (a := 512) (b := 1024) _ _ r j).trans (congrArg (· * Ideal.ofBits .f32 0x3E000000#32) (prod_apply x w shapeCasts_S1024x1024_S1024x1024 r j))

/-- The attention gate of a block. -/
theorem pay33_apply (x : Vec Ideal S1x512x1024 .f32) (w : FVec Ideal S1024x1024 .bf16) (r : Fin 512) (j : Fin 1024) :
    k0_pay33 (F := Ideal) (k0_pay8 (F := Ideal) x) w (ix3 0 r j) = Ideal.logistic (dotAt x w r j) := by
  unfold k0_pay33
  exact (unsqueeze_apply (a := 512) (b := 1024) _ _ r j).trans (congrArg Ideal.logistic (prod_apply x w shapeCasts_S1024x1024_S1024x1024 r j))

/-- The keys of a block. -/
theorem pay35_apply (x : Vec Ideal S1x512x1024 .f32) (w : FVec Ideal S1024x512 .bf16) (r : Fin 512) (j : Fin 512) :
    k0_pay35 (F := Ideal) (k0_pay8 (F := Ideal) x) w (ix3 0 r j) = dotAt x w r j := by
  unfold k0_pay35 k0_pay34
  exact (unsqueeze_apply (a := 512) (b := 512) _ _ r j).trans (prod_apply x w shapeCasts_S1024x512_S1024x512 r j)

/-- The keys of a block, in the narrow format. -/
theorem pay36_apply (x : Vec Ideal S1x512x1024 .f32) (w : FVec Ideal S1024x512 .bf16) (r : Fin 512) (j : Fin 512) :
    k0_pay36 (F := Ideal) (k0_pay8 (F := Ideal) x) w (ix3 0 r j) = dotAt x w r j := by
  unfold k0_pay36 k0_pay34
  exact (unsqueeze_apply (a := 512) (b := 512) _ _ r j).trans (prod_apply x w shapeCasts_S1024x512_S1024x512 r j)

/-- The values of a block. -/
theorem pay1_apply (x : Vec Ideal S1x512x1024 .f32) (w : FVec Ideal S1024x512 .bf16) (r : Fin 512) (j : Fin 512) :
    k0_pay1 (F := Ideal) (k0_pay37 (F := Ideal) (k0_pay8 (F := Ideal) x) w) (ix3 0 r j) = dotAt x w r j := by
  unfold k0_pay1 k0_pay37
  exact (unsqueeze_apply (a := 512) (b := 512) _ _ r j).trans (prod_apply x w shapeCasts_S1024x512_S1024x512 r j)

/-- The values of a block, in the narrow format. -/
theorem pay2_apply (x : Vec Ideal S1x512x1024 .f32) (w : FVec Ideal S1024x512 .bf16) (r : Fin 512) (j : Fin 512) :
    k0_pay2 (F := Ideal) (k0_pay37 (F := Ideal) (k0_pay8 (F := Ideal) x) w) (ix3 0 r j) = dotAt x w r j := by
  unfold k0_pay2 k0_pay37
  exact (unsqueeze_apply (a := 512) (b := 512) _ _ r j).trans (prod_apply x w shapeCasts_S1024x512_S1024x512 r j)

/-- The index queries of a block. -/
theorem pay3_apply (x : Vec Ideal S1x512x1024 .f32) (w : FVec Ideal S1024x512 .bf16) (r : Fin 512) (j : Fin 512) :
    k0_pay3 (F := Ideal) (k0_pay8 (F := Ideal) x) w (ix3 0 r j) = dotAt x w r j := by
  unfold k0_pay3
  exact (unsqueeze_apply (a := 512) (b := 512) _ _ r j).trans (prod_apply x w shapeCasts_S1024x512_S1024x512 r j)

/-- The index keys of a block, written twice: columns 0 to 127 of the index product. -/
theorem pay5_apply (x : Vec Ideal S1x512x1024 .f32) (w : FVec Ideal S1024x256 .bf16) (r : Fin 512) (j : Fin 128) :
    k0_pay5 (F := Ideal) (k0_pay8 (F := Ideal) x) w (ix3 0 r j) = dotAt x w r ⟨j.val, by omega⟩ := by
  unfold k0_pay5
  refine (unsqueeze_apply (a := 512) (b := 128) _ _ r j).trans ?_
  refine (extractStridedSlice_apply _ (k0_pay4 (F := Ideal) (k0_pay8 (F := Ideal) x) w) slices_S512x256_o0_0_S512x128 _ (ix2 r ⟨j.val, by omega⟩) fun a => ?_).trans
    (prod_apply x w shapeCasts_S1024x256_S1024x256 r _)
  match a with
  | ⟨0, _⟩ => show r.val = 0 + r.val; omega
  | ⟨1, _⟩ => show j.val = 0 + j.val; omega

/-- The index keys and head weights of a block: columns 128 to 255 of the index product. -/
theorem pay6_apply (x : Vec Ideal S1x512x1024 .f32) (w : FVec Ideal S1024x256 .bf16) (r : Fin 512) (j : Fin 128) :
    k0_pay6 (F := Ideal) (k0_pay8 (F := Ideal) x) w (ix3 0 r j) = dotAt x w r ⟨128 + j.val, by omega⟩ := by
  unfold k0_pay6
  refine (unsqueeze_apply (a := 512) (b := 128) _ _ r j).trans ?_
  refine (extractStridedSlice_apply _ (k0_pay4 (F := Ideal) (k0_pay8 (F := Ideal) x) w) slices_S512x256_o0_128_S512x128 _ (ix2 r ⟨128 + j.val, by omega⟩) fun a => ?_).trans
    (prod_apply x w shapeCasts_S1024x256_S1024x256 r _)
  match a with
  | ⟨0, _⟩ => show r.val = 0 + r.val; omega
  | ⟨1, _⟩ => rfl

end Cert.InProjIdeal.Rows

end
-- ==== Proof.InProjHost.lean ====
module

public import proofs.«01_k».proof.Proof.InProjPay
public import proofs.«01_k».proof.Proof.HostRows
public import proofs.«01_k».proof.Proof.Gen.InProjIdeal.Frame.Runs
public import Idealize.ShloMosaic.Lib.KernelVsHost

/-! The input projection's operands as the grid finds them: parts of the projection weights, some of them written twice. -/

@[expose] public section

set_option maxRecDepth 16384

noncomputable section

namespace Cert.InProjIdeal.Rows

open Cert.InProjIdeal Cert.InProjIdeal.Gen Cert.Rows Idealize.ShloMosaic Idealize.ShloMosaic.ValueIdx Idealize.ShloMosaic.TcCoe Idealize.SL.Sem
open scoped BigOperators

variable (m : (ℓ : Loc nD τ sig) → Buf (Elt Ideal) ℓ)

/-- The activations. -/
abbrev argX (c : Dev nD) : S16x4096x1024.Idx → EReal := m ((c : Thread nD τ).loc main_arg0)
/-- The two rows before each sequence. -/
abbrev argQ (c : Dev nD) : S16x2x1024.Idx → EReal := m ((c : Thread nD τ).loc main_arg1)
/-- The projection weights of the two layers. -/
abbrev argW (c : Dev nD) : S2x1024x7240.Idx → EReal := m ((c : Thread nD τ).loc main_arg2)
/-- The convolution taps of the two layers. -/
abbrev argC (c : Dev nD) : S2x3x1024.Idx → EReal := m ((c : Thread nD τ).loc main_arg3)

/-! ## The operands -/

/-- The projection weights of the layer, as a matrix. -/
abbrev mat (W : S2x1024x7240.Idx → EReal) : S1024x7240.Idx → EReal :=
  shapeCast S1024x7240 (extractStridedSlice S1x1024x7240 ![0, 0, 0] W slices_S2x1024x7240_S1x1024x7240_0_0_0) shapeCasts_S1x1024x7240_S1024x7240

/-- The index keys' columns. -/
abbrev keyCols (W : S2x1024x7240.Idx → EReal) : S1024x64.Idx → EReal := extractStridedSlice S1024x64 ![0, 5120] (mat W) slices_S1024x7240_S1024x64_0_5120

/-- The index keys' columns, the head weights' columns, and zeros. -/
abbrev mixCols (W : S2x1024x7240.Idx → EReal) : S1024x128.Idx → EReal :=
  concatenate S1024x128 1 [⟨S1024x64, keyCols W⟩, ⟨S1024x8, extractStridedSlice S1024x8 ![0, 5184] (mat W) slices_S1024x7240_S1024x8_0_5184⟩,
    ⟨S1024x56, broadcastInDim S1024x56 ![] bcast_S_S1024x56 (constant (F := Ideal) S_ .f32 0x00000000#32)⟩] concatenates_S1024x64_S1024x8_S1024x56_S1024x128_d1

/-- Four heads of 64 columns, each written twice. -/
abbrev doubled (v : S1024x256.Idx → EReal) : S1024x512.Idx → EReal :=
  shapeCast S1024x512 (concatenate S1024x4x128 2 [⟨S1024x4x64, shapeCast S1024x4x64 v shapeCasts_S1024x256_S1024x4x64⟩, ⟨S1024x4x64, shapeCast S1024x4x64 v shapeCasts_S1024x256_S1024x4x64⟩]
    concatenates_S1024x4x64_S1024x4x64_S1024x4x128_d2) shapeCasts_S1024x4x128_S1024x512

/-- The rows before a sequence, with six rows of padding in front. -/
theorem V_q (c : Dev nD) : (V m c main_v0 : S16x8x1024.Idx → EReal)
    = pad S16x8x1024 ![0, 6, 0] ![0, 0, 0] ![0, 0, 0] (argQ m c) (sitofp (F := Ideal) .f32 (constantI S_ 32 0#32)) pads_S16x2x1024_S16x8x1024_000_600_000 h_S_ := by
  unfold V; simp only [hostOps0, hostOps0_1, hostOps0_2, List.flatten_cons, List.flatten_nil, List.append_nil, List.cons_append, List.nil_append]
  after_results_simp <;> rfl
/-- The first operand: the four parts of the convolution, side by side. -/
theorem V_wa (c : Dev nD) : (V m c main_v17 : S1024x4096.Idx → EReal)
    = concatenate S1024x4096 1 [⟨S1024x1024, extractStridedSlice S1024x1024 ![0, 0] (mat (argW m c)) slices_S1024x7240_S1024x1024_0_0⟩,
        ⟨S1024x1024, extractStridedSlice S1024x1024 ![0, 1024] (mat (argW m c)) slices_S1024x7240_S1024x1024_0_1024⟩,
        ⟨S1024x1024, extractStridedSlice S1024x1024 ![0, 2048] (mat (argW m c)) slices_S1024x7240_S1024x1024_0_2048⟩,
        ⟨S1024x1024, extractStridedSlice S1024x1024 ![0, 5192] (mat (argW m c)) slices_S1024x7240_S1024x1024_0_5192⟩]
        concatenates_S1024x1024_S1024x1024_S1024x1024_S1024x1024_S1024x4096_d1 := by
  unfold V; simp only [hostOps0, hostOps0_1, hostOps0_2, List.flatten_cons, List.flatten_nil, List.append_nil, List.cons_append, List.nil_append]
  after_results_simp <;> rfl
/-- The queries' columns. -/
theorem V_wq (c : Dev nD) : (V m c main_v18 : S1024x1024.Idx → EReal) = extractStridedSlice S1024x1024 ![0, 3072] (mat (argW m c)) slices_S1024x7240_S1024x1024_0_3072 := by
  unfold V; simp only [hostOps0, hostOps0_1, hostOps0_2, List.flatten_cons, List.flatten_nil, List.append_nil, List.cons_append, List.nil_append]
  after_results_simp <;> rfl
/-- The attention gate's columns. -/
theorem V_wg (c : Dev nD) : (V m c main_v19 : S1024x1024.Idx → EReal) = extractStridedSlice S1024x1024 ![0, 6216] (mat (argW m c)) slices_S1024x7240_S1024x1024_0_6216 := by
  unfold V; simp only [hostOps0, hostOps0_1, hostOps0_2, List.flatten_cons, List.flatten_nil, List.append_nil, List.cons_append, List.nil_append]
  after_results_simp <;> rfl
/-- The keys' columns, each head written twice. -/
theorem V_wk (c : Dev nD) : (V m c main_v23 : S1024x512.Idx → EReal) = doubled (extractStridedSlice S1024x256 ![0, 4096] (mat (argW m c)) slices_S1024x7240_S1024x256_0_4096) := by
  unfold V; simp only [hostOps0, hostOps0_1, hostOps0_2, List.flatten_cons, List.flatten_nil, List.append_nil, List.cons_append, List.nil_append]
  after_results_simp <;> rfl
/-- The values' columns, each head written twice. -/
theorem V_wv (c : Dev nD) : (V m c main_v27 : S1024x512.Idx → EReal) = doubled (extractStridedSlice S1024x256 ![0, 4352] (mat (argW m c)) slices_S1024x7240_S1024x256_0_4352) := by
  unfold V; simp only [hostOps0, hostOps0_1, hostOps0_2, List.flatten_cons, List.flatten_nil, List.append_nil, List.cons_append, List.nil_append]
  after_results_simp <;> rfl
/-- The index queries' columns. -/
theorem V_wi (c : Dev nD) : (V m c main_v28 : S1024x512.Idx → EReal) = extractStridedSlice S1024x512 ![0, 4608] (mat (argW m c)) slices_S1024x7240_S1024x512_0_4608 := by
  unfold V; simp only [hostOps0, hostOps0_1, hostOps0_2, List.flatten_cons, List.flatten_nil, List.append_nil, List.cons_append, List.nil_append]
  after_results_simp <;> rfl
/-- The index keys' columns twice, then the mixed columns. -/
theorem V_wm (c : Dev nD) : (V m c main_v30 : S1024x256.Idx → EReal)
    = concatenate S1024x256 1 [⟨S1024x64, keyCols (argW m c)⟩, ⟨S1024x64, keyCols (argW m c)⟩, ⟨S1024x128, mixCols (argW m c)⟩] concatenates_S1024x64_S1024x64_S1024x128_S1024x256_d1 := by
  unfold V; simp only [hostOps0, hostOps0_1, hostOps0_2, List.flatten_cons, List.flatten_nil, List.append_nil, List.cons_append, List.nil_append]
  after_results_simp <;> rfl
/-- The convolution taps of the layer. -/
theorem V_c (c : Dev nD) : (V m c main_v32 : S3x1024.Idx → EReal)
    = shapeCast S3x1024 (extractStridedSlice S1x3x1024 ![0, 0, 0] (argC m c) slices_S2x3x1024_S1x3x1024_0_0_0) shapeCasts_S1x3x1024_S3x1024 := by
  unfold V; simp only [hostOps0, hostOps0_1, hostOps0_2, List.flatten_cons, List.flatten_nil, List.append_nil, List.cons_append, List.nil_append]
  after_results_simp <;> rfl

/-! ## Their elements -/

/-- An element of the layer's matrix. -/
theorem mat_apply (W : S2x1024x7240.Idx → EReal) (k : Fin 1024) (n : Fin 7240) : mat W (ix2 k n) = W (ix3 0 k n) :=
  member_apply 0 W slices_S2x1024x7240_S1x1024x7240_0_0_0 shapeCasts_S1x1024x7240_S1024x7240 k n

/-- An element of columns cut out of a matrix from column `o`. -/
theorem cut_apply {A N n : ℕ} {α : Type} (o : ℕ) (v : (⟨2, ![A, N]⟩ : Shape).Idx → α) (hs : (⟨2, ![A, N]⟩ : Shape).Slices ![0, o] ⟨2, ![A, n]⟩) (k : Fin A) (j : Fin n) (j' : Fin N) (hj : j'.val = o + j.val) :
    extractStridedSlice ⟨2, ![A, n]⟩ ![0, o] v hs (ix2 k j) = v (ix2 k j') :=
  extractStridedSlice_apply _ v hs _ _ fun a => by
    match a with
    | ⟨0, _⟩ => show k.val = 0 + k.val; omega
    | ⟨1, _⟩ => exact hj

/-- An element of columns of the layer's matrix. -/
theorem cols_apply {n : ℕ} (o : ℕ) (h : o + n ≤ 7240) (W : S2x1024x7240.Idx → EReal) (hs : (⟨2, ![1024, 7240]⟩ : Shape).Slices ![0, o] ⟨2, ![1024, n]⟩) (k : Fin 1024) (j : Fin n) :
    extractStridedSlice ⟨2, ![1024, n]⟩ ![0, o] (mat W) hs (ix2 k j) = W (ix3 0 k ⟨o + j.val, by omega⟩) :=
  (cut_apply o (mat W) hs k j ⟨o + j.val, by omega⟩ rfl).trans (mat_apply W k _)

/-- An element of matrices set side by side, in the one that starts at column `pre`. -/
theorem side_apply {A N B : ℕ} {α : Type} (xs : List ((s : Shape) × (s.Idx → α))) (h : Shape.Concatenates (xs.map (·.1)) ⟨2, ![A, N]⟩ 1) (p : ℕ) (hp : p < xs.length)
    (x : (⟨2, ![A, B]⟩ : Shape).Idx → α) (hx : xs[p] = ⟨⟨2, ![A, B]⟩, x⟩) (pre : ℕ)
    (hpre : (((xs.take p).map (·.1)).map fun s => if h : s.rank = (⟨2, ![A, N]⟩ : Shape).rank then s.size ((1 : Fin 2).cast h.symm) else 0).sum = pre)
    (k : Fin A) (n : Fin N) (j : Fin B) (hn : pre + j.val = n.val) : concatenate ⟨2, ![A, N]⟩ 1 xs h (ix2 k n) = x (ix2 k j) :=
  concatenate_apply_piece 1 xs h (ix2 k n) p hp _ x hx rfl pre hpre (ix2 k j) (fun b hb => by
    match b with
    | ⟨0, _⟩ => rfl
    | ⟨1, _⟩ => exact absurd rfl hb) hn

/-- An element of the doubled heads. -/
theorem doubled_apply (v : S1024x256.Idx → EReal) (k : Fin 1024) (j : Fin 512) : doubled v (ix2 k j) = v (ix2 k (twice j)) := by
  have hc : ∀ (h : Fin 4) (d : Fin 64), shapeCast S1024x4x64 v shapeCasts_S1024x256_S1024x4x64 (ix3 k h d) = v (ix2 k ⟨h.val * 64 + d.val, by omega⟩) := fun h d => by
    refine shapeCast_apply v _ _ _ ?_
    rw [Shape.rowMajor_val_two, Shape.rowMajor_val_three]
    show k.val * 256 + (h.val * 64 + d.val) = (k.val * 4 + h.val) * 64 + d.val
    omega
  refine (shapeCast_apply _ shapeCasts_S1024x4x128_S1024x512 _ (ix3 k (⟨j.val / 128, by omega⟩ : Fin 4) (⟨j.val % 128, by omega⟩ : Fin 128)) ?_).trans ?_
  · rw [Shape.rowMajor_val_two, Shape.rowMajor_val_three]
    show (k.val * 4 + j.val / 128) * 128 + j.val % 128 = k.val * 512 + j.val
    omega
  · by_cases hj : j.val % 128 < 64
    · refine (concatenate_pair_apply_left (t := S1024x4x128) (s₁ := S1024x4x64) (s₂ := S1024x4x64) (2 : Fin 3) _ _ _ _ rfl (ix3 k (⟨j.val / 128, by omega⟩ : Fin 4) (⟨j.val % 128, hj⟩ : Fin 64)) fun b => ?_).trans ((hc _ _).trans (congrArg (fun n => v (ix2 k n)) (Fin.ext ?_)))
      · match b with
        | ⟨0, _⟩ => rfl
        | ⟨1, _⟩ => rfl
        | ⟨2, _⟩ => rfl
      · show j.val / 128 * 64 + j.val % 128 = j.val / 128 * 64 + j.val % 64
        omega
    · refine (concatenate_pair_apply_right (t := S1024x4x128) (s₁ := S1024x4x64) (s₂ := S1024x4x64) (2 : Fin 3) _ _ _ _ rfl rfl (ix3 k (⟨j.val / 128, by omega⟩ : Fin 4) (⟨j.val % 128 - 64, by omega⟩ : Fin 64)) (fun b hb => ?_) ?_).trans ((hc _ _).trans (congrArg (fun n => v (ix2 k n)) (Fin.ext ?_)))
      · match b with
        | ⟨0, _⟩ => rfl
        | ⟨1, _⟩ => rfl
        | ⟨2, _⟩ => exact absurd rfl hb
      · show j.val % 128 - 64 + 64 = j.val % 128
        omega
      · show j.val / 128 * 64 + (j.val % 128 - 64) = j.val / 128 * 64 + j.val % 64
        omega

end Cert.InProjIdeal.Rows

end
-- ==== Proof.InProjChunks.lean ====
module

public import proofs.«01_k».proof.Proof.InProjPay
public import Idealize.ShloMosaic.Lib.Writes

/-!
The scratch of the input projection at one grid point. Rows 0 to 7 hold the eight rows before the block and rows 8 to 519
the block's own rows that enter the convolution; the point stores them in four chunks of 256 columns and reads each chunk
back one and two rows earlier. Every store agrees with one function of the scratch's index, `ext`.
-/

@[expose] public section

set_option maxRecDepth 16384

noncomputable section

namespace Cert.InProjIdeal.Rows

open Cert.InProjIdeal Cert.InProjIdeal.Gen Cert.Rows Idealize.ShloMosaic Idealize.ShloMosaic.TcCoe Idealize.ShloMosaic.ValueIdx Idealize.SL.Sem

section Block

variable (x : Vec Ideal S1x512x1024 .f32) (wa : Vec Ideal S1024x4096 .bf16)

/-- The row that enters the convolution, out of the block's products. -/
def ublk (r : Fin 512) (j : Fin 1024) : EReal := dotAt x wa r ⟨1024 + j.val, by omega⟩ * dotAt x wa r ⟨2048 + j.val, by omega⟩

/-- The scratch: eight rows before the block, then the block's own rows. -/
def ext (before : Fin 8 → Fin 1024 → EReal) : S520x1024.Idx → EReal := fun i =>
  if h : (i 0).val < 8 then before ⟨(i 0).val, h⟩ (i 1) else ublk x wa ⟨(i 0).val - 8, by have : (i 0).val < 520 := (i 0).isLt; omega⟩ (i 1)

/-- The scratch in the block's own rows. -/
theorem ext_own (before : Fin 8 → Fin 1024 → EReal) (s : Fin 520) (r : Fin 512) (hs : s.val = 8 + r.val) (j : Fin 1024) : ext x wa before (ix2 s j) = ublk x wa r j := by
  unfold ext
  refine (dif_neg (show ¬ s.val < 8 by omega)).trans ?_
  exact congrArg (fun r => ublk x wa r j) (Fin.ext (show s.val - 8 = r.val by omega))

/-- The scratch in the rows before the block. -/
theorem ext_before (before : Fin 8 → Fin 1024 → EReal) (s : Fin 520) (r : Fin 8) (hs : s.val = r.val) (j : Fin 1024) : ext x wa before (ix2 s j) = before r j := by
  unfold ext
  refine (dif_pos (show s.val < 8 by omega)).trans ?_
  exact congrArg (fun r => before r j) (Fin.ext hs)

/-- The product of a row with columns of the first operand, cut out from column `o`. -/
theorem dotAt_cols (o : ℕ) (inb : ∀ a, ![0, o] a + S1024x256.size a ≤ S1024x4096.size a) (r : Fin 512) (j : Fin 256) (n : Fin 4096) (hn : n.val = o + j.val) :
    dotAt x (n := 256) (View.ld (Val := Elt Ideal) (S := S1024x4096) (e' := .bf16) wa (Rect.unit (s := S1024x4096) ![0, o] S1024x256.size inb)) r j = dotAt x wa r n := by
  unfold dotAt rowDot
  refine Finset.sum_congr rfl fun k _ => congrArg (x (ix3 0 r k) * ·) (congrArg wa (funext fun a => Fin.ext ?_))
  match a with
  | ⟨0, _⟩ => show 0 + 1 * k.val = k.val; omega
  | ⟨1, _⟩ => show o + 1 * j.val = n.val; omega

/-- All the pieces of a list of stores agree with `U`. -/
abbrev Agree (U : S520x1024.Idx → EReal) (L : List (View.Piece (Elt Ideal) S520x1024 .f32)) : Prop := ∀ p ∈ L, ∀ y : p.1.shape.Idx, p.2 y = U (p.1.emb y)

/-- One more piece that agrees. -/
theorem agree_cons {U : S520x1024.Idx → EReal} {p : View.Piece (Elt Ideal) S520x1024 .f32} {L : List (View.Piece (Elt Ideal) S520x1024 .f32)}
    (h : ∀ y : p.1.shape.Idx, p.2 y = U (p.1.emb y)) (hL : Agree U L) : Agree U (p :: L) := fun q hq => by
  rcases List.mem_cons.mp hq with rfl | hq
  · exact h
  · exact hL q hq

/-- A chunk of the block's own rows, stored from row 8 and column `o`, agrees with the scratch. -/
theorem agree_chunk (before : Fin 8 → Fin 1024 → EReal) (o : ℕ) (ho : o + 256 ≤ 1024) (inb : ∀ a, ![8, o] a + S512x256.size a ≤ S520x1024.size a)
    (v : S512x256.Idx → EReal) (hv : ∀ (r : Fin 512) (j : Fin 256), v (ix2 r j) = ublk x wa r ⟨o + j.val, by omega⟩) (y : S512x256.Idx) :
    v y = ext x wa before ((Rect.unit (s := S520x1024) ![8, o] S512x256.size inb).emb y) := by
  obtain ⟨r, j, rfl⟩ : ∃ (r : Fin 512) (j : Fin 256), y = ix2 r j := ⟨y 0, y 1, eq_ix2 y⟩
  refine (hv r j).trans ((ext_own x wa before ⟨8 + r.val, by omega⟩ r rfl ⟨o + j.val, by omega⟩).symm.trans (congrArg (ext x wa before) (funext fun a => Fin.ext ?_)))
  match a with
  | ⟨0, _⟩ => show 8 + r.val = 8 + 1 * r.val; omega
  | ⟨1, _⟩ => show o + j.val = o + 1 * j.val; omega

/-- The elements of the chunk stored from column `o`. -/
theorem mem_chunk (o : ℕ) (inb : ∀ a, ![8, o] a + S512x256.size a ≤ S520x1024.size a) (s : Fin 520) (j : Fin 1024) (hs : 8 ≤ s.val) (hj : o ≤ j.val ∧ j.val < o + 256) :
    (ix2 s j : S520x1024.Idx) ∈ (Rect.unit (s := S520x1024) ![8, o] S512x256.size inb).set := by
  rw [Rect.mem_set_unit]
  intro a
  match a with
  | ⟨0, _⟩ => exact ⟨hs, show s.val < 8 + 512 by omega⟩
  | ⟨1, _⟩ => exact hj

/-- The stores into the scratch up to the chunk from column 0, after the stores `T`. -/
def stores0 (T : List (View.Piece (Elt Ideal) S520x1024 .f32)) : List (View.Piece (Elt Ideal) S520x1024 .f32) :=
  ⟨Rect.unit (s := S520x1024) ![8, 0] S512x256.size inb_S520x1024_S512x256_8_0, k0_pay12 (F := Ideal) x (View.ld wa (Rect.unit (s := S1024x4096) ![0, 1024] S1024x256.size inb_S1024x4096_S1024x256_0_1024)) (View.ld wa (Rect.unit (s := S1024x4096) ![0, 2048] S1024x256.size inb_S1024x4096_S1024x256_0_2048))⟩ :: T

/-- They agree with the scratch. -/
theorem agree0 (before : Fin 8 → Fin 1024 → EReal) (T : List (View.Piece (Elt Ideal) S520x1024 .f32)) (hT : Agree (ext x wa before) T) : Agree (ext x wa before) (stores0 x wa T) :=
  agree_cons (agree_chunk x wa before 0 (by omega) inb_S520x1024_S512x256_8_0 _ fun r j => (pay12_apply x _ _ r j).trans
    (congrArg₂ (· * ·) (dotAt_cols x wa 1024 inb_S1024x4096_S1024x256_0_1024 r j _ (by show 1024 + (0 + j.val) = 1024 + j.val; omega)) (dotAt_cols x wa 2048 inb_S1024x4096_S1024x256_0_2048 r j _ (by show 2048 + (0 + j.val) = 2048 + j.val; omega))))
    hT

/-- They cover their chunk. -/
theorem own0 (T : List (View.Piece (Elt Ideal) S520x1024 .f32)) (s : Fin 520) (j : Fin 1024) (hs : 8 ≤ s.val) (hj : 0 ≤ j.val ∧ j.val < 256) : ∃ p ∈ stores0 x wa T, ix2 s j ∈ p.1.set :=
  ⟨_, List.mem_cons_self, mem_chunk 0 inb_S520x1024_S512x256_8_0 s j hs hj⟩

/-- The stores into the scratch up to the chunk from column 256, after the stores `T`. -/
def stores1 (T : List (View.Piece (Elt Ideal) S520x1024 .f32)) : List (View.Piece (Elt Ideal) S520x1024 .f32) :=
  ⟨Rect.unit (s := S520x1024) ![8, 256] S512x256.size inb_S520x1024_S512x256_8_256, k0_pay18 (F := Ideal) (k0_pay8 (F := Ideal) x) (View.ld wa (Rect.unit (s := S1024x4096) ![0, 1280] S1024x256.size inb_S1024x4096_S1024x256_0_1280)) (View.ld wa (Rect.unit (s := S1024x4096) ![0, 2304] S1024x256.size inb_S1024x4096_S1024x256_0_2304))⟩ :: stores0 x wa T

/-- They agree with the scratch. -/
theorem agree1 (before : Fin 8 → Fin 1024 → EReal) (T : List (View.Piece (Elt Ideal) S520x1024 .f32)) (hT : Agree (ext x wa before) T) : Agree (ext x wa before) (stores1 x wa T) :=
  agree_cons (agree_chunk x wa before 256 (by omega) inb_S520x1024_S512x256_8_256 _ fun r j => (pay12_apply x _ _ r j).trans
    (congrArg₂ (· * ·) (dotAt_cols x wa 1280 inb_S1024x4096_S1024x256_0_1280 r j _ (by show 1024 + (256 + j.val) = 1280 + j.val; omega)) (dotAt_cols x wa 2304 inb_S1024x4096_S1024x256_0_2304 r j _ (by show 2048 + (256 + j.val) = 2304 + j.val; omega))))
    (agree0 x wa before T hT)

/-- They cover their chunk. -/
theorem own1 (T : List (View.Piece (Elt Ideal) S520x1024 .f32)) (s : Fin 520) (j : Fin 1024) (hs : 8 ≤ s.val) (hj : 256 ≤ j.val ∧ j.val < 512) : ∃ p ∈ stores1 x wa T, ix2 s j ∈ p.1.set :=
  ⟨_, List.mem_cons_self, mem_chunk 256 inb_S520x1024_S512x256_8_256 s j hs hj⟩

/-- The stores into the scratch up to the chunk from column 512, after the stores `T`. -/
def stores2 (T : List (View.Piece (Elt Ideal) S520x1024 .f32)) : List (View.Piece (Elt Ideal) S520x1024 .f32) :=
  ⟨Rect.unit (s := S520x1024) ![8, 512] S512x256.size inb_S520x1024_S512x256_8_512, k0_pay23 (F := Ideal) (k0_pay8 (F := Ideal) x) (View.ld wa (Rect.unit (s := S1024x4096) ![0, 1536] S1024x256.size inb_S1024x4096_S1024x256_0_1536)) (View.ld wa (Rect.unit (s := S1024x4096) ![0, 2560] S1024x256.size inb_S1024x4096_S1024x256_0_2560))⟩ :: stores1 x wa T

/-- They agree with the scratch. -/
theorem agree2 (before : Fin 8 → Fin 1024 → EReal) (T : List (View.Piece (Elt Ideal) S520x1024 .f32)) (hT : Agree (ext x wa before) T) : Agree (ext x wa before) (stores2 x wa T) :=
  agree_cons (agree_chunk x wa before 512 (by omega) inb_S520x1024_S512x256_8_512 _ fun r j => (pay12_apply x _ _ r j).trans
    (congrArg₂ (· * ·) (dotAt_cols x wa 1536 inb_S1024x4096_S1024x256_0_1536 r j _ (by show 1024 + (512 + j.val) = 1536 + j.val; omega)) (dotAt_cols x wa 2560 inb_S1024x4096_S1024x256_0_2560 r j _ (by show 2048 + (512 + j.val) = 2560 + j.val; omega))))
    (agree1 x wa before T hT)

/-- They cover their chunk. -/
theorem own2 (T : List (View.Piece (Elt Ideal) S520x1024 .f32)) (s : Fin 520) (j : Fin 1024) (hs : 8 ≤ s.val) (hj : 512 ≤ j.val ∧ j.val < 768) : ∃ p ∈ stores2 x wa T, ix2 s j ∈ p.1.set :=
  ⟨_, List.mem_cons_self, mem_chunk 512 inb_S520x1024_S512x256_8_512 s j hs hj⟩

/-- The stores into the scratch up to the chunk from column 768, after the stores `T`. -/
def stores3 (T : List (View.Piece (Elt Ideal) S520x1024 .f32)) : List (View.Piece (Elt Ideal) S520x1024 .f32) :=
  ⟨Rect.unit (s := S520x1024) ![8, 768] S512x256.size inb_S520x1024_S512x256_8_768, k0_pay28 (F := Ideal) (k0_pay27 (F := Ideal) (k0_pay8 (F := Ideal) x) (View.ld wa (Rect.unit (s := S1024x4096) ![0, 1792] S1024x256.size inb_S1024x4096_S1024x256_0_1792)) (View.ld wa (Rect.unit (s := S1024x4096) ![0, 2816] S1024x256.size inb_S1024x4096_S1024x256_0_2816)))⟩ :: stores2 x wa T

/-- They agree with the scratch. -/
theorem agree3 (before : Fin 8 → Fin 1024 → EReal) (T : List (View.Piece (Elt Ideal) S520x1024 .f32)) (hT : Agree (ext x wa before) T) : Agree (ext x wa before) (stores3 x wa T) :=
  agree_cons (agree_chunk x wa before 768 (by omega) inb_S520x1024_S512x256_8_768 _ fun r j => (pay12_apply x _ _ r j).trans
    (congrArg₂ (· * ·) (dotAt_cols x wa 1792 inb_S1024x4096_S1024x256_0_1792 r j _ (by show 1024 + (768 + j.val) = 1792 + j.val; omega)) (dotAt_cols x wa 2816 inb_S1024x4096_S1024x256_0_2816 r j _ (by show 2048 + (768 + j.val) = 2816 + j.val; omega))))
    (agree2 x wa before T hT)

/-- They cover their chunk. -/
theorem own3 (T : List (View.Piece (Elt Ideal) S520x1024 .f32)) (s : Fin 520) (j : Fin 1024) (hs : 8 ≤ s.val) (hj : 768 ≤ j.val ∧ j.val < 1024) : ∃ p ∈ stores3 x wa T, ix2 s j ∈ p.1.set :=
  ⟨_, List.mem_cons_self, mem_chunk 768 inb_S520x1024_S512x256_8_768 s j hs hj⟩

/-- All four chunks cover the block's own rows. -/
theorem own_all (T : List (View.Piece (Elt Ideal) S520x1024 .f32)) (s : Fin 520) (j : Fin 1024) (hs : 8 ≤ s.val) : ∃ p ∈ stores3 x wa T, ix2 s j ∈ p.1.set := by
  rcases (show (768 ≤ j.val ∧ j.val < 1024) ∨ (512 ≤ j.val ∧ j.val < 768) ∨ (256 ≤ j.val ∧ j.val < 512) ∨ (0 ≤ j.val ∧ j.val < 256) by omega) with h | h | h | h
  · exact own3 x wa T s j hs h
  · obtain ⟨p, hp, hy⟩ := own2 x wa T s j hs h; exact ⟨p, List.mem_cons_of_mem _ hp, hy⟩
  · obtain ⟨p, hp, hy⟩ := own1 x wa T s j hs h; exact ⟨p, List.mem_cons_of_mem _ (List.mem_cons_of_mem _ hp), hy⟩
  · obtain ⟨p, hp, hy⟩ := own0 x wa T s j hs h; exact ⟨p, List.mem_cons_of_mem _ (List.mem_cons_of_mem _ (List.mem_cons_of_mem _ hp)), hy⟩

/-- The gated convolution of a block, out of its products, its scratch and the taps. -/
def convBlk (U : S520x1024.Idx → EReal) (cw : Vec Ideal S3x1024 .f32) : S1x512x1024.Idx → EReal := fun i =>
  gateConv (dotAt x wa (i 1) ⟨(i 2).val, by have : (i 2).val < 1024 := (i 2).isLt; omega⟩) (dotAt x wa (i 1) ⟨3072 + (i 2).val, by have : (i 2).val < 1024 := (i 2).isLt; omega⟩)
    (U (ix2 ⟨6 + (i 1).val, by have : (i 1).val < 512 := (i 1).isLt; omega⟩ (i 2))) (U (ix2 ⟨7 + (i 1).val, by have : (i 1).val < 512 := (i 1).isLt; omega⟩ (i 2)))
    (ublk x wa (i 1) (i 2)) (cw (ix2 0 (i 2))) (cw (ix2 1 (i 2))) (cw (ix2 2 (i 2)))

/-- One tap's 256 columns from column `o`. -/
theorem tap_cols (cw : Vec Ideal S3x1024 .f32) (l : Fin 3) (o : ℕ) (inb : ∀ a, ![l.val, o] a + S1x256.size a ≤ S3x1024.size a) (j : Fin 256) (n : Fin 1024) (hn : n.val = o + j.val) :
    View.ld (Val := Elt Ideal) (S := S3x1024) (e' := .f32) cw (Rect.unit (s := S3x1024) ![l.val, o] S1x256.size inb) (ix2 0 j) = cw (ix2 l n) := by
  refine congrArg cw (funext fun a => Fin.ext ?_)
  match a with
  | ⟨0, _⟩ => show l.val + 1 * 0 = l.val; omega
  | ⟨1, _⟩ => show o + 1 * j.val = n.val; omega

/-- A chunk of the convolution from column `o`, stored at that column of the output block, agrees with the convolution of the block. -/
theorem agree_conv (U : S520x1024.Idx → EReal) (cw : Vec Ideal S3x1024 .f32) (o : ℕ) (ho : o + 256 ≤ 1024) (inb : ∀ a, ![0, 0, o] a + S1x512x256.size a ≤ S1x512x1024.size a)
    (v : S1x512x256.Idx → EReal) (bg ga u u1 u2 : FVec Ideal S512x256 .f32) (c0 c1 c2 : FVec Ideal S1x256 .f32)
    (hv : ∀ (r : Fin 512) (j : Fin 256), v (ix3 0 r j)
      = gateConv (bg (ix2 r j)) (ga (ix2 r j)) (u2 (ix2 r j)) (u1 (ix2 r j)) (u (ix2 r j)) (c0 (ix2 0 j)) (c1 (ix2 0 j)) (c2 (ix2 0 j)))
    (hbg : ∀ (r : Fin 512) (j : Fin 256) (n : Fin 4096), n.val = o + j.val → bg (ix2 r j) = dotAt x wa r n)
    (hga : ∀ (r : Fin 512) (j : Fin 256) (n : Fin 4096), n.val = 3072 + o + j.val → ga (ix2 r j) = dotAt x wa r n)
    (hu : ∀ (r : Fin 512) (j : Fin 256), u (ix2 r j) = ublk x wa r ⟨o + j.val, by omega⟩)
    (hu1 : ∀ (r : Fin 512) (j : Fin 256), u1 (ix2 r j) = U (ix2 ⟨7 + r.val, by omega⟩ ⟨o + j.val, by omega⟩))
    (hu2 : ∀ (r : Fin 512) (j : Fin 256), u2 (ix2 r j) = U (ix2 ⟨6 + r.val, by omega⟩ ⟨o + j.val, by omega⟩))
    (h0 : ∀ (j : Fin 256) (n : Fin 1024), n.val = o + j.val → c0 (ix2 0 j) = cw (ix2 0 n))
    (h1 : ∀ (j : Fin 256) (n : Fin 1024), n.val = o + j.val → c1 (ix2 0 j) = cw (ix2 1 n))
    (h2 : ∀ (j : Fin 256) (n : Fin 1024), n.val = o + j.val → c2 (ix2 0 j) = cw (ix2 2 n)) (y : S1x512x256.Idx) :
    v y = convBlk x wa U cw ((Rect.unit (s := S1x512x1024) ![0, 0, o] S1x512x256.size inb).emb y) := by
  obtain ⟨r, j, rfl⟩ : ∃ (r : Fin 512) (j : Fin 256), y = ix3 0 r j := ⟨y 1, y 2, eq_ix3_zero y⟩
  have e : ((Rect.unit (s := S1x512x1024) ![0, 0, o] S1x512x256.size inb).emb (ix3 0 r j) : S1x512x1024.Idx) = ix3 0 r ⟨o + j.val, by omega⟩ := funext fun a => Fin.ext (by
    match a with
    | ⟨0, _⟩ => rfl
    | ⟨1, _⟩ => show 0 + 1 * r.val = r.val; omega
    | ⟨2, _⟩ => show o + 1 * j.val = o + j.val; omega)
  rw [e, hv, hbg r j ⟨o + j.val, by omega⟩ rfl, hga r j ⟨3072 + (o + j.val), by omega⟩ (by show 3072 + (o + j.val) = _; omega), hu, hu1, hu2,
    h0 j ⟨o + j.val, by omega⟩ rfl, h1 j ⟨o + j.val, by omega⟩ rfl, h2 j ⟨o + j.val, by omega⟩ rfl]
  rfl

/-- The eight rows before the block, as a grid point that starts a sequence stores them. -/
def beforePiece (q : Vec Ideal S1x8x1024 .f32) : View.Piece (Elt Ideal) S520x1024 .f32 :=
  ⟨Rect.unit (s := S520x1024) ![0, 0] S8x1024.size inb_S520x1024_S8x1024_0_0, k0_pay7 (F := Ideal) q⟩

/-- That store agrees with the scratch. -/
theorem agree_before (q : Vec Ideal S1x8x1024 .f32) : Agree (ext x wa fun r j => q (ix3 0 r j)) [beforePiece q] := by
  refine agree_cons (fun y => ?_) fun p hp => absurd hp List.not_mem_nil
  obtain ⟨r, j, rfl⟩ : ∃ (r : Fin 8) (j : Fin 1024), y = ix2 r j := ⟨y 0, y 1, eq_ix2 y⟩
  have e := ext_before x wa (fun r j => q (ix3 0 r j)) ⟨r.val, by omega⟩ r rfl j
  refine (pay7_apply q r j).trans (e.symm.trans (congrArg (ext x wa fun r j => q (ix3 0 r j)) (funext fun a => Fin.ext ?_)))
  match a with
  | ⟨0, _⟩ => show r.val = 0 + 1 * r.val; omega
  | ⟨1, _⟩ => show j.val = 0 + 1 * j.val; omega

/-- The elements of that store. -/
theorem mem_before (q : Vec Ideal S1x8x1024 .f32) (s : Fin 520) (j : Fin 1024) (hs : s.val < 8) : (ix2 s j : S520x1024.Idx) ∈ (beforePiece q).1.set := by
  unfold beforePiece
  rw [Rect.mem_set_unit]
  intro a
  match a with
  | ⟨0, _⟩ => exact ⟨Nat.zero_le _, show s.val < 0 + 8 by omega⟩
  | ⟨1, _⟩ => exact ⟨Nat.zero_le _, show j.val < 0 + 1024 by omega⟩

/-- At a point that starts a sequence the stores up to the chunk from column 0 cover that chunk's columns of the whole scratch. -/
theorem whole0 (q : Vec Ideal S1x8x1024 .f32) (s : Fin 520) (j : Fin 1024) (hj : 0 ≤ j.val ∧ j.val < 256) : ∃ p ∈ stores0 x wa [beforePiece q], ix2 s j ∈ p.1.set := by
  by_cases hs : s.val < 8
  · exact ⟨beforePiece q, (List.mem_cons_of_mem _ List.mem_cons_self), mem_before q s j hs⟩
  · exact own0 x wa _ s j (by omega) hj

/-- At a point that starts a sequence the stores up to the chunk from column 256 cover that chunk's columns of the whole scratch. -/
theorem whole1 (q : Vec Ideal S1x8x1024 .f32) (s : Fin 520) (j : Fin 1024) (hj : 256 ≤ j.val ∧ j.val < 512) : ∃ p ∈ stores1 x wa [beforePiece q], ix2 s j ∈ p.1.set := by
  by_cases hs : s.val < 8
  · exact ⟨beforePiece q, (List.mem_cons_of_mem _ (List.mem_cons_of_mem _ List.mem_cons_self)), mem_before q s j hs⟩
  · exact own1 x wa _ s j (by omega) hj

/-- At a point that starts a sequence the stores up to the chunk from column 512 cover that chunk's columns of the whole scratch. -/
theorem whole2 (q : Vec Ideal S1x8x1024 .f32) (s : Fin 520) (j : Fin 1024) (hj : 512 ≤ j.val ∧ j.val < 768) : ∃ p ∈ stores2 x wa [beforePiece q], ix2 s j ∈ p.1.set := by
  by_cases hs : s.val < 8
  · exact ⟨beforePiece q, (List.mem_cons_of_mem _ (List.mem_cons_of_mem _ (List.mem_cons_of_mem _ List.mem_cons_self))), mem_before q s j hs⟩
  · exact own2 x wa _ s j (by omega) hj

/-- At a point that starts a sequence the stores up to the chunk from column 768 cover that chunk's columns of the whole scratch. -/
theorem whole3 (q : Vec Ideal S1x8x1024 .f32) (s : Fin 520) (j : Fin 1024) (hj : 768 ≤ j.val ∧ j.val < 1024) : ∃ p ∈ stores3 x wa [beforePiece q], ix2 s j ∈ p.1.set := by
  by_cases hs : s.val < 8
  · exact ⟨beforePiece q, (List.mem_cons_of_mem _ (List.mem_cons_of_mem _ (List.mem_cons_of_mem _ (List.mem_cons_of_mem _ List.mem_cons_self)))), mem_before q s j hs⟩
  · exact own3 x wa _ s j (by omega) hj

/-- A chunk read back at rows from `s` and columns from `o`, where the stores cover it. -/
theorem load_cov {U : S520x1024.Idx → EReal} (v : View sig .tc .vmem S520x1024 .f32) (L : List (View.Piece (Elt Ideal) S520x1024 .f32)) (hL : Agree U L) (s o : ℕ)
    (inb : ∀ a, ![s, o] a + S512x256.size a ≤ S520x1024.size a) (hs : s + 512 ≤ 520) (ho : o + 256 ≤ 1024)
    (hc : ∀ (r : Fin 520) (j : Fin 1024), o ≤ j.val ∧ j.val < o + 256 → ∃ p ∈ L, ix2 r j ∈ p.1.set) (r : Fin 512) (j : Fin 256) :
    v.readCov L (Rect.unit (s := S520x1024) ![s, o] S512x256.size inb).toLoadRect (ix2 r j) = U (ix2 ⟨s + r.val, by omega⟩ ⟨o + j.val, by omega⟩) := by
  rw [View.readCov_eq_canon']
  have e : (Rect.unit (s := S520x1024) ![s, o] S512x256.size inb).toLoadRect.idx (ix2 r j) = ix2 ⟨s + r.val, by omega⟩ ⟨o + j.val, by omega⟩ := funext fun a => Fin.ext (by
    match a with
    | ⟨0, _⟩ => show s + 1 * r.val = s + r.val; omega
    | ⟨1, _⟩ => show o + 1 * j.val = o + j.val; omega)
  show View.canon L ((Rect.unit (s := S520x1024) ![s, o] S512x256.size inb).toLoadRect.idx (ix2 r j)) = _
  rw [e]
  exact View.canon_apply_of_pieces U L hL _ (hc ⟨s + r.val, by omega⟩ ⟨o + j.val, by omega⟩ ⟨Nat.le_add_right _ _, show o + j.val < o + 256 by omega⟩)

/-- A chunk read back over what the point before left, where the scratch agrees with it in the rows before the block. -/
theorem load_over {U : S520x1024.Idx → EReal} (v : Memref sig .tc .vmem S520x1024 .f32) (hv : v.IsWhole) (c : Vec Ideal S520x1024 .f32)
    (hb : ∀ (r : Fin 520) (j : Fin 1024), r.val < 8 → c (ix2 r j) = U (ix2 r j)) (L : List (View.Piece (Elt Ideal) S520x1024 .f32)) (hL : Agree U L) (s o : ℕ)
    (inb : ∀ a, ![s, o] a + S512x256.size a ≤ S520x1024.size a) (hs : s + 512 ≤ 520) (ho : o + 256 ≤ 1024)
    (hc : ∀ (r : Fin 520) (j : Fin 1024), 8 ≤ r.val → o ≤ j.val ∧ j.val < o + 256 → ∃ p ∈ L, ix2 r j ∈ p.1.set) (r : Fin 512) (j : Fin 256) :
    View.ld (Val := Elt Ideal) (v.view.read (Elt Ideal) (v.view.writes (Elt Ideal) (hv.unread c) L)) (Rect.unit (s := S520x1024) ![s, o] S512x256.size inb) (ix2 r j)
      = U (ix2 ⟨s + r.val, by omega⟩ ⟨o + j.val, by omega⟩) := by
  have e : (Rect.unit (s := S520x1024) ![s, o] S512x256.size inb).toLoadRect.idx (ix2 r j) = ix2 ⟨s + r.val, by omega⟩ ⟨o + j.val, by omega⟩ := funext fun a => Fin.ext (by
    match a with
    | ⟨0, _⟩ => show s + 1 * r.val = s + r.val; omega
    | ⟨1, _⟩ => show o + 1 * j.val = o + j.val; omega)
  show v.view.read (Elt Ideal) (v.view.writes (Elt Ideal) (hv.unread c) L) ((Rect.unit (s := S520x1024) ![s, o] S512x256.size inb).toLoadRect.idx (ix2 r j)) = _
  rw [e]
  by_cases hy : ∃ p ∈ L, (ix2 ⟨s + r.val, by omega⟩ ⟨o + j.val, by omega⟩ : S520x1024.Idx) ∈ p.1.set
  · rw [View.read_writes_apply_eq_canon _ _ _ _ hy]
    exact View.canon_apply_of_pieces U L hL _ hy
  · rw [View.read_writes_apply_of_forall_not_mem _ _ _ _ fun p hp hm => hy ⟨p, hp, hm⟩, hv.read_unread]
    refine hb _ _ ?_
    by_contra h
    exact hy (hc ⟨s + r.val, by omega⟩ ⟨o + j.val, by omega⟩ (Nat.le_of_not_lt h) ⟨Nat.le_add_right _ _, show o + j.val < o + 256 by omega⟩)

/-- The last eight rows read back. -/
theorem load_tail (before : Fin 8 → Fin 1024 → EReal) (v : View sig .tc .vmem S520x1024 .f32) (T : List (View.Piece (Elt Ideal) S520x1024 .f32)) (hT : Agree (ext x wa before) T)
    (r : Fin 8) (j : Fin 1024) :
    v.readCov (stores3 x wa T) (Rect.unit (s := S520x1024) ![512, 0] S8x1024.size inb_S520x1024_S8x1024_512_0).toLoadRect (ix2 r j) = ublk x wa ⟨504 + r.val, by omega⟩ j := by
  rw [View.readCov_eq_canon']
  have e : (Rect.unit (s := S520x1024) ![512, 0] S8x1024.size inb_S520x1024_S8x1024_512_0).toLoadRect.idx (ix2 r j) = ix2 ⟨512 + r.val, by omega⟩ j := funext fun a => Fin.ext (by
    match a with
    | ⟨0, _⟩ => show 512 + 1 * r.val = 512 + r.val; omega
    | ⟨1, _⟩ => show 0 + 1 * j.val = j.val; omega)
  show View.canon (stores3 x wa T) ((Rect.unit (s := S520x1024) ![512, 0] S8x1024.size inb_S520x1024_S8x1024_512_0).toLoadRect.idx (ix2 r j)) = _
  rw [e, View.canon_apply_of_pieces (ext x wa before) _ (agree3 x wa before T hT) _ (own_all x wa T _ _ (show 8 ≤ 512 + r.val by omega))]
  exact ext_own x wa before _ _ (show 512 + r.val = 8 + (504 + r.val) by omega) j

/-- A store made last is what the elements it touches hold. -/
theorem canon_last {S : Shape} (r : Rect S) (w : r.shape.Idx → EReal) (L : List (View.Piece (Elt Ideal) S .f32)) (x : r.shape.Idx) (y : S.Idx) (h : y = r.emb x) :
    View.canon (Val := Elt Ideal) (e := .f32) (⟨r, w⟩ :: L) y = w x := by
  subst h
  exact View.canon_cons_emb (Val := Elt Ideal) (e := .f32) r w L x

/-- The top eight rows of the scratch. -/
abbrev topRows : Rect S520x1024 := Rect.unit (s := S520x1024) ![0, 0] S8x1024.size inb_S520x1024_S8x1024_0_0

/-- Element `(r, j)` of the top eight rows. -/
theorem top_emb (r : Fin 8) (j : Fin 1024) : (ix2 ⟨r.val, by omega⟩ j : S520x1024.Idx) = topRows.emb (ix2 r j) := funext fun a => Fin.ext (by
    match a with
    | ⟨0, _⟩ => show r.val = 0 + 1 * r.val; omega
    | ⟨1, _⟩ => show j.val = 0 + 1 * j.val; omega)

/-- The store of eight rows at the top of the scratch, made last, is what those rows hold. -/
theorem canon_top (w : topRows.shape.Idx → EReal) (L : List (View.Piece (Elt Ideal) S520x1024 .f32)) (r : Fin 8) (j : Fin 1024) :
    View.canon (Val := Elt Ideal) (s := S520x1024) (e := .f32) (⟨topRows, w⟩ :: L) (ix2 ⟨r.val, by omega⟩ j) = w (ix2 r j) :=
  canon_last topRows w L (ix2 r j) _ (top_emb r j)

end Block

end Cert.InProjIdeal.Rows

end
-- ==== Proof.InProjBlocks.lean ====
module

public import proofs.«01_k».proof.Proof.InProjHost
public import proofs.«01_k».proof.Proof.InProjChunks

/-! The input projection: the blocks its grid points read, as elements of the call's arguments, and their products. -/

@[expose] public section

set_option maxRecDepth 16384

noncomputable section

namespace Cert.InProjIdeal.Rows

open Cert.InProjIdeal Cert.InProjIdeal.Gen Cert.Rows Idealize.ShloMosaic Idealize.ShloMosaic.ValueIdx Idealize.ShloMosaic.TcCoe Idealize.SL.Sem
open scoped BigOperators

variable (m : (ℓ : Loc nD τ sig) → Buf (Elt Ideal) ℓ)

/-- The sequence of a grid point. -/
def seqAt (t : Fin cfg0.N) : Fin 16 := ⟨t.val / 8, by have h : t.val < 128 := t.isLt.trans_eq N_0; omega⟩

/-- The row of the sequence that row `r` of point `t`'s block is. -/
def rowAt (t : Fin cfg0.N) (r : Fin 512) : Fin 4096 := ⟨t.val % 8 * 512 + r.val, by omega⟩

/-- Which block of activations a grid point reads. -/
theorem idx_x : ∀ t : Fin cfg0.N, win0_0.index t 0 = t.val / 8 ∧ win0_0.index t 1 = t.val % 8 ∧ win0_0.index t 2 = 0 :=
  (by decide +kernel : ∀ t : Fin grid0.N, win0_0.index t 0 = t.val / 8 ∧ win0_0.index t 1 = t.val % 8 ∧ win0_0.index t 2 = 0)
/-- Which block of earlier rows a grid point reads. -/
theorem idx_q : ∀ t : Fin cfg0.N, win0_1.index t 0 = t.val / 8 ∧ win0_1.index t 1 = 0 ∧ win0_1.index t 2 = 0 :=
  (by decide +kernel : ∀ t : Fin grid0.N, win0_1.index t 0 = t.val / 8 ∧ win0_1.index t 1 = 0 ∧ win0_1.index t 2 = 0)
/-- Every operand of weights is read whole. -/
theorem idx_whole : ∀ t : Fin cfg0.N, (win0_2.index t 0 = 0 ∧ win0_2.index t 1 = 0) ∧ (win0_3.index t 0 = 0 ∧ win0_3.index t 1 = 0) ∧ (win0_4.index t 0 = 0 ∧ win0_4.index t 1 = 0)
    ∧ (win0_5.index t 0 = 0 ∧ win0_5.index t 1 = 0) ∧ (win0_6.index t 0 = 0 ∧ win0_6.index t 1 = 0) ∧ (win0_7.index t 0 = 0 ∧ win0_7.index t 1 = 0)
    ∧ (win0_8.index t 0 = 0 ∧ win0_8.index t 1 = 0) ∧ (win0_9.index t 0 = 0 ∧ win0_9.index t 1 = 0) :=
  (by decide +kernel : ∀ t : Fin grid0.N, (win0_2.index t 0 = 0 ∧ win0_2.index t 1 = 0) ∧ (win0_3.index t 0 = 0 ∧ win0_3.index t 1 = 0) ∧ (win0_4.index t 0 = 0 ∧ win0_4.index t 1 = 0)
    ∧ (win0_5.index t 0 = 0 ∧ win0_5.index t 1 = 0) ∧ (win0_6.index t 0 = 0 ∧ win0_6.index t 1 = 0) ∧ (win0_7.index t 0 = 0 ∧ win0_7.index t 1 = 0)
    ∧ (win0_8.index t 0 = 0 ∧ win0_8.index t 1 = 0) ∧ (win0_9.index t 0 = 0 ∧ win0_9.index t 1 = 0))

/-- A grid point's activations. -/
theorem blk_x (c : Dev nD) (t : Fin cfg0.N) (r : Fin 512) (k : Fin 1024) : iblk m c 0 t (ix3 0 r k) = argX m c (ix3 (seqAt t) (rowAt t r) k) := by
  refine Eq.trans ?_ (congrFun (V_main_arg0 m c) _)
  refine congrArg (V m c main_arg0) (funext fun a => Fin.ext ?_)
  match a with
  | ⟨0, _⟩ => show win0_0.index t 0 * 1 + 1 * 0 = t.val / 8; rw [(idx_x t).1]; omega
  | ⟨1, _⟩ => show win0_0.index t 1 * 512 + 1 * r.val = t.val % 8 * 512 + r.val; rw [(idx_x t).2.1]; omega
  | ⟨2, _⟩ => show win0_0.index t 2 * 1024 + 1 * k.val = k.val; rw [(idx_x t).2.2]; omega

/-- The two rows before a grid point's sequence are the last of its block of eight. -/
theorem blk_q (c : Dev nD) (t : Fin cfg0.N) (r : Fin 8) (s : Fin 2) (hs : r.val = 6 + s.val) (j : Fin 1024) : iblk m c 1 t (ix3 0 r j) = argQ m c (ix3 (seqAt t) s j) := by
  refine Eq.trans ?_ ((congrFun (V_q m c) (ix3 (seqAt t) r j)).trans (pad_apply_of_inside _ _ _ _ _ _ _ _ (ix3 (seqAt t) s j) fun a => ?_))
  · refine congrArg (V m c main_v0) (funext fun a => Fin.ext ?_)
    match a with
    | ⟨0, _⟩ => show win0_1.index t 0 * 1 + 1 * 0 = t.val / 8; rw [(idx_q t).1]; omega
    | ⟨1, _⟩ => show win0_1.index t 1 * 8 + 1 * r.val = r.val; rw [(idx_q t).2.1]; omega
    | ⟨2, _⟩ => show win0_1.index t 2 * 1024 + 1 * j.val = j.val; rw [(idx_q t).2.2]; omega
  · match a with
    | ⟨0, _⟩ => show (seqAt t).val = 0 + (seqAt t).val * (0 + 1); omega
    | ⟨1, _⟩ => show r.val = 6 + s.val * (0 + 1); omega
    | ⟨2, _⟩ => show j.val = 0 + j.val * (0 + 1); omega

/-- Every grid point has the whole four parts of the convolution. -/
theorem blk_wa (c : Dev nD) (t : Fin cfg0.N) (k : Fin 1024) (j : Fin 4096) : iblk m c 2 t (ix2 k j) = (V m c main_v17 : S1024x4096.Idx → EReal) (ix2 k j) := by
  refine congrArg (V m c main_v17) (funext fun a => Fin.ext ?_)
  match a with
  | ⟨0, _⟩ => show win0_2.index t 0 * 1024 + 1 * k.val = k.val; rw [(idx_whole t).1.1]; omega
  | ⟨1, _⟩ => show win0_2.index t 1 * 4096 + 1 * j.val = j.val; rw [(idx_whole t).1.2]; omega

/-- Every grid point has the whole queries' columns. -/
theorem blk_wq (c : Dev nD) (t : Fin cfg0.N) (k : Fin 1024) (j : Fin 1024) : iblk m c 3 t (ix2 k j) = (V m c main_v18 : S1024x1024.Idx → EReal) (ix2 k j) := by
  refine congrArg (V m c main_v18) (funext fun a => Fin.ext ?_)
  match a with
  | ⟨0, _⟩ => show win0_3.index t 0 * 1024 + 1 * k.val = k.val; rw [(idx_whole t).2.1.1]; omega
  | ⟨1, _⟩ => show win0_3.index t 1 * 1024 + 1 * j.val = j.val; rw [(idx_whole t).2.1.2]; omega

/-- Every grid point has the whole attention gate's columns. -/
theorem blk_wg (c : Dev nD) (t : Fin cfg0.N) (k : Fin 1024) (j : Fin 1024) : iblk m c 4 t (ix2 k j) = (V m c main_v19 : S1024x1024.Idx → EReal) (ix2 k j) := by
  refine congrArg (V m c main_v19) (funext fun a => Fin.ext ?_)
  match a with
  | ⟨0, _⟩ => show win0_4.index t 0 * 1024 + 1 * k.val = k.val; rw [(idx_whole t).2.2.1.1]; omega
  | ⟨1, _⟩ => show win0_4.index t 1 * 1024 + 1 * j.val = j.val; rw [(idx_whole t).2.2.1.2]; omega

/-- Every grid point has the whole keys' columns. -/
theorem blk_wk (c : Dev nD) (t : Fin cfg0.N) (k : Fin 1024) (j : Fin 512) : iblk m c 5 t (ix2 k j) = (V m c main_v23 : S1024x512.Idx → EReal) (ix2 k j) := by
  refine congrArg (V m c main_v23) (funext fun a => Fin.ext ?_)
  match a with
  | ⟨0, _⟩ => show win0_5.index t 0 * 1024 + 1 * k.val = k.val; rw [(idx_whole t).2.2.2.1.1]; omega
  | ⟨1, _⟩ => show win0_5.index t 1 * 512 + 1 * j.val = j.val; rw [(idx_whole t).2.2.2.1.2]; omega

/-- Every grid point has the whole values' columns. -/
theorem blk_wv (c : Dev nD) (t : Fin cfg0.N) (k : Fin 1024) (j : Fin 512) : iblk m c 6 t (ix2 k j) = (V m c main_v27 : S1024x512.Idx → EReal) (ix2 k j) := by
  refine congrArg (V m c main_v27) (funext fun a => Fin.ext ?_)
  match a with
  | ⟨0, _⟩ => show win0_6.index t 0 * 1024 + 1 * k.val = k.val; rw [(idx_whole t).2.2.2.2.1.1]; omega
  | ⟨1, _⟩ => show win0_6.index t 1 * 512 + 1 * j.val = j.val; rw [(idx_whole t).2.2.2.2.1.2]; omega

/-- Every grid point has the whole index queries' columns. -/
theorem blk_wi (c : Dev nD) (t : Fin cfg0.N) (k : Fin 1024) (j : Fin 512) : iblk m c 7 t (ix2 k j) = (V m c main_v28 : S1024x512.Idx → EReal) (ix2 k j) := by
  refine congrArg (V m c main_v28) (funext fun a => Fin.ext ?_)
  match a with
  | ⟨0, _⟩ => show win0_7.index t 0 * 1024 + 1 * k.val = k.val; rw [(idx_whole t).2.2.2.2.2.1.1]; omega
  | ⟨1, _⟩ => show win0_7.index t 1 * 512 + 1 * j.val = j.val; rw [(idx_whole t).2.2.2.2.2.1.2]; omega

/-- Every grid point has the whole index keys' and mixed columns. -/
theorem blk_wm (c : Dev nD) (t : Fin cfg0.N) (k : Fin 1024) (j : Fin 256) : iblk m c 8 t (ix2 k j) = (V m c main_v30 : S1024x256.Idx → EReal) (ix2 k j) := by
  refine congrArg (V m c main_v30) (funext fun a => Fin.ext ?_)
  match a with
  | ⟨0, _⟩ => show win0_8.index t 0 * 1024 + 1 * k.val = k.val; rw [(idx_whole t).2.2.2.2.2.2.1.1]; omega
  | ⟨1, _⟩ => show win0_8.index t 1 * 256 + 1 * j.val = j.val; rw [(idx_whole t).2.2.2.2.2.2.1.2]; omega

/-- Every grid point has the taps of the layer. -/
theorem blk_c (c : Dev nD) (t : Fin cfg0.N) (l : Fin 3) (j : Fin 1024) : iblk m c 9 t (ix2 l j) = argC m c (ix3 0 l j) := by
  refine Eq.trans ?_ ((congrFun (V_c m c) (ix2 l j)).trans (member_apply 0 (argC m c) slices_S2x3x1024_S1x3x1024_0_0_0 shapeCasts_S1x3x1024_S3x1024 l j))
  refine congrArg (V m c main_v32) (funext fun a => Fin.ext ?_)
  match a with
  | ⟨0, _⟩ => show win0_9.index t 0 * 3 + 1 * l.val = l.val; rw [(idx_whole t).2.2.2.2.2.2.2.1]; omega
  | ⟨1, _⟩ => show win0_9.index t 1 * 1024 + 1 * j.val = j.val; rw [(idx_whole t).2.2.2.2.2.2.2.2]; omega

/-! ## Products of a block's rows with columns of the weights -/

/-- If a column of an operand is column `n` of the weights, a block's product with it is the projection's column `n`. -/
theorem dot_proj (c : Dev nD) (t : Fin cfg0.N) {N : ℕ} (w : (⟨2, ![1024, N]⟩ : Shape).Idx → EReal) (col : Fin N) (n : Fin 7240) (hw : ∀ k, w (ix2 k col) = argW m c (ix3 0 k n)) (r : Fin 512) :
    dotAt (iblk m c 0 t) w r col = proj (argX m c) (argW m c) (seqAt t) (rowAt t r) n := by
  unfold dotAt proj rowDot
  exact Finset.sum_congr rfl fun k _ => congrArg₂ (· * ·) (blk_x m c t r k) (hw k)

/-- The first operand's columns from 0: the outer gate. -/
theorem dot_a0 (c : Dev nD) (t : Fin cfg0.N) (r : Fin 512) (col : Fin 4096) (j : Fin 1024) (hj : col.val = 0 + j.val) :
    dotAt (iblk m c 0 t) (iblk m c 2 t) r col = part (argX m c) (argW m c) 0 (n := 1024) (by omega) (seqAt t) (rowAt t r) j :=
  dot_proj m c t _ col _ (fun k => (blk_wa m c t k col).trans ((congrFun (V_wa m c) _).trans ((side_apply _ _ 0 (by simp) _ rfl 0 rfl k col j hj.symm).trans
    (cols_apply 0 (by omega) (argW m c) slices_S1024x7240_S1024x1024_0_0 k j)))) r

/-- The first operand's columns from 1024: the inner gate. -/
theorem dot_a1 (c : Dev nD) (t : Fin cfg0.N) (r : Fin 512) (col : Fin 4096) (j : Fin 1024) (hj : col.val = 1024 + j.val) :
    dotAt (iblk m c 0 t) (iblk m c 2 t) r col = part (argX m c) (argW m c) 1024 (n := 1024) (by omega) (seqAt t) (rowAt t r) j :=
  dot_proj m c t _ col _ (fun k => (blk_wa m c t k col).trans ((congrFun (V_wa m c) _).trans ((side_apply _ _ 1 (by simp) _ rfl 1024 rfl k col j hj.symm).trans
    (cols_apply 1024 (by omega) (argW m c) slices_S1024x7240_S1024x1024_0_1024 k j)))) r

/-- The first operand's columns from 2048: the convolved part. -/
theorem dot_a2 (c : Dev nD) (t : Fin cfg0.N) (r : Fin 512) (col : Fin 4096) (j : Fin 1024) (hj : col.val = 2048 + j.val) :
    dotAt (iblk m c 0 t) (iblk m c 2 t) r col = part (argX m c) (argW m c) 2048 (n := 1024) (by omega) (seqAt t) (rowAt t r) j :=
  dot_proj m c t _ col _ (fun k => (blk_wa m c t k col).trans ((congrFun (V_wa m c) _).trans ((side_apply _ _ 2 (by simp) _ rfl 2048 rfl k col j hj.symm).trans
    (cols_apply 2048 (by omega) (argW m c) slices_S1024x7240_S1024x1024_0_2048 k j)))) r

/-- The first operand's columns from 3072: the convolution gate. -/
theorem dot_a3 (c : Dev nD) (t : Fin cfg0.N) (r : Fin 512) (col : Fin 4096) (j : Fin 1024) (hj : col.val = 3072 + j.val) :
    dotAt (iblk m c 0 t) (iblk m c 2 t) r col = part (argX m c) (argW m c) 5192 (n := 1024) (by omega) (seqAt t) (rowAt t r) j :=
  dot_proj m c t _ col _ (fun k => (blk_wa m c t k col).trans ((congrFun (V_wa m c) _).trans ((side_apply _ _ 3 (by simp) _ rfl 3072 rfl k col j hj.symm).trans
    (cols_apply 5192 (by omega) (argW m c) slices_S1024x7240_S1024x1024_0_5192 k j)))) r

/-- The queries' columns. -/
theorem dot_q (c : Dev nD) (t : Fin cfg0.N) (r : Fin 512) (j : Fin 1024) :
    dotAt (iblk m c 0 t) (iblk m c 3 t) r j = part (argX m c) (argW m c) 3072 (n := 1024) (by omega) (seqAt t) (rowAt t r) j :=
  dot_proj m c t _ j _ (fun k => (blk_wq m c t k j).trans ((congrFun (V_wq m c) _).trans (cols_apply 3072 (by omega) (argW m c) slices_S1024x7240_S1024x1024_0_3072 k j))) r

/-- The attention gate's columns. -/
theorem dot_g (c : Dev nD) (t : Fin cfg0.N) (r : Fin 512) (j : Fin 1024) :
    dotAt (iblk m c 0 t) (iblk m c 4 t) r j = part (argX m c) (argW m c) 6216 (n := 1024) (by omega) (seqAt t) (rowAt t r) j :=
  dot_proj m c t _ j _ (fun k => (blk_wg m c t k j).trans ((congrFun (V_wg m c) _).trans (cols_apply 6216 (by omega) (argW m c) slices_S1024x7240_S1024x1024_0_6216 k j))) r

/-- The index queries' columns. -/
theorem dot_i (c : Dev nD) (t : Fin cfg0.N) (r : Fin 512) (j : Fin 512) :
    dotAt (iblk m c 0 t) (iblk m c 7 t) r j = part (argX m c) (argW m c) 4608 (n := 512) (by omega) (seqAt t) (rowAt t r) j :=
  dot_proj m c t _ j _ (fun k => (blk_wi m c t k j).trans ((congrFun (V_wi m c) _).trans (cols_apply 4608 (by omega) (argW m c) slices_S1024x7240_S1024x512_0_4608 k j))) r

/-- The keys' columns, each head written twice. -/
theorem dot_k (c : Dev nD) (t : Fin cfg0.N) (r : Fin 512) (j : Fin 512) :
    dotAt (iblk m c 0 t) (iblk m c 5 t) r j = part (argX m c) (argW m c) 4096 (n := 256) (by omega) (seqAt t) (rowAt t r) (twice j) :=
  dot_proj m c t _ j _ (fun k => (blk_wk m c t k j).trans ((congrFun (V_wk m c) _).trans ((doubled_apply _ k j).trans
    (cols_apply 4096 (by omega) (argW m c) slices_S1024x7240_S1024x256_0_4096 k (twice j))))) r

/-- The values' columns, each head written twice. -/
theorem dot_v (c : Dev nD) (t : Fin cfg0.N) (r : Fin 512) (j : Fin 512) :
    dotAt (iblk m c 0 t) (iblk m c 6 t) r j = part (argX m c) (argW m c) 4352 (n := 256) (by omega) (seqAt t) (rowAt t r) (twice j) :=
  dot_proj m c t _ j _ (fun k => (blk_wv m c t k j).trans ((congrFun (V_wv m c) _).trans ((doubled_apply _ k j).trans
    (cols_apply 4352 (by omega) (argW m c) slices_S1024x7240_S1024x256_0_4352 k (twice j))))) r

/-- The index keys' columns, written twice. -/
theorem dot_keys (c : Dev nD) (t : Fin cfg0.N) (r : Fin 512) (j : Fin 128) (col : Fin 256) (hc : col.val = j.val) :
    dotAt (iblk m c 0 t) (iblk m c 8 t) r col = part (argX m c) (argW m c) 5120 (n := 64) (by omega) (seqAt t) (rowAt t r) ⟨j.val % 64, by omega⟩ := by
  refine dot_proj m c t _ col _ (fun k => (blk_wm m c t k col).trans ((congrFun (V_wm m c) _).trans ?_)) r
  by_cases hj : j.val < 64
  · exact (side_apply _ _ 0 (by simp) _ rfl 0 rfl k col (⟨j.val % 64, by omega⟩ : Fin 64) (by show 0 + j.val % 64 = col.val; omega)).trans
      (cols_apply 5120 (by omega) (argW m c) slices_S1024x7240_S1024x64_0_5120 k _)
  · exact (side_apply _ _ 1 (by simp) _ rfl 64 rfl k col (⟨j.val % 64, by omega⟩ : Fin 64) (by show 64 + j.val % 64 = col.val; omega)).trans
      (cols_apply 5120 (by omega) (argW m c) slices_S1024x7240_S1024x64_0_5120 k _)

/-- The mixed columns: index keys, head weights, zeros. -/
theorem mix_apply (W : S2x1024x7240.Idx → EReal) (k : Fin 1024) (j : Fin 128) :
    mixCols W (ix2 k j) = if h : j.val < 72 then W (ix3 0 k ⟨5120 + j.val, by omega⟩) else 0 := by
  by_cases h1 : j.val < 64
  · refine (side_apply _ _ 0 (by simp) _ rfl 0 rfl k j (⟨j.val, h1⟩ : Fin 64) (by show 0 + j.val = j.val; omega)).trans
      ((cols_apply 5120 (by omega) W slices_S1024x7240_S1024x64_0_5120 k _).trans ?_)
    rw [dif_pos (by omega)]
  · by_cases h2 : j.val < 72
    · refine (side_apply _ _ 1 (by simp) _ rfl 64 rfl k j (⟨j.val - 64, by omega⟩ : Fin 8) (by show 64 + (j.val - 64) = j.val; omega)).trans
        ((cols_apply 5184 (by omega) W slices_S1024x7240_S1024x8_0_5184 k _).trans ?_)
      rw [dif_pos h2]
      exact congrArg (fun n => W (ix3 0 k n)) (Fin.ext (by show 5184 + (j.val - 64) = 5120 + j.val; omega))
    · refine (side_apply _ _ 2 (by simp) _ rfl 72 rfl k j (⟨j.val - 72, by omega⟩ : Fin 56) (by show 72 + (j.val - 72) = j.val; omega)).trans ?_
      rw [dif_neg h2]
      exact (fill_apply 0x00000000#32 bcast_S_S1024x56 _).trans Ideal.ofBits_zero_f32

/-- A product with zero. -/
theorem mul_of_zero {a b : EReal} (h : b = 0) : a * b = 0 := by rw [h, mul_zero]

/-- The products with the mixed columns. -/
theorem dot_mix (c : Dev nD) (t : Fin cfg0.N) (r : Fin 512) (j : Fin 128) (col : Fin 256) (hc : col.val = 128 + j.val) :
    dotAt (iblk m c 0 t) (iblk m c 8 t) r col = if h : j.val < 72 then proj (argX m c) (argW m c) (seqAt t) (rowAt t r) ⟨5120 + j.val, by omega⟩ else 0 := by
  have hw : ∀ k, iblk m c 8 t (ix2 k col) = mixCols (argW m c) (ix2 k j) := fun k => (blk_wm m c t k col).trans ((congrFun (V_wm m c) _).trans
    (side_apply _ _ 2 (by simp) _ rfl 128 rfl k col j hc.symm))
  by_cases h : j.val < 72
  · rw [dif_pos h]
    exact dot_proj m c t _ col _ (fun k => (hw k).trans ((mix_apply _ k j).trans (dif_pos h))) r
  · rw [dif_neg h]
    unfold dotAt rowDot
    refine Finset.sum_eq_zero fun k _ => ?_
    exact mul_of_zero ((hw k).trans ((mix_apply _ k j).trans (dif_neg h)))

/-- A block's rows that enter the convolution. -/
theorem ublk_row (c : Dev nD) (t : Fin cfg0.N) (r : Fin 512) (j : Fin 1024) : ublk (iblk m c 0 t) (iblk m c 2 t) r j = convRow (argX m c) (argW m c) (seqAt t) (rowAt t r) j :=
  congrArg₂ (· * ·) (dot_a1 m c t r _ j rfl) (dot_a2 m c t r _ j rfl)

end Cert.InProjIdeal.Rows

end
-- ==== Proof.InProjRunA.lean ====
module

public import proofs.«01_k».proof.Proof.InProjChunks
public import proofs.«01_k».proof.Proof.Gen.InProjIdeal.Frame.RunA

/-! The input projection at a grid point that starts a sequence: what its stores leave in each output block and in the scratch. -/

@[expose] public section

set_option maxRecDepth 16384

noncomputable section

namespace Cert.InProjIdeal.RowsA

open Cert.InProjIdeal Cert.InProjIdeal.Gen Cert.InProjIdeal.Rows Cert.Rows Idealize.ShloMosaic Idealize.ShloMosaic.TcCoe Idealize.ShloMosaic.ValueIdx Idealize.SL.Sem

/-- The offset vector written out as zeros is the constant zero vector. -/
theorem hz : (![0, 0] : Fin 2 → Nat) = fun _ => 0 := funext fun a => by fin_cases a <;> rfl
/-- The same for three dimensions. -/
theorem hz3 : (![0, 0, 0] : Fin 3 → Nat) = fun _ => 0 := funext fun a => by fin_cases a <;> rfl

variable (c : Dev nD) (i : grid0.Coords) (arg2 : Memref sig .tc .vmem S1x512x1024 .f32) (h2 : arg2.IsWhole) (arg3 : Memref sig .tc .vmem S1x8x1024 .f32) (h3 : arg3.IsWhole) (arg4 : Memref sig .tc .vmem S1024x4096 .bf16) (h4 : arg4.IsWhole) (arg5 : Memref sig .tc .vmem S1024x1024 .bf16) (h5 : arg5.IsWhole) (arg6 : Memref sig .tc .vmem S1024x1024 .bf16) (h6 : arg6.IsWhole) (arg7 : Memref sig .tc .vmem S1024x512 .bf16) (h7 : arg7.IsWhole) (arg8 : Memref sig .tc .vmem S1024x512 .bf16) (h8 : arg8.IsWhole) (arg9 : Memref sig .tc .vmem S1024x512 .bf16) (h9 : arg9.IsWhole)
  (arg10 : Memref sig .tc .vmem S1024x256 .bf16) (h10 : arg10.IsWhole) (arg11 : Memref sig .tc .vmem S3x1024 .f32) (h11 : arg11.IsWhole) (arg12 : Memref sig .tc .vmem S1x512x1024 .f32) (h12 : arg12.IsWhole) (arg13 : Memref sig .tc .vmem S1x512x1024 .bf16) (h13 : arg13.IsWhole) (arg14 : Memref sig .tc .vmem S1x512x1024 .f32) (h14 : arg14.IsWhole) (arg15 : Memref sig .tc .vmem S1x512x512 .f32) (h15 : arg15.IsWhole) (arg16 : Memref sig .tc .vmem S1x512x512 .bf16) (h16 : arg16.IsWhole) (arg17 : Memref sig .tc .vmem S1x512x512 .f32) (h17 : arg17.IsWhole)
  (arg18 : Memref sig .tc .vmem S1x512x512 .bf16) (h18 : arg18.IsWhole) (arg19 : Memref sig .tc .vmem S1x512x512 .bf16) (h19 : arg19.IsWhole) (arg20 : Memref sig .tc .vmem S1x512x128 .bf16) (h20 : arg20.IsWhole) (arg21 : Memref sig .tc .vmem S1x512x128 .f32) (h21 : arg21.IsWhole) (arg22 : Memref sig .tc .vmem S1x8x1024 .f32) (h22 : arg22.IsWhole) (arg23 : Memref sig .tc .vmem S520x1024 .f32) (h23 : arg23.IsWhole)
  (x0 : Vec Ideal S1x512x1024 .f32) (x1 : Vec Ideal S1x8x1024 .f32) (x2 : Vec Ideal S1024x4096 .bf16) (x3 : Vec Ideal S1024x1024 .bf16) (x4 : Vec Ideal S1024x1024 .bf16) (x5 : Vec Ideal S1024x512 .bf16) (x6 : Vec Ideal S1024x512 .bf16) (x7 : Vec Ideal S1024x512 .bf16) (x8 : Vec Ideal S1024x256 .bf16) (x9 : Vec Ideal S3x1024 .f32)

/-- The scaled queries. -/
theorem query (hc0 : cond0_0 i) : View.canon (kernelRun0_A (F := Ideal) c i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 hc0 x0 x1 x2 x3 x4 x5 x6 x7 x8 x9).2.1 = k0_pay32 (F := Ideal) (k0_pay8 (F := Ideal) x0) x3 := by
  unfold kernelRun0_A
  dsimp only
  sl_unfold_words
  rw [View.canon_unit_zero (S := S1x512x1024) hz3]
  simp only [View.readAt_eq_ld, h2.read_unread, h3.read_unread, h4.read_unread, h5.read_unread, h6.read_unread, h7.read_unread, h8.read_unread, h9.read_unread, h10.read_unread, h11.read_unread, View.ld_unit_zero (S := S1x512x1024) hz3, View.ld_unit_zero (S := S1x8x1024) hz3, View.ld_unit_zero (S := S1024x1024) hz, View.ld_unit_zero (S := S1024x512) hz, View.ld_unit_zero (S := S1024x256) hz]

/-- The attention gate. -/
theorem gate (hc0 : cond0_0 i) : View.canon (kernelRun0_A (F := Ideal) c i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 hc0 x0 x1 x2 x3 x4 x5 x6 x7 x8 x9).2.2.1 = k0_pay33 (F := Ideal) (k0_pay8 (F := Ideal) x0) x4 := by
  unfold kernelRun0_A
  dsimp only
  sl_unfold_words
  rw [View.canon_unit_zero (S := S1x512x1024) hz3]
  simp only [View.readAt_eq_ld, h2.read_unread, h3.read_unread, h4.read_unread, h5.read_unread, h6.read_unread, h7.read_unread, h8.read_unread, h9.read_unread, h10.read_unread, h11.read_unread, View.ld_unit_zero (S := S1x512x1024) hz3, View.ld_unit_zero (S := S1x8x1024) hz3, View.ld_unit_zero (S := S1024x1024) hz, View.ld_unit_zero (S := S1024x512) hz, View.ld_unit_zero (S := S1024x256) hz]

/-- The keys. -/
theorem key (hc0 : cond0_0 i) : View.canon (kernelRun0_A (F := Ideal) c i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 hc0 x0 x1 x2 x3 x4 x5 x6 x7 x8 x9).2.2.2.1 = k0_pay35 (F := Ideal) (k0_pay8 (F := Ideal) x0) x5 := by
  unfold kernelRun0_A
  dsimp only
  sl_unfold_words
  rw [View.canon_unit_zero (S := S1x512x512) hz3]
  simp only [View.readAt_eq_ld, h2.read_unread, h3.read_unread, h4.read_unread, h5.read_unread, h6.read_unread, h7.read_unread, h8.read_unread, h9.read_unread, h10.read_unread, h11.read_unread, View.ld_unit_zero (S := S1x512x1024) hz3, View.ld_unit_zero (S := S1x8x1024) hz3, View.ld_unit_zero (S := S1024x1024) hz, View.ld_unit_zero (S := S1024x512) hz, View.ld_unit_zero (S := S1024x256) hz]

/-- The keys in the narrow format. -/
theorem keyNarrow (hc0 : cond0_0 i) : View.canon (kernelRun0_A (F := Ideal) c i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 hc0 x0 x1 x2 x3 x4 x5 x6 x7 x8 x9).2.2.2.2.1 = k0_pay36 (F := Ideal) (k0_pay8 (F := Ideal) x0) x5 := by
  unfold kernelRun0_A
  dsimp only
  sl_unfold_words
  rw [View.canon_unit_zero (S := S1x512x512) hz3]
  simp only [View.readAt_eq_ld, h2.read_unread, h3.read_unread, h4.read_unread, h5.read_unread, h6.read_unread, h7.read_unread, h8.read_unread, h9.read_unread, h10.read_unread, h11.read_unread, View.ld_unit_zero (S := S1x512x1024) hz3, View.ld_unit_zero (S := S1x8x1024) hz3, View.ld_unit_zero (S := S1024x1024) hz, View.ld_unit_zero (S := S1024x512) hz, View.ld_unit_zero (S := S1024x256) hz]

/-- The values. -/
theorem value (hc0 : cond0_0 i) : View.canon (kernelRun0_A (F := Ideal) c i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 hc0 x0 x1 x2 x3 x4 x5 x6 x7 x8 x9).2.2.2.2.2.1 = k0_pay1 (F := Ideal) (k0_pay37 (F := Ideal) (k0_pay8 (F := Ideal) x0) x6) := by
  unfold kernelRun0_A
  dsimp only
  sl_unfold_words
  rw [View.canon_unit_zero (S := S1x512x512) hz3]
  simp only [View.readAt_eq_ld, h2.read_unread, h3.read_unread, h4.read_unread, h5.read_unread, h6.read_unread, h7.read_unread, h8.read_unread, h9.read_unread, h10.read_unread, h11.read_unread, View.ld_unit_zero (S := S1x512x1024) hz3, View.ld_unit_zero (S := S1x8x1024) hz3, View.ld_unit_zero (S := S1024x1024) hz, View.ld_unit_zero (S := S1024x512) hz, View.ld_unit_zero (S := S1024x256) hz]

/-- The values in the narrow format. -/
theorem valueNarrow (hc0 : cond0_0 i) : View.canon (kernelRun0_A (F := Ideal) c i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 hc0 x0 x1 x2 x3 x4 x5 x6 x7 x8 x9).2.2.2.2.2.2.1 = k0_pay2 (F := Ideal) (k0_pay37 (F := Ideal) (k0_pay8 (F := Ideal) x0) x6) := by
  unfold kernelRun0_A
  dsimp only
  sl_unfold_words
  rw [View.canon_unit_zero (S := S1x512x512) hz3]
  simp only [View.readAt_eq_ld, h2.read_unread, h3.read_unread, h4.read_unread, h5.read_unread, h6.read_unread, h7.read_unread, h8.read_unread, h9.read_unread, h10.read_unread, h11.read_unread, View.ld_unit_zero (S := S1x512x1024) hz3, View.ld_unit_zero (S := S1x8x1024) hz3, View.ld_unit_zero (S := S1024x1024) hz, View.ld_unit_zero (S := S1024x512) hz, View.ld_unit_zero (S := S1024x256) hz]

/-- The index queries. -/
theorem idxQuery (hc0 : cond0_0 i) : View.canon (kernelRun0_A (F := Ideal) c i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 hc0 x0 x1 x2 x3 x4 x5 x6 x7 x8 x9).2.2.2.2.2.2.2.1 = k0_pay3 (F := Ideal) (k0_pay8 (F := Ideal) x0) x7 := by
  unfold kernelRun0_A
  dsimp only
  sl_unfold_words
  rw [View.canon_unit_zero (S := S1x512x512) hz3]
  simp only [View.readAt_eq_ld, h2.read_unread, h3.read_unread, h4.read_unread, h5.read_unread, h6.read_unread, h7.read_unread, h8.read_unread, h9.read_unread, h10.read_unread, h11.read_unread, View.ld_unit_zero (S := S1x512x1024) hz3, View.ld_unit_zero (S := S1x8x1024) hz3, View.ld_unit_zero (S := S1024x1024) hz, View.ld_unit_zero (S := S1024x512) hz, View.ld_unit_zero (S := S1024x256) hz]

/-- The index keys, written twice. -/
theorem idxKey (hc0 : cond0_0 i) : View.canon (kernelRun0_A (F := Ideal) c i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 hc0 x0 x1 x2 x3 x4 x5 x6 x7 x8 x9).2.2.2.2.2.2.2.2.1 = k0_pay5 (F := Ideal) (k0_pay8 (F := Ideal) x0) x8 := by
  unfold kernelRun0_A
  dsimp only
  sl_unfold_words
  rw [View.canon_unit_zero (S := S1x512x128) hz3]
  simp only [View.readAt_eq_ld, h2.read_unread, h3.read_unread, h4.read_unread, h5.read_unread, h6.read_unread, h7.read_unread, h8.read_unread, h9.read_unread, h10.read_unread, h11.read_unread, View.ld_unit_zero (S := S1x512x1024) hz3, View.ld_unit_zero (S := S1x8x1024) hz3, View.ld_unit_zero (S := S1024x1024) hz, View.ld_unit_zero (S := S1024x512) hz, View.ld_unit_zero (S := S1024x256) hz]

/-- The index keys and head weights. -/
theorem idxMix (hc0 : cond0_0 i) : View.canon (kernelRun0_A (F := Ideal) c i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 hc0 x0 x1 x2 x3 x4 x5 x6 x7 x8 x9).2.2.2.2.2.2.2.2.2.1 = k0_pay6 (F := Ideal) (k0_pay8 (F := Ideal) x0) x8 := by
  unfold kernelRun0_A
  dsimp only
  sl_unfold_words
  rw [View.canon_unit_zero (S := S1x512x128) hz3]
  simp only [View.readAt_eq_ld, h2.read_unread, h3.read_unread, h4.read_unread, h5.read_unread, h6.read_unread, h7.read_unread, h8.read_unread, h9.read_unread, h10.read_unread, h11.read_unread, View.ld_unit_zero (S := S1x512x1024) hz3, View.ld_unit_zero (S := S1x8x1024) hz3, View.ld_unit_zero (S := S1024x1024) hz, View.ld_unit_zero (S := S1024x512) hz, View.ld_unit_zero (S := S1024x256) hz]

/-- The scratch while the point runs. -/
abbrev scratch : S520x1024.Idx → EReal := ext x0 x2 (fun r j => x1 (ix3 0 r j))

/-- The stores into the convolution's output agree with the convolution of the block. -/
theorem conv (hc0 : cond0_0 i) : ∀ p ∈ (kernelRun0_A (F := Ideal) c i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 hc0 x0 x1 x2 x3 x4 x5 x6 x7 x8 x9).1, ∀ y : p.1.shape.Idx, p.2 y = convBlk x0 x2 (scratch x0 x1 x2) x9 (p.1.emb y) := by
  unfold kernelRun0_A
  dsimp only
  sl_unfold_words
  simp only [View.readAt_eq_ld, h2.read_unread, h3.read_unread, h4.read_unread, h5.read_unread, h6.read_unread, h7.read_unread, h8.read_unread, h9.read_unread, h10.read_unread, h11.read_unread, View.ld_unit_zero (S := S1x512x1024) hz3, View.ld_unit_zero (S := S1x8x1024) hz3, View.ld_unit_zero (S := S1024x1024) hz, View.ld_unit_zero (S := S1024x512) hz, View.ld_unit_zero (S := S1024x256) hz]
  refine List.forall_mem_cons.mpr ⟨?_, List.forall_mem_cons.mpr ⟨?_, List.forall_mem_cons.mpr ⟨?_, List.forall_mem_cons.mpr ⟨?_, fun p hp => absurd hp List.not_mem_nil⟩⟩⟩⟩
  · exact (agree_conv x0 x2 (scratch x0 x1 x2) x9 768 (by omega) inb_S1x512x1024_S1x512x256_0_0_768 _ _ _ _ _ _ _ _ _ (pay29_apply _ _ _ _ _ _ _ _)
      (fun r j n hn => (pay9_apply x0 _ r j).trans (dotAt_cols x0 x2 768 inb_S1024x4096_S1024x256_0_768 r j n hn))
      (fun r j n hn => (pay9_apply x0 _ r j).trans (dotAt_cols x0 x2 3840 inb_S1024x4096_S1024x256_0_3840 r j n hn))
      (fun r j => (pay11_apply x0 _ _ r j).trans (congrArg₂ (· * ·) (dotAt_cols x0 x2 1792 inb_S1024x4096_S1024x256_0_1792 r j _ (by show 1024 + (768 + j.val) = 1792 + j.val; omega))
        (dotAt_cols x0 x2 2816 inb_S1024x4096_S1024x256_0_2816 r j _ (by show 2048 + (768 + j.val) = 2816 + j.val; omega))))
      (load_cov _ (stores3 x0 x2 [beforePiece x1]) (agree3 x0 x2 _ [beforePiece x1] (agree_before x0 x2 x1)) 7 768 _ (by omega) (by omega) (whole3 x0 x2 x1))
      (load_cov _ (stores3 x0 x2 [beforePiece x1]) (agree3 x0 x2 _ [beforePiece x1] (agree_before x0 x2 x1)) 6 768 _ (by omega) (by omega) (whole3 x0 x2 x1))
      (fun j n hn => tap_cols x9 0 768 inb_S3x1024_S1x256_0_768 j n hn) (fun j n hn => tap_cols x9 1 768 inb_S3x1024_S1x256_1_768 j n hn)
      (fun j n hn => tap_cols x9 2 768 inb_S3x1024_S1x256_2_768 j n hn))
  · exact (agree_conv x0 x2 (scratch x0 x1 x2) x9 512 (by omega) inb_S1x512x1024_S1x512x256_0_0_512 _ _ _ _ _ _ _ _ _ (pay24_apply _ _ _ _ _ _ _ _)
      (fun r j n hn => (pay9_apply x0 _ r j).trans (dotAt_cols x0 x2 512 inb_S1024x4096_S1024x256_0_512 r j n hn))
      (fun r j n hn => (pay9_apply x0 _ r j).trans (dotAt_cols x0 x2 3584 inb_S1024x4096_S1024x256_0_3584 r j n hn))
      (fun r j => (pay11_apply x0 _ _ r j).trans (congrArg₂ (· * ·) (dotAt_cols x0 x2 1536 inb_S1024x4096_S1024x256_0_1536 r j _ (by show 1024 + (512 + j.val) = 1536 + j.val; omega))
        (dotAt_cols x0 x2 2560 inb_S1024x4096_S1024x256_0_2560 r j _ (by show 2048 + (512 + j.val) = 2560 + j.val; omega))))
      (load_cov _ (stores2 x0 x2 [beforePiece x1]) (agree2 x0 x2 _ [beforePiece x1] (agree_before x0 x2 x1)) 7 512 _ (by omega) (by omega) (whole2 x0 x2 x1))
      (load_cov _ (stores2 x0 x2 [beforePiece x1]) (agree2 x0 x2 _ [beforePiece x1] (agree_before x0 x2 x1)) 6 512 _ (by omega) (by omega) (whole2 x0 x2 x1))
      (fun j n hn => tap_cols x9 0 512 inb_S3x1024_S1x256_0_512 j n hn) (fun j n hn => tap_cols x9 1 512 inb_S3x1024_S1x256_1_512 j n hn)
      (fun j n hn => tap_cols x9 2 512 inb_S3x1024_S1x256_2_512 j n hn))
  · exact (agree_conv x0 x2 (scratch x0 x1 x2) x9 256 (by omega) inb_S1x512x1024_S1x512x256_0_0_256 _ _ _ _ _ _ _ _ _ (pay19_apply _ _ _ _ _ _ _ _)
      (fun r j n hn => (pay9_apply x0 _ r j).trans (dotAt_cols x0 x2 256 inb_S1024x4096_S1024x256_0_256 r j n hn))
      (fun r j n hn => (pay9_apply x0 _ r j).trans (dotAt_cols x0 x2 3328 inb_S1024x4096_S1024x256_0_3328 r j n hn))
      (fun r j => (pay11_apply x0 _ _ r j).trans (congrArg₂ (· * ·) (dotAt_cols x0 x2 1280 inb_S1024x4096_S1024x256_0_1280 r j _ (by show 1024 + (256 + j.val) = 1280 + j.val; omega))
        (dotAt_cols x0 x2 2304 inb_S1024x4096_S1024x256_0_2304 r j _ (by show 2048 + (256 + j.val) = 2304 + j.val; omega))))
      (load_cov _ (stores1 x0 x2 [beforePiece x1]) (agree1 x0 x2 _ [beforePiece x1] (agree_before x0 x2 x1)) 7 256 _ (by omega) (by omega) (whole1 x0 x2 x1))
      (load_cov _ (stores1 x0 x2 [beforePiece x1]) (agree1 x0 x2 _ [beforePiece x1] (agree_before x0 x2 x1)) 6 256 _ (by omega) (by omega) (whole1 x0 x2 x1))
      (fun j n hn => tap_cols x9 0 256 inb_S3x1024_S1x256_0_256 j n hn) (fun j n hn => tap_cols x9 1 256 inb_S3x1024_S1x256_1_256 j n hn)
      (fun j n hn => tap_cols x9 2 256 inb_S3x1024_S1x256_2_256 j n hn))
  · exact (agree_conv x0 x2 (scratch x0 x1 x2) x9 0 (by omega) inb_S1x512x1024_S1x512x256_0_0_0 _ _ _ _ _ _ _ _ _ (pay14_apply _ _ _ _ _ _ _ _)
      (fun r j n hn => (pay9_apply x0 _ r j).trans (dotAt_cols x0 x2 0 inb_S1024x4096_S1024x256_0_0 r j n hn))
      (fun r j n hn => (pay9_apply x0 _ r j).trans (dotAt_cols x0 x2 3072 inb_S1024x4096_S1024x256_0_3072 r j n hn))
      (fun r j => (pay11_apply x0 _ _ r j).trans (congrArg₂ (· * ·) (dotAt_cols x0 x2 1024 inb_S1024x4096_S1024x256_0_1024 r j _ (by show 1024 + (0 + j.val) = 1024 + j.val; omega))
        (dotAt_cols x0 x2 2048 inb_S1024x4096_S1024x256_0_2048 r j _ (by show 2048 + (0 + j.val) = 2048 + j.val; omega))))
      (load_cov _ (stores0 x0 x2 [beforePiece x1]) (agree0 x0 x2 _ [beforePiece x1] (agree_before x0 x2 x1)) 7 0 _ (by omega) (by omega) (whole0 x0 x2 x1))
      (load_cov _ (stores0 x0 x2 [beforePiece x1]) (agree0 x0 x2 _ [beforePiece x1] (agree_before x0 x2 x1)) 6 0 _ (by omega) (by omega) (whole0 x0 x2 x1))
      (fun j n hn => tap_cols x9 0 0 inb_S3x1024_S1x256_0_0 j n hn) (fun j n hn => tap_cols x9 1 0 inb_S3x1024_S1x256_1_0 j n hn)
      (fun j n hn => tap_cols x9 2 0 inb_S3x1024_S1x256_2_0 j n hn))

/-- The last eight rows that entered the convolution. -/
theorem state (hc0 : cond0_0 i) (r : Fin 8) (j : Fin 1024) : View.canon (kernelRun0_A (F := Ideal) c i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 hc0 x0 x1 x2 x3 x4 x5 x6 x7 x8 x9).2.2.2.2.2.2.2.2.2.2.1 (ix3 0 r j) = ublk x0 x2 ⟨504 + r.val, by omega⟩ j := by
  unfold kernelRun0_A
  dsimp only
  sl_unfold_words
  rw [View.canon_unit_zero (S := S1x8x1024) hz3]
  simp only [View.readAt_eq_ld, h2.read_unread, h3.read_unread, h4.read_unread, h5.read_unread, h6.read_unread, h7.read_unread, h8.read_unread, h9.read_unread, h10.read_unread, h11.read_unread, View.ld_unit_zero (S := S1x512x1024) hz3, View.ld_unit_zero (S := S1x8x1024) hz3, View.ld_unit_zero (S := S1024x1024) hz, View.ld_unit_zero (S := S1024x512) hz, View.ld_unit_zero (S := S1024x256) hz]
  exact (pay30_apply _ r j).trans (load_tail x0 x2 (fun r j => x1 (ix3 0 r j)) _ [beforePiece x1] (agree_before x0 x2 x1) r j)

/-- The same rows are what the scratch keeps for the next point. -/
theorem carry (hc0 : cond0_0 i) (r : Fin 8) (j : Fin 1024) : View.canon (kernelRun0_A (F := Ideal) c i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 hc0 x0 x1 x2 x3 x4 x5 x6 x7 x8 x9).2.2.2.2.2.2.2.2.2.2.2.1 (ix2 ⟨r.val, by omega⟩ j) = ublk x0 x2 ⟨504 + r.val, by omega⟩ j := by
  unfold kernelRun0_A
  dsimp only
  sl_unfold_words
  simp only [View.readAt_eq_ld, h2.read_unread, h3.read_unread, h4.read_unread, h5.read_unread, h6.read_unread, h7.read_unread, h8.read_unread, h9.read_unread, h10.read_unread, h11.read_unread, View.ld_unit_zero (S := S1x512x1024) hz3, View.ld_unit_zero (S := S1x8x1024) hz3, View.ld_unit_zero (S := S1024x1024) hz, View.ld_unit_zero (S := S1024x512) hz, View.ld_unit_zero (S := S1024x256) hz]
  refine (canon_top (k0_pay31 (F := Ideal) (arg23.view.readCov (stores3 x0 x2 [beforePiece x1]) (Rect.unit (s := S520x1024) ![512, 0] S8x1024.size inb_S520x1024_S8x1024_512_0).toLoadRect)) (stores3 x0 x2 [beforePiece x1]) r j).trans ?_
  exact (pay31_apply _ _).trans (load_tail x0 x2 (fun r j => x1 (ix3 0 r j)) _ [beforePiece x1] (agree_before x0 x2 x1) r j)

end Cert.InProjIdeal.RowsA

end
-- ==== Proof.InProjCasesA.lean ====
module

public import proofs.«01_k».proof.Proof.InProjRunA
public import proofs.«01_k».proof.Proof.Gen.InProjIdeal.Frame

/-! The input projection: what a grid point that starts a sequence leaves in each output block, from the blocks it reads and the rows carried from the point before. -/

@[expose] public section

set_option maxRecDepth 16384

noncomputable section

namespace Cert.InProjIdeal.RowsA

open Cert.InProjIdeal Cert.InProjIdeal.Gen Cert.InProjIdeal.Rows Cert.Rows Idealize.ShloMosaic Idealize.ShloMosaic.TcCoe Idealize.ShloMosaic.ValueIdx Idealize.SL.Sem

variable (c : Dev nD) (i : grid0.Coords) (arg2 : Memref sig .tc .vmem S1x512x1024 .f32) (h2 : arg2.IsWhole) (arg3 : Memref sig .tc .vmem S1x8x1024 .f32) (h3 : arg3.IsWhole) (arg4 : Memref sig .tc .vmem S1024x4096 .bf16) (h4 : arg4.IsWhole) (arg5 : Memref sig .tc .vmem S1024x1024 .bf16) (h5 : arg5.IsWhole) (arg6 : Memref sig .tc .vmem S1024x1024 .bf16) (h6 : arg6.IsWhole) (arg7 : Memref sig .tc .vmem S1024x512 .bf16) (h7 : arg7.IsWhole) (arg8 : Memref sig .tc .vmem S1024x512 .bf16) (h8 : arg8.IsWhole) (arg9 : Memref sig .tc .vmem S1024x512 .bf16) (h9 : arg9.IsWhole)
  (arg10 : Memref sig .tc .vmem S1024x256 .bf16) (h10 : arg10.IsWhole) (arg11 : Memref sig .tc .vmem S3x1024 .f32) (h11 : arg11.IsWhole) (arg12 : Memref sig .tc .vmem S1x512x1024 .f32) (h12 : arg12.IsWhole) (arg13 : Memref sig .tc .vmem S1x512x1024 .bf16) (h13 : arg13.IsWhole) (arg14 : Memref sig .tc .vmem S1x512x1024 .f32) (h14 : arg14.IsWhole) (arg15 : Memref sig .tc .vmem S1x512x512 .f32) (h15 : arg15.IsWhole) (arg16 : Memref sig .tc .vmem S1x512x512 .bf16) (h16 : arg16.IsWhole) (arg17 : Memref sig .tc .vmem S1x512x512 .f32) (h17 : arg17.IsWhole)
  (arg18 : Memref sig .tc .vmem S1x512x512 .bf16) (h18 : arg18.IsWhole) (arg19 : Memref sig .tc .vmem S1x512x512 .bf16) (h19 : arg19.IsWhole) (arg20 : Memref sig .tc .vmem S1x512x128 .bf16) (h20 : arg20.IsWhole) (arg21 : Memref sig .tc .vmem S1x512x128 .f32) (h21 : arg21.IsWhole) (arg22 : Memref sig .tc .vmem S1x8x1024 .f32) (h22 : arg22.IsWhole) (arg23 : Memref sig .tc .vmem S520x1024 .f32) (h23 : arg23.IsWhole)
  (x0 : Vec Ideal S1x512x1024 .f32) (x1 : Vec Ideal S1x8x1024 .f32) (x2 : Vec Ideal S1024x4096 .bf16) (x3 : Vec Ideal S1024x1024 .bf16) (x4 : Vec Ideal S1024x1024 .bf16) (x5 : Vec Ideal S1024x512 .bf16) (x6 : Vec Ideal S1024x512 .bf16) (x7 : Vec Ideal S1024x512 .bf16) (x8 : Vec Ideal S1024x256 .bf16) (x9 : Vec Ideal S3x1024 .f32)

/-- The convolution's block at a point that starts a sequence. -/
theorem block_conv (hc0 : cond0_0 i) : out0_A_10 c i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 hc0 x0 x1 x2 x3 x4 x5 x6 x7 x8 x9 = convBlk x0 x2 (scratch x0 x1 x2) x9 := by
  unfold out0_A_10
  rw [View.read_writes_eq_canon _ _ _ (cover0_A_10 c i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 hc0 x0 x1 x2 x3 x4 x5 x6 x7 x8 x9)]
  funext y
  exact View.canon_apply_of_pieces _ _ (conv c i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 x0 x1 x2 x3 x4 x5 x6 x7 x8 x9 hc0) y (cover0_A_10 c i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 hc0 x0 x1 x2 x3 x4 x5 x6 x7 x8 x9 y)

/-- The scaled queries at a point that starts a sequence. -/
theorem block_query (hc0 : cond0_0 i) : out0_A_11 c i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 hc0 x0 x1 x2 x3 x4 x5 x6 x7 x8 x9 = k0_pay32 (F := Ideal) (k0_pay8 (F := Ideal) x0) x3 := by
  unfold out0_A_11
  rw [View.read_writes_eq_canon _ _ _ (cover0_A_11 c i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 hc0 x0 x1 x2 x3 x4 x5 x6 x7 x8 x9)]
  exact query c i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 x0 x1 x2 x3 x4 x5 x6 x7 x8 x9 hc0

/-- The attention gate at a point that starts a sequence. -/
theorem block_gate (hc0 : cond0_0 i) : out0_A_12 c i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 hc0 x0 x1 x2 x3 x4 x5 x6 x7 x8 x9 = k0_pay33 (F := Ideal) (k0_pay8 (F := Ideal) x0) x4 := by
  unfold out0_A_12
  rw [View.read_writes_eq_canon _ _ _ (cover0_A_12 c i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 hc0 x0 x1 x2 x3 x4 x5 x6 x7 x8 x9)]
  exact gate c i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 x0 x1 x2 x3 x4 x5 x6 x7 x8 x9 hc0

/-- The keys at a point that starts a sequence. -/
theorem block_key (hc0 : cond0_0 i) : out0_A_13 c i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 hc0 x0 x1 x2 x3 x4 x5 x6 x7 x8 x9 = k0_pay35 (F := Ideal) (k0_pay8 (F := Ideal) x0) x5 := by
  unfold out0_A_13
  rw [View.read_writes_eq_canon _ _ _ (cover0_A_13 c i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 hc0 x0 x1 x2 x3 x4 x5 x6 x7 x8 x9)]
  exact key c i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 x0 x1 x2 x3 x4 x5 x6 x7 x8 x9 hc0

/-- The keys in the narrow format at a point that starts a sequence. -/
theorem block_keyNarrow (hc0 : cond0_0 i) : out0_A_14 c i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 hc0 x0 x1 x2 x3 x4 x5 x6 x7 x8 x9 = k0_pay36 (F := Ideal) (k0_pay8 (F := Ideal) x0) x5 := by
  unfold out0_A_14
  rw [View.read_writes_eq_canon _ _ _ (cover0_A_14 c i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 hc0 x0 x1 x2 x3 x4 x5 x6 x7 x8 x9)]
  exact keyNarrow c i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 x0 x1 x2 x3 x4 x5 x6 x7 x8 x9 hc0

/-- The values at a point that starts a sequence. -/
theorem block_value (hc0 : cond0_0 i) : out0_A_15 c i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 hc0 x0 x1 x2 x3 x4 x5 x6 x7 x8 x9 = k0_pay1 (F := Ideal) (k0_pay37 (F := Ideal) (k0_pay8 (F := Ideal) x0) x6) := by
  unfold out0_A_15
  rw [View.read_writes_eq_canon _ _ _ (cover0_A_15 c i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 hc0 x0 x1 x2 x3 x4 x5 x6 x7 x8 x9)]
  exact value c i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 x0 x1 x2 x3 x4 x5 x6 x7 x8 x9 hc0

/-- The values in the narrow format at a point that starts a sequence. -/
theorem block_valueNarrow (hc0 : cond0_0 i) : out0_A_16 c i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 hc0 x0 x1 x2 x3 x4 x5 x6 x7 x8 x9 = k0_pay2 (F := Ideal) (k0_pay37 (F := Ideal) (k0_pay8 (F := Ideal) x0) x6) := by
  unfold out0_A_16
  rw [View.read_writes_eq_canon _ _ _ (cover0_A_16 c i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 hc0 x0 x1 x2 x3 x4 x5 x6 x7 x8 x9)]
  exact valueNarrow c i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 x0 x1 x2 x3 x4 x5 x6 x7 x8 x9 hc0

/-- The index queries at a point that starts a sequence. -/
theorem block_idxQuery (hc0 : cond0_0 i) : out0_A_17 c i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 hc0 x0 x1 x2 x3 x4 x5 x6 x7 x8 x9 = k0_pay3 (F := Ideal) (k0_pay8 (F := Ideal) x0) x7 := by
  unfold out0_A_17
  rw [View.read_writes_eq_canon _ _ _ (cover0_A_17 c i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 hc0 x0 x1 x2 x3 x4 x5 x6 x7 x8 x9)]
  exact idxQuery c i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 x0 x1 x2 x3 x4 x5 x6 x7 x8 x9 hc0

/-- The index keys at a point that starts a sequence. -/
theorem block_idxKey (hc0 : cond0_0 i) : out0_A_18 c i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 hc0 x0 x1 x2 x3 x4 x5 x6 x7 x8 x9 = k0_pay5 (F := Ideal) (k0_pay8 (F := Ideal) x0) x8 := by
  unfold out0_A_18
  rw [View.read_writes_eq_canon _ _ _ (cover0_A_18 c i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 hc0 x0 x1 x2 x3 x4 x5 x6 x7 x8 x9)]
  exact idxKey c i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 x0 x1 x2 x3 x4 x5 x6 x7 x8 x9 hc0

/-- The index keys and head weights at a point that starts a sequence. -/
theorem block_idxMix (hc0 : cond0_0 i) : out0_A_19 c i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 hc0 x0 x1 x2 x3 x4 x5 x6 x7 x8 x9 = k0_pay6 (F := Ideal) (k0_pay8 (F := Ideal) x0) x8 := by
  unfold out0_A_19
  rw [View.read_writes_eq_canon _ _ _ (cover0_A_19 c i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 hc0 x0 x1 x2 x3 x4 x5 x6 x7 x8 x9)]
  exact idxMix c i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 x0 x1 x2 x3 x4 x5 x6 x7 x8 x9 hc0

/-- The last rows that entered the convolution at a point that starts a sequence. -/
theorem block_state (hc0 : cond0_0 i) (r : Fin 8) (j : Fin 1024) : out0_A_20 c i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 hc0 x0 x1 x2 x3 x4 x5 x6 x7 x8 x9 (ix3 0 r j) = ublk x0 x2 ⟨504 + r.val, by omega⟩ j := by
  unfold out0_A_20
  rw [View.read_writes_eq_canon _ _ _ (cover0_A_20 c i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 hc0 x0 x1 x2 x3 x4 x5 x6 x7 x8 x9)]
  exact state c i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 x0 x1 x2 x3 x4 x5 x6 x7 x8 x9 hc0 r j

/-- The rows that a point that starts a sequence carries on. -/
theorem block_carry (hc0 : cond0_0 i) (r : Fin 8) (j : Fin 1024) : sout0_A_0 c i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 hc0 x0 x1 x2 x3 x4 x5 x6 x7 x8 x9 (ix2 ⟨r.val, by omega⟩ j) = ublk x0 x2 ⟨504 + r.val, by omega⟩ j := by
  unfold sout0_A_0
  rw [View.read_writes_eq_canon _ _ _ (scover0_A_0 c i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 hc0 x0 x1 x2 x3 x4 x5 x6 x7 x8 x9)]
  exact carry c i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 x0 x1 x2 x3 x4 x5 x6 x7 x8 x9 hc0 r j

end Cert.InProjIdeal.RowsA

end
-- ==== Proof.InProjRunB.lean ====
module

public import proofs.«01_k».proof.Proof.InProjChunks
public import proofs.«01_k».proof.Proof.Gen.InProjIdeal.Frame.RunB

/-! The input projection at a grid point that continues a sequence: what its stores leave in each output block and in the scratch. -/

@[expose] public section

set_option maxRecDepth 16384

noncomputable section

namespace Cert.InProjIdeal.RowsB

open Cert.InProjIdeal Cert.InProjIdeal.Gen Cert.InProjIdeal.Rows Cert.Rows Idealize.ShloMosaic Idealize.ShloMosaic.TcCoe Idealize.ShloMosaic.ValueIdx Idealize.SL.Sem

/-- The offset vector written out as zeros is the constant zero vector. -/
theorem hz : (![0, 0] : Fin 2 → Nat) = fun _ => 0 := funext fun a => by fin_cases a <;> rfl
/-- The same for three dimensions. -/
theorem hz3 : (![0, 0, 0] : Fin 3 → Nat) = fun _ => 0 := funext fun a => by fin_cases a <;> rfl

variable (c : Dev nD) (i : grid0.Coords) (arg2 : Memref sig .tc .vmem S1x512x1024 .f32) (h2 : arg2.IsWhole) (arg3 : Memref sig .tc .vmem S1x8x1024 .f32) (h3 : arg3.IsWhole) (arg4 : Memref sig .tc .vmem S1024x4096 .bf16) (h4 : arg4.IsWhole) (arg5 : Memref sig .tc .vmem S1024x1024 .bf16) (h5 : arg5.IsWhole) (arg6 : Memref sig .tc .vmem S1024x1024 .bf16) (h6 : arg6.IsWhole) (arg7 : Memref sig .tc .vmem S1024x512 .bf16) (h7 : arg7.IsWhole) (arg8 : Memref sig .tc .vmem S1024x512 .bf16) (h8 : arg8.IsWhole) (arg9 : Memref sig .tc .vmem S1024x512 .bf16) (h9 : arg9.IsWhole)
  (arg10 : Memref sig .tc .vmem S1024x256 .bf16) (h10 : arg10.IsWhole) (arg11 : Memref sig .tc .vmem S3x1024 .f32) (h11 : arg11.IsWhole) (arg12 : Memref sig .tc .vmem S1x512x1024 .f32) (h12 : arg12.IsWhole) (arg13 : Memref sig .tc .vmem S1x512x1024 .bf16) (h13 : arg13.IsWhole) (arg14 : Memref sig .tc .vmem S1x512x1024 .f32) (h14 : arg14.IsWhole) (arg15 : Memref sig .tc .vmem S1x512x512 .f32) (h15 : arg15.IsWhole) (arg16 : Memref sig .tc .vmem S1x512x512 .bf16) (h16 : arg16.IsWhole) (arg17 : Memref sig .tc .vmem S1x512x512 .f32) (h17 : arg17.IsWhole)
  (arg18 : Memref sig .tc .vmem S1x512x512 .bf16) (h18 : arg18.IsWhole) (arg19 : Memref sig .tc .vmem S1x512x512 .bf16) (h19 : arg19.IsWhole) (arg20 : Memref sig .tc .vmem S1x512x128 .bf16) (h20 : arg20.IsWhole) (arg21 : Memref sig .tc .vmem S1x512x128 .f32) (h21 : arg21.IsWhole) (arg22 : Memref sig .tc .vmem S1x8x1024 .f32) (h22 : arg22.IsWhole) (arg23 : Memref sig .tc .vmem S520x1024 .f32) (h23 : arg23.IsWhole)
  (x0 : Vec Ideal S1x512x1024 .f32) (x1 : Vec Ideal S1x8x1024 .f32) (x2 : Vec Ideal S1024x4096 .bf16) (x3 : Vec Ideal S1024x1024 .bf16) (x4 : Vec Ideal S1024x1024 .bf16) (x5 : Vec Ideal S1024x512 .bf16) (x6 : Vec Ideal S1024x512 .bf16) (x7 : Vec Ideal S1024x512 .bf16) (x8 : Vec Ideal S1024x256 .bf16) (x9 : Vec Ideal S3x1024 .f32) (xs0 : Vec Ideal S520x1024 .f32)

/-- The scaled queries. -/
theorem query (hc0 : ¬cond0_0 i) : View.canon (kernelRun0_B (F := Ideal) c i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 hc0 x0 x1 x2 x3 x4 x5 x6 x7 x8 x9 xs0).2.1 = k0_pay32 (F := Ideal) (k0_pay8 (F := Ideal) x0) x3 := by
  unfold kernelRun0_B
  dsimp only
  sl_unfold_words
  rw [View.canon_unit_zero (S := S1x512x1024) hz3]
  simp only [View.readAt_eq_ld, h2.read_unread, h3.read_unread, h4.read_unread, h5.read_unread, h6.read_unread, h7.read_unread, h8.read_unread, h9.read_unread, h10.read_unread, h11.read_unread, View.ld_unit_zero (S := S1x512x1024) hz3, View.ld_unit_zero (S := S1x8x1024) hz3, View.ld_unit_zero (S := S1024x1024) hz, View.ld_unit_zero (S := S1024x512) hz, View.ld_unit_zero (S := S1024x256) hz]

/-- The attention gate. -/
theorem gate (hc0 : ¬cond0_0 i) : View.canon (kernelRun0_B (F := Ideal) c i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 hc0 x0 x1 x2 x3 x4 x5 x6 x7 x8 x9 xs0).2.2.1 = k0_pay33 (F := Ideal) (k0_pay8 (F := Ideal) x0) x4 := by
  unfold kernelRun0_B
  dsimp only
  sl_unfold_words
  rw [View.canon_unit_zero (S := S1x512x1024) hz3]
  simp only [View.readAt_eq_ld, h2.read_unread, h3.read_unread, h4.read_unread, h5.read_unread, h6.read_unread, h7.read_unread, h8.read_unread, h9.read_unread, h10.read_unread, h11.read_unread, View.ld_unit_zero (S := S1x512x1024) hz3, View.ld_unit_zero (S := S1x8x1024) hz3, View.ld_unit_zero (S := S1024x1024) hz, View.ld_unit_zero (S := S1024x512) hz, View.ld_unit_zero (S := S1024x256) hz]

/-- The keys. -/
theorem key (hc0 : ¬cond0_0 i) : View.canon (kernelRun0_B (F := Ideal) c i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 hc0 x0 x1 x2 x3 x4 x5 x6 x7 x8 x9 xs0).2.2.2.1 = k0_pay35 (F := Ideal) (k0_pay8 (F := Ideal) x0) x5 := by
  unfold kernelRun0_B
  dsimp only
  sl_unfold_words
  rw [View.canon_unit_zero (S := S1x512x512) hz3]
  simp only [View.readAt_eq_ld, h2.read_unread, h3.read_unread, h4.read_unread, h5.read_unread, h6.read_unread, h7.read_unread, h8.read_unread, h9.read_unread, h10.read_unread, h11.read_unread, View.ld_unit_zero (S := S1x512x1024) hz3, View.ld_unit_zero (S := S1x8x1024) hz3, View.ld_unit_zero (S := S1024x1024) hz, View.ld_unit_zero (S := S1024x512) hz, View.ld_unit_zero (S := S1024x256) hz]

/-- The keys in the narrow format. -/
theorem keyNarrow (hc0 : ¬cond0_0 i) : View.canon (kernelRun0_B (F := Ideal) c i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 hc0 x0 x1 x2 x3 x4 x5 x6 x7 x8 x9 xs0).2.2.2.2.1 = k0_pay36 (F := Ideal) (k0_pay8 (F := Ideal) x0) x5 := by
  unfold kernelRun0_B
  dsimp only
  sl_unfold_words
  rw [View.canon_unit_zero (S := S1x512x512) hz3]
  simp only [View.readAt_eq_ld, h2.read_unread, h3.read_unread, h4.read_unread, h5.read_unread, h6.read_unread, h7.read_unread, h8.read_unread, h9.read_unread, h10.read_unread, h11.read_unread, View.ld_unit_zero (S := S1x512x1024) hz3, View.ld_unit_zero (S := S1x8x1024) hz3, View.ld_unit_zero (S := S1024x1024) hz, View.ld_unit_zero (S := S1024x512) hz, View.ld_unit_zero (S := S1024x256) hz]

/-- The values. -/
theorem value (hc0 : ¬cond0_0 i) : View.canon (kernelRun0_B (F := Ideal) c i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 hc0 x0 x1 x2 x3 x4 x5 x6 x7 x8 x9 xs0).2.2.2.2.2.1 = k0_pay1 (F := Ideal) (k0_pay37 (F := Ideal) (k0_pay8 (F := Ideal) x0) x6) := by
  unfold kernelRun0_B
  dsimp only
  sl_unfold_words
  rw [View.canon_unit_zero (S := S1x512x512) hz3]
  simp only [View.readAt_eq_ld, h2.read_unread, h3.read_unread, h4.read_unread, h5.read_unread, h6.read_unread, h7.read_unread, h8.read_unread, h9.read_unread, h10.read_unread, h11.read_unread, View.ld_unit_zero (S := S1x512x1024) hz3, View.ld_unit_zero (S := S1x8x1024) hz3, View.ld_unit_zero (S := S1024x1024) hz, View.ld_unit_zero (S := S1024x512) hz, View.ld_unit_zero (S := S1024x256) hz]

/-- The values in the narrow format. -/
theorem valueNarrow (hc0 : ¬cond0_0 i) : View.canon (kernelRun0_B (F := Ideal) c i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 hc0 x0 x1 x2 x3 x4 x5 x6 x7 x8 x9 xs0).2.2.2.2.2.2.1 = k0_pay2 (F := Ideal) (k0_pay37 (F := Ideal) (k0_pay8 (F := Ideal) x0) x6) := by
  unfold kernelRun0_B
  dsimp only
  sl_unfold_words
  rw [View.canon_unit_zero (S := S1x512x512) hz3]
  simp only [View.readAt_eq_ld, h2.read_unread, h3.read_unread, h4.read_unread, h5.read_unread, h6.read_unread, h7.read_unread, h8.read_unread, h9.read_unread, h10.read_unread, h11.read_unread, View.ld_unit_zero (S := S1x512x1024) hz3, View.ld_unit_zero (S := S1x8x1024) hz3, View.ld_unit_zero (S := S1024x1024) hz, View.ld_unit_zero (S := S1024x512) hz, View.ld_unit_zero (S := S1024x256) hz]

/-- The index queries. -/
theorem idxQuery (hc0 : ¬cond0_0 i) : View.canon (kernelRun0_B (F := Ideal) c i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 hc0 x0 x1 x2 x3 x4 x5 x6 x7 x8 x9 xs0).2.2.2.2.2.2.2.1 = k0_pay3 (F := Ideal) (k0_pay8 (F := Ideal) x0) x7 := by
  unfold kernelRun0_B
  dsimp only
  sl_unfold_words
  rw [View.canon_unit_zero (S := S1x512x512) hz3]
  simp only [View.readAt_eq_ld, h2.read_unread, h3.read_unread, h4.read_unread, h5.read_unread, h6.read_unread, h7.read_unread, h8.read_unread, h9.read_unread, h10.read_unread, h11.read_unread, View.ld_unit_zero (S := S1x512x1024) hz3, View.ld_unit_zero (S := S1x8x1024) hz3, View.ld_unit_zero (S := S1024x1024) hz, View.ld_unit_zero (S := S1024x512) hz, View.ld_unit_zero (S := S1024x256) hz]

/-- The index keys, written twice. -/
theorem idxKey (hc0 : ¬cond0_0 i) : View.canon (kernelRun0_B (F := Ideal) c i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 hc0 x0 x1 x2 x3 x4 x5 x6 x7 x8 x9 xs0).2.2.2.2.2.2.2.2.1 = k0_pay5 (F := Ideal) (k0_pay8 (F := Ideal) x0) x8 := by
  unfold kernelRun0_B
  dsimp only
  sl_unfold_words
  rw [View.canon_unit_zero (S := S1x512x128) hz3]
  simp only [View.readAt_eq_ld, h2.read_unread, h3.read_unread, h4.read_unread, h5.read_unread, h6.read_unread, h7.read_unread, h8.read_unread, h9.read_unread, h10.read_unread, h11.read_unread, View.ld_unit_zero (S := S1x512x1024) hz3, View.ld_unit_zero (S := S1x8x1024) hz3, View.ld_unit_zero (S := S1024x1024) hz, View.ld_unit_zero (S := S1024x512) hz, View.ld_unit_zero (S := S1024x256) hz]

/-- The index keys and head weights. -/
theorem idxMix (hc0 : ¬cond0_0 i) : View.canon (kernelRun0_B (F := Ideal) c i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 hc0 x0 x1 x2 x3 x4 x5 x6 x7 x8 x9 xs0).2.2.2.2.2.2.2.2.2.1 = k0_pay6 (F := Ideal) (k0_pay8 (F := Ideal) x0) x8 := by
  unfold kernelRun0_B
  dsimp only
  sl_unfold_words
  rw [View.canon_unit_zero (S := S1x512x128) hz3]
  simp only [View.readAt_eq_ld, h2.read_unread, h3.read_unread, h4.read_unread, h5.read_unread, h6.read_unread, h7.read_unread, h8.read_unread, h9.read_unread, h10.read_unread, h11.read_unread, View.ld_unit_zero (S := S1x512x1024) hz3, View.ld_unit_zero (S := S1x8x1024) hz3, View.ld_unit_zero (S := S1024x1024) hz, View.ld_unit_zero (S := S1024x512) hz, View.ld_unit_zero (S := S1024x256) hz]

/-- The scratch while the point runs. -/
abbrev scratch : S520x1024.Idx → EReal := ext x0 x2 (fun r j => xs0 (ix2 ⟨r.val, by omega⟩ j))

/-- The rows before the block are what the point before left. -/
theorem scratch_before (r : Fin 520) (j : Fin 1024) (hr : r.val < 8) : xs0 (ix2 r j) = scratch x0 x2 xs0 (ix2 r j) :=
  (ext_before x0 x2 (fun r j => xs0 (ix2 ⟨r.val, by omega⟩ j)) r ⟨r.val, hr⟩ rfl j).symm

/-- The stores into the convolution's output agree with the convolution of the block. -/
theorem conv (hc0 : ¬cond0_0 i) : ∀ p ∈ (kernelRun0_B (F := Ideal) c i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 hc0 x0 x1 x2 x3 x4 x5 x6 x7 x8 x9 xs0).1, ∀ y : p.1.shape.Idx, p.2 y = convBlk x0 x2 (scratch x0 x2 xs0) x9 (p.1.emb y) := by
  unfold kernelRun0_B
  dsimp only
  sl_unfold_words
  simp only [View.readAt_eq_ld, h2.read_unread, h3.read_unread, h4.read_unread, h5.read_unread, h6.read_unread, h7.read_unread, h8.read_unread, h9.read_unread, h10.read_unread, h11.read_unread, View.ld_unit_zero (S := S1x512x1024) hz3, View.ld_unit_zero (S := S1x8x1024) hz3, View.ld_unit_zero (S := S1024x1024) hz, View.ld_unit_zero (S := S1024x512) hz, View.ld_unit_zero (S := S1024x256) hz]
  refine List.forall_mem_cons.mpr ⟨?_, List.forall_mem_cons.mpr ⟨?_, List.forall_mem_cons.mpr ⟨?_, List.forall_mem_cons.mpr ⟨?_, fun p hp => absurd hp List.not_mem_nil⟩⟩⟩⟩
  · exact (agree_conv x0 x2 (scratch x0 x2 xs0) x9 768 (by omega) inb_S1x512x1024_S1x512x256_0_0_768 _ _ _ _ _ _ _ _ _ (pay29_apply _ _ _ _ _ _ _ _)
      (fun r j n hn => (pay9_apply x0 _ r j).trans (dotAt_cols x0 x2 768 inb_S1024x4096_S1024x256_0_768 r j n hn))
      (fun r j n hn => (pay9_apply x0 _ r j).trans (dotAt_cols x0 x2 3840 inb_S1024x4096_S1024x256_0_3840 r j n hn))
      (fun r j => (pay11_apply x0 _ _ r j).trans (congrArg₂ (· * ·) (dotAt_cols x0 x2 1792 inb_S1024x4096_S1024x256_0_1792 r j _ (by show 1024 + (768 + j.val) = 1792 + j.val; omega))
        (dotAt_cols x0 x2 2816 inb_S1024x4096_S1024x256_0_2816 r j _ (by show 2048 + (768 + j.val) = 2816 + j.val; omega))))
      (load_over arg23 h23 xs0 (scratch_before x0 x2 xs0) (stores3 x0 x2 []) (agree3 x0 x2 _ [] (fun p hp => absurd hp List.not_mem_nil)) 7 768 _ (by omega) (by omega) (own3 x0 x2 []))
      (load_over arg23 h23 xs0 (scratch_before x0 x2 xs0) (stores3 x0 x2 []) (agree3 x0 x2 _ [] (fun p hp => absurd hp List.not_mem_nil)) 6 768 _ (by omega) (by omega) (own3 x0 x2 []))
      (fun j n hn => tap_cols x9 0 768 inb_S3x1024_S1x256_0_768 j n hn) (fun j n hn => tap_cols x9 1 768 inb_S3x1024_S1x256_1_768 j n hn)
      (fun j n hn => tap_cols x9 2 768 inb_S3x1024_S1x256_2_768 j n hn))
  · exact (agree_conv x0 x2 (scratch x0 x2 xs0) x9 512 (by omega) inb_S1x512x1024_S1x512x256_0_0_512 _ _ _ _ _ _ _ _ _ (pay24_apply _ _ _ _ _ _ _ _)
      (fun r j n hn => (pay9_apply x0 _ r j).trans (dotAt_cols x0 x2 512 inb_S1024x4096_S1024x256_0_512 r j n hn))
      (fun r j n hn => (pay9_apply x0 _ r j).trans (dotAt_cols x0 x2 3584 inb_S1024x4096_S1024x256_0_3584 r j n hn))
      (fun r j => (pay11_apply x0 _ _ r j).trans (congrArg₂ (· * ·) (dotAt_cols x0 x2 1536 inb_S1024x4096_S1024x256_0_1536 r j _ (by show 1024 + (512 + j.val) = 1536 + j.val; omega))
        (dotAt_cols x0 x2 2560 inb_S1024x4096_S1024x256_0_2560 r j _ (by show 2048 + (512 + j.val) = 2560 + j.val; omega))))
      (load_over arg23 h23 xs0 (scratch_before x0 x2 xs0) (stores2 x0 x2 []) (agree2 x0 x2 _ [] (fun p hp => absurd hp List.not_mem_nil)) 7 512 _ (by omega) (by omega) (own2 x0 x2 []))
      (load_over arg23 h23 xs0 (scratch_before x0 x2 xs0) (stores2 x0 x2 []) (agree2 x0 x2 _ [] (fun p hp => absurd hp List.not_mem_nil)) 6 512 _ (by omega) (by omega) (own2 x0 x2 []))
      (fun j n hn => tap_cols x9 0 512 inb_S3x1024_S1x256_0_512 j n hn) (fun j n hn => tap_cols x9 1 512 inb_S3x1024_S1x256_1_512 j n hn)
      (fun j n hn => tap_cols x9 2 512 inb_S3x1024_S1x256_2_512 j n hn))
  · exact (agree_conv x0 x2 (scratch x0 x2 xs0) x9 256 (by omega) inb_S1x512x1024_S1x512x256_0_0_256 _ _ _ _ _ _ _ _ _ (pay19_apply _ _ _ _ _ _ _ _)
      (fun r j n hn => (pay9_apply x0 _ r j).trans (dotAt_cols x0 x2 256 inb_S1024x4096_S1024x256_0_256 r j n hn))
      (fun r j n hn => (pay9_apply x0 _ r j).trans (dotAt_cols x0 x2 3328 inb_S1024x4096_S1024x256_0_3328 r j n hn))
      (fun r j => (pay11_apply x0 _ _ r j).trans (congrArg₂ (· * ·) (dotAt_cols x0 x2 1280 inb_S1024x4096_S1024x256_0_1280 r j _ (by show 1024 + (256 + j.val) = 1280 + j.val; omega))
        (dotAt_cols x0 x2 2304 inb_S1024x4096_S1024x256_0_2304 r j _ (by show 2048 + (256 + j.val) = 2304 + j.val; omega))))
      (load_over arg23 h23 xs0 (scratch_before x0 x2 xs0) (stores1 x0 x2 []) (agree1 x0 x2 _ [] (fun p hp => absurd hp List.not_mem_nil)) 7 256 _ (by omega) (by omega) (own1 x0 x2 []))
      (load_over arg23 h23 xs0 (scratch_before x0 x2 xs0) (stores1 x0 x2 []) (agree1 x0 x2 _ [] (fun p hp => absurd hp List.not_mem_nil)) 6 256 _ (by omega) (by omega) (own1 x0 x2 []))
      (fun j n hn => tap_cols x9 0 256 inb_S3x1024_S1x256_0_256 j n hn) (fun j n hn => tap_cols x9 1 256 inb_S3x1024_S1x256_1_256 j n hn)
      (fun j n hn => tap_cols x9 2 256 inb_S3x1024_S1x256_2_256 j n hn))
  · exact (agree_conv x0 x2 (scratch x0 x2 xs0) x9 0 (by omega) inb_S1x512x1024_S1x512x256_0_0_0 _ _ _ _ _ _ _ _ _ (pay14_apply _ _ _ _ _ _ _ _)
      (fun r j n hn => (pay9_apply x0 _ r j).trans (dotAt_cols x0 x2 0 inb_S1024x4096_S1024x256_0_0 r j n hn))
      (fun r j n hn => (pay9_apply x0 _ r j).trans (dotAt_cols x0 x2 3072 inb_S1024x4096_S1024x256_0_3072 r j n hn))
      (fun r j => (pay11_apply x0 _ _ r j).trans (congrArg₂ (· * ·) (dotAt_cols x0 x2 1024 inb_S1024x4096_S1024x256_0_1024 r j _ (by show 1024 + (0 + j.val) = 1024 + j.val; omega))
        (dotAt_cols x0 x2 2048 inb_S1024x4096_S1024x256_0_2048 r j _ (by show 2048 + (0 + j.val) = 2048 + j.val; omega))))
      (load_over arg23 h23 xs0 (scratch_before x0 x2 xs0) (stores0 x0 x2 []) (agree0 x0 x2 _ [] (fun p hp => absurd hp List.not_mem_nil)) 7 0 _ (by omega) (by omega) (own0 x0 x2 []))
      (load_over arg23 h23 xs0 (scratch_before x0 x2 xs0) (stores0 x0 x2 []) (agree0 x0 x2 _ [] (fun p hp => absurd hp List.not_mem_nil)) 6 0 _ (by omega) (by omega) (own0 x0 x2 []))
      (fun j n hn => tap_cols x9 0 0 inb_S3x1024_S1x256_0_0 j n hn) (fun j n hn => tap_cols x9 1 0 inb_S3x1024_S1x256_1_0 j n hn)
      (fun j n hn => tap_cols x9 2 0 inb_S3x1024_S1x256_2_0 j n hn))

/-- The last eight rows that entered the convolution. -/
theorem state (hc0 : ¬cond0_0 i) (r : Fin 8) (j : Fin 1024) : View.canon (kernelRun0_B (F := Ideal) c i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 hc0 x0 x1 x2 x3 x4 x5 x6 x7 x8 x9 xs0).2.2.2.2.2.2.2.2.2.2.1 (ix3 0 r j) = ublk x0 x2 ⟨504 + r.val, by omega⟩ j := by
  unfold kernelRun0_B
  dsimp only
  sl_unfold_words
  rw [View.canon_unit_zero (S := S1x8x1024) hz3]
  simp only [View.readAt_eq_ld, h2.read_unread, h3.read_unread, h4.read_unread, h5.read_unread, h6.read_unread, h7.read_unread, h8.read_unread, h9.read_unread, h10.read_unread, h11.read_unread, View.ld_unit_zero (S := S1x512x1024) hz3, View.ld_unit_zero (S := S1x8x1024) hz3, View.ld_unit_zero (S := S1024x1024) hz, View.ld_unit_zero (S := S1024x512) hz, View.ld_unit_zero (S := S1024x256) hz]
  exact (pay30_apply _ r j).trans (load_tail x0 x2 (fun r j => xs0 (ix2 ⟨r.val, by omega⟩ j)) _ [] (fun p hp => absurd hp List.not_mem_nil) r j)

/-- The same rows are what the scratch keeps for the next point. -/
theorem carry (hc0 : ¬cond0_0 i) (r : Fin 8) (j : Fin 1024) : View.canon (kernelRun0_B (F := Ideal) c i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 hc0 x0 x1 x2 x3 x4 x5 x6 x7 x8 x9 xs0).2.2.2.2.2.2.2.2.2.2.2.1 (ix2 ⟨r.val, by omega⟩ j) = ublk x0 x2 ⟨504 + r.val, by omega⟩ j := by
  unfold kernelRun0_B
  dsimp only
  sl_unfold_words
  simp only [View.readAt_eq_ld, h2.read_unread, h3.read_unread, h4.read_unread, h5.read_unread, h6.read_unread, h7.read_unread, h8.read_unread, h9.read_unread, h10.read_unread, h11.read_unread, View.ld_unit_zero (S := S1x512x1024) hz3, View.ld_unit_zero (S := S1x8x1024) hz3, View.ld_unit_zero (S := S1024x1024) hz, View.ld_unit_zero (S := S1024x512) hz, View.ld_unit_zero (S := S1024x256) hz]
  refine (canon_top (k0_pay31 (F := Ideal) (arg23.view.readCov (stores3 x0 x2 []) (Rect.unit (s := S520x1024) ![512, 0] S8x1024.size inb_S520x1024_S8x1024_512_0).toLoadRect)) (stores3 x0 x2 []) r j).trans ?_
  exact (pay31_apply _ _).trans (load_tail x0 x2 (fun r j => xs0 (ix2 ⟨r.val, by omega⟩ j)) _ [] (fun p hp => absurd hp List.not_mem_nil) r j)

end Cert.InProjIdeal.RowsB

end
-- ==== Proof.InProjCasesB.lean ====
module

public import proofs.«01_k».proof.Proof.InProjRunB
public import proofs.«01_k».proof.Proof.Gen.InProjIdeal.Frame

/-! The input projection: what a grid point inside a sequence leaves in each output block, from the blocks it reads and the rows carried from the point before. -/

@[expose] public section

set_option maxRecDepth 16384

noncomputable section

namespace Cert.InProjIdeal.RowsB

open Cert.InProjIdeal Cert.InProjIdeal.Gen Cert.InProjIdeal.Rows Cert.Rows Idealize.ShloMosaic Idealize.ShloMosaic.TcCoe Idealize.ShloMosaic.ValueIdx Idealize.SL.Sem

variable (c : Dev nD) (i : grid0.Coords) (arg2 : Memref sig .tc .vmem S1x512x1024 .f32) (h2 : arg2.IsWhole) (arg3 : Memref sig .tc .vmem S1x8x1024 .f32) (h3 : arg3.IsWhole) (arg4 : Memref sig .tc .vmem S1024x4096 .bf16) (h4 : arg4.IsWhole) (arg5 : Memref sig .tc .vmem S1024x1024 .bf16) (h5 : arg5.IsWhole) (arg6 : Memref sig .tc .vmem S1024x1024 .bf16) (h6 : arg6.IsWhole) (arg7 : Memref sig .tc .vmem S1024x512 .bf16) (h7 : arg7.IsWhole) (arg8 : Memref sig .tc .vmem S1024x512 .bf16) (h8 : arg8.IsWhole) (arg9 : Memref sig .tc .vmem S1024x512 .bf16) (h9 : arg9.IsWhole)
  (arg10 : Memref sig .tc .vmem S1024x256 .bf16) (h10 : arg10.IsWhole) (arg11 : Memref sig .tc .vmem S3x1024 .f32) (h11 : arg11.IsWhole) (arg12 : Memref sig .tc .vmem S1x512x1024 .f32) (h12 : arg12.IsWhole) (arg13 : Memref sig .tc .vmem S1x512x1024 .bf16) (h13 : arg13.IsWhole) (arg14 : Memref sig .tc .vmem S1x512x1024 .f32) (h14 : arg14.IsWhole) (arg15 : Memref sig .tc .vmem S1x512x512 .f32) (h15 : arg15.IsWhole) (arg16 : Memref sig .tc .vmem S1x512x512 .bf16) (h16 : arg16.IsWhole) (arg17 : Memref sig .tc .vmem S1x512x512 .f32) (h17 : arg17.IsWhole)
  (arg18 : Memref sig .tc .vmem S1x512x512 .bf16) (h18 : arg18.IsWhole) (arg19 : Memref sig .tc .vmem S1x512x512 .bf16) (h19 : arg19.IsWhole) (arg20 : Memref sig .tc .vmem S1x512x128 .bf16) (h20 : arg20.IsWhole) (arg21 : Memref sig .tc .vmem S1x512x128 .f32) (h21 : arg21.IsWhole) (arg22 : Memref sig .tc .vmem S1x8x1024 .f32) (h22 : arg22.IsWhole) (arg23 : Memref sig .tc .vmem S520x1024 .f32) (h23 : arg23.IsWhole)
  (x0 : Vec Ideal S1x512x1024 .f32) (x1 : Vec Ideal S1x8x1024 .f32) (x2 : Vec Ideal S1024x4096 .bf16) (x3 : Vec Ideal S1024x1024 .bf16) (x4 : Vec Ideal S1024x1024 .bf16) (x5 : Vec Ideal S1024x512 .bf16) (x6 : Vec Ideal S1024x512 .bf16) (x7 : Vec Ideal S1024x512 .bf16) (x8 : Vec Ideal S1024x256 .bf16) (x9 : Vec Ideal S3x1024 .f32) (xs0 : Vec Ideal S520x1024 .f32)

/-- The convolution's block at a point inside a sequence. -/
theorem block_conv (hc0 : ¬cond0_0 i) : out0_B_10 c i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 hc0 x0 x1 x2 x3 x4 x5 x6 x7 x8 x9 xs0 = convBlk x0 x2 (scratch x0 x2 xs0) x9 := by
  unfold out0_B_10
  rw [View.read_writes_eq_canon _ _ _ (cover0_B_10 c i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 hc0 x0 x1 x2 x3 x4 x5 x6 x7 x8 x9 xs0)]
  funext y
  exact View.canon_apply_of_pieces _ _ (conv c i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 x0 x1 x2 x3 x4 x5 x6 x7 x8 x9 xs0 hc0) y (cover0_B_10 c i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 hc0 x0 x1 x2 x3 x4 x5 x6 x7 x8 x9 xs0 y)

/-- The scaled queries at a point inside a sequence. -/
theorem block_query (hc0 : ¬cond0_0 i) : out0_B_11 c i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 hc0 x0 x1 x2 x3 x4 x5 x6 x7 x8 x9 xs0 = k0_pay32 (F := Ideal) (k0_pay8 (F := Ideal) x0) x3 := by
  unfold out0_B_11
  rw [View.read_writes_eq_canon _ _ _ (cover0_B_11 c i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 hc0 x0 x1 x2 x3 x4 x5 x6 x7 x8 x9 xs0)]
  exact query c i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 x0 x1 x2 x3 x4 x5 x6 x7 x8 x9 xs0 hc0

/-- The attention gate at a point inside a sequence. -/
theorem block_gate (hc0 : ¬cond0_0 i) : out0_B_12 c i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 hc0 x0 x1 x2 x3 x4 x5 x6 x7 x8 x9 xs0 = k0_pay33 (F := Ideal) (k0_pay8 (F := Ideal) x0) x4 := by
  unfold out0_B_12
  rw [View.read_writes_eq_canon _ _ _ (cover0_B_12 c i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 hc0 x0 x1 x2 x3 x4 x5 x6 x7 x8 x9 xs0)]
  exact gate c i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 x0 x1 x2 x3 x4 x5 x6 x7 x8 x9 xs0 hc0

/-- The keys at a point inside a sequence. -/
theorem block_key (hc0 : ¬cond0_0 i) : out0_B_13 c i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 hc0 x0 x1 x2 x3 x4 x5 x6 x7 x8 x9 xs0 = k0_pay35 (F := Ideal) (k0_pay8 (F := Ideal) x0) x5 := by
  unfold out0_B_13
  rw [View.read_writes_eq_canon _ _ _ (cover0_B_13 c i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 hc0 x0 x1 x2 x3 x4 x5 x6 x7 x8 x9 xs0)]
  exact key c i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 x0 x1 x2 x3 x4 x5 x6 x7 x8 x9 xs0 hc0

/-- The keys in the narrow format at a point inside a sequence. -/
theorem block_keyNarrow (hc0 : ¬cond0_0 i) : out0_B_14 c i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 hc0 x0 x1 x2 x3 x4 x5 x6 x7 x8 x9 xs0 = k0_pay36 (F := Ideal) (k0_pay8 (F := Ideal) x0) x5 := by
  unfold out0_B_14
  rw [View.read_writes_eq_canon _ _ _ (cover0_B_14 c i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 hc0 x0 x1 x2 x3 x4 x5 x6 x7 x8 x9 xs0)]
  exact keyNarrow c i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 x0 x1 x2 x3 x4 x5 x6 x7 x8 x9 xs0 hc0

/-- The values at a point inside a sequence. -/
theorem block_value (hc0 : ¬cond0_0 i) : out0_B_15 c i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 hc0 x0 x1 x2 x3 x4 x5 x6 x7 x8 x9 xs0 = k0_pay1 (F := Ideal) (k0_pay37 (F := Ideal) (k0_pay8 (F := Ideal) x0) x6) := by
  unfold out0_B_15
  rw [View.read_writes_eq_canon _ _ _ (cover0_B_15 c i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 hc0 x0 x1 x2 x3 x4 x5 x6 x7 x8 x9 xs0)]
  exact value c i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 x0 x1 x2 x3 x4 x5 x6 x7 x8 x9 xs0 hc0

/-- The values in the narrow format at a point inside a sequence. -/
theorem block_valueNarrow (hc0 : ¬cond0_0 i) : out0_B_16 c i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 hc0 x0 x1 x2 x3 x4 x5 x6 x7 x8 x9 xs0 = k0_pay2 (F := Ideal) (k0_pay37 (F := Ideal) (k0_pay8 (F := Ideal) x0) x6) := by
  unfold out0_B_16
  rw [View.read_writes_eq_canon _ _ _ (cover0_B_16 c i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 hc0 x0 x1 x2 x3 x4 x5 x6 x7 x8 x9 xs0)]
  exact valueNarrow c i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 x0 x1 x2 x3 x4 x5 x6 x7 x8 x9 xs0 hc0

/-- The index queries at a point inside a sequence. -/
theorem block_idxQuery (hc0 : ¬cond0_0 i) : out0_B_17 c i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 hc0 x0 x1 x2 x3 x4 x5 x6 x7 x8 x9 xs0 = k0_pay3 (F := Ideal) (k0_pay8 (F := Ideal) x0) x7 := by
  unfold out0_B_17
  rw [View.read_writes_eq_canon _ _ _ (cover0_B_17 c i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 hc0 x0 x1 x2 x3 x4 x5 x6 x7 x8 x9 xs0)]
  exact idxQuery c i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 x0 x1 x2 x3 x4 x5 x6 x7 x8 x9 xs0 hc0

/-- The index keys at a point inside a sequence. -/
theorem block_idxKey (hc0 : ¬cond0_0 i) : out0_B_18 c i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 hc0 x0 x1 x2 x3 x4 x5 x6 x7 x8 x9 xs0 = k0_pay5 (F := Ideal) (k0_pay8 (F := Ideal) x0) x8 := by
  unfold out0_B_18
  rw [View.read_writes_eq_canon _ _ _ (cover0_B_18 c i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 hc0 x0 x1 x2 x3 x4 x5 x6 x7 x8 x9 xs0)]
  exact idxKey c i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 x0 x1 x2 x3 x4 x5 x6 x7 x8 x9 xs0 hc0

/-- The index keys and head weights at a point inside a sequence. -/
theorem block_idxMix (hc0 : ¬cond0_0 i) : out0_B_19 c i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 hc0 x0 x1 x2 x3 x4 x5 x6 x7 x8 x9 xs0 = k0_pay6 (F := Ideal) (k0_pay8 (F := Ideal) x0) x8 := by
  unfold out0_B_19
  rw [View.read_writes_eq_canon _ _ _ (cover0_B_19 c i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 hc0 x0 x1 x2 x3 x4 x5 x6 x7 x8 x9 xs0)]
  exact idxMix c i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 x0 x1 x2 x3 x4 x5 x6 x7 x8 x9 xs0 hc0

/-- The last rows that entered the convolution at a point inside a sequence. -/
theorem block_state (hc0 : ¬cond0_0 i) (r : Fin 8) (j : Fin 1024) : out0_B_20 c i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 hc0 x0 x1 x2 x3 x4 x5 x6 x7 x8 x9 xs0 (ix3 0 r j) = ublk x0 x2 ⟨504 + r.val, by omega⟩ j := by
  unfold out0_B_20
  rw [View.read_writes_eq_canon _ _ _ (cover0_B_20 c i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 hc0 x0 x1 x2 x3 x4 x5 x6 x7 x8 x9 xs0)]
  exact state c i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 x0 x1 x2 x3 x4 x5 x6 x7 x8 x9 xs0 hc0 r j

/-- The rows that a point inside a sequence carries on. -/
theorem block_carry (hc0 : ¬cond0_0 i) (r : Fin 8) (j : Fin 1024) : sout0_B_0 c i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 hc0 x0 x1 x2 x3 x4 x5 x6 x7 x8 x9 xs0 (ix2 ⟨r.val, by omega⟩ j) = ublk x0 x2 ⟨504 + r.val, by omega⟩ j := by
  unfold sout0_B_0
  rw [View.read_writes_eq_canon _ _ _ (scover0_B_0 c i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 hc0 x0 x1 x2 x3 x4 x5 x6 x7 x8 x9 xs0)]
  exact carry c i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 x0 x1 x2 x3 x4 x5 x6 x7 x8 x9 xs0 hc0 r j

end Cert.InProjIdeal.RowsB

end
-- ==== Proof.InProjValue.lean ====
module

public import proofs.«01_k».proof.Proof.InProjBlocks
public import proofs.«01_k».proof.Proof.InProjCasesA
public import proofs.«01_k».proof.Proof.InProjCasesB
public import proofs.«01_k».proof.Proof.Gen.InProjIdeal.Value

/-! The input projection, read at the extended reals: its eleven result arrays. The last eight rows that enter the convolution are
    carried from one block of a sequence to the next. -/

@[expose] public section

set_option maxRecDepth 16384

noncomputable section

namespace Cert.InProjIdeal.Rows

open Cert.InProjIdeal Cert.InProjIdeal.Gen Cert.Rows Idealize.ShloMosaic Idealize.ShloMosaic.ValueIdx Idealize.ShloMosaic.TcCoe Idealize.SL.Sem
open Idealize.ShloMosaic.Pipeline (Dat)
open scoped BigOperators

variable (m : (ℓ : Loc nD τ sig) → Buf (Elt Ideal) ℓ)

/-! ## The convolution of a block -/

/-- The gate and the convolution depend on their eight numbers only. -/
theorem gateConv_congr {a a' b b' u u' v v' w w' p p' q q' s s' : EReal} (h1 : a = a') (h2 : b = b') (h3 : u = u') (h4 : v = v') (h5 : w = w') (h6 : p = p') (h7 : q = q') (h8 : s = s') :
    gateConv a b u v w p q s = gateConv a' b' u' v' w' p' q' s' := by
  subst h1 h2 h3 h4 h5 h6 h7 h8; rfl

/-- The row of the sequence, counted with the two rows before it, that row `s` of the scratch is. -/
def extAt (t : Fin cfg0.N) (s : Fin 520) : Fin 4098 := ⟨t.val % 8 * 512 + s.val - 6, by omega⟩

/-- The scratch holds the sequence's rows, if its two rows before the block do. -/
theorem ext_rows (c : Dev nD) (t : Fin cfg0.N) (before : Fin 8 → Fin 1024 → EReal)
    (hb : ∀ (r : Fin 8) (j : Fin 1024), 6 ≤ r.val → before r j = convExt (argX m c) (argQ m c) (argW m c) (seqAt t) (extAt t ⟨r.val, by omega⟩) j) (s : Fin 520) (hs : 6 ≤ s.val) (j : Fin 1024) :
    ext (iblk m c 0 t) (iblk m c 2 t) before (ix2 s j) = convExt (argX m c) (argQ m c) (argW m c) (seqAt t) (extAt t s) j := by
  by_cases h : s.val < 8
  · exact (ext_before _ _ before s ⟨s.val, h⟩ rfl j).trans (hb ⟨s.val, h⟩ j hs)
  · refine (ext_own _ _ before s ⟨s.val - 8, by omega⟩ (by show s.val = 8 + (s.val - 8); omega) j).trans ((ublk_row m c t _ j).trans ?_)
    have hn : ¬ (extAt t s).val < 2 := by show ¬ t.val % 8 * 512 + s.val - 6 < 2; omega
    unfold convExt
    rw [dif_neg hn]
    refine congrArg (fun r => convRow (argX m c) (argW m c) (seqAt t) r j) (Fin.ext ?_)
    show t.val % 8 * 512 + (s.val - 8) = t.val % 8 * 512 + s.val - 6 - 2
    omega

/-- A block's gated convolution, if the scratch holds the sequence's rows. -/
theorem conv_block (c : Dev nD) (t : Fin cfg0.N) (U : S520x1024.Idx → EReal)
    (hU : ∀ (s : Fin 520) (_ : 6 ≤ s.val) (j : Fin 1024), U (ix2 s j) = convExt (argX m c) (argQ m c) (argW m c) (seqAt t) (extAt t s) j) (r : Fin 512) (j : Fin 1024) :
    convBlk (iblk m c 0 t) (iblk m c 2 t) U (iblk m c 9 t) (ix3 0 r j) = convOut (argX m c) (argQ m c) (argW m c) (argC m c) (ix3 (seqAt t) (rowAt t r) j) := by
  refine gateConv_congr (dot_a0 m c t r _ j (Nat.zero_add _).symm) (dot_a3 m c t r _ j rfl) ((hU _ ?_ j).trans ?_) ((hU _ ?_ j).trans ?_) (ublk_row m c t r j)
    (blk_c m c t 0 j) (blk_c m c t 1 j) (blk_c m c t 2 j)
  · show 6 ≤ 6 + r.val; omega
  · refine congrArg (fun s => convExt (argX m c) (argQ m c) (argW m c) (seqAt t) s j) (Fin.ext ?_)
    show t.val % 8 * 512 + (6 + r.val) - 6 = t.val % 8 * 512 + r.val
    omega
  · show 6 ≤ 7 + r.val; omega
  · refine congrArg (fun s => convExt (argX m c) (argQ m c) (argW m c) (seqAt t) s j) (Fin.ext ?_)
    show t.val % 8 * 512 + (7 + r.val) - 6 = t.val % 8 * 512 + r.val + 1
    omega

/-! ## What a grid point leaves -/

/-- The rows a grid point carries on. -/
theorem carried (c : Dev nD) (t : Fin cfg0.N) (r : Fin 8) (j : Fin 1024) :
    (outsAt0 m c t.val t.isLt).2.2.2.2.2.2.2.2.2.2.2 (ix2 ⟨r.val, by omega⟩ j) = convRow (argX m c) (argW m c) (seqAt t) (rowAt t ⟨504 + r.val, by omega⟩) j := by
  refine Eq.trans ?_ (ublk_row m c t _ j)
  by_cases h0 : t.val % 8 = 0
  · rw [outsAt0_A m c t h0]
    dsimp only
    rw [RowsA.block_carry]
  · rw [outsAt0_B m c t h0]
    dsimp only
    rw [RowsB.block_carry]

/-- The last rows that entered the convolution. -/
theorem left_state (c : Dev nD) (t : Fin cfg0.N) (r : Fin 8) (j : Fin 1024) :
    (outsAt0 m c t.val t.isLt).2.2.2.2.2.2.2.2.2.2.1 (ix3 0 r j) = convRow (argX m c) (argW m c) (seqAt t) (rowAt t ⟨504 + r.val, by omega⟩) j := by
  refine Eq.trans ?_ (ublk_row m c t _ j)
  by_cases h0 : t.val % 8 = 0
  · rw [outsAt0_A m c t h0]
    dsimp only
    rw [RowsA.block_state]
  · rw [outsAt0_B m c t h0]
    dsimp only
    rw [RowsB.block_state]

/-- The point before. -/
def pred (t : Fin cfg0.N) : Fin cfg0.N := ⟨t.val - 1, Nat.lt_of_le_of_lt (Nat.sub_le _ _) t.isLt⟩

/-- The gated convolution. -/
theorem left_conv (c : Dev nD) (t : Fin cfg0.N) (r : Fin 512) (j : Fin 1024) :
    (outsAt0 m c t.val t.isLt).1 (ix3 0 r j) = convOut (argX m c) (argQ m c) (argW m c) (argC m c) (ix3 (seqAt t) (rowAt t r) j) := by
  by_cases h0 : t.val % 8 = 0
  · rw [outsAt0_A m c t h0]
    dsimp only
    rw [RowsA.block_conv]
    refine conv_block m c t _ (ext_rows m c t _ fun s j hs => ?_) r j
    have h2 : (extAt t ⟨s.val, by omega⟩).val < 2 := by show t.val % 8 * 512 + s.val - 6 < 2; omega
    unfold convExt
    rw [dif_pos h2]
    exact blk_q m c t s _ (by show s.val = 6 + (t.val % 8 * 512 + s.val - 6); omega) j
  · rw [outsAt0_B m c t h0]
    dsimp only
    rw [RowsB.block_conv]
    refine conv_block m c t _ (ext_rows m c t _ fun s j hs => ?_) r j
    have h2 : ¬ (extAt t ⟨s.val, by omega⟩).val < 2 := by show ¬ t.val % 8 * 512 + s.val - 6 < 2; omega
    unfold convExt
    rw [dif_neg h2]
    refine (carried m c (pred t) s j).trans (congrArg₂ (fun b r => convRow (argX m c) (argW m c) b r j) (Fin.ext ?_) (Fin.ext ?_))
    · show (t.val - 1) / 8 = t.val / 8; omega
    · show (t.val - 1) % 8 * 512 + (504 + s.val) = t.val % 8 * 512 + s.val - 6 - 2; omega

/-- The scaled queries. -/
theorem left_query (c : Dev nD) (t : Fin cfg0.N) (r : Fin 512) (j : Fin 1024) :
    (outsAt0 m c t.val t.isLt).2.1 (ix3 0 r j) = queryOut (argX m c) (argW m c) (ix3 (seqAt t) (rowAt t r) j) := by
  refine Eq.trans ?_ ((pay32_apply _ _ r j).trans (congrArg (· * Ideal.ofBits .f32 0x3E000000#32) (dot_q m c t r j)))
  by_cases h0 : t.val % 8 = 0
  · rw [outsAt0_A m c t h0]
    dsimp only
    rw [RowsA.block_query]
  · rw [outsAt0_B m c t h0]
    dsimp only
    rw [RowsB.block_query]

/-- The attention gate. -/
theorem left_gate (c : Dev nD) (t : Fin cfg0.N) (r : Fin 512) (j : Fin 1024) :
    (outsAt0 m c t.val t.isLt).2.2.1 (ix3 0 r j) = gateOut (argX m c) (argW m c) (ix3 (seqAt t) (rowAt t r) j) := by
  refine Eq.trans ?_ ((pay33_apply _ _ r j).trans (congrArg Ideal.logistic (dot_g m c t r j)))
  by_cases h0 : t.val % 8 = 0
  · rw [outsAt0_A m c t h0]
    dsimp only
    rw [RowsA.block_gate]
  · rw [outsAt0_B m c t h0]
    dsimp only
    rw [RowsB.block_gate]

/-- The keys. -/
theorem left_key (c : Dev nD) (t : Fin cfg0.N) (r : Fin 512) (j : Fin 512) :
    (outsAt0 m c t.val t.isLt).2.2.2.1 (ix3 0 r j) = headsOut (argX m c) (argW m c) 4096 (by omega) (ix3 (seqAt t) (rowAt t r) j) := by
  refine Eq.trans ?_ ((pay35_apply _ _ r j).trans (dot_k m c t r j))
  by_cases h0 : t.val % 8 = 0
  · rw [outsAt0_A m c t h0]
    dsimp only
    rw [RowsA.block_key]
  · rw [outsAt0_B m c t h0]
    dsimp only
    rw [RowsB.block_key]

/-- The keys in the narrow format. -/
theorem left_keyNarrow (c : Dev nD) (t : Fin cfg0.N) (r : Fin 512) (j : Fin 512) :
    (outsAt0 m c t.val t.isLt).2.2.2.2.1 (ix3 0 r j) = headsOut (argX m c) (argW m c) 4096 (by omega) (ix3 (seqAt t) (rowAt t r) j) := by
  refine Eq.trans ?_ ((pay36_apply _ _ r j).trans (dot_k m c t r j))
  by_cases h0 : t.val % 8 = 0
  · rw [outsAt0_A m c t h0]
    dsimp only
    rw [RowsA.block_keyNarrow]
  · rw [outsAt0_B m c t h0]
    dsimp only
    rw [RowsB.block_keyNarrow]

/-- The values. -/
theorem left_value (c : Dev nD) (t : Fin cfg0.N) (r : Fin 512) (j : Fin 512) :
    (outsAt0 m c t.val t.isLt).2.2.2.2.2.1 (ix3 0 r j) = headsOut (argX m c) (argW m c) 4352 (by omega) (ix3 (seqAt t) (rowAt t r) j) := by
  refine Eq.trans ?_ ((pay1_apply _ _ r j).trans (dot_v m c t r j))
  by_cases h0 : t.val % 8 = 0
  · rw [outsAt0_A m c t h0]
    dsimp only
    rw [RowsA.block_value]
  · rw [outsAt0_B m c t h0]
    dsimp only
    rw [RowsB.block_value]

/-- The values in the narrow format. -/
theorem left_valueNarrow (c : Dev nD) (t : Fin cfg0.N) (r : Fin 512) (j : Fin 512) :
    (outsAt0 m c t.val t.isLt).2.2.2.2.2.2.1 (ix3 0 r j) = headsOut (argX m c) (argW m c) 4352 (by omega) (ix3 (seqAt t) (rowAt t r) j) := by
  refine Eq.trans ?_ ((pay2_apply _ _ r j).trans (dot_v m c t r j))
  by_cases h0 : t.val % 8 = 0
  · rw [outsAt0_A m c t h0]
    dsimp only
    rw [RowsA.block_valueNarrow]
  · rw [outsAt0_B m c t h0]
    dsimp only
    rw [RowsB.block_valueNarrow]

/-- The index queries. -/
theorem left_idxQuery (c : Dev nD) (t : Fin cfg0.N) (r : Fin 512) (j : Fin 512) :
    (outsAt0 m c t.val t.isLt).2.2.2.2.2.2.2.1 (ix3 0 r j) = idxQueryOut (argX m c) (argW m c) (ix3 (seqAt t) (rowAt t r) j) := by
  refine Eq.trans ?_ ((pay3_apply _ _ r j).trans (dot_i m c t r j))
  by_cases h0 : t.val % 8 = 0
  · rw [outsAt0_A m c t h0]
    dsimp only
    rw [RowsA.block_idxQuery]
  · rw [outsAt0_B m c t h0]
    dsimp only
    rw [RowsB.block_idxQuery]

/-- The index keys, written twice. -/
theorem left_idxKey (c : Dev nD) (t : Fin cfg0.N) (r : Fin 512) (j : Fin 128) :
    (outsAt0 m c t.val t.isLt).2.2.2.2.2.2.2.2.1 (ix3 0 r j) = idxKeyOut (argX m c) (argW m c) (ix3 (seqAt t) (rowAt t r) j) := by
  refine Eq.trans ?_ ((pay5_apply _ _ r j).trans (dot_keys m c t r j _ rfl))
  by_cases h0 : t.val % 8 = 0
  · rw [outsAt0_A m c t h0]
    dsimp only
    rw [RowsA.block_idxKey]
  · rw [outsAt0_B m c t h0]
    dsimp only
    rw [RowsB.block_idxKey]

/-- The index keys and head weights. -/
theorem left_idxMix (c : Dev nD) (t : Fin cfg0.N) (r : Fin 512) (j : Fin 128) :
    (outsAt0 m c t.val t.isLt).2.2.2.2.2.2.2.2.2.1 (ix3 0 r j) = idxMixOut (argX m c) (argW m c) (ix3 (seqAt t) (rowAt t r) j) := by
  refine Eq.trans ?_ ((pay6_apply _ _ r j).trans (dot_mix m c t r j _ rfl))
  by_cases h0 : t.val % 8 = 0
  · rw [outsAt0_A m c t h0]
    dsimp only
    rw [RowsA.block_idxMix]
  · rw [outsAt0_B m c t h0]
    dsimp only
    rw [RowsB.block_idxMix]

/-! ## The result arrays -/

/-- A block of 512 rows lies at the point's sequence and tile. -/
abbrev At (ix : Fin 3 → ℕ) (t : Fin cfg0.N) : Prop := ix 0 = t.val / 8 ∧ ix 1 = t.val % 8 ∧ ix 2 = 0

/-- Every result of 512 rows a point is written at the point's sequence and tile. -/
theorem idx_out : ∀ t : Fin cfg0.N, At (win0_10.index t) t ∧ At (win0_11.index t) t ∧ At (win0_12.index t) t ∧ At (win0_13.index t) t ∧ At (win0_14.index t) t ∧ At (win0_15.index t) t ∧ At (win0_16.index t) t ∧ At (win0_17.index t) t ∧ At (win0_18.index t) t ∧ At (win0_19.index t) t :=
  (by decide +kernel : ∀ t : Fin grid0.N, At (win0_10.index t) t ∧ At (win0_11.index t) t ∧ At (win0_12.index t) t ∧ At (win0_13.index t) t ∧ At (win0_14.index t) t ∧ At (win0_15.index t) t ∧ At (win0_16.index t) t ∧ At (win0_17.index t) t ∧ At (win0_18.index t) t ∧ At (win0_19.index t) t)

/-- The last rows are written at the point's sequence. -/
theorem idx_state : ∀ t : Fin cfg0.N, win0_20.index t 0 = t.val / 8 ∧ win0_20.index t 1 = 0 ∧ win0_20.index t 2 = 0 :=
  (by decide +kernel : ∀ t : Fin grid0.N, win0_20.index t 0 = t.val / 8 ∧ win0_20.index t 1 = 0 ∧ win0_20.index t 2 = 0)

/-- An array read at a point's block of rows. -/
theorem read_rows {N : ℕ} {α : Type} (G : (⟨3, ![16, 4096, N]⟩ : Shape).Idx → α) {ix : Fin 3 → ℕ} {t : Fin cfg0.N} (h : At ix t) (r : Fin 512) (j : Fin N) (i : (⟨3, ![16, 4096, N]⟩ : Shape).Idx)
    (hi : ∀ a : Fin 3, (i a).val = ix a * (![1, 512, N] : Fin 3 → ℕ) a + 1 * ((ix3 (0 : Fin 1) r j : (⟨3, ![1, 512, N]⟩ : Shape).Idx) a).val) : G (ix3 (seqAt t) (rowAt t r) j) = G i := by
  refine congrArg G (funext fun a => Fin.ext (Eq.trans ?_ (hi a).symm))
  match a with
  | ⟨0, _⟩ => show t.val / 8 = ix 0 * 1 + 1 * 0; rw [h.1]; omega
  | ⟨1, _⟩ => show t.val % 8 * 512 + r.val = ix 1 * 512 + 1 * r.val; rw [h.2.1]; omega
  | ⟨2, _⟩ => show j.val = ix 2 * N + 1 * j.val; rw [h.2.2]; omega

/-- The point that writes an element of an array. -/
def pointOf {N : ℕ} (i : (⟨3, ![16, 4096, N]⟩ : Shape).Idx) : Fin cfg0.N :=
  ⟨(i 0).val * 8 + (i 1).val / 512, by
    have h0 : (i 0).val < 16 := (i 0).isLt
    have h1 : (i 1).val < 4096 := (i 1).isLt
    have hN : cfg0.N = 128 := N_0
    omega⟩

/-- The element lies in that point's block. -/
theorem in_rows {N : ℕ} (i : (⟨3, ![16, 4096, N]⟩ : Shape).Idx) {ix : Fin 3 → ℕ} (h : At ix (pointOf i)) (a : Fin 3) :
    ix a * (![1, 512, N] : Fin 3 → ℕ) a ≤ (i a).val ∧ (i a).val < ix a * (![1, 512, N] : Fin 3 → ℕ) a + (![1, 512, N] : Fin 3 → ℕ) a := by
  have h0 : (i 0).val < 16 := (i 0).isLt
  have h1 : (i 1).val < 4096 := (i 1).isLt
  have h2 : (i 2).val < N := (i 2).isLt
  have e0 : ix 0 = ((i 0).val * 8 + (i 1).val / 512) / 8 := h.1
  have e1 : ix 1 = ((i 0).val * 8 + (i 1).val / 512) % 8 := h.2.1
  match a with
  | ⟨0, _⟩ => show ix 0 * 1 ≤ (i 0).val ∧ (i 0).val < ix 0 * 1 + 1; rw [e0]; omega
  | ⟨1, _⟩ => show ix 1 * 512 ≤ (i 1).val ∧ (i 1).val < ix 1 * 512 + 512; rw [e1]; omega
  | ⟨2, _⟩ => show ix 2 * N ≤ (i 2).val ∧ (i 2).val < ix 2 * N + N; rw [h.2.2]; omega

/-- The gated convolution. -/
theorem final_conv (c : Dev nD) : (dats m 0 c).arrAt 10 cfg0.N = (convOut (argX m c) (argQ m c) (argW m c) (argC m c) : S16x4096x1024.Idx → EReal) := by
  refine (dats m 0 c).arrAt_eq_of_cover 10 _ (fun t _ => ?_) fun i => ⟨pointOf i, flush0_10 _, ?_⟩
  · rw [Value.flushed10]
    funext y
    obtain ⟨r, j, rfl⟩ : ∃ (r : Fin 512) (j : Fin 1024), y = ix3 0 r j := ⟨y 1, y 2, eq_ix3_zero y⟩
    exact (left_conv m c t r j).trans (read_rows _ (idx_out t).1 r j _ fun _ => rfl)
  · show i ∈ ((View.whole main_v33_0).slice (win0_10.rect (pointOf i))).set
    rw [View.set_slice_whole, Rect.mem_set_unit]
    exact in_rows i (idx_out _).1

/-- The scaled queries. -/
theorem final_query (c : Dev nD) : (dats m 0 c).arrAt 11 cfg0.N = (queryOut (argX m c) (argW m c) : S16x4096x1024.Idx → EReal) := by
  refine (dats m 0 c).arrAt_eq_of_cover 11 _ (fun t _ => ?_) fun i => ⟨pointOf i, flush0_11 _, ?_⟩
  · rw [Value.flushed11]
    funext y
    obtain ⟨r, j, rfl⟩ : ∃ (r : Fin 512) (j : Fin 1024), y = ix3 0 r j := ⟨y 1, y 2, eq_ix3_zero y⟩
    exact (left_query m c t r j).trans (read_rows _ (idx_out t).2.1 r j _ fun _ => rfl)
  · show i ∈ ((View.whole main_v33_1).slice (win0_11.rect (pointOf i))).set
    rw [View.set_slice_whole, Rect.mem_set_unit]
    exact in_rows i (idx_out _).2.1

/-- The attention gate. -/
theorem final_gate (c : Dev nD) : (dats m 0 c).arrAt 12 cfg0.N = (gateOut (argX m c) (argW m c) : S16x4096x1024.Idx → EReal) := by
  refine (dats m 0 c).arrAt_eq_of_cover 12 _ (fun t _ => ?_) fun i => ⟨pointOf i, flush0_12 _, ?_⟩
  · rw [Value.flushed12]
    funext y
    obtain ⟨r, j, rfl⟩ : ∃ (r : Fin 512) (j : Fin 1024), y = ix3 0 r j := ⟨y 1, y 2, eq_ix3_zero y⟩
    exact (left_gate m c t r j).trans (read_rows _ (idx_out t).2.2.1 r j _ fun _ => rfl)
  · show i ∈ ((View.whole main_v33_2).slice (win0_12.rect (pointOf i))).set
    rw [View.set_slice_whole, Rect.mem_set_unit]
    exact in_rows i (idx_out _).2.2.1

/-- The keys. -/
theorem final_key (c : Dev nD) : (dats m 0 c).arrAt 13 cfg0.N = (headsOut (argX m c) (argW m c) 4096 (by omega) : S16x4096x512.Idx → EReal) := by
  refine (dats m 0 c).arrAt_eq_of_cover 13 _ (fun t _ => ?_) fun i => ⟨pointOf i, flush0_13 _, ?_⟩
  · rw [Value.flushed13]
    funext y
    obtain ⟨r, j, rfl⟩ : ∃ (r : Fin 512) (j : Fin 512), y = ix3 0 r j := ⟨y 1, y 2, eq_ix3_zero y⟩
    exact (left_key m c t r j).trans (read_rows _ (idx_out t).2.2.2.1 r j _ fun _ => rfl)
  · show i ∈ ((View.whole main_v33_3).slice (win0_13.rect (pointOf i))).set
    rw [View.set_slice_whole, Rect.mem_set_unit]
    exact in_rows i (idx_out _).2.2.2.1

/-- The keys in the narrow format. -/
theorem final_keyNarrow (c : Dev nD) : (dats m 0 c).arrAt 14 cfg0.N = (headsOut (argX m c) (argW m c) 4096 (by omega) : S16x4096x512.Idx → EReal) := by
  refine (dats m 0 c).arrAt_eq_of_cover 14 _ (fun t _ => ?_) fun i => ⟨pointOf i, flush0_14 _, ?_⟩
  · rw [Value.flushed14]
    funext y
    obtain ⟨r, j, rfl⟩ : ∃ (r : Fin 512) (j : Fin 512), y = ix3 0 r j := ⟨y 1, y 2, eq_ix3_zero y⟩
    exact (left_keyNarrow m c t r j).trans (read_rows _ (idx_out t).2.2.2.2.1 r j _ fun _ => rfl)
  · show i ∈ ((View.whole main_v33_4).slice (win0_14.rect (pointOf i))).set
    rw [View.set_slice_whole, Rect.mem_set_unit]
    exact in_rows i (idx_out _).2.2.2.2.1

/-- The values. -/
theorem final_value (c : Dev nD) : (dats m 0 c).arrAt 15 cfg0.N = (headsOut (argX m c) (argW m c) 4352 (by omega) : S16x4096x512.Idx → EReal) := by
  refine (dats m 0 c).arrAt_eq_of_cover 15 _ (fun t _ => ?_) fun i => ⟨pointOf i, flush0_15 _, ?_⟩
  · rw [Value.flushed15]
    funext y
    obtain ⟨r, j, rfl⟩ : ∃ (r : Fin 512) (j : Fin 512), y = ix3 0 r j := ⟨y 1, y 2, eq_ix3_zero y⟩
    exact (left_value m c t r j).trans (read_rows _ (idx_out t).2.2.2.2.2.1 r j _ fun _ => rfl)
  · show i ∈ ((View.whole main_v33_5).slice (win0_15.rect (pointOf i))).set
    rw [View.set_slice_whole, Rect.mem_set_unit]
    exact in_rows i (idx_out _).2.2.2.2.2.1

/-- The values in the narrow format. -/
theorem final_valueNarrow (c : Dev nD) : (dats m 0 c).arrAt 16 cfg0.N = (headsOut (argX m c) (argW m c) 4352 (by omega) : S16x4096x512.Idx → EReal) := by
  refine (dats m 0 c).arrAt_eq_of_cover 16 _ (fun t _ => ?_) fun i => ⟨pointOf i, flush0_16 _, ?_⟩
  · rw [Value.flushed16]
    funext y
    obtain ⟨r, j, rfl⟩ : ∃ (r : Fin 512) (j : Fin 512), y = ix3 0 r j := ⟨y 1, y 2, eq_ix3_zero y⟩
    exact (left_valueNarrow m c t r j).trans (read_rows _ (idx_out t).2.2.2.2.2.2.1 r j _ fun _ => rfl)
  · show i ∈ ((View.whole main_v33_6).slice (win0_16.rect (pointOf i))).set
    rw [View.set_slice_whole, Rect.mem_set_unit]
    exact in_rows i (idx_out _).2.2.2.2.2.2.1

/-- The index queries. -/
theorem final_idxQuery (c : Dev nD) : (dats m 0 c).arrAt 17 cfg0.N = (idxQueryOut (argX m c) (argW m c) : S16x4096x512.Idx → EReal) := by
  refine (dats m 0 c).arrAt_eq_of_cover 17 _ (fun t _ => ?_) fun i => ⟨pointOf i, flush0_17 _, ?_⟩
  · rw [Value.flushed17]
    funext y
    obtain ⟨r, j, rfl⟩ : ∃ (r : Fin 512) (j : Fin 512), y = ix3 0 r j := ⟨y 1, y 2, eq_ix3_zero y⟩
    exact (left_idxQuery m c t r j).trans (read_rows _ (idx_out t).2.2.2.2.2.2.2.1 r j _ fun _ => rfl)
  · show i ∈ ((View.whole main_v33_7).slice (win0_17.rect (pointOf i))).set
    rw [View.set_slice_whole, Rect.mem_set_unit]
    exact in_rows i (idx_out _).2.2.2.2.2.2.2.1

/-- The index keys, written twice. -/
theorem final_idxKey (c : Dev nD) : (dats m 0 c).arrAt 18 cfg0.N = (idxKeyOut (argX m c) (argW m c) : S16x4096x128.Idx → EReal) := by
  refine (dats m 0 c).arrAt_eq_of_cover 18 _ (fun t _ => ?_) fun i => ⟨pointOf i, flush0_18 _, ?_⟩
  · rw [Value.flushed18]
    funext y
    obtain ⟨r, j, rfl⟩ : ∃ (r : Fin 512) (j : Fin 128), y = ix3 0 r j := ⟨y 1, y 2, eq_ix3_zero y⟩
    exact (left_idxKey m c t r j).trans (read_rows _ (idx_out t).2.2.2.2.2.2.2.2.1 r j _ fun _ => rfl)
  · show i ∈ ((View.whole main_v33_8).slice (win0_18.rect (pointOf i))).set
    rw [View.set_slice_whole, Rect.mem_set_unit]
    exact in_rows i (idx_out _).2.2.2.2.2.2.2.2.1

/-- The index keys and head weights. -/
theorem final_idxMix (c : Dev nD) : (dats m 0 c).arrAt 19 cfg0.N = (idxMixOut (argX m c) (argW m c) : S16x4096x128.Idx → EReal) := by
  refine (dats m 0 c).arrAt_eq_of_cover 19 _ (fun t _ => ?_) fun i => ⟨pointOf i, flush0_19 _, ?_⟩
  · rw [Value.flushed19]
    funext y
    obtain ⟨r, j, rfl⟩ : ∃ (r : Fin 512) (j : Fin 128), y = ix3 0 r j := ⟨y 1, y 2, eq_ix3_zero y⟩
    exact (left_idxMix m c t r j).trans (read_rows _ (idx_out t).2.2.2.2.2.2.2.2.2 r j _ fun _ => rfl)
  · show i ∈ ((View.whole main_v33_9).slice (win0_19.rect (pointOf i))).set
    rw [View.set_slice_whole, Rect.mem_set_unit]
    exact in_rows i (idx_out _).2.2.2.2.2.2.2.2.2

/-- The last eight rows that entered the convolution. -/
theorem final_state (c : Dev nD) : (dats m 0 c).arrAt 20 cfg0.N = (stateOut (argX m c) (argW m c) : S16x8x1024.Idx → EReal) := by
  have hN : cfg0.N = 128 := N_0
  refine (dats m 0 c).arrAt_eq_of_cover 20 _ (fun t hf => ?_) fun i => ?_
  · have h7 : t.val % 8 = 7 := (flush0_20 t).mp hf
    rw [Value.flushed20]
    funext y
    obtain ⟨r, j, rfl⟩ : ∃ (r : Fin 8) (j : Fin 1024), y = ix3 0 r j := ⟨y 1, y 2, eq_ix3_zero y⟩
    have e : ((cfg0.win 20).blk t).view.read (Elt Ideal) (stateOut (argX m c) (argW m c)) (ix3 0 r j) = (stateOut (argX m c) (argW m c) : S16x8x1024.Idx → EReal) (ix3 (seqAt t) r j) := by
      refine congrArg (stateOut (argX m c) (argW m c)) (funext fun a => Fin.ext ?_)
      match a with
      | ⟨0, _⟩ => show win0_20.index t 0 * 1 + 1 * 0 = t.val / 8; rw [(idx_state t).1]; omega
      | ⟨1, _⟩ => show win0_20.index t 1 * 8 + 1 * r.val = r.val; rw [(idx_state t).2.1]; omega
      | ⟨2, _⟩ => show win0_20.index t 2 * 1024 + 1 * j.val = j.val; rw [(idx_state t).2.2]; omega
    refine ((left_state m c t r j).trans (congrArg (fun s => convRow (argX m c) (argW m c) (seqAt t) s j) (Fin.ext ?_))).trans e.symm
    show t.val % 8 * 512 + (504 + r.val) = 4088 + r.val
    omega
  · have h0 : (i 0).val < 16 := (i 0).isLt
    have h1 : (i 1).val < 8 := (i 1).isLt
    have h2 : (i 2).val < 1024 := (i 2).isLt
    obtain ⟨t, ht⟩ : ∃ t : Fin cfg0.N, t.val = (i 0).val * 8 + 7 := ⟨⟨(i 0).val * 8 + 7, by omega⟩, rfl⟩
    refine ⟨t, (flush0_20 t).mpr (by omega), ?_⟩
    show i ∈ ((View.whole main_v33_10).slice (win0_20.rect t)).set
    rw [View.set_slice_whole, Rect.mem_set_unit]
    intro a
    match a with
    | ⟨0, _⟩ => show win0_20.index t 0 * 1 ≤ (i 0).val ∧ (i 0).val < win0_20.index t 0 * 1 + 1; rw [(idx_state t).1]; omega
    | ⟨1, _⟩ => show win0_20.index t 1 * 8 ≤ (i 1).val ∧ (i 1).val < win0_20.index t 1 * 8 + 8; rw [(idx_state t).2.1]; omega
    | ⟨2, _⟩ => show win0_20.index t 2 * 1024 ≤ (i 2).val ∧ (i 2).val < win0_20.index t 2 * 1024 + 1024; rw [(idx_state t).2.2]; omega

end Cert.InProjIdeal.Rows

end
-- ==== Proof.SeqHost.lean ====
module

public import proofs.«01_k».proof.Proof.InProjRows
public import proofs.«01_k».proof.Proof.HostRows

/-! The host's operations on arrays of 16 sequences of `T` rows, read at an element. -/

@[expose] public section

noncomputable section

namespace Cert.Rows

open Idealize Idealize.ShloMosaic Idealize.ShloMosaic.ValueIdx

/-- An element of columns cut out from column `o`. -/
theorem cols3 {T N n : ℕ} {α : Type} (o : ℕ) (v : (⟨3, ![16, T, N]⟩ : Shape).Idx → α) (hs : (⟨3, ![16, T, N]⟩ : Shape).Slices ![0, 0, o] ⟨3, ![16, T, n]⟩) (b : Fin 16) (t : Fin T) (j : Fin n) (j' : Fin N)
    (hj : j'.val = o + j.val) : extractStridedSlice ⟨3, ![16, T, n]⟩ ![0, 0, o] v hs (ix3 b t j) = v (ix3 b t j') :=
  extractStridedSlice_apply _ v hs _ _ fun a => by
    match a with
    | ⟨0, _⟩ => show b.val = 0 + b.val; omega
    | ⟨1, _⟩ => show t.val = 0 + t.val; omega
    | ⟨2, _⟩ => exact hj

/-- An element of rows cut out from row `o`. -/
theorem rows3 {A B C : ℕ} {α : Type} (o : ℕ) (v : (⟨3, ![A, B, 1024]⟩ : Shape).Idx → α) (hs : (⟨3, ![A, B, 1024]⟩ : Shape).Slices ![0, o, 0] ⟨3, ![A, C, 1024]⟩) (b : Fin A) (t : Fin C) (j : Fin 1024) (t' : Fin B)
    (ht : t'.val = o + t.val) : extractStridedSlice ⟨3, ![A, C, 1024]⟩ ![0, o, 0] v hs (ix3 b t j) = v (ix3 b t' j) :=
  extractStridedSlice_apply _ v hs _ _ fun a => by
    match a with
    | ⟨0, _⟩ => show b.val = 0 + b.val; omega
    | ⟨1, _⟩ => exact ht
    | ⟨2, _⟩ => show j.val = 0 + j.val; omega

/-- An element of arrays set side by side, in the one that starts at column `pre`. -/
theorem side3 {T N B : ℕ} {α : Type} (xs : List ((s : Shape) × (s.Idx → α))) (h : Shape.Concatenates (xs.map (·.1)) ⟨3, ![16, T, N]⟩ 2) (p : ℕ) (hp : p < xs.length)
    (x : (⟨3, ![16, T, B]⟩ : Shape).Idx → α) (hx : xs[p] = ⟨⟨3, ![16, T, B]⟩, x⟩) (pre : ℕ)
    (hpre : (((xs.take p).map (·.1)).map fun s => if h : s.rank = (⟨3, ![16, T, N]⟩ : Shape).rank then s.size ((2 : Fin 3).cast h.symm) else 0).sum = pre)
    (b : Fin 16) (t : Fin T) (n : Fin N) (j : Fin B) (hn : pre + j.val = n.val) : concatenate ⟨3, ![16, T, N]⟩ 2 xs h (ix3 b t n) = x (ix3 b t j) :=
  concatenate_apply_piece 2 xs h (ix3 b t n) p hp _ x hx rfl pre hpre (ix3 b t j) (fun a ha => by
    match a with
    | ⟨0, _⟩ => rfl
    | ⟨1, _⟩ => rfl
    | ⟨2, _⟩ => exact absurd rfl ha) hn

/-- The host's logistic function at an index. -/
theorem sigmoid_apply {s : Shape} (a : FVec Ideal s .f32) (h : (⟨0, ![]⟩ : Shape).BroadcastsInDim s (![] : Fin 0 → Fin s.rank)) (i : s.Idx) :
    Host.divf (broadcastInDim s ![] h (constant (F := Ideal) (⟨0, ![]⟩ : Shape) .f32 0x3F800000#32)) (addf (broadcastInDim s ![] h (constant (F := Ideal) (⟨0, ![]⟩ : Shape) .f32 0x3F800000#32)) (Host.exp (Host.negf a))) i = Ideal.logistic (a i) := by
  have e : broadcastInDim s ![] h (constant (F := Ideal) (⟨0, ![]⟩ : Shape) .f32 0x3F800000#32) i = (1 : EReal) := (fill_apply _ _ _).trans Ideal.ofBits_one_f32
  exact congrArg₂ Ideal.div e (congrArg (· + _) e)

/-- A tap of the convolution, written in every row. -/
theorem tap_apply {T : ℕ} {α : Type} (d : Fin 3) (v : (⟨3, ![2, 3, 1024]⟩ : Shape).Idx → α) (hs : (⟨3, ![2, 3, 1024]⟩ : Shape).Slices ![0, d.val, 0] ⟨3, ![1, 1, 1024]⟩) (hc : (⟨3, ![1, 1, 1024]⟩ : Shape).ShapeCasts ⟨1, ![1024]⟩)
    (h1 : (⟨1, ![1024]⟩ : Shape).BroadcastsInDim ⟨3, ![1, 1, 1024]⟩ ![2]) (h3 : (⟨3, ![1, 1, 1024]⟩ : Shape).BroadcastsInDim ⟨3, ![16, T, 1024]⟩ ![0, 1, 2]) (b : Fin 16) (t : Fin T) (j : Fin 1024) :
    broadcastInDim ⟨3, ![16, T, 1024]⟩ ![0, 1, 2] h3 (broadcastInDim ⟨3, ![1, 1, 1024]⟩ ![2] h1 (shapeCast ⟨1, ![1024]⟩ (extractStridedSlice ⟨3, ![1, 1, 1024]⟩ ![0, d.val, 0] v hs) hc)) (ix3 b t j)
      = v (ix3 0 d j) := by
  refine (broadcastInDim_apply _ h3 _ _ (ix3 0 0 j) fun a => ?_).trans ((broadcastInDim_apply _ h1 _ _ (ix1 j) fun a => ?_).trans
    ((shapeCast_apply _ _ _ (ix3 0 0 j) ?_).trans (extractStridedSlice_apply _ v hs _ _ fun a => ?_)))
  · match a with
    | ⟨0, _⟩ => show 0 = if (1 : ℕ) = 1 then 0 else b.val; rw [if_pos rfl]
    | ⟨1, _⟩ => show 0 = if (1 : ℕ) = 1 then 0 else t.val; rw [if_pos rfl]
    | ⟨2, _⟩ => show j.val = if (1024 : ℕ) = 1 then 0 else j.val; rw [if_neg (by decide)]
  · match a with
    | ⟨0, _⟩ => show j.val = if (1024 : ℕ) = 1 then 0 else j.val; rw [if_neg (by decide)]
  · rw [Shape.rowMajor_val_three, Shape.rowMajor_val_one]
    show (0 * 1 + 0) * 1024 + j.val = j.val
    omega
  · match a with
    | ⟨0, _⟩ => rfl
    | ⟨1, _⟩ => show d.val = d.val + 0; omega
    | ⟨2, _⟩ => show j.val = 0 + j.val; omega

/-- Four heads of 64 columns, each head written twice. -/
theorem heads_apply {T : ℕ} {α : Type} (v : (⟨3, ![16, T, 256]⟩ : Shape).Idx → α) (h1 : (⟨3, ![16, T, 256]⟩ : Shape).ShapeCasts ⟨5, ![16, T, 4, 1, 64]⟩)
    (h2 : (⟨5, ![16, T, 4, 1, 64]⟩ : Shape).BroadcastsInDim ⟨5, ![16, T, 4, 2, 64]⟩ ![0, 1, 2, 3, 4]) (h3 : (⟨5, ![16, T, 4, 2, 64]⟩ : Shape).ShapeCasts ⟨3, ![16, T, 512]⟩) (b : Fin 16) (t : Fin T) (j : Fin 512) :
    shapeCast ⟨3, ![16, T, 512]⟩ (broadcastInDim ⟨5, ![16, T, 4, 2, 64]⟩ ![0, 1, 2, 3, 4] h2 (shapeCast ⟨5, ![16, T, 4, 1, 64]⟩ v h1)) h3 (ix3 b t j) = v (ix3 b t (twice j)) := by
  have h4 : j.val / 128 < 4 := by omega
  have h2' : j.val % 128 / 64 < 2 := by omega
  have h64 : j.val % 64 < 64 := by omega
  refine (shapeCast_apply _ _ _ (ix5 b t (⟨j.val / 128, h4⟩ : Fin 4) (⟨j.val % 128 / 64, h2'⟩ : Fin 2) (⟨j.val % 64, h64⟩ : Fin 64)) ?_).trans
    ((broadcastInDim_apply _ h2 _ _ (ix5 b t (⟨j.val / 128, h4⟩ : Fin 4) (0 : Fin 1) (⟨j.val % 64, h64⟩ : Fin 64)) fun a => ?_).trans (shapeCast_apply v _ _ (ix3 b t (twice j)) ?_))
  · rw [Shape.rowMajor_val_five, Shape.rowMajor_val_three]
    show (((b.val * T + t.val) * 4 + j.val / 128) * 2 + j.val % 128 / 64) * 64 + j.val % 64 = (b.val * T + t.val) * 512 + j.val
    generalize b.val * T + t.val = q
    omega
  · match a with
    | ⟨0, _⟩ => show b.val = if (16 : ℕ) = 1 then 0 else b.val; rw [if_neg (by decide)]
    | ⟨1, _⟩ => show t.val = if T = 1 then 0 else t.val; split <;> omega
    | ⟨2, _⟩ => show j.val / 128 = if (4 : ℕ) = 1 then 0 else j.val / 128; rw [if_neg (by decide)]
    | ⟨3, _⟩ => show 0 = if (1 : ℕ) = 1 then 0 else j.val % 128 / 64; rw [if_pos rfl]
    | ⟨4, _⟩ => show j.val % 64 = if (64 : ℕ) = 1 then 0 else j.val % 64; rw [if_neg (by decide)]
  · rw [Shape.rowMajor_val_three, Shape.rowMajor_val_five]
    show (b.val * T + t.val) * 256 + (j.val / 128 * 64 + j.val % 64) = (((b.val * T + t.val) * 4 + j.val / 128) * 1 + 0) * 64 + j.val % 64
    generalize b.val * T + t.val = q
    omega

end Cert.Rows

end
-- ==== Proof.InProjRef.lean ====
module

public import proofs.«01_k».proof.Proof.SeqHost
public import proofs.«01_k».proof.Proof.Gen.InProjRefIdeal.Read

/-! The input projection reference computes the row formulas: the columns of `x · w`, the gated short convolution, and the layouts
    of the results. -/

@[expose] public section

noncomputable section

namespace Cert.InProjRefIdeal.Rows

open Idealize Idealize.ShloMosaic Idealize.ShloMosaic.ValueIdx Cert.Rows Cert.InProjRefIdeal Cert.InProjRefIdeal.Gen Cert.InProjRefIdeal.Read

variable (x0 : S16x4096x1024.Idx → EReal) (x1 : S16x2x1024.Idx → EReal) (x2 : S2x1024x7240.Idx → EReal) (x3 : S2x3x1024.Idx → EReal)

/-! ## The projection and its parts -/

/-- An element of the projection. -/
theorem proj_apply (b : Fin 16) (t : Fin 4096) (n : Fin 7240) : val_main_v2 (F := Ideal) x0 x2 (ix3 b t n) = proj x0 x2 b t n := by
  refine (val_main_v2_apply x0 x2 (ix3 b t n)).trans ?_
  unfold proj rowDot
  refine Finset.sum_congr rfl fun k _ => ?_
  have e1 : lidx_main_v2 (ix3 b t n) k = ix3 b t k := funext fun a => by
    match a with
    | ⟨0, _⟩ => rfl
    | ⟨1, _⟩ => rfl
    | ⟨2, _⟩ => rfl
  have e2 : ridx_main_v2 (ix3 b t n) k = ix2 k n := funext fun a => by
    match a with
    | ⟨0, _⟩ => rfl
    | ⟨1, _⟩ => rfl
  rw [e1, e2]
  exact congrArg (x0 (ix3 b t k) * ·) (member_apply 0 x2 slices_S2x1024x7240_S1x1024x7240_0_0_0 shapeCasts_S1x1024x7240_S1024x7240 k n)

/-- An element of the columns from column `o` of the projection. -/
theorem part_apply {n : ℕ} (o : ℕ) (h : o + n ≤ 7240) (hs : S16x4096x7240.Slices ![0, 0, o] ⟨3, ![16, 4096, n]⟩) (b : Fin 16) (t : Fin 4096) (j : Fin n) :
    extractStridedSlice ⟨3, ![16, 4096, n]⟩ ![0, 0, o] (val_main_v2 (F := Ideal) x0 x2) hs (ix3 b t j) = part x0 x2 o h b t j :=
  (cols3 o _ hs b t j ⟨o + j.val, by omega⟩ rfl).trans (proj_apply x0 x2 b t _)

/-- The rows that enter the convolution. -/
theorem row_apply (b : Fin 16) (t : Fin 4096) (j : Fin 1024) : val_main_v14 (F := Ideal) x0 x2 (ix3 b t j) = convRow x0 x2 b t j :=
  congrArg₂ (fun u v : EReal => u * v) (part_apply x0 x2 1024 (by omega) slices_S16x4096x7240_S16x4096x1024_0_0_1024 b t j) (part_apply x0 x2 2048 (by omega) slices_S16x4096x7240_S16x4096x1024_0_0_2048 b t j)

/-- The rows that enter the convolution, with two rows in front. -/
theorem ext_apply (b : Fin 16) (s : Fin 4098) (j : Fin 1024) : val_main_v15 (F := Ideal) x0 x1 x2 (ix3 b s j) = convExt x0 x1 x2 b s j := by
  unfold convExt
  by_cases h : s.val < 2
  · rw [dif_pos h]
    refine concatenate_pair_apply_left (t := S16x4098x1024) (s₁ := S16x2x1024) (s₂ := S16x4096x1024) (1 : Fin 3) x1 _ _ _ rfl (ix3 b (⟨s.val, h⟩ : Fin 2) j) fun a => ?_
    match a with
    | ⟨0, _⟩ => rfl
    | ⟨1, _⟩ => rfl
    | ⟨2, _⟩ => rfl
  · rw [dif_neg h]
    refine (concatenate_pair_apply_right (t := S16x4098x1024) (s₁ := S16x2x1024) (s₂ := S16x4096x1024) (1 : Fin 3) x1 (val_main_v14 (F := Ideal) x0 x2) _ _ rfl rfl (ix3 b (⟨s.val - 2, by omega⟩ : Fin 4096) j) (fun a ha => ?_) ?_).trans (row_apply x0 x2 b _ j)
    · match a with
      | ⟨0, _⟩ => rfl
      | ⟨1, _⟩ => exact absurd rfl ha
      | ⟨2, _⟩ => rfl
    · show s.val - 2 + 2 = s.val
      omega

/-! ## The results -/

/-- The gated convolution. -/
theorem conv_eq : val_main_v43 (F := Ideal) x0 x1 x2 x3 = convOut x0 x1 x2 x3 := by
  funext i
  obtain ⟨b, t, j, rfl⟩ : ∃ (b : Fin 16) (t : Fin 4096) (j : Fin 1024), i = ix3 b t j := ⟨i 0, i 1, i 2, eq_ix3 i⟩
  have hu : val_main_v29 (F := Ideal) x0 x1 x2 (ix3 b t j) = convRow x0 x2 b t j := by
    refine (rows3 2 _ slices_S16x4098x1024_S16x4096x1024_0_2_0 b t j ⟨2 + t.val, by omega⟩ rfl).trans ((ext_apply x0 x1 x2 b _ j).trans ?_)
    unfold convExt
    rw [dif_neg (show ¬ 2 + t.val < 2 by omega)]
    exact congrArg (fun r => convRow x0 x2 b r j) (Fin.ext (show 2 + t.val - 2 = t.val by omega))
  have h0 : val_main_v16 (F := Ideal) x0 x1 x2 (ix3 b t j) = convExt x0 x1 x2 b ⟨t.val, by omega⟩ j :=
    (rows3 0 _ slices_S16x4098x1024_S16x4096x1024_0_0_0 b t j ⟨t.val, by omega⟩ (Nat.zero_add _).symm).trans (ext_apply x0 x1 x2 b _ j)
  have h1 : val_main_v22 (F := Ideal) x0 x1 x2 (ix3 b t j) = convExt x0 x1 x2 b ⟨t.val + 1, by omega⟩ j :=
    (rows3 1 _ slices_S16x4098x1024_S16x4096x1024_0_1_0 b t j ⟨t.val + 1, by omega⟩ (Nat.add_comm _ _)).trans (ext_apply x0 x1 x2 b _ j)
  have hg : val_main_v41 (F := Ideal) x0 x2 (ix3 b t j) = Ideal.logistic (part x0 x2 5192 (n := 1024) (by omega) b t j) :=
    (sigmoid_apply (val_main_v12 (F := Ideal) x0 x2) bcast_S_S16x4096x1024 _).trans (congrArg Ideal.logistic (part_apply x0 x2 5192 (by omega) slices_S16x4096x7240_S16x4096x1024_0_0_5192 b t j))
  have hb : val_main_v3 (F := Ideal) x0 x2 (ix3 b t j) = part x0 x2 0 (n := 1024) (by omega) b t j := part_apply x0 x2 0 (by omega) slices_S16x4096x7240_S16x4096x1024_0_0_0 b t j
  have c0 : val_main_v20 (F := Ideal) x3 (ix3 b t j) = x3 (ix3 0 0 j) := tap_apply 0 x3 slices_S2x3x1024_S1x1x1024_0_0_0 _ _ _ b t j
  have c1 : val_main_v26 (F := Ideal) x3 (ix3 b t j) = x3 (ix3 0 1 j) := tap_apply 1 x3 slices_S2x3x1024_S1x1x1024_0_1_0 _ _ _ b t j
  have c2 : val_main_v33 (F := Ideal) x3 (ix3 b t j) = x3 (ix3 0 2 j) := tap_apply 2 x3 slices_S2x3x1024_S1x1x1024_0_2_0 _ _ _ b t j
  refine (val_main_v43_apply (F := Ideal) x0 x1 x2 x3 _).trans (congrArg₂ (fun u v : EReal => u * v) hg ?_)
  refine (val_main_v42_apply (F := Ideal) x0 x1 x2 x3 _).trans (congrArg₂ (fun u v : EReal => u * v) hb ?_)
  refine (val_main_v35_apply (F := Ideal) x0 x1 x2 x3 _).trans (congrArg₂ (fun u v : EReal => u + v) ?_ ?_)
  · refine (val_main_v28_apply (F := Ideal) x0 x1 x2 x3 _).trans (congrArg₂ (fun u v : EReal => u + v) ?_ ?_)
    · exact (val_main_v21_apply (F := Ideal) x0 x1 x2 x3 _).trans (congrArg₂ (fun u v : EReal => u * v) h0 c0)
    · exact (val_main_v27_apply (F := Ideal) x0 x1 x2 x3 _).trans (congrArg₂ (fun u v : EReal => u * v) h1 c1)
  · exact (val_main_v34_apply (F := Ideal) x0 x1 x2 x3 _).trans (congrArg₂ (fun u v : EReal => u * v) hu c2)

/-- The scaled queries. -/
theorem query_eq : val_main_v55 (F := Ideal) x0 x2 = queryOut x0 x2 := by
  funext i
  obtain ⟨b, t, j, rfl⟩ : ∃ (b : Fin 16) (t : Fin 4096) (j : Fin 1024), i = ix3 b t j := ⟨i 0, i 1, i 2, eq_ix3 i⟩
  exact congrArg₂ (fun u v : EReal => u * v) (part_apply x0 x2 3072 (by omega) slices_S16x4096x7240_S16x4096x1024_0_0_3072 b t j) (fill_apply _ _ _)

/-- The attention gate. -/
theorem gate_eq : val_main_v61 (F := Ideal) x0 x2 = gateOut x0 x2 := by
  funext i
  obtain ⟨b, t, j, rfl⟩ : ∃ (b : Fin 16) (t : Fin 4096) (j : Fin 1024), i = ix3 b t j := ⟨i 0, i 1, i 2, eq_ix3 i⟩
  exact (sigmoid_apply (val_main_v13 (F := Ideal) x0 x2) bcast_S_S16x4096x1024 _).trans (congrArg Ideal.logistic (part_apply x0 x2 6216 (by omega) slices_S16x4096x7240_S16x4096x1024_0_0_6216 b t j))

/-- The keys. -/
theorem key_eq : val_main_v47 (F := Ideal) x0 x2 = headsOut x0 x2 4096 (by omega) := by
  funext i
  obtain ⟨b, t, j, rfl⟩ : ∃ (b : Fin 16) (t : Fin 4096) (j : Fin 512), i = ix3 b t j := ⟨i 0, i 1, i 2, eq_ix3 i⟩
  exact (heads_apply (val_main_v7 (F := Ideal) x0 x2) _ _ _ b t j).trans (part_apply x0 x2 4096 (by omega) slices_S16x4096x7240_S16x4096x256_0_0_4096 b t _)

/-- The values. -/
theorem value_eq : val_main_v49 (F := Ideal) x0 x2 = headsOut x0 x2 4352 (by omega) := by
  funext i
  obtain ⟨b, t, j, rfl⟩ : ∃ (b : Fin 16) (t : Fin 4096) (j : Fin 512), i = ix3 b t j := ⟨i 0, i 1, i 2, eq_ix3 i⟩
  exact (heads_apply (val_main_v8 (F := Ideal) x0 x2) _ _ _ b t j).trans (part_apply x0 x2 4352 (by omega) slices_S16x4096x7240_S16x4096x256_0_0_4352 b t _)

/-- The index queries. -/
theorem idxQuery_eq : val_main_v64 (F := Ideal) x0 x2 = idxQueryOut x0 x2 := by
  funext i
  obtain ⟨b, t, j, rfl⟩ : ∃ (b : Fin 16) (t : Fin 4096) (j : Fin 512), i = ix3 b t j := ⟨i 0, i 1, i 2, eq_ix3 i⟩
  exact part_apply x0 x2 4608 (by omega) slices_S16x4096x7240_S16x4096x512_0_0_4608 b t j

/-- The index keys, written twice. -/
theorem idxKey_eq : val_main_v65 (F := Ideal) x0 x2 = idxKeyOut x0 x2 := by
  funext i
  obtain ⟨b, t, j, rfl⟩ : ∃ (b : Fin 16) (t : Fin 4096) (j : Fin 128), i = ix3 b t j := ⟨i 0, i 1, i 2, eq_ix3 i⟩
  refine Eq.trans ?_ (part_apply x0 x2 5120 (n := 64) (by omega) slices_S16x4096x7240_S16x4096x64_0_0_5120 b t ⟨j.val % 64, by omega⟩)
  by_cases h : j.val < 64
  · exact side3 [⟨S16x4096x64, val_main_v10 (F := Ideal) x0 x2⟩, ⟨S16x4096x64, val_main_v10 (F := Ideal) x0 x2⟩] concatenates_S16x4096x64_S16x4096x64_S16x4096x128_d2 0 (by simp) (val_main_v10 (F := Ideal) x0 x2) rfl 0 rfl b t j ⟨j.val % 64, by omega⟩ (by show 0 + j.val % 64 = j.val; omega)
  · exact side3 [⟨S16x4096x64, val_main_v10 (F := Ideal) x0 x2⟩, ⟨S16x4096x64, val_main_v10 (F := Ideal) x0 x2⟩] concatenates_S16x4096x64_S16x4096x64_S16x4096x128_d2 1 (by simp) (val_main_v10 (F := Ideal) x0 x2) rfl 64 rfl b t j ⟨j.val % 64, by omega⟩ (by show 64 + j.val % 64 = j.val; omega)

/-- The index keys, the head weights, and zeros. -/
theorem idxMix_eq : val_main_v52 (F := Ideal) x0 x2 = idxMixOut x0 x2 := by
  funext i
  obtain ⟨b, t, j, rfl⟩ : ∃ (b : Fin 16) (t : Fin 4096) (j : Fin 128), i = ix3 b t j := ⟨i 0, i 1, i 2, eq_ix3 i⟩
  show _ = if h : j.val < 72 then proj x0 x2 b t ⟨5120 + j.val, by omega⟩ else 0
  by_cases h : j.val < 72
  · rw [dif_pos h]
    by_cases h1 : j.val < 64
    · exact (side3 _ _ 0 (by simp) (val_main_v10 (F := Ideal) x0 x2) rfl 0 rfl b t j ⟨j.val, h1⟩ (Nat.zero_add _)).trans (part_apply x0 x2 5120 (by omega) slices_S16x4096x7240_S16x4096x64_0_0_5120 b t ⟨j.val, h1⟩)
    · refine (side3 _ _ 1 (by simp) (val_main_v11 (F := Ideal) x0 x2) rfl 64 rfl b t j ⟨j.val - 64, by omega⟩ (by show 64 + (j.val - 64) = j.val; omega)).trans
        ((part_apply x0 x2 5184 (by omega) slices_S16x4096x7240_S16x4096x8_0_0_5184 b t ⟨j.val - 64, by omega⟩).trans (congrArg (proj x0 x2 b t) (Fin.ext ?_)))
      show 5184 + (j.val - 64) = 5120 + j.val
      omega
  · rw [dif_neg h]
    exact (side3 _ _ 2 (by simp) (val_main_v51 (F := Ideal)) rfl 72 rfl b t j ⟨j.val - 72, by omega⟩ (by show 72 + (j.val - 72) = j.val; omega)).trans ((fill_apply _ _ _).trans Ideal.ofBits_zero_f32)

/-- The last eight rows that entered the convolution. -/
theorem state_eq : val_main_v66 (F := Ideal) x0 x2 = stateOut x0 x2 := by
  funext i
  obtain ⟨b, r, j, rfl⟩ : ∃ (b : Fin 16) (r : Fin 8) (j : Fin 1024), i = ix3 b r j := ⟨i 0, i 1, i 2, eq_ix3 i⟩
  exact (rows3 4088 _ slices_S16x4096x1024_S16x8x1024_0_4088_0 b r j ⟨4088 + r.val, by omega⟩ rfl).trans (row_apply x0 x2 b _ j)

end Cert.InProjRefIdeal.Rows

end
-- ==== Proof.InProjClaim.lean ====
module

public import proofs.«01_k».proof.Defs
public import proofs.«01_k».proof.Proof.InProjValue
public import proofs.«01_k».proof.Proof.InProjRef

/-! The input projection call agrees with its reference. -/

@[expose] public section

noncomputable section

namespace Cert.InProjIdeal.Rows

open Cert.Rows Idealize.ShloMosaic Idealize.ShloMosaic.TcCoe Idealize.SL.Sem

/-- Over the extended reals the call and its reference end with equal results, from memories that agree on the arguments. -/
theorem algebraic : Cert.algebraic_InProjIdeal_InProjRefIdeal := by
  intro m ρ m' ρ' _ hagree
  refine ⟨fun c => convOut (argX m c) (argQ m c) (argW m c) (argC m c), fun c => queryOut (argX m c) (argW m c), fun c => gateOut (argX m c) (argW m c), fun c => headsOut (argX m c) (argW m c) 4096 (by omega), fun c => headsOut (argX m c) (argW m c) 4096 (by omega), fun c => headsOut (argX m c) (argW m c) 4352 (by omega), fun c => headsOut (argX m c) (argW m c) 4352 (by omega), fun c => idxQueryOut (argX m c) (argW m c), fun c => idxKeyOut (argX m c) (argW m c), fun c => idxMixOut (argX m c) (argW m c), fun c => stateOut (argX m c) (argW m c),
    (θ_run _ _ _).mono (fun _ h c => ?_) (Cert.InProjIdeal.Value.run_blocks (F := Ideal) m ρ), (θ_run _ _ _).mono (fun _ h c => ?_) (Cert.InProjRefIdeal.Value.run (F := Ideal) m' ρ')⟩
  · obtain ⟨h0, h1, h2, h3, h4, h5, h6, h7, h8, h9, h10, ha⟩ := h c
    exact ⟨h0.trans (final_conv m c), h1.trans (final_query m c), h2.trans (final_gate m c), h3.trans (final_key m c), h4.trans (final_keyNarrow m c), h5.trans (final_value m c), h6.trans (final_valueNarrow m c), h7.trans (final_idxQuery m c), h8.trans (final_idxKey m c), h9.trans (final_idxMix m c), h10.trans (final_state m c), ha⟩
  · obtain ⟨h0, h1, h2, h3, h4, h5, h6, h7, h8, h9, h10, ha⟩ := h c
    obtain ⟨a0, a1, a2, a3⟩ := hagree c
    have e0 : m' ((c : Thread Cert.InProjRefIdeal.nD Cert.InProjRefIdeal.τ).loc Cert.InProjRefIdeal.main_arg0) = argX m c := a0
    have e1 : m' ((c : Thread Cert.InProjRefIdeal.nD Cert.InProjRefIdeal.τ).loc Cert.InProjRefIdeal.main_arg1) = argQ m c := a1
    have e2 : m' ((c : Thread Cert.InProjRefIdeal.nD Cert.InProjRefIdeal.τ).loc Cert.InProjRefIdeal.main_arg2) = argW m c := a2
    have e3 : m' ((c : Thread Cert.InProjRefIdeal.nD Cert.InProjRefIdeal.τ).loc Cert.InProjRefIdeal.main_arg3) = argC m c := a3
    refine ⟨?_, ?_, ?_, ?_, ?_, ?_, ?_, ?_, ?_, ?_, ?_, ha⟩
    · refine h0.trans ((Cert.InProjRefIdeal.Read.val_main_v43_eq m' c).trans ?_)
      rw [e0, e1, e2, e3]
      exact Cert.InProjRefIdeal.Rows.conv_eq _ _ _ _
    · refine h1.trans ((Cert.InProjRefIdeal.Read.val_main_v55_eq _ _).trans ?_)
      rw [e0, e2]
      exact Cert.InProjRefIdeal.Rows.query_eq _ _
    · refine h2.trans ((Cert.InProjRefIdeal.Read.val_main_v61_eq _ _).trans ?_)
      rw [e0, e2]
      exact Cert.InProjRefIdeal.Rows.gate_eq _ _
    · refine h3.trans ((Cert.InProjRefIdeal.Read.val_main_v47_eq _ _).trans ?_)
      rw [e0, e2]
      exact Cert.InProjRefIdeal.Rows.key_eq _ _
    · refine h4.trans ((Cert.InProjRefIdeal.Read.val_main_v62_eq _ _).trans ?_)
      rw [e0, e2]
      exact Cert.InProjRefIdeal.Rows.key_eq _ _
    · refine h5.trans ((Cert.InProjRefIdeal.Read.val_main_v49_eq _ _).trans ?_)
      rw [e0, e2]
      exact Cert.InProjRefIdeal.Rows.value_eq _ _
    · refine h6.trans ((Cert.InProjRefIdeal.Read.val_main_v63_eq _ _).trans ?_)
      rw [e0, e2]
      exact Cert.InProjRefIdeal.Rows.value_eq _ _
    · refine h7.trans ((Cert.InProjRefIdeal.Read.val_main_v64_eq _ _).trans ?_)
      rw [e0, e2]
      exact Cert.InProjRefIdeal.Rows.idxQuery_eq _ _
    · refine h8.trans ((Cert.InProjRefIdeal.Read.val_main_v65_eq _ _).trans ?_)
      rw [e0, e2]
      exact Cert.InProjRefIdeal.Rows.idxKey_eq _ _
    · refine h9.trans ((Cert.InProjRefIdeal.Read.val_main_v52_eq _ _).trans ?_)
      rw [e0, e2]
      exact Cert.InProjRefIdeal.Rows.idxMix_eq _ _
    · refine h10.trans ((Cert.InProjRefIdeal.Read.val_main_v66_eq _ _).trans ?_)
      rw [e0, e2]
      exact Cert.InProjRefIdeal.Rows.state_eq _ _

end Cert.InProjIdeal.Rows

end
-- ==== Proof.InProjTile.lean ====
module

public import proofs.«01_k».proof.Proof.InProjRows
public import Idealize.ShloMosaic.Lib.Writes

/-!
One tile of `T` rows of the input projection, whatever `T` is: its products, the scratch of `E = T + 8` rows through which the short
convolution reads one and two rows back, and the gated convolution itself. Rows 0 to 7 of the scratch hold the eight rows before the tile,
the others the tile's own rows that enter the convolution. They are stored in four chunks of 256 columns.
-/

@[expose] public section

set_option maxRecDepth 16384

noncomputable section

namespace Cert.Tile

open Cert.Rows Idealize.ShloMosaic Idealize.ShloMosaic.TcCoe Idealize.ShloMosaic.ValueIdx Idealize.SL.Sem
open scoped BigOperators

variable {T E : ℕ}

/-- A matrix's shape. -/
abbrev M2 (a b : ℕ) : Shape := ⟨2, ![a, b]⟩
/-- The shape of a matrix under a leading axis. -/
abbrev M3 (a b c : ℕ) : Shape := ⟨3, ![a, b, c]⟩

/-- The product of row `r` of a tile of activations with column `j` of a matrix. -/
def dot (x : (M3 1 T 1024).Idx → EReal) {n : ℕ} (w : (M2 1024 n).Idx → EReal) (r : Fin T) (j : Fin n) : EReal :=
  rowDot (fun k => x (ix3 0 r k)) (fun k j => w (ix2 k j)) j

/-- The row that enters the convolution, out of the tile's products. -/
def enter (x : (M3 1 T 1024).Idx → EReal) (wa : (M2 1024 4096).Idx → EReal) (r : Fin T) (j : Fin 1024) : EReal :=
  dot x wa r ⟨1024 + j.val, by omega⟩ * dot x wa r ⟨2048 + j.val, by omega⟩

/-- A product of the tile, in the narrow format, with a matrix of `n` columns. -/
theorem prod_apply {n : ℕ} {φ : FTy} (x : FVec Ideal (M3 1 T 1024) .f32) (hx : (M3 1 T 1024).ShapeCasts (M2 T 1024)) (hb : FTy.bf16.bits < FTy.f32.bits) (w : FVec Ideal (M2 1024 n) φ)
    (h : (M2 1024 n).ShapeCasts (M2 1024 n)) (r : Fin T) (j : Fin n) :
    matmul (F := Ideal) (DotDims.plain T 1024 n) none (truncf .bf16 (shapeCast (M2 T 1024) x hx) hb) (shapeCast (M2 1024 n) w h) (constant (M2 T n) .f32 0x00000000#32) (ix2 r j) = dot x w r j := by
  refine (dotBlock_apply none _ _ r j).trans ?_
  unfold dot rowDot
  exact Finset.sum_congr rfl fun k _ => congrArg₂ (· * ·) (squeeze_apply x hx r k) (same_apply w h _)

/-- The product with columns of the first operand, cut out from column `o`. -/
theorem dot_cols (x : (M3 1 T 1024).Idx → EReal) (wa : (M2 1024 4096).Idx → EReal) (o : ℕ) (inb : ∀ a, ![0, o] a + (M2 1024 256).size a ≤ (M2 1024 4096).size a) (r : Fin T) (j : Fin 256) (n : Fin 4096)
    (hn : n.val = o + j.val) :
    dot x (n := 256) (View.ld (Val := Elt Ideal) (S := M2 1024 4096) (e' := .bf16) wa (Rect.unit (s := M2 1024 4096) ![0, o] (M2 1024 256).size inb)) r j = dot x wa r n := by
  unfold dot rowDot
  refine Finset.sum_congr rfl fun k _ => congrArg (x (ix3 0 r k) * ·) (congrArg wa (funext fun a => Fin.ext ?_))
  match a with
  | ⟨0, _⟩ => show 0 + 1 * k.val = k.val; omega
  | ⟨1, _⟩ => show o + 1 * j.val = n.val; omega

/-- 256 columns from column `o` lie in the first operand. -/
theorem inb_cols (o : ℕ) (ho : o + 256 ≤ 4096) (a : Fin 2) : (![0, o] : Fin 2 → ℕ) a + (M2 1024 256).size a ≤ (M2 1024 4096).size a := by
  match a with
  | ⟨0, _⟩ => show 0 + 1024 ≤ 1024; omega
  | ⟨1, _⟩ => exact ho

/-! ## The scratch -/

/-- The scratch: eight rows before the tile, then the tile's own rows. -/
def ext (u : Fin T → Fin 1024 → EReal) (before : Fin 8 → Fin 1024 → EReal) : (M2 E 1024).Idx → EReal := fun i =>
  if h : (i 0).val < 8 then before ⟨(i 0).val, h⟩ (i 1) else if h' : (i 0).val - 8 < T then u ⟨(i 0).val - 8, h'⟩ (i 1) else 0

variable (u : Fin T → Fin 1024 → EReal) (before : Fin 8 → Fin 1024 → EReal)

/-- The scratch in the tile's own rows. -/
theorem ext_own (s : Fin E) (r : Fin T) (hs : s.val = 8 + r.val) (j : Fin 1024) : ext u before (ix2 s j) = u r j := by
  unfold ext
  refine (dif_neg (show ¬ s.val < 8 by omega)).trans ((dif_pos (show s.val - 8 < T by omega)).trans ?_)
  exact congrArg (fun r => u r j) (Fin.ext (show s.val - 8 = r.val by omega))

/-- The scratch in the rows before the tile. -/
theorem ext_before (s : Fin E) (r : Fin 8) (hs : s.val = r.val) (j : Fin 1024) : ext u before (ix2 s j) = before r j := by
  unfold ext
  refine (dif_pos (show s.val < 8 by omega)).trans ?_
  exact congrArg (fun r => before r j) (Fin.ext hs)

/-- A list of stores into the scratch. -/
abbrev Stores (E : ℕ) : Type := List (View.Piece (Elt Ideal) (M2 E 1024) .f32)

/-- All the stores of a list agree with `U`. -/
abbrev Agree (U : (M2 E 1024).Idx → EReal) (L : Stores E) : Prop := ∀ p ∈ L, ∀ y : p.1.shape.Idx, p.2 y = U (p.1.emb y)

/-- One more store that agrees. -/
theorem agree_cons {U : (M2 E 1024).Idx → EReal} {p : View.Piece (Elt Ideal) (M2 E 1024) .f32} {L : Stores E} (h : ∀ y : p.1.shape.Idx, p.2 y = U (p.1.emb y)) (hL : Agree U L) :
    Agree U (p :: L) := fun q hq => by
  rcases List.mem_cons.mp hq with rfl | hq
  · exact h
  · exact hL q hq

/-- A chunk of 256 columns lies in the scratch. -/
theorem inb_chunk (hE : T + 8 = E) (k : ℕ) (hk : k < 4) (a : Fin 2) : (![8, 256 * k] : Fin 2 → ℕ) a + (M2 T 256).size a ≤ (M2 E 1024).size a := by
  match a with
  | ⟨0, _⟩ => show 8 + T ≤ E; omega
  | ⟨1, _⟩ => show 256 * k + 256 ≤ 1024; omega

/-- The rectangle of chunk `k` of the tile's own rows. -/
abbrev chunkRect (hE : T + 8 = E) (k : ℕ) (hk : k < 4) : Rect (M2 E 1024) := Rect.unit (s := M2 E 1024) ![8, 256 * k] (M2 T 256).size (inb_chunk hE k hk)

/-- The stores of the chunks 0 to `k`, whose values are `v`, after the stores `L`. -/
def stores (hE : T + 8 = E) (v : Fin 4 → (M2 T 256).Idx → EReal) (L : Stores E) : (k : ℕ) → k < 4 → Stores E
  | 0, h => ⟨chunkRect hE 0 h, v 0⟩ :: L
  | k + 1, h => ⟨chunkRect hE (k + 1) h, v ⟨k + 1, h⟩⟩ :: stores hE v L k (Nat.lt_of_succ_lt h)

variable {u before} {v : Fin 4 → (M2 T 256).Idx → EReal} {L : Stores E}

/-- A chunk of the tile's own rows agrees with the scratch. -/
theorem agree_chunk (hE : T + 8 = E) (k : ℕ) (hk : k < 4) (w : (M2 T 256).Idx → EReal) (hw : ∀ (r : Fin T) (j : Fin 256), w (ix2 r j) = u r ⟨256 * k + j.val, by omega⟩) (y : (M2 T 256).Idx) :
    w y = ext u before ((chunkRect hE k hk).emb y) := by
  obtain ⟨r, j, rfl⟩ : ∃ (r : Fin T) (j : Fin 256), y = ix2 r j := ⟨y 0, y 1, eq_ix2 y⟩
  refine (hw r j).trans ((ext_own u before ⟨8 + r.val, by omega⟩ r rfl ⟨256 * k + j.val, by omega⟩).symm.trans (congrArg (ext u before) (funext fun a => Fin.ext ?_)))
  match a with
  | ⟨0, _⟩ => show 8 + r.val = 8 + 1 * r.val; omega
  | ⟨1, _⟩ => show 256 * k + j.val = 256 * k + 1 * j.val; omega

/-- The stores of the chunks agree with the scratch. -/
theorem agree_stores (hE : T + 8 = E) (hv : ∀ (k : Fin 4) (r : Fin T) (j : Fin 256), v k (ix2 r j) = u r ⟨256 * k.val + j.val, by omega⟩) (hL : Agree (ext u before) L) :
    ∀ (k : ℕ) (hk : k < 4), Agree (ext u before) (stores hE v L k hk)
  | 0, h => agree_cons (agree_chunk hE 0 h _ (hv 0)) hL
  | k + 1, h => agree_cons (agree_chunk hE (k + 1) h _ (hv ⟨k + 1, h⟩)) (agree_stores hE hv hL k (Nat.lt_of_succ_lt h))

/-- The elements of a chunk. -/
theorem mem_chunk (hE : T + 8 = E) (k : ℕ) (hk : k < 4) (s : Fin E) (j : Fin 1024) (hs : 8 ≤ s.val) (hj : 256 * k ≤ j.val ∧ j.val < 256 * k + 256) : (ix2 s j : (M2 E 1024).Idx) ∈ (chunkRect hE k hk).set := by
  rw [Rect.mem_set_unit]
  intro a
  match a with
  | ⟨0, _⟩ => exact ⟨hs, show s.val < 8 + T by omega⟩
  | ⟨1, _⟩ => exact hj

/-- The chunks 0 to `k` cover the tile's own rows in their columns. -/
theorem own (hE : T + 8 = E) (s : Fin E) (j : Fin 1024) (hs : 8 ≤ s.val) : ∀ (k : ℕ) (hk : k < 4), j.val < 256 * k + 256 → ∃ p ∈ stores hE v L k hk, ix2 s j ∈ p.1.set
  | 0, h, hj => ⟨_, List.mem_cons_self, mem_chunk hE 0 h s j hs ⟨Nat.zero_le _, hj⟩⟩
  | k + 1, h, hj => by
    by_cases hk : 256 * (k + 1) ≤ j.val
    · exact ⟨_, List.mem_cons_self, mem_chunk hE (k + 1) h s j hs ⟨hk, hj⟩⟩
    · obtain ⟨p, hp, hy⟩ := own hE s j hs k (Nat.lt_of_succ_lt h) (by omega)
      exact ⟨p, List.mem_cons_of_mem _ hp, hy⟩

/-- The stores made first stay in the list. -/
theorem mem_stores (hE : T + 8 = E) {p : View.Piece (Elt Ideal) (M2 E 1024) .f32} (hp : p ∈ L) : ∀ (k : ℕ) (hk : k < 4), p ∈ stores hE v L k hk
  | 0, _ => List.mem_cons_of_mem _ hp
  | k + 1, h => List.mem_cons_of_mem _ (mem_stores hE hp k (Nat.lt_of_succ_lt h))

/-! ## The rows before the tile -/

/-- Eight rows lie at the top of the scratch. -/
theorem inb_top (hE : T + 8 = E) (a : Fin 2) : (![0, 0] : Fin 2 → ℕ) a + (M2 8 1024).size a ≤ (M2 E 1024).size a := by
  match a with
  | ⟨0, _⟩ => show 0 + 8 ≤ E; omega
  | ⟨1, _⟩ => show 0 + 1024 ≤ 1024; omega

/-- The store of eight rows at the top of the scratch. -/
abbrev topStore (hE : T + 8 = E) (w : (M2 8 1024).Idx → EReal) : View.Piece (Elt Ideal) (M2 E 1024) .f32 := ⟨Rect.unit (s := M2 E 1024) ![0, 0] (M2 8 1024).size (inb_top hE), w⟩

/-- That store agrees with the scratch. -/
theorem agree_top (hE : T + 8 = E) (w : (M2 8 1024).Idx → EReal) (hw : ∀ (r : Fin 8) (j : Fin 1024), w (ix2 r j) = before r j) : Agree (ext u before) [topStore hE w] := by
  refine agree_cons (fun y => ?_) fun p hp => absurd hp List.not_mem_nil
  obtain ⟨r, j, rfl⟩ : ∃ (r : Fin 8) (j : Fin 1024), y = ix2 r j := ⟨y 0, y 1, eq_ix2 y⟩
  refine (hw r j).trans ((ext_before u before (E := E) ⟨r.val, by omega⟩ r rfl j).symm.trans (congrArg (ext u before) (funext fun a => Fin.ext ?_)))
  match a with
  | ⟨0, _⟩ => show r.val = 0 + 1 * r.val; omega
  | ⟨1, _⟩ => show j.val = 0 + 1 * j.val; omega

/-- With the rows before the tile the chunks 0 to `k` cover the whole scratch in their columns. -/
theorem whole (hE : T + 8 = E) (w : (M2 8 1024).Idx → EReal) (k : ℕ) (hk : k < 4) (s : Fin E) (j : Fin 1024) (hj : j.val < 256 * k + 256) : ∃ p ∈ stores hE v [topStore hE w] k hk, ix2 s j ∈ p.1.set := by
  by_cases hs : s.val < 8
  · refine ⟨topStore hE w, mem_stores hE List.mem_cons_self k hk, ?_⟩
    rw [Rect.mem_set_unit]
    intro a
    match a with
    | ⟨0, _⟩ => exact ⟨Nat.zero_le _, show s.val < 0 + 8 by omega⟩
    | ⟨1, _⟩ => exact ⟨Nat.zero_le _, show j.val < 0 + 1024 by omega⟩
  · exact own hE s j (by omega) k hk hj

/-! ## Reading the scratch back -/

variable {sig : RefSig} {κ : Kind} {sp : Space}

/-- A chunk read back at rows from `s` and columns from `o`, where the stores cover it. -/
theorem load_chunk {U : (M2 E 1024).Idx → EReal} (vw : View sig κ sp (M2 E 1024) .f32) (hL : Agree U L) (s o : ℕ) (hs : s + T ≤ E) (ho : o + 256 ≤ 1024)
    (inb : ∀ a, ![s, o] a + (M2 T 256).size a ≤ (M2 E 1024).size a) (hc : ∀ (r : Fin E) (j : Fin 1024), j.val < o + 256 → ∃ p ∈ L, ix2 r j ∈ p.1.set) (r : Fin T) (j : Fin 256) :
    vw.readCov L (Rect.unit (s := M2 E 1024) ![s, o] (M2 T 256).size inb).toLoadRect (ix2 r j) = U (ix2 ⟨s + r.val, by omega⟩ ⟨o + j.val, by omega⟩) := by
  rw [View.readCov_eq_canon']
  have e : (Rect.unit (s := M2 E 1024) ![s, o] (M2 T 256).size inb).toLoadRect.idx (ix2 r j) = ix2 ⟨s + r.val, by omega⟩ ⟨o + j.val, by omega⟩ := funext fun a => Fin.ext (by
    match a with
    | ⟨0, _⟩ => show s + 1 * r.val = s + r.val; omega
    | ⟨1, _⟩ => show o + 1 * j.val = o + j.val; omega)
  show View.canon L ((Rect.unit (s := M2 E 1024) ![s, o] (M2 T 256).size inb).toLoadRect.idx (ix2 r j)) = _
  rw [e]
  exact View.canon_apply_of_pieces U L hL _ (hc ⟨s + r.val, by omega⟩ ⟨o + j.val, by omega⟩ (show o + j.val < o + 256 by omega))

/-- The last eight rows read back. -/
theorem load_tail (vw : View sig κ sp (M2 E 1024) .f32) (hL : Agree (ext u before) L) (s : ℕ) (hs : s = T) (inb : ∀ a, ![s, 0] a + (M2 8 1024).size a ≤ (M2 E 1024).size a)
    (hT : 8 ≤ T) (hE : T + 8 = E) (hc : ∀ (r : Fin E) (j : Fin 1024), 8 ≤ r.val → ∃ p ∈ L, ix2 r j ∈ p.1.set) (r : Fin 8) (j : Fin 1024) :
    vw.readCov L (Rect.unit (s := M2 E 1024) ![s, 0] (M2 8 1024).size inb).toLoadRect (ix2 r j) = u ⟨T - 8 + r.val, by omega⟩ j := by
  rw [View.readCov_eq_canon']
  have e : (Rect.unit (s := M2 E 1024) ![s, 0] (M2 8 1024).size inb).toLoadRect.idx (ix2 r j) = ix2 ⟨s + r.val, by omega⟩ j := funext fun a => Fin.ext (by
    match a with
    | ⟨0, _⟩ => show s + 1 * r.val = s + r.val; omega
    | ⟨1, _⟩ => show 0 + 1 * j.val = j.val; omega)
  show View.canon L ((Rect.unit (s := M2 E 1024) ![s, 0] (M2 8 1024).size inb).toLoadRect.idx (ix2 r j)) = _
  rw [e, View.canon_apply_of_pieces (ext u before) L hL _ (hc _ _ (show 8 ≤ s + r.val by omega))]
  exact ext_own u before _ _ (show s + r.val = 8 + (T - 8 + r.val) by omega) j

/-! ## The gated convolution -/

/-- The gated convolution of a tile, out of its products, its scratch and the taps. -/
def conv (hE : T + 8 = E) (x : (M3 1 T 1024).Idx → EReal) (wa : (M2 1024 4096).Idx → EReal) (U : (M2 E 1024).Idx → EReal) (cw : (M2 3 1024).Idx → EReal) (r : Fin T) (j : Fin 1024) : EReal :=
  gateConv (dot x wa r ⟨j.val, by omega⟩) (dot x wa r ⟨3072 + j.val, by omega⟩) (U (ix2 ⟨6 + r.val, by omega⟩ j)) (U (ix2 ⟨7 + r.val, by omega⟩ j)) (enter x wa r j)
    (cw (ix2 0 j)) (cw (ix2 1 j)) (cw (ix2 2 j))

/-- One tap's 256 columns from column `o`. -/
theorem tap_cols (cw : (M2 3 1024).Idx → EReal) (l : Fin 3) (o : ℕ) (inb : ∀ a, ![l.val, o] a + (M2 1 256).size a ≤ (M2 3 1024).size a) (j : Fin 256) (n : Fin 1024) (hn : n.val = o + j.val) :
    View.ld (Val := Elt Ideal) (S := M2 3 1024) (e' := .f32) cw (Rect.unit (s := M2 3 1024) ![l.val, o] (M2 1 256).size inb) (ix2 0 j) = cw (ix2 l n) := by
  refine congrArg cw (funext fun a => Fin.ext ?_)
  match a with
  | ⟨0, _⟩ => show l.val + 1 * 0 = l.val; omega
  | ⟨1, _⟩ => show o + 1 * j.val = n.val; omega

/-- A chunk of the convolution from column `o`, stored at that column of the output tile, agrees with the convolution of the tile. -/
theorem agree_conv {x : (M3 1 T 1024).Idx → EReal} {wa : (M2 1024 4096).Idx → EReal} {U : (M2 E 1024).Idx → EReal} {cw : (M2 3 1024).Idx → EReal} (hE : T + 8 = E) (o : ℕ) (ho : o + 256 ≤ 1024)
    (inb : ∀ a, ![0, 0, o] a + (M3 1 T 256).size a ≤ (M3 1 T 1024).size a) (w : (M3 1 T 256).Idx → EReal) (bg ga u u1 u2 : (M2 T 256).Idx → EReal) (c0 c1 c2 : (M2 1 256).Idx → EReal)
    (hw : ∀ (r : Fin T) (j : Fin 256), w (ix3 0 r j)
      = gateConv (bg (ix2 r j)) (ga (ix2 r j)) (u2 (ix2 r j)) (u1 (ix2 r j)) (u (ix2 r j)) (c0 (ix2 0 j)) (c1 (ix2 0 j)) (c2 (ix2 0 j)))
    (hbg : ∀ (r : Fin T) (j : Fin 256) (n : Fin 4096), n.val = o + j.val → bg (ix2 r j) = dot x wa r n)
    (hga : ∀ (r : Fin T) (j : Fin 256) (n : Fin 4096), n.val = 3072 + o + j.val → ga (ix2 r j) = dot x wa r n)
    (hu : ∀ (r : Fin T) (j : Fin 256), u (ix2 r j) = enter x wa r ⟨o + j.val, by omega⟩)
    (hu1 : ∀ (r : Fin T) (j : Fin 256), u1 (ix2 r j) = U (ix2 ⟨7 + r.val, by omega⟩ ⟨o + j.val, by omega⟩))
    (hu2 : ∀ (r : Fin T) (j : Fin 256), u2 (ix2 r j) = U (ix2 ⟨6 + r.val, by omega⟩ ⟨o + j.val, by omega⟩))
    (h0 : ∀ (j : Fin 256) (n : Fin 1024), n.val = o + j.val → c0 (ix2 0 j) = cw (ix2 0 n))
    (h1 : ∀ (j : Fin 256) (n : Fin 1024), n.val = o + j.val → c1 (ix2 0 j) = cw (ix2 1 n))
    (h2 : ∀ (j : Fin 256) (n : Fin 1024), n.val = o + j.val → c2 (ix2 0 j) = cw (ix2 2 n)) (y : (M3 1 T 256).Idx) :
    w y = (fun i : (M3 1 T 1024).Idx => conv hE x wa U cw (i 1) (i 2)) ((Rect.unit (s := M3 1 T 1024) ![0, 0, o] (M3 1 T 256).size inb).emb y) := by
  obtain ⟨r, j, rfl⟩ : ∃ (r : Fin T) (j : Fin 256), y = ix3 0 r j := ⟨y 1, y 2, eq_ix3_zero y⟩
  have e : ((Rect.unit (s := M3 1 T 1024) ![0, 0, o] (M3 1 T 256).size inb).emb (ix3 0 r j) : (M3 1 T 1024).Idx) = ix3 0 r ⟨o + j.val, by omega⟩ := funext fun a => Fin.ext (by
    match a with
    | ⟨0, _⟩ => rfl
    | ⟨1, _⟩ => show 0 + 1 * r.val = r.val; omega
    | ⟨2, _⟩ => show o + 1 * j.val = o + j.val; omega)
  rw [e, hw, hbg r j ⟨o + j.val, by omega⟩ rfl, hga r j ⟨3072 + (o + j.val), by omega⟩ (by show 3072 + (o + j.val) = _; omega), hu, hu1, hu2,
    h0 j ⟨o + j.val, by omega⟩ rfl, h1 j ⟨o + j.val, by omega⟩ rfl, h2 j ⟨o + j.val, by omega⟩ rfl]
  rfl

end Cert.Tile

end
-- ==== Proof.SamplePay.lean ====
module

public import proofs.«01_k».proof.Proof.InProjTile
public import proofs.«01_k».proof.Proof.Gen.InProjSampleIdeal.Skeleton

/-! The values the input projection of the sample batch stores, read at an element of a tile of 16 rows. -/

@[expose] public section

set_option maxRecDepth 16384

noncomputable section

namespace Cert.InProjSampleIdeal.Rows

open Cert.InProjSampleIdeal Cert.InProjSampleIdeal.Gen Cert.Rows Cert.Tile Idealize.ShloMosaic Idealize.ShloMosaic.TcCoe Idealize.ShloMosaic.ValueIdx

/-- The convolution chunk of a block, at an element. -/
theorem pay19_apply (bg ga u u1 u2 : FVec Ideal S16x256 .f32) (c0 c1 c2 : FVec Ideal S1x256 .f32) (r : Fin 16) (j : Fin 256) :
    k0_pay19 (F := Ideal) bg ga u u1 u2 c0 c1 c2 (ix3 0 r j)
      = gateConv (bg (ix2 r j)) (ga (ix2 r j)) (u2 (ix2 r j)) (u1 (ix2 r j)) (u (ix2 r j)) (c0 (ix2 0 j)) (c1 (ix2 0 j)) (c2 (ix2 0 j)) := by
  have tap : ∀ c : FVec Ideal S1x256 .f32, broadcastTo S16x256 (shapeCast S1x256 c shapeCasts_S1x256_S1x256) broadcasts_S1x256_S16x256 (ix2 r j) = c (ix2 0 j) := fun c =>
    (rows_apply (M := 16) (N := 256) _ _ r j).trans (same_apply c _ _)
  unfold k0_pay19
  refine (unsqueeze_apply (a := 16) (b := 256) _ _ r j).trans ?_
  unfold gateConv
  rw [← tap c0, ← tap c1, ← tap c2]
  rfl

/-- The convolution chunk at columns 0 to 255. -/
theorem pay14_apply (bg ga u u1 u2 : FVec Ideal S16x256 .f32) (c0 c1 c2 : FVec Ideal S1x256 .f32) (r : Fin 16) (j : Fin 256) :
    k0_pay14 (F := Ideal) bg ga u u1 (k0_pay13 (F := Ideal) u2 c0) c1 c2 (ix3 0 r j)
      = gateConv (bg (ix2 r j)) (ga (ix2 r j)) (u2 (ix2 r j)) (u1 (ix2 r j)) (u (ix2 r j)) (c0 (ix2 0 j)) (c1 (ix2 0 j)) (c2 (ix2 0 j)) :=
  pay19_apply bg ga u u1 u2 c0 c1 c2 r j

/-- The convolution chunk at columns 512 to 767. -/
theorem pay24_apply (bg ga u u1 u2 : FVec Ideal S16x256 .f32) (c0 c1 c2 : FVec Ideal S1x256 .f32) (r : Fin 16) (j : Fin 256) :
    k0_pay24 (F := Ideal) bg ga u u1 u2 c0 c1 c2 (ix3 0 r j)
      = gateConv (bg (ix2 r j)) (ga (ix2 r j)) (u2 (ix2 r j)) (u1 (ix2 r j)) (u (ix2 r j)) (c0 (ix2 0 j)) (c1 (ix2 0 j)) (c2 (ix2 0 j)) :=
  pay19_apply bg ga u u1 u2 c0 c1 c2 r j

/-- The convolution chunk at columns 768 to 1023. -/
theorem pay29_apply (bg ga u u1 u2 : FVec Ideal S16x256 .f32) (c0 c1 c2 : FVec Ideal S1x256 .f32) (r : Fin 16) (j : Fin 256) :
    k0_pay29 (F := Ideal) bg ga u u1 u2 c0 c1 c2 (ix3 0 r j)
      = gateConv (bg (ix2 r j)) (ga (ix2 r j)) (u2 (ix2 r j)) (u1 (ix2 r j)) (u (ix2 r j)) (c0 (ix2 0 j)) (c1 (ix2 0 j)) (c2 (ix2 0 j)) :=
  pay19_apply bg ga u u1 u2 c0 c1 c2 r j

/-- A chunk of one part of the projection. -/
theorem pay9_apply (x : Vec Ideal S1x16x1024 .f32) (w : FVec Ideal S1024x256 .bf16) (r : Fin 16) (j : Fin 256) : k0_pay9 (F := Ideal) x w (ix2 r j) = dot x w r j :=
  prod_apply x _ _ w _ r j

/-- A chunk of the rows that enter the convolution. -/
theorem pay11_apply (x : Vec Ideal S1x16x1024 .f32) (w w' : FVec Ideal S1024x256 .bf16) (r : Fin 16) (j : Fin 256) :
    k0_pay11 (F := Ideal) x w w' (ix2 r j) = dot x w r j * dot x w' r j :=
  congrArg₂ (· * ·) (prod_apply x _ _ w shapeCasts_S1024x256_S1024x256 r j) (prod_apply x _ _ w' shapeCasts_S1024x256_S1024x256 r j)

/-- The same chunk as the scratch holds it. -/
theorem pay12_apply (x : Vec Ideal S1x16x1024 .f32) (w w' : FVec Ideal S1024x256 .bf16) (r : Fin 16) (j : Fin 256) :
    k0_pay12 (F := Ideal) x w w' (ix2 r j) = dot x w r j * dot x w' r j := by
  unfold k0_pay12
  exact (same_apply _ _ _).trans (pay11_apply x w w' r j)

/-- The rows before the block, as the scratch holds them. -/
theorem pay7_apply (q : Vec Ideal S1x8x1024 .f32) (r : Fin 8) (j : Fin 1024) : k0_pay7 (F := Ideal) q (ix2 r j) = q (ix3 0 r j) := by
  unfold k0_pay7
  exact (same_apply _ _ _).trans (squeeze_apply (a := 8) (b := 1024) q _ r j)

/-- The last eight rows, as they are returned. -/
theorem pay30_apply (v : FVec Ideal S8x1024 .f32) (r : Fin 8) (j : Fin 1024) : k0_pay30 (F := Ideal) v (ix3 0 r j) = v (ix2 r j) :=
  unsqueeze_apply (a := 8) (b := 1024) v _ r j

/-- The last eight rows, as the scratch keeps them. -/
theorem pay31_apply (v : FVec Ideal S8x1024 .f32) (i : S8x1024.Idx) : k0_pay31 (F := Ideal) v i = v i := same_apply v _ i

/-- The scaled queries of a block. -/
theorem pay32_apply (x : Vec Ideal S1x16x1024 .f32) (w : FVec Ideal S1024x1024 .bf16) (r : Fin 16) (j : Fin 1024) :
    k0_pay32 (F := Ideal) (k0_pay8 (F := Ideal) x) w (ix3 0 r j) = dot x w r j * Ideal.ofBits .f32 0x3E000000#32 := by
  unfold k0_pay32
  exact (unsqueeze_apply (a := 16) (b := 1024) _ _ r j).trans (congrArg (· * Ideal.ofBits .f32 0x3E000000#32) (prod_apply x _ _ w shapeCasts_S1024x1024_S1024x1024 r j))

/-- The attention gate of a block. -/
theorem pay33_apply (x : Vec Ideal S1x16x1024 .f32) (w : FVec Ideal S1024x1024 .bf16) (r : Fin 16) (j : Fin 1024) :
    k0_pay33 (F := Ideal) (k0_pay8 (F := Ideal) x) w (ix3 0 r j) = Ideal.logistic (dot x w r j) := by
  unfold k0_pay33
  exact (unsqueeze_apply (a := 16) (b := 1024) _ _ r j).trans (congrArg Ideal.logistic (prod_apply x _ _ w shapeCasts_S1024x1024_S1024x1024 r j))

/-- The keys of a block. -/
theorem pay35_apply (x : Vec Ideal S1x16x1024 .f32) (w : FVec Ideal S1024x512 .bf16) (r : Fin 16) (j : Fin 512) :
    k0_pay35 (F := Ideal) (k0_pay8 (F := Ideal) x) w (ix3 0 r j) = dot x w r j := by
  unfold k0_pay35 k0_pay34
  exact (unsqueeze_apply (a := 16) (b := 512) _ _ r j).trans (prod_apply x _ _ w shapeCasts_S1024x512_S1024x512 r j)

/-- The keys of a block, in the narrow format. -/
theorem pay36_apply (x : Vec Ideal S1x16x1024 .f32) (w : FVec Ideal S1024x512 .bf16) (r : Fin 16) (j : Fin 512) :
    k0_pay36 (F := Ideal) (k0_pay8 (F := Ideal) x) w (ix3 0 r j) = dot x w r j := by
  unfold k0_pay36 k0_pay34
  exact (unsqueeze_apply (a := 16) (b := 512) _ _ r j).trans (prod_apply x _ _ w shapeCasts_S1024x512_S1024x512 r j)

/-- The values of a block. -/
theorem pay1_apply (x : Vec Ideal S1x16x1024 .f32) (w : FVec Ideal S1024x512 .bf16) (r : Fin 16) (j : Fin 512) :
    k0_pay1 (F := Ideal) (k0_pay37 (F := Ideal) (k0_pay8 (F := Ideal) x) w) (ix3 0 r j) = dot x w r j := by
  unfold k0_pay1 k0_pay37
  exact (unsqueeze_apply (a := 16) (b := 512) _ _ r j).trans (prod_apply x _ _ w shapeCasts_S1024x512_S1024x512 r j)

/-- The values of a block, in the narrow format. -/
theorem pay2_apply (x : Vec Ideal S1x16x1024 .f32) (w : FVec Ideal S1024x512 .bf16) (r : Fin 16) (j : Fin 512) :
    k0_pay2 (F := Ideal) (k0_pay37 (F := Ideal) (k0_pay8 (F := Ideal) x) w) (ix3 0 r j) = dot x w r j := by
  unfold k0_pay2 k0_pay37
  exact (unsqueeze_apply (a := 16) (b := 512) _ _ r j).trans (prod_apply x _ _ w shapeCasts_S1024x512_S1024x512 r j)

/-- The index queries of a block. -/
theorem pay3_apply (x : Vec Ideal S1x16x1024 .f32) (w : FVec Ideal S1024x512 .bf16) (r : Fin 16) (j : Fin 512) :
    k0_pay3 (F := Ideal) (k0_pay8 (F := Ideal) x) w (ix3 0 r j) = dot x w r j := by
  unfold k0_pay3
  exact (unsqueeze_apply (a := 16) (b := 512) _ _ r j).trans (prod_apply x _ _ w shapeCasts_S1024x512_S1024x512 r j)

/-- The index keys of a block, written twice: columns 0 to 127 of the index product. -/
theorem pay5_apply (x : Vec Ideal S1x16x1024 .f32) (w : FVec Ideal S1024x256 .bf16) (r : Fin 16) (j : Fin 128) :
    k0_pay5 (F := Ideal) (k0_pay8 (F := Ideal) x) w (ix3 0 r j) = dot x w r ⟨j.val, by omega⟩ := by
  unfold k0_pay5
  refine (unsqueeze_apply (a := 16) (b := 128) _ _ r j).trans ?_
  refine (extractStridedSlice_apply _ (k0_pay4 (F := Ideal) (k0_pay8 (F := Ideal) x) w) slices_S16x256_o0_0_S16x128 _ (ix2 r ⟨j.val, by omega⟩) fun a => ?_).trans
    (prod_apply x _ _ w shapeCasts_S1024x256_S1024x256 r _)
  match a with
  | ⟨0, _⟩ => show r.val = 0 + r.val; omega
  | ⟨1, _⟩ => show j.val = 0 + j.val; omega

/-- The index keys and head weights of a block: columns 128 to 255 of the index product. -/
theorem pay6_apply (x : Vec Ideal S1x16x1024 .f32) (w : FVec Ideal S1024x256 .bf16) (r : Fin 16) (j : Fin 128) :
    k0_pay6 (F := Ideal) (k0_pay8 (F := Ideal) x) w (ix3 0 r j) = dot x w r ⟨128 + j.val, by omega⟩ := by
  unfold k0_pay6
  refine (unsqueeze_apply (a := 16) (b := 128) _ _ r j).trans ?_
  refine (extractStridedSlice_apply _ (k0_pay4 (F := Ideal) (k0_pay8 (F := Ideal) x) w) slices_S16x256_o0_128_S16x128 _ (ix2 r ⟨128 + j.val, by omega⟩) fun a => ?_).trans
    (prod_apply x _ _ w shapeCasts_S1024x256_S1024x256 r _)
  match a with
  | ⟨0, _⟩ => show r.val = 0 + r.val; omega
  | ⟨1, _⟩ => rfl

/-- The rows that enter the convolution of a tile, as the scratch's chunk `k` holds them. -/
def chunkVal (x : Vec Ideal S1x16x1024 .f32) (wa : Vec Ideal S1024x4096 .bf16) (k : Fin 4) : S16x256.Idx → EReal :=
  k0_pay12 (F := Ideal) x (View.ld wa (Rect.unit (s := S1024x4096) ![0, 1024 + 256 * k.val] S1024x256.size (inb_cols _ (by omega))))
    (View.ld wa (Rect.unit (s := S1024x4096) ![0, 2048 + 256 * k.val] S1024x256.size (inb_cols _ (by omega))))

/-- Their elements. -/
theorem chunkVal_apply (x : Vec Ideal S1x16x1024 .f32) (wa : Vec Ideal S1024x4096 .bf16) (k : Fin 4) (r : Fin 16) (j : Fin 256) :
    chunkVal x wa k (ix2 r j) = enter x wa r ⟨256 * k.val + j.val, by omega⟩ := by
  unfold chunkVal
  exact (pay12_apply x _ _ r j).trans (congrArg₂ (· * ·) (dot_cols x wa _ _ r j _ (by show 1024 + (256 * k.val + j.val) = 1024 + 256 * k.val + j.val; omega))
    (dot_cols x wa _ _ r j _ (by show 2048 + (256 * k.val + j.val) = 2048 + 256 * k.val + j.val; omega)))

/-- The chunks' stores agree with the tile's scratch. -/
theorem agree_scratch (x : Vec Ideal S1x16x1024 .f32) (q : Vec Ideal S1x8x1024 .f32) (wa : Vec Ideal S1024x4096 .bf16) (k : ℕ) (hk : k < 4) :
    Agree (ext (T := 16) (E := 24) (enter x wa) fun r j => q (ix3 0 r j)) (stores rfl (chunkVal x wa) [topStore (T := 16) rfl (k0_pay7 (F := Ideal) q)] k hk) :=
  agree_stores rfl (chunkVal_apply x wa) (agree_top rfl _ (pay7_apply q)) k hk

end Cert.InProjSampleIdeal.Rows

end
-- ==== Proof.SampleBlocks.lean ====
module

public import proofs.«01_k».proof.Proof.SamplePay
public import proofs.«01_k».proof.Proof.Gen.InProjSampleIdeal.Frame

/-! The input projection of the sample batch: what a grid point leaves in each output block, from the blocks it reads. A grid point has a
    whole sequence. -/

@[expose] public section

set_option maxRecDepth 16384

noncomputable section

namespace Cert.InProjSampleIdeal.Rows

open Cert.InProjSampleIdeal Cert.InProjSampleIdeal.Gen Cert.Rows Cert.Tile Idealize.ShloMosaic Idealize.ShloMosaic.TcCoe Idealize.ShloMosaic.ValueIdx Idealize.SL.Sem

/-- The offset vector written out as zeros is the constant zero vector. -/
theorem hz : (![0, 0] : Fin 2 → Nat) = fun _ => 0 := funext fun a => by fin_cases a <;> rfl
/-- The same for three dimensions. -/
theorem hz3 : (![0, 0, 0] : Fin 3 → Nat) = fun _ => 0 := funext fun a => by fin_cases a <;> rfl

variable (c : Dev nD) (i : grid0.Coords) (arg2 : Memref sig .tc .vmem S1x16x1024 .f32) (h2 : arg2.IsWhole) (arg3 : Memref sig .tc .vmem S1x8x1024 .f32) (h3 : arg3.IsWhole) (arg4 : Memref sig .tc .vmem S1024x4096 .bf16) (h4 : arg4.IsWhole) (arg5 : Memref sig .tc .vmem S1024x1024 .bf16) (h5 : arg5.IsWhole) (arg6 : Memref sig .tc .vmem S1024x1024 .bf16) (h6 : arg6.IsWhole) (arg7 : Memref sig .tc .vmem S1024x512 .bf16) (h7 : arg7.IsWhole) (arg8 : Memref sig .tc .vmem S1024x512 .bf16) (h8 : arg8.IsWhole) (arg9 : Memref sig .tc .vmem S1024x512 .bf16) (h9 : arg9.IsWhole)
  (arg10 : Memref sig .tc .vmem S1024x256 .bf16) (h10 : arg10.IsWhole) (arg11 : Memref sig .tc .vmem S3x1024 .f32) (h11 : arg11.IsWhole) (arg12 : Memref sig .tc .vmem S1x16x1024 .f32) (h12 : arg12.IsWhole) (arg13 : Memref sig .tc .vmem S1x16x1024 .bf16) (h13 : arg13.IsWhole) (arg14 : Memref sig .tc .vmem S1x16x1024 .f32) (h14 : arg14.IsWhole) (arg15 : Memref sig .tc .vmem S1x16x512 .f32) (h15 : arg15.IsWhole) (arg16 : Memref sig .tc .vmem S1x16x512 .bf16) (h16 : arg16.IsWhole) (arg17 : Memref sig .tc .vmem S1x16x512 .f32) (h17 : arg17.IsWhole)
  (arg18 : Memref sig .tc .vmem S1x16x512 .bf16) (h18 : arg18.IsWhole) (arg19 : Memref sig .tc .vmem S1x16x512 .bf16) (h19 : arg19.IsWhole) (arg20 : Memref sig .tc .vmem S1x16x128 .bf16) (h20 : arg20.IsWhole) (arg21 : Memref sig .tc .vmem S1x16x128 .f32) (h21 : arg21.IsWhole) (arg22 : Memref sig .tc .vmem S1x8x1024 .f32) (h22 : arg22.IsWhole) (arg23 : Memref sig .tc .vmem S24x1024 .f32) (h23 : arg23.IsWhole)
  (x0 : Vec Ideal S1x16x1024 .f32) (x1 : Vec Ideal S1x8x1024 .f32) (x2 : Vec Ideal S1024x4096 .bf16) (x3 : Vec Ideal S1024x1024 .bf16) (x4 : Vec Ideal S1024x1024 .bf16) (x5 : Vec Ideal S1024x512 .bf16) (x6 : Vec Ideal S1024x512 .bf16) (x7 : Vec Ideal S1024x512 .bf16) (x8 : Vec Ideal S1024x256 .bf16) (x9 : Vec Ideal S3x1024 .f32)

/-- The scaled queries. -/
theorem block_query (hc0 : cond0_0 i) : out0_A_11 c i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 hc0 x0 x1 x2 x3 x4 x5 x6 x7 x8 x9 = k0_pay32 (F := Ideal) (k0_pay8 (F := Ideal) x0) x3 := by
  unfold out0_A_11
  rw [View.read_writes_eq_canon _ _ _ (cover0_A_11 c i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 hc0 x0 x1 x2 x3 x4 x5 x6 x7 x8 x9)]
  unfold kernelRun0_A
  dsimp only
  sl_unfold_words
  rw [View.canon_unit_zero (S := S1x16x1024) hz3]
  simp only [View.readAt_eq_ld, h2.read_unread, h3.read_unread, h4.read_unread, h5.read_unread, h6.read_unread, h7.read_unread, h8.read_unread, h9.read_unread, h10.read_unread, h11.read_unread, View.ld_unit_zero (S := S1x16x1024) hz3, View.ld_unit_zero (S := S1x8x1024) hz3, View.ld_unit_zero (S := S1024x1024) hz, View.ld_unit_zero (S := S1024x512) hz, View.ld_unit_zero (S := S1024x256) hz]

/-- The attention gate. -/
theorem block_gate (hc0 : cond0_0 i) : out0_A_12 c i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 hc0 x0 x1 x2 x3 x4 x5 x6 x7 x8 x9 = k0_pay33 (F := Ideal) (k0_pay8 (F := Ideal) x0) x4 := by
  unfold out0_A_12
  rw [View.read_writes_eq_canon _ _ _ (cover0_A_12 c i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 hc0 x0 x1 x2 x3 x4 x5 x6 x7 x8 x9)]
  unfold kernelRun0_A
  dsimp only
  sl_unfold_words
  rw [View.canon_unit_zero (S := S1x16x1024) hz3]
  simp only [View.readAt_eq_ld, h2.read_unread, h3.read_unread, h4.read_unread, h5.read_unread, h6.read_unread, h7.read_unread, h8.read_unread, h9.read_unread, h10.read_unread, h11.read_unread, View.ld_unit_zero (S := S1x16x1024) hz3, View.ld_unit_zero (S := S1x8x1024) hz3, View.ld_unit_zero (S := S1024x1024) hz, View.ld_unit_zero (S := S1024x512) hz, View.ld_unit_zero (S := S1024x256) hz]

/-- The keys. -/
theorem block_key (hc0 : cond0_0 i) : out0_A_13 c i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 hc0 x0 x1 x2 x3 x4 x5 x6 x7 x8 x9 = k0_pay35 (F := Ideal) (k0_pay8 (F := Ideal) x0) x5 := by
  unfold out0_A_13
  rw [View.read_writes_eq_canon _ _ _ (cover0_A_13 c i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 hc0 x0 x1 x2 x3 x4 x5 x6 x7 x8 x9)]
  unfold kernelRun0_A
  dsimp only
  sl_unfold_words
  rw [View.canon_unit_zero (S := S1x16x512) hz3]
  simp only [View.readAt_eq_ld, h2.read_unread, h3.read_unread, h4.read_unread, h5.read_unread, h6.read_unread, h7.read_unread, h8.read_unread, h9.read_unread, h10.read_unread, h11.read_unread, View.ld_unit_zero (S := S1x16x1024) hz3, View.ld_unit_zero (S := S1x8x1024) hz3, View.ld_unit_zero (S := S1024x1024) hz, View.ld_unit_zero (S := S1024x512) hz, View.ld_unit_zero (S := S1024x256) hz]

/-- The keys in the narrow format. -/
theorem block_keyNarrow (hc0 : cond0_0 i) : out0_A_14 c i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 hc0 x0 x1 x2 x3 x4 x5 x6 x7 x8 x9 = k0_pay36 (F := Ideal) (k0_pay8 (F := Ideal) x0) x5 := by
  unfold out0_A_14
  rw [View.read_writes_eq_canon _ _ _ (cover0_A_14 c i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 hc0 x0 x1 x2 x3 x4 x5 x6 x7 x8 x9)]
  unfold kernelRun0_A
  dsimp only
  sl_unfold_words
  rw [View.canon_unit_zero (S := S1x16x512) hz3]
  simp only [View.readAt_eq_ld, h2.read_unread, h3.read_unread, h4.read_unread, h5.read_unread, h6.read_unread, h7.read_unread, h8.read_unread, h9.read_unread, h10.read_unread, h11.read_unread, View.ld_unit_zero (S := S1x16x1024) hz3, View.ld_unit_zero (S := S1x8x1024) hz3, View.ld_unit_zero (S := S1024x1024) hz, View.ld_unit_zero (S := S1024x512) hz, View.ld_unit_zero (S := S1024x256) hz]

/-- The values. -/
theorem block_value (hc0 : cond0_0 i) : out0_A_15 c i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 hc0 x0 x1 x2 x3 x4 x5 x6 x7 x8 x9 = k0_pay1 (F := Ideal) (k0_pay37 (F := Ideal) (k0_pay8 (F := Ideal) x0) x6) := by
  unfold out0_A_15
  rw [View.read_writes_eq_canon _ _ _ (cover0_A_15 c i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 hc0 x0 x1 x2 x3 x4 x5 x6 x7 x8 x9)]
  unfold kernelRun0_A
  dsimp only
  sl_unfold_words
  rw [View.canon_unit_zero (S := S1x16x512) hz3]
  simp only [View.readAt_eq_ld, h2.read_unread, h3.read_unread, h4.read_unread, h5.read_unread, h6.read_unread, h7.read_unread, h8.read_unread, h9.read_unread, h10.read_unread, h11.read_unread, View.ld_unit_zero (S := S1x16x1024) hz3, View.ld_unit_zero (S := S1x8x1024) hz3, View.ld_unit_zero (S := S1024x1024) hz, View.ld_unit_zero (S := S1024x512) hz, View.ld_unit_zero (S := S1024x256) hz]

/-- The values in the narrow format. -/
theorem block_valueNarrow (hc0 : cond0_0 i) : out0_A_16 c i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 hc0 x0 x1 x2 x3 x4 x5 x6 x7 x8 x9 = k0_pay2 (F := Ideal) (k0_pay37 (F := Ideal) (k0_pay8 (F := Ideal) x0) x6) := by
  unfold out0_A_16
  rw [View.read_writes_eq_canon _ _ _ (cover0_A_16 c i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 hc0 x0 x1 x2 x3 x4 x5 x6 x7 x8 x9)]
  unfold kernelRun0_A
  dsimp only
  sl_unfold_words
  rw [View.canon_unit_zero (S := S1x16x512) hz3]
  simp only [View.readAt_eq_ld, h2.read_unread, h3.read_unread, h4.read_unread, h5.read_unread, h6.read_unread, h7.read_unread, h8.read_unread, h9.read_unread, h10.read_unread, h11.read_unread, View.ld_unit_zero (S := S1x16x1024) hz3, View.ld_unit_zero (S := S1x8x1024) hz3, View.ld_unit_zero (S := S1024x1024) hz, View.ld_unit_zero (S := S1024x512) hz, View.ld_unit_zero (S := S1024x256) hz]

/-- The index queries. -/
theorem block_idxQuery (hc0 : cond0_0 i) : out0_A_17 c i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 hc0 x0 x1 x2 x3 x4 x5 x6 x7 x8 x9 = k0_pay3 (F := Ideal) (k0_pay8 (F := Ideal) x0) x7 := by
  unfold out0_A_17
  rw [View.read_writes_eq_canon _ _ _ (cover0_A_17 c i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 hc0 x0 x1 x2 x3 x4 x5 x6 x7 x8 x9)]
  unfold kernelRun0_A
  dsimp only
  sl_unfold_words
  rw [View.canon_unit_zero (S := S1x16x512) hz3]
  simp only [View.readAt_eq_ld, h2.read_unread, h3.read_unread, h4.read_unread, h5.read_unread, h6.read_unread, h7.read_unread, h8.read_unread, h9.read_unread, h10.read_unread, h11.read_unread, View.ld_unit_zero (S := S1x16x1024) hz3, View.ld_unit_zero (S := S1x8x1024) hz3, View.ld_unit_zero (S := S1024x1024) hz, View.ld_unit_zero (S := S1024x512) hz, View.ld_unit_zero (S := S1024x256) hz]

/-- The index keys, written twice. -/
theorem block_idxKey (hc0 : cond0_0 i) : out0_A_18 c i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 hc0 x0 x1 x2 x3 x4 x5 x6 x7 x8 x9 = k0_pay5 (F := Ideal) (k0_pay8 (F := Ideal) x0) x8 := by
  unfold out0_A_18
  rw [View.read_writes_eq_canon _ _ _ (cover0_A_18 c i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 hc0 x0 x1 x2 x3 x4 x5 x6 x7 x8 x9)]
  unfold kernelRun0_A
  dsimp only
  sl_unfold_words
  rw [View.canon_unit_zero (S := S1x16x128) hz3]
  simp only [View.readAt_eq_ld, h2.read_unread, h3.read_unread, h4.read_unread, h5.read_unread, h6.read_unread, h7.read_unread, h8.read_unread, h9.read_unread, h10.read_unread, h11.read_unread, View.ld_unit_zero (S := S1x16x1024) hz3, View.ld_unit_zero (S := S1x8x1024) hz3, View.ld_unit_zero (S := S1024x1024) hz, View.ld_unit_zero (S := S1024x512) hz, View.ld_unit_zero (S := S1024x256) hz]

/-- The index keys and head weights. -/
theorem block_idxMix (hc0 : cond0_0 i) : out0_A_19 c i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 hc0 x0 x1 x2 x3 x4 x5 x6 x7 x8 x9 = k0_pay6 (F := Ideal) (k0_pay8 (F := Ideal) x0) x8 := by
  unfold out0_A_19
  rw [View.read_writes_eq_canon _ _ _ (cover0_A_19 c i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 hc0 x0 x1 x2 x3 x4 x5 x6 x7 x8 x9)]
  unfold kernelRun0_A
  dsimp only
  sl_unfold_words
  rw [View.canon_unit_zero (S := S1x16x128) hz3]
  simp only [View.readAt_eq_ld, h2.read_unread, h3.read_unread, h4.read_unread, h5.read_unread, h6.read_unread, h7.read_unread, h8.read_unread, h9.read_unread, h10.read_unread, h11.read_unread, View.ld_unit_zero (S := S1x16x1024) hz3, View.ld_unit_zero (S := S1x8x1024) hz3, View.ld_unit_zero (S := S1024x1024) hz, View.ld_unit_zero (S := S1024x512) hz, View.ld_unit_zero (S := S1024x256) hz]

/-- The tile's convolution, over its scratch. -/
abbrev convTile : S1x16x1024.Idx → EReal := fun y => conv (T := 16) (E := 24) rfl x0 x2 (ext (T := 16) (E := 24) (enter x0 x2) fun r j => x1 (ix3 0 r j)) x9 (y 1) (y 2)

/-- The stores into the convolution's output agree with the convolution of the tile. -/
theorem conv_pieces (hc0 : cond0_0 i) : ∀ p ∈ (kernelRun0_A (F := Ideal) c i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 hc0 x0 x1 x2 x3 x4 x5 x6 x7 x8 x9).1, ∀ y : p.1.shape.Idx, p.2 y = convTile x0 x1 x2 x9 (p.1.emb y) := by
  unfold kernelRun0_A
  dsimp only
  sl_unfold_words
  simp only [View.readAt_eq_ld, h2.read_unread, h3.read_unread, h4.read_unread, h5.read_unread, h6.read_unread, h7.read_unread, h8.read_unread, h9.read_unread, h10.read_unread, h11.read_unread, View.ld_unit_zero (S := S1x16x1024) hz3, View.ld_unit_zero (S := S1x8x1024) hz3, View.ld_unit_zero (S := S1024x1024) hz, View.ld_unit_zero (S := S1024x512) hz, View.ld_unit_zero (S := S1024x256) hz]
  refine List.forall_mem_cons.mpr ⟨?_, List.forall_mem_cons.mpr ⟨?_, List.forall_mem_cons.mpr ⟨?_, List.forall_mem_cons.mpr ⟨?_, fun p hp => absurd hp List.not_mem_nil⟩⟩⟩⟩
  · exact agree_conv (T := 16) (E := 24) rfl 768 (by omega) inb_S1x16x1024_S1x16x256_0_0_768 _ _ _ _ _ _ _ _ _ (pay29_apply _ _ _ _ _ _ _ _)
      (fun r j n hn => (pay9_apply x0 _ r j).trans (dot_cols x0 x2 768 inb_S1024x4096_S1024x256_0_768 r j n hn))
      (fun r j n hn => (pay9_apply x0 _ r j).trans (dot_cols x0 x2 3840 inb_S1024x4096_S1024x256_0_3840 r j n hn))
      (fun r j => (pay11_apply x0 _ _ r j).trans (congrArg₂ (· * ·) (dot_cols x0 x2 1792 inb_S1024x4096_S1024x256_0_1792 r j _ (by show 1024 + (768 + j.val) = 1792 + j.val; omega))
        (dot_cols x0 x2 2816 inb_S1024x4096_S1024x256_0_2816 r j _ (by show 2048 + (768 + j.val) = 2816 + j.val; omega))))
      (load_chunk (L := stores rfl (chunkVal x0 x2) [topStore (T := 16) rfl (k0_pay7 (F := Ideal) x1)] 3 (by omega)) _ (agree_scratch x0 x1 x2 3 (by omega)) 7 768 (by omega) (by omega) inb_S24x1024_S16x256_7_768 fun r j hj => whole rfl _ 3 (by omega) r j hj)
      (load_chunk (L := stores rfl (chunkVal x0 x2) [topStore (T := 16) rfl (k0_pay7 (F := Ideal) x1)] 3 (by omega)) _ (agree_scratch x0 x1 x2 3 (by omega)) 6 768 (by omega) (by omega) inb_S24x1024_S16x256_6_768 fun r j hj => whole rfl _ 3 (by omega) r j hj)
      (fun j n hn => tap_cols x9 0 768 inb_S3x1024_S1x256_0_768 j n hn) (fun j n hn => tap_cols x9 1 768 inb_S3x1024_S1x256_1_768 j n hn)
      (fun j n hn => tap_cols x9 2 768 inb_S3x1024_S1x256_2_768 j n hn)
  · exact agree_conv (T := 16) (E := 24) rfl 512 (by omega) inb_S1x16x1024_S1x16x256_0_0_512 _ _ _ _ _ _ _ _ _ (pay24_apply _ _ _ _ _ _ _ _)
      (fun r j n hn => (pay9_apply x0 _ r j).trans (dot_cols x0 x2 512 inb_S1024x4096_S1024x256_0_512 r j n hn))
      (fun r j n hn => (pay9_apply x0 _ r j).trans (dot_cols x0 x2 3584 inb_S1024x4096_S1024x256_0_3584 r j n hn))
      (fun r j => (pay11_apply x0 _ _ r j).trans (congrArg₂ (· * ·) (dot_cols x0 x2 1536 inb_S1024x4096_S1024x256_0_1536 r j _ (by show 1024 + (512 + j.val) = 1536 + j.val; omega))
        (dot_cols x0 x2 2560 inb_S1024x4096_S1024x256_0_2560 r j _ (by show 2048 + (512 + j.val) = 2560 + j.val; omega))))
      (load_chunk (L := stores rfl (chunkVal x0 x2) [topStore (T := 16) rfl (k0_pay7 (F := Ideal) x1)] 2 (by omega)) _ (agree_scratch x0 x1 x2 2 (by omega)) 7 512 (by omega) (by omega) inb_S24x1024_S16x256_7_512 fun r j hj => whole rfl _ 2 (by omega) r j hj)
      (load_chunk (L := stores rfl (chunkVal x0 x2) [topStore (T := 16) rfl (k0_pay7 (F := Ideal) x1)] 2 (by omega)) _ (agree_scratch x0 x1 x2 2 (by omega)) 6 512 (by omega) (by omega) inb_S24x1024_S16x256_6_512 fun r j hj => whole rfl _ 2 (by omega) r j hj)
      (fun j n hn => tap_cols x9 0 512 inb_S3x1024_S1x256_0_512 j n hn) (fun j n hn => tap_cols x9 1 512 inb_S3x1024_S1x256_1_512 j n hn)
      (fun j n hn => tap_cols x9 2 512 inb_S3x1024_S1x256_2_512 j n hn)
  · exact agree_conv (T := 16) (E := 24) rfl 256 (by omega) inb_S1x16x1024_S1x16x256_0_0_256 _ _ _ _ _ _ _ _ _ (pay19_apply _ _ _ _ _ _ _ _)
      (fun r j n hn => (pay9_apply x0 _ r j).trans (dot_cols x0 x2 256 inb_S1024x4096_S1024x256_0_256 r j n hn))
      (fun r j n hn => (pay9_apply x0 _ r j).trans (dot_cols x0 x2 3328 inb_S1024x4096_S1024x256_0_3328 r j n hn))
      (fun r j => (pay11_apply x0 _ _ r j).trans (congrArg₂ (· * ·) (dot_cols x0 x2 1280 inb_S1024x4096_S1024x256_0_1280 r j _ (by show 1024 + (256 + j.val) = 1280 + j.val; omega))
        (dot_cols x0 x2 2304 inb_S1024x4096_S1024x256_0_2304 r j _ (by show 2048 + (256 + j.val) = 2304 + j.val; omega))))
      (load_chunk (L := stores rfl (chunkVal x0 x2) [topStore (T := 16) rfl (k0_pay7 (F := Ideal) x1)] 1 (by omega)) _ (agree_scratch x0 x1 x2 1 (by omega)) 7 256 (by omega) (by omega) inb_S24x1024_S16x256_7_256 fun r j hj => whole rfl _ 1 (by omega) r j hj)
      (load_chunk (L := stores rfl (chunkVal x0 x2) [topStore (T := 16) rfl (k0_pay7 (F := Ideal) x1)] 1 (by omega)) _ (agree_scratch x0 x1 x2 1 (by omega)) 6 256 (by omega) (by omega) inb_S24x1024_S16x256_6_256 fun r j hj => whole rfl _ 1 (by omega) r j hj)
      (fun j n hn => tap_cols x9 0 256 inb_S3x1024_S1x256_0_256 j n hn) (fun j n hn => tap_cols x9 1 256 inb_S3x1024_S1x256_1_256 j n hn)
      (fun j n hn => tap_cols x9 2 256 inb_S3x1024_S1x256_2_256 j n hn)
  · exact agree_conv (T := 16) (E := 24) rfl 0 (by omega) inb_S1x16x1024_S1x16x256_0_0_0 _ _ _ _ _ _ _ _ _ (pay14_apply _ _ _ _ _ _ _ _)
      (fun r j n hn => (pay9_apply x0 _ r j).trans (dot_cols x0 x2 0 inb_S1024x4096_S1024x256_0_0 r j n hn))
      (fun r j n hn => (pay9_apply x0 _ r j).trans (dot_cols x0 x2 3072 inb_S1024x4096_S1024x256_0_3072 r j n hn))
      (fun r j => (pay11_apply x0 _ _ r j).trans (congrArg₂ (· * ·) (dot_cols x0 x2 1024 inb_S1024x4096_S1024x256_0_1024 r j _ (by show 1024 + (0 + j.val) = 1024 + j.val; omega))
        (dot_cols x0 x2 2048 inb_S1024x4096_S1024x256_0_2048 r j _ (by show 2048 + (0 + j.val) = 2048 + j.val; omega))))
      (load_chunk (L := stores rfl (chunkVal x0 x2) [topStore (T := 16) rfl (k0_pay7 (F := Ideal) x1)] 0 (by omega)) _ (agree_scratch x0 x1 x2 0 (by omega)) 7 0 (by omega) (by omega) inb_S24x1024_S16x256_7_0 fun r j hj => whole rfl _ 0 (by omega) r j hj)
      (load_chunk (L := stores rfl (chunkVal x0 x2) [topStore (T := 16) rfl (k0_pay7 (F := Ideal) x1)] 0 (by omega)) _ (agree_scratch x0 x1 x2 0 (by omega)) 6 0 (by omega) (by omega) inb_S24x1024_S16x256_6_0 fun r j hj => whole rfl _ 0 (by omega) r j hj)
      (fun j n hn => tap_cols x9 0 0 inb_S3x1024_S1x256_0_0 j n hn) (fun j n hn => tap_cols x9 1 0 inb_S3x1024_S1x256_1_0 j n hn)
      (fun j n hn => tap_cols x9 2 0 inb_S3x1024_S1x256_2_0 j n hn)

/-- The gated convolution. -/
theorem block_conv (hc0 : cond0_0 i) : out0_A_10 c i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 hc0 x0 x1 x2 x3 x4 x5 x6 x7 x8 x9 = convTile x0 x1 x2 x9 := by
  unfold out0_A_10
  rw [View.read_writes_eq_canon _ _ _ (cover0_A_10 c i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 hc0 x0 x1 x2 x3 x4 x5 x6 x7 x8 x9)]
  funext y
  exact View.canon_apply_of_pieces _ _ (conv_pieces c i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 x0 x1 x2 x3 x4 x5 x6 x7 x8 x9 hc0) y (cover0_A_10 c i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 hc0 x0 x1 x2 x3 x4 x5 x6 x7 x8 x9 y)

/-- The last eight rows that entered the convolution. -/
theorem block_state (hc0 : cond0_0 i) (r : Fin 8) (j : Fin 1024) : out0_A_20 c i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 hc0 x0 x1 x2 x3 x4 x5 x6 x7 x8 x9 (ix3 0 r j) = enter x0 x2 ⟨8 + r.val, by omega⟩ j := by
  unfold out0_A_20
  rw [View.read_writes_eq_canon _ _ _ (cover0_A_20 c i arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 hc0 x0 x1 x2 x3 x4 x5 x6 x7 x8 x9)]
  unfold kernelRun0_A
  dsimp only
  sl_unfold_words
  rw [View.canon_unit_zero (S := S1x8x1024) hz3]
  simp only [View.readAt_eq_ld, h2.read_unread, h3.read_unread, h4.read_unread, h5.read_unread, h6.read_unread, h7.read_unread, h8.read_unread, h9.read_unread, h10.read_unread, h11.read_unread, View.ld_unit_zero (S := S1x16x1024) hz3, View.ld_unit_zero (S := S1x8x1024) hz3, View.ld_unit_zero (S := S1024x1024) hz, View.ld_unit_zero (S := S1024x512) hz, View.ld_unit_zero (S := S1024x256) hz]
  exact (pay30_apply _ r j).trans (load_tail (T := 16) (E := 24) (L := stores rfl (chunkVal x0 x2) [topStore (T := 16) rfl (k0_pay7 (F := Ideal) x1)] 3 (by omega)) _ (agree_scratch x0 x1 x2 3 (by omega)) 16 rfl
    inb_S24x1024_S8x1024_16_0 (by omega) rfl (fun s j hs => own rfl s j hs 3 (by omega) (by omega)) r j)

end Cert.InProjSampleIdeal.Rows

end
-- ==== Proof.SampleHost.lean ====
module

public import proofs.«01_k».proof.Proof.SampleBlocks
public import proofs.«01_k».proof.Proof.InProjBlocks
public import proofs.«01_k».proof.Proof.Gen.InProjSampleIdeal.Frame.Runs
public import Idealize.ShloMosaic.Lib.KernelVsHost

/-! The input projection of the sample batch: its operands as the grid finds them, parts of the projection weights, some of them written twice, and
    the products of a sequence's rows with them. -/

@[expose] public section

set_option maxRecDepth 16384

noncomputable section

namespace Cert.InProjSampleIdeal.Rows

open Cert.InProjIdeal.Rows (mat keyCols mixCols doubled cols_apply side_apply doubled_apply mix_apply mul_of_zero)
open Cert.InProjSampleIdeal Cert.InProjSampleIdeal.Gen Cert.Rows Cert.Tile Idealize.ShloMosaic Idealize.ShloMosaic.ValueIdx Idealize.ShloMosaic.TcCoe Idealize.SL.Sem
open scoped BigOperators

variable (m : (ℓ : Loc nD τ sig) → Buf (Elt Ideal) ℓ)

/-- The activations. -/
abbrev argX (c : Dev nD) : S16x16x1024.Idx → EReal := m ((c : Thread nD τ).loc main_arg0)
/-- The two rows before each sequence. -/
abbrev argQ (c : Dev nD) : S16x2x1024.Idx → EReal := m ((c : Thread nD τ).loc main_arg1)
/-- The projection weights of the two layers. -/
abbrev argW (c : Dev nD) : S2x1024x7240.Idx → EReal := m ((c : Thread nD τ).loc main_arg2)
/-- The convolution taps of the two layers. -/
abbrev argC (c : Dev nD) : S2x3x1024.Idx → EReal := m ((c : Thread nD τ).loc main_arg3)

/-! ## The operands -/

/-- The rows before a sequence, with six rows of padding in front. -/
theorem V_q (c : Dev nD) : (V m c main_v0 : S16x8x1024.Idx → EReal)
    = pad S16x8x1024 ![0, 6, 0] ![0, 0, 0] ![0, 0, 0] (argQ m c) (sitofp (F := Ideal) .f32 (constantI S_ 32 0#32)) pads_S16x2x1024_S16x8x1024_000_600_000 h_S_ := by
  unfold V; simp only [hostOps0, hostOps0_1, hostOps0_2, List.flatten_cons, List.flatten_nil, List.append_nil, List.cons_append, List.nil_append]
  after_results_simp <;> rfl
/-- The first operand: the four parts of the convolution, side by side. -/
theorem V_wa (c : Dev nD) : (V m c main_v17 : S1024x4096.Idx → EReal)
    = concatenate S1024x4096 1 [⟨S1024x1024, extractStridedSlice S1024x1024 ![0, 0] (mat (argW m c)) slices_S1024x7240_S1024x1024_0_0⟩,
        ⟨S1024x1024, extractStridedSlice S1024x1024 ![0, 1024] (mat (argW m c)) slices_S1024x7240_S1024x1024_0_1024⟩,
        ⟨S1024x1024, extractStridedSlice S1024x1024 ![0, 2048] (mat (argW m c)) slices_S1024x7240_S1024x1024_0_2048⟩,
        ⟨S1024x1024, extractStridedSlice S1024x1024 ![0, 5192] (mat (argW m c)) slices_S1024x7240_S1024x1024_0_5192⟩]
        concatenates_S1024x1024_S1024x1024_S1024x1024_S1024x1024_S1024x4096_d1 := by
  unfold V; simp only [hostOps0, hostOps0_1, hostOps0_2, List.flatten_cons, List.flatten_nil, List.append_nil, List.cons_append, List.nil_append]
  after_results_simp <;> rfl
/-- The queries' columns. -/
theorem V_wq (c : Dev nD) : (V m c main_v18 : S1024x1024.Idx → EReal) = extractStridedSlice S1024x1024 ![0, 3072] (mat (argW m c)) slices_S1024x7240_S1024x1024_0_3072 := by
  unfold V; simp only [hostOps0, hostOps0_1, hostOps0_2, List.flatten_cons, List.flatten_nil, List.append_nil, List.cons_append, List.nil_append]
  after_results_simp <;> rfl
/-- The attention gate's columns. -/
theorem V_wg (c : Dev nD) : (V m c main_v19 : S1024x1024.Idx → EReal) = extractStridedSlice S1024x1024 ![0, 6216] (mat (argW m c)) slices_S1024x7240_S1024x1024_0_6216 := by
  unfold V; simp only [hostOps0, hostOps0_1, hostOps0_2, List.flatten_cons, List.flatten_nil, List.append_nil, List.cons_append, List.nil_append]
  after_results_simp <;> rfl
/-- The keys' columns, each head written twice. -/
theorem V_wk (c : Dev nD) : (V m c main_v23 : S1024x512.Idx → EReal) = doubled (extractStridedSlice S1024x256 ![0, 4096] (mat (argW m c)) slices_S1024x7240_S1024x256_0_4096) := by
  unfold V; simp only [hostOps0, hostOps0_1, hostOps0_2, List.flatten_cons, List.flatten_nil, List.append_nil, List.cons_append, List.nil_append]
  after_results_simp <;> rfl
/-- The values' columns, each head written twice. -/
theorem V_wv (c : Dev nD) : (V m c main_v27 : S1024x512.Idx → EReal) = doubled (extractStridedSlice S1024x256 ![0, 4352] (mat (argW m c)) slices_S1024x7240_S1024x256_0_4352) := by
  unfold V; simp only [hostOps0, hostOps0_1, hostOps0_2, List.flatten_cons, List.flatten_nil, List.append_nil, List.cons_append, List.nil_append]
  after_results_simp <;> rfl
/-- The index queries' columns. -/
theorem V_wi (c : Dev nD) : (V m c main_v28 : S1024x512.Idx → EReal) = extractStridedSlice S1024x512 ![0, 4608] (mat (argW m c)) slices_S1024x7240_S1024x512_0_4608 := by
  unfold V; simp only [hostOps0, hostOps0_1, hostOps0_2, List.flatten_cons, List.flatten_nil, List.append_nil, List.cons_append, List.nil_append]
  after_results_simp <;> rfl
/-- The index keys' columns twice, then the mixed columns. -/
theorem V_wm (c : Dev nD) : (V m c main_v30 : S1024x256.Idx → EReal)
    = concatenate S1024x256 1 [⟨S1024x64, keyCols (argW m c)⟩, ⟨S1024x64, keyCols (argW m c)⟩, ⟨S1024x128, mixCols (argW m c)⟩] concatenates_S1024x64_S1024x64_S1024x128_S1024x256_d1 := by
  unfold V; simp only [hostOps0, hostOps0_1, hostOps0_2, List.flatten_cons, List.flatten_nil, List.append_nil, List.cons_append, List.nil_append]
  after_results_simp <;> rfl
/-- The convolution taps of the layer. -/
theorem V_c (c : Dev nD) : (V m c main_v32 : S3x1024.Idx → EReal)
    = shapeCast S3x1024 (extractStridedSlice S1x3x1024 ![0, 0, 0] (argC m c) slices_S2x3x1024_S1x3x1024_0_0_0) shapeCasts_S1x3x1024_S3x1024 := by
  unfold V; simp only [hostOps0, hostOps0_1, hostOps0_2, List.flatten_cons, List.flatten_nil, List.append_nil, List.cons_append, List.nil_append]
  after_results_simp <;> rfl

/-! ## The blocks a grid point reads -/

/-- The sequence of a grid point. -/
def seqAt (t : Fin cfg0.N) : Fin 16 := ⟨t.val, t.isLt.trans_eq N_0⟩

/-- A block of an array of sequences lies at the point's sequence. -/
abbrev At (ix : Fin 3 → ℕ) (t : Fin cfg0.N) : Prop := ix 0 = t.val ∧ ix 1 = 0 ∧ ix 2 = 0

/-- Which block of activations and of earlier rows a grid point reads. -/
theorem idx_in : ∀ t : Fin cfg0.N, At (win0_0.index t) t ∧ At (win0_1.index t) t :=
  (by decide +kernel : ∀ t : Fin grid0.N, At (win0_0.index t) t ∧ At (win0_1.index t) t)

/-- A block of a matrix is its first. -/
abbrev First (ix : Fin 2 → ℕ) : Prop := ix 0 = 0 ∧ ix 1 = 0

/-- Every operand of weights is read whole. -/
theorem idx_whole : ∀ t : Fin cfg0.N, First (win0_2.index t) ∧ First (win0_3.index t) ∧ First (win0_4.index t) ∧ First (win0_5.index t) ∧ First (win0_6.index t) ∧ First (win0_7.index t) ∧ First (win0_8.index t) ∧ First (win0_9.index t) :=
  (by decide +kernel : ∀ t : Fin grid0.N, First (win0_2.index t) ∧ First (win0_3.index t) ∧ First (win0_4.index t) ∧ First (win0_5.index t) ∧ First (win0_6.index t) ∧ First (win0_7.index t) ∧ First (win0_8.index t) ∧ First (win0_9.index t))

/-- An array of sequences read at a point's block. -/
theorem read_seq {A B : ℕ} {α : Type} (G : (⟨3, ![16, A, B]⟩ : Shape).Idx → α) {ix : Fin 3 → ℕ} {t : Fin cfg0.N} (h : At ix t) (r : Fin A) (j : Fin B) (i : (⟨3, ![16, A, B]⟩ : Shape).Idx)
    (hi : ∀ a : Fin 3, (i a).val = ix a * (![1, A, B] : Fin 3 → ℕ) a + 1 * ((ix3 (0 : Fin 1) r j : (⟨3, ![1, A, B]⟩ : Shape).Idx) a).val) : G i = G (ix3 (seqAt t) r j) := by
  refine congrArg G (funext fun a => Fin.ext ((hi a).trans ?_))
  match a with
  | ⟨0, _⟩ => show ix 0 * 1 + 1 * 0 = t.val; rw [h.1]; omega
  | ⟨1, _⟩ => show ix 1 * A + 1 * r.val = r.val; rw [h.2.1]; omega
  | ⟨2, _⟩ => show ix 2 * B + 1 * j.val = j.val; rw [h.2.2]; omega

/-- A matrix read whole. -/
theorem read_whole {A B : ℕ} {α : Type} (G : (⟨2, ![A, B]⟩ : Shape).Idx → α) {ix : Fin 2 → ℕ} (h : First ix) (k : Fin A) (j : Fin B) (i : (⟨2, ![A, B]⟩ : Shape).Idx)
    (hi : ∀ a : Fin 2, (i a).val = ix a * (![A, B] : Fin 2 → ℕ) a + 1 * ((ix2 k j : (⟨2, ![A, B]⟩ : Shape).Idx) a).val) : G i = G (ix2 k j) := by
  refine congrArg G (funext fun a => Fin.ext ((hi a).trans ?_))
  match a with
  | ⟨0, _⟩ => show ix 0 * A + 1 * k.val = k.val; rw [h.1]; omega
  | ⟨1, _⟩ => show ix 1 * B + 1 * j.val = j.val; rw [h.2]; omega

/-- A grid point's activations. -/
theorem blk_x (c : Dev nD) (t : Fin cfg0.N) (r : Fin 16) (k : Fin 1024) : iblk m c 0 t (ix3 0 r k) = argX m c (ix3 (seqAt t) r k) :=
  (read_seq (V m c main_arg0 : S16x16x1024.Idx → EReal) (idx_in t).1 r k _ fun _ => rfl).trans (congrFun (V_main_arg0 m c) _)

/-- The two rows before a grid point's sequence are the last of its block of eight. -/
theorem blk_q (c : Dev nD) (t : Fin cfg0.N) (r : Fin 8) (s : Fin 2) (hs : r.val = 6 + s.val) (j : Fin 1024) : iblk m c 1 t (ix3 0 r j) = argQ m c (ix3 (seqAt t) s j) := by
  refine (read_seq (V m c main_v0 : S16x8x1024.Idx → EReal) (idx_in t).2 r j _ fun _ => rfl).trans ((congrFun (V_q m c) (ix3 (seqAt t) r j)).trans
    (pad_apply_of_inside _ _ _ _ _ _ _ _ (ix3 (seqAt t) s j) fun a => ?_))
  match a with
  | ⟨0, _⟩ => show (seqAt t).val = 0 + (seqAt t).val * (0 + 1); omega
  | ⟨1, _⟩ => show r.val = 6 + s.val * (0 + 1); omega
  | ⟨2, _⟩ => show j.val = 0 + j.val * (0 + 1); omega

/-- Every grid point has the taps of the layer. -/
theorem blk_c (c : Dev nD) (t : Fin cfg0.N) (l : Fin 3) (j : Fin 1024) : iblk m c 9 t (ix2 l j) = argC m c (ix3 0 l j) :=
  (read_whole (V m c main_v32 : S3x1024.Idx → EReal) (idx_whole t).2.2.2.2.2.2.2 l j _ fun _ => rfl).trans
    ((congrFun (V_c m c) (ix2 l j)).trans (member_apply 0 (argC m c) slices_S2x3x1024_S1x3x1024_0_0_0 shapeCasts_S1x3x1024_S3x1024 l j))

/-- Every grid point has the whole four parts of the convolution. -/
theorem blk_wa (c : Dev nD) (t : Fin cfg0.N) (k : Fin 1024) (j : Fin 4096) : iblk m c 2 t (ix2 k j) = (V m c main_v17 : S1024x4096.Idx → EReal) (ix2 k j) :=
  read_whole (V m c main_v17 : S1024x4096.Idx → EReal) (idx_whole t).1 k j _ fun _ => rfl
/-- Every grid point has the whole queries' columns. -/
theorem blk_wq (c : Dev nD) (t : Fin cfg0.N) (k : Fin 1024) (j : Fin 1024) : iblk m c 3 t (ix2 k j) = (V m c main_v18 : S1024x1024.Idx → EReal) (ix2 k j) :=
  read_whole (V m c main_v18 : S1024x1024.Idx → EReal) (idx_whole t).2.1 k j _ fun _ => rfl
/-- Every grid point has the whole attention gate's columns. -/
theorem blk_wg (c : Dev nD) (t : Fin cfg0.N) (k : Fin 1024) (j : Fin 1024) : iblk m c 4 t (ix2 k j) = (V m c main_v19 : S1024x1024.Idx → EReal) (ix2 k j) :=
  read_whole (V m c main_v19 : S1024x1024.Idx → EReal) (idx_whole t).2.2.1 k j _ fun _ => rfl
/-- Every grid point has the whole keys' columns. -/
theorem blk_wk (c : Dev nD) (t : Fin cfg0.N) (k : Fin 1024) (j : Fin 512) : iblk m c 5 t (ix2 k j) = (V m c main_v23 : S1024x512.Idx → EReal) (ix2 k j) :=
  read_whole (V m c main_v23 : S1024x512.Idx → EReal) (idx_whole t).2.2.2.1 k j _ fun _ => rfl
/-- Every grid point has the whole values' columns. -/
theorem blk_wv (c : Dev nD) (t : Fin cfg0.N) (k : Fin 1024) (j : Fin 512) : iblk m c 6 t (ix2 k j) = (V m c main_v27 : S1024x512.Idx → EReal) (ix2 k j) :=
  read_whole (V m c main_v27 : S1024x512.Idx → EReal) (idx_whole t).2.2.2.2.1 k j _ fun _ => rfl
/-- Every grid point has the whole index queries' columns. -/
theorem blk_wi (c : Dev nD) (t : Fin cfg0.N) (k : Fin 1024) (j : Fin 512) : iblk m c 7 t (ix2 k j) = (V m c main_v28 : S1024x512.Idx → EReal) (ix2 k j) :=
  read_whole (V m c main_v28 : S1024x512.Idx → EReal) (idx_whole t).2.2.2.2.2.1 k j _ fun _ => rfl
/-- Every grid point has the whole index keys' and mixed columns. -/
theorem blk_wm (c : Dev nD) (t : Fin cfg0.N) (k : Fin 1024) (j : Fin 256) : iblk m c 8 t (ix2 k j) = (V m c main_v30 : S1024x256.Idx → EReal) (ix2 k j) :=
  read_whole (V m c main_v30 : S1024x256.Idx → EReal) (idx_whole t).2.2.2.2.2.2.1 k j _ fun _ => rfl

/-! ## Products of a sequence's rows with columns of the weights -/

/-- If a column of an operand is column `n` of the weights, a sequence's product with it is the projection's column `n`. -/
theorem dot_proj (c : Dev nD) (t : Fin cfg0.N) {N : ℕ} (w : (⟨2, ![1024, N]⟩ : Shape).Idx → EReal) (col : Fin N) (n : Fin 7240) (hw : ∀ k, w (ix2 k col) = argW m c (ix3 0 k n)) (r : Fin 16) :
    dot (T := 16) (iblk m c 0 t) w r col = proj (argX m c) (argW m c) (seqAt t) r n := by
  unfold dot proj rowDot
  exact Finset.sum_congr rfl fun k _ => congrArg₂ (· * ·) (blk_x m c t r k) (hw k)

/-- The first operand's columns from 0: the outer gate. -/
theorem dot_a0 (c : Dev nD) (t : Fin cfg0.N) (r : Fin 16) (col : Fin 4096) (j : Fin 1024) (hj : col.val = 0 + j.val) :
    dot (T := 16) (iblk m c 0 t) (iblk m c 2 t) r col = part (argX m c) (argW m c) 0 (n := 1024) (by omega) (seqAt t) r j :=
  dot_proj m c t _ col _ (fun k => (blk_wa m c t k col).trans ((congrFun (V_wa m c) _).trans ((side_apply _ _ 0 (by simp) _ rfl 0 rfl k col j hj.symm).trans
    (cols_apply 0 (by omega) (argW m c) slices_S1024x7240_S1024x1024_0_0 k j)))) r

/-- The first operand's columns from 1024: the inner gate. -/
theorem dot_a1 (c : Dev nD) (t : Fin cfg0.N) (r : Fin 16) (col : Fin 4096) (j : Fin 1024) (hj : col.val = 1024 + j.val) :
    dot (T := 16) (iblk m c 0 t) (iblk m c 2 t) r col = part (argX m c) (argW m c) 1024 (n := 1024) (by omega) (seqAt t) r j :=
  dot_proj m c t _ col _ (fun k => (blk_wa m c t k col).trans ((congrFun (V_wa m c) _).trans ((side_apply _ _ 1 (by simp) _ rfl 1024 rfl k col j hj.symm).trans
    (cols_apply 1024 (by omega) (argW m c) slices_S1024x7240_S1024x1024_0_1024 k j)))) r

/-- The first operand's columns from 2048: the convolved part. -/
theorem dot_a2 (c : Dev nD) (t : Fin cfg0.N) (r : Fin 16) (col : Fin 4096) (j : Fin 1024) (hj : col.val = 2048 + j.val) :
    dot (T := 16) (iblk m c 0 t) (iblk m c 2 t) r col = part (argX m c) (argW m c) 2048 (n := 1024) (by omega) (seqAt t) r j :=
  dot_proj m c t _ col _ (fun k => (blk_wa m c t k col).trans ((congrFun (V_wa m c) _).trans ((side_apply _ _ 2 (by simp) _ rfl 2048 rfl k col j hj.symm).trans
    (cols_apply 2048 (by omega) (argW m c) slices_S1024x7240_S1024x1024_0_2048 k j)))) r

/-- The first operand's columns from 3072: the convolution gate. -/
theorem dot_a3 (c : Dev nD) (t : Fin cfg0.N) (r : Fin 16) (col : Fin 4096) (j : Fin 1024) (hj : col.val = 3072 + j.val) :
    dot (T := 16) (iblk m c 0 t) (iblk m c 2 t) r col = part (argX m c) (argW m c) 5192 (n := 1024) (by omega) (seqAt t) r j :=
  dot_proj m c t _ col _ (fun k => (blk_wa m c t k col).trans ((congrFun (V_wa m c) _).trans ((side_apply _ _ 3 (by simp) _ rfl 3072 rfl k col j hj.symm).trans
    (cols_apply 5192 (by omega) (argW m c) slices_S1024x7240_S1024x1024_0_5192 k j)))) r

/-- The queries' columns. -/
theorem dot_q (c : Dev nD) (t : Fin cfg0.N) (r : Fin 16) (j : Fin 1024) :
    dot (T := 16) (iblk m c 0 t) (iblk m c 3 t) r j = part (argX m c) (argW m c) 3072 (n := 1024) (by omega) (seqAt t) r j :=
  dot_proj m c t _ j _ (fun k => (blk_wq m c t k j).trans ((congrFun (V_wq m c) _).trans
    (cols_apply 3072 (by omega) (argW m c) slices_S1024x7240_S1024x1024_0_3072 k j))) r

/-- The attention gate's columns. -/
theorem dot_g (c : Dev nD) (t : Fin cfg0.N) (r : Fin 16) (j : Fin 1024) :
    dot (T := 16) (iblk m c 0 t) (iblk m c 4 t) r j = part (argX m c) (argW m c) 6216 (n := 1024) (by omega) (seqAt t) r j :=
  dot_proj m c t _ j _ (fun k => (blk_wg m c t k j).trans ((congrFun (V_wg m c) _).trans
    (cols_apply 6216 (by omega) (argW m c) slices_S1024x7240_S1024x1024_0_6216 k j))) r

/-- The index queries' columns. -/
theorem dot_i (c : Dev nD) (t : Fin cfg0.N) (r : Fin 16) (j : Fin 512) :
    dot (T := 16) (iblk m c 0 t) (iblk m c 7 t) r j = part (argX m c) (argW m c) 4608 (n := 512) (by omega) (seqAt t) r j :=
  dot_proj m c t _ j _ (fun k => (blk_wi m c t k j).trans ((congrFun (V_wi m c) _).trans
    (cols_apply 4608 (by omega) (argW m c) slices_S1024x7240_S1024x512_0_4608 k j))) r

/-- The keys' columns, each head written twice. -/
theorem dot_k (c : Dev nD) (t : Fin cfg0.N) (r : Fin 16) (j : Fin 512) :
    dot (T := 16) (iblk m c 0 t) (iblk m c 5 t) r j = part (argX m c) (argW m c) 4096 (n := 256) (by omega) (seqAt t) r (twice j) :=
  dot_proj m c t _ j _ (fun k => (blk_wk m c t k j).trans ((congrFun (V_wk m c) _).trans
    ((doubled_apply _ k j).trans (cols_apply 4096 (by omega) (argW m c) slices_S1024x7240_S1024x256_0_4096 k (twice j))))) r

/-- The values' columns, each head written twice. -/
theorem dot_v (c : Dev nD) (t : Fin cfg0.N) (r : Fin 16) (j : Fin 512) :
    dot (T := 16) (iblk m c 0 t) (iblk m c 6 t) r j = part (argX m c) (argW m c) 4352 (n := 256) (by omega) (seqAt t) r (twice j) :=
  dot_proj m c t _ j _ (fun k => (blk_wv m c t k j).trans ((congrFun (V_wv m c) _).trans
    ((doubled_apply _ k j).trans (cols_apply 4352 (by omega) (argW m c) slices_S1024x7240_S1024x256_0_4352 k (twice j))))) r

/-- The index keys' columns, written twice. -/
theorem dot_keys (c : Dev nD) (t : Fin cfg0.N) (r : Fin 16) (j : Fin 128) (col : Fin 256) (hc : col.val = j.val) :
    dot (T := 16) (iblk m c 0 t) (iblk m c 8 t) r col = part (argX m c) (argW m c) 5120 (n := 64) (by omega) (seqAt t) r ⟨j.val % 64, by omega⟩ := by
  refine dot_proj m c t _ col _ (fun k => (blk_wm m c t k col).trans ((congrFun (V_wm m c) _).trans ?_)) r
  by_cases hj : j.val < 64
  · exact (side_apply _ _ 0 (by simp) _ rfl 0 rfl k col (⟨j.val % 64, by omega⟩ : Fin 64) (by show 0 + j.val % 64 = col.val; omega)).trans
      (cols_apply 5120 (by omega) (argW m c) slices_S1024x7240_S1024x64_0_5120 k _)
  · exact (side_apply _ _ 1 (by simp) _ rfl 64 rfl k col (⟨j.val % 64, by omega⟩ : Fin 64) (by show 64 + j.val % 64 = col.val; omega)).trans
      (cols_apply 5120 (by omega) (argW m c) slices_S1024x7240_S1024x64_0_5120 k _)

/-- The products with the mixed columns. -/
theorem dot_mix (c : Dev nD) (t : Fin cfg0.N) (r : Fin 16) (j : Fin 128) (col : Fin 256) (hc : col.val = 128 + j.val) :
    dot (T := 16) (iblk m c 0 t) (iblk m c 8 t) r col = if h : j.val < 72 then proj (argX m c) (argW m c) (seqAt t) r ⟨5120 + j.val, by omega⟩ else 0 := by
  have hw : ∀ k, iblk m c 8 t (ix2 k col) = mixCols (argW m c) (ix2 k j) := fun k => (blk_wm m c t k col).trans ((congrFun (V_wm m c) _).trans (side_apply _ _ 2 (by simp) _ rfl 128 rfl k col j hc.symm))
  by_cases h : j.val < 72
  · rw [dif_pos h]
    exact dot_proj m c t _ col _ (fun k => (hw k).trans ((mix_apply _ k j).trans (dif_pos h))) r
  · rw [dif_neg h]
    unfold dot rowDot
    refine Finset.sum_eq_zero fun k _ => ?_
    exact mul_of_zero ((hw k).trans ((mix_apply _ k j).trans (dif_neg h)))

/-- A sequence's rows that enter the convolution. -/
theorem enter_row (c : Dev nD) (t : Fin cfg0.N) (r : Fin 16) (j : Fin 1024) : enter (T := 16) (iblk m c 0 t) (iblk m c 2 t) r j = convRow (argX m c) (argW m c) (seqAt t) r j :=
  congrArg₂ (· * ·) (dot_a1 m c t r _ j rfl) (dot_a2 m c t r _ j rfl)

end Cert.InProjSampleIdeal.Rows

end
-- ==== Proof.SampleValue.lean ====
module

public import proofs.«01_k».proof.Proof.SampleHost
public import proofs.«01_k».proof.Proof.InProjValue
public import proofs.«01_k».proof.Proof.Gen.InProjSampleIdeal.Value

/-! The input projection of the sample batch, read at the extended reals: its eleven result arrays. -/

@[expose] public section

set_option maxRecDepth 16384

noncomputable section

namespace Cert.InProjSampleIdeal.Rows

open Cert.InProjIdeal.Rows (gateConv_congr)
open Cert.InProjSampleIdeal Cert.InProjSampleIdeal.Gen Cert.Rows Cert.Tile Idealize.ShloMosaic Idealize.ShloMosaic.ValueIdx Idealize.ShloMosaic.TcCoe Idealize.SL.Sem
open Idealize.ShloMosaic.Pipeline (Dat)
open scoped BigOperators

variable (m : (ℓ : Loc nD τ sig) → Buf (Elt Ideal) ℓ)

/-! ## What a grid point leaves -/

/-- A point's scratch holds the rows of its sequence and the two rows before it. -/
theorem ext_rows (c : Dev nD) (t : Fin cfg0.N) (s : Fin 24) (n : Fin 18) (hn : s.val = 6 + n.val) (j : Fin 1024) :
    ext (T := 16) (E := 24) (enter (T := 16) (iblk m c 0 t) (iblk m c 2 t)) (fun r j => iblk m c 1 t (ix3 0 r j)) (ix2 s j) = convExt (argX m c) (argQ m c) (argW m c) (seqAt t) n j := by
  unfold convExt
  by_cases h : n.val < 2
  · rw [dif_pos h]
    exact (ext_before _ _ s ⟨s.val, by omega⟩ rfl j).trans (blk_q m c t _ ⟨n.val, h⟩ hn j)
  · rw [dif_neg h]
    exact (ext_own _ _ s ⟨n.val - 2, by omega⟩ (by show s.val = 8 + (n.val - 2); omega) j).trans (enter_row m c t _ j)

/-- The gated convolution. -/
theorem left_conv (c : Dev nD) (t : Fin cfg0.N) (r : Fin 16) (j : Fin 1024) :
    (outsAt0 m c t).1 (ix3 0 r j) = convOut (argX m c) (argQ m c) (argW m c) (argC m c) (ix3 (seqAt t) r j) := by
  unfold outsAt0
  dsimp only
  rw [block_conv]
  exact gateConv_congr (dot_a0 m c t r _ j (Nat.zero_add _).symm) (dot_a3 m c t r _ j rfl) (ext_rows m c t _ _ rfl j) (ext_rows m c t _ _ (by show 7 + r.val = 6 + (r.val + 1); omega) j) (enter_row m c t r j)
    (blk_c m c t 0 j) (blk_c m c t 1 j) (blk_c m c t 2 j)

/-- The scaled queries. -/
theorem left_query (c : Dev nD) (t : Fin cfg0.N) (r : Fin 16) (j : Fin 1024) : (outsAt0 m c t).2.1 (ix3 0 r j) = (queryOut (argX m c) (argW m c) : S16x16x1024.Idx → EReal) (ix3 (seqAt t) r j) := by
  refine Eq.trans ?_ ((pay32_apply _ _ r j).trans (congrArg (· * Ideal.ofBits .f32 0x3E000000#32) (dot_q m c t r j)))
  unfold outsAt0
  dsimp only
  rw [block_query]

/-- The attention gate. -/
theorem left_gate (c : Dev nD) (t : Fin cfg0.N) (r : Fin 16) (j : Fin 1024) : (outsAt0 m c t).2.2.1 (ix3 0 r j) = (gateOut (argX m c) (argW m c) : S16x16x1024.Idx → EReal) (ix3 (seqAt t) r j) := by
  refine Eq.trans ?_ ((pay33_apply _ _ r j).trans (congrArg Ideal.logistic (dot_g m c t r j)))
  unfold outsAt0
  dsimp only
  rw [block_gate]

/-- The keys. -/
theorem left_key (c : Dev nD) (t : Fin cfg0.N) (r : Fin 16) (j : Fin 512) : (outsAt0 m c t).2.2.2.1 (ix3 0 r j) = (headsOut (argX m c) (argW m c) 4096 (by omega) : S16x16x512.Idx → EReal) (ix3 (seqAt t) r j) := by
  refine Eq.trans ?_ ((pay35_apply _ _ r j).trans (dot_k m c t r j))
  unfold outsAt0
  dsimp only
  rw [block_key]

/-- The keys in the narrow format. -/
theorem left_keyNarrow (c : Dev nD) (t : Fin cfg0.N) (r : Fin 16) (j : Fin 512) : (outsAt0 m c t).2.2.2.2.1 (ix3 0 r j) = (headsOut (argX m c) (argW m c) 4096 (by omega) : S16x16x512.Idx → EReal) (ix3 (seqAt t) r j) := by
  refine Eq.trans ?_ ((pay36_apply _ _ r j).trans (dot_k m c t r j))
  unfold outsAt0
  dsimp only
  rw [block_keyNarrow]

/-- The values. -/
theorem left_value (c : Dev nD) (t : Fin cfg0.N) (r : Fin 16) (j : Fin 512) : (outsAt0 m c t).2.2.2.2.2.1 (ix3 0 r j) = (headsOut (argX m c) (argW m c) 4352 (by omega) : S16x16x512.Idx → EReal) (ix3 (seqAt t) r j) := by
  refine Eq.trans ?_ ((pay1_apply _ _ r j).trans (dot_v m c t r j))
  unfold outsAt0
  dsimp only
  rw [block_value]

/-- The values in the narrow format. -/
theorem left_valueNarrow (c : Dev nD) (t : Fin cfg0.N) (r : Fin 16) (j : Fin 512) : (outsAt0 m c t).2.2.2.2.2.2.1 (ix3 0 r j) = (headsOut (argX m c) (argW m c) 4352 (by omega) : S16x16x512.Idx → EReal) (ix3 (seqAt t) r j) := by
  refine Eq.trans ?_ ((pay2_apply _ _ r j).trans (dot_v m c t r j))
  unfold outsAt0
  dsimp only
  rw [block_valueNarrow]

/-- The index queries. -/
theorem left_idxQuery (c : Dev nD) (t : Fin cfg0.N) (r : Fin 16) (j : Fin 512) : (outsAt0 m c t).2.2.2.2.2.2.2.1 (ix3 0 r j) = (idxQueryOut (argX m c) (argW m c) : S16x16x512.Idx → EReal) (ix3 (seqAt t) r j) := by
  refine Eq.trans ?_ ((pay3_apply _ _ r j).trans (dot_i m c t r j))
  unfold outsAt0
  dsimp only
  rw [block_idxQuery]

/-- The index keys, written twice. -/
theorem left_idxKey (c : Dev nD) (t : Fin cfg0.N) (r : Fin 16) (j : Fin 128) : (outsAt0 m c t).2.2.2.2.2.2.2.2.1 (ix3 0 r j) = (idxKeyOut (argX m c) (argW m c) : S16x16x128.Idx → EReal) (ix3 (seqAt t) r j) := by
  refine Eq.trans ?_ ((pay5_apply _ _ r j).trans (dot_keys m c t r j _ rfl))
  unfold outsAt0
  dsimp only
  rw [block_idxKey]

/-- The index keys and head weights. -/
theorem left_idxMix (c : Dev nD) (t : Fin cfg0.N) (r : Fin 16) (j : Fin 128) : (outsAt0 m c t).2.2.2.2.2.2.2.2.2.1 (ix3 0 r j) = (idxMixOut (argX m c) (argW m c) : S16x16x128.Idx → EReal) (ix3 (seqAt t) r j) := by
  refine Eq.trans ?_ ((pay6_apply _ _ r j).trans (dot_mix m c t r j _ rfl))
  unfold outsAt0
  dsimp only
  rw [block_idxMix]

/-- The last eight rows that entered the convolution. -/
theorem left_state (c : Dev nD) (t : Fin cfg0.N) (r : Fin 8) (j : Fin 1024) : (outsAt0 m c t).2.2.2.2.2.2.2.2.2.2 (ix3 0 r j) = (stateOut (argX m c) (argW m c) : S16x8x1024.Idx → EReal) (ix3 (seqAt t) r j) := by
  refine Eq.trans ?_ (enter_row m c t _ j)
  unfold outsAt0
  dsimp only
  rw [block_state]

/-! ## The result arrays -/

/-- Every result is written at the point's sequence. -/
theorem idx_out : ∀ t : Fin cfg0.N, At (win0_10.index t) t ∧ At (win0_11.index t) t ∧ At (win0_12.index t) t ∧ At (win0_13.index t) t ∧ At (win0_14.index t) t ∧ At (win0_15.index t) t ∧ At (win0_16.index t) t ∧ At (win0_17.index t) t ∧ At (win0_18.index t) t ∧ At (win0_19.index t) t ∧ At (win0_20.index t) t :=
  (by decide +kernel : ∀ t : Fin grid0.N, At (win0_10.index t) t ∧ At (win0_11.index t) t ∧ At (win0_12.index t) t ∧ At (win0_13.index t) t ∧ At (win0_14.index t) t ∧ At (win0_15.index t) t ∧ At (win0_16.index t) t ∧ At (win0_17.index t) t ∧ At (win0_18.index t) t ∧ At (win0_19.index t) t ∧ At (win0_20.index t) t)

/-- The point that writes an element of an array. -/
def pointOf {A B : ℕ} (i : (⟨3, ![16, A, B]⟩ : Shape).Idx) : Fin cfg0.N := ⟨(i 0).val, (i 0).isLt.trans_eq N_0.symm⟩

/-- The element lies in that point's block. -/
theorem in_seq {A B : ℕ} (i : (⟨3, ![16, A, B]⟩ : Shape).Idx) {ix : Fin 3 → ℕ} (h : At ix (pointOf i)) (a : Fin 3) :
    ix a * (![1, A, B] : Fin 3 → ℕ) a ≤ (i a).val ∧ (i a).val < ix a * (![1, A, B] : Fin 3 → ℕ) a + (![1, A, B] : Fin 3 → ℕ) a := by
  have h1 : (i 1).val < A := (i 1).isLt
  have h2 : (i 2).val < B := (i 2).isLt
  have e0 : ix 0 = (i 0).val := h.1
  match a with
  | ⟨0, _⟩ => show ix 0 * 1 ≤ (i 0).val ∧ (i 0).val < ix 0 * 1 + 1; rw [e0]; omega
  | ⟨1, _⟩ => show ix 1 * A ≤ (i 1).val ∧ (i 1).val < ix 1 * A + A; rw [h.2.1]; omega
  | ⟨2, _⟩ => show ix 2 * B ≤ (i 2).val ∧ (i 2).val < ix 2 * B + B; rw [h.2.2]; omega

/-- The gated convolution. -/
theorem final_conv (c : Dev nD) : (dats m 0 c).arrAt 10 cfg0.N = (convOut (argX m c) (argQ m c) (argW m c) (argC m c) : S16x16x1024.Idx → EReal) := by
  refine (dats m 0 c).arrAt_eq_of_cover 10 _ (fun t _ => ?_) fun i => ⟨pointOf i, flush0_10 _, ?_⟩
  · rw [Value.flushed10]
    funext y
    obtain ⟨r, j, rfl⟩ : ∃ (r : Fin 16) (j : Fin 1024), y = ix3 0 r j := ⟨y 1, y 2, eq_ix3_zero y⟩
    exact (left_conv m c t r j).trans (read_seq (convOut (argX m c) (argQ m c) (argW m c) (argC m c) : S16x16x1024.Idx → EReal) (idx_out t).1 r j _ fun _ => rfl).symm
  · show i ∈ ((View.whole main_v33_0).slice (win0_10.rect (pointOf i))).set
    rw [View.set_slice_whole, Rect.mem_set_unit]
    exact in_seq i (idx_out _).1

/-- The scaled queries. -/
theorem final_query (c : Dev nD) : (dats m 0 c).arrAt 11 cfg0.N = (queryOut (argX m c) (argW m c) : S16x16x1024.Idx → EReal) := by
  refine (dats m 0 c).arrAt_eq_of_cover 11 _ (fun t _ => ?_) fun i => ⟨pointOf i, flush0_11 _, ?_⟩
  · rw [Value.flushed11]
    funext y
    obtain ⟨r, j, rfl⟩ : ∃ (r : Fin 16) (j : Fin 1024), y = ix3 0 r j := ⟨y 1, y 2, eq_ix3_zero y⟩
    exact (left_query m c t r j).trans (read_seq (queryOut (argX m c) (argW m c) : S16x16x1024.Idx → EReal) (idx_out t).2.1 r j _ fun _ => rfl).symm
  · show i ∈ ((View.whole main_v33_1).slice (win0_11.rect (pointOf i))).set
    rw [View.set_slice_whole, Rect.mem_set_unit]
    exact in_seq i (idx_out _).2.1

/-- The attention gate. -/
theorem final_gate (c : Dev nD) : (dats m 0 c).arrAt 12 cfg0.N = (gateOut (argX m c) (argW m c) : S16x16x1024.Idx → EReal) := by
  refine (dats m 0 c).arrAt_eq_of_cover 12 _ (fun t _ => ?_) fun i => ⟨pointOf i, flush0_12 _, ?_⟩
  · rw [Value.flushed12]
    funext y
    obtain ⟨r, j, rfl⟩ : ∃ (r : Fin 16) (j : Fin 1024), y = ix3 0 r j := ⟨y 1, y 2, eq_ix3_zero y⟩
    exact (left_gate m c t r j).trans (read_seq (gateOut (argX m c) (argW m c) : S16x16x1024.Idx → EReal) (idx_out t).2.2.1 r j _ fun _ => rfl).symm
  · show i ∈ ((View.whole main_v33_2).slice (win0_12.rect (pointOf i))).set
    rw [View.set_slice_whole, Rect.mem_set_unit]
    exact in_seq i (idx_out _).2.2.1

/-- The keys. -/
theorem final_key (c : Dev nD) : (dats m 0 c).arrAt 13 cfg0.N = (headsOut (argX m c) (argW m c) 4096 (by omega) : S16x16x512.Idx → EReal) := by
  refine (dats m 0 c).arrAt_eq_of_cover 13 _ (fun t _ => ?_) fun i => ⟨pointOf i, flush0_13 _, ?_⟩
  · rw [Value.flushed13]
    funext y
    obtain ⟨r, j, rfl⟩ : ∃ (r : Fin 16) (j : Fin 512), y = ix3 0 r j := ⟨y 1, y 2, eq_ix3_zero y⟩
    exact (left_key m c t r j).trans (read_seq (headsOut (argX m c) (argW m c) 4096 (by omega) : S16x16x512.Idx → EReal) (idx_out t).2.2.2.1 r j _ fun _ => rfl).symm
  · show i ∈ ((View.whole main_v33_3).slice (win0_13.rect (pointOf i))).set
    rw [View.set_slice_whole, Rect.mem_set_unit]
    exact in_seq i (idx_out _).2.2.2.1

/-- The keys in the narrow format. -/
theorem final_keyNarrow (c : Dev nD) : (dats m 0 c).arrAt 14 cfg0.N = (headsOut (argX m c) (argW m c) 4096 (by omega) : S16x16x512.Idx → EReal) := by
  refine (dats m 0 c).arrAt_eq_of_cover 14 _ (fun t _ => ?_) fun i => ⟨pointOf i, flush0_14 _, ?_⟩
  · rw [Value.flushed14]
    funext y
    obtain ⟨r, j, rfl⟩ : ∃ (r : Fin 16) (j : Fin 512), y = ix3 0 r j := ⟨y 1, y 2, eq_ix3_zero y⟩
    exact (left_keyNarrow m c t r j).trans (read_seq (headsOut (argX m c) (argW m c) 4096 (by omega) : S16x16x512.Idx → EReal) (idx_out t).2.2.2.2.1 r j _ fun _ => rfl).symm
  · show i ∈ ((View.whole main_v33_4).slice (win0_14.rect (pointOf i))).set
    rw [View.set_slice_whole, Rect.mem_set_unit]
    exact in_seq i (idx_out _).2.2.2.2.1

/-- The values. -/
theorem final_value (c : Dev nD) : (dats m 0 c).arrAt 15 cfg0.N = (headsOut (argX m c) (argW m c) 4352 (by omega) : S16x16x512.Idx → EReal) := by
  refine (dats m 0 c).arrAt_eq_of_cover 15 _ (fun t _ => ?_) fun i => ⟨pointOf i, flush0_15 _, ?_⟩
  · rw [Value.flushed15]
    funext y
    obtain ⟨r, j, rfl⟩ : ∃ (r : Fin 16) (j : Fin 512), y = ix3 0 r j := ⟨y 1, y 2, eq_ix3_zero y⟩
    exact (left_value m c t r j).trans (read_seq (headsOut (argX m c) (argW m c) 4352 (by omega) : S16x16x512.Idx → EReal) (idx_out t).2.2.2.2.2.1 r j _ fun _ => rfl).symm
  · show i ∈ ((View.whole main_v33_5).slice (win0_15.rect (pointOf i))).set
    rw [View.set_slice_whole, Rect.mem_set_unit]
    exact in_seq i (idx_out _).2.2.2.2.2.1

/-- The values in the narrow format. -/
theorem final_valueNarrow (c : Dev nD) : (dats m 0 c).arrAt 16 cfg0.N = (headsOut (argX m c) (argW m c) 4352 (by omega) : S16x16x512.Idx → EReal) := by
  refine (dats m 0 c).arrAt_eq_of_cover 16 _ (fun t _ => ?_) fun i => ⟨pointOf i, flush0_16 _, ?_⟩
  · rw [Value.flushed16]
    funext y
    obtain ⟨r, j, rfl⟩ : ∃ (r : Fin 16) (j : Fin 512), y = ix3 0 r j := ⟨y 1, y 2, eq_ix3_zero y⟩
    exact (left_valueNarrow m c t r j).trans (read_seq (headsOut (argX m c) (argW m c) 4352 (by omega) : S16x16x512.Idx → EReal) (idx_out t).2.2.2.2.2.2.1 r j _ fun _ => rfl).symm
  · show i ∈ ((View.whole main_v33_6).slice (win0_16.rect (pointOf i))).set
    rw [View.set_slice_whole, Rect.mem_set_unit]
    exact in_seq i (idx_out _).2.2.2.2.2.2.1

/-- The index queries. -/
theorem final_idxQuery (c : Dev nD) : (dats m 0 c).arrAt 17 cfg0.N = (idxQueryOut (argX m c) (argW m c) : S16x16x512.Idx → EReal) := by
  refine (dats m 0 c).arrAt_eq_of_cover 17 _ (fun t _ => ?_) fun i => ⟨pointOf i, flush0_17 _, ?_⟩
  · rw [Value.flushed17]
    funext y
    obtain ⟨r, j, rfl⟩ : ∃ (r : Fin 16) (j : Fin 512), y = ix3 0 r j := ⟨y 1, y 2, eq_ix3_zero y⟩
    exact (left_idxQuery m c t r j).trans (read_seq (idxQueryOut (argX m c) (argW m c) : S16x16x512.Idx → EReal) (idx_out t).2.2.2.2.2.2.2.1 r j _ fun _ => rfl).symm
  · show i ∈ ((View.whole main_v33_7).slice (win0_17.rect (pointOf i))).set
    rw [View.set_slice_whole, Rect.mem_set_unit]
    exact in_seq i (idx_out _).2.2.2.2.2.2.2.1

/-- The index keys, written twice. -/
theorem final_idxKey (c : Dev nD) : (dats m 0 c).arrAt 18 cfg0.N = (idxKeyOut (argX m c) (argW m c) : S16x16x128.Idx → EReal) := by
  refine (dats m 0 c).arrAt_eq_of_cover 18 _ (fun t _ => ?_) fun i => ⟨pointOf i, flush0_18 _, ?_⟩
  · rw [Value.flushed18]
    funext y
    obtain ⟨r, j, rfl⟩ : ∃ (r : Fin 16) (j : Fin 128), y = ix3 0 r j := ⟨y 1, y 2, eq_ix3_zero y⟩
    exact (left_idxKey m c t r j).trans (read_seq (idxKeyOut (argX m c) (argW m c) : S16x16x128.Idx → EReal) (idx_out t).2.2.2.2.2.2.2.2.1 r j _ fun _ => rfl).symm
  · show i ∈ ((View.whole main_v33_8).slice (win0_18.rect (pointOf i))).set
    rw [View.set_slice_whole, Rect.mem_set_unit]
    exact in_seq i (idx_out _).2.2.2.2.2.2.2.2.1

/-- The index keys and head weights. -/
theorem final_idxMix (c : Dev nD) : (dats m 0 c).arrAt 19 cfg0.N = (idxMixOut (argX m c) (argW m c) : S16x16x128.Idx → EReal) := by
  refine (dats m 0 c).arrAt_eq_of_cover 19 _ (fun t _ => ?_) fun i => ⟨pointOf i, flush0_19 _, ?_⟩
  · rw [Value.flushed19]
    funext y
    obtain ⟨r, j, rfl⟩ : ∃ (r : Fin 16) (j : Fin 128), y = ix3 0 r j := ⟨y 1, y 2, eq_ix3_zero y⟩
    exact (left_idxMix m c t r j).trans (read_seq (idxMixOut (argX m c) (argW m c) : S16x16x128.Idx → EReal) (idx_out t).2.2.2.2.2.2.2.2.2.1 r j _ fun _ => rfl).symm
  · show i ∈ ((View.whole main_v33_9).slice (win0_19.rect (pointOf i))).set
    rw [View.set_slice_whole, Rect.mem_set_unit]
    exact in_seq i (idx_out _).2.2.2.2.2.2.2.2.2.1

/-- The last eight rows that entered the convolution. -/
theorem final_state (c : Dev nD) : (dats m 0 c).arrAt 20 cfg0.N = (stateOut (argX m c) (argW m c) : S16x8x1024.Idx → EReal) := by
  refine (dats m 0 c).arrAt_eq_of_cover 20 _ (fun t _ => ?_) fun i => ⟨pointOf i, flush0_20 _, ?_⟩
  · rw [Value.flushed20]
    funext y
    obtain ⟨r, j, rfl⟩ : ∃ (r : Fin 8) (j : Fin 1024), y = ix3 0 r j := ⟨y 1, y 2, eq_ix3_zero y⟩
    exact (left_state m c t r j).trans (read_seq (stateOut (argX m c) (argW m c) : S16x8x1024.Idx → EReal) (idx_out t).2.2.2.2.2.2.2.2.2.2 r j _ fun _ => rfl).symm
  · show i ∈ ((View.whole main_v33_10).slice (win0_20.rect (pointOf i))).set
    rw [View.set_slice_whole, Rect.mem_set_unit]
    exact in_seq i (idx_out _).2.2.2.2.2.2.2.2.2.2

end Cert.InProjSampleIdeal.Rows

end
-- ==== Proof.SampleRef.lean ====
module

public import proofs.«01_k».proof.Proof.SeqHost
public import proofs.«01_k».proof.Proof.Gen.InProjSampleRefIdeal.Read

/-! The reference of the input projection of the sample batch computes the row formulas: the columns of `x · w`, the gated short convolution, and the layouts
    of the results. -/

@[expose] public section

noncomputable section

namespace Cert.InProjSampleRefIdeal.Rows

open Idealize Idealize.ShloMosaic Idealize.ShloMosaic.ValueIdx Cert.Rows Cert.InProjSampleRefIdeal Cert.InProjSampleRefIdeal.Gen Cert.InProjSampleRefIdeal.Read

variable (x0 : S16x16x1024.Idx → EReal) (x1 : S16x2x1024.Idx → EReal) (x2 : S2x1024x7240.Idx → EReal) (x3 : S2x3x1024.Idx → EReal)

/-! ## The projection and its parts -/

/-- An element of the projection. -/
theorem proj_apply (b : Fin 16) (t : Fin 16) (n : Fin 7240) : val_main_v2 (F := Ideal) x0 x2 (ix3 b t n) = proj x0 x2 b t n := by
  refine (val_main_v2_apply x0 x2 (ix3 b t n)).trans ?_
  unfold proj rowDot
  refine Finset.sum_congr rfl fun k _ => ?_
  have e1 : lidx_main_v2 (ix3 b t n) k = ix3 b t k := funext fun a => by
    match a with
    | ⟨0, _⟩ => rfl
    | ⟨1, _⟩ => rfl
    | ⟨2, _⟩ => rfl
  have e2 : ridx_main_v2 (ix3 b t n) k = ix2 k n := funext fun a => by
    match a with
    | ⟨0, _⟩ => rfl
    | ⟨1, _⟩ => rfl
  rw [e1, e2]
  exact congrArg (x0 (ix3 b t k) * ·) (member_apply 0 x2 slices_S2x1024x7240_S1x1024x7240_0_0_0 shapeCasts_S1x1024x7240_S1024x7240 k n)

/-- An element of the columns from column `o` of the projection. -/
theorem part_apply {n : ℕ} (o : ℕ) (h : o + n ≤ 7240) (hs : S16x16x7240.Slices ![0, 0, o] ⟨3, ![16, 16, n]⟩) (b : Fin 16) (t : Fin 16) (j : Fin n) :
    extractStridedSlice ⟨3, ![16, 16, n]⟩ ![0, 0, o] (val_main_v2 (F := Ideal) x0 x2) hs (ix3 b t j) = part x0 x2 o h b t j :=
  (cols3 o _ hs b t j ⟨o + j.val, by omega⟩ rfl).trans (proj_apply x0 x2 b t _)

/-- The rows that enter the convolution. -/
theorem row_apply (b : Fin 16) (t : Fin 16) (j : Fin 1024) : val_main_v14 (F := Ideal) x0 x2 (ix3 b t j) = convRow x0 x2 b t j :=
  congrArg₂ (fun u v : EReal => u * v) (part_apply x0 x2 1024 (by omega) slices_S16x16x7240_S16x16x1024_0_0_1024 b t j) (part_apply x0 x2 2048 (by omega) slices_S16x16x7240_S16x16x1024_0_0_2048 b t j)

/-- The rows that enter the convolution, with two rows in front. -/
theorem ext_apply (b : Fin 16) (s : Fin 18) (j : Fin 1024) : val_main_v15 (F := Ideal) x0 x1 x2 (ix3 b s j) = convExt x0 x1 x2 b s j := by
  unfold convExt
  by_cases h : s.val < 2
  · rw [dif_pos h]
    refine concatenate_pair_apply_left (t := S16x18x1024) (s₁ := S16x2x1024) (s₂ := S16x16x1024) (1 : Fin 3) x1 _ _ _ rfl (ix3 b (⟨s.val, h⟩ : Fin 2) j) fun a => ?_
    match a with
    | ⟨0, _⟩ => rfl
    | ⟨1, _⟩ => rfl
    | ⟨2, _⟩ => rfl
  · rw [dif_neg h]
    refine (concatenate_pair_apply_right (t := S16x18x1024) (s₁ := S16x2x1024) (s₂ := S16x16x1024) (1 : Fin 3) x1 (val_main_v14 (F := Ideal) x0 x2) _ _ rfl rfl (ix3 b (⟨s.val - 2, by omega⟩ : Fin 16) j) (fun a ha => ?_) ?_).trans (row_apply x0 x2 b _ j)
    · match a with
      | ⟨0, _⟩ => rfl
      | ⟨1, _⟩ => exact absurd rfl ha
      | ⟨2, _⟩ => rfl
    · show s.val - 2 + 2 = s.val
      omega

/-! ## The results -/

/-- The gated convolution. -/
theorem conv_eq : val_main_v43 (F := Ideal) x0 x1 x2 x3 = convOut x0 x1 x2 x3 := by
  funext i
  obtain ⟨b, t, j, rfl⟩ : ∃ (b : Fin 16) (t : Fin 16) (j : Fin 1024), i = ix3 b t j := ⟨i 0, i 1, i 2, eq_ix3 i⟩
  have hu : val_main_v29 (F := Ideal) x0 x1 x2 (ix3 b t j) = convRow x0 x2 b t j := by
    refine (rows3 2 _ slices_S16x18x1024_S16x16x1024_0_2_0 b t j ⟨2 + t.val, by omega⟩ rfl).trans ((ext_apply x0 x1 x2 b _ j).trans ?_)
    unfold convExt
    rw [dif_neg (show ¬ 2 + t.val < 2 by omega)]
    exact congrArg (fun r => convRow x0 x2 b r j) (Fin.ext (show 2 + t.val - 2 = t.val by omega))
  have h0 : val_main_v16 (F := Ideal) x0 x1 x2 (ix3 b t j) = convExt x0 x1 x2 b ⟨t.val, by omega⟩ j :=
    (rows3 0 _ slices_S16x18x1024_S16x16x1024_0_0_0 b t j ⟨t.val, by omega⟩ (Nat.zero_add _).symm).trans (ext_apply x0 x1 x2 b _ j)
  have h1 : val_main_v22 (F := Ideal) x0 x1 x2 (ix3 b t j) = convExt x0 x1 x2 b ⟨t.val + 1, by omega⟩ j :=
    (rows3 1 _ slices_S16x18x1024_S16x16x1024_0_1_0 b t j ⟨t.val + 1, by omega⟩ (Nat.add_comm _ _)).trans (ext_apply x0 x1 x2 b _ j)
  have hg : val_main_v41 (F := Ideal) x0 x2 (ix3 b t j) = Ideal.logistic (part x0 x2 5192 (n := 1024) (by omega) b t j) :=
    (sigmoid_apply (val_main_v12 (F := Ideal) x0 x2) bcast_S_S16x16x1024 _).trans (congrArg Ideal.logistic (part_apply x0 x2 5192 (by omega) slices_S16x16x7240_S16x16x1024_0_0_5192 b t j))
  have hb : val_main_v3 (F := Ideal) x0 x2 (ix3 b t j) = part x0 x2 0 (n := 1024) (by omega) b t j := part_apply x0 x2 0 (by omega) slices_S16x16x7240_S16x16x1024_0_0_0 b t j
  have c0 : val_main_v20 (F := Ideal) x3 (ix3 b t j) = x3 (ix3 0 0 j) := tap_apply 0 x3 slices_S2x3x1024_S1x1x1024_0_0_0 _ _ _ b t j
  have c1 : val_main_v26 (F := Ideal) x3 (ix3 b t j) = x3 (ix3 0 1 j) := tap_apply 1 x3 slices_S2x3x1024_S1x1x1024_0_1_0 _ _ _ b t j
  have c2 : val_main_v33 (F := Ideal) x3 (ix3 b t j) = x3 (ix3 0 2 j) := tap_apply 2 x3 slices_S2x3x1024_S1x1x1024_0_2_0 _ _ _ b t j
  refine (val_main_v43_apply (F := Ideal) x0 x1 x2 x3 _).trans (congrArg₂ (fun u v : EReal => u * v) hg ?_)
  refine (val_main_v42_apply (F := Ideal) x0 x1 x2 x3 _).trans (congrArg₂ (fun u v : EReal => u * v) hb ?_)
  refine (val_main_v35_apply (F := Ideal) x0 x1 x2 x3 _).trans (congrArg₂ (fun u v : EReal => u + v) ?_ ?_)
  · refine (val_main_v28_apply (F := Ideal) x0 x1 x2 x3 _).trans (congrArg₂ (fun u v : EReal => u + v) ?_ ?_)
    · exact (val_main_v21_apply (F := Ideal) x0 x1 x2 x3 _).trans (congrArg₂ (fun u v : EReal => u * v) h0 c0)
    · exact (val_main_v27_apply (F := Ideal) x0 x1 x2 x3 _).trans (congrArg₂ (fun u v : EReal => u * v) h1 c1)
  · exact (val_main_v34_apply (F := Ideal) x0 x1 x2 x3 _).trans (congrArg₂ (fun u v : EReal => u * v) hu c2)

/-- The scaled queries. -/
theorem query_eq : val_main_v55 (F := Ideal) x0 x2 = queryOut x0 x2 := by
  funext i
  obtain ⟨b, t, j, rfl⟩ : ∃ (b : Fin 16) (t : Fin 16) (j : Fin 1024), i = ix3 b t j := ⟨i 0, i 1, i 2, eq_ix3 i⟩
  exact congrArg₂ (fun u v : EReal => u * v) (part_apply x0 x2 3072 (by omega) slices_S16x16x7240_S16x16x1024_0_0_3072 b t j) (fill_apply _ _ _)

/-- The attention gate. -/
theorem gate_eq : val_main_v61 (F := Ideal) x0 x2 = gateOut x0 x2 := by
  funext i
  obtain ⟨b, t, j, rfl⟩ : ∃ (b : Fin 16) (t : Fin 16) (j : Fin 1024), i = ix3 b t j := ⟨i 0, i 1, i 2, eq_ix3 i⟩
  exact (sigmoid_apply (val_main_v13 (F := Ideal) x0 x2) bcast_S_S16x16x1024 _).trans (congrArg Ideal.logistic (part_apply x0 x2 6216 (by omega) slices_S16x16x7240_S16x16x1024_0_0_6216 b t j))

/-- The keys. -/
theorem key_eq : val_main_v47 (F := Ideal) x0 x2 = headsOut x0 x2 4096 (by omega) := by
  funext i
  obtain ⟨b, t, j, rfl⟩ : ∃ (b : Fin 16) (t : Fin 16) (j : Fin 512), i = ix3 b t j := ⟨i 0, i 1, i 2, eq_ix3 i⟩
  exact (heads_apply (val_main_v7 (F := Ideal) x0 x2) _ _ _ b t j).trans (part_apply x0 x2 4096 (by omega) slices_S16x16x7240_S16x16x256_0_0_4096 b t _)

/-- The values. -/
theorem value_eq : val_main_v49 (F := Ideal) x0 x2 = headsOut x0 x2 4352 (by omega) := by
  funext i
  obtain ⟨b, t, j, rfl⟩ : ∃ (b : Fin 16) (t : Fin 16) (j : Fin 512), i = ix3 b t j := ⟨i 0, i 1, i 2, eq_ix3 i⟩
  exact (heads_apply (val_main_v8 (F := Ideal) x0 x2) _ _ _ b t j).trans (part_apply x0 x2 4352 (by omega) slices_S16x16x7240_S16x16x256_0_0_4352 b t _)

/-- The index queries. -/
theorem idxQuery_eq : val_main_v64 (F := Ideal) x0 x2 = idxQueryOut x0 x2 := by
  funext i
  obtain ⟨b, t, j, rfl⟩ : ∃ (b : Fin 16) (t : Fin 16) (j : Fin 512), i = ix3 b t j := ⟨i 0, i 1, i 2, eq_ix3 i⟩
  exact part_apply x0 x2 4608 (by omega) slices_S16x16x7240_S16x16x512_0_0_4608 b t j

/-- The index keys, written twice. -/
theorem idxKey_eq : val_main_v65 (F := Ideal) x0 x2 = idxKeyOut x0 x2 := by
  funext i
  obtain ⟨b, t, j, rfl⟩ : ∃ (b : Fin 16) (t : Fin 16) (j : Fin 128), i = ix3 b t j := ⟨i 0, i 1, i 2, eq_ix3 i⟩
  refine Eq.trans ?_ (part_apply x0 x2 5120 (n := 64) (by omega) slices_S16x16x7240_S16x16x64_0_0_5120 b t ⟨j.val % 64, by omega⟩)
  by_cases h : j.val < 64
  · exact side3 [⟨S16x16x64, val_main_v10 (F := Ideal) x0 x2⟩, ⟨S16x16x64, val_main_v10 (F := Ideal) x0 x2⟩] concatenates_S16x16x64_S16x16x64_S16x16x128_d2 0 (by simp) (val_main_v10 (F := Ideal) x0 x2) rfl 0 rfl b t j ⟨j.val % 64, by omega⟩ (by show 0 + j.val % 64 = j.val; omega)
  · exact side3 [⟨S16x16x64, val_main_v10 (F := Ideal) x0 x2⟩, ⟨S16x16x64, val_main_v10 (F := Ideal) x0 x2⟩] concatenates_S16x16x64_S16x16x64_S16x16x128_d2 1 (by simp) (val_main_v10 (F := Ideal) x0 x2) rfl 64 rfl b t j ⟨j.val % 64, by omega⟩ (by show 64 + j.val % 64 = j.val; omega)

/-- The index keys, the head weights, and zeros. -/
theorem idxMix_eq : val_main_v52 (F := Ideal) x0 x2 = idxMixOut x0 x2 := by
  funext i
  obtain ⟨b, t, j, rfl⟩ : ∃ (b : Fin 16) (t : Fin 16) (j : Fin 128), i = ix3 b t j := ⟨i 0, i 1, i 2, eq_ix3 i⟩
  show _ = if h : j.val < 72 then proj x0 x2 b t ⟨5120 + j.val, by omega⟩ else 0
  by_cases h : j.val < 72
  · rw [dif_pos h]
    by_cases h1 : j.val < 64
    · exact (side3 _ _ 0 (by simp) (val_main_v10 (F := Ideal) x0 x2) rfl 0 rfl b t j ⟨j.val, h1⟩ (Nat.zero_add _)).trans (part_apply x0 x2 5120 (by omega) slices_S16x16x7240_S16x16x64_0_0_5120 b t ⟨j.val, h1⟩)
    · refine (side3 _ _ 1 (by simp) (val_main_v11 (F := Ideal) x0 x2) rfl 64 rfl b t j ⟨j.val - 64, by omega⟩ (by show 64 + (j.val - 64) = j.val; omega)).trans
        ((part_apply x0 x2 5184 (by omega) slices_S16x16x7240_S16x16x8_0_0_5184 b t ⟨j.val - 64, by omega⟩).trans (congrArg (proj x0 x2 b t) (Fin.ext ?_)))
      show 5184 + (j.val - 64) = 5120 + j.val
      omega
  · rw [dif_neg h]
    exact (side3 _ _ 2 (by simp) (val_main_v51 (F := Ideal)) rfl 72 rfl b t j ⟨j.val - 72, by omega⟩ (by show 72 + (j.val - 72) = j.val; omega)).trans ((fill_apply _ _ _).trans Ideal.ofBits_zero_f32)

/-- The last eight rows that entered the convolution. -/
theorem state_eq : val_main_v66 (F := Ideal) x0 x2 = stateOut x0 x2 := by
  funext i
  obtain ⟨b, r, j, rfl⟩ : ∃ (b : Fin 16) (r : Fin 8) (j : Fin 1024), i = ix3 b r j := ⟨i 0, i 1, i 2, eq_ix3 i⟩
  exact (rows3 8 _ slices_S16x16x1024_S16x8x1024_0_8_0 b r j ⟨8 + r.val, by omega⟩ rfl).trans (row_apply x0 x2 b _ j)

end Cert.InProjSampleRefIdeal.Rows

end
-- ==== Proof.SampleClaim.lean ====
module

public import proofs.«01_k».proof.Defs
public import proofs.«01_k».proof.Proof.SampleValue
public import proofs.«01_k».proof.Proof.SampleRef

/-! The input projection call of the sample batch agrees with its reference. -/

@[expose] public section

noncomputable section

namespace Cert.InProjSampleIdeal.Rows

open Cert.Rows Idealize.ShloMosaic Idealize.ShloMosaic.TcCoe Idealize.SL.Sem

/-- Over the extended reals the call and its reference end with equal results, from memories that agree on the arguments. -/
theorem algebraic : Cert.algebraic_InProjSampleIdeal_InProjSampleRefIdeal := by
  intro m ρ m' ρ' _ hagree
  refine ⟨fun c => convOut (argX m c) (argQ m c) (argW m c) (argC m c), fun c => queryOut (argX m c) (argW m c), fun c => gateOut (argX m c) (argW m c), fun c => headsOut (argX m c) (argW m c) 4096 (by omega), fun c => headsOut (argX m c) (argW m c) 4096 (by omega), fun c => headsOut (argX m c) (argW m c) 4352 (by omega), fun c => headsOut (argX m c) (argW m c) 4352 (by omega), fun c => idxQueryOut (argX m c) (argW m c), fun c => idxKeyOut (argX m c) (argW m c), fun c => idxMixOut (argX m c) (argW m c), fun c => stateOut (argX m c) (argW m c),
    (θ_run _ _ _).mono (fun _ h c => ?_) (Cert.InProjSampleIdeal.Value.run_blocks (F := Ideal) m ρ), (θ_run _ _ _).mono (fun _ h c => ?_) (Cert.InProjSampleRefIdeal.Value.run (F := Ideal) m' ρ')⟩
  · obtain ⟨h0, h1, h2, h3, h4, h5, h6, h7, h8, h9, h10, ha⟩ := h c
    exact ⟨h0.trans (final_conv m c), h1.trans (final_query m c), h2.trans (final_gate m c), h3.trans (final_key m c), h4.trans (final_keyNarrow m c), h5.trans (final_value m c), h6.trans (final_valueNarrow m c), h7.trans (final_idxQuery m c), h8.trans (final_idxKey m c), h9.trans (final_idxMix m c), h10.trans (final_state m c), ha⟩
  · obtain ⟨h0, h1, h2, h3, h4, h5, h6, h7, h8, h9, h10, ha⟩ := h c
    obtain ⟨a0, a1, a2, a3⟩ := hagree c
    have e0 : m' ((c : Thread Cert.InProjSampleRefIdeal.nD Cert.InProjSampleRefIdeal.τ).loc Cert.InProjSampleRefIdeal.main_arg0) = argX m c := a0
    have e1 : m' ((c : Thread Cert.InProjSampleRefIdeal.nD Cert.InProjSampleRefIdeal.τ).loc Cert.InProjSampleRefIdeal.main_arg1) = argQ m c := a1
    have e2 : m' ((c : Thread Cert.InProjSampleRefIdeal.nD Cert.InProjSampleRefIdeal.τ).loc Cert.InProjSampleRefIdeal.main_arg2) = argW m c := a2
    have e3 : m' ((c : Thread Cert.InProjSampleRefIdeal.nD Cert.InProjSampleRefIdeal.τ).loc Cert.InProjSampleRefIdeal.main_arg3) = argC m c := a3
    refine ⟨?_, ?_, ?_, ?_, ?_, ?_, ?_, ?_, ?_, ?_, ?_, ha⟩
    · refine h0.trans ((Cert.InProjSampleRefIdeal.Read.val_main_v43_eq m' c).trans ?_)
      rw [e0, e1, e2, e3]
      exact Cert.InProjSampleRefIdeal.Rows.conv_eq _ _ _ _
    · refine h1.trans ((Cert.InProjSampleRefIdeal.Read.val_main_v55_eq _ _).trans ?_)
      rw [e0, e2]
      exact Cert.InProjSampleRefIdeal.Rows.query_eq _ _
    · refine h2.trans ((Cert.InProjSampleRefIdeal.Read.val_main_v61_eq _ _).trans ?_)
      rw [e0, e2]
      exact Cert.InProjSampleRefIdeal.Rows.gate_eq _ _
    · refine h3.trans ((Cert.InProjSampleRefIdeal.Read.val_main_v47_eq _ _).trans ?_)
      rw [e0, e2]
      exact Cert.InProjSampleRefIdeal.Rows.key_eq _ _
    · refine h4.trans ((Cert.InProjSampleRefIdeal.Read.val_main_v62_eq _ _).trans ?_)
      rw [e0, e2]
      exact Cert.InProjSampleRefIdeal.Rows.key_eq _ _
    · refine h5.trans ((Cert.InProjSampleRefIdeal.Read.val_main_v49_eq _ _).trans ?_)
      rw [e0, e2]
      exact Cert.InProjSampleRefIdeal.Rows.value_eq _ _
    · refine h6.trans ((Cert.InProjSampleRefIdeal.Read.val_main_v63_eq _ _).trans ?_)
      rw [e0, e2]
      exact Cert.InProjSampleRefIdeal.Rows.value_eq _ _
    · refine h7.trans ((Cert.InProjSampleRefIdeal.Read.val_main_v64_eq _ _).trans ?_)
      rw [e0, e2]
      exact Cert.InProjSampleRefIdeal.Rows.idxQuery_eq _ _
    · refine h8.trans ((Cert.InProjSampleRefIdeal.Read.val_main_v65_eq _ _).trans ?_)
      rw [e0, e2]
      exact Cert.InProjSampleRefIdeal.Rows.idxKey_eq _ _
    · refine h9.trans ((Cert.InProjSampleRefIdeal.Read.val_main_v52_eq _ _).trans ?_)
      rw [e0, e2]
      exact Cert.InProjSampleRefIdeal.Rows.idxMix_eq _ _
    · refine h10.trans ((Cert.InProjSampleRefIdeal.Read.val_main_v66_eq _ _).trans ?_)
      rw [e0, e2]
      exact Cert.InProjSampleRefIdeal.Rows.state_eq _ _

end Cert.InProjSampleIdeal.Rows

end
-- ==== Proof.SampleMoeCases.lean ====
module

public import proofs.«01_k».proof.Proof.Gen.MoeSampleIdeal.Value
public import proofs.«01_k».proof.Proof.Rows

/-! The expert call of the sample batch, one grid point at a time: what a point leaves in the routing weights, in the running sum and in the output block. -/

@[expose] public section

set_option maxRecDepth 16384

noncomputable section

namespace Cert.MoeSampleIdeal.Rows

open Cert.MoeSampleIdeal Cert.MoeSampleIdeal.Gen Idealize.ShloMosaic Idealize.ShloMosaic.TcCoe Idealize.SL.Sem
open Idealize.ShloMosaic.Pipeline (Dat)

/-- The offset vector written out as zeros is the constant zero vector. -/
theorem hz : (![0, 0] : Fin 2 → Nat) = fun _ => 0 := funext fun a => by fin_cases a <;> rfl
/-- The same for three dimensions. -/
theorem hz3 : (![0, 0, 0] : Fin 3 → Nat) = fun _ => 0 := funext fun a => by fin_cases a <;> rfl

/-- The lane numbers of a block. -/
abbrev lanes : IVec S256x128 32 := iota .tc S256x128 32 [1] iota_S256x128_d1_w32

/-- The routing weights of a block of rows, as the kernel's vector operations compute them. -/
def combBlock (x : Vec Ideal S256x1024 .f32) (rw : Vec Ideal S1024x128 .f32) (rb : Vec Ideal S1x128 .f32) : FVec Ideal S256x128 .f32 :=
  k0_pay13 (F := Ideal) (k0_pay4 lanes) (k0_pay8 lanes x rw rb) (k0_pay9 lanes x rw rb) (k0_pay10 lanes x rw rb) (k0_pay11 lanes x rw rb) (k0_pay12 lanes x rw rb)
    (Scalar.ofBits .f32 0x00000000#32)

section Points

variable (c : Dev nD) (i : grid0.Coords) (arg2 : Memref sig .tc .vmem S256x1024 .f32) (h2 : arg2.IsWhole) (arg3 : Memref sig .tc .vmem S1024x128 .f32) (h3 : arg3.IsWhole)
  (arg4 : Memref sig .tc .vmem S1x128 .f32) (h4 : arg4.IsWhole) (arg5 : Memref sig .tc .vmem S1x1024x1408 .bf16) (h5 : arg5.IsWhole)
  (arg6 : Memref sig .tc .vmem S1x1024x1408 .bf16) (h6 : arg6.IsWhole) (arg7 : Memref sig .tc .vmem S1x1408x1024 .bf16) (h7 : arg7.IsWhole)
  (arg8 : Memref sig .tc .vmem S1x1024 .f32) (h8 : arg8.IsWhole) (arg9 : Memref sig .tc .vmem S1x1024 .f32) (h9 : arg9.IsWhole)
  (arg10 : Memref sig .tc .vmem S256x1024 .f32) (h10 : arg10.IsWhole) (arg11 : Memref sig .tc .vmem S256x128 .f32) (h11 : arg11.IsWhole)
  (arg12 : Memref sig .tc .vmem S256x1024 .f32) (h12 : arg12.IsWhole)
  (x0 : Vec Ideal S256x1024 .f32) (x1 : Vec Ideal S1024x128 .f32) (x2 : Vec Ideal S1x128 .f32) (x3 x4 : Vec Ideal S1x1024x1408 .bf16) (x5 : Vec Ideal S1x1408x1024 .bf16)
  (x6 x7 : Vec Ideal S1x1024 .f32) (xs0 : Vec Ideal S256x128 .f32) (xs1 : Vec Ideal S256x1024 .f32)

/-- The first expert's point leaves the routing weights of its rows. -/
theorem weights_A (hc0 : cond0_0 i) (hc1 : ¬cond0_1 i) :
    sout0_A_0 (F := Ideal) c i arg2 h2 arg3 h3 arg4 h4 arg5 h5 arg6 h6 arg7 h7 arg8 h8 arg9 h9 arg10 h10 arg11 h11 arg12 h12 hc0 hc1 x0 x1 x2 x3 x4 x5 x6 x7
      = combBlock x0 x1 x2 := by
  unfold sout0_A_0
  rw [View.read_writes_eq_canon _ _ _ (scover0_A_0 c i arg2 h2 arg3 h3 arg4 h4 arg5 h5 arg6 h6 arg7 h7 arg8 h8 arg9 h9 arg10 h10 arg11 h11 arg12 h12 hc0 hc1 x0 x1 x2 x3 x4 x5 x6 x7)]
  unfold kernelRun0_A
  dsimp only
  sl_unfold_words
  rw [View.canon_unit_zero (S := S256x128) hz]
  unfold combBlock
  simp only [View.readAt_eq_ld, h2.read_unread, h3.read_unread, h4.read_unread, View.ld_unit_zero (S := S256x1024) hz, View.ld_unit_zero (S := S1024x128) hz,
    View.ld_unit_zero (S := S1x128) hz]

/-- The first expert's point leaves its own share, added to zeros. -/
theorem sum_A (hc0 : cond0_0 i) (hc1 : ¬cond0_1 i) :
    sout0_A_1 (F := Ideal) c i arg2 h2 arg3 h3 arg4 h4 arg5 h5 arg6 h6 arg7 h7 arg8 h8 arg9 h9 arg10 h10 arg11 h11 arg12 h12 hc0 hc1 x0 x1 x2 x3 x4 x5 x6 x7
      = k0_pay15 i x0 x3 x4 x5 (combBlock x0 x1 x2) (k0_pay14 (F := Ideal)) := by
  unfold sout0_A_1
  rw [View.read_writes_eq_canon _ _ _ (scover0_A_1 c i arg2 h2 arg3 h3 arg4 h4 arg5 h5 arg6 h6 arg7 h7 arg8 h8 arg9 h9 arg10 h10 arg11 h11 arg12 h12 hc0 hc1 x0 x1 x2 x3 x4 x5 x6 x7)]
  unfold kernelRun0_A
  dsimp only
  sl_unfold_words
  rw [View.canon_cons_unit_zero (S := S256x1024) hz, View.readCov_unit_zero (S := S256x128) _ hz, View.readCov_unit_zero (S := S256x1024) _ hz]
  unfold combBlock
  simp only [View.readAt_eq_ld, h2.read_unread, h3.read_unread, h4.read_unread, h5.read_unread, h6.read_unread, h7.read_unread, View.ld_unit_zero (S := S256x1024) hz,
    View.ld_unit_zero (S := S1024x128) hz, View.ld_unit_zero (S := S1x128) hz, View.ld_unit_zero (S := S1x1024x1408) hz3, View.ld_unit_zero (S := S1x1408x1024) hz3]

/-- A middle expert's point adds its share to the running sum. -/
theorem sum_B (hc0 : ¬cond0_0 i) (hc1 : ¬cond0_1 i) :
    sout0_B_1 (F := Ideal) c i arg2 h2 arg3 h3 arg4 h4 arg5 h5 arg6 h6 arg7 h7 arg8 h8 arg9 h9 arg10 h10 arg11 h11 arg12 h12 hc0 hc1 x0 x1 x2 x3 x4 x5 x6 x7 xs0 xs1
      = k0_pay15 i x0 x3 x4 x5 xs0 xs1 := by
  unfold sout0_B_1
  rw [View.read_writes_eq_canon _ _ _ (scover0_B_1 c i arg2 h2 arg3 h3 arg4 h4 arg5 h5 arg6 h6 arg7 h7 arg8 h8 arg9 h9 arg10 h10 arg11 h11 arg12 h12 hc0 hc1 x0 x1 x2 x3 x4 x5 x6 x7 xs0 xs1)]
  unfold kernelRun0_B
  dsimp only
  sl_unfold_words
  rw [View.canon_unit_zero (S := S256x1024) hz]
  simp only [View.readAt_eq_ld, h2.read_unread, h5.read_unread, h6.read_unread, h7.read_unread, h11.read_unread, h12.read_unread, View.ld_unit_zero (S := S256x1024) hz,
    View.ld_unit_zero (S := S256x128) hz, View.ld_unit_zero (S := S1x1024x1408) hz3, View.ld_unit_zero (S := S1x1408x1024) hz3]

/-- The last expert's point adds its share to the running sum as well. -/
theorem sum_C (hc0 : ¬cond0_0 i) (hc1 : cond0_1 i) :
    sout0_C_1 (F := Ideal) c i arg2 h2 arg3 h3 arg4 h4 arg5 h5 arg6 h6 arg7 h7 arg8 h8 arg9 h9 arg10 h10 arg11 h11 arg12 h12 hc0 hc1 x0 x1 x2 x3 x4 x5 x6 x7 xs0 xs1
      = k0_pay15 i x0 x3 x4 x5 xs0 xs1 := by
  unfold sout0_C_1
  rw [View.read_writes_eq_canon _ _ _ (scover0_C_1 c i arg2 h2 arg3 h3 arg4 h4 arg5 h5 arg6 h6 arg7 h7 arg8 h8 arg9 h9 arg10 h10 arg11 h11 arg12 h12 hc0 hc1 x0 x1 x2 x3 x4 x5 x6 x7 xs0 xs1)]
  unfold kernelRun0_C
  dsimp only
  sl_unfold_words
  rw [View.canon_unit_zero (S := S256x1024) hz]
  simp only [View.readAt_eq_ld, h2.read_unread, h5.read_unread, h6.read_unread, h7.read_unread, h11.read_unread, h12.read_unread, View.ld_unit_zero (S := S256x1024) hz,
    View.ld_unit_zero (S := S256x128) hz, View.ld_unit_zero (S := S1x1024x1408) hz3, View.ld_unit_zero (S := S1x1408x1024) hz3]

/-- The last expert's point normalizes the residual plus the finished sum. -/
theorem out_C (hc0 : ¬cond0_0 i) (hc1 : cond0_1 i) :
    out0_C_8 (F := Ideal) c i arg2 h2 arg3 h3 arg4 h4 arg5 h5 arg6 h6 arg7 h7 arg8 h8 arg9 h9 arg10 h10 arg11 h11 arg12 h12 hc0 hc1 x0 x1 x2 x3 x4 x5 x6 x7 xs0 xs1
      = k0_pay1 x0 (k0_pay15 i x0 x3 x4 x5 xs0 xs1) x6 x7 := by
  unfold out0_C_8
  rw [View.read_writes_eq_canon _ _ _ (cover0_C_8 c i arg2 h2 arg3 h3 arg4 h4 arg5 h5 arg6 h6 arg7 h7 arg8 h8 arg9 h9 arg10 h10 arg11 h11 arg12 h12 hc0 hc1 x0 x1 x2 x3 x4 x5 x6 x7 xs0 xs1)]
  unfold kernelRun0_C
  dsimp only
  sl_unfold_words
  rw [View.canon_unit_zero (S := S256x1024) hz, View.readCov_unit_zero (S := S256x1024) _ hz]
  simp only [View.readAt_eq_ld, h2.read_unread, h5.read_unread, h6.read_unread, h7.read_unread, h8.read_unread, h9.read_unread, h11.read_unread, h12.read_unread,
    View.ld_unit_zero (S := S256x1024) hz, View.ld_unit_zero (S := S256x128) hz, View.ld_unit_zero (S := S1x1024) hz,
    View.ld_unit_zero (S := S1x1024x1408) hz3, View.ld_unit_zero (S := S1x1408x1024) hz3]

end Points

end Cert.MoeSampleIdeal.Rows

end
-- ==== Proof.SampleMoePay.lean ====
module

public import proofs.«01_k».proof.Proof.SampleMoeCases
public import proofs.«01_k».proof.Proof.MoeTile

/-! The expert call's block operations on the sample batch, at its block of 256 rows. -/

@[expose] public section

set_option maxRecDepth 16384

noncomputable section

namespace Cert.MoeSampleIdeal.Rows

open Cert.MoeSampleIdeal Cert.MoeSampleIdeal.Gen Cert.Rows Idealize.ShloMosaic Idealize.ShloMosaic.ValueIdx

/-- The side conditions of the block operations at the call's block. -/
theorem tile : TileSides 256 :=
  ⟨iota_S256x128_d1_w32, shapeCasts_S1024x128_S1024x128, shapeCasts_S1x128_S1x128, shapeCasts_S256x1_S256x1, shapeCasts_S256x128_S256x128, shapeCasts_S256x1024_S256x1024,
    shapeCasts_S1x1024_S1x1024, shapeCasts_S1x1024x1408_S1024x1408, shapeCasts_S1x1408x1024_S1408x1024, shapeCasts_S256_S256x1, reduces_S256x128_S256, reduces_S256x1024_S256,
    broadcasts_S1x128_S256x128, broadcasts_S1x1024_S256x1024, broadcasts_S256x1_S256x128, broadcasts_S256x1_S256x1024, bitsLt_bf16_f32⟩

/-- The call's routing weights are the block's. -/
theorem combBlock_eq (x : Vec Ideal S256x1024 .f32) (rw : Vec Ideal S1024x128 .f32) (rb : Vec Ideal S1x128 .f32) : combBlock x rw rb = combTile tile x rw rb := rfl

/-- On an expert's lane the call's routing weight is the expert's weight, when every logit of the row is above minus infinity. -/
theorem combBlock_apply (x : Vec Ideal S256x1024 .f32) (rw : Vec Ideal S1024x128 .f32) (rb : Vec Ideal S1x128 .f32) (r : Fin 256) (hL : ∀ e, blockLogits x rw rb r e ≠ ⊥) (e : Fin 8) :
    combBlock x rw rb (ix2 r (lane e)) = weight (blockLogits x rw rb r) e :=
  (congrFun (combBlock_eq x rw rb) _).trans (combTile_apply tile x rw rb r hL e)

/-- A point's new running sum is the block's. -/
theorem share_eq (i : grid0.Coords) (x : Vec Ideal S256x1024 .f32) (wg wu : Vec Ideal S1x1024x1408 .bf16) (wd : Vec Ideal S1x1408x1024 .bf16) (comb : Vec Ideal S256x128 .f32)
    (acc : Vec Ideal S256x1024 .f32) : k0_pay15 (F := Ideal) i x wg wu wd comb acc = shareTile tile (BitVec.ofNat 32 (i 1).val) x wg wu wd comb acc := rfl

/-- An expert's point adds the expert's weighted feed forward to the running sum of each row. -/
theorem share_apply (i : grid0.Coords) (e : Fin 8) (he : (i 1).val = e.val) (x : Vec Ideal S256x1024 .f32) (wg wu : Vec Ideal S1x1024x1408 .bf16)
    (wd : Vec Ideal S1x1408x1024 .bf16) (comb : Vec Ideal S256x128 .f32) (acc : Vec Ideal S256x1024 .f32) (r : Fin 256) (j : Fin 1024) :
    k0_pay15 (F := Ideal) i x wg wu wd comb acc (ix2 r j)
      = acc (ix2 r j) + comb (ix2 r (lane e))
          * swiglu (fun k => x (ix2 r k)) (fun k j => wg (ix3 0 k j)) (fun k j => wu (ix3 0 k j)) (fun k j => wd (ix3 0 k j)) j :=
  (congrFun (share_eq i x wg wu wd comb acc) _).trans (shareTile_apply tile _ e (congrArg (BitVec.ofNat 32) he) x wg wu wd comb acc r j)

/-- The running sum starts at zero. -/
theorem zeros_apply (r : Fin 256) (j : Fin 1024) : k0_pay14 (F := Ideal) (ix2 r j) = 0 := zeroTile_apply tile r j

/-- The last point's result is the block's. -/
theorem close_eq (x acc : Vec Ideal S256x1024 .f32) (g b : Vec Ideal S1x1024 .f32) : k0_pay1 (F := Ideal) x acc g b = closeTile tile x acc g b := rfl

/-- The last point normalizes the residual plus the sum, row by row. -/
theorem close_apply (x acc : Vec Ideal S256x1024 .f32) (g b : Vec Ideal S1x1024 .f32) (r : Fin 256) (j : Fin 1024) :
    k0_pay1 (F := Ideal) x acc g b (ix2 r j) = lnRow (fun k => alpha * x (ix2 r k) + acc (ix2 r k)) (g (ix2 0 j)) (b (ix2 0 j)) j :=
  (congrFun (close_eq x acc g b) _).trans (closeTile_apply tile x acc g b r j)

end Cert.MoeSampleIdeal.Rows

end
-- ==== Proof.SampleMoeBlocks.lean ====
module

public import proofs.«01_k».proof.Proof.SampleMoePay
public import proofs.«01_k».proof.Proof.MoeRows
public import Idealize.ShloMosaic.Lib.KernelVsHost

/-! The mixture of experts call of the sample batch: the blocks its grid points read, as elements of the call's arguments. -/

@[expose] public section

set_option maxRecDepth 16384

noncomputable section

namespace Cert.MoeSampleIdeal.Rows

open Cert.MoeSampleIdeal Cert.MoeSampleIdeal.Gen Cert.Rows Idealize.ShloMosaic Idealize.ShloMosaic.ValueIdx Idealize.ShloMosaic.TcCoe Idealize.SL.Sem
open Idealize.ShloMosaic.Pipeline (Dat)
open scoped BigOperators

variable (m : (ℓ : Loc nD τ sig) → Buf (Elt Ideal) ℓ) (ρ : Dev nD → PrngReg)

/-- The activations. -/
abbrev argX (c : Dev nD) : S256x1024.Idx → EReal := m ((c : Thread nD τ).loc main_arg0)
/-- The router's matrix. -/
abbrev argRw (c : Dev nD) : S1x1024x8.Idx → EReal := m ((c : Thread nD τ).loc main_arg1)
/-- The router's offsets. -/
abbrev argRb (c : Dev nD) : S1x8.Idx → EReal := m ((c : Thread nD τ).loc main_arg2)
/-- The experts' gate weights. -/
abbrev argG (c : Dev nD) : S1x8x1024x1408.Idx → EReal := m ((c : Thread nD τ).loc main_arg3)
/-- The experts' up weights. -/
abbrev argU (c : Dev nD) : S1x8x1024x1408.Idx → EReal := m ((c : Thread nD τ).loc main_arg4)
/-- The experts' down weights. -/
abbrev argD (c : Dev nD) : S1x8x1408x1024.Idx → EReal := m ((c : Thread nD τ).loc main_arg5)
/-- The gains of the layer normalization. -/
abbrev argLg (c : Dev nD) : S2x1024.Idx → EReal := m ((c : Thread nD τ).loc main_arg6)
/-- The offsets of the layer normalization. -/
abbrev argLb (c : Dev nD) : S2x1024.Idx → EReal := m ((c : Thread nD τ).loc main_arg7)

/-- The router operand holds the router weights, padded with zeros to 128 lanes. -/
theorem V_rw (c : Dev nD) : (V m c main_v1 : S1024x128.Idx → EReal)
    = pad S1024x128 ![0, 0] ![0, 120] ![0, 0] (shapeCast S1024x8 (argRw m c) shapeCasts_S1x1024x8_S1024x8) (sitofp (F := Ideal) .f32 (constantI S_ 32 0#32))
        pads_S1024x8_S1024x128_000_01200 h_S_ := by
  unfold V; simp only [hostOps0, hostOps0_1, hostOps0_2, hostOps0_3, hostOps0_4, List.flatten_cons, List.flatten_nil, List.append_nil, List.cons_append, List.nil_append]
  after_results_simp <;> rfl
/-- The bias operand holds the router bias, padded with zeros to 128 lanes. -/
theorem V_rb (c : Dev nD) : (V m c main_v4 : S1x128.Idx → EReal)
    = shapeCast S1x128 (pad S128 ![0] ![120] ![0] (shapeCast S8 (argRb m c) shapeCasts_S1x8_S8) (sitofp (F := Ideal) .f32 (constantI S_ 32 0#32))
        pads_S8_S128_01200 h_S_) shapeCasts_S128_S1x128 := by
  unfold V; simp only [hostOps0, hostOps0_1, hostOps0_2, hostOps0_3, hostOps0_4, List.flatten_cons, List.flatten_nil, List.append_nil, List.cons_append, List.nil_append]
  after_results_simp <;> rfl
/-- The gate operand holds the gate weights without the leading unit dimension. -/
theorem V_g (c : Dev nD) : (V m c main_v6 : S8x1024x1408.Idx → EReal) = shapeCast S8x1024x1408 (argG m c) shapeCasts_S1x8x1024x1408_S8x1024x1408 := by
  unfold V; simp only [hostOps0, hostOps0_1, hostOps0_2, hostOps0_3, hostOps0_4, List.flatten_cons, List.flatten_nil, List.append_nil, List.cons_append, List.nil_append]
  after_results_simp <;> rfl
/-- The up operand holds the up weights without the leading unit dimension. -/
theorem V_u (c : Dev nD) : (V m c main_v8 : S8x1024x1408.Idx → EReal) = shapeCast S8x1024x1408 (argU m c) shapeCasts_S1x8x1024x1408_S8x1024x1408 := by
  unfold V; simp only [hostOps0, hostOps0_1, hostOps0_2, hostOps0_3, hostOps0_4, List.flatten_cons, List.flatten_nil, List.append_nil, List.cons_append, List.nil_append]
  after_results_simp <;> rfl
/-- The down operand holds the down weights without the leading unit dimension. -/
theorem V_d (c : Dev nD) : (V m c main_v10 : S8x1408x1024.Idx → EReal) = shapeCast S8x1408x1024 (argD m c) shapeCasts_S1x8x1408x1024_S8x1408x1024 := by
  unfold V; simp only [hostOps0, hostOps0_1, hostOps0_2, hostOps0_3, hostOps0_4, List.flatten_cons, List.flatten_nil, List.append_nil, List.cons_append, List.nil_append]
  after_results_simp <;> rfl
/-- The scale operand holds the row of the normalization scales that belongs to this layer. -/
theorem V_lg (c : Dev nD) : (V m c main_v13 : S1x1024.Idx → EReal)
    = shapeCast S1x1024 (shapeCast S1024 (extractStridedSlice S1x1024 ![1, 0] (argLg m c) slices_S2x1024_S1x1024_1_0) shapeCasts_S1x1024_S1024) shapeCasts_S1024_S1x1024 := by
  unfold V; simp only [hostOps0, hostOps0_1, hostOps0_2, hostOps0_3, hostOps0_4, List.flatten_cons, List.flatten_nil, List.append_nil, List.cons_append, List.nil_append]
  after_results_simp <;> rfl
/-- The shift operand holds the row of the normalization shifts that belongs to this layer. -/
theorem V_lb (c : Dev nD) : (V m c main_v16 : S1x1024.Idx → EReal)
    = shapeCast S1x1024 (shapeCast S1024 (extractStridedSlice S1x1024 ![1, 0] (argLb m c) slices_S2x1024_S1x1024_1_0) shapeCasts_S1x1024_S1024) shapeCasts_S1024_S1x1024 := by
  unfold V; simp only [hostOps0, hostOps0_1, hostOps0_2, hostOps0_3, hostOps0_4, List.flatten_cons, List.flatten_nil, List.append_nil, List.cons_append, List.nil_append]
  after_results_simp <;> rfl

/-- The expert of a grid point. -/
def expertAt (t : Fin cfg0.N) : Fin 8 := ⟨t.val % 8, Nat.mod_lt _ (by decide)⟩

/-- The row of the whole array that row `r` of point `t`'s block is. -/
def rowAt (t : Fin cfg0.N) (r : Fin 256) : Fin 256 := ⟨t.val / 8 * 256 + r.val, by have h : t.val < 8 := t.isLt.trans_eq N_0; omega⟩

/-- The second grid coordinate of a point is its number modulo eight. -/
theorem coord_expert : ∀ t : Fin cfg0.N, ((grid0.coords t) 1).val = t.val % 8 :=
  (by decide +kernel : ∀ t : Fin grid0.N, ((grid0.coords t) 1).val = t.val % 8)
/-- Which block of activation rows a grid point reads. -/
theorem idx_x : ∀ t : Fin cfg0.N, win0_0.index t 0 = t.val / 8 ∧ win0_0.index t 1 = 0 :=
  (by decide +kernel : ∀ t : Fin grid0.N, win0_0.index t 0 = t.val / 8 ∧ win0_0.index t 1 = 0)
/-- Which block of result rows a grid point writes. -/
theorem idx_o : ∀ t : Fin cfg0.N, win0_8.index t 0 = t.val / 8 ∧ win0_8.index t 1 = 0 :=
  (by decide +kernel : ∀ t : Fin grid0.N, win0_8.index t 0 = t.val / 8 ∧ win0_8.index t 1 = 0)
/-- The operands that every grid point reads whole stay at block zero. -/
theorem idx_whole : ∀ t : Fin cfg0.N, (win0_1.index t 0 = 0 ∧ win0_1.index t 1 = 0) ∧ (win0_2.index t 0 = 0 ∧ win0_2.index t 1 = 0)
    ∧ (win0_6.index t 0 = 0 ∧ win0_6.index t 1 = 0) ∧ (win0_7.index t 0 = 0 ∧ win0_7.index t 1 = 0) :=
  (by decide +kernel : ∀ t : Fin grid0.N, (win0_1.index t 0 = 0 ∧ win0_1.index t 1 = 0) ∧ (win0_2.index t 0 = 0 ∧ win0_2.index t 1 = 0)
    ∧ (win0_6.index t 0 = 0 ∧ win0_6.index t 1 = 0) ∧ (win0_7.index t 0 = 0 ∧ win0_7.index t 1 = 0))
/-- The expert weights at a grid point are those of the point's expert. -/
theorem idx_member : ∀ t : Fin cfg0.N, (win0_3.index t 0 = t.val % 8 ∧ win0_3.index t 1 = 0 ∧ win0_3.index t 2 = 0)
    ∧ (win0_4.index t 0 = t.val % 8 ∧ win0_4.index t 1 = 0 ∧ win0_4.index t 2 = 0) ∧ (win0_5.index t 0 = t.val % 8 ∧ win0_5.index t 1 = 0 ∧ win0_5.index t 2 = 0) :=
  (by decide +kernel : ∀ t : Fin grid0.N, (win0_3.index t 0 = t.val % 8 ∧ win0_3.index t 1 = 0 ∧ win0_3.index t 2 = 0)
    ∧ (win0_4.index t 0 = t.val % 8 ∧ win0_4.index t 1 = 0 ∧ win0_4.index t 2 = 0) ∧ (win0_5.index t 0 = t.val % 8 ∧ win0_5.index t 1 = 0 ∧ win0_5.index t 2 = 0))

/-- A grid point's activations. -/
theorem blk_x (c : Dev nD) (t : Fin cfg0.N) (r : Fin 256) (k : Fin 1024) : iblk m c 0 t (ix2 r k) = argX m c (ix2 (rowAt t r) k) := by
  refine Eq.trans ?_ (congrFun (V_main_arg0 m c) _)
  refine congrArg (V m c main_arg0) (funext fun a => Fin.ext ?_)
  match a with
  | ⟨0, _⟩ => show win0_0.index t 0 * 256 + 1 * r.val = t.val / 8 * 256 + r.val; rw [(idx_x t).1]; omega
  | ⟨1, _⟩ => show win0_0.index t 1 * 1024 + 1 * k.val = k.val; rw [(idx_x t).2]; omega

/-- Every grid point has the router's matrix, on the experts' lanes. -/
theorem blk_rw (c : Dev nD) (t : Fin cfg0.N) (k : Fin 1024) (e : Fin 8) : iblk m c 1 t (ix2 k (lane e)) = argRw m c (ix3 0 k e) := by
  refine Eq.trans ?_ ((congrFun (V_rw m c) (ix2 k (lane e))).trans ((pad_apply_of_inside _ _ _ _ _ _ _ _ (ix2 k e) fun a => ?_).trans (squeeze_apply (argRw m c) _ k e)))
  · refine congrArg (V m c main_v1) (funext fun a => Fin.ext ?_)
    match a with
    | ⟨0, _⟩ => show win0_1.index t 0 * 1024 + 1 * (k : Fin 1024).val = (k : Fin 1024).val; rw [(idx_whole t).1.1]; omega
    | ⟨1, _⟩ => show win0_1.index t 1 * 128 + 1 * (lane e).val = (lane e).val; rw [(idx_whole t).1.2]; omega
  · match a with
    | ⟨0, _⟩ => show k.val = 0 + k.val * (0 + 1); omega
    | ⟨1, _⟩ => show e.val = 0 + e.val * (0 + 1); omega

/-- Every grid point has the router's offsets, on the experts' lanes. -/
theorem blk_rb (c : Dev nD) (t : Fin cfg0.N) (e : Fin 8) : iblk m c 2 t (ix2 0 (lane e)) = argRb m c (ix2 0 e) := by
  refine Eq.trans ?_ ((congrFun (V_rb m c) (ix2 0 (lane e))).trans ((unflat_apply _ _ (lane e)).trans
    ((pad_apply_of_inside _ _ _ _ _ _ _ _ (ix1 e) fun a => ?_).trans (flat_apply (argRb m c) _ e))))
  · refine congrArg (V m c main_v4) (funext fun a => Fin.ext ?_)
    match a with
    | ⟨0, _⟩ => show win0_2.index t 0 * 1 + 1 * (0 : Fin 1).val = (0 : Fin 1).val; rw [(idx_whole t).2.1.1]; omega
    | ⟨1, _⟩ => show win0_2.index t 1 * 128 + 1 * (lane e).val = (lane e).val; rw [(idx_whole t).2.1.2]; omega
  · match a with
    | ⟨0, _⟩ => show e.val = 0 + e.val * (0 + 1); omega

/-- A grid point has its expert's gate matrix. -/
theorem blk_g (c : Dev nD) (t : Fin cfg0.N) (k : Fin 1024) (j : Fin 1408) : iblk m c 3 t (ix3 0 k j) = argG m c (ix4 0 (expertAt t) k j) := by
  refine Eq.trans ?_ ((congrFun (V_g m c) (ix3 (expertAt t) k j)).trans (unstack_apply (argG m c) _ (expertAt t) k j))
  refine congrArg (V m c main_v6) (funext fun a => Fin.ext ?_)
  match a with
  | ⟨0, _⟩ => show win0_3.index t 0 * 1 + 1 * (0 : Fin 1).val = t.val % 8; rw [(idx_member t).1.1]; show t.val % 8 * 1 + 1 * 0 = t.val % 8; omega
  | ⟨1, _⟩ => show win0_3.index t 1 * 1024 + 1 * (k : Fin 1024).val = (k : Fin 1024).val; rw [(idx_member t).1.2.1]; omega
  | ⟨2, _⟩ => show win0_3.index t 2 * 1408 + 1 * j.val = j.val; rw [(idx_member t).1.2.2]; omega

/-- A grid point has its expert's up matrix. -/
theorem blk_u (c : Dev nD) (t : Fin cfg0.N) (k : Fin 1024) (j : Fin 1408) : iblk m c 4 t (ix3 0 k j) = argU m c (ix4 0 (expertAt t) k j) := by
  refine Eq.trans ?_ ((congrFun (V_u m c) (ix3 (expertAt t) k j)).trans (unstack_apply (argU m c) _ (expertAt t) k j))
  refine congrArg (V m c main_v8) (funext fun a => Fin.ext ?_)
  match a with
  | ⟨0, _⟩ => show win0_4.index t 0 * 1 + 1 * (0 : Fin 1).val = t.val % 8; rw [(idx_member t).2.1.1]; show t.val % 8 * 1 + 1 * 0 = t.val % 8; omega
  | ⟨1, _⟩ => show win0_4.index t 1 * 1024 + 1 * (k : Fin 1024).val = (k : Fin 1024).val; rw [(idx_member t).2.1.2.1]; omega
  | ⟨2, _⟩ => show win0_4.index t 2 * 1408 + 1 * j.val = j.val; rw [(idx_member t).2.1.2.2]; omega

/-- A grid point has its expert's down matrix. -/
theorem blk_d (c : Dev nD) (t : Fin cfg0.N) (k : Fin 1408) (j : Fin 1024) : iblk m c 5 t (ix3 0 k j) = argD m c (ix4 0 (expertAt t) k j) := by
  refine Eq.trans ?_ ((congrFun (V_d m c) (ix3 (expertAt t) k j)).trans (unstack_apply (argD m c) _ (expertAt t) k j))
  refine congrArg (V m c main_v10) (funext fun a => Fin.ext ?_)
  match a with
  | ⟨0, _⟩ => show win0_5.index t 0 * 1 + 1 * (0 : Fin 1).val = t.val % 8; rw [(idx_member t).2.2.1]; show t.val % 8 * 1 + 1 * 0 = t.val % 8; omega
  | ⟨1, _⟩ => show win0_5.index t 1 * 1408 + 1 * (k : Fin 1408).val = (k : Fin 1408).val; rw [(idx_member t).2.2.2.1]; omega
  | ⟨2, _⟩ => show win0_5.index t 2 * 1024 + 1 * j.val = j.val; rw [(idx_member t).2.2.2.2]; omega

/-- Every grid point has the gains of the layer. -/
theorem blk_lg (c : Dev nD) (t : Fin cfg0.N) (j : Fin 1024) : iblk m c 6 t (ix2 0 j) = argLg m c (ix2 1 j) := by
  refine Eq.trans ?_ ((congrFun (V_lg m c) (ix2 0 j)).trans (tableRow_apply 1 (argLg m c) _ _ _ j))
  refine congrArg (V m c main_v13) (funext fun a => Fin.ext ?_)
  match a with
  | ⟨0, _⟩ => show win0_6.index t 0 * 1 + 1 * (0 : Fin 1).val = (0 : Fin 1).val; rw [(idx_whole t).2.2.1.1]; omega
  | ⟨1, _⟩ => show win0_6.index t 1 * 1024 + 1 * j.val = j.val; rw [(idx_whole t).2.2.1.2]; omega

/-- Every grid point has the offsets of the layer. -/
theorem blk_lb (c : Dev nD) (t : Fin cfg0.N) (j : Fin 1024) : iblk m c 7 t (ix2 0 j) = argLb m c (ix2 1 j) := by
  refine Eq.trans ?_ ((congrFun (V_lb m c) (ix2 0 j)).trans (tableRow_apply 1 (argLb m c) _ _ _ j))
  refine congrArg (V m c main_v16) (funext fun a => Fin.ext ?_)
  match a with
  | ⟨0, _⟩ => show win0_7.index t 0 * 1 + 1 * (0 : Fin 1).val = (0 : Fin 1).val; rw [(idx_whole t).2.2.2.1]; omega
  | ⟨1, _⟩ => show win0_7.index t 1 * 1024 + 1 * j.val = j.val; rw [(idx_whole t).2.2.2.2]; omega

/-- A grid point's logits are its rows' logits. -/
theorem blk_logits (c : Dev nD) (t : Fin cfg0.N) (r : Fin 256) :
    blockLogits (iblk m c 0 t) (iblk m c 1 t) (iblk m c 2 t) r = logits (argX m c) (argRw m c) (argRb m c) (rowAt t r) := by
  funext e
  unfold blockLogits logits rowDot
  rw [blk_rb]
  exact congrArg (· + _) (Finset.sum_congr rfl fun k _ => congrArg₂ (· * ·) (blk_x m c t r k) (blk_rw m c t k e))

/-- A grid point's feed forward is its expert's on its rows. -/
theorem blk_expert (c : Dev nD) (t : Fin cfg0.N) (r : Fin 256) (j : Fin 1024) :
    swiglu (fun k => iblk m c 0 t (ix2 r k)) (fun k j => iblk m c 3 t (ix3 0 k j)) (fun k j => iblk m c 4 t (ix3 0 k j)) (fun k j => iblk m c 5 t (ix3 0 k j)) j
      = expert (argX m c) (argG m c) (argU m c) (argD m c) (rowAt t r) (expertAt t) j := by
  simp only [blk_x, blk_g, blk_u, blk_d]
  rfl

end Cert.MoeSampleIdeal.Rows

end
-- ==== Proof.SampleMoeValue.lean ====
module

public import proofs.«01_k».proof.Proof.SampleMoeBlocks

/-! The mixture of experts call of the sample batch, read at the extended reals: its result array, row by row, is the layer normalization of
    `alpha * x + ∑ e, weight e * expert e (x)`. The routing weights and the running sum are carried through a row block's eight points. -/

@[expose] public section

set_option maxRecDepth 16384

noncomputable section

namespace Cert.MoeSampleIdeal.Rows

open Cert.MoeSampleIdeal Cert.MoeSampleIdeal.Gen Cert.Rows Idealize.ShloMosaic Idealize.ShloMosaic.ValueIdx Idealize.ShloMosaic.TcCoe Idealize.SL.Sem
open Idealize.ShloMosaic.Pipeline (Dat)
open scoped BigOperators

variable (m : (ℓ : Loc nD τ sig) → Buf (Elt Ideal) ℓ) (ρ : Dev nD → PrngReg)

/-- Expert `f`'s weighted share of row `r` at column `j`. -/
def share (c : Dev nD) (r : Fin 256) (j : Fin 1024) (f : Fin 8) : EReal :=
  weight (logits (argX m c) (argRw m c) (argRb m c) r) f * expert (argX m c) (argG m c) (argU m c) (argD m c) r f j

/-- What the carried arrays hold after point `t`: the routing weights of its rows, and the shares of the experts so far. -/
def Carried (c : Dev nD) (t : Fin cfg0.N) : Prop :=
  (∀ r f, (outsAt0 m c t.val t.isLt).2.1 (ix2 r (lane f)) = weight (logits (argX m c) (argRw m c) (argRb m c) (rowAt t r)) f)
    ∧ ∀ r j, (outsAt0 m c t.val t.isLt).2.2 (ix2 r j) = partSum (share m c (rowAt t r) j) ((expertAt t).val + 1)

/-- A point's new running sum, from the carried arrays it starts with. -/
theorem add_share (c : Dev nD) (t : Fin cfg0.N) (comb : Vec Ideal S256x128 .f32) (acc : Vec Ideal S256x1024 .f32) (r : Fin 256) (j : Fin 1024)
    (hw : comb (ix2 r (lane (expertAt t))) = weight (logits (argX m c) (argRw m c) (argRb m c) (rowAt t r)) (expertAt t))
    (ha : acc (ix2 r j) = partSum (share m c (rowAt t r) j) (expertAt t).val) :
    k0_pay15 (F := Ideal) (grid0.coords t) (iblk m c 0 t) (iblk m c 3 t) (iblk m c 4 t) (iblk m c 5 t) comb acc (ix2 r j)
      = partSum (share m c (rowAt t r) j) ((expertAt t).val + 1) := by
  refine (share_apply _ (expertAt t) (coord_expert t) _ _ _ _ _ _ r j).trans ?_
  rw [partSum_succ, hw, ha, blk_expert]
  rfl

/-- After the first point of a row block. -/
theorem carried_first (c : Dev nD) (hL : ∀ r e, logits (argX m c) (argRw m c) (argRb m c) r e ≠ ⊥) (t : Fin cfg0.N) (h0 : t.val % 8 = 0) : Carried m c t := by
  have h1 : ¬t.val % 8 = 7 := by omega
  have hw : ∀ r f, combBlock (iblk m c 0 t) (iblk m c 1 t) (iblk m c 2 t) (ix2 r (lane f)) = weight (logits (argX m c) (argRw m c) (argRb m c) (rowAt t r)) f := fun r f => by
    refine (combBlock_apply _ _ _ r (fun e => ?_) f).trans ?_
    · rw [blk_logits]; exact hL _ e
    · rw [blk_logits]
  unfold Carried
  rw [outsAt0_A m c t h0 h1]
  dsimp only
  refine ⟨fun r f => ?_, fun r j => ?_⟩
  · rw [weights_A]; exact hw r f
  · rw [sum_A]
    refine add_share m c t _ _ r j (hw r _) ((zeros_apply r j).trans ?_)
    rw [show (expertAt t).val = 0 from h0, partSum_zero]

/-- The point before. -/
def pred (t : Fin cfg0.N) : Fin cfg0.N := ⟨t.val - 1, Nat.lt_of_le_of_lt (Nat.sub_le _ _) t.isLt⟩

/-- Within one block of rows, the point before reads the same rows. -/
theorem rowAt_pred (t : Fin cfg0.N) (h0 : ¬t.val % 8 = 0) (r : Fin 256) : rowAt (pred t) r = rowAt t r := by
  refine Fin.ext ?_
  show (t.val - 1) / 8 * 256 + r.val = t.val / 8 * 256 + r.val
  have : (t.val - 1) / 8 = t.val / 8 := by omega
  rw [this]

/-- Within one block of rows, the point before works on the expert before. -/
theorem expertAt_pred (t : Fin cfg0.N) (h0 : ¬t.val % 8 = 0) : (expertAt (pred t)).val + 1 = (expertAt t).val := by
  show (t.val - 1) % 8 + 1 = t.val % 8
  omega

/-- A later point's new running sum. -/
theorem sum_later (c : Dev nD) (t : Fin cfg0.N) (h0 : ¬t.val % 8 = 0) (ih : Carried m c (pred t)) (r : Fin 256) (j : Fin 1024) :
    k0_pay15 (F := Ideal) (grid0.coords t) (iblk m c 0 t) (iblk m c 3 t) (iblk m c 4 t) (iblk m c 5 t)
        (outsAt0 m c (pred t).val (pred t).isLt).2.1 (outsAt0 m c (pred t).val (pred t).isLt).2.2 (ix2 r j)
      = partSum (share m c (rowAt t r) j) ((expertAt t).val + 1) := by
  refine add_share m c t _ _ r j ((ih.1 r _).trans ?_) ((ih.2 r j).trans ?_)
  · rw [rowAt_pred t h0]
  · rw [rowAt_pred t h0, expertAt_pred t h0]

/-- After a later point of a row block. -/
theorem carried_later (c : Dev nD) (t : Fin cfg0.N) (h0 : ¬t.val % 8 = 0) (ih : Carried m c (pred t)) : Carried m c t := by
  have hw : ∀ r f, (outsAt0 m c (pred t).val (pred t).isLt).2.1 (ix2 r (lane f)) = weight (logits (argX m c) (argRw m c) (argRb m c) (rowAt t r)) f := fun r f => by
    rw [ih.1 r f, rowAt_pred t h0]
  by_cases h1 : t.val % 8 = 7
  · unfold Carried
    rw [outsAt0_C m c t h0 h1]
    dsimp only
    refine ⟨hw, fun r j => ?_⟩
    rw [sum_C]
    exact sum_later m c t h0 ih r j
  · unfold Carried
    rw [outsAt0_B m c t h0 h1]
    dsimp only
    refine ⟨hw, fun r j => ?_⟩
    rw [sum_B]
    exact sum_later m c t h0 ih r j

/-- The carried arrays after every point. -/
theorem carried (c : Dev nD) (hL : ∀ r e, logits (argX m c) (argRw m c) (argRb m c) r e ≠ ⊥) : ∀ (n : ℕ) (hn : n < cfg0.N), Carried m c ⟨n, hn⟩
  | 0, hn => carried_first m c hL ⟨0, hn⟩ rfl
  | n + 1, hn => by
    by_cases h0 : (n + 1) % 8 = 0
    · exact carried_first m c hL ⟨n + 1, hn⟩ h0
    · exact carried_later m c ⟨n + 1, hn⟩ h0 (carried c hL n (Nat.lt_of_succ_lt hn))

/-- What the call computes on device `c`. -/
abbrev G (c : Dev nD) : S256x1024.Idx → EReal := moeOut (argX m c) (argRw m c) (argRb m c) (argG m c) (argU m c) (argD m c) (argLg m c) (argLb m c)

/-- What the last point of a row block leaves in the result block. -/
theorem closed (c : Dev nD) (hL : ∀ r e, logits (argX m c) (argRw m c) (argRb m c) r e ≠ ⊥) (t : Fin cfg0.N) (h1 : t.val % 8 = 7) (r : Fin 256) (j : Fin 1024) :
    (outsAt0 m c t.val t.isLt).1 (ix2 r j) = G m c (ix2 (rowAt t r) j) := by
  have h0 : ¬t.val % 8 = 0 := by omega
  have ih : Carried m c (pred t) := carried m c hL _ _
  rw [outsAt0_C m c t h0 h1]
  dsimp only
  rw [out_C]
  refine (close_apply _ _ _ _ r j).trans ?_
  rw [blk_lg, blk_lb]
  refine congrArg (fun y => lnRow y (argLg m c (ix2 1 j)) (argLb m c (ix2 1 j)) j) (funext fun k => ?_)
  refine congrArg₂ (fun a b => alpha * a + b) (blk_x m c t r k) ((sum_later m c t h0 ih r k).trans ?_)
  rw [show (expertAt t).val + 1 = 8 from congrArg (· + 1) h1, partSum_all]
  rfl

/-- What a row block's last point writes back is its block of `G`. -/
theorem flushed_eq (c : Dev nD) (hL : ∀ r e, logits (argX m c) (argRw m c) (argRb m c) r e ≠ ⊥) (t : Fin cfg0.N) (hf : (cfg0.win 8).flush t = true) :
    (dats m 0 c).flushed 8 t = ((cfg0.win 8).blk t).view.read (Elt Ideal) (G m c) := by
  have h1 : t.val % 8 = 7 := (flush0_8 t).mp hf
  rw [Value.flushed8]
  funext y
  obtain ⟨r, j, rfl⟩ : ∃ (r : Fin 256) (j : Fin 1024), y = ix2 r j := ⟨y 0, y 1, eq_ix2 y⟩
  have e : ((cfg0.win 8).blk t).view.read (Elt Ideal) (G m c) (ix2 r j) = G m c (ix2 (rowAt t r) j) := by
    refine congrArg (G m c) (funext fun a => Fin.ext ?_)
    match a with
    | ⟨0, _⟩ => show win0_8.index t 0 * 256 + 1 * r.val = t.val / 8 * 256 + r.val; rw [(idx_o t).1]; omega
    | ⟨1, _⟩ => show win0_8.index t 1 * 1024 + 1 * j.val = j.val; rw [(idx_o t).2]; omega
  refine Eq.trans ?_ e.symm
  exact closed m c hL t h1 r j

/-- An index of the result array is in point `t`'s block iff its row is. -/
theorem mem_blk (t : Fin cfg0.N) (i : S256x1024.Idx) :
    i ∈ ((cfg0.win 8).blk t).view.set ↔ t.val / 8 * 256 ≤ (i 0 : Nat) ∧ (i 0 : Nat) < t.val / 8 * 256 + 256 := by
  show i ∈ ((View.whole main_v17).slice (win0_8.rect t)).set ↔ _
  rw [View.set_slice_whole, Rect.mem_set_unit]
  have h1 : (i 1 : Nat) < 1024 := (i 1).isLt
  refine ⟨fun h => ?_, fun h a => ?_⟩
  · have : win0_8.index t 0 * 256 ≤ (i 0 : Nat) ∧ (i 0 : Nat) < win0_8.index t 0 * 256 + 256 := h 0
    rw [(idx_o t).1] at this; exact this
  · match a with
    | ⟨0, _⟩ => show win0_8.index t 0 * 256 ≤ (i 0 : Nat) ∧ (i 0 : Nat) < win0_8.index t 0 * 256 + 256
                rw [(idx_o t).1]; exact h
    | ⟨1, _⟩ => show win0_8.index t 1 * 1024 ≤ (i 1 : Nat) ∧ (i 1 : Nat) < win0_8.index t 1 * 1024 + 1024
                rw [(idx_o t).2]; exact ⟨(Nat.zero_mul 1024).le.trans (Nat.zero_le _), h1.trans_eq (by rfl)⟩

/-- The blocks that are written back tile the result array. -/
theorem cover (i : S256x1024.Idx) : ∃ t : Fin cfg0.N, (cfg0.win 8).flush t = true ∧ i ∈ ((cfg0.win 8).blk t).view.set := by
  have h0 : (i 0 : Nat) < 256 := (i 0).isLt
  have hN : cfg0.N = 8 := N_0
  refine ⟨⟨7, by omega⟩, (flush0_8 _).mpr rfl, ?_⟩
  rw [mem_blk]
  dsimp only
  omega

/-- The result array ends holding `G`. -/
theorem final (c : Dev nD) (hL : ∀ r e, logits (argX m c) (argRw m c) (argRb m c) r e ≠ ⊥) : (dats m 0 c).arrAt 8 cfg0.N = G m c :=
  (dats m 0 c).arrAt_eq_of_cover 8 (G m c) (fun t hf => flushed_eq m c hL t hf) cover

end Cert.MoeSampleIdeal.Rows

end
-- ==== Proof.SampleMoeRef.lean ====
module

public import proofs.«01_k».proof.Proof.MoeHost
public import proofs.«01_k».proof.Proof.Gen.MoeSampleRefIdeal.Read

/-!
The mixture of experts reference of the sample batch computes `moeOut`, when every routing logit is finite.
-/

@[expose] public section

set_option maxRecDepth 16384

noncomputable section

namespace Cert.MoeSampleRefIdeal.Rows

open Idealize Idealize.ShloMosaic Cert.Rows Cert.MoeSampleRefIdeal Cert.MoeSampleRefIdeal.Gen Cert.MoeSampleRefIdeal.Read

/-- The side conditions of the layer normalization at the reference's size. -/
theorem lnSides : LnSides 256 :=
  ⟨reducesTo_S256x1024_S256_d1, by decide, h_S_, bcast_S256_S256x1_0, bcast_S_S256x1, bcast_S256x1_S256x1024_0_1, bcast_S1024_S1x1024_1, bcast_S1x1024_S256x1024_0_1⟩

/-- The side conditions of the layer at the reference's size. -/
theorem sides : RefSides 256 :=
  ⟨lnSides, shapeCasts_S1x1024x8_S1024x8, shapeCasts_S1x8_S8, bcast_S8_S1x8_1, bcast_S1x8_S256x8_0_1, sliceFits_S256x8_S256x2, reducesTo_S256x2_S256_d1, by decide, bcast_S_S256,
    bcast_S256x1_S256x2_0_1, bcast_S256x2_S256x2x1_0_1, bcast_S256x2x1_S256x2x8_0_1_2, bcast_S1x1x8_S256x2x8_0_1_2, reducesTo_S256x2x8_S256x8_d1, by decide, bcast_S_S256x1024,
    bcast_S_S256x1408, by decide, by decide, by decide, shapeCasts_S1x1024x1408_S1024x1408, shapeCasts_S1x1408x1024_S1408x1024, shapeCasts_S1x8x1024x1408_S8x1024x1408,
    shapeCasts_S1x8x1408x1024_S8x1408x1024, slices_S2x1024_S1x1024_1_0, shapeCasts_S1x1024_S1024⟩

variable (x0 : S256x1024.Idx → EReal) (x1 : S1x1024x8.Idx → EReal) (x2 : S1x8.Idx → EReal) (x3 x4 : S1x8x1024x1408.Idx → EReal) (x5 : S1x8x1408x1024.Idx → EReal)
  (x6 x7 : S2x1024.Idx → EReal)

/-- The reference's routing weights are the layer's. -/
theorem weights_eq : val_main_v24 (F := Ideal) x0 x1 x2 = hostWeights sides (hostLogits sides x0 x1 x2) := rfl

/-- The reference's sum over the experts is the layer's. -/
theorem sum_eq : val_main_v145 (F := Ideal) x0 x1 x2 x3 x4 x5 = hostSum sides x0 x3 x4 x5 (val_main_v24 (F := Ideal) x0 x1 x2) 8 (Nat.le_refl 8) := rfl

/-- The reference's result is the layer's. -/
theorem layer_eq : val_main_v176 (F := Ideal) x0 x1 x2 x3 x4 x5 x6 x7 = hostMoe sides x0 x3 x4 x5 (val_main_v24 (F := Ideal) x0 x1 x2) x6 x7 := by
  unfold hostMoe
  rw [← sum_eq]
  rfl

/-- The reference's result is `moeOut` of its arguments, when every routing logit is finite. -/
theorem result (hb : ∀ r e, logits x0 x1 x2 r e ≠ ⊥) (ht : ∀ r e, logits x0 x1 x2 r e ≠ ⊤) :
    val_main_v176 (F := Ideal) x0 x1 x2 x3 x4 x5 x6 x7 = moeOut x0 x1 x2 x3 x4 x5 x6 x7 := by
  rw [layer_eq, weights_eq]
  exact hostMoe_eq sides x0 x3 x4 x5 x1 x2 x6 x7 hb ht

end Cert.MoeSampleRefIdeal.Rows

end
-- ==== Proof.SampleMoeClaim.lean ====
module

public import proofs.«01_k».proof.Defs
public import proofs.«01_k».proof.Proof.Gen.Pre_finite_router_sample
public import proofs.«01_k».proof.Proof.SampleMoeValue
public import proofs.«01_k».proof.Proof.SampleMoeRef
public import proofs.«01_k».proof.Proof.MoeClaim

/-! The mixture of experts call of the sample batch agrees with its reference, when the activations and the router's parameters are finite. -/

@[expose] public section

set_option maxRecDepth 16384

noncomputable section

namespace Cert.MoeSampleIdeal.Rows

open Cert.Rows Idealize.ShloMosaic Idealize.ShloMosaic.TcCoe Idealize.SL.Sem

/-- A scalar has one place. -/
instance : Subsingleton Cert.Pre_finite_router_sample.S_.Idx := ⟨fun _ _ => funext fun a => a.elim0⟩

/-- The precondition makes every routing logit finite. -/
theorem logits_of_pre (m : (ℓ : Loc Cert.MoeSampleIdeal.nD Cert.MoeSampleIdeal.τ Cert.MoeSampleIdeal.sig) → Buf (Elt Ideal) ℓ) (hpre : Cert.Pre_MoeSampleIdeal_finite_router_sample m) (c : Dev Cert.MoeSampleIdeal.nD)
    (r : Fin 256) (e : Fin 8) : IsFinite (logits (argX m c) (argRw m c) (argRb m c) r e) := by
  have h := congrFun (hpre c) fun a => a.elim0
  dsimp only [Cert.Pre_finite_router_sample.fn] at h
  obtain ⟨h01, h2⟩ := IntOp.andi_eq_one.mp h
  obtain ⟨h0, h1⟩ := IntOp.andi_eq_one.mp h01
  exact logits_finite _ _ _ (finite_of_test _ _ _ _ _ h0) (finite_of_test _ _ _ _ _ h1) (finite_of_test _ _ _ _ _ h2) r e

/-- Over the extended reals the call and its reference end with equal results, from memories that agree on the arguments, when the
    activations and the router's parameters are finite. -/
theorem algebraic : Cert.algebraic_MoeSampleIdeal_MoeSampleRefIdeal_pre_finite_router_sample := by
  intro m ρ m' ρ' hpre hagree
  have hL := logits_of_pre m hpre
  refine ⟨fun c => G m c, (θ_run _ _ _).mono (fun _ h c => ⟨(h c).1.trans (final m c fun r e => (hL c r e).1), (h c).2⟩)
    (Cert.MoeSampleIdeal.Value.run_blocks (F := Ideal) m ρ), ?_⟩
  refine (θ_run _ _ _).mono (fun _ h c => ⟨?_, (h c).2⟩) (Cert.MoeSampleRefIdeal.Value.run (F := Ideal) m' ρ')
  obtain ⟨h0, h1, h2, h3, h4, h5, h6, h7⟩ := hagree c
  have hv := (h c).1
  rw [Cert.MoeSampleRefIdeal.Read.val_main_v176_eq] at hv
  refine hv.trans ?_
  have e0 : StableHlo.launchContents m' c (Proc.tc.devRef Cert.MoeSampleRefIdeal.main_arg0) = argX m c := h0
  have e1 : StableHlo.launchContents m' c (Proc.tc.devRef Cert.MoeSampleRefIdeal.main_arg1) = argRw m c := h1
  have e2 : StableHlo.launchContents m' c (Proc.tc.devRef Cert.MoeSampleRefIdeal.main_arg2) = argRb m c := h2
  have e3 : StableHlo.launchContents m' c (Proc.tc.devRef Cert.MoeSampleRefIdeal.main_arg3) = argG m c := h3
  have e4 : StableHlo.launchContents m' c (Proc.tc.devRef Cert.MoeSampleRefIdeal.main_arg4) = argU m c := h4
  have e5 : StableHlo.launchContents m' c (Proc.tc.devRef Cert.MoeSampleRefIdeal.main_arg5) = argD m c := h5
  have e6 : StableHlo.launchContents m' c (Proc.tc.devRef Cert.MoeSampleRefIdeal.main_arg6) = argLg m c := h6
  have e7 : StableHlo.launchContents m' c (Proc.tc.devRef Cert.MoeSampleRefIdeal.main_arg7) = argLb m c := h7
  rw [e0, e1, e2, e3, e4, e5, e6, e7]
  exact Cert.MoeSampleRefIdeal.Rows.result _ _ _ _ _ _ _ _ (fun r e => (hL c r e).1) fun r e => (hL c r e).2

end Cert.MoeSampleIdeal.Rows

end
-- ==== Proof.lean ====
module

public import proofs.«01_k».proof.Defs
public import proofs.«01_k».proof.Proof.Gen.Moe.Frame
public import proofs.«01_k».proof.Proof.Gen.Ffn.Frame
public import proofs.«01_k».proof.Proof.Gen.OutProj.Frame
public import proofs.«01_k».proof.Proof.MoeClaim
public import proofs.«01_k».proof.Proof.FfnClaim
public import proofs.«01_k».proof.Proof.OutProjClaim
public import proofs.«01_k».proof.Proof.InProjClaim
public import proofs.«01_k».proof.Proof.Gen.InProj.Frame
public import proofs.«01_k».proof.Proof.SampleClaim
public import proofs.«01_k».proof.Proof.Gen.MoeSample.Frame
public import proofs.«01_k».proof.Proof.SampleMoeClaim
public import proofs.«01_k».proof.Proof.Gen.InProjSample.Frame
public import Idealize.ShloMosaic.Adequacy
public import Idealize.ShloMosaic.Init
public import Idealize.ShloMosaic.Lib.Quiescent

/-! The claims of the six calls, put together: the dense feed forward and the output projection of the prompt, and the mixture of experts and the
    input projection of the prompt and of the sample batch. -/

@[expose] public section

noncomputable section

namespace Cert.Proof

open Idealize.ShloMosaic Idealize.SL.Sem

/-- The mixture of experts reference keeps its arguments and leaves every semaphore at zero. -/
theorem moeRef_frame : Cert.quiescent_MoeRefIdeal := fun m ρ _ =>
  (θ_run Cert.MoeRefIdeal.defs _ _).mono (fun r h => ⟨fun c => (h c).2, sem_eq_zero_of_no_sems (by decide) r.2⟩) (Cert.MoeRefIdeal.Value.run (F := Ideal) m ρ)

/-- The dense feed forward reference keeps its arguments and leaves every semaphore at zero. -/
theorem ffnRef_frame : Cert.quiescent_FfnRefIdeal := fun m ρ _ =>
  (θ_run Cert.FfnRefIdeal.defs _ _).mono (fun r h => ⟨fun c => (h c).2, sem_eq_zero_of_no_sems (by decide) r.2⟩) (Cert.FfnRefIdeal.Value.run (F := Ideal) m ρ)

/-- The output projection reference keeps its arguments and leaves every semaphore at zero. -/
theorem outProjRef_frame : Cert.quiescent_OutProjRefIdeal := fun m ρ _ =>
  (θ_run Cert.OutProjRefIdeal.defs _ _).mono (fun r h => ⟨fun c => (h c).2, sem_eq_zero_of_no_sems (by decide) r.2⟩) (Cert.OutProjRefIdeal.Value.run (F := Ideal) m ρ)

/-- The input projection reference keeps its arguments and leaves every semaphore at zero. -/
theorem inProjRef_frame : Cert.quiescent_InProjRefIdeal := fun m ρ _ =>
  (θ_run Cert.InProjRefIdeal.defs _ _).mono (fun r h => ⟨fun c => (h c).2.2.2.2.2.2.2.2.2.2.2, sem_eq_zero_of_no_sems (by decide) r.2⟩) (Cert.InProjRefIdeal.Value.run (F := Ideal) m ρ)

/-- The input projection reference of the sample batch keeps its arguments and leaves every semaphore at zero. -/
theorem inProjSampleRef_frame : Cert.quiescent_InProjSampleRefIdeal := fun m ρ _ =>
  (θ_run Cert.InProjSampleRefIdeal.defs _ _).mono (fun r h => ⟨fun c => (h c).2.2.2.2.2.2.2.2.2.2.2, sem_eq_zero_of_no_sems (by decide) r.2⟩) (Cert.InProjSampleRefIdeal.Value.run (F := Ideal) m ρ)

/-- The mixture of experts reference of the sample batch keeps its arguments and leaves every semaphore at zero. -/
theorem moeSampleRef_frame : Cert.quiescent_MoeSampleRefIdeal := fun m ρ _ =>
  (θ_run Cert.MoeSampleRefIdeal.defs _ _).mono (fun r h => ⟨fun c => (h c).2, sem_eq_zero_of_no_sems (by decide) r.2⟩) (Cert.MoeSampleRefIdeal.Value.run (F := Ideal) m ρ)

/-- Every claim of the statement. -/
theorem claim : Cert.Claim := ⟨Cert.Moe.Gen.facts, Cert.MoeIdeal.Gen.facts, Cert.MoeRefIdeal.Gen.facts, Cert.Ffn.Gen.facts, Cert.FfnIdeal.Gen.facts, Cert.FfnRefIdeal.Gen.facts, Cert.OutProj.Gen.facts, Cert.OutProjIdeal.Gen.facts, Cert.OutProjRefIdeal.Gen.facts, Cert.InProj.Gen.facts, Cert.InProjIdeal.Gen.facts, Cert.InProjRefIdeal.Gen.facts, Cert.InProjSample.Gen.facts, Cert.InProjSampleIdeal.Gen.facts, Cert.InProjSampleRefIdeal.Gen.facts, Cert.MoeSample.Gen.facts, Cert.MoeSampleIdeal.Gen.facts, Cert.MoeSampleRefIdeal.Gen.facts, Cert.Pre_finite_router.Gen.facts, Cert.Pre_finite_router_sample.Gen.facts,
  fun m ρ _ => Cert.Moe.Gen.frame m ρ,
  fun m ρ _ => Cert.MoeIdeal.Gen.frame m ρ,
  fun m ρ _ => Cert.MoeIdeal.Gen.frame m ρ,
  moeRef_frame,
  fun m ρ _ => moeRef_frame m ρ trivial,
  fun m ρ _ => Cert.Ffn.Gen.frame m ρ,
  fun m ρ _ => Cert.FfnIdeal.Gen.frame m ρ,
  ffnRef_frame,
  fun m ρ _ => Cert.OutProj.Gen.frame m ρ,
  fun m ρ _ => Cert.OutProjIdeal.Gen.frame m ρ,
  outProjRef_frame,
  fun m ρ _ => Cert.InProj.Gen.frame m ρ,
  fun m ρ _ => Cert.InProjIdeal.Gen.frame m ρ,
  inProjRef_frame,
  fun m ρ _ => Cert.InProjSample.Gen.frame m ρ,
  fun m ρ _ => Cert.InProjSampleIdeal.Gen.frame m ρ,
  inProjSampleRef_frame,
  fun m ρ _ => Cert.MoeSample.Gen.frame m ρ,
  fun m ρ _ => Cert.MoeSampleIdeal.Gen.frame m ρ,
  fun m ρ _ => Cert.MoeSampleIdeal.Gen.frame m ρ,
  moeSampleRef_frame,
  fun m ρ _ => moeSampleRef_frame m ρ trivial,
  trivial,
  Cert.MoeIdeal.Rows.algebraic,
  trivial,
  Cert.FfnIdeal.Rows.algebraic,
  trivial,
  Cert.OutProjIdeal.Rows.algebraic,
  trivial,
  Cert.InProjIdeal.Rows.algebraic,
  trivial,
  Cert.InProjSampleIdeal.Rows.algebraic,
  trivial,
  Cert.MoeSampleIdeal.Rows.algebraic⟩

end Cert.Proof

end
